-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Lb (m : (ℓ : Loc Cert.Lb.nD Cert.Lb.τ Cert.Lb.sig) → Buf (Elt Bits) ℓ) : Prop :=
  True

def Pre_LbIdeal (m : (ℓ : Loc Cert.LbIdeal.nD Cert.LbIdeal.τ Cert.LbIdeal.sig) → Buf (Elt Ideal) ℓ) : Prop :=
  True

def Pre_LbIdeal_lb_finite [hPre_lb_finite : Cert.Pre_lb_finite.Facts] (m : (ℓ : Loc Cert.LbIdeal.nD Cert.LbIdeal.τ Cert.LbIdeal.sig) → Buf (Elt Ideal) ℓ) : Prop :=
  ∀ c : Dev Cert.LbIdeal.nD,
    (Cert.Pre_lb_finite.fn (F := Ideal) (m ((c.tc : Thread Cert.LbIdeal.nD Cert.LbIdeal.τ).loc Cert.LbIdeal.main_arg0)) (m ((c.tc : Thread Cert.LbIdeal.nD Cert.LbIdeal.τ).loc Cert.LbIdeal.main_arg1))) = (fun _ => 1#1)

def Pre_LbRefIdeal (m : (ℓ : Loc Cert.LbRefIdeal.nD Cert.LbRefIdeal.τ Cert.LbRefIdeal.sig) → Buf (Elt Ideal) ℓ) : Prop :=
  True

def Pre_LbRefIdeal_lb_finite [hPre_lb_finite : Cert.Pre_lb_finite.Facts] (m : (ℓ : Loc Cert.LbRefIdeal.nD Cert.LbRefIdeal.τ Cert.LbRefIdeal.sig) → Buf (Elt Ideal) ℓ) : Prop :=
  ∀ c : Dev Cert.LbRefIdeal.nD,
    (Cert.Pre_lb_finite.fn (F := Ideal) (m ((c.tc : Thread Cert.LbRefIdeal.nD Cert.LbRefIdeal.τ).loc Cert.LbRefIdeal.main_arg0)) (m ((c.tc : Thread Cert.LbRefIdeal.nD Cert.LbRefIdeal.τ).loc Cert.LbRefIdeal.main_arg1))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Gm (m : (ℓ : Loc Cert.Gm.nD Cert.Gm.τ Cert.Gm.sig) → Buf (Elt Bits) ℓ) : Prop :=
  True

def Pre_GmIdeal (m : (ℓ : Loc Cert.GmIdeal.nD Cert.GmIdeal.τ Cert.GmIdeal.sig) → Buf (Elt Ideal) ℓ) : Prop :=
  True

def Pre_GmIdeal_gm_finite [hPre_gm_finite : Cert.Pre_gm_finite.Facts] (m : (ℓ : Loc Cert.GmIdeal.nD Cert.GmIdeal.τ Cert.GmIdeal.sig) → Buf (Elt Ideal) ℓ) : Prop :=
  ∀ c : Dev Cert.GmIdeal.nD,
    (Cert.Pre_gm_finite.fn (F := Ideal) (m ((c.tc : Thread Cert.GmIdeal.nD Cert.GmIdeal.τ).loc Cert.GmIdeal.main_arg0)) (m ((c.tc : Thread Cert.GmIdeal.nD Cert.GmIdeal.τ).loc Cert.GmIdeal.main_arg1)) (m ((c.tc : Thread Cert.GmIdeal.nD Cert.GmIdeal.τ).loc Cert.GmIdeal.main_arg2)) (m ((c.tc : Thread Cert.GmIdeal.nD Cert.GmIdeal.τ).loc Cert.GmIdeal.main_arg3)) (m ((c.tc : Thread Cert.GmIdeal.nD Cert.GmIdeal.τ).loc Cert.GmIdeal.main_arg4)) (m ((c.tc : Thread Cert.GmIdeal.nD Cert.GmIdeal.τ).loc Cert.GmIdeal.main_arg5)) (m ((c.tc : Thread Cert.GmIdeal.nD Cert.GmIdeal.τ).loc Cert.GmIdeal.main_arg6))) = (fun _ => 1#1)

def Pre_GmRefIdeal (m : (ℓ : Loc Cert.GmRefIdeal.nD Cert.GmRefIdeal.τ Cert.GmRefIdeal.sig) → Buf (Elt Ideal) ℓ) : Prop :=
  True

def Pre_GmRefIdeal_gm_finite [hPre_gm_finite : Cert.Pre_gm_finite.Facts] (m : (ℓ : Loc Cert.GmRefIdeal.nD Cert.GmRefIdeal.τ Cert.GmRefIdeal.sig) → Buf (Elt Ideal) ℓ) : Prop :=
  ∀ c : Dev Cert.GmRefIdeal.nD,
    (Cert.Pre_gm_finite.fn (F := Ideal) (m ((c.tc : Thread Cert.GmRefIdeal.nD Cert.GmRefIdeal.τ).loc Cert.GmRefIdeal.main_arg0)) (m ((c.tc : Thread Cert.GmRefIdeal.nD Cert.GmRefIdeal.τ).loc Cert.GmRefIdeal.main_arg1)) (m ((c.tc : Thread Cert.GmRefIdeal.nD Cert.GmRefIdeal.τ).loc Cert.GmRefIdeal.main_arg2)) (m ((c.tc : Thread Cert.GmRefIdeal.nD Cert.GmRefIdeal.τ).loc Cert.GmRefIdeal.main_arg3)) (m ((c.tc : Thread Cert.GmRefIdeal.nD Cert.GmRefIdeal.τ).loc Cert.GmRefIdeal.main_arg4)) (m ((c.tc : Thread Cert.GmRefIdeal.nD Cert.GmRefIdeal.τ).loc Cert.GmRefIdeal.main_arg5)) (m ((c.tc : Thread Cert.GmRefIdeal.nD Cert.GmRefIdeal.τ).loc Cert.GmRefIdeal.main_arg6))) = (fun _ => 1#1)

def Pre_InprojFwd (m : (ℓ : Loc Cert.InprojFwd.nD Cert.InprojFwd.τ Cert.InprojFwd.sig) → Buf (Elt Bits) ℓ) : Prop :=
  True

def Pre_InprojFwdIdeal (m : (ℓ : Loc Cert.InprojFwdIdeal.nD Cert.InprojFwdIdeal.τ Cert.InprojFwdIdeal.sig) → Buf (Elt Ideal) ℓ) : Prop :=
  True

def Pre_InprojFwdRefIdeal (m : (ℓ : Loc Cert.InprojFwdRefIdeal.nD Cert.InprojFwdRefIdeal.τ Cert.InprojFwdRefIdeal.sig) → Buf (Elt Ideal) ℓ) : Prop :=
  True

def Pre_OutprojFwd (m : (ℓ : Loc Cert.OutprojFwd.nD Cert.OutprojFwd.τ Cert.OutprojFwd.sig) → Buf (Elt Bits) ℓ) : Prop :=
  True

def Pre_OutprojFwdIdeal (m : (ℓ : Loc Cert.OutprojFwdIdeal.nD Cert.OutprojFwdIdeal.τ Cert.OutprojFwdIdeal.sig) → Buf (Elt Ideal) ℓ) : Prop :=
  True

def Pre_OutprojFwdRefIdeal (m : (ℓ : Loc Cert.OutprojFwdRefIdeal.nD Cert.OutprojFwdRefIdeal.τ Cert.OutprojFwdRefIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Lb [hLb : Cert.Lb.Facts] : Prop :=
  ∀ (m : (ℓ : Loc Cert.Lb.nD Cert.Lb.τ Cert.Lb.sig) → Buf (Elt Bits) ℓ) (g : Dev Cert.Lb.nD → PrngReg), Pre_Lb m →
    θ_run (Cert.Lb.defs (F := Bits)) (onTc (τ := Cert.Lb.τ) (Cert.Lb.main (F := Bits))) ⟨m, fun _ => 0, g⟩ (fun r => (∀ c : Dev Cert.Lb.nD,
      r.2.mem ((c.tc : Thread Cert.Lb.nD Cert.Lb.τ).loc Cert.Lb.main_arg0) = m ((c.tc : Thread Cert.Lb.nD Cert.Lb.τ).loc Cert.Lb.main_arg0)
      ∧ r.2.mem ((c.tc : Thread Cert.Lb.nD Cert.Lb.τ).loc Cert.Lb.main_arg1) = m ((c.tc : Thread Cert.Lb.nD Cert.Lb.τ).loc Cert.Lb.main_arg1))
      ∧ r.2.sem = fun _ => 0)

def quiescent_LbIdeal [hLbIdeal : Cert.LbIdeal.Facts] : Prop :=
  ∀ (m : (ℓ : Loc Cert.LbIdeal.nD Cert.LbIdeal.τ Cert.LbIdeal.sig) → Buf (Elt Ideal) ℓ) (g : Dev Cert.LbIdeal.nD → PrngReg), Pre_LbIdeal m →
    θ_run (Cert.LbIdeal.defs (F := Ideal)) (onTc (τ := Cert.LbIdeal.τ) (Cert.LbIdeal.main (F := Ideal))) ⟨m, fun _ => 0, g⟩ (fun r => (∀ c : Dev Cert.LbIdeal.nD,
      r.2.mem ((c.tc : Thread Cert.LbIdeal.nD Cert.LbIdeal.τ).loc Cert.LbIdeal.main_arg0) = m ((c.tc : Thread Cert.LbIdeal.nD Cert.LbIdeal.τ).loc Cert.LbIdeal.main_arg0)
      ∧ r.2.mem ((c.tc : Thread Cert.LbIdeal.nD Cert.LbIdeal.τ).loc Cert.LbIdeal.main_arg1) = m ((c.tc : Thread Cert.LbIdeal.nD Cert.LbIdeal.τ).loc Cert.LbIdeal.main_arg1))
      ∧ r.2.sem = fun _ => 0)

def quiescent_LbIdeal_pre_lb_finite [hLbIdeal : Cert.LbIdeal.Facts] [hPre_lb_finite : Cert.Pre_lb_finite.Facts] : Prop :=
  ∀ (m : (ℓ : Loc Cert.LbIdeal.nD Cert.LbIdeal.τ Cert.LbIdeal.sig) → Buf (Elt Ideal) ℓ) (g : Dev Cert.LbIdeal.nD → PrngReg), Pre_LbIdeal_lb_finite m →
    θ_run (Cert.LbIdeal.defs (F := Ideal)) (onTc (τ := Cert.LbIdeal.τ) (Cert.LbIdeal.main (F := Ideal))) ⟨m, fun _ => 0, g⟩ (fun r => (∀ c : Dev Cert.LbIdeal.nD,
      r.2.mem ((c.tc : Thread Cert.LbIdeal.nD Cert.LbIdeal.τ).loc Cert.LbIdeal.main_arg0) = m ((c.tc : Thread Cert.LbIdeal.nD Cert.LbIdeal.τ).loc Cert.LbIdeal.main_arg0)
      ∧ r.2.mem ((c.tc : Thread Cert.LbIdeal.nD Cert.LbIdeal.τ).loc Cert.LbIdeal.main_arg1) = m ((c.tc : Thread Cert.LbIdeal.nD Cert.LbIdeal.τ).loc Cert.LbIdeal.main_arg1))
      ∧ r.2.sem = fun _ => 0)

def quiescent_LbRefIdeal [hLbRefIdeal : Cert.LbRefIdeal.Facts] : Prop :=
  ∀ (m : (ℓ : Loc Cert.LbRefIdeal.nD Cert.LbRefIdeal.τ Cert.LbRefIdeal.sig) → Buf (Elt Ideal) ℓ) (g : Dev Cert.LbRefIdeal.nD → PrngReg), Pre_LbRefIdeal m →
    θ_run (Cert.LbRefIdeal.defs (F := Ideal)) (onTc (τ := Cert.LbRefIdeal.τ) (Cert.LbRefIdeal.main (F := Ideal))) ⟨m, fun _ => 0, g⟩ (fun r => (∀ c : Dev Cert.LbRefIdeal.nD,
      r.2.mem ((c.tc : Thread Cert.LbRefIdeal.nD Cert.LbRefIdeal.τ).loc Cert.LbRefIdeal.main_arg0) = m ((c.tc : Thread Cert.LbRefIdeal.nD Cert.LbRefIdeal.τ).loc Cert.LbRefIdeal.main_arg0)
      ∧ r.2.mem ((c.tc : Thread Cert.LbRefIdeal.nD Cert.LbRefIdeal.τ).loc Cert.LbRefIdeal.main_arg1) = m ((c.tc : Thread Cert.LbRefIdeal.nD Cert.LbRefIdeal.τ).loc Cert.LbRefIdeal.main_arg1))
      ∧ r.2.sem = fun _ => 0)

def quiescent_LbRefIdeal_pre_lb_finite [hLbRefIdeal : Cert.LbRefIdeal.Facts] [hPre_lb_finite : Cert.Pre_lb_finite.Facts] : Prop :=
  ∀ (m : (ℓ : Loc Cert.LbRefIdeal.nD Cert.LbRefIdeal.τ Cert.LbRefIdeal.sig) → Buf (Elt Ideal) ℓ) (g : Dev Cert.LbRefIdeal.nD → PrngReg), Pre_LbRefIdeal_lb_finite m →
    θ_run (Cert.LbRefIdeal.defs (F := Ideal)) (onTc (τ := Cert.LbRefIdeal.τ) (Cert.LbRefIdeal.main (F := Ideal))) ⟨m, fun _ => 0, g⟩ (fun r => (∀ c : Dev Cert.LbRefIdeal.nD,
      r.2.mem ((c.tc : Thread Cert.LbRefIdeal.nD Cert.LbRefIdeal.τ).loc Cert.LbRefIdeal.main_arg0) = m ((c.tc : Thread Cert.LbRefIdeal.nD Cert.LbRefIdeal.τ).loc Cert.LbRefIdeal.main_arg0)
      ∧ r.2.mem ((c.tc : Thread Cert.LbRefIdeal.nD Cert.LbRefIdeal.τ).loc Cert.LbRefIdeal.main_arg1) = m ((c.tc : Thread Cert.LbRefIdeal.nD Cert.LbRefIdeal.τ).loc Cert.LbRefIdeal.main_arg1))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6)
      ∧ r.2.mem ((c.tc : Thread Cert.Outproj.nD Cert.Outproj.τ).loc Cert.Outproj.main_arg7) = m ((c.tc : Thread Cert.Outproj.nD Cert.Outproj.τ).loc Cert.Outproj.main_arg7))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
      ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5)
      ∧ r.2.mem ((c.tc : Thread Cert.OutprojRefIdeal.nD Cert.OutprojRefIdeal.τ).loc Cert.OutprojRefIdeal.main_arg6) = m ((c.tc : Thread Cert.OutprojRefIdeal.nD Cert.OutprojRefIdeal.τ).loc Cert.OutprojRefIdeal.main_arg6)
      ∧ r.2.mem ((c.tc : Thread Cert.OutprojRefIdeal.nD Cert.OutprojRefIdeal.τ).loc Cert.OutprojRefIdeal.main_arg7) = m ((c.tc : Thread Cert.OutprojRefIdeal.nD Cert.OutprojRefIdeal.τ).loc Cert.OutprojRefIdeal.main_arg7))
      ∧ r.2.sem = fun _ => 0)

def quiescent_Gm [hGm : Cert.Gm.Facts] : Prop :=
  ∀ (m : (ℓ : Loc Cert.Gm.nD Cert.Gm.τ Cert.Gm.sig) → Buf (Elt Bits) ℓ) (g : Dev Cert.Gm.nD → PrngReg), Pre_Gm m →
    θ_run (Cert.Gm.defs (F := Bits)) (onTc (τ := Cert.Gm.τ) (Cert.Gm.main (F := Bits))) ⟨m, fun _ => 0, g⟩ (fun r => (∀ c : Dev Cert.Gm.nD,
      r.2.mem ((c.tc : Thread Cert.Gm.nD Cert.Gm.τ).loc Cert.Gm.main_arg0) = m ((c.tc : Thread Cert.Gm.nD Cert.Gm.τ).loc Cert.Gm.main_arg0)
      ∧ r.2.mem ((c.tc : Thread Cert.Gm.nD Cert.Gm.τ).loc Cert.Gm.main_arg1) = m ((c.tc : Thread Cert.Gm.nD Cert.Gm.τ).loc Cert.Gm.main_arg1)
      ∧ r.2.mem ((c.tc : Thread Cert.Gm.nD Cert.Gm.τ).loc Cert.Gm.main_arg2) = m ((c.tc : Thread Cert.Gm.nD Cert.Gm.τ).loc Cert.Gm.main_arg2)
      ∧ r.2.mem ((c.tc : Thread Cert.Gm.nD Cert.Gm.τ).loc Cert.Gm.main_arg3) = m ((c.tc : Thread Cert.Gm.nD Cert.Gm.τ).loc Cert.Gm.main_arg3)
      ∧ r.2.mem ((c.tc : Thread Cert.Gm.nD Cert.Gm.τ).loc Cert.Gm.main_arg4) = m ((c.tc : Thread Cert.Gm.nD Cert.Gm.τ).loc Cert.Gm.main_arg4)
      ∧ r.2.mem ((c.tc : Thread Cert.Gm.nD Cert.Gm.τ).loc Cert.Gm.main_arg5) = m ((c.tc : Thread Cert.Gm.nD Cert.Gm.τ).loc Cert.Gm.main_arg5)
      ∧ r.2.mem ((c.tc : Thread Cert.Gm.nD Cert.Gm.τ).loc Cert.Gm.main_arg6) = m ((c.tc : Thread Cert.Gm.nD Cert.Gm.τ).loc Cert.Gm.main_arg6))
      ∧ r.2.sem = fun _ => 0)

def quiescent_GmIdeal [hGmIdeal : Cert.GmIdeal.Facts] : Prop :=
  ∀ (m : (ℓ : Loc Cert.GmIdeal.nD Cert.GmIdeal.τ Cert.GmIdeal.sig) → Buf (Elt Ideal) ℓ) (g : Dev Cert.GmIdeal.nD → PrngReg), Pre_GmIdeal m →
    θ_run (Cert.GmIdeal.defs (F := Ideal)) (onTc (τ := Cert.GmIdeal.τ) (Cert.GmIdeal.main (F := Ideal))) ⟨m, fun _ => 0, g⟩ (fun r => (∀ c : Dev Cert.GmIdeal.nD,
      r.2.mem ((c.tc : Thread Cert.GmIdeal.nD Cert.GmIdeal.τ).loc Cert.GmIdeal.main_arg0) = m ((c.tc : Thread Cert.GmIdeal.nD Cert.GmIdeal.τ).loc Cert.GmIdeal.main_arg0)
      ∧ r.2.mem ((c.tc : Thread Cert.GmIdeal.nD Cert.GmIdeal.τ).loc Cert.GmIdeal.main_arg1) = m ((c.tc : Thread Cert.GmIdeal.nD Cert.GmIdeal.τ).loc Cert.GmIdeal.main_arg1)
      ∧ r.2.mem ((c.tc : Thread Cert.GmIdeal.nD Cert.GmIdeal.τ).loc Cert.GmIdeal.main_arg2) = m ((c.tc : Thread Cert.GmIdeal.nD Cert.GmIdeal.τ).loc Cert.GmIdeal.main_arg2)
      ∧ r.2.mem ((c.tc : Thread Cert.GmIdeal.nD Cert.GmIdeal.τ).loc Cert.GmIdeal.main_arg3) = m ((c.tc : Thread Cert.GmIdeal.nD Cert.GmIdeal.τ).loc Cert.GmIdeal.main_arg3)
      ∧ r.2.mem ((c.tc : Thread Cert.GmIdeal.nD Cert.GmIdeal.τ).loc Cert.GmIdeal.main_arg4) = m ((c.tc : Thread Cert.GmIdeal.nD Cert.GmIdeal.τ).loc Cert.GmIdeal.main_arg4)
      ∧ r.2.mem ((c.tc : Thread Cert.GmIdeal.nD Cert.GmIdeal.τ).loc Cert.GmIdeal.main_arg5) = m ((c.tc : Thread Cert.GmIdeal.nD Cert.GmIdeal.τ).loc Cert.GmIdeal.main_arg5)
      ∧ r.2.mem ((c.tc : Thread Cert.GmIdeal.nD Cert.GmIdeal.τ).loc Cert.GmIdeal.main_arg6) = m ((c.tc : Thread Cert.GmIdeal.nD Cert.GmIdeal.τ).loc Cert.GmIdeal.main_arg6))
      ∧ r.2.sem = fun _ => 0)

def quiescent_GmIdeal_pre_gm_finite [hGmIdeal : Cert.GmIdeal.Facts] [hPre_gm_finite : Cert.Pre_gm_finite.Facts] : Prop :=
  ∀ (m : (ℓ : Loc Cert.GmIdeal.nD Cert.GmIdeal.τ Cert.GmIdeal.sig) → Buf (Elt Ideal) ℓ) (g : Dev Cert.GmIdeal.nD → PrngReg), Pre_GmIdeal_gm_finite m →
    θ_run (Cert.GmIdeal.defs (F := Ideal)) (onTc (τ := Cert.GmIdeal.τ) (Cert.GmIdeal.main (F := Ideal))) ⟨m, fun _ => 0, g⟩ (fun r => (∀ c : Dev Cert.GmIdeal.nD,
      r.2.mem ((c.tc : Thread Cert.GmIdeal.nD Cert.GmIdeal.τ).loc Cert.GmIdeal.main_arg0) = m ((c.tc : Thread Cert.GmIdeal.nD Cert.GmIdeal.τ).loc Cert.GmIdeal.main_arg0)
      ∧ r.2.mem ((c.tc : Thread Cert.GmIdeal.nD Cert.GmIdeal.τ).loc Cert.GmIdeal.main_arg1) = m ((c.tc : Thread Cert.GmIdeal.nD Cert.GmIdeal.τ).loc Cert.GmIdeal.main_arg1)
      ∧ r.2.mem ((c.tc : Thread Cert.GmIdeal.nD Cert.GmIdeal.τ).loc Cert.GmIdeal.main_arg2) = m ((c.tc : Thread Cert.GmIdeal.nD Cert.GmIdeal.τ).loc Cert.GmIdeal.main_arg2)
      ∧ r.2.mem ((c.tc : Thread Cert.GmIdeal.nD Cert.GmIdeal.τ).loc Cert.GmIdeal.main_arg3) = m ((c.tc : Thread Cert.GmIdeal.nD Cert.GmIdeal.τ).loc Cert.GmIdeal.main_arg3)
      ∧ r.2.mem ((c.tc : Thread Cert.GmIdeal.nD Cert.GmIdeal.τ).loc Cert.GmIdeal.main_arg4) = m ((c.tc : Thread Cert.GmIdeal.nD Cert.GmIdeal.τ).loc Cert.GmIdeal.main_arg4)
      ∧ r.2.mem ((c.tc : Thread Cert.GmIdeal.nD Cert.GmIdeal.τ).loc Cert.GmIdeal.main_arg5) = m ((c.tc : Thread Cert.GmIdeal.nD Cert.GmIdeal.τ).loc Cert.GmIdeal.main_arg5)
      ∧ r.2.mem ((c.tc : Thread Cert.GmIdeal.nD Cert.GmIdeal.τ).loc Cert.GmIdeal.main_arg6) = m ((c.tc : Thread Cert.GmIdeal.nD Cert.GmIdeal.τ).loc Cert.GmIdeal.main_arg6))
      ∧ r.2.sem = fun _ => 0)

def quiescent_GmRefIdeal [hGmRefIdeal : Cert.GmRefIdeal.Facts] : Prop :=
  ∀ (m : (ℓ : Loc Cert.GmRefIdeal.nD Cert.GmRefIdeal.τ Cert.GmRefIdeal.sig) → Buf (Elt Ideal) ℓ) (g : Dev Cert.GmRefIdeal.nD → PrngReg), Pre_GmRefIdeal m →
    θ_run (Cert.GmRefIdeal.defs (F := Ideal)) (onTc (τ := Cert.GmRefIdeal.τ) (Cert.GmRefIdeal.main (F := Ideal))) ⟨m, fun _ => 0, g⟩ (fun r => (∀ c : Dev Cert.GmRefIdeal.nD,
      r.2.mem ((c.tc : Thread Cert.GmRefIdeal.nD Cert.GmRefIdeal.τ).loc Cert.GmRefIdeal.main_arg0) = m ((c.tc : Thread Cert.GmRefIdeal.nD Cert.GmRefIdeal.τ).loc Cert.GmRefIdeal.main_arg0)
      ∧ r.2.mem ((c.tc : Thread Cert.GmRefIdeal.nD Cert.GmRefIdeal.τ).loc Cert.GmRefIdeal.main_arg1) = m ((c.tc : Thread Cert.GmRefIdeal.nD Cert.GmRefIdeal.τ).loc Cert.GmRefIdeal.main_arg1)
      ∧ r.2.mem ((c.tc : Thread Cert.GmRefIdeal.nD Cert.GmRefIdeal.τ).loc Cert.GmRefIdeal.main_arg2) = m ((c.tc : Thread Cert.GmRefIdeal.nD Cert.GmRefIdeal.τ).loc Cert.GmRefIdeal.main_arg2)
      ∧ r.2.mem ((c.tc : Thread Cert.GmRefIdeal.nD Cert.GmRefIdeal.τ).loc Cert.GmRefIdeal.main_arg3) = m ((c.tc : Thread Cert.GmRefIdeal.nD Cert.GmRefIdeal.τ).loc Cert.GmRefIdeal.main_arg3)
      ∧ r.2.mem ((c.tc : Thread Cert.GmRefIdeal.nD Cert.GmRefIdeal.τ).loc Cert.GmRefIdeal.main_arg4) = m ((c.tc : Thread Cert.GmRefIdeal.nD Cert.GmRefIdeal.τ).loc Cert.GmRefIdeal.main_arg4)
      ∧ r.2.mem ((c.tc : Thread Cert.GmRefIdeal.nD Cert.GmRefIdeal.τ).loc Cert.GmRefIdeal.main_arg5) = m ((c.tc : Thread Cert.GmRefIdeal.nD Cert.GmRefIdeal.τ).loc Cert.GmRefIdeal.main_arg5)
      ∧ r.2.mem ((c.tc : Thread Cert.GmRefIdeal.nD Cert.GmRefIdeal.τ).loc Cert.GmRefIdeal.main_arg6) = m ((c.tc : Thread Cert.GmRefIdeal.nD Cert.GmRefIdeal.τ).loc Cert.GmRefIdeal.main_arg6))
      ∧ r.2.sem = fun _ => 0)

def quiescent_GmRefIdeal_pre_gm_finite [hGmRefIdeal : Cert.GmRefIdeal.Facts] [hPre_gm_finite : Cert.Pre_gm_finite.Facts] : Prop :=
  ∀ (m : (ℓ : Loc Cert.GmRefIdeal.nD Cert.GmRefIdeal.τ Cert.GmRefIdeal.sig) → Buf (Elt Ideal) ℓ) (g : Dev Cert.GmRefIdeal.nD → PrngReg), Pre_GmRefIdeal_gm_finite m →
    θ_run (Cert.GmRefIdeal.defs (F := Ideal)) (onTc (τ := Cert.GmRefIdeal.τ) (Cert.GmRefIdeal.main (F := Ideal))) ⟨m, fun _ => 0, g⟩ (fun r => (∀ c : Dev Cert.GmRefIdeal.nD,
      r.2.mem ((c.tc : Thread Cert.GmRefIdeal.nD Cert.GmRefIdeal.τ).loc Cert.GmRefIdeal.main_arg0) = m ((c.tc : Thread Cert.GmRefIdeal.nD Cert.GmRefIdeal.τ).loc Cert.GmRefIdeal.main_arg0)
      ∧ r.2.mem ((c.tc : Thread Cert.GmRefIdeal.nD Cert.GmRefIdeal.τ).loc Cert.GmRefIdeal.main_arg1) = m ((c.tc : Thread Cert.GmRefIdeal.nD Cert.GmRefIdeal.τ).loc Cert.GmRefIdeal.main_arg1)
      ∧ r.2.mem ((c.tc : Thread Cert.GmRefIdeal.nD Cert.GmRefIdeal.τ).loc Cert.GmRefIdeal.main_arg2) = m ((c.tc : Thread Cert.GmRefIdeal.nD Cert.GmRefIdeal.τ).loc Cert.GmRefIdeal.main_arg2)
      ∧ r.2.mem ((c.tc : Thread Cert.GmRefIdeal.nD Cert.GmRefIdeal.τ).loc Cert.GmRefIdeal.main_arg3) = m ((c.tc : Thread Cert.GmRefIdeal.nD Cert.GmRefIdeal.τ).loc Cert.GmRefIdeal.main_arg3)
      ∧ r.2.mem ((c.tc : Thread Cert.GmRefIdeal.nD Cert.GmRefIdeal.τ).loc Cert.GmRefIdeal.main_arg4) = m ((c.tc : Thread Cert.GmRefIdeal.nD Cert.GmRefIdeal.τ).loc Cert.GmRefIdeal.main_arg4)
      ∧ r.2.mem ((c.tc : Thread Cert.GmRefIdeal.nD Cert.GmRefIdeal.τ).loc Cert.GmRefIdeal.main_arg5) = m ((c.tc : Thread Cert.GmRefIdeal.nD Cert.GmRefIdeal.τ).loc Cert.GmRefIdeal.main_arg5)
      ∧ r.2.mem ((c.tc : Thread Cert.GmRefIdeal.nD Cert.GmRefIdeal.τ).loc Cert.GmRefIdeal.main_arg6) = m ((c.tc : Thread Cert.GmRefIdeal.nD Cert.GmRefIdeal.τ).loc Cert.GmRefIdeal.main_arg6))
      ∧ r.2.sem = fun _ => 0)

def quiescent_InprojFwd [hInprojFwd : Cert.InprojFwd.Facts] : Prop :=
  ∀ (m : (ℓ : Loc Cert.InprojFwd.nD Cert.InprojFwd.τ Cert.InprojFwd.sig) → Buf (Elt Bits) ℓ) (g : Dev Cert.InprojFwd.nD → PrngReg), Pre_InprojFwd m →
    θ_run (Cert.InprojFwd.defs (F := Bits)) (onTc (τ := Cert.InprojFwd.τ) (Cert.InprojFwd.main (F := Bits))) ⟨m, fun _ => 0, g⟩ (fun r => (∀ c : Dev Cert.InprojFwd.nD,
      r.2.mem ((c.tc : Thread Cert.InprojFwd.nD Cert.InprojFwd.τ).loc Cert.InprojFwd.main_arg0) = m ((c.tc : Thread Cert.InprojFwd.nD Cert.InprojFwd.τ).loc Cert.InprojFwd.main_arg0)
      ∧ r.2.mem ((c.tc : Thread Cert.InprojFwd.nD Cert.InprojFwd.τ).loc Cert.InprojFwd.main_arg1) = m ((c.tc : Thread Cert.InprojFwd.nD Cert.InprojFwd.τ).loc Cert.InprojFwd.main_arg1)
      ∧ r.2.mem ((c.tc : Thread Cert.InprojFwd.nD Cert.InprojFwd.τ).loc Cert.InprojFwd.main_arg2) = m ((c.tc : Thread Cert.InprojFwd.nD Cert.InprojFwd.τ).loc Cert.InprojFwd.main_arg2))
      ∧ r.2.sem = fun _ => 0)

def quiescent_InprojFwdIdeal [hInprojFwdIdeal : Cert.InprojFwdIdeal.Facts] : Prop :=
  ∀ (m : (ℓ : Loc Cert.InprojFwdIdeal.nD Cert.InprojFwdIdeal.τ Cert.InprojFwdIdeal.sig) → Buf (Elt Ideal) ℓ) (g : Dev Cert.InprojFwdIdeal.nD → PrngReg), Pre_InprojFwdIdeal m →
    θ_run (Cert.InprojFwdIdeal.defs (F := Ideal)) (onTc (τ := Cert.InprojFwdIdeal.τ) (Cert.InprojFwdIdeal.main (F := Ideal))) ⟨m, fun _ => 0, g⟩ (fun r => (∀ c : Dev Cert.InprojFwdIdeal.nD,
      r.2.mem ((c.tc : Thread Cert.InprojFwdIdeal.nD Cert.InprojFwdIdeal.τ).loc Cert.InprojFwdIdeal.main_arg0) = m ((c.tc : Thread Cert.InprojFwdIdeal.nD Cert.InprojFwdIdeal.τ).loc Cert.InprojFwdIdeal.main_arg0)
      ∧ r.2.mem ((c.tc : Thread Cert.InprojFwdIdeal.nD Cert.InprojFwdIdeal.τ).loc Cert.InprojFwdIdeal.main_arg1) = m ((c.tc : Thread Cert.InprojFwdIdeal.nD Cert.InprojFwdIdeal.τ).loc Cert.InprojFwdIdeal.main_arg1)
      ∧ r.2.mem ((c.tc : Thread Cert.InprojFwdIdeal.nD Cert.InprojFwdIdeal.τ).loc Cert.InprojFwdIdeal.main_arg2) = m ((c.tc : Thread Cert.InprojFwdIdeal.nD Cert.InprojFwdIdeal.τ).loc Cert.InprojFwdIdeal.main_arg2))
      ∧ r.2.sem = fun _ => 0)

def quiescent_InprojFwdRefIdeal [hInprojFwdRefIdeal : Cert.InprojFwdRefIdeal.Facts] : Prop :=
  ∀ (m : (ℓ : Loc Cert.InprojFwdRefIdeal.nD Cert.InprojFwdRefIdeal.τ Cert.InprojFwdRefIdeal.sig) → Buf (Elt Ideal) ℓ) (g : Dev Cert.InprojFwdRefIdeal.nD → PrngReg), Pre_InprojFwdRefIdeal m →
    θ_run (Cert.InprojFwdRefIdeal.defs (F := Ideal)) (onTc (τ := Cert.InprojFwdRefIdeal.τ) (Cert.InprojFwdRefIdeal.main (F := Ideal))) ⟨m, fun _ => 0, g⟩ (fun r => (∀ c : Dev Cert.InprojFwdRefIdeal.nD,
      r.2.mem ((c.tc : Thread Cert.InprojFwdRefIdeal.nD Cert.InprojFwdRefIdeal.τ).loc Cert.InprojFwdRefIdeal.main_arg0) = m ((c.tc : Thread Cert.InprojFwdRefIdeal.nD Cert.InprojFwdRefIdeal.τ).loc Cert.InprojFwdRefIdeal.main_arg0)
      ∧ r.2.mem ((c.tc : Thread Cert.InprojFwdRefIdeal.nD Cert.InprojFwdRefIdeal.τ).loc Cert.InprojFwdRefIdeal.main_arg1) = m ((c.tc : Thread Cert.InprojFwdRefIdeal.nD Cert.InprojFwdRefIdeal.τ).loc Cert.InprojFwdRefIdeal.main_arg1)
      ∧ r.2.mem ((c.tc : Thread Cert.InprojFwdRefIdeal.nD Cert.InprojFwdRefIdeal.τ).loc Cert.InprojFwdRefIdeal.main_arg2) = m ((c.tc : Thread Cert.InprojFwdRefIdeal.nD Cert.InprojFwdRefIdeal.τ).loc Cert.InprojFwdRefIdeal.main_arg2))
      ∧ r.2.sem = fun _ => 0)

def quiescent_OutprojFwd [hOutprojFwd : Cert.OutprojFwd.Facts] : Prop :=
  ∀ (m : (ℓ : Loc Cert.OutprojFwd.nD Cert.OutprojFwd.τ Cert.OutprojFwd.sig) → Buf (Elt Bits) ℓ) (g : Dev Cert.OutprojFwd.nD → PrngReg), Pre_OutprojFwd m →
    θ_run (Cert.OutprojFwd.defs (F := Bits)) (onTc (τ := Cert.OutprojFwd.τ) (Cert.OutprojFwd.main (F := Bits))) ⟨m, fun _ => 0, g⟩ (fun r => (∀ c : Dev Cert.OutprojFwd.nD,
      r.2.mem ((c.tc : Thread Cert.OutprojFwd.nD Cert.OutprojFwd.τ).loc Cert.OutprojFwd.main_arg0) = m ((c.tc : Thread Cert.OutprojFwd.nD Cert.OutprojFwd.τ).loc Cert.OutprojFwd.main_arg0)
      ∧ r.2.mem ((c.tc : Thread Cert.OutprojFwd.nD Cert.OutprojFwd.τ).loc Cert.OutprojFwd.main_arg1) = m ((c.tc : Thread Cert.OutprojFwd.nD Cert.OutprojFwd.τ).loc Cert.OutprojFwd.main_arg1)
      ∧ r.2.mem ((c.tc : Thread Cert.OutprojFwd.nD Cert.OutprojFwd.τ).loc Cert.OutprojFwd.main_arg2) = m ((c.tc : Thread Cert.OutprojFwd.nD Cert.OutprojFwd.τ).loc Cert.OutprojFwd.main_arg2)
      ∧ r.2.mem ((c.tc : Thread Cert.OutprojFwd.nD Cert.OutprojFwd.τ).loc Cert.OutprojFwd.main_arg3) = m ((c.tc : Thread Cert.OutprojFwd.nD Cert.OutprojFwd.τ).loc Cert.OutprojFwd.main_arg3)
      ∧ r.2.mem ((c.tc : Thread Cert.OutprojFwd.nD Cert.OutprojFwd.τ).loc Cert.OutprojFwd.main_arg4) = m ((c.tc : Thread Cert.OutprojFwd.nD Cert.OutprojFwd.τ).loc Cert.OutprojFwd.main_arg4)
      ∧ r.2.mem ((c.tc : Thread Cert.OutprojFwd.nD Cert.OutprojFwd.τ).loc Cert.OutprojFwd.main_arg5) = m ((c.tc : Thread Cert.OutprojFwd.nD Cert.OutprojFwd.τ).loc Cert.OutprojFwd.main_arg5))
      ∧ r.2.sem = fun _ => 0)

def quiescent_OutprojFwdIdeal [hOutprojFwdIdeal : Cert.OutprojFwdIdeal.Facts] : Prop :=
  ∀ (m : (ℓ : Loc Cert.OutprojFwdIdeal.nD Cert.OutprojFwdIdeal.τ Cert.OutprojFwdIdeal.sig) → Buf (Elt Ideal) ℓ) (g : Dev Cert.OutprojFwdIdeal.nD → PrngReg), Pre_OutprojFwdIdeal m →
    θ_run (Cert.OutprojFwdIdeal.defs (F := Ideal)) (onTc (τ := Cert.OutprojFwdIdeal.τ) (Cert.OutprojFwdIdeal.main (F := Ideal))) ⟨m, fun _ => 0, g⟩ (fun r => (∀ c : Dev Cert.OutprojFwdIdeal.nD,
      r.2.mem ((c.tc : Thread Cert.OutprojFwdIdeal.nD Cert.OutprojFwdIdeal.τ).loc Cert.OutprojFwdIdeal.main_arg0) = m ((c.tc : Thread Cert.OutprojFwdIdeal.nD Cert.OutprojFwdIdeal.τ).loc Cert.OutprojFwdIdeal.main_arg0)
      ∧ r.2.mem ((c.tc : Thread Cert.OutprojFwdIdeal.nD Cert.OutprojFwdIdeal.τ).loc Cert.OutprojFwdIdeal.main_arg1) = m ((c.tc : Thread Cert.OutprojFwdIdeal.nD Cert.OutprojFwdIdeal.τ).loc Cert.OutprojFwdIdeal.main_arg1)
      ∧ r.2.mem ((c.tc : Thread Cert.OutprojFwdIdeal.nD Cert.OutprojFwdIdeal.τ).loc Cert.OutprojFwdIdeal.main_arg2) = m ((c.tc : Thread Cert.OutprojFwdIdeal.nD Cert.OutprojFwdIdeal.τ).loc Cert.OutprojFwdIdeal.main_arg2)
      ∧ r.2.mem ((c.tc : Thread Cert.OutprojFwdIdeal.nD Cert.OutprojFwdIdeal.τ).loc Cert.OutprojFwdIdeal.main_arg3) = m ((c.tc : Thread Cert.OutprojFwdIdeal.nD Cert.OutprojFwdIdeal.τ).loc Cert.OutprojFwdIdeal.main_arg3)
      ∧ r.2.mem ((c.tc : Thread Cert.OutprojFwdIdeal.nD Cert.OutprojFwdIdeal.τ).loc Cert.OutprojFwdIdeal.main_arg4) = m ((c.tc : Thread Cert.OutprojFwdIdeal.nD Cert.OutprojFwdIdeal.τ).loc Cert.OutprojFwdIdeal.main_arg4)
      ∧ r.2.mem ((c.tc : Thread Cert.OutprojFwdIdeal.nD Cert.OutprojFwdIdeal.τ).loc Cert.OutprojFwdIdeal.main_arg5) = m ((c.tc : Thread Cert.OutprojFwdIdeal.nD Cert.OutprojFwdIdeal.τ).loc Cert.OutprojFwdIdeal.main_arg5))
      ∧ r.2.sem = fun _ => 0)

def quiescent_OutprojFwdRefIdeal [hOutprojFwdRefIdeal : Cert.OutprojFwdRefIdeal.Facts] : Prop :=
  ∀ (m : (ℓ : Loc Cert.OutprojFwdRefIdeal.nD Cert.OutprojFwdRefIdeal.τ Cert.OutprojFwdRefIdeal.sig) → Buf (Elt Ideal) ℓ) (g : Dev Cert.OutprojFwdRefIdeal.nD → PrngReg), Pre_OutprojFwdRefIdeal m →
    θ_run (Cert.OutprojFwdRefIdeal.defs (F := Ideal)) (onTc (τ := Cert.OutprojFwdRefIdeal.τ) (Cert.OutprojFwdRefIdeal.main (F := Ideal))) ⟨m, fun _ => 0, g⟩ (fun r => (∀ c : Dev Cert.OutprojFwdRefIdeal.nD,
      r.2.mem ((c.tc : Thread Cert.OutprojFwdRefIdeal.nD Cert.OutprojFwdRefIdeal.τ).loc Cert.OutprojFwdRefIdeal.main_arg0) = m ((c.tc : Thread Cert.OutprojFwdRefIdeal.nD Cert.OutprojFwdRefIdeal.τ).loc Cert.OutprojFwdRefIdeal.main_arg0)
      ∧ r.2.mem ((c.tc : Thread Cert.OutprojFwdRefIdeal.nD Cert.OutprojFwdRefIdeal.τ).loc Cert.OutprojFwdRefIdeal.main_arg1) = m ((c.tc : Thread Cert.OutprojFwdRefIdeal.nD Cert.OutprojFwdRefIdeal.τ).loc Cert.OutprojFwdRefIdeal.main_arg1)
      ∧ r.2.mem ((c.tc : Thread Cert.OutprojFwdRefIdeal.nD Cert.OutprojFwdRefIdeal.τ).loc Cert.OutprojFwdRefIdeal.main_arg2) = m ((c.tc : Thread Cert.OutprojFwdRefIdeal.nD Cert.OutprojFwdRefIdeal.τ).loc Cert.OutprojFwdRefIdeal.main_arg2)
      ∧ r.2.mem ((c.tc : Thread Cert.OutprojFwdRefIdeal.nD Cert.OutprojFwdRefIdeal.τ).loc Cert.OutprojFwdRefIdeal.main_arg3) = m ((c.tc : Thread Cert.OutprojFwdRefIdeal.nD Cert.OutprojFwdRefIdeal.τ).loc Cert.OutprojFwdRefIdeal.main_arg3)
      ∧ r.2.mem ((c.tc : Thread Cert.OutprojFwdRefIdeal.nD Cert.OutprojFwdRefIdeal.τ).loc Cert.OutprojFwdRefIdeal.main_arg4) = m ((c.tc : Thread Cert.OutprojFwdRefIdeal.nD Cert.OutprojFwdRefIdeal.τ).loc Cert.OutprojFwdRefIdeal.main_arg4)
      ∧ r.2.mem ((c.tc : Thread Cert.OutprojFwdRefIdeal.nD Cert.OutprojFwdRefIdeal.τ).loc Cert.OutprojFwdRefIdeal.main_arg5) = m ((c.tc : Thread Cert.OutprojFwdRefIdeal.nD Cert.OutprojFwdRefIdeal.τ).loc Cert.OutprojFwdRefIdeal.main_arg5))
      ∧ r.2.sem = fun _ => 0)

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v2_0)) (v1 : (c : Dev Cert.LossIdeal.nD) → Buf (Elt Ideal) ((c.tc : Thread Cert.LossIdeal.nD Cert.LossIdeal.τ).loc Cert.LossIdeal.main_v2_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2_0) = v0 c
          ∧ r.2.mem ((c.tc : Thread Cert.LossIdeal.nD Cert.LossIdeal.τ).loc Cert.LossIdeal.main_v2_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v15) = v0 c
          ∧ r.2.mem ((c.tc : Thread Cert.LossRefIdeal.nD Cert.LossRefIdeal.τ).loc Cert.LossRefIdeal.main_v16) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Lb_LbIdeal : Prop :=
  True

def algebraic_LbIdeal_LbRefIdeal_pre_lb_finite [hLbIdeal : Cert.LbIdeal.Facts] [hLbRefIdeal : Cert.LbRefIdeal.Facts] [hPre_lb_finite : Cert.Pre_lb_finite.Facts] : Prop :=
  ∀ (m : (ℓ : Loc Cert.LbIdeal.nD Cert.LbIdeal.τ Cert.LbIdeal.sig) → Buf (Elt Ideal) ℓ) (g : Dev Cert.LbIdeal.nD → PrngReg)
    (m' : (ℓ : Loc Cert.LbRefIdeal.nD Cert.LbRefIdeal.τ Cert.LbRefIdeal.sig) → Buf (Elt Ideal) ℓ) (g' : Dev Cert.LbRefIdeal.nD → PrngReg), Pre_LbIdeal_lb_finite m →
    (∀ c : Dev Cert.LbIdeal.nD,
      m' ((c.tc : Thread Cert.LbRefIdeal.nD Cert.LbRefIdeal.τ).loc Cert.LbRefIdeal.main_arg0) = m ((c.tc : Thread Cert.LbIdeal.nD Cert.LbIdeal.τ).loc Cert.LbIdeal.main_arg0)
      ∧ m' ((c.tc : Thread Cert.LbRefIdeal.nD Cert.LbRefIdeal.τ).loc Cert.LbRefIdeal.main_arg1) = m ((c.tc : Thread Cert.LbIdeal.nD Cert.LbIdeal.τ).loc Cert.LbIdeal.main_arg1)) →
    ∃ (v0 : (c : Dev Cert.LbIdeal.nD) → Buf (Elt Ideal) ((c.tc : Thread Cert.LbIdeal.nD Cert.LbIdeal.τ).loc Cert.LbIdeal.main_v0)),
      θ_run (Cert.LbIdeal.defs (F := Ideal)) (onTc (τ := Cert.LbIdeal.τ) (Cert.LbIdeal.main (F := Ideal))) ⟨m, fun _ => 0, g⟩ (fun r => ∀ c : Dev Cert.LbIdeal.nD,
          r.2.mem ((c.tc : Thread Cert.LbIdeal.nD Cert.LbIdeal.τ).loc Cert.LbIdeal.main_v0) = v0 c
          ∧ r.2.mem ((c.tc : Thread Cert.LbIdeal.nD Cert.LbIdeal.τ).loc Cert.LbIdeal.main_arg0) = m ((c.tc : Thread Cert.LbIdeal.nD Cert.LbIdeal.τ).loc Cert.LbIdeal.main_arg0)
          ∧ r.2.mem ((c.tc : Thread Cert.LbIdeal.nD Cert.LbIdeal.τ).loc Cert.LbIdeal.main_arg1) = m ((c.tc : Thread Cert.LbIdeal.nD Cert.LbIdeal.τ).loc Cert.LbIdeal.main_arg1))
      ∧ θ_run (Cert.LbRefIdeal.defs (F := Ideal)) (onTc (τ := Cert.LbRefIdeal.τ) (Cert.LbRefIdeal.main (F := Ideal))) ⟨m', fun _ => 0, g'⟩ (fun r => ∀ c : Dev Cert.LbRefIdeal.nD,
          r.2.mem ((c.tc : Thread Cert.LbRefIdeal.nD Cert.LbRefIdeal.τ).loc Cert.LbRefIdeal.main_v54) = v0 c
          ∧ r.2.mem ((c.tc : Thread Cert.LbRefIdeal.nD Cert.LbRefIdeal.τ).loc Cert.LbRefIdeal.main_arg0) = m' ((c.tc : Thread Cert.LbRefIdeal.nD Cert.LbRefIdeal.τ).loc Cert.LbRefIdeal.main_arg0)
          ∧ r.2.mem ((c.tc : Thread Cert.LbRefIdeal.nD Cert.LbRefIdeal.τ).loc Cert.LbRefIdeal.main_arg1) = m' ((c.tc : Thread Cert.LbRefIdeal.nD Cert.LbRefIdeal.τ).loc Cert.LbRefIdeal.main_arg1))

def preserves_Attn_AttnIdeal : Prop :=
  IdealRules.named_const.Statement Cert.AttnIdeal.κ "mask" .f32 0xF149F2CA#32 ⊥

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v59_0)) (v1 : (c : Dev Cert.AttnIdeal.nD) → Buf (Elt Ideal) ((c.tc : Thread Cert.AttnIdeal.nD Cert.AttnIdeal.τ).loc Cert.AttnIdeal.main_v59_1)) (v2 : (c : Dev Cert.AttnIdeal.nD) → Buf (Elt Ideal) ((c.tc : Thread Cert.AttnIdeal.nD Cert.AttnIdeal.τ).loc Cert.AttnIdeal.main_v59_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v59_0) = v0 c
          ∧ r.2.mem ((c.tc : Thread Cert.AttnIdeal.nD Cert.AttnIdeal.τ).loc Cert.AttnIdeal.main_v59_1) = v1 c
          ∧ r.2.mem ((c.tc : Thread Cert.AttnIdeal.nD Cert.AttnIdeal.τ).loc Cert.AttnIdeal.main_v59_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v73) = v0 c
          ∧ r.2.mem ((c.tc : Thread Cert.AttnRefIdeal.nD Cert.AttnRefIdeal.τ).loc Cert.AttnRefIdeal.main_v76) = v1 c
          ∧ r.2.mem ((c.tc : Thread Cert.AttnRefIdeal.nD Cert.AttnRefIdeal.τ).loc Cert.AttnRefIdeal.main_v79) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v26)) (v1 : (c : Dev Cert.FfnIdeal.nD) → Buf (Elt Ideal) ((c.tc : Thread Cert.FfnIdeal.nD Cert.FfnIdeal.τ).loc Cert.FfnIdeal.main_v25_1)) (v2 : (c : Dev Cert.FfnIdeal.nD) → Buf (Elt Ideal) ((c.tc : Thread Cert.FfnIdeal.nD Cert.FfnIdeal.τ).loc Cert.FfnIdeal.main_v25_2)) (v3 : (c : Dev Cert.FfnIdeal.nD) → Buf (Elt Ideal) ((c.tc : Thread Cert.FfnIdeal.nD Cert.FfnIdeal.τ).loc Cert.FfnIdeal.main_v25_3)) (v4 : (c : Dev Cert.FfnIdeal.nD) → Buf (Elt Ideal) ((c.tc : Thread Cert.FfnIdeal.nD Cert.FfnIdeal.τ).loc Cert.FfnIdeal.main_v25_4)) (v5 : (c : Dev Cert.FfnIdeal.nD) → Buf (Elt Ideal) ((c.tc : Thread Cert.FfnIdeal.nD Cert.FfnIdeal.τ).loc Cert.FfnIdeal.main_v25_5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v26) = v0 c
          ∧ r.2.mem ((c.tc : Thread Cert.FfnIdeal.nD Cert.FfnIdeal.τ).loc Cert.FfnIdeal.main_v25_1) = v1 c
          ∧ r.2.mem ((c.tc : Thread Cert.FfnIdeal.nD Cert.FfnIdeal.τ).loc Cert.FfnIdeal.main_v25_2) = v2 c
          ∧ r.2.mem ((c.tc : Thread Cert.FfnIdeal.nD Cert.FfnIdeal.τ).loc Cert.FfnIdeal.main_v25_3) = v3 c
          ∧ r.2.mem ((c.tc : Thread Cert.FfnIdeal.nD Cert.FfnIdeal.τ).loc Cert.FfnIdeal.main_v25_4) = v4 c
          ∧ r.2.mem ((c.tc : Thread Cert.FfnIdeal.nD Cert.FfnIdeal.τ).loc Cert.FfnIdeal.main_v25_5) = v5 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v58) = v0 c
          ∧ r.2.mem ((c.tc : Thread Cert.FfnRefIdeal.nD Cert.FfnRefIdeal.τ).loc Cert.FfnRefIdeal.main_v59) = v1 c
          ∧ r.2.mem ((c.tc : Thread Cert.FfnRefIdeal.nD Cert.FfnRefIdeal.τ).loc Cert.FfnRefIdeal.main_v56) = v2 c
          ∧ r.2.mem ((c.tc : Thread Cert.FfnRefIdeal.nD Cert.FfnRefIdeal.τ).loc Cert.FfnRefIdeal.main_v57) = v3 c
          ∧ r.2.mem ((c.tc : Thread Cert.FfnRefIdeal.nD Cert.FfnRefIdeal.τ).loc Cert.FfnRefIdeal.main_v60) = v4 c
          ∧ r.2.mem ((c.tc : Thread Cert.FfnRefIdeal.nD Cert.FfnRefIdeal.τ).loc Cert.FfnRefIdeal.main_v61) = v5 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v13_0)) (v1 : (c : Dev Cert.InprojIdeal.nD) → Buf (Elt Ideal) ((c.tc : Thread Cert.InprojIdeal.nD Cert.InprojIdeal.τ).loc Cert.InprojIdeal.main_v13_1)) (v2 : (c : Dev Cert.InprojIdeal.nD) → Buf (Elt Ideal) ((c.tc : Thread Cert.InprojIdeal.nD Cert.InprojIdeal.τ).loc Cert.InprojIdeal.main_v13_2)) (v3 : (c : Dev Cert.InprojIdeal.nD) → Buf (Elt Ideal) ((c.tc : Thread Cert.InprojIdeal.nD Cert.InprojIdeal.τ).loc Cert.InprojIdeal.main_v13_3)) (v4 : (c : Dev Cert.InprojIdeal.nD) → Buf (Elt Ideal) ((c.tc : Thread Cert.InprojIdeal.nD Cert.InprojIdeal.τ).loc Cert.InprojIdeal.main_v13_4)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v13_0) = v0 c
          ∧ r.2.mem ((c.tc : Thread Cert.InprojIdeal.nD Cert.InprojIdeal.τ).loc Cert.InprojIdeal.main_v13_1) = v1 c
          ∧ r.2.mem ((c.tc : Thread Cert.InprojIdeal.nD Cert.InprojIdeal.τ).loc Cert.InprojIdeal.main_v13_2) = v2 c
          ∧ r.2.mem ((c.tc : Thread Cert.InprojIdeal.nD Cert.InprojIdeal.τ).loc Cert.InprojIdeal.main_v13_3) = v3 c
          ∧ r.2.mem ((c.tc : Thread Cert.InprojIdeal.nD Cert.InprojIdeal.τ).loc Cert.InprojIdeal.main_v13_4) = v4 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v42) = v0 c
          ∧ r.2.mem ((c.tc : Thread Cert.InprojRefIdeal.nD Cert.InprojRefIdeal.τ).loc Cert.InprojRefIdeal.main_v43) = v1 c
          ∧ r.2.mem ((c.tc : Thread Cert.InprojRefIdeal.nD Cert.InprojRefIdeal.τ).loc Cert.InprojRefIdeal.main_v44) = v2 c
          ∧ r.2.mem ((c.tc : Thread Cert.InprojRefIdeal.nD Cert.InprojRefIdeal.τ).loc Cert.InprojRefIdeal.main_v45) = v3 c
          ∧ r.2.mem ((c.tc : Thread Cert.InprojRefIdeal.nD Cert.InprojRefIdeal.τ).loc Cert.InprojRefIdeal.main_v47) = v4 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)
      ∧ m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5)
      ∧ m' ((c.tc : Thread Cert.OutprojRefIdeal.nD Cert.OutprojRefIdeal.τ).loc Cert.OutprojRefIdeal.main_arg6) = m ((c.tc : Thread Cert.OutprojIdeal.nD Cert.OutprojIdeal.τ).loc Cert.OutprojIdeal.main_arg6)
      ∧ m' ((c.tc : Thread Cert.OutprojRefIdeal.nD Cert.OutprojRefIdeal.τ).loc Cert.OutprojRefIdeal.main_arg7) = m ((c.tc : Thread Cert.OutprojIdeal.nD Cert.OutprojIdeal.τ).loc Cert.OutprojIdeal.main_arg7)) →
    ∃ (v0 : (c : Dev Cert.OutprojIdeal.nD) → Buf (Elt Ideal) ((c.tc : Thread Cert.OutprojIdeal.nD Cert.OutprojIdeal.τ).loc Cert.OutprojIdeal.main_v28_0)) (v1 : (c : Dev Cert.OutprojIdeal.nD) → Buf (Elt Ideal) ((c.tc : Thread Cert.OutprojIdeal.nD Cert.OutprojIdeal.τ).loc Cert.OutprojIdeal.main_v28_1)) (v2 : (c : Dev Cert.OutprojIdeal.nD) → Buf (Elt Ideal) ((c.tc : Thread Cert.OutprojIdeal.nD Cert.OutprojIdeal.τ).loc Cert.OutprojIdeal.main_v28_2)) (v3 : (c : Dev Cert.OutprojIdeal.nD) → Buf (Elt Ideal) ((c.tc : Thread Cert.OutprojIdeal.nD Cert.OutprojIdeal.τ).loc Cert.OutprojIdeal.main_v28_3)) (v4 : (c : Dev Cert.OutprojIdeal.nD) → Buf (Elt Ideal) ((c.tc : Thread Cert.OutprojIdeal.nD Cert.OutprojIdeal.τ).loc Cert.OutprojIdeal.main_v28_4)) (v5 : (c : Dev Cert.OutprojIdeal.nD) → Buf (Elt Ideal) ((c.tc : Thread Cert.OutprojIdeal.nD Cert.OutprojIdeal.τ).loc Cert.OutprojIdeal.main_v28_5)) (v6 : (c : Dev Cert.OutprojIdeal.nD) → Buf (Elt Ideal) ((c.tc : Thread Cert.OutprojIdeal.nD Cert.OutprojIdeal.τ).loc Cert.OutprojIdeal.main_v28_6)) (v7 : (c : Dev Cert.OutprojIdeal.nD) → Buf (Elt Ideal) ((c.tc : Thread Cert.OutprojIdeal.nD Cert.OutprojIdeal.τ).loc Cert.OutprojIdeal.main_v28_7)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v28_0) = v0 c
          ∧ r.2.mem ((c.tc : Thread Cert.OutprojIdeal.nD Cert.OutprojIdeal.τ).loc Cert.OutprojIdeal.main_v28_1) = v1 c
          ∧ r.2.mem ((c.tc : Thread Cert.OutprojIdeal.nD Cert.OutprojIdeal.τ).loc Cert.OutprojIdeal.main_v28_2) = v2 c
          ∧ r.2.mem ((c.tc : Thread Cert.OutprojIdeal.nD Cert.OutprojIdeal.τ).loc Cert.OutprojIdeal.main_v28_3) = v3 c
          ∧ r.2.mem ((c.tc : Thread Cert.OutprojIdeal.nD Cert.OutprojIdeal.τ).loc Cert.OutprojIdeal.main_v28_4) = v4 c
          ∧ r.2.mem ((c.tc : Thread Cert.OutprojIdeal.nD Cert.OutprojIdeal.τ).loc Cert.OutprojIdeal.main_v28_5) = v5 c
          ∧ r.2.mem ((c.tc : Thread Cert.OutprojIdeal.nD Cert.OutprojIdeal.τ).loc Cert.OutprojIdeal.main_v28_6) = v6 c
          ∧ r.2.mem ((c.tc : Thread Cert.OutprojIdeal.nD Cert.OutprojIdeal.τ).loc Cert.OutprojIdeal.main_v28_7) = v7 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
          ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v65) = v0 c
          ∧ r.2.mem ((c.tc : Thread Cert.OutprojRefIdeal.nD Cert.OutprojRefIdeal.τ).loc Cert.OutprojRefIdeal.main_v66) = v1 c
          ∧ r.2.mem ((c.tc : Thread Cert.OutprojRefIdeal.nD Cert.OutprojRefIdeal.τ).loc Cert.OutprojRefIdeal.main_v67) = v2 c
          ∧ r.2.mem ((c.tc : Thread Cert.OutprojRefIdeal.nD Cert.OutprojRefIdeal.τ).loc Cert.OutprojRefIdeal.main_v57) = v3 c
          ∧ r.2.mem ((c.tc : Thread Cert.OutprojRefIdeal.nD Cert.OutprojRefIdeal.τ).loc Cert.OutprojRefIdeal.main_v60) = v4 c
          ∧ r.2.mem ((c.tc : Thread Cert.OutprojRefIdeal.nD Cert.OutprojRefIdeal.τ).loc Cert.OutprojRefIdeal.main_v68) = v5 c
          ∧ r.2.mem ((c.tc : Thread Cert.OutprojRefIdeal.nD Cert.OutprojRefIdeal.τ).loc Cert.OutprojRefIdeal.main_v69) = v6 c
          ∧ r.2.mem ((c.tc : Thread Cert.OutprojRefIdeal.nD Cert.OutprojRefIdeal.τ).loc Cert.OutprojRefIdeal.main_v64) = v7 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4)
          ∧ r.2.mem ((c.tc : Thread Cert.OutprojRefIdeal.nD Cert.OutprojRefIdeal.τ).loc Cert.OutprojRefIdeal.main_arg5) = m' ((c.tc : Thread Cert.OutprojRefIdeal.nD Cert.OutprojRefIdeal.τ).loc Cert.OutprojRefIdeal.main_arg5)
          ∧ r.2.mem ((c.tc : Thread Cert.OutprojRefIdeal.nD Cert.OutprojRefIdeal.τ).loc Cert.OutprojRefIdeal.main_arg6) = m' ((c.tc : Thread Cert.OutprojRefIdeal.nD Cert.OutprojRefIdeal.τ).loc Cert.OutprojRefIdeal.main_arg6)
          ∧ r.2.mem ((c.tc : Thread Cert.OutprojRefIdeal.nD Cert.OutprojRefIdeal.τ).loc Cert.OutprojRefIdeal.main_arg7) = m' ((c.tc : Thread Cert.OutprojRefIdeal.nD Cert.OutprojRefIdeal.τ).loc Cert.OutprojRefIdeal.main_arg7))

def preserves_Gm_GmIdeal : Prop :=
  True

def algebraic_GmIdeal_GmRefIdeal_pre_gm_finite [hGmIdeal : Cert.GmIdeal.Facts] [hGmRefIdeal : Cert.GmRefIdeal.Facts] [hPre_gm_finite : Cert.Pre_gm_finite.Facts] : Prop :=
  ∀ (m : (ℓ : Loc Cert.GmIdeal.nD Cert.GmIdeal.τ Cert.GmIdeal.sig) → Buf (Elt Ideal) ℓ) (g : Dev Cert.GmIdeal.nD → PrngReg)
    (m' : (ℓ : Loc Cert.GmRefIdeal.nD Cert.GmRefIdeal.τ Cert.GmRefIdeal.sig) → Buf (Elt Ideal) ℓ) (g' : Dev Cert.GmRefIdeal.nD → PrngReg), Pre_GmIdeal_gm_finite m →
    (∀ c : Dev Cert.GmIdeal.nD,
      m' ((c.tc : Thread Cert.GmRefIdeal.nD Cert.GmRefIdeal.τ).loc Cert.GmRefIdeal.main_arg0) = m ((c.tc : Thread Cert.GmIdeal.nD Cert.GmIdeal.τ).loc Cert.GmIdeal.main_arg0)
      ∧ m' ((c.tc : Thread Cert.GmRefIdeal.nD Cert.GmRefIdeal.τ).loc Cert.GmRefIdeal.main_arg1) = m ((c.tc : Thread Cert.GmIdeal.nD Cert.GmIdeal.τ).loc Cert.GmIdeal.main_arg1)
      ∧ m' ((c.tc : Thread Cert.GmRefIdeal.nD Cert.GmRefIdeal.τ).loc Cert.GmRefIdeal.main_arg2) = m ((c.tc : Thread Cert.GmIdeal.nD Cert.GmIdeal.τ).loc Cert.GmIdeal.main_arg2)
      ∧ m' ((c.tc : Thread Cert.GmRefIdeal.nD Cert.GmRefIdeal.τ).loc Cert.GmRefIdeal.main_arg3) = m ((c.tc : Thread Cert.GmIdeal.nD Cert.GmIdeal.τ).loc Cert.GmIdeal.main_arg3)
      ∧ m' ((c.tc : Thread Cert.GmRefIdeal.nD Cert.GmRefIdeal.τ).loc Cert.GmRefIdeal.main_arg4) = m ((c.tc : Thread Cert.GmIdeal.nD Cert.GmIdeal.τ).loc Cert.GmIdeal.main_arg4)
      ∧ m' ((c.tc : Thread Cert.GmRefIdeal.nD Cert.GmRefIdeal.τ).loc Cert.GmRefIdeal.main_arg5) = m ((c.tc : Thread Cert.GmIdeal.nD Cert.GmIdeal.τ).loc Cert.GmIdeal.main_arg5)
      ∧ m' ((c.tc : Thread Cert.GmRefIdeal.nD Cert.GmRefIdeal.τ).loc Cert.GmRefIdeal.main_arg6) = m ((c.tc : Thread Cert.GmIdeal.nD Cert.GmIdeal.τ).loc Cert.GmIdeal.main_arg6)) →
    ∃ (v0 : (c : Dev Cert.GmIdeal.nD) → Buf (Elt Ideal) ((c.tc : Thread Cert.GmIdeal.nD Cert.GmIdeal.τ).loc Cert.GmIdeal.main_v7_0)) (v1 : (c : Dev Cert.GmIdeal.nD) → Buf (Elt Ideal) ((c.tc : Thread Cert.GmIdeal.nD Cert.GmIdeal.τ).loc Cert.GmIdeal.main_v7_1)) (v2 : (c : Dev Cert.GmIdeal.nD) → Buf (Elt Ideal) ((c.tc : Thread Cert.GmIdeal.nD Cert.GmIdeal.τ).loc Cert.GmIdeal.main_v7_2)) (v3 : (c : Dev Cert.GmIdeal.nD) → Buf (Elt Ideal) ((c.tc : Thread Cert.GmIdeal.nD Cert.GmIdeal.τ).loc Cert.GmIdeal.main_v7_3)) (v4 : (c : Dev Cert.GmIdeal.nD) → Buf (Elt Ideal) ((c.tc : Thread Cert.GmIdeal.nD Cert.GmIdeal.τ).loc Cert.GmIdeal.main_v7_4)),
      θ_run (Cert.GmIdeal.defs (F := Ideal)) (onTc (τ := Cert.GmIdeal.τ) (Cert.GmIdeal.main (F := Ideal))) ⟨m, fun _ => 0, g⟩ (fun r => ∀ c : Dev Cert.GmIdeal.nD,
          r.2.mem ((c.tc : Thread Cert.GmIdeal.nD Cert.GmIdeal.τ).loc Cert.GmIdeal.main_v7_0) = v0 c
          ∧ r.2.mem ((c.tc : Thread Cert.GmIdeal.nD Cert.GmIdeal.τ).loc Cert.GmIdeal.main_v7_1) = v1 c
          ∧ r.2.mem ((c.tc : Thread Cert.GmIdeal.nD Cert.GmIdeal.τ).loc Cert.GmIdeal.main_v7_2) = v2 c
          ∧ r.2.mem ((c.tc : Thread Cert.GmIdeal.nD Cert.GmIdeal.τ).loc Cert.GmIdeal.main_v7_3) = v3 c
          ∧ r.2.mem ((c.tc : Thread Cert.GmIdeal.nD Cert.GmIdeal.τ).loc Cert.GmIdeal.main_v7_4) = v4 c
          ∧ r.2.mem ((c.tc : Thread Cert.GmIdeal.nD Cert.GmIdeal.τ).loc Cert.GmIdeal.main_arg0) = m ((c.tc : Thread Cert.GmIdeal.nD Cert.GmIdeal.τ).loc Cert.GmIdeal.main_arg0)
          ∧ r.2.mem ((c.tc : Thread Cert.GmIdeal.nD Cert.GmIdeal.τ).loc Cert.GmIdeal.main_arg1) = m ((c.tc : Thread Cert.GmIdeal.nD Cert.GmIdeal.τ).loc Cert.GmIdeal.main_arg1)
          ∧ r.2.mem ((c.tc : Thread Cert.GmIdeal.nD Cert.GmIdeal.τ).loc Cert.GmIdeal.main_arg2) = m ((c.tc : Thread Cert.GmIdeal.nD Cert.GmIdeal.τ).loc Cert.GmIdeal.main_arg2)
          ∧ r.2.mem ((c.tc : Thread Cert.GmIdeal.nD Cert.GmIdeal.τ).loc Cert.GmIdeal.main_arg3) = m ((c.tc : Thread Cert.GmIdeal.nD Cert.GmIdeal.τ).loc Cert.GmIdeal.main_arg3)
          ∧ r.2.mem ((c.tc : Thread Cert.GmIdeal.nD Cert.GmIdeal.τ).loc Cert.GmIdeal.main_arg4) = m ((c.tc : Thread Cert.GmIdeal.nD Cert.GmIdeal.τ).loc Cert.GmIdeal.main_arg4)
          ∧ r.2.mem ((c.tc : Thread Cert.GmIdeal.nD Cert.GmIdeal.τ).loc Cert.GmIdeal.main_arg5) = m ((c.tc : Thread Cert.GmIdeal.nD Cert.GmIdeal.τ).loc Cert.GmIdeal.main_arg5)
          ∧ r.2.mem ((c.tc : Thread Cert.GmIdeal.nD Cert.GmIdeal.τ).loc Cert.GmIdeal.main_arg6) = m ((c.tc : Thread Cert.GmIdeal.nD Cert.GmIdeal.τ).loc Cert.GmIdeal.main_arg6))
      ∧ θ_run (Cert.GmRefIdeal.defs (F := Ideal)) (onTc (τ := Cert.GmRefIdeal.τ) (Cert.GmRefIdeal.main (F := Ideal))) ⟨m', fun _ => 0, g'⟩ (fun r => ∀ c : Dev Cert.GmRefIdeal.nD,
          r.2.mem ((c.tc : Thread Cert.GmRefIdeal.nD Cert.GmRefIdeal.τ).loc Cert.GmRefIdeal.main_v182) = v0 c
          ∧ r.2.mem ((c.tc : Thread Cert.GmRefIdeal.nD Cert.GmRefIdeal.τ).loc Cert.GmRefIdeal.main_v183) = v1 c
          ∧ r.2.mem ((c.tc : Thread Cert.GmRefIdeal.nD Cert.GmRefIdeal.τ).loc Cert.GmRefIdeal.main_v130) = v2 c
          ∧ r.2.mem ((c.tc : Thread Cert.GmRefIdeal.nD Cert.GmRefIdeal.τ).loc Cert.GmRefIdeal.main_v184) = v3 c
          ∧ r.2.mem ((c.tc : Thread Cert.GmRefIdeal.nD Cert.GmRefIdeal.τ).loc Cert.GmRefIdeal.main_v185) = v4 c
          ∧ r.2.mem ((c.tc : Thread Cert.GmRefIdeal.nD Cert.GmRefIdeal.τ).loc Cert.GmRefIdeal.main_arg0) = m' ((c.tc : Thread Cert.GmRefIdeal.nD Cert.GmRefIdeal.τ).loc Cert.GmRefIdeal.main_arg0)
          ∧ r.2.mem ((c.tc : Thread Cert.GmRefIdeal.nD Cert.GmRefIdeal.τ).loc Cert.GmRefIdeal.main_arg1) = m' ((c.tc : Thread Cert.GmRefIdeal.nD Cert.GmRefIdeal.τ).loc Cert.GmRefIdeal.main_arg1)
          ∧ r.2.mem ((c.tc : Thread Cert.GmRefIdeal.nD Cert.GmRefIdeal.τ).loc Cert.GmRefIdeal.main_arg2) = m' ((c.tc : Thread Cert.GmRefIdeal.nD Cert.GmRefIdeal.τ).loc Cert.GmRefIdeal.main_arg2)
          ∧ r.2.mem ((c.tc : Thread Cert.GmRefIdeal.nD Cert.GmRefIdeal.τ).loc Cert.GmRefIdeal.main_arg3) = m' ((c.tc : Thread Cert.GmRefIdeal.nD Cert.GmRefIdeal.τ).loc Cert.GmRefIdeal.main_arg3)
          ∧ r.2.mem ((c.tc : Thread Cert.GmRefIdeal.nD Cert.GmRefIdeal.τ).loc Cert.GmRefIdeal.main_arg4) = m' ((c.tc : Thread Cert.GmRefIdeal.nD Cert.GmRefIdeal.τ).loc Cert.GmRefIdeal.main_arg4)
          ∧ r.2.mem ((c.tc : Thread Cert.GmRefIdeal.nD Cert.GmRefIdeal.τ).loc Cert.GmRefIdeal.main_arg5) = m' ((c.tc : Thread Cert.GmRefIdeal.nD Cert.GmRefIdeal.τ).loc Cert.GmRefIdeal.main_arg5)
          ∧ r.2.mem ((c.tc : Thread Cert.GmRefIdeal.nD Cert.GmRefIdeal.τ).loc Cert.GmRefIdeal.main_arg6) = m' ((c.tc : Thread Cert.GmRefIdeal.nD Cert.GmRefIdeal.τ).loc Cert.GmRefIdeal.main_arg6))

def preserves_InprojFwd_InprojFwdIdeal : Prop :=
  True

def algebraic_InprojFwdIdeal_InprojFwdRefIdeal [hInprojFwdIdeal : Cert.InprojFwdIdeal.Facts] [hInprojFwdRefIdeal : Cert.InprojFwdRefIdeal.Facts] : Prop :=
  ∀ (m : (ℓ : Loc Cert.InprojFwdIdeal.nD Cert.InprojFwdIdeal.τ Cert.InprojFwdIdeal.sig) → Buf (Elt Ideal) ℓ) (g : Dev Cert.InprojFwdIdeal.nD → PrngReg)
    (m' : (ℓ : Loc Cert.InprojFwdRefIdeal.nD Cert.InprojFwdRefIdeal.τ Cert.InprojFwdRefIdeal.sig) → Buf (Elt Ideal) ℓ) (g' : Dev Cert.InprojFwdRefIdeal.nD → PrngReg), Pre_InprojFwdIdeal m →
    (∀ c : Dev Cert.InprojFwdIdeal.nD,
      m' ((c.tc : Thread Cert.InprojFwdRefIdeal.nD Cert.InprojFwdRefIdeal.τ).loc Cert.InprojFwdRefIdeal.main_arg0) = m ((c.tc : Thread Cert.InprojFwdIdeal.nD Cert.InprojFwdIdeal.τ).loc Cert.InprojFwdIdeal.main_arg0)
      ∧ m' ((c.tc : Thread Cert.InprojFwdRefIdeal.nD Cert.InprojFwdRefIdeal.τ).loc Cert.InprojFwdRefIdeal.main_arg1) = m ((c.tc : Thread Cert.InprojFwdIdeal.nD Cert.InprojFwdIdeal.τ).loc Cert.InprojFwdIdeal.main_arg1)
      ∧ m' ((c.tc : Thread Cert.InprojFwdRefIdeal.nD Cert.InprojFwdRefIdeal.τ).loc Cert.InprojFwdRefIdeal.main_arg2) = m ((c.tc : Thread Cert.InprojFwdIdeal.nD Cert.InprojFwdIdeal.τ).loc Cert.InprojFwdIdeal.main_arg2)) →
    ∃ (v0 : (c : Dev Cert.InprojFwdIdeal.nD) → Buf (Elt Ideal) ((c.tc : Thread Cert.InprojFwdIdeal.nD Cert.InprojFwdIdeal.τ).loc Cert.InprojFwdIdeal.main_v7_0)) (v1 : (c : Dev Cert.InprojFwdIdeal.nD) → Buf (Elt Ideal) ((c.tc : Thread Cert.InprojFwdIdeal.nD Cert.InprojFwdIdeal.τ).loc Cert.InprojFwdIdeal.main_v7_1)) (v2 : (c : Dev Cert.InprojFwdIdeal.nD) → Buf (Elt Ideal) ((c.tc : Thread Cert.InprojFwdIdeal.nD Cert.InprojFwdIdeal.τ).loc Cert.InprojFwdIdeal.main_v7_2)),
      θ_run (Cert.InprojFwdIdeal.defs (F := Ideal)) (onTc (τ := Cert.InprojFwdIdeal.τ) (Cert.InprojFwdIdeal.main (F := Ideal))) ⟨m, fun _ => 0, g⟩ (fun r => ∀ c : Dev Cert.InprojFwdIdeal.nD,
          r.2.mem ((c.tc : Thread Cert.InprojFwdIdeal.nD Cert.InprojFwdIdeal.τ).loc Cert.InprojFwdIdeal.main_v7_0) = v0 c
          ∧ r.2.mem ((c.tc : Thread Cert.InprojFwdIdeal.nD Cert.InprojFwdIdeal.τ).loc Cert.InprojFwdIdeal.main_v7_1) = v1 c
          ∧ r.2.mem ((c.tc : Thread Cert.InprojFwdIdeal.nD Cert.InprojFwdIdeal.τ).loc Cert.InprojFwdIdeal.main_v7_2) = v2 c
          ∧ r.2.mem ((c.tc : Thread Cert.InprojFwdIdeal.nD Cert.InprojFwdIdeal.τ).loc Cert.InprojFwdIdeal.main_arg0) = m ((c.tc : Thread Cert.InprojFwdIdeal.nD Cert.InprojFwdIdeal.τ).loc Cert.InprojFwdIdeal.main_arg0)
          ∧ r.2.mem ((c.tc : Thread Cert.InprojFwdIdeal.nD Cert.InprojFwdIdeal.τ).loc Cert.InprojFwdIdeal.main_arg1) = m ((c.tc : Thread Cert.InprojFwdIdeal.nD Cert.InprojFwdIdeal.τ).loc Cert.InprojFwdIdeal.main_arg1)
          ∧ r.2.mem ((c.tc : Thread Cert.InprojFwdIdeal.nD Cert.InprojFwdIdeal.τ).loc Cert.InprojFwdIdeal.main_arg2) = m ((c.tc : Thread Cert.InprojFwdIdeal.nD Cert.InprojFwdIdeal.τ).loc Cert.InprojFwdIdeal.main_arg2))
      ∧ θ_run (Cert.InprojFwdRefIdeal.defs (F := Ideal)) (onTc (τ := Cert.InprojFwdRefIdeal.τ) (Cert.InprojFwdRefIdeal.main (F := Ideal))) ⟨m', fun _ => 0, g'⟩ (fun r => ∀ c : Dev Cert.InprojFwdRefIdeal.nD,
          r.2.mem ((c.tc : Thread Cert.InprojFwdRefIdeal.nD Cert.InprojFwdRefIdeal.τ).loc Cert.InprojFwdRefIdeal.main_v15) = v0 c
          ∧ r.2.mem ((c.tc : Thread Cert.InprojFwdRefIdeal.nD Cert.InprojFwdRefIdeal.τ).loc Cert.InprojFwdRefIdeal.main_v16) = v1 c
          ∧ r.2.mem ((c.tc : Thread Cert.InprojFwdRefIdeal.nD Cert.InprojFwdRefIdeal.τ).loc Cert.InprojFwdRefIdeal.main_v18) = v2 c
          ∧ r.2.mem ((c.tc : Thread Cert.InprojFwdRefIdeal.nD Cert.InprojFwdRefIdeal.τ).loc Cert.InprojFwdRefIdeal.main_arg0) = m' ((c.tc : Thread Cert.InprojFwdRefIdeal.nD Cert.InprojFwdRefIdeal.τ).loc Cert.InprojFwdRefIdeal.main_arg0)
          ∧ r.2.mem ((c.tc : Thread Cert.InprojFwdRefIdeal.nD Cert.InprojFwdRefIdeal.τ).loc Cert.InprojFwdRefIdeal.main_arg1) = m' ((c.tc : Thread Cert.InprojFwdRefIdeal.nD Cert.InprojFwdRefIdeal.τ).loc Cert.InprojFwdRefIdeal.main_arg1)
          ∧ r.2.mem ((c.tc : Thread Cert.InprojFwdRefIdeal.nD Cert.InprojFwdRefIdeal.τ).loc Cert.InprojFwdRefIdeal.main_arg2) = m' ((c.tc : Thread Cert.InprojFwdRefIdeal.nD Cert.InprojFwdRefIdeal.τ).loc Cert.InprojFwdRefIdeal.main_arg2))

def preserves_OutprojFwd_OutprojFwdIdeal : Prop :=
  True

def algebraic_OutprojFwdIdeal_OutprojFwdRefIdeal [hOutprojFwdIdeal : Cert.OutprojFwdIdeal.Facts] [hOutprojFwdRefIdeal : Cert.OutprojFwdRefIdeal.Facts] : Prop :=
  ∀ (m : (ℓ : Loc Cert.OutprojFwdIdeal.nD Cert.OutprojFwdIdeal.τ Cert.OutprojFwdIdeal.sig) → Buf (Elt Ideal) ℓ) (g : Dev Cert.OutprojFwdIdeal.nD → PrngReg)
    (m' : (ℓ : Loc Cert.OutprojFwdRefIdeal.nD Cert.OutprojFwdRefIdeal.τ Cert.OutprojFwdRefIdeal.sig) → Buf (Elt Ideal) ℓ) (g' : Dev Cert.OutprojFwdRefIdeal.nD → PrngReg), Pre_OutprojFwdIdeal m →
    (∀ c : Dev Cert.OutprojFwdIdeal.nD,
      m' ((c.tc : Thread Cert.OutprojFwdRefIdeal.nD Cert.OutprojFwdRefIdeal.τ).loc Cert.OutprojFwdRefIdeal.main_arg0) = m ((c.tc : Thread Cert.OutprojFwdIdeal.nD Cert.OutprojFwdIdeal.τ).loc Cert.OutprojFwdIdeal.main_arg0)
      ∧ m' ((c.tc : Thread Cert.OutprojFwdRefIdeal.nD Cert.OutprojFwdRefIdeal.τ).loc Cert.OutprojFwdRefIdeal.main_arg1) = m ((c.tc : Thread Cert.OutprojFwdIdeal.nD Cert.OutprojFwdIdeal.τ).loc Cert.OutprojFwdIdeal.main_arg1)
      ∧ m' ((c.tc : Thread Cert.OutprojFwdRefIdeal.nD Cert.OutprojFwdRefIdeal.τ).loc Cert.OutprojFwdRefIdeal.main_arg2) = m ((c.tc : Thread Cert.OutprojFwdIdeal.nD Cert.OutprojFwdIdeal.τ).loc Cert.OutprojFwdIdeal.main_arg2)
      ∧ m' ((c.tc : Thread Cert.OutprojFwdRefIdeal.nD Cert.OutprojFwdRefIdeal.τ).loc Cert.OutprojFwdRefIdeal.main_arg3) = m ((c.tc : Thread Cert.OutprojFwdIdeal.nD Cert.OutprojFwdIdeal.τ).loc Cert.OutprojFwdIdeal.main_arg3)
      ∧ m' ((c.tc : Thread Cert.OutprojFwdRefIdeal.nD Cert.OutprojFwdRefIdeal.τ).loc Cert.OutprojFwdRefIdeal.main_arg4) = m ((c.tc : Thread Cert.OutprojFwdIdeal.nD Cert.OutprojFwdIdeal.τ).loc Cert.OutprojFwdIdeal.main_arg4)
      ∧ m' ((c.tc : Thread Cert.OutprojFwdRefIdeal.nD Cert.OutprojFwdRefIdeal.τ).loc Cert.OutprojFwdRefIdeal.main_arg5) = m ((c.tc : Thread Cert.OutprojFwdIdeal.nD Cert.OutprojFwdIdeal.τ).loc Cert.OutprojFwdIdeal.main_arg5)) →
    ∃ (v0 : (c : Dev Cert.OutprojFwdIdeal.nD) → Buf (Elt Ideal) ((c.tc : Thread Cert.OutprojFwdIdeal.nD Cert.OutprojFwdIdeal.τ).loc Cert.OutprojFwdIdeal.main_v28)),
      θ_run (Cert.OutprojFwdIdeal.defs (F := Ideal)) (onTc (τ := Cert.OutprojFwdIdeal.τ) (Cert.OutprojFwdIdeal.main (F := Ideal))) ⟨m, fun _ => 0, g⟩ (fun r => ∀ c : Dev Cert.OutprojFwdIdeal.nD,
          r.2.mem ((c.tc : Thread Cert.OutprojFwdIdeal.nD Cert.OutprojFwdIdeal.τ).loc Cert.OutprojFwdIdeal.main_v28) = v0 c
          ∧ r.2.mem ((c.tc : Thread Cert.OutprojFwdIdeal.nD Cert.OutprojFwdIdeal.τ).loc Cert.OutprojFwdIdeal.main_arg0) = m ((c.tc : Thread Cert.OutprojFwdIdeal.nD Cert.OutprojFwdIdeal.τ).loc Cert.OutprojFwdIdeal.main_arg0)
          ∧ r.2.mem ((c.tc : Thread Cert.OutprojFwdIdeal.nD Cert.OutprojFwdIdeal.τ).loc Cert.OutprojFwdIdeal.main_arg1) = m ((c.tc : Thread Cert.OutprojFwdIdeal.nD Cert.OutprojFwdIdeal.τ).loc Cert.OutprojFwdIdeal.main_arg1)
          ∧ r.2.mem ((c.tc : Thread Cert.OutprojFwdIdeal.nD Cert.OutprojFwdIdeal.τ).loc Cert.OutprojFwdIdeal.main_arg2) = m ((c.tc : Thread Cert.OutprojFwdIdeal.nD Cert.OutprojFwdIdeal.τ).loc Cert.OutprojFwdIdeal.main_arg2)
          ∧ r.2.mem ((c.tc : Thread Cert.OutprojFwdIdeal.nD Cert.OutprojFwdIdeal.τ).loc Cert.OutprojFwdIdeal.main_arg3) = m ((c.tc : Thread Cert.OutprojFwdIdeal.nD Cert.OutprojFwdIdeal.τ).loc Cert.OutprojFwdIdeal.main_arg3)
          ∧ r.2.mem ((c.tc : Thread Cert.OutprojFwdIdeal.nD Cert.OutprojFwdIdeal.τ).loc Cert.OutprojFwdIdeal.main_arg4) = m ((c.tc : Thread Cert.OutprojFwdIdeal.nD Cert.OutprojFwdIdeal.τ).loc Cert.OutprojFwdIdeal.main_arg4)
          ∧ r.2.mem ((c.tc : Thread Cert.OutprojFwdIdeal.nD Cert.OutprojFwdIdeal.τ).loc Cert.OutprojFwdIdeal.main_arg5) = m ((c.tc : Thread Cert.OutprojFwdIdeal.nD Cert.OutprojFwdIdeal.τ).loc Cert.OutprojFwdIdeal.main_arg5))
      ∧ θ_run (Cert.OutprojFwdRefIdeal.defs (F := Ideal)) (onTc (τ := Cert.OutprojFwdRefIdeal.τ) (Cert.OutprojFwdRefIdeal.main (F := Ideal))) ⟨m', fun _ => 0, g'⟩ (fun r => ∀ c : Dev Cert.OutprojFwdRefIdeal.nD,
          r.2.mem ((c.tc : Thread Cert.OutprojFwdRefIdeal.nD Cert.OutprojFwdRefIdeal.τ).loc Cert.OutprojFwdRefIdeal.main_v19) = v0 c
          ∧ r.2.mem ((c.tc : Thread Cert.OutprojFwdRefIdeal.nD Cert.OutprojFwdRefIdeal.τ).loc Cert.OutprojFwdRefIdeal.main_arg0) = m' ((c.tc : Thread Cert.OutprojFwdRefIdeal.nD Cert.OutprojFwdRefIdeal.τ).loc Cert.OutprojFwdRefIdeal.main_arg0)
          ∧ r.2.mem ((c.tc : Thread Cert.OutprojFwdRefIdeal.nD Cert.OutprojFwdRefIdeal.τ).loc Cert.OutprojFwdRefIdeal.main_arg1) = m' ((c.tc : Thread Cert.OutprojFwdRefIdeal.nD Cert.OutprojFwdRefIdeal.τ).loc Cert.OutprojFwdRefIdeal.main_arg1)
          ∧ r.2.mem ((c.tc : Thread Cert.OutprojFwdRefIdeal.nD Cert.OutprojFwdRefIdeal.τ).loc Cert.OutprojFwdRefIdeal.main_arg2) = m' ((c.tc : Thread Cert.OutprojFwdRefIdeal.nD Cert.OutprojFwdRefIdeal.τ).loc Cert.OutprojFwdRefIdeal.main_arg2)
          ∧ r.2.mem ((c.tc : Thread Cert.OutprojFwdRefIdeal.nD Cert.OutprojFwdRefIdeal.τ).loc Cert.OutprojFwdRefIdeal.main_arg3) = m' ((c.tc : Thread Cert.OutprojFwdRefIdeal.nD Cert.OutprojFwdRefIdeal.τ).loc Cert.OutprojFwdRefIdeal.main_arg3)
          ∧ r.2.mem ((c.tc : Thread Cert.OutprojFwdRefIdeal.nD Cert.OutprojFwdRefIdeal.τ).loc Cert.OutprojFwdRefIdeal.main_arg4) = m' ((c.tc : Thread Cert.OutprojFwdRefIdeal.nD Cert.OutprojFwdRefIdeal.τ).loc Cert.OutprojFwdRefIdeal.main_arg4)
          ∧ r.2.mem ((c.tc : Thread Cert.OutprojFwdRefIdeal.nD Cert.OutprojFwdRefIdeal.τ).loc Cert.OutprojFwdRefIdeal.main_arg5) = m' ((c.tc : Thread Cert.OutprojFwdRefIdeal.nD Cert.OutprojFwdRefIdeal.τ).loc Cert.OutprojFwdRefIdeal.main_arg5))

def Claim : Prop :=
  ∃ (hLoss : Cert.Loss.Facts) (hLossIdeal : Cert.LossIdeal.Facts) (hLossRefIdeal : Cert.LossRefIdeal.Facts) (hLb : Cert.Lb.Facts) (hLbIdeal : Cert.LbIdeal.Facts) (hLbRefIdeal : Cert.LbRefIdeal.Facts) (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hInproj : Cert.Inproj.Facts) (hInprojIdeal : Cert.InprojIdeal.Facts) (hInprojRefIdeal : Cert.InprojRefIdeal.Facts) (hOutproj : Cert.Outproj.Facts) (hOutprojIdeal : Cert.OutprojIdeal.Facts) (hOutprojRefIdeal : Cert.OutprojRefIdeal.Facts) (hGm : Cert.Gm.Facts) (hGmIdeal : Cert.GmIdeal.Facts) (hGmRefIdeal : Cert.GmRefIdeal.Facts) (hInprojFwd : Cert.InprojFwd.Facts) (hInprojFwdIdeal : Cert.InprojFwdIdeal.Facts) (hInprojFwdRefIdeal : Cert.InprojFwdRefIdeal.Facts) (hOutprojFwd : Cert.OutprojFwd.Facts) (hOutprojFwdIdeal : Cert.OutprojFwdIdeal.Facts) (hOutprojFwdRefIdeal : Cert.OutprojFwdRefIdeal.Facts) (hPre_lb_finite : Cert.Pre_lb_finite.Facts) (hPre_attn_finite : Cert.Pre_attn_finite.Facts) (hPre_ffn_finite : Cert.Pre_ffn_finite.Facts) (hPre_gm_finite : Cert.Pre_gm_finite.Facts),
    quiescent_Loss (hLoss := hLoss)
    ∧ quiescent_LossIdeal (hLossIdeal := hLossIdeal)
    ∧ quiescent_LossRefIdeal (hLossRefIdeal := hLossRefIdeal)
    ∧ quiescent_Lb (hLb := hLb)
    ∧ quiescent_LbIdeal (hLbIdeal := hLbIdeal)
    ∧ quiescent_LbIdeal_pre_lb_finite (hLbIdeal := hLbIdeal) (hPre_lb_finite := hPre_lb_finite)
    ∧ quiescent_LbRefIdeal (hLbRefIdeal := hLbRefIdeal)
    ∧ quiescent_LbRefIdeal_pre_lb_finite (hLbRefIdeal := hLbRefIdeal) (hPre_lb_finite := hPre_lb_finite)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Inproj (hInproj := hInproj)
    ∧ quiescent_InprojIdeal (hInprojIdeal := hInprojIdeal)
    ∧ quiescent_InprojRefIdeal (hInprojRefIdeal := hInprojRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Gm (hGm := hGm)
    ∧ quiescent_GmIdeal (hGmIdeal := hGmIdeal)
    ∧ quiescent_GmIdeal_pre_gm_finite (hGmIdeal := hGmIdeal) (hPre_gm_finite := hPre_gm_finite)
    ∧ quiescent_GmRefIdeal (hGmRefIdeal := hGmRefIdeal)
    ∧ quiescent_GmRefIdeal_pre_gm_finite (hGmRefIdeal := hGmRefIdeal) (hPre_gm_finite := hPre_gm_finite)
    ∧ quiescent_InprojFwd (hInprojFwd := hInprojFwd)
    ∧ quiescent_InprojFwdIdeal (hInprojFwdIdeal := hInprojFwdIdeal)
    ∧ quiescent_InprojFwdRefIdeal (hInprojFwdRefIdeal := hInprojFwdRefIdeal)
    ∧ quiescent_OutprojFwd (hOutprojFwd := hOutprojFwd)
    ∧ quiescent_OutprojFwdIdeal (hOutprojFwdIdeal := hOutprojFwdIdeal)
    ∧ quiescent_OutprojFwdRefIdeal (hOutprojFwdRefIdeal := hOutprojFwdRefIdeal)
    ∧ preserves_Loss_LossIdeal
    ∧ algebraic_LossIdeal_LossRefIdeal (hLossIdeal := hLossIdeal) (hLossRefIdeal := hLossRefIdeal)
    ∧ preserves_Lb_LbIdeal
    ∧ algebraic_LbIdeal_LbRefIdeal_pre_lb_finite (hLbIdeal := hLbIdeal) (hLbRefIdeal := hLbRefIdeal) (hPre_lb_finite := hPre_lb_finite)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_Inproj_InprojIdeal
    ∧ algebraic_InprojIdeal_InprojRefIdeal (hInprojIdeal := hInprojIdeal) (hInprojRefIdeal := hInprojRefIdeal)
    ∧ preserves_Outproj_OutprojIdeal
    ∧ algebraic_OutprojIdeal_OutprojRefIdeal (hOutprojIdeal := hOutprojIdeal) (hOutprojRefIdeal := hOutprojRefIdeal)
    ∧ preserves_Gm_GmIdeal
    ∧ algebraic_GmIdeal_GmRefIdeal_pre_gm_finite (hGmIdeal := hGmIdeal) (hGmRefIdeal := hGmRefIdeal) (hPre_gm_finite := hPre_gm_finite)
    ∧ preserves_InprojFwd_InprojFwdIdeal
    ∧ algebraic_InprojFwdIdeal_InprojFwdRefIdeal (hInprojFwdIdeal := hInprojFwdIdeal) (hInprojFwdRefIdeal := hInprojFwdRefIdeal)
    ∧ preserves_OutprojFwd_OutprojFwdIdeal
    ∧ algebraic_OutprojFwdIdeal_OutprojFwdRefIdeal (hOutprojFwdIdeal := hOutprojFwdIdeal) (hOutprojFwdRefIdeal := hOutprojFwdRefIdeal)
-- ==== Pre_attn_finite.lean ====
abbrev S1x2048x8x96 : Shape := ⟨4, ![1, 2048, 8, 96]⟩
abbrev S1x2048x8x64 : Shape := ⟨4, ![1, 2048, 8, 64]⟩
abbrev S1x2048x512 : Shape := ⟨3, ![1, 2048, 512]⟩
abbrev S_ : Shape := ⟨0, ![]⟩

class Facts : Prop where
  bcast_S_S1x2048x8x96 : S_.BroadcastsInDim S1x2048x8x96 (![] : Fin 0 → Fin S1x2048x8x96.rank)
  reducesTo_S1x2048x8x96_S_d0_1_2_3 : S1x2048x8x96.ReducesTo [0, 1, 2, 3] S_
  h_S_ : 0 < S_.numel
  bcast_S_S1x2048x8x64 : S_.BroadcastsInDim S1x2048x8x64 (![] : Fin 0 → Fin S1x2048x8x64.rank)
  reducesTo_S1x2048x8x64_S_d0_1_2_3 : S1x2048x8x64.ReducesTo [0, 1, 2, 3] S_
  bcast_S_S1x2048x512 : S_.BroadcastsInDim S1x2048x512 (![] : Fin 0 → Fin S1x2048x512.rank)
  reducesTo_S1x2048x512_S_d0_1_2 : S1x2048x512.ReducesTo [0, 1, 2] S_

variable [Facts]

def fn_part1 {F : FTy → Type} [FloatOps F] (main_v13 : IVec S_ 1) (main_v16 : IVec S1x2048x512 1) : IVec S_ 1 :=
  let main_c_5 : IVec S_ 1 := constantI S_ 1 1#1
  let main_v17 : IVec S_ 1 := (fun x v => Host.reduce IntOp.andi x v reducesTo_S1x2048x512_S_d0_1_2 h_S_) main_v16 main_c_5
  let main_v18 : IVec S_ 1 := andi main_v13 main_v17
  main_v18

def fn {F : FTy → Type} [FloatOps F] (main_arg0 : FVec F S1x2048x8x96 .f32) (main_arg1 : FVec F S1x2048x8x96 .f32) (main_arg2 : FVec F S1x2048x8x64 .f32) (main_arg3 : FVec F S1x2048x512 .f32) : IVec S_ 1 :=
  let main_v0 : FVec F S1x2048x8x96 .f32 := Host.absf main_arg0
  let main_cst : FVec F S_ .f32 := constant S_ .f32 0x7F800000#32
  let main_v1 : FVec F S1x2048x8x96 .f32 := broadcastInDim S1x2048x8x96 ![] bcast_S_S1x2048x8x96 main_cst
  let main_v2 : IVec S1x2048x8x96 1 := cmpf .olt main_v0 main_v1
  let main_c : IVec S_ 1 := constantI S_ 1 1#1
  let main_v3 : IVec S_ 1 := (fun x v => Host.reduce IntOp.andi x v reducesTo_S1x2048x8x96_S_d0_1_2_3 h_S_) main_v2 main_c
  let main_v4 : FVec F S1x2048x8x96 .f32 := Host.absf main_arg1
  let main_cst_0 : FVec F S_ .f32 := constant S_ .f32 0x7F800000#32
  let main_v5 : FVec F S1x2048x8x96 .f32 := broadcastInDim S1x2048x8x96 ![] bcast_S_S1x2048x8x96 main_cst_0
  let main_v6 : IVec S1x2048x8x96 1 := cmpf .olt main_v4 main_v5
  let main_c_1 : IVec S_ 1 := constantI S_ 1 1#1
  let main_v7 : IVec S_ 1 := (fun x v => Host.reduce IntOp.andi x v reducesTo_S1x2048x8x96_S_d0_1_2_3 h_S_) main_v6 main_c_1
  let main_v8 : IVec S_ 1 := andi main_v3 main_v7
  let main_v9 : FVec F S1x2048x8x64 .f32 := Host.absf main_arg2
  let main_cst_2 : FVec F S_ .f32 := constant S_ .f32 0x7F800000#32
  let main_v10 : FVec F S1x2048x8x64 .f32 := broadcastInDim S1x2048x8x64 ![] bcast_S_S1x2048x8x64 main_cst_2
  let main_v11 : IVec S1x2048x8x64 1 := cmpf .olt main_v9 main_v10
  let main_c_3 : IVec S_ 1 := constantI S_ 1 1#1
  let main_v12 : IVec S_ 1 := (fun x v => Host.reduce IntOp.andi x v reducesTo_S1x2048x8x64_S_d0_1_2_3 h_S_) main_v11 main_c_3
  let main_v13 : IVec S_ 1 := andi main_v8 main_v12
  let main_v14 : FVec F S1x2048x512 .f32 := Host.absf main_arg3
  let main_cst_4 : FVec F S_ .f32 := constant S_ .f32 0x7F800000#32
  let main_v15 : FVec F S1x2048x512 .f32 := broadcastInDim S1x2048x512 ![] bcast_S_S1x2048x512 main_cst_4
  let main_v16 : IVec S1x2048x512 1 := cmpf .olt main_v14 main_v15
  fn_part1 (F := F) main_v13 main_v16
-- ==== Pre_ffn_finite.lean ====
abbrev S1x2048x1024 : Shape := ⟨3, ![1, 2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S1x2048x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1x2048x1024 .f32 := Host.absf main_arg4
  let main_cst_6 : FVec F S_ .f32 := constant S_ .f32 0x7F800000#32
  let main_v20 : FVec F S1x2048x1024 .f32 := broadcastInDim S1x2048x1024 ![] bcast_S_S1x2048x1024 main_cst_6
  let main_v21 : IVec S1x2048x1024 1 := cmpf .olt main_v19 main_v20
  let main_c_7 : IVec S_ 1 := constantI S_ 1 1#1
  let main_v22 : IVec S_ 1 := (fun x v => Host.reduce IntOp.andi x v reducesTo_S1x2048x1024_S_d0_1_2 h_S_) main_v21 main_c_7
  let main_v23 : IVec S_ 1 := andi main_v18 main_v22
  main_v23

def fn {F : FTy → Type} [FloatOps F] (main_arg0 : FVec F S1x2048x1024 .f32) (main_arg1 : FVec F S1024 .f32) (main_arg2 : FVec F S1024x4096 .f32) (main_arg3 : FVec F S4096x1024 .f32) (main_arg4 : FVec F S1x2048x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_v13 main_v16
-- ==== Pre_gm_finite.lean ====
abbrev S1x2048x256 : Shape := ⟨3, ![1, 2048, 256]⟩
abbrev S256 : Shape := ⟨1, ![256]⟩
abbrev S4x128x128 : Shape := ⟨3, ![4, 128, 128]⟩
abbrev S4x128 : Shape := ⟨2, ![4, 128]⟩
abbrev S_ : Shape := ⟨0, ![]⟩

class Facts : Prop where
  bcast_S_S1x2048x256 : S_.BroadcastsInDim S1x2048x256 (![] : Fin 0 → Fin S1x2048x256.rank)
  reducesTo_S1x2048x256_S_d0_1_2 : S1x2048x256.ReducesTo [0, 1, 2] S_
  h_S_ : 0 < S_.numel
  bcast_S_S256 : S_.BroadcastsInDim S256 (![] : Fin 0 → Fin S256.rank)
  reducesTo_S256_S_d0 : S256.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part1 {F : FTy → Type} [FloatOps F] (main_arg4 : FVec F S4x128 .f32) (main_arg5 : FVec F S256 .f32) (main_arg6 : FVec F S1x2048x256 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg4
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S1x2048x256 .f32 := Host.absf main_arg6
  let main_cst_10 : FVec F S_ .f32 := constant S_ .f32 0x7F800000#32
  let main_v30 : FVec F S1x2048x256 .f32 := broadcastInDim S1x2048x256 ![] bcast_S_S1x2048x256 main_cst_10
  let main_v31 : IVec S1x2048x256 1 := cmpf .olt main_v29 main_v30
  let main_c_11 : IVec S_ 1 := constantI S_ 1 1#1
  let main_v32 : IVec S_ 1 := (fun x v => Host.reduce IntOp.andi x v reducesTo_S1x2048x256_S_d0_1_2 h_S_) main_v31 main_c_11
  let main_v33 : IVec S_ 1 := andi main_v28 main_v32
  main_v33

def fn {F : FTy → Type} [FloatOps F] (main_arg0 : FVec F S1x2048x256 .f32) (main_arg1 : FVec F S1x2048x256 .f32) (main_arg2 : FVec F S256 .f32) (main_arg3 : FVec F S4x128x128 .f32) (main_arg4 : FVec F S4x128 .f32) (main_arg5 : FVec F S256 .f32) (main_arg6 : FVec F S1x2048x256 .f32) : IVec S_ 1 :=
  let main_v0 : FVec F S1x2048x256 .f32 := Host.absf main_arg0
  let main_cst : FVec F S_ .f32 := constant S_ .f32 0x7F800000#32
  let main_v1 : FVec F S1x2048x256 .f32 := broadcastInDim S1x2048x256 ![] bcast_S_S1x2048x256 main_cst
  let main_v2 : IVec S1x2048x256 1 := cmpf .olt main_v0 main_v1
  let main_c : IVec S_ 1 := constantI S_ 1 1#1
  let main_v3 : IVec S_ 1 := (fun x v => Host.reduce IntOp.andi x v reducesTo_S1x2048x256_S_d0_1_2 h_S_) main_v2 main_c
  let main_v4 : FVec F S1x2048x256 .f32 := Host.absf main_arg1
  let main_cst_0 : FVec F S_ .f32 := constant S_ .f32 0x7F800000#32
  let main_v5 : FVec F S1x2048x256 .f32 := broadcastInDim S1x2048x256 ![] bcast_S_S1x2048x256 main_cst_0
  let main_v6 : IVec S1x2048x256 1 := cmpf .olt main_v4 main_v5
  let main_c_1 : IVec S_ 1 := constantI S_ 1 1#1
  let main_v7 : IVec S_ 1 := (fun x v => Host.reduce IntOp.andi x v reducesTo_S1x2048x256_S_d0_1_2 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S4x128x128 .f32 := Host.absf main_arg3
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg4 main_arg5 main_arg6 main_v13 main_v16
-- ==== Pre_lb_finite.lean ====
abbrev S4x256 : Shape := ⟨2, ![4, 256]⟩
abbrev S_ : Shape := ⟨0, ![]⟩

class Facts : Prop where
  bcast_S_S4x256 : S_.BroadcastsInDim S4x256 (![] : Fin 0 → Fin S4x256.rank)
  reducesTo_S4x256_S_d0_1 : S4x256.ReducesTo [0, 1] S_
  h_S_ : 0 < S_.numel

variable [Facts]

def fn {F : FTy → Type} [FloatOps F] (main_arg0 : FVec F S4x256 .f32) (main_arg1 : FVec F S4x256 .f32) : IVec S_ 1 :=
  let main_v0 : FVec F S4x256 .f32 := Host.absf main_arg0
  let main_cst : FVec F S_ .f32 := constant S_ .f32 0x7F800000#32
  let main_v1 : FVec F S4x256 .f32 := broadcastInDim S4x256 ![] bcast_S_S4x256 main_cst
  let main_v2 : IVec S4x256 1 := cmpf .olt main_v0 main_v1
  let main_c : IVec S_ 1 := constantI S_ 1 1#1
  let main_v3 : IVec S_ 1 := (fun x v => Host.reduce IntOp.andi x v reducesTo_S4x256_S_d0_1 h_S_) main_v2 main_c
  let main_v4 : FVec F S4x256 .f32 := Host.absf main_arg1
  let main_cst_0 : FVec F S_ .f32 := constant S_ .f32 0x7F800000#32
  let main_v5 : FVec F S4x256 .f32 := broadcastInDim S4x256 ![] bcast_S_S4x256 main_cst_0
  let main_v6 : IVec S4x256 1 := cmpf .olt main_v4 main_v5
  let main_c_1 : IVec S_ 1 := constantI S_ 1 1#1
  let main_v7 : IVec S_ 1 := (fun x v => Host.reduce IntOp.andi x v reducesTo_S4x256_S_d0_1 h_S_) main_v6 main_c_1
  let main_v8 : IVec S_ 1 := andi main_v3 main_v7
  main_v8
-- ==== Loss.lean ====
abbrev S1x2048x1024 : Shape := ⟨3, ![1, 2048, 1024]⟩
abbrev S2048x1024 : Shape := ⟨2, ![2048, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 6
  | .vmem => 7
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x128, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v17 : BitVec 1 := Scalar.cmpi .eq arg0 c0_i32
  let v18 : BitVec 32 := Scalar.extui v17
  let c0_i32_8 : BitVec 32 := 0#32
  let v19 : BitVec 1 := Scalar.cmpi .ne v18 c0_i32_8
  v19

def k0_cond2 (i : grid0.Coords) : BitVec 1 :=
  let arg0 : BitVec 32 := BitVec.ofNat 32 (i 0).val
  let c0_i32 : BitVec 32 := 0#32
  let v17 : BitVec 1 := Scalar.cmpi .eq arg0 c0_i32
  let v_true : BitVec 1 := 1#1
  let v20 : BitVec 1 := Scalar.xori v17 v_true
  let v21 : BitVec 32 := Scalar.extui v20
  let c0_i32_9 : BitVec 32 := 0#32
  let v22 : BitVec 1 := Scalar.cmpi .ne v21 c0_i32_9
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S1x2048x1024 : Shape := ⟨3, ![1, 2048, 1024]⟩
abbrev S_ : Shape := ⟨0, ![]⟩
abbrev S1x2048 : Shape := ⟨2, ![1, 2048]⟩
abbrev S2048x1024 : Shape := ⟨2, ![2048, 1024]⟩
abbrev S1x128 : Shape := ⟨2, ![1, 128]⟩

abbrev nBuf : Space → Nat
  | .hbm => 27
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S1x2048x1024, .f32⟩
  | .hbm, ⟨4, _⟩ => ⟨S_, .f32⟩
  | .hbm, ⟨5, _⟩ => ⟨S1x2048x1024, .f32⟩
  | .hbm, ⟨6, _⟩ => ⟨S1x2048x1024, .f32⟩
  | .hbm, ⟨7, _⟩ => ⟨S_, .f32⟩
  | .hbm, ⟨8, _⟩ => ⟨S1x2048, .f32⟩
  | .hbm, ⟨9, _⟩ => ⟨S_, .f32⟩
  | .hbm, ⟨10, _⟩ => ⟨S1x2048, .f32⟩
  | .hbm, ⟨11, _⟩ => ⟨S1x2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x2048, .f32⟩
  | .hbm, ⟨20, _⟩ => ⟨S_, .f32⟩
  | .hbm, ⟨21, _⟩ => ⟨S1x2048, .f32⟩
  | .hbm, ⟨22, _⟩ => ⟨S1x2048, .f32⟩
  | .hbm, ⟨23, _⟩ => ⟨S1x2048x1024, .f32⟩
  | .hbm, ⟨24, _⟩ => ⟨S1x2048x1024, .f32⟩
  | .hbm, ⟨25, _⟩ => ⟨S2048x1024, .f32⟩
  | .hbm, ⟨26, _⟩ => ⟨S1x128, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Lb.lean ====
abbrev S4x256 : Shape := ⟨2, ![4, 256]⟩
abbrev S1x256 : Shape := ⟨2, ![1, 256]⟩

abbrev nBuf : Space → Nat
  | .hbm => 3
  | .vmem => 3
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | _, _ => ⟨S4x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== LbRefIdeal.lean ====
abbrev S4x256 : Shape := ⟨2, ![4, 256]⟩
abbrev S_ : Shape := ⟨0, ![]⟩
abbrev S256 : Shape := ⟨1, ![256]⟩
abbrev S1x256 : Shape := ⟨2, ![1, 256]⟩

abbrev nBuf : Space → Nat
  | .hbm => 76
  | .vmem => 0
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S_, .f32⟩
  | .hbm, ⟨3, _⟩ => ⟨S256, .f32⟩
  | .hbm, ⟨4, _⟩ => ⟨S1x256, .f32⟩
  | .hbm, ⟨5, _⟩ => ⟨S4x256, .f32⟩
  | .hbm, ⟨6, _⟩ => ⟨S4x256, .i1⟩
  | .hbm, ⟨7, _⟩ => ⟨S4x256, .f32⟩
  | .hbm, ⟨8, _⟩ => ⟨S_, .f32⟩
  | .hbm, ⟨9, _⟩ => ⟨S256, .f32⟩
  | .hbm, ⟨10, _⟩ => ⟨S_, .f32⟩
  | .hbm, ⟨11, _⟩ => ⟨S256, .f32⟩
  | .hbm, ⟨12, _⟩ => ⟨S256, .f32⟩
  | .hbm, ⟨13, _⟩ => ⟨S_, .f32⟩
  | .hbm, ⟨14, _⟩ => ⟨S256, .f32⟩
  | .hbm, ⟨15, _⟩ => ⟨S256, .i1⟩
  | .hbm, ⟨16, _⟩ => ⟨S_, .f32⟩
  | .hbm, ⟨17, _⟩ => ⟨S256, .f32⟩
  | .hbm, ⟨18, _⟩ => ⟨S256, .i1⟩
  | .hbm, ⟨19, _⟩ => ⟨S_, .f32⟩
  | .hbm, ⟨20, _⟩ => ⟨S256, .f32⟩
  | .hbm, ⟨21, _⟩ => ⟨S_, .f32⟩
  | .hbm, ⟨22, _⟩ => ⟨S256, .f32⟩
  | .hbm, ⟨23, _⟩ => ⟨S_, .f32⟩
  | .hbm, ⟨24, _⟩ => ⟨S256, .f32⟩
  | .hbm, ⟨25, _⟩ => ⟨S256, .f32⟩
  | .hbm, ⟨26, _⟩ => ⟨S256, .f32⟩
  | .hbm, ⟨27, _⟩ => ⟨S1x256, .f32⟩
  | .hbm, ⟨28, _⟩ => ⟨S4x256, .f32⟩
  | .hbm, ⟨29, _⟩ => ⟨S4x256, .f32⟩
  | .hbm, ⟨30, _⟩ => ⟨S4x256, .f32⟩
  | .hbm, ⟨31, _⟩ => ⟨S_, .f32⟩
  | .hbm, ⟨32, _⟩ => ⟨S256, .f32⟩
  | .hbm, ⟨33, _⟩ => ⟨S1x256, .f32⟩
  | .hbm, ⟨34, _⟩ => ⟨S4x256, .f32⟩
  | .hbm, ⟨35, _⟩ => ⟨S4x256, .f32⟩
  | .hbm, ⟨36, _⟩ => ⟨S1x256, .f32⟩
  | .hbm, ⟨37, _⟩ => ⟨S_, .f32⟩
  | .hbm, ⟨38, _⟩ => ⟨S1x256, .f32⟩
  | .hbm, ⟨39, _⟩ => ⟨S1x256, .f32⟩
  | .hbm, ⟨40, _⟩ => ⟨S_, .f32⟩
  | .hbm, ⟨41, _⟩ => ⟨S_, .f32⟩
  | .hbm, ⟨42, _⟩ => ⟨S4x256, .f32⟩
  | .hbm, ⟨43, _⟩ => ⟨S1x256, .f32⟩
  | .hbm, ⟨44, _⟩ => ⟨S256, .f32⟩
  | .hbm, ⟨45, _⟩ => ⟨S1x256, .f32⟩
  | .hbm, ⟨46, _⟩ => ⟨S4x256, .f32⟩
  | .hbm, ⟨47, _⟩ => ⟨S4x256, .f32⟩
  | .hbm, ⟨48, _⟩ => ⟨S4x256, .f32⟩
  | .hbm, ⟨49, _⟩ => ⟨S4x256, .f32⟩
  | .hbm, ⟨50, _⟩ => ⟨S_, .f32⟩
  | .hbm, ⟨51, _⟩ => ⟨S256, .f32⟩
  | .hbm, ⟨52, _⟩ => ⟨S1x256, .f32⟩
  | .hbm, ⟨53, _⟩ => ⟨S_, .f32⟩
  | .hbm, ⟨54, _⟩ => ⟨S256, .f32⟩
  | .hbm, ⟨55, _⟩ => ⟨S1x256, .f32⟩
  | .hbm, ⟨56, _⟩ => ⟨S_, .f32⟩
  | .hbm, ⟨57, _⟩ => ⟨S4x256, .f32⟩
  | .hbm, ⟨58, _⟩ => ⟨S_, .f32⟩
  | .hbm, ⟨59, _⟩ => ⟨S_, .f32⟩
  | .hbm, ⟨60, _⟩ => ⟨S4x256, .f32⟩
  | .hbm, ⟨61, _⟩ => ⟨S4x256, .f32⟩
  | .hbm, ⟨62, _⟩ => ⟨S4x256, .f32⟩
  | .hbm, ⟨63, _⟩ => ⟨S4x256, .f32⟩
  | .hbm, ⟨64, _⟩ => ⟨S4x256, .f32⟩
  | .hbm, ⟨65, _⟩ => ⟨S_, .f32⟩
  | .hbm, ⟨66, _⟩ => ⟨S256, .f32⟩
  | .hbm, ⟨67, _⟩ => ⟨S1x256, .f32⟩
  | .hbm, ⟨68, _⟩ => ⟨S1x256, .f32⟩
  | .hbm, ⟨69, _⟩ => ⟨S4x256, .f32⟩
  | .hbm, ⟨70, _⟩ => ⟨S4x256, .f32⟩
  | .hbm, ⟨71, _⟩ => ⟨S_, .f32⟩
  | .hbm, ⟨72, _⟩ => ⟨S256, .f32⟩
  | .hbm, ⟨73, _⟩ => ⟨S4x256, .f32⟩
  | .hbm, ⟨74, _⟩ => ⟨S4x256, .f32⟩
  | .hbm, ⟨75, _⟩ => ⟨S4x256, .f32⟩
  | _, _ => ⟨S4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_call0_call0_cst : Ref sig .tc := ⟨.hbm, 40, rfl⟩
abbrev main_call0_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_v39 : Ref sig .tc := ⟨.hbm, 55, rfl⟩
abbrev main_cst_11 : Ref sig .tc := ⟨.hbm, 56, rfl⟩
abbrev main_v40 : Ref sig .tc := ⟨.hbm, 57, rfl⟩
abbrev main_call1_call0_cst : Ref sig .tc := ⟨.hbm, 58, rfl⟩
abbrev main_call1_call0_v0 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_12 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Attn.lean ====
abbrev S1x2048x8x96 : Shape := ⟨4, ![1, 2048, 8, 96]⟩
abbrev S1x2048x8x64 : Shape := ⟨4, ![1, 2048, 8, 64]⟩
abbrev S1x2048x512 : Shape := ⟨3, ![1, 2048, 512]⟩
abbrev S1x8x2048x96 : Shape := ⟨4, ![1, 8, 2048, 96]⟩
abbrev S1x8x2048x64 : Shape := ⟨4, ![1, 8, 2048, 64]⟩
abbrev S1x8x2048x2048 : Shape := ⟨4, ![1, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x8x2048 : Shape := ⟨3, ![1, 8, 2048]⟩
abbrev S1x8x2048x1 : Shape := ⟨4, ![1, 8, 2048, 1]⟩
abbrev S8x2048x1 : Shape := ⟨3, ![8, 2048, 1]⟩
abbrev S2048x8x96 : Shape := ⟨3, ![2048, 8, 96]⟩
abbrev S2048x8x128 : Shape := ⟨3, ![2048, 8, 128]⟩
abbrev S2048x1024 : Shape := ⟨2, ![2048, 1024]⟩
abbrev S128 : Shape := ⟨1, ![128]⟩
abbrev S1x128 : Shape := ⟨2, ![1, 128]⟩
abbrev S8x128 : Shape := ⟨2, ![8, 128]⟩
abbrev S1024 : Shape := ⟨1, ![1024]⟩
abbrev S2048x8x64 : Shape := ⟨3, ![2048, 8, 64]⟩
abbrev S1x1024 : Shape := ⟨2, ![1, 1024]⟩
abbrev S2048x512 : Shape := ⟨2, ![2048, 512]⟩
abbrev S256x512 : Shape := ⟨2, ![256, 512]⟩
abbrev S4x2048x1 : Shape := ⟨3, ![4, 2048, 1]⟩
abbrev S256x128 : Shape := ⟨2, ![256, 128]⟩
abbrev S256 : Shape := ⟨1, ![256]⟩
abbrev S256x1 : Shape := ⟨2, ![256, 1]⟩
abbrev S1x256x1 : Shape := ⟨3, ![1, 256, 1]⟩
abbrev S512x128 : Shape := ⟨2, ![512, 128]⟩
abbrev S512x256 : Shape := ⟨2, ![512, 256]⟩
abbrev S1x512x1 : Shape := ⟨3, ![1, 512, 1]⟩
abbrev S512x1 : Shape := ⟨2, ![512, 1]⟩
abbrev S256x256 : Shape := ⟨2, ![256, 256]⟩

abbrev nBuf : Space → Nat
  | .hbm => 84
  | .vmem => 19
  | .smem => 0
  | _ => 0

abbrev bufTy : (tb : Table) → Fin (tcTables nBuf tb) → BufTy
  | .hbm, ⟨0, _⟩ => ⟨S1x2048x8x96, .f32⟩
  | .hbm, ⟨1, _⟩ => ⟨S1x2048x8x96, .f32⟩
  | .hbm, ⟨2, _⟩ => ⟨S1x2048x8x64, .f32⟩
  | .hbm, ⟨3, _⟩ => ⟨S1x2048x512, .f32⟩
  | .hbm, ⟨4, _⟩ => ⟨S1x8x2048x96, .f32⟩
  | .hbm, ⟨5, _⟩ => ⟨S1x8x2048x96, .f32⟩
  | .hbm, ⟨6, _⟩ => ⟨S1x8x2048x64, .f32⟩
  | .hbm, ⟨7, _⟩ => ⟨S1x8x2048x2048, .f32⟩
  | .hbm, ⟨8, _⟩ => ⟨S_, .f32⟩
  | .hbm, ⟨9, _⟩ => ⟨S1x8x2048x2048, .f32⟩
  | .hbm, ⟨10, _⟩ => ⟨S1x8x2048x2048, .f32⟩
  | .hbm, ⟨11, _⟩ => ⟨S2048, .i32⟩
  | .hbm, ⟨12, _⟩ => ⟨S2048x1, .i32⟩
  | .hbm, ⟨13, _⟩ => ⟨S2048, .i32⟩
  | .hbm, ⟨14, _⟩ => ⟨S1x2048, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S_, .f32⟩
  | .hbm, ⟨19, _⟩ => ⟨S_, .f32⟩
  | .hbm, ⟨20, _⟩ => ⟨S1x8x2048x2048, .i1⟩
  | .hbm, ⟨21, _⟩ => ⟨S1x8x2048x2048, .f32⟩
  | .hbm, ⟨22, _⟩ => ⟨S1x8x2048x2048, .f32⟩
  | .hbm, ⟨23, _⟩ => ⟨S_, .f32⟩
  | .hbm, ⟨24, _⟩ => ⟨S1x8x2048, .f32⟩
  | .hbm, ⟨25, _⟩ => ⟨S1x8x2048x1, .f32⟩
  | .hbm, ⟨26, _⟩ => ⟨S1x8x2048x2048, .f32⟩
  | .hbm, ⟨27, _⟩ => ⟨S1x8x2048x2048, .f32⟩
  | .hbm, ⟨28, _⟩ => ⟨S1x8x2048x2048, .f32⟩
  | .hbm, ⟨29, _⟩ => ⟨S_, .f32⟩
  | .hbm, ⟨30, _⟩ => ⟨S1x8x2048, .f32⟩
  | .hbm, ⟨31, _⟩ => ⟨S1x8x2048x1, .f32⟩
  | .hbm, ⟨32, _⟩ => ⟨S1x8x2048x2048, .f32⟩
  | .hbm, ⟨33, _⟩ => ⟨S1x8x2048x2048, .f32⟩
  | .hbm, ⟨34, _⟩ => ⟨S1x8x2048x2048, .f32⟩
  | .hbm, ⟨35, _⟩ => ⟨S1x8x2048x2048, .f32⟩
  | .hbm, ⟨36, _⟩ => ⟨S1x8x2048x2048, .f32⟩
  | .hbm, ⟨37, _⟩ => ⟨S1x8x2048x64, .f32⟩
  | .hbm, ⟨38, _⟩ => ⟨S1x2048x8x64, .f32⟩
  | .hbm, ⟨39, _⟩ => ⟨S1x8x2048x1, .f32⟩
  | .hbm, ⟨40, _⟩ => ⟨S1x8x2048x1, .f32⟩
  | .hbm, ⟨41, _⟩ => ⟨S8x2048x1, .f32⟩
  | .hbm, ⟨42, _⟩ => ⟨S2048x8x96, .f32⟩
  | .hbm, ⟨43, _⟩ => ⟨S_, .i32⟩
  | .hbm, ⟨44, _⟩ => ⟨S_, .f32⟩
  | .hbm, ⟨45, _⟩ => ⟨S2048x8x128, .f32⟩
  | .hbm, ⟨46, _⟩ => ⟨S2048x1024, .f32⟩
  | .hbm, ⟨47, _⟩ => ⟨S2048x1024, .bf16⟩
  | .hbm, ⟨48, _⟩ => ⟨S2048x8x96, .f32⟩
  | .hbm, ⟨49, _⟩ => ⟨S_, .i32⟩
  | .hbm, ⟨50, _⟩ => ⟨S_, .f32⟩
  | .hbm, ⟨51, _⟩ => ⟨S2048x8x128, .f32⟩
  | .hbm, ⟨52, _⟩ => ⟨S2048x1024, .f32⟩
  | .hbm, ⟨53, _⟩ => ⟨S2048x1024, .bf16⟩
  | .hbm, ⟨54, _⟩ => ⟨S128, .i32⟩
  | .hbm, ⟨55, _⟩ => ⟨S_, .i32⟩
  | .hbm, ⟨56, _⟩ => ⟨S128, .i32⟩
  | .hbm, ⟨57, _⟩ => ⟨S128, .i1⟩
  | .hbm, ⟨58, _⟩ => ⟨S128, .f32⟩
  | .hbm, ⟨59, _⟩ => ⟨S1x128, .f32⟩
  | .hbm, ⟨60, _⟩ => ⟨S8x128, .f32⟩
  | .hbm, ⟨61, _⟩ => ⟨S1024, .f32⟩
  | .hbm, ⟨62, _⟩ => ⟨S2048x8x64, .f32⟩
  | .hbm, ⟨63, _⟩ => ⟨S_, .i32⟩
  | .hbm, ⟨64, _⟩ => ⟨S_, .f32⟩
  | .hbm, ⟨65, _⟩ => ⟨S2048x8x128, .f32⟩
  | .hbm, ⟨66, _⟩ => ⟨S2048x1024, .f32⟩
  | .hbm, ⟨67, _⟩ => ⟨S1x1024, .f32⟩
  | .hbm, ⟨68, _⟩ => ⟨S2048x1024, .f32⟩
  | .hbm, ⟨69, _⟩ => ⟨S2048x1024, .f32⟩
  | .hbm, ⟨70, _⟩ => ⟨S2048x1024, .bf16⟩
  | .hbm, ⟨71, _⟩ => ⟨S2048x8x64, .f32⟩
  | .hbm, ⟨72, _⟩ => ⟨S_, .i32⟩
  | .hbm, ⟨73, _⟩ => ⟨S_, .f32⟩
  | .hbm, ⟨74, _⟩ => ⟨S2048x8x128, .f32⟩
  | .hbm, ⟨75, _⟩ => ⟨S2048x1024, .f32⟩
  | .hbm, ⟨76, _⟩ => ⟨S2048x8x64, .f32⟩
  | .hbm, ⟨77, _⟩ => ⟨S_, .i32⟩
  | .hbm, ⟨78, _⟩ => ⟨S_, .f32⟩
  | .hbm, ⟨79, _⟩ => ⟨S2048x8x128, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S2048x1024, .f32⟩
  | .local _ .vmem, ⟨0, _⟩ => ⟨S2048x512, .bf16⟩
  | .local _ .vmem, ⟨1, _⟩ => ⟨S2048x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | .local _ .vmem, ⟨9, _⟩ => ⟨S2048x512, .f32⟩
  | .local _ .vmem, ⟨10, _⟩ => ⟨S4x2048x1, .f32⟩
  | .local _ .vmem, ⟨11, _⟩ => ⟨S4x2048x1, .f32⟩
  | .local _ .vmem, ⟨12, _⟩ => ⟨S2048x512, .f32⟩
  | .local _ .vmem, ⟨13, _⟩ => ⟨S2048x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S4x2048x1, .f32⟩
  | _, _ => ⟨S1x2048x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c : Ref sig .tc := ⟨.hbm, 43, rfl⟩
abbrev main_call1_v0 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_3 : Ref sig .tc := ⟨.hbm, 49, rfl⟩
abbrev main_call2_v0 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_4 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_5 : Ref sig .tc := ⟨.hbm, 63, rfl⟩
abbrev main_call3_v0 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_6 : Ref sig .tc := ⟨.hbm, 72, rfl⟩
abbrev main_call4_v0 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_7 : Ref sig .tc := ⟨.hbm, 77, rfl⟩
abbrev main_call5_v0 : Ref sig .tc := ⟨.hbm, 78, rfl⟩
abbrev main_v57 : Ref sig .tc := ⟨.hbm, 79, rfl⟩
abbrev main_v58 : Ref sig .tc := ⟨.hbm, 80, rfl⟩
abbrev main_v59_0 : Ref sig .tc := ⟨.hbm, 81, rfl⟩
abbrev main_v59_1 : Ref sig .tc := ⟨.hbm, 82, rfl⟩
abbrev main_v59_2 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_58 : BitVec 32 := 0#32
  let c8_i32 : BitVec 32 := 8#32
  let v89 : BitVec 32 := Scalar.addi c0_i32_58 c8_i32
  let c1_i32_59 : BitVec 32 := 1#32
  ⟨c0_i32_58, v89, c1_i32_59⟩
def k0_mult1 (k0_t1 : Fin k0_t1_loop.trips) : BitVec 32 :=
  let c0_i32_58 : BitVec 32 := 0#32
  let c1_i32_59 : BitVec 32 := 1#32
  let arg12 : BitVec 32 := Scf.iv c0_i32_58 c1_i32_59 k0_t1
  let c256_i32_61 : BitVec 32 := 256#32
  let v90 : BitVec 32 := Scalar.muli arg12 c256_i32_61
  v90
def k0_off1 (k0_t1 : Fin k0_t1_loop.trips) : Fin 2 → Nat :=
  let c0_i32_58 : BitVec 32 := 0#32
  let c1_i32_59 : BitVec 32 := 1#32
  let arg12 : BitVec 32 := Scf.iv c0_i32_58 c1_i32_59 k0_t1
  let c256_i32_61 : BitVec 32 := 256#32
  let v90 : BitVec 32 := Scalar.muli arg12 c256_i32_61
  let v91 : BitVec 32 := v90
  let v92 : Index := Scalar.indexCast v91
  let c0_62 : Index := 0#32
  ![v92.toNat, 0]
def k0_off2 (k0_t1 : Fin k0_t1_loop.trips) : Fin 3 → Nat :=
  let c0_65 : Index := 0#32
  let c0_i32_58 : BitVec 32 := 0#32
  let c1_i32_59 : BitVec 32 := 1#32
  let arg12 : BitVec 32 := Scf.iv c0_i32_58 c1_i32_59 k0_t1
  let c256_i32_61 : BitVec 32 := 256#32
  let v90 : BitVec 32 := Scalar.muli arg12 c256_i32_61
  let v91 : BitVec 32 := v90
  let v101 : Index := Scalar.indexCast v91
  let c0_66 : Index := 0#32
  ![0, v101.toNat, 0]
def k0_off3 (k0_t1 : Fin k0_t1_loop.trips) : Fin 2 → Nat :=
  let c0_i32_58 : BitVec 32 := 0#32
  let c1_i32_59 : BitVec 32 := 1#32
  let arg12 : BitVec 32 := Scf.iv c0_i32_58 c1_i32_59 k0_t1
  let c256_i32_61 : BitVec 32 := 256#32
  let v90 : BitVec 32 := Scalar.muli arg12 c256_i32_61
  let v91 : BitVec 32 := v90
  let v105 : Index := Scalar.indexCast v91
  let c128_67 : Index := 128#32
  ![v105.toNat, 128]
def k0_off4 (k0_t1 : Fin k0_t1_loop.trips) : Fin 3 → Nat :=
  let c1 : Index := 1#32
  let c0_i32_58 : BitVec 32 := 0#32
  let c1_i32_59 : BitVec 32 := 1#32
  let arg12 : BitVec 32 := Scf.iv c0_i32_58 c1_i32_59 k0_t1
  let c256_i32_61 : BitVec 32 := 256#32
  let v90 : BitVec 32 := Scalar.muli arg12 c256_i32_61
  let v91 : BitVec 32 := v90
  let v114 : Index := Scalar.indexCast v91
  let c0_70 : Index := 0#32
  ![1, v114.toNat, 0]
def k0_off5 (k0_t1 : Fin k0_t1_loop.trips) : Fin 2 → Nat :=
  let c0_i32_58 : BitVec 32 := 0#32
  let c1_i32_59 : BitVec 32 := 1#32
  let arg12 : BitVec 32 := Scf.iv c0_i32_58 c1_i32_59 k0_t1
  let c256_i32_61 : BitVec 32 := 256#32
  let v90 : BitVec 32 := Scalar.muli arg12 c256_i32_61
  let v91 : BitVec 32 := v90
  let v118 : Index := Scalar.indexCast v91
  let c256_71 : Index := 256#32
  ![v118.toNat, 256]
def k0_off6 (k0_t1 : Fin k0_t1_loop.trips) : Fin 3 → Nat :=
  let c2 : Index := 2#32
  let c0_i32_58 : BitVec 32 := 0#32
  let c1_i32_59 : BitVec 32 := 1#32
  let arg12 : BitVec 32 := Scf.iv c0_i32_58 c1_i32_59 k0_t1
  let c256_i32_61 : BitVec 32 := 256#32
  let v90 : BitVec 32 := Scalar.muli arg12 c256_i32_61
  let v91 : BitVec 32 := v90
  let v127 : Index := Scalar.indexCast v91
  let c0_74 : Index := 0#32
  ![2, v127.toNat, 0]
def k0_off7 (k0_t1 : Fin k0_t1_loop.trips) : Fin 2 → Nat :=
  let c0_i32_58 : BitVec 32 := 0#32
  let c1_i32_59 : BitVec 32 := 1#32
  let arg12 : BitVec 32 := Scf.iv c0_i32_58 c1_i32_59 k0_t1
  let c256_i32_61 : BitVec 32 := 256#32
  let v90 : BitVec 32 := Scalar.muli arg12 c256_i32_61
  let v91 : BitVec 32 := v90
  let v131 : Index := Scalar.indexCast v91
  let c384_75 : Index := 384#32
  ![v131.toNat, 384]
def k0_off8 (k0_t1 : Fin k0_t1_loop.trips) : Fin 3 → Nat :=
  let c3 : Index := 3#32
  let c0_i32_58 : BitVec 32 := 0#32
  let c1_i32_59 : BitVec 32 := 1#32
  let arg12 : BitVec 32 := Scf.iv c0_i32_58 c1_i32_59 k0_t1
  let c256_i32_61 : BitVec 32 := 256#32
  let v90 : BitVec 32 := Scalar.muli arg12 c256_i32_61
  let v91 : BitVec 32 := v90
  let v140 : Index := Scalar.indexCast v91
  let c0_78 : Index := 0#32
  ![3, v140.toNat, 0]
def k0_cond2 (i : grid0.Coords) : BitVec 1 :=
  let arg1 : BitVec 32 := BitVec.ofNat 32 (i 1).val
  let c2_i32_19 : BitVec 32 := 2#32
  let c0_i32_20 : BitVec 32 := 0#32
  let v38 : BitVec 1 := Scalar.cmpi .eq c2_i32_19 c0_i32_20
  let c1_i32_21 : BitVec 32 := 1#32
  let v39 : BitVec 32 := Scalar.select v38 c1_i32_21 c2_i32_19
  let v40 : BitVec 32 := Scalar.remsi arg1 v39
  let c0_i32_23 : BitVec 32 := 0#32
  let v42 : BitVec 1 := Scalar.cmpi .slt v40 c0_i32_23
  let c0_i32_24 : BitVec 32 := 0#32
  let v43 : BitVec 1 := Scalar.cmpi .slt v39 c0_i32_24
  let v44 : BitVec 1 := Scalar.xori v42 v43
  let c0_i32_22 : BitVec 32 := 0#32
  let v41 : BitVec 1 := Scalar.cmpi .ne v40 c0_i32_22
  let v45 : BitVec 1 := Scalar.andi v44 v41
  let v46 : BitVec 32 := Scalar.addi v40 v39
  let v47 : BitVec 32 := Scalar.select v45 v46 v40
  let c0_i32_25 : BitVec 32 := 0#32
  let v48 : BitVec 1 := Scalar.cmpi .eq v47 c0_i32_25
  let v49 : BitVec 32 := Scalar.extui v48
  let c0_i32_26 : BitVec 32 := 0#32
  let v50 : BitVec 1 := Scalar.cmpi .ne v49 c0_i32_26
  v50

def k0_mult2 (i : grid0.Coords) : BitVec 32 :=
  let arg1 : BitVec 32 := BitVec.ofNat 32 (i 1).val
  let c256_i32_55 : BitVec 32 := 256#32
  let v87 : BitVec 32 := Scalar.muli arg1 c256_i32_55
  v87
def k0_mult3 (i : grid0.Coords) : BitVec 32 :=
  let arg1 : BitVec 32 := BitVec.ofNat 32 (i 1).val
  let c256_i32_56 : BitVec 32 := 256#32
  let v89 : BitVec 32 := Scalar.muli arg1 c256_i32_56
  v89
def k0_off9 (i : grid0.Coords) : Fin 2 → Nat :=
  let arg1 : BitVec 32 := BitVec.ofNat 32 (i 1).val
  let c256_i32_56 : BitVec 32 := 256#32
  let v89 : BitVec 32 := Scalar.muli arg1 c256_i32_56
  let v90 : BitVec 32 := v89
  let v91 : Index := Scalar.indexCast v90
  let c0_57 : Index := 0#32
  ![v91.toNat, 0]
def k0_off10 (i : grid0.Coords) : Fin 2 → Nat :=
  let arg1 : BitVec 32 := BitVec.ofNat 32 (i 1).val
  let c256_i32_56 : BitVec 32 := 256#32
  let v89 : BitVec 32 := Scalar.muli arg1 c256_i32_56
  let v90 : BitVec 32 := v89
  let v95 : Index := Scalar.indexCast v90
  let c128_59 : Index := 128#32
  ![v95.toNat, 128]
def k0_off11 (i : grid0.Coords) : Fin 2 → Nat :=
  let arg1 : BitVec 32 := BitVec.ofNat 32 (i 1).val
  let c256_i32_56 : BitVec 32 := 256#32
  let v89 : BitVec 32 := Scalar.muli arg1 c256_i32_56
  let v90 : BitVec 32 := v89
  let v99 : Index := Scalar.indexCast v90
  let c256_61 : Index := 256#32
  ![v99.toNat, 256]
def k0_off12 (i : grid0.Coords) : Fin 2 → Nat :=
  let arg1 : BitVec 32 := BitVec.ofNat 32 (i 1).val
  let c256_i32_56 : BitVec 32 := 256#32
  let v89 : BitVec 32 := Scalar.muli arg1 c256_i32_56
  let v90 : BitVec 32 := v89
  let v103 : Index := Scalar.indexCast v90
  let c384_63 : Index := 384#32
  ![v103.toNat, 384]
def k0_off13 (i : grid0.Coords) : Fin 3 → Nat :=
  let c0_69 : Index := 0#32
  let arg1 : BitVec 32 := BitVec.ofNat 32 (i 1).val
  let c256_i32_55 : BitVec 32 := 256#32
  let v87 : BitVec 32 := Scalar.muli arg1 c256_i32_55
  let v88 : BitVec 32 := v87
  let v120 : Index := Scalar.indexCast v88
  let c0_70 : Index := 0#32
  ![0, v120.toNat, 0]
def k0_off14 (i : grid0.Coords) : Fin 3 → Nat :=
  let c1 : Index := 1#32
  let arg1 : BitVec 32 := BitVec.ofNat 32 (i 1).val
  let c256_i32_55 : BitVec 32 := 256#32
  let v87 : BitVec 32 := Scalar.muli arg1 c256_i32_55
  let v88 : BitVec 32 := v87
  let v162 : Index := Scalar.indexCast v88
  let c0_84 : Index := 0#32
  ![1, v162.toNat, 0]
def k0_off15 (i : grid0.Coords) : Fin 3 → Nat :=
  let c2 : Index := 2#32
  let arg1 : BitVec 32 := BitVec.ofNat 32 (i 1).val
  let c256_i32_55 : BitVec 32 := 256#32
  let v87 : BitVec 32 := Scalar.muli arg1 c256_i32_55
  let v88 : BitVec 32 := v87
  let v204 : Index := Scalar.indexCast v88
  let c0_98 : Index := 0#32
  ![2, v204.toNat, 0]
def k0_off16 (i : grid0.Coords) : Fin 3 → Nat :=
  let c3 : Index := 3#32
  let arg1 : BitVec 32 := BitVec.ofNat 32 (i 1).val
  let c256_i32_55 : BitVec 32 := 256#32
  let v87 : BitVec 32 := Scalar.muli arg1 c256_i32_55
  let v88 : BitVec 32 := v87
  let v246 : Index := Scalar.indexCast v88
  let c0_112 : Index := 0#32
  ![3, v246.toNat, 0]
def k0_mult4 (i : grid0.Coords) : BitVec 32 :=
  let arg1 : BitVec 32 := BitVec.ofNat 32 (i 1).val
  let c256_i32_55 : BitVec 32 := 256#32
  let v87 : BitVec 32 := Scalar.muli arg1 c256_i32_55
  v87
def k0_mult5 (i : grid0.Coords) : BitVec 32 :=
  let arg1 : BitVec 32 := BitVec.ofNat 32 (i 1).val
  let c256_i32_56 : BitVec 32 := 256#32
  let v89 : BitVec 32 := Scalar.muli arg1 c256_i32_56
  v89
def k0_off17 (i : grid0.Coords) : Fin 2 → Nat :=
  let arg1 : BitVec 32 := BitVec.ofNat 32 (i 1).val
  let c256_i32_56 : BitVec 32 := 256#32
  let v89 : BitVec 32 := Scalar.muli arg1 c256_i32_56
  let v90 : BitVec 32 := v89
  let v91 : Index := Scalar.indexCast v90
  let c0_57 : Index := 0#32
  ![v91.toNat, 0]
def k0_off18 (i : grid0.Coords) : Fin 2 → Nat :=
  let arg1 : BitVec 32 := BitVec.ofNat 32 (i 1).val
  let c256_i32_56 : BitVec 32 := 256#32
  let v89 : BitVec 32 := Scalar.muli arg1 c256_i32_56
  let v90 : BitVec 32 := v89
  let v95 : Index := Scalar.indexCast v90
  let c128_59 : Index := 128#32
  ![v95.toNat, 128]
def k0_off19 (i : grid0.Coords) : Fin 2 → Nat :=
  let arg1 : BitVec 32 := BitVec.ofNat 32 (i 1).val
  let c256_i32_56 : BitVec 32 := 256#32
  let v89 : BitVec 32 := Scalar.muli arg1 c256_i32_56
  let v90 : BitVec 32 := v89
  let v99 : Index := Scalar.indexCast v90
  let c256_61 : Index := 256#32
  ![v99.toNat, 256]
def k0_off20 (i : grid0.Coords) : Fin 2 → Nat :=
  let arg1 : BitVec 32 := BitVec.ofNat 32 (i 1).val
  let c256_i32_56 : BitVec 32 := 256#32
  let v89 : BitVec 32 := Scalar.muli arg1 c256_i32_56
  let v90 : BitVec 32 := v89
  let v103 : Index := Scalar.indexCast v90
  let c384_63 : Index := 384#32
  ![v103.toNat, 384]
def k0_off21 (i : grid0.Coords) : Fin 3 → Nat :=
  let c0_69 : Index := 0#32
  let arg1 : BitVec 32 := BitVec.ofNat 32 (i 1).val
  let c256_i32_55 : BitVec 32 := 256#32
  let v87 : BitVec 32 := Scalar.muli arg1 c256_i32_55
  let v88 : BitVec 32 := v87
  let v120 : Index := Scalar.indexCast v88
  let c0_70 : Index := 0#32
  ![0, v120.toNat, 0]
def k0_off22 (i : grid0.Coords) : Fin 3 → Nat :=
  let c1 : Index := 1#32
  let arg1 : BitVec 32 := BitVec.ofNat 32 (i 1).val
  let c256_i32_55 : BitVec 32 := 256#32
  let v87 : BitVec 32 := Scalar.muli arg1 c256_i32_55
  let v88 : BitVec 32 := v87
  let v162 : Index := Scalar.indexCast v88
  let c0_84 : Index := 0#32
  ![1, v162.toNat, 0]
def k0_off23 (i : grid0.Coords) : Fin 3 → Nat :=
  let c2 : Index := 2#32
  let arg1 : BitVec 32 := BitVec.ofNat 32 (i 1).val
  let c256_i32_55 : BitVec 32 := 256#32
  let v87 : BitVec 32 := Scalar.muli arg1 c256_i32_55
  let v88 : BitVec 32 := v87
  let v204 : Index := Scalar.indexCast v88
  let c0_98 : Index := 0#32
  ![2, v204.toNat, 0]
def k0_off24 (i : grid0.Coords) : Fin 3 → Nat :=
  let c3 : Index := 3#32
  let arg1 : BitVec 32 := BitVec.ofNat 32 (i 1).val
  let c256_i32_55 : BitVec 32 := 256#32
  let v87 : BitVec 32 := Scalar.muli arg1 c256_i32_55
  let v88 : BitVec 32 := v87
  let v246 : Index := Scalar.indexCast v88
  let c0_112 : Index := 0#32
  ![3, v246.toNat, 0]
@[reducible] def k0_t2_loop (i : grid0.Coords) : Scf.Loop 32 :=
  let arg1 : BitVec 32 := BitVec.ofNat 32 (i 1).val
  let c1_i32_122 : BitVec 32 := 1#32
  let v277 : BitVec 32 := Scalar.addi arg1 c1_i32_122
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c2_i32_123 : BitVec 32 := 2#32
  let v278 : BitVec 32 := Scalar.muli v37 c2_i32_123
  let v279 : BitVec 32 := Scalar.subi v278 v277
  let c1_i32_124 : BitVec 32 := 1#32
  let v281 : BitVec 32 := Scalar.divsi v279 c1_i32_124
  let v282 : BitVec 32 := Scalar.muli v281 c1_i32_124
  let v283 : BitVec 32 := Scalar.addi v277 v282
  let c1_i32_125 : BitVec 32 := 1#32
  ⟨v277, v283, c1_i32_125⟩
def k0_mult6 (i : grid0.Coords) (k0_t2 : Fin (k0_t2_loop i).trips) : BitVec 32 :=
  let arg1 : BitVec 32 := BitVec.ofNat 32 (i 1).val
  let c1_i32_122 : BitVec 32 := 1#32
  let v277 : BitVec 32 := Scalar.addi arg1 c1_i32_122
  let c1_i32_125 : BitVec 32 := 1#32
  let arg12 : BitVec 32 := Scf.iv v277 c1_i32_125 k0_t2
  let c256_i32_127 : BitVec 32 := 256#32
  let v286 : BitVec 32 := Scalar.muli arg12 c256_i32_127
  v286
def k0_mult7 (i : grid0.Coords) (k0_t2 : Fin (k0_t2_loop i).trips) : BitVec 32 :=
  let arg1 : BitVec 32 := BitVec.ofNat 32 (i 1).val
  let c1_i32_122 : BitVec 32 := 1#32
  let v277 : BitVec 32 := Scalar.addi arg1 c1_i32_122
  let c1_i32_125 : BitVec 32 := 1#32
  let arg12 : BitVec 32 := Scf.iv v277 c1_i32_125 k0_t2
  let c256_i32_128 : BitVec 32 := 256#32
  let v288 : BitVec 32 := Scalar.muli arg12 c256_i32_128
  v288
def k0_off25 (i : grid0.Coords) (k0_t2 : Fin (k0_t2_loop i).trips) : Fin 2 → Nat :=
  let arg1 : BitVec 32 := BitVec.ofNat 32 (i 1).val
  let c1_i32_122 : BitVec 32 := 1#32
  let v277 : BitVec 32 := Scalar.addi arg1 c1_i32_122
  let c1_i32_125 : BitVec 32 := 1#32
  let arg12 : BitVec 32 := Scf.iv v277 c1_i32_125 k0_t2
  let c256_i32_128 : BitVec 32 := 256#32
  let v288 : BitVec 32 := Scalar.muli arg12 c256_i32_128
  let v289 : BitVec 32 := v288
  let v290 : Index := Scalar.indexCast v289
  let c0_129 : Index := 0#32
  ![v290.toNat, 0]
def k0_off26 (i : grid0.Coords) (k0_t2 : Fin (k0_t2_loop i).trips) : Fin 2 → Nat :=
  let arg1 : BitVec 32 := BitVec.ofNat 32 (i 1).val
  let c1_i32_122 : BitVec 32 := 1#32
  let v277 : BitVec 32 := Scalar.addi arg1 c1_i32_122
  let c1_i32_125 : BitVec 32 := 1#32
  let arg12 : BitVec 32 := Scf.iv v277 c1_i32_125 k0_t2
  let c256_i32_128 : BitVec 32 := 256#32
  let v288 : BitVec 32 := Scalar.muli arg12 c256_i32_128
  let v289 : BitVec 32 := v288
  let v294 : Index := Scalar.indexCast v289
  let c128_131 : Index := 128#32
  ![v294.toNat, 128]
def k0_off27 (i : grid0.Coords) (k0_t2 : Fin (k0_t2_loop i).trips) : Fin 2 → Nat :=
  let arg1 : BitVec 32 := BitVec.ofNat 32 (i 1).val
  let c1_i32_122 : BitVec 32 := 1#32
  let v277 : BitVec 32 := Scalar.addi arg1 c1_i32_122
  let c1_i32_125 : BitVec 32 := 1#32
  let arg12 : BitVec 32 := Scf.iv v277 c1_i32_125 k0_t2
  let c256_i32_128 : BitVec 32 := 256#32
  let v288 : BitVec 32 := Scalar.muli arg12 c256_i32_128
  let v289 : BitVec 32 := v288
  let v298 : Index := Scalar.indexCast v289
  let c256_133 : Index := 256#32
  ![v298.toNat, 256]
def k0_off28 (i : grid0.Coords) (k0_t2 : Fin (k0_t2_loop i).trips) : Fin 2 → Nat :=
  let arg1 : BitVec 32 := BitVec.ofNat 32 (i 1).val
  let c1_i32_122 : BitVec 32 := 1#32
  let v277 : BitVec 32 := Scalar.addi arg1 c1_i32_122
  let c1_i32_125 : BitVec 32 := 1#32
  let arg12 : BitVec 32 := Scf.iv v277 c1_i32_125 k0_t2
  let c256_i32_128 : BitVec 32 := 256#32
  let v288 : BitVec 32 := Scalar.muli arg12 c256_i32_128
  let v289 : BitVec 32 := v288
  let v302 : Index := Scalar.indexCast v289
  let c384_135 : Index := 384#32
  ![v302.toNat, 384]
def k0_off29 (i : grid0.Coords) (k0_t2 : Fin (k0_t2_loop i).trips) : Fin 3 → Nat :=
  let c0_140 : Index := 0#32
  let arg1 : BitVec 32 := BitVec.ofNat 32 (i 1).val
  let c1_i32_122 : BitVec 32 := 1#32
  let v277 : BitVec 32 := Scalar.addi arg1 c1_i32_122
  let c1_i32_125 : BitVec 32 := 1#32
  let arg12 : BitVec 32 := Scf.iv v277 c1_i32_125 k0_t2
  let c256_i32_127 : BitVec 32 := 256#32
  let v286 : BitVec 32 := Scalar.muli arg12 c256_i32_127
  let v287 : BitVec 32 := v286
  let v314 : Index := Scalar.indexCast v287
  let c0_141 : Index := 0#32
  ![0, v314.toNat, 0]
def k0_off30 (i : grid0.Coords) (k0_t2 : Fin (k0_t2_loop i).trips) : Fin 3 → Nat :=
  let c1_154 : Index := 1#32
  let arg1 : BitVec 32 := BitVec.ofNat 32 (i 1).val
  let c1_i32_122 : BitVec 32 := 1#32
  let v277 : BitVec 32 := Scalar.addi arg1 c1_i32_122
  let c1_i32_125 : BitVec 32 := 1#32
  let arg12 : BitVec 32 := Scf.iv v277 c1_i32_125 k0_t2
  let c256_i32_127 : BitVec 32 := 256#32
  let v286 : BitVec 32 := Scalar.muli arg12 c256_i32_127
  let v287 : BitVec 32 := v286
  let v353 : Index := Scalar.indexCast v287
  let c0_155 : Index := 0#32
  ![1, v353.toNat, 0]
def k0_off31 (i : grid0.Coords) (k0_t2 : Fin (k0_t2_loop i).trips) : Fin 3 → Nat :=
  let c2_168 : Index := 2#32
  let arg1 : BitVec 32 := BitVec.ofNat 32 (i 1).val
  let c1_i32_122 : BitVec 32 := 1#32
  let v277 : BitVec 32 := Scalar.addi arg1 c1_i32_122
  let c1_i32_125 : BitVec 32 := 1#32
  let arg12 : BitVec 32 := Scf.iv v277 c1_i32_125 k0_t2
  let c256_i32_127 : BitVec 32 := 256#32
  let v286 : BitVec 32 := Scalar.muli arg12 c256_i32_127
  let v287 : BitVec 32 := v286
  let v392 : Index := Scalar.indexCast v287
  let c0_169 : Index := 0#32
  ![2, v392.toNat, 0]
def k0_off32 (i : grid0.Coords) (k0_t2 : Fin (k0_t2_loop i).trips) : Fin 3 → Nat :=
  let c3_182 : Index := 3#32
  let arg1 : BitVec 32 := BitVec.ofNat 32 (i 1).val
  let c1_i32_122 : BitVec 32 := 1#32
  let v277 : BitVec 32 := Scalar.addi arg1 c1_i32_122
  let c1_i32_125 : BitVec 32 := 1#32
  let arg12 : BitVec 32 := Scf.iv v277 c1_i32_125 k0_t2
  let c256_i32_127 : BitVec 32 := 256#32
  let v286 : BitVec 32 := Scalar.muli arg12 c256_i32_127
  let v287 : BitVec 32 := v286
  let v431 : Index := Scalar.indexCast v287
  let c0_183 : Index := 0#32
  ![3, v431.toNat, 0]
@[reducible] def k0_t3_loop (i : grid0.Coords) : Scf.Loop 32 :=
  let arg1 : BitVec 32 := BitVec.ofNat 32 (i 1).val
  let c1_i32_122 : BitVec 32 := 1#32
  let v277 : BitVec 32 := Scalar.addi arg1 c1_i32_122
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c2_i32_123 : BitVec 32 := 2#32
  let v278 : BitVec 32 := Scalar.muli v37 c2_i32_123
  let v279 : BitVec 32 := Scalar.subi v278 v277
  let c1_i32_124 : BitVec 32 := 1#32
  let v281 : BitVec 32 := Scalar.divsi v279 c1_i32_124
  let v282 : BitVec 32 := Scalar.muli v281 c1_i32_124
  let v283 : BitVec 32 := Scalar.addi v277 v282
  let v280 : BitVec 32 := Scalar.addi v277 v279
  let c1_i32_126 : BitVec 32 := 1#32
  ⟨v283, v280, c1_i32_126⟩
def k0_mult8 (i : grid0.Coords) (k0_t3 : Fin (k0_t3_loop i).trips) : BitVec 32 :=
  let arg1 : BitVec 32 := BitVec.ofNat 32 (i 1).val
  let c1_i32_122 : BitVec 32 := 1#32
  let v277 : BitVec 32 := Scalar.addi arg1 c1_i32_122
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c2_i32_123 : BitVec 32 := 2#32
  let v278 : BitVec 32 := Scalar.muli v37 c2_i32_123
  let v279 : BitVec 32 := Scalar.subi v278 v277
  let c1_i32_124 : BitVec 32 := 1#32
  let v281 : BitVec 32 := Scalar.divsi v279 c1_i32_124
  let v282 : BitVec 32 := Scalar.muli v281 c1_i32_124
  let v283 : BitVec 32 := Scalar.addi v277 v282
  let c1_i32_126 : BitVec 32 := 1#32
  let arg12 : BitVec 32 := Scf.iv v283 c1_i32_126 k0_t3
  let c256_i32_127 : BitVec 32 := 256#32
  let v286 : BitVec 32 := Scalar.muli arg12 c256_i32_127
  v286
def k0_mult9 (i : grid0.Coords) (k0_t3 : Fin (k0_t3_loop i).trips) : BitVec 32 :=
  let arg1 : BitVec 32 := BitVec.ofNat 32 (i 1).val
  let c1_i32_122 : BitVec 32 := 1#32
  let v277 : BitVec 32 := Scalar.addi arg1 c1_i32_122
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c2_i32_123 : BitVec 32 := 2#32
  let v278 : BitVec 32 := Scalar.muli v37 c2_i32_123
  let v279 : BitVec 32 := Scalar.subi v278 v277
  let c1_i32_124 : BitVec 32 := 1#32
  let v281 : BitVec 32 := Scalar.divsi v279 c1_i32_124
  let v282 : BitVec 32 := Scalar.muli v281 c1_i32_124
  let v283 : BitVec 32 := Scalar.addi v277 v282
  let c1_i32_126 : BitVec 32 := 1#32
  let arg12 : BitVec 32 := Scf.iv v283 c1_i32_126 k0_t3
  let c256_i32_128 : BitVec 32 := 256#32
  let v288 : BitVec 32 := Scalar.muli arg12 c256_i32_128
  v288
def k0_off33 (i : grid0.Coords) (k0_t3 : Fin (k0_t3_loop i).trips) : Fin 2 → Nat :=
  let arg1 : BitVec 32 := BitVec.ofNat 32 (i 1).val
  let c1_i32_122 : BitVec 32 := 1#32
  let v277 : BitVec 32 := Scalar.addi arg1 c1_i32_122
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c2_i32_123 : BitVec 32 := 2#32
  let v278 : BitVec 32 := Scalar.muli v37 c2_i32_123
  let v279 : BitVec 32 := Scalar.subi v278 v277
  let c1_i32_124 : BitVec 32 := 1#32
  let v281 : BitVec 32 := Scalar.divsi v279 c1_i32_124
  let v282 : BitVec 32 := Scalar.muli v281 c1_i32_124
  let v283 : BitVec 32 := Scalar.addi v277 v282
  let c1_i32_126 : BitVec 32 := 1#32
  let arg12 : BitVec 32 := Scf.iv v283 c1_i32_126 k0_t3
  let c256_i32_128 : BitVec 32 := 256#32
  let v288 : BitVec 32 := Scalar.muli arg12 c256_i32_128
  let v289 : BitVec 32 := v288
  let v290 : Index := Scalar.indexCast v289
  let c0_129 : Index := 0#32
  ![v290.toNat, 0]
def k0_off34 (i : grid0.Coords) (k0_t3 : Fin (k0_t3_loop i).trips) : Fin 2 → Nat :=
  let arg1 : BitVec 32 := BitVec.ofNat 32 (i 1).val
  let c1_i32_122 : BitVec 32 := 1#32
  let v277 : BitVec 32 := Scalar.addi arg1 c1_i32_122
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c2_i32_123 : BitVec 32 := 2#32
  let v278 : BitVec 32 := Scalar.muli v37 c2_i32_123
  let v279 : BitVec 32 := Scalar.subi v278 v277
  let c1_i32_124 : BitVec 32 := 1#32
  let v281 : BitVec 32 := Scalar.divsi v279 c1_i32_124
  let v282 : BitVec 32 := Scalar.muli v281 c1_i32_124
  let v283 : BitVec 32 := Scalar.addi v277 v282
  let c1_i32_126 : BitVec 32 := 1#32
  let arg12 : BitVec 32 := Scf.iv v283 c1_i32_126 k0_t3
  let c256_i32_128 : BitVec 32 := 256#32
  let v288 : BitVec 32 := Scalar.muli arg12 c256_i32_128
  let v289 : BitVec 32 := v288
  let v294 : Index := Scalar.indexCast v289
  let c128_131 : Index := 128#32
  ![v294.toNat, 128]
def k0_off35 (i : grid0.Coords) (k0_t3 : Fin (k0_t3_loop i).trips) : Fin 2 → Nat :=
  let arg1 : BitVec 32 := BitVec.ofNat 32 (i 1).val
  let c1_i32_122 : BitVec 32 := 1#32
  let v277 : BitVec 32 := Scalar.addi arg1 c1_i32_122
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c2_i32_123 : BitVec 32 := 2#32
  let v278 : BitVec 32 := Scalar.muli v37 c2_i32_123
  let v279 : BitVec 32 := Scalar.subi v278 v277
  let c1_i32_124 : BitVec 32 := 1#32
  let v281 : BitVec 32 := Scalar.divsi v279 c1_i32_124
  let v282 : BitVec 32 := Scalar.muli v281 c1_i32_124
  let v283 : BitVec 32 := Scalar.addi v277 v282
  let c1_i32_126 : BitVec 32 := 1#32
  let arg12 : BitVec 32 := Scf.iv v283 c1_i32_126 k0_t3
  let c256_i32_128 : BitVec 32 := 256#32
  let v288 : BitVec 32 := Scalar.muli arg12 c256_i32_128
  let v289 : BitVec 32 := v288
  let v298 : Index := Scalar.indexCast v289
  let c256_133 : Index := 256#32
  ![v298.toNat, 256]
def k0_off36 (i : grid0.Coords) (k0_t3 : Fin (k0_t3_loop i).trips) : Fin 2 → Nat :=
  let arg1 : BitVec 32 := BitVec.ofNat 32 (i 1).val
  let c1_i32_122 : BitVec 32 := 1#32
  let v277 : BitVec 32 := Scalar.addi arg1 c1_i32_122
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c2_i32_123 : BitVec 32 := 2#32
  let v278 : BitVec 32 := Scalar.muli v37 c2_i32_123
  let v279 : BitVec 32 := Scalar.subi v278 v277
  let c1_i32_124 : BitVec 32 := 1#32
  let v281 : BitVec 32 := Scalar.divsi v279 c1_i32_124
  let v282 : BitVec 32 := Scalar.muli v281 c1_i32_124
  let v283 : BitVec 32 := Scalar.addi v277 v282
  let c1_i32_126 : BitVec 32 := 1#32
  let arg12 : BitVec 32 := Scf.iv v283 c1_i32_126 k0_t3
  let c256_i32_128 : BitVec 32 := 256#32
  let v288 : BitVec 32 := Scalar.muli arg12 c256_i32_128
  let v289 : BitVec 32 := v288
  let v302 : Index := Scalar.indexCast v289
  let c384_135 : Index := 384#32
  ![v302.toNat, 384]
def k0_off37 (i : grid0.Coords) (k0_t3 : Fin (k0_t3_loop i).trips) : Fin 3 → Nat :=
  let c0_140 : Index := 0#32
  let arg1 : BitVec 32 := BitVec.ofNat 32 (i 1).val
  let c1_i32_122 : BitVec 32 := 1#32
  let v277 : BitVec 32 := Scalar.addi arg1 c1_i32_122
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c2_i32_123 : BitVec 32 := 2#32
  let v278 : BitVec 32 := Scalar.muli v37 c2_i32_123
  let v279 : BitVec 32 := Scalar.subi v278 v277
  let c1_i32_124 : BitVec 32 := 1#32
  let v281 : BitVec 32 := Scalar.divsi v279 c1_i32_124
  let v282 : BitVec 32 := Scalar.muli v281 c1_i32_124
  let v283 : BitVec 32 := Scalar.addi v277 v282
  let c1_i32_126 : BitVec 32 := 1#32
  let arg12 : BitVec 32 := Scf.iv v283 c1_i32_126 k0_t3
  let c256_i32_127 : BitVec 32 := 256#32
  let v286 : BitVec 32 := Scalar.muli arg12 c256_i32_127
  let v287 : BitVec 32 := v286
  let v314 : Index := Scalar.indexCast v287
  let c0_141 : Index := 0#32
  ![0, v314.toNat, 0]
def k0_off38 (i : grid0.Coords) (k0_t3 : Fin (k0_t3_loop i).trips) : Fin 3 → Nat :=
  let c1_154 : Index := 1#32
  let arg1 : BitVec 32 := BitVec.ofNat 32 (i 1).val
  let c1_i32_122 : BitVec 32 := 1#32
  let v277 : BitVec 32 := Scalar.addi arg1 c1_i32_122
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c2_i32_123 : BitVec 32 := 2#32
  let v278 : BitVec 32 := Scalar.muli v37 c2_i32_123
  let v279 : BitVec 32 := Scalar.subi v278 v277
  let c1_i32_124 : BitVec 32 := 1#32
  let v281 : BitVec 32 := Scalar.divsi v279 c1_i32_124
  let v282 : BitVec 32 := Scalar.muli v281 c1_i32_124
  let v283 : BitVec 32 := Scalar.addi v277 v282
  let c1_i32_126 : BitVec 32 := 1#32
  let arg12 : BitVec 32 := Scf.iv v283 c1_i32_126 k0_t3
  let c256_i32_127 : BitVec 32 := 256#32
  let v286 : BitVec 32 := Scalar.muli arg12 c256_i32_127
  let v287 : BitVec 32 := v286
  let v353 : Index := Scalar.indexCast v287
  let c0_155 : Index := 0#32
  ![1, v353.toNat, 0]
def k0_off39 (i : grid0.Coords) (k0_t3 : Fin (k0_t3_loop i).trips) : Fin 3 → Nat :=
  let c2_168 : Index := 2#32
  let arg1 : BitVec 32 := BitVec.ofNat 32 (i 1).val
  let c1_i32_122 : BitVec 32 := 1#32
  let v277 : BitVec 32 := Scalar.addi arg1 c1_i32_122
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c2_i32_123 : BitVec 32 := 2#32
  let v278 : BitVec 32 := Scalar.muli v37 c2_i32_123
  let v279 : BitVec 32 := Scalar.subi v278 v277
  let c1_i32_124 : BitVec 32 := 1#32
  let v281 : BitVec 32 := Scalar.divsi v279 c1_i32_124
  let v282 : BitVec 32 := Scalar.muli v281 c1_i32_124
  let v283 : BitVec 32 := Scalar.addi v277 v282
  let c1_i32_126 : BitVec 32 := 1#32
  let arg12 : BitVec 32 := Scf.iv v283 c1_i32_126 k0_t3
  let c256_i32_127 : BitVec 32 := 256#32
  let v286 : BitVec 32 := Scalar.muli arg12 c256_i32_127
  let v287 : BitVec 32 := v286
  let v392 : Index := Scalar.indexCast v287
  let c0_169 : Index := 0#32
  ![2, v392.toNat, 0]
def k0_off40 (i : grid0.Coords) (k0_t3 : Fin (k0_t3_loop i).trips) : Fin 3 → Nat :=
  let c3_182 : Index := 3#32
  let arg1 : BitVec 32 := BitVec.ofNat 32 (i 1).val
  let c1_i32_122 : BitVec 32 := 1#32
  let v277 : BitVec 32 := Scalar.addi arg1 c1_i32_122
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c2_i32_123 : BitVec 32 := 2#32
  let v278 : BitVec 32 := Scalar.muli v37 c2_i32_123
  let v279 : BitVec 32 := Scalar.subi v278 v277
  let c1_i32_124 : BitVec 32 := 1#32
  let v281 : BitVec 32 := Scalar.divsi v279 c1_i32_124
  let v282 : BitVec 32 := Scalar.muli v281 c1_i32_124
  let v283 : BitVec 32 := Scalar.addi v277 v282
  let c1_i32_126 : BitVec 32 := 1#32
  let arg12 : BitVec 32 := Scf.iv v283 c1_i32_126 k0_t3
  let c256_i32_127 : BitVec 32 := 256#32
  let v286 : BitVec 32 := Scalar.muli arg12 c256_i32_127
  let v287 : BitVec 32 := v286
  let v431 : Index := Scalar.indexCast v287
  let c0_183 : Index := 0#32
  ![3, v431.toNat, 0]
def k0_mult10 (i : grid0.Coords) : BitVec 32 :=
  let arg1 : BitVec 32 := BitVec.ofNat 32 (i 1).val
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c3_i32 : BitVec 32 := 3#32
  let v52 : BitVec 32 := Scalar.minsi v37 c3_i32
  let c2_i32_27 : BitVec 32 := 2#32
  let v53 : BitVec 32 := Scalar.muli v52 c2_i32_27
  let c256_i32 : BitVec 32 := 256#32
  let v54 : BitVec 32 := Scalar.muli v53 c256_i32
  v54
def k0_off41 (i : grid0.Coords) : Fin 2 → Nat :=
  let arg1 : BitVec 32 := BitVec.ofNat 32 (i 1).val
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c3_i32 : BitVec 32 := 3#32
  let v52 : BitVec 32 := Scalar.minsi v37 c3_i32
  let c2_i32_27 : BitVec 32 := 2#32
  let v53 : BitVec 32 := Scalar.muli v52 c2_i32_27
  let c256_i32 : BitVec 32 := 256#32
  let v54 : BitVec 32 := Scalar.muli v53 c256_i32
  let v55 : BitVec 32 := v54
  let v56 : Index := Scalar.indexCast v55
  let c0_28 : Index := 0#32
  ![v56.toNat, 0]
def k0_off42 (i : grid0.Coords) : Fin 2 → Nat :=
  let arg1 : BitVec 32 := BitVec.ofNat 32 (i 1).val
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c3_i32 : BitVec 32 := 3#32
  let v52 : BitVec 32 := Scalar.minsi v37 c3_i32
  let c2_i32_27 : BitVec 32 := 2#32
  let v53 : BitVec 32 := Scalar.muli v52 c2_i32_27
  let c256_i32 : BitVec 32 := 256#32
  let v54 : BitVec 32 := Scalar.muli v53 c256_i32
  let v55 : BitVec 32 := v54
  let v60 : Index := Scalar.indexCast v55
  let c128_30 : Index := 128#32
  ![v60.toNat, 128]
def k0_off43 (i : grid0.Coords) : Fin 2 → Nat :=
  let arg1 : BitVec 32 := BitVec.ofNat 32 (i 1).val
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c3_i32 : BitVec 32 := 3#32
  let v52 : BitVec 32 := Scalar.minsi v37 c3_i32
  let c2_i32_27 : BitVec 32 := 2#32
  let v53 : BitVec 32 := Scalar.muli v52 c2_i32_27
  let c256_i32 : BitVec 32 := 256#32
  let v54 : BitVec 32 := Scalar.muli v53 c256_i32
  let v55 : BitVec 32 := v54
  let v64 : Index := Scalar.indexCast v55
  let c256_32 : Index := 256#32
  ![v64.toNat, 256]
def k0_off44 (i : grid0.Coords) : Fin 2 → Nat :=
  let arg1 : BitVec 32 := BitVec.ofNat 32 (i 1).val
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c3_i32 : BitVec 32 := 3#32
  let v52 : BitVec 32 := Scalar.minsi v37 c3_i32
  let c2_i32_27 : BitVec 32 := 2#32
  let v53 : BitVec 32 := Scalar.muli v52 c2_i32_27
  let c256_i32 : BitVec 32 := 256#32
  let v54 : BitVec 32 := Scalar.muli v53 c256_i32
  let v55 : BitVec 32 := v54
  let v68 : Index := Scalar.indexCast v55
  let c384_34 : Index := 384#32
  ![v68.toNat, 384]
@[reducible] def k0_t4_loop (i : grid0.Coords) : Scf.Loop 32 :=
  let arg1 : BitVec 32 := BitVec.ofNat 32 (i 1).val
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c4_i32 : BitVec 32 := 4#32
  let v72 : BitVec 32 := Scalar.subi c4_i32 v37
  let c1_i32_36 : BitVec 32 := 1#32
  let v74 : BitVec 32 := Scalar.divsi v72 c1_i32_36
  let v75 : BitVec 32 := Scalar.muli v74 c1_i32_36
  let v76 : BitVec 32 := Scalar.addi v37 v75
  let c1_i32_37 : BitVec 32 := 1#32
  ⟨v37, v76, c1_i32_37⟩
def k0_mult11 (i : grid0.Coords) (k0_t4 : Fin (k0_t4_loop i).trips) : BitVec 32 :=
  let arg1 : BitVec 32 := BitVec.ofNat 32 (i 1).val
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c1_i32_37 : BitVec 32 := 1#32
  let arg12 : BitVec 32 := Scf.iv v37 c1_i32_37 k0_t4
  let c1_i32_55 : BitVec 32 := 1#32
  let v87 : BitVec 32 := Scalar.addi arg12 c1_i32_55
  let c3_i32_56 : BitVec 32 := 3#32
  let v88 : BitVec 32 := Scalar.minsi v87 c3_i32_56
  let c2_i32_57 : BitVec 32 := 2#32
  let v89 : BitVec 32 := Scalar.muli v88 c2_i32_57
  let c256_i32_58 : BitVec 32 := 256#32
  let v90 : BitVec 32 := Scalar.muli v89 c256_i32_58
  v90
def k0_off45 (i : grid0.Coords) (k0_t4 : Fin (k0_t4_loop i).trips) : Fin 2 → Nat :=
  let arg1 : BitVec 32 := BitVec.ofNat 32 (i 1).val
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c1_i32_37 : BitVec 32 := 1#32
  let arg12 : BitVec 32 := Scf.iv v37 c1_i32_37 k0_t4
  let c1_i32_55 : BitVec 32 := 1#32
  let v87 : BitVec 32 := Scalar.addi arg12 c1_i32_55
  let c3_i32_56 : BitVec 32 := 3#32
  let v88 : BitVec 32 := Scalar.minsi v87 c3_i32_56
  let c2_i32_57 : BitVec 32 := 2#32
  let v89 : BitVec 32 := Scalar.muli v88 c2_i32_57
  let c256_i32_58 : BitVec 32 := 256#32
  let v90 : BitVec 32 := Scalar.muli v89 c256_i32_58
  let v91 : BitVec 32 := v90
  let v92 : Index := Scalar.indexCast v91
  let c0_59 : Index := 0#32
  ![v92.toNat, 0]
def k0_off46 (i : grid0.Coords) (k0_t4 : Fin (k0_t4_loop i).trips) : Fin 2 → Nat :=
  let arg1 : BitVec 32 := BitVec.ofNat 32 (i 1).val
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c1_i32_37 : BitVec 32 := 1#32
  let arg12 : BitVec 32 := Scf.iv v37 c1_i32_37 k0_t4
  let c1_i32_55 : BitVec 32 := 1#32
  let v87 : BitVec 32 := Scalar.addi arg12 c1_i32_55
  let c3_i32_56 : BitVec 32 := 3#32
  let v88 : BitVec 32 := Scalar.minsi v87 c3_i32_56
  let c2_i32_57 : BitVec 32 := 2#32
  let v89 : BitVec 32 := Scalar.muli v88 c2_i32_57
  let c256_i32_58 : BitVec 32 := 256#32
  let v90 : BitVec 32 := Scalar.muli v89 c256_i32_58
  let v91 : BitVec 32 := v90
  let v96 : Index := Scalar.indexCast v91
  let c128_61 : Index := 128#32
  ![v96.toNat, 128]
def k0_off47 (i : grid0.Coords) (k0_t4 : Fin (k0_t4_loop i).trips) : Fin 2 → Nat :=
  let arg1 : BitVec 32 := BitVec.ofNat 32 (i 1).val
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c1_i32_37 : BitVec 32 := 1#32
  let arg12 : BitVec 32 := Scf.iv v37 c1_i32_37 k0_t4
  let c1_i32_55 : BitVec 32 := 1#32
  let v87 : BitVec 32 := Scalar.addi arg12 c1_i32_55
  let c3_i32_56 : BitVec 32 := 3#32
  let v88 : BitVec 32 := Scalar.minsi v87 c3_i32_56
  let c2_i32_57 : BitVec 32 := 2#32
  let v89 : BitVec 32 := Scalar.muli v88 c2_i32_57
  let c256_i32_58 : BitVec 32 := 256#32
  let v90 : BitVec 32 := Scalar.muli v89 c256_i32_58
  let v91 : BitVec 32 := v90
  let v100 : Index := Scalar.indexCast v91
  let c256_63 : Index := 256#32
  ![v100.toNat, 256]
def k0_off48 (i : grid0.Coords) (k0_t4 : Fin (k0_t4_loop i).trips) : Fin 2 → Nat :=
  let arg1 : BitVec 32 := BitVec.ofNat 32 (i 1).val
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c1_i32_37 : BitVec 32 := 1#32
  let arg12 : BitVec 32 := Scf.iv v37 c1_i32_37 k0_t4
  let c1_i32_55 : BitVec 32 := 1#32
  let v87 : BitVec 32 := Scalar.addi arg12 c1_i32_55
  let c3_i32_56 : BitVec 32 := 3#32
  let v88 : BitVec 32 := Scalar.minsi v87 c3_i32_56
  let c2_i32_57 : BitVec 32 := 2#32
  let v89 : BitVec 32 := Scalar.muli v88 c2_i32_57
  let c256_i32_58 : BitVec 32 := 256#32
  let v90 : BitVec 32 := Scalar.muli v89 c256_i32_58
  let v91 : BitVec 32 := v90
  let v104 : Index := Scalar.indexCast v91
  let c384_65 : Index := 384#32
  ![v104.toNat, 384]
def k0_mult12 (i : grid0.Coords) (k0_t4 : Fin (k0_t4_loop i).trips) : BitVec 32 :=
  let arg1 : BitVec 32 := BitVec.ofNat 32 (i 1).val
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c1_i32_37 : BitVec 32 := 1#32
  let arg12 : BitVec 32 := Scf.iv v37 c1_i32_37 k0_t4
  let c2_i32_67 : BitVec 32 := 2#32
  let v108 : BitVec 32 := Scalar.muli arg12 c2_i32_67
  let c256_i32_68 : BitVec 32 := 256#32
  let v109 : BitVec 32 := Scalar.muli v108 c256_i32_68
  v109
def k0_off49 (i : grid0.Coords) (k0_t4 : Fin (k0_t4_loop i).trips) : Fin 2 → Nat :=
  let arg1 : BitVec 32 := BitVec.ofNat 32 (i 1).val
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c1_i32_37 : BitVec 32 := 1#32
  let arg12 : BitVec 32 := Scf.iv v37 c1_i32_37 k0_t4
  let c2_i32_67 : BitVec 32 := 2#32
  let v108 : BitVec 32 := Scalar.muli arg12 c2_i32_67
  let c256_i32_68 : BitVec 32 := 256#32
  let v109 : BitVec 32 := Scalar.muli v108 c256_i32_68
  let v110 : BitVec 32 := v109
  let v111 : Index := Scalar.indexCast v110
  let c0_69 : Index := 0#32
  ![v111.toNat, 0]
def k0_off50 (i : grid0.Coords) (k0_t4 : Fin (k0_t4_loop i).trips) : Fin 3 → Nat :=
  let c0_72 : Index := 0#32
  let arg1 : BitVec 32 := BitVec.ofNat 32 (i 1).val
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c1_i32_37 : BitVec 32 := 1#32
  let arg12 : BitVec 32 := Scf.iv v37 c1_i32_37 k0_t4
  let c2_i32_67 : BitVec 32 := 2#32
  let v108 : BitVec 32 := Scalar.muli arg12 c2_i32_67
  let c256_i32_68 : BitVec 32 := 256#32
  let v109 : BitVec 32 := Scalar.muli v108 c256_i32_68
  let v110 : BitVec 32 := v109
  let v119 : Index := Scalar.indexCast v110
  let c0_73 : Index := 0#32
  ![0, v119.toNat, 0]
def k0_off51 (i : grid0.Coords) (k0_t4 : Fin (k0_t4_loop i).trips) : Fin 2 → Nat :=
  let arg1 : BitVec 32 := BitVec.ofNat 32 (i 1).val
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c1_i32_37 : BitVec 32 := 1#32
  let arg12 : BitVec 32 := Scf.iv v37 c1_i32_37 k0_t4
  let c2_i32_67 : BitVec 32 := 2#32
  let v108 : BitVec 32 := Scalar.muli arg12 c2_i32_67
  let c256_i32_68 : BitVec 32 := 256#32
  let v109 : BitVec 32 := Scalar.muli v108 c256_i32_68
  let v110 : BitVec 32 := v109
  let v150 : Index := Scalar.indexCast v110
  let c128_83 : Index := 128#32
  ![v150.toNat, 128]
def k0_off52 (i : grid0.Coords) (k0_t4 : Fin (k0_t4_loop i).trips) : Fin 3 → Nat :=
  let c1 : Index := 1#32
  let arg1 : BitVec 32 := BitVec.ofNat 32 (i 1).val
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c1_i32_37 : BitVec 32 := 1#32
  let arg12 : BitVec 32 := Scf.iv v37 c1_i32_37 k0_t4
  let c2_i32_67 : BitVec 32 := 2#32
  let v108 : BitVec 32 := Scalar.muli arg12 c2_i32_67
  let c256_i32_68 : BitVec 32 := 256#32
  let v109 : BitVec 32 := Scalar.muli v108 c256_i32_68
  let v110 : BitVec 32 := v109
  let v158 : Index := Scalar.indexCast v110
  let c0_86 : Index := 0#32
  ![1, v158.toNat, 0]
def k0_off53 (i : grid0.Coords) (k0_t4 : Fin (k0_t4_loop i).trips) : Fin 2 → Nat :=
  let arg1 : BitVec 32 := BitVec.ofNat 32 (i 1).val
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c1_i32_37 : BitVec 32 := 1#32
  let arg12 : BitVec 32 := Scf.iv v37 c1_i32_37 k0_t4
  let c2_i32_67 : BitVec 32 := 2#32
  let v108 : BitVec 32 := Scalar.muli arg12 c2_i32_67
  let c256_i32_68 : BitVec 32 := 256#32
  let v109 : BitVec 32 := Scalar.muli v108 c256_i32_68
  let v110 : BitVec 32 := v109
  let v189 : Index := Scalar.indexCast v110
  let c256_96 : Index := 256#32
  ![v189.toNat, 256]
def k0_off54 (i : grid0.Coords) (k0_t4 : Fin (k0_t4_loop i).trips) : Fin 3 → Nat :=
  let c2 : Index := 2#32
  let arg1 : BitVec 32 := BitVec.ofNat 32 (i 1).val
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c1_i32_37 : BitVec 32 := 1#32
  let arg12 : BitVec 32 := Scf.iv v37 c1_i32_37 k0_t4
  let c2_i32_67 : BitVec 32 := 2#32
  let v108 : BitVec 32 := Scalar.muli arg12 c2_i32_67
  let c256_i32_68 : BitVec 32 := 256#32
  let v109 : BitVec 32 := Scalar.muli v108 c256_i32_68
  let v110 : BitVec 32 := v109
  let v197 : Index := Scalar.indexCast v110
  let c0_99 : Index := 0#32
  ![2, v197.toNat, 0]
def k0_off55 (i : grid0.Coords) (k0_t4 : Fin (k0_t4_loop i).trips) : Fin 2 → Nat :=
  let arg1 : BitVec 32 := BitVec.ofNat 32 (i 1).val
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c1_i32_37 : BitVec 32 := 1#32
  let arg12 : BitVec 32 := Scf.iv v37 c1_i32_37 k0_t4
  let c2_i32_67 : BitVec 32 := 2#32
  let v108 : BitVec 32 := Scalar.muli arg12 c2_i32_67
  let c256_i32_68 : BitVec 32 := 256#32
  let v109 : BitVec 32 := Scalar.muli v108 c256_i32_68
  let v110 : BitVec 32 := v109
  let v228 : Index := Scalar.indexCast v110
  let c384_109 : Index := 384#32
  ![v228.toNat, 384]
def k0_off56 (i : grid0.Coords) (k0_t4 : Fin (k0_t4_loop i).trips) : Fin 3 → Nat :=
  let c3 : Index := 3#32
  let arg1 : BitVec 32 := BitVec.ofNat 32 (i 1).val
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c1_i32_37 : BitVec 32 := 1#32
  let arg12 : BitVec 32 := Scf.iv v37 c1_i32_37 k0_t4
  let c2_i32_67 : BitVec 32 := 2#32
  let v108 : BitVec 32 := Scalar.muli arg12 c2_i32_67
  let c256_i32_68 : BitVec 32 := 256#32
  let v109 : BitVec 32 := Scalar.muli v108 c256_i32_68
  let v110 : BitVec 32 := v109
  let v236 : Index := Scalar.indexCast v110
  let c0_112 : Index := 0#32
  ![3, v236.toNat, 0]
@[reducible] def k0_t5_loop (i : grid0.Coords) : Scf.Loop 32 :=
  let arg1 : BitVec 32 := BitVec.ofNat 32 (i 1).val
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c4_i32 : BitVec 32 := 4#32
  let v72 : BitVec 32 := Scalar.subi c4_i32 v37
  let c1_i32_36 : BitVec 32 := 1#32
  let v74 : BitVec 32 := Scalar.divsi v72 c1_i32_36
  let v75 : BitVec 32 := Scalar.muli v74 c1_i32_36
  let v76 : BitVec 32 := Scalar.addi v37 v75
  let v73 : BitVec 32 := Scalar.addi v37 v72
  let c1_i32_38 : BitVec 32 := 1#32
  ⟨v76, v73, c1_i32_38⟩
def k0_mult13 (i : grid0.Coords) (k0_t5 : Fin (k0_t5_loop i).trips) : BitVec 32 :=
  let arg1 : BitVec 32 := BitVec.ofNat 32 (i 1).val
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c4_i32 : BitVec 32 := 4#32
  let v72 : BitVec 32 := Scalar.subi c4_i32 v37
  let c1_i32_36 : BitVec 32 := 1#32
  let v74 : BitVec 32 := Scalar.divsi v72 c1_i32_36
  let v75 : BitVec 32 := Scalar.muli v74 c1_i32_36
  let v76 : BitVec 32 := Scalar.addi v37 v75
  let c1_i32_38 : BitVec 32 := 1#32
  let arg12 : BitVec 32 := Scf.iv v76 c1_i32_38 k0_t5
  let c1_i32_55 : BitVec 32 := 1#32
  let v87 : BitVec 32 := Scalar.addi arg12 c1_i32_55
  let c3_i32_56 : BitVec 32 := 3#32
  let v88 : BitVec 32 := Scalar.minsi v87 c3_i32_56
  let c2_i32_57 : BitVec 32 := 2#32
  let v89 : BitVec 32 := Scalar.muli v88 c2_i32_57
  let c256_i32_58 : BitVec 32 := 256#32
  let v90 : BitVec 32 := Scalar.muli v89 c256_i32_58
  v90
def k0_off57 (i : grid0.Coords) (k0_t5 : Fin (k0_t5_loop i).trips) : Fin 2 → Nat :=
  let arg1 : BitVec 32 := BitVec.ofNat 32 (i 1).val
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c4_i32 : BitVec 32 := 4#32
  let v72 : BitVec 32 := Scalar.subi c4_i32 v37
  let c1_i32_36 : BitVec 32 := 1#32
  let v74 : BitVec 32 := Scalar.divsi v72 c1_i32_36
  let v75 : BitVec 32 := Scalar.muli v74 c1_i32_36
  let v76 : BitVec 32 := Scalar.addi v37 v75
  let c1_i32_38 : BitVec 32 := 1#32
  let arg12 : BitVec 32 := Scf.iv v76 c1_i32_38 k0_t5
  let c1_i32_55 : BitVec 32 := 1#32
  let v87 : BitVec 32 := Scalar.addi arg12 c1_i32_55
  let c3_i32_56 : BitVec 32 := 3#32
  let v88 : BitVec 32 := Scalar.minsi v87 c3_i32_56
  let c2_i32_57 : BitVec 32 := 2#32
  let v89 : BitVec 32 := Scalar.muli v88 c2_i32_57
  let c256_i32_58 : BitVec 32 := 256#32
  let v90 : BitVec 32 := Scalar.muli v89 c256_i32_58
  let v91 : BitVec 32 := v90
  let v92 : Index := Scalar.indexCast v91
  let c0_59 : Index := 0#32
  ![v92.toNat, 0]
def k0_off58 (i : grid0.Coords) (k0_t5 : Fin (k0_t5_loop i).trips) : Fin 2 → Nat :=
  let arg1 : BitVec 32 := BitVec.ofNat 32 (i 1).val
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c4_i32 : BitVec 32 := 4#32
  let v72 : BitVec 32 := Scalar.subi c4_i32 v37
  let c1_i32_36 : BitVec 32 := 1#32
  let v74 : BitVec 32 := Scalar.divsi v72 c1_i32_36
  let v75 : BitVec 32 := Scalar.muli v74 c1_i32_36
  let v76 : BitVec 32 := Scalar.addi v37 v75
  let c1_i32_38 : BitVec 32 := 1#32
  let arg12 : BitVec 32 := Scf.iv v76 c1_i32_38 k0_t5
  let c1_i32_55 : BitVec 32 := 1#32
  let v87 : BitVec 32 := Scalar.addi arg12 c1_i32_55
  let c3_i32_56 : BitVec 32 := 3#32
  let v88 : BitVec 32 := Scalar.minsi v87 c3_i32_56
  let c2_i32_57 : BitVec 32 := 2#32
  let v89 : BitVec 32 := Scalar.muli v88 c2_i32_57
  let c256_i32_58 : BitVec 32 := 256#32
  let v90 : BitVec 32 := Scalar.muli v89 c256_i32_58
  let v91 : BitVec 32 := v90
  let v96 : Index := Scalar.indexCast v91
  let c128_61 : Index := 128#32
  ![v96.toNat, 128]
def k0_off59 (i : grid0.Coords) (k0_t5 : Fin (k0_t5_loop i).trips) : Fin 2 → Nat :=
  let arg1 : BitVec 32 := BitVec.ofNat 32 (i 1).val
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c4_i32 : BitVec 32 := 4#32
  let v72 : BitVec 32 := Scalar.subi c4_i32 v37
  let c1_i32_36 : BitVec 32 := 1#32
  let v74 : BitVec 32 := Scalar.divsi v72 c1_i32_36
  let v75 : BitVec 32 := Scalar.muli v74 c1_i32_36
  let v76 : BitVec 32 := Scalar.addi v37 v75
  let c1_i32_38 : BitVec 32 := 1#32
  let arg12 : BitVec 32 := Scf.iv v76 c1_i32_38 k0_t5
  let c1_i32_55 : BitVec 32 := 1#32
  let v87 : BitVec 32 := Scalar.addi arg12 c1_i32_55
  let c3_i32_56 : BitVec 32 := 3#32
  let v88 : BitVec 32 := Scalar.minsi v87 c3_i32_56
  let c2_i32_57 : BitVec 32 := 2#32
  let v89 : BitVec 32 := Scalar.muli v88 c2_i32_57
  let c256_i32_58 : BitVec 32 := 256#32
  let v90 : BitVec 32 := Scalar.muli v89 c256_i32_58
  let v91 : BitVec 32 := v90
  let v100 : Index := Scalar.indexCast v91
  let c256_63 : Index := 256#32
  ![v100.toNat, 256]
def k0_off60 (i : grid0.Coords) (k0_t5 : Fin (k0_t5_loop i).trips) : Fin 2 → Nat :=
  let arg1 : BitVec 32 := BitVec.ofNat 32 (i 1).val
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c4_i32 : BitVec 32 := 4#32
  let v72 : BitVec 32 := Scalar.subi c4_i32 v37
  let c1_i32_36 : BitVec 32 := 1#32
  let v74 : BitVec 32 := Scalar.divsi v72 c1_i32_36
  let v75 : BitVec 32 := Scalar.muli v74 c1_i32_36
  let v76 : BitVec 32 := Scalar.addi v37 v75
  let c1_i32_38 : BitVec 32 := 1#32
  let arg12 : BitVec 32 := Scf.iv v76 c1_i32_38 k0_t5
  let c1_i32_55 : BitVec 32 := 1#32
  let v87 : BitVec 32 := Scalar.addi arg12 c1_i32_55
  let c3_i32_56 : BitVec 32 := 3#32
  let v88 : BitVec 32 := Scalar.minsi v87 c3_i32_56
  let c2_i32_57 : BitVec 32 := 2#32
  let v89 : BitVec 32 := Scalar.muli v88 c2_i32_57
  let c256_i32_58 : BitVec 32 := 256#32
  let v90 : BitVec 32 := Scalar.muli v89 c256_i32_58
  let v91 : BitVec 32 := v90
  let v104 : Index := Scalar.indexCast v91
  let c384_65 : Index := 384#32
  ![v104.toNat, 384]
def k0_mult14 (i : grid0.Coords) (k0_t5 : Fin (k0_t5_loop i).trips) : BitVec 32 :=
  let arg1 : BitVec 32 := BitVec.ofNat 32 (i 1).val
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c4_i32 : BitVec 32 := 4#32
  let v72 : BitVec 32 := Scalar.subi c4_i32 v37
  let c1_i32_36 : BitVec 32 := 1#32
  let v74 : BitVec 32 := Scalar.divsi v72 c1_i32_36
  let v75 : BitVec 32 := Scalar.muli v74 c1_i32_36
  let v76 : BitVec 32 := Scalar.addi v37 v75
  let c1_i32_38 : BitVec 32 := 1#32
  let arg12 : BitVec 32 := Scf.iv v76 c1_i32_38 k0_t5
  let c2_i32_67 : BitVec 32 := 2#32
  let v108 : BitVec 32 := Scalar.muli arg12 c2_i32_67
  let c256_i32_68 : BitVec 32 := 256#32
  let v109 : BitVec 32 := Scalar.muli v108 c256_i32_68
  v109
def k0_off61 (i : grid0.Coords) (k0_t5 : Fin (k0_t5_loop i).trips) : Fin 2 → Nat :=
  let arg1 : BitVec 32 := BitVec.ofNat 32 (i 1).val
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c4_i32 : BitVec 32 := 4#32
  let v72 : BitVec 32 := Scalar.subi c4_i32 v37
  let c1_i32_36 : BitVec 32 := 1#32
  let v74 : BitVec 32 := Scalar.divsi v72 c1_i32_36
  let v75 : BitVec 32 := Scalar.muli v74 c1_i32_36
  let v76 : BitVec 32 := Scalar.addi v37 v75
  let c1_i32_38 : BitVec 32 := 1#32
  let arg12 : BitVec 32 := Scf.iv v76 c1_i32_38 k0_t5
  let c2_i32_67 : BitVec 32 := 2#32
  let v108 : BitVec 32 := Scalar.muli arg12 c2_i32_67
  let c256_i32_68 : BitVec 32 := 256#32
  let v109 : BitVec 32 := Scalar.muli v108 c256_i32_68
  let v110 : BitVec 32 := v109
  let v111 : Index := Scalar.indexCast v110
  let c0_69 : Index := 0#32
  ![v111.toNat, 0]
def k0_off62 (i : grid0.Coords) (k0_t5 : Fin (k0_t5_loop i).trips) : Fin 3 → Nat :=
  let c0_72 : Index := 0#32
  let arg1 : BitVec 32 := BitVec.ofNat 32 (i 1).val
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c4_i32 : BitVec 32 := 4#32
  let v72 : BitVec 32 := Scalar.subi c4_i32 v37
  let c1_i32_36 : BitVec 32 := 1#32
  let v74 : BitVec 32 := Scalar.divsi v72 c1_i32_36
  let v75 : BitVec 32 := Scalar.muli v74 c1_i32_36
  let v76 : BitVec 32 := Scalar.addi v37 v75
  let c1_i32_38 : BitVec 32 := 1#32
  let arg12 : BitVec 32 := Scf.iv v76 c1_i32_38 k0_t5
  let c2_i32_67 : BitVec 32 := 2#32
  let v108 : BitVec 32 := Scalar.muli arg12 c2_i32_67
  let c256_i32_68 : BitVec 32 := 256#32
  let v109 : BitVec 32 := Scalar.muli v108 c256_i32_68
  let v110 : BitVec 32 := v109
  let v119 : Index := Scalar.indexCast v110
  let c0_73 : Index := 0#32
  ![0, v119.toNat, 0]
def k0_off63 (i : grid0.Coords) (k0_t5 : Fin (k0_t5_loop i).trips) : Fin 2 → Nat :=
  let arg1 : BitVec 32 := BitVec.ofNat 32 (i 1).val
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c4_i32 : BitVec 32 := 4#32
  let v72 : BitVec 32 := Scalar.subi c4_i32 v37
  let c1_i32_36 : BitVec 32 := 1#32
  let v74 : BitVec 32 := Scalar.divsi v72 c1_i32_36
  let v75 : BitVec 32 := Scalar.muli v74 c1_i32_36
  let v76 : BitVec 32 := Scalar.addi v37 v75
  let c1_i32_38 : BitVec 32 := 1#32
  let arg12 : BitVec 32 := Scf.iv v76 c1_i32_38 k0_t5
  let c2_i32_67 : BitVec 32 := 2#32
  let v108 : BitVec 32 := Scalar.muli arg12 c2_i32_67
  let c256_i32_68 : BitVec 32 := 256#32
  let v109 : BitVec 32 := Scalar.muli v108 c256_i32_68
  let v110 : BitVec 32 := v109
  let v150 : Index := Scalar.indexCast v110
  let c128_83 : Index := 128#32
  ![v150.toNat, 128]
def k0_off64 (i : grid0.Coords) (k0_t5 : Fin (k0_t5_loop i).trips) : Fin 3 → Nat :=
  let c1 : Index := 1#32
  let arg1 : BitVec 32 := BitVec.ofNat 32 (i 1).val
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c4_i32 : BitVec 32 := 4#32
  let v72 : BitVec 32 := Scalar.subi c4_i32 v37
  let c1_i32_36 : BitVec 32 := 1#32
  let v74 : BitVec 32 := Scalar.divsi v72 c1_i32_36
  let v75 : BitVec 32 := Scalar.muli v74 c1_i32_36
  let v76 : BitVec 32 := Scalar.addi v37 v75
  let c1_i32_38 : BitVec 32 := 1#32
  let arg12 : BitVec 32 := Scf.iv v76 c1_i32_38 k0_t5
  let c2_i32_67 : BitVec 32 := 2#32
  let v108 : BitVec 32 := Scalar.muli arg12 c2_i32_67
  let c256_i32_68 : BitVec 32 := 256#32
  let v109 : BitVec 32 := Scalar.muli v108 c256_i32_68
  let v110 : BitVec 32 := v109
  let v158 : Index := Scalar.indexCast v110
  let c0_86 : Index := 0#32
  ![1, v158.toNat, 0]
def k0_off65 (i : grid0.Coords) (k0_t5 : Fin (k0_t5_loop i).trips) : Fin 2 → Nat :=
  let arg1 : BitVec 32 := BitVec.ofNat 32 (i 1).val
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c4_i32 : BitVec 32 := 4#32
  let v72 : BitVec 32 := Scalar.subi c4_i32 v37
  let c1_i32_36 : BitVec 32 := 1#32
  let v74 : BitVec 32 := Scalar.divsi v72 c1_i32_36
  let v75 : BitVec 32 := Scalar.muli v74 c1_i32_36
  let v76 : BitVec 32 := Scalar.addi v37 v75
  let c1_i32_38 : BitVec 32 := 1#32
  let arg12 : BitVec 32 := Scf.iv v76 c1_i32_38 k0_t5
  let c2_i32_67 : BitVec 32 := 2#32
  let v108 : BitVec 32 := Scalar.muli arg12 c2_i32_67
  let c256_i32_68 : BitVec 32 := 256#32
  let v109 : BitVec 32 := Scalar.muli v108 c256_i32_68
  let v110 : BitVec 32 := v109
  let v189 : Index := Scalar.indexCast v110
  let c256_96 : Index := 256#32
  ![v189.toNat, 256]
def k0_off66 (i : grid0.Coords) (k0_t5 : Fin (k0_t5_loop i).trips) : Fin 3 → Nat :=
  let c2 : Index := 2#32
  let arg1 : BitVec 32 := BitVec.ofNat 32 (i 1).val
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c4_i32 : BitVec 32 := 4#32
  let v72 : BitVec 32 := Scalar.subi c4_i32 v37
  let c1_i32_36 : BitVec 32 := 1#32
  let v74 : BitVec 32 := Scalar.divsi v72 c1_i32_36
  let v75 : BitVec 32 := Scalar.muli v74 c1_i32_36
  let v76 : BitVec 32 := Scalar.addi v37 v75
  let c1_i32_38 : BitVec 32 := 1#32
  let arg12 : BitVec 32 := Scf.iv v76 c1_i32_38 k0_t5
  let c2_i32_67 : BitVec 32 := 2#32
  let v108 : BitVec 32 := Scalar.muli arg12 c2_i32_67
  let c256_i32_68 : BitVec 32 := 256#32
  let v109 : BitVec 32 := Scalar.muli v108 c256_i32_68
  let v110 : BitVec 32 := v109
  let v197 : Index := Scalar.indexCast v110
  let c0_99 : Index := 0#32
  ![2, v197.toNat, 0]
def k0_off67 (i : grid0.Coords) (k0_t5 : Fin (k0_t5_loop i).trips) : Fin 2 → Nat :=
  let arg1 : BitVec 32 := BitVec.ofNat 32 (i 1).val
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c4_i32 : BitVec 32 := 4#32
  let v72 : BitVec 32 := Scalar.subi c4_i32 v37
  let c1_i32_36 : BitVec 32 := 1#32
  let v74 : BitVec 32 := Scalar.divsi v72 c1_i32_36
  let v75 : BitVec 32 := Scalar.muli v74 c1_i32_36
  let v76 : BitVec 32 := Scalar.addi v37 v75
  let c1_i32_38 : BitVec 32 := 1#32
  let arg12 : BitVec 32 := Scf.iv v76 c1_i32_38 k0_t5
  let c2_i32_67 : BitVec 32 := 2#32
  let v108 : BitVec 32 := Scalar.muli arg12 c2_i32_67
  let c256_i32_68 : BitVec 32 := 256#32
  let v109 : BitVec 32 := Scalar.muli v108 c256_i32_68
  let v110 : BitVec 32 := v109
  let v228 : Index := Scalar.indexCast v110
  let c384_109 : Index := 384#32
  ![v228.toNat, 384]
def k0_off68 (i : grid0.Coords) (k0_t5 : Fin (k0_t5_loop i).trips) : Fin 3 → Nat :=
  let c3 : Index := 3#32
  let arg1 : BitVec 32 := BitVec.ofNat 32 (i 1).val
  let c2_i32 : BitVec 32 := 2#32
  let v20 : BitVec 32 := Scalar.addi arg1 c2_i32
  let c0_i32_14 : BitVec 32 := 0#32
  let v22 : BitVec 1 := Scalar.cmpi .sgt v20 c0_i32_14
  let v23 : BitVec 32 := Scalar.extui v22
  let c0_i32_15 : BitVec 32 := 0#32
  let v24 : BitVec 1 := Scalar.cmpi .slt v20 c0_i32_15
  let v25 : BitVec 32 := Scalar.extui v24
  let v26 : BitVec 32 := Scalar.subi v23 v25
  let c2_i32_13 : BitVec 32 := 2#32
  let c0_i32_16 : BitVec 32 := 0#32
  let v27 : BitVec 1 := Scalar.cmpi .sgt c2_i32_13 c0_i32_16
  let v28 : BitVec 32 := Scalar.extui v27
  let c0_i32_17 : BitVec 32 := 0#32
  let v29 : BitVec 1 := Scalar.cmpi .slt c2_i32_13 c0_i32_17
  let v30 : BitVec 32 := Scalar.extui v29
  let v31 : BitVec 32 := Scalar.subi v28 v30
  let v32 : BitVec 1 := Scalar.cmpi .ne v26 v31
  let v33 : BitVec 32 := Scalar.remsi v20 c2_i32_13
  let c0_i32_18 : BitVec 32 := 0#32
  let v34 : BitVec 1 := Scalar.cmpi .ne v33 c0_i32_18
  let v35 : BitVec 1 := Scalar.andi v32 v34
  let v21 : BitVec 32 := Scalar.divsi v20 c2_i32_13
  let c1_i32 : BitVec 32 := 1#32
  let v36 : BitVec 32 := Scalar.subi v21 c1_i32
  let v37 : BitVec 32 := Scalar.select v35 v36 v21
  let c4_i32 : BitVec 32 := 4#32
  let v72 : BitVec 32 := Scalar.subi c4_i32 v37
  let c1_i32_36 : BitVec 32 := 1#32
  let v74 : BitVec 32 := Scalar.divsi v72 c1_i32_36
  let v75 : BitVec 32 := Scalar.muli v74 c1_i32_36
  let v76 : BitVec 32 := Scalar.addi v37 v75
  let c1_i32_38 : BitVec 32 := 1#32
  let arg12 : BitVec 32 := Scf.iv v76 c1_i32_38 k0_t5
  let c2_i32_67 : BitVec 32 := 2#32
  let v108 : BitVec 32 := Scalar.muli arg12 c2_i32_67
  let c256_i32_68 : BitVec 32 := 256#32
  let v109 : BitVec 32 := Scalar.muli v108 c256_i32_68
  let v110 : BitVec 32 := v109
  let v236 : Index := Scalar.indexCast v110
  let c0_112 : Index := 0#32
  ![3, v236.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S1x2048x8x96 : Shape := ⟨4, ![1, 2048, 8, 96]⟩
abbrev S1x2048x8x64 : Shape := ⟨4, ![1, 2048, 8, 64]⟩
abbrev S1x2048x512 : Shape := ⟨3, ![1, 2048, 512]⟩
abbrev S1x8x2048x96 : Shape := ⟨4, ![1, 8, 2048, 96]⟩
abbrev S1x8x2048x64 : Shape := ⟨4, ![1, 8, 2048, 64]⟩
abbrev S1x8x2048x2048 : Shape := ⟨4, ![1, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x8x2048 : Shape := ⟨3, ![1, 8, 2048]⟩
abbrev S1x8x2048x1 : Shape := ⟨4, ![1, 8, 2048, 1]⟩
abbrev S1x8x64x2048 : Shape := ⟨4, ![1, 8, 64, 2048]⟩
abbrev S8x2048 : Shape := ⟨2, ![8, 2048]⟩
abbrev S2048x8x96 : Shape := ⟨3, ![2048, 8, 96]⟩
abbrev S2048x8x128 : Shape := ⟨3, ![2048, 8, 128]⟩
abbrev S2048x1024 : Shape := ⟨2, ![2048, 1024]⟩
abbrev S2048x8x64 : Shape := ⟨3, ![2048, 8, 64]⟩

abbrev nBuf : Space → Nat
  | .hbm => 112
  | .vmem => 0
  | .smem => 0
  | _ => 0

abbrev bufTy : (tb : Table) → Fin (tcTables nBuf tb) → BufTy
  | .hbm, ⟨0, _⟩ => ⟨S1x2048x8x96, .f32⟩
  | .hbm, ⟨1, _⟩ => ⟨S1x2048x8x96, .f32⟩
  | .hbm, ⟨2, _⟩ => ⟨S1x2048x8x64, .f32⟩
  | .hbm, ⟨3, _⟩ => ⟨S1x2048x512, .f32⟩
  | .hbm, ⟨4, _⟩ => ⟨S1x8x2048x96, .f32⟩
  | .hbm, ⟨5, _⟩ => ⟨S1x8x2048x96, .f32⟩
  | .hbm, ⟨6, _⟩ => ⟨S1x8x2048x64, .f32⟩
  | .hbm, ⟨7, _⟩ => ⟨S1x8x2048x2048, .f32⟩
  | .hbm, ⟨8, _⟩ => ⟨S_, .f32⟩
  | .hbm, ⟨9, _⟩ => ⟨S1x8x2048x2048, .f32⟩
  | .hbm, ⟨10, _⟩ => ⟨S1x8x2048x2048, .f32⟩
  | .hbm, ⟨11, _⟩ => ⟨S2048, .i32⟩
  | .hbm, ⟨12, _⟩ => ⟨S2048x1, .i32⟩
  | .hbm, ⟨13, _⟩ => ⟨S2048, .i32⟩
  | .hbm, ⟨14, _⟩ => ⟨S1x2048, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S_, .f32⟩
  | .hbm, ⟨19, _⟩ => ⟨S_, .f32⟩
  | .hbm, ⟨20, _⟩ => ⟨S1x8x2048x2048, .i1⟩
  | .hbm, ⟨21, _⟩ => ⟨S1x8x2048x2048, .f32⟩
  | .hbm, ⟨22, _⟩ => ⟨S1x8x2048x2048, .f32⟩
  | .hbm, ⟨23, _⟩ => ⟨S_, .f32⟩
  | .hbm, ⟨24, _⟩ => ⟨S1x8x2048x2048, .f32⟩
  | .hbm, ⟨25, _⟩ => ⟨S_, .f32⟩
  | .hbm, ⟨26, _⟩ => ⟨S1x8x2048, .f32⟩
  | .hbm, ⟨27, _⟩ => ⟨S1x8x2048x1, .f32⟩
  | .hbm, ⟨28, _⟩ => ⟨S1x8x2048x2048, .f32⟩
  | .hbm, ⟨29, _⟩ => ⟨S1x8x2048x2048, .i1⟩
  | .hbm, ⟨30, _⟩ => ⟨S1x8x2048x2048, .f32⟩
  | .hbm, ⟨31, _⟩ => ⟨S_, .f32⟩
  | .hbm, ⟨32, _⟩ => ⟨S1x8x2048, .f32⟩
  | .hbm, ⟨33, _⟩ => ⟨S_, .f32⟩
  | .hbm, ⟨34, _⟩ => ⟨S1x8x2048, .f32⟩
  | .hbm, ⟨35, _⟩ => ⟨S1x8x2048, .f32⟩
  | .hbm, ⟨36, _⟩ => ⟨S_, .f32⟩
  | .hbm, ⟨37, _⟩ => ⟨S1x8x2048, .f32⟩
  | .hbm, ⟨38, _⟩ => ⟨S1x8x2048, .i1⟩
  | .hbm, ⟨39, _⟩ => ⟨S_, .f32⟩
  | .hbm, ⟨40, _⟩ => ⟨S1x8x2048, .f32⟩
  | .hbm, ⟨41, _⟩ => ⟨S1x8x2048, .i1⟩
  | .hbm, ⟨42, _⟩ => ⟨S_, .f32⟩
  | .hbm, ⟨43, _⟩ => ⟨S1x8x2048, .f32⟩
  | .hbm, ⟨44, _⟩ => ⟨S_, .f32⟩
  | .hbm, ⟨45, _⟩ => ⟨S1x8x2048, .f32⟩
  | .hbm, ⟨46, _⟩ => ⟨S_, .f32⟩
  | .hbm, ⟨47, _⟩ => ⟨S1x8x2048, .f32⟩
  | .hbm, ⟨48, _⟩ => ⟨S1x8x2048, .f32⟩
  | .hbm, ⟨49, _⟩ => ⟨S1x8x2048, .f32⟩
  | .hbm, ⟨50, _⟩ => ⟨S1x8x2048x1, .f32⟩
  | .hbm, ⟨51, _⟩ => ⟨S1x8x2048x2048, .f32⟩
  | .hbm, ⟨52, _⟩ => ⟨S1x8x2048x2048, .f32⟩
  | .hbm, ⟨53, _⟩ => ⟨S1x8x2048x2048, .f32⟩
  | .hbm, ⟨54, _⟩ => ⟨S_, .f32⟩
  | .hbm, ⟨55, _⟩ => ⟨S1x8x2048, .f32⟩
  | .hbm, ⟨56, _⟩ => ⟨S1x8x2048x1, .f32⟩
  | .hbm, ⟨57, _⟩ => ⟨S1x8x2048x2048, .f32⟩
  | .hbm, ⟨58, _⟩ => ⟨S1x8x2048x2048, .f32⟩
  | .hbm, ⟨59, _⟩ => ⟨S1x8x2048x1, .f32⟩
  | .hbm, ⟨60, _⟩ => ⟨S_, .f32⟩
  | .hbm, ⟨61, _⟩ => ⟨S1x8x2048x1, .f32⟩
  | .hbm, ⟨62, _⟩ => ⟨S1x8x2048x1, .f32⟩
  | .hbm, ⟨63, _⟩ => ⟨S1x8x2048x64, .f32⟩
  | .hbm, ⟨64, _⟩ => ⟨S1x2048x8x64, .f32⟩
  | .hbm, ⟨65, _⟩ => ⟨S1x2048x512, .f32⟩
  | .hbm, ⟨66, _⟩ => ⟨S1x2048x8x64, .f32⟩
  | .hbm, ⟨67, _⟩ => ⟨S1x8x2048x64, .f32⟩
  | .hbm, ⟨68, _⟩ => ⟨S1x8x64x2048, .f32⟩
  | .hbm, ⟨69, _⟩ => ⟨S1x8x2048x64, .f32⟩
  | .hbm, ⟨70, _⟩ => ⟨S1x8x2048x2048, .f32⟩
  | .hbm, ⟨71, _⟩ => ⟨S1x8x2048x2048, .f32⟩
  | .hbm, ⟨72, _⟩ => ⟨S1x8x2048x2048, .f32⟩
  | .hbm, ⟨73, _⟩ => ⟨S1x8x2048x2048, .f32⟩
  | .hbm, ⟨74, _⟩ => ⟨S_, .f32⟩
  | .hbm, ⟨75, _⟩ => ⟨S1x8x2048, .f32⟩
  | .hbm, ⟨76, _⟩ => ⟨S1x8x2048x1, .f32⟩
  | .hbm, ⟨77, _⟩ => ⟨S1x8x2048x1, .f32⟩
  | .hbm, ⟨78, _⟩ => ⟨S1x8x2048x2048, .f32⟩
  | .hbm, ⟨79, _⟩ => ⟨S1x8x2048x2048, .f32⟩
  | .hbm, ⟨80, _⟩ => ⟨S_, .f32⟩
  | .hbm, ⟨81, _⟩ => ⟨S8x2048, .f32⟩
  | .hbm, ⟨82, _⟩ => ⟨S1x8x2048, .f32⟩
  | .hbm, ⟨83, _⟩ => ⟨S1x8x2048x2048, .f32⟩
  | .hbm, ⟨84, _⟩ => ⟨S1x8x2048x2048, .f32⟩
  | .hbm, ⟨85, _⟩ => ⟨S1x8x2048x2048, .f32⟩
  | .hbm, ⟨86, _⟩ => ⟨S_, .f32⟩
  | .hbm, ⟨87, _⟩ => ⟨S1x8x2048x2048, .f32⟩
  | .hbm, ⟨88, _⟩ => ⟨S1x8x2048x2048, .f32⟩
  | .hbm, ⟨89, _⟩ => ⟨S_, .f32⟩
  | .hbm, ⟨90, _⟩ => ⟨S1x8x2048x2048, .f32⟩
  | .hbm, ⟨91, _⟩ => ⟨S1x8x2048x2048, .f32⟩
  | .hbm, ⟨92, _⟩ => ⟨S1x8x2048x96, .f32⟩
  | .hbm, ⟨93, _⟩ => ⟨S1x8x2048x96, .f32⟩
  | .hbm, ⟨94, _⟩ => ⟨S1x2048x8x64, .f32⟩
  | .hbm, ⟨95, _⟩ => ⟨S1x2048x8x96, .f32⟩
  | .hbm, ⟨96, _⟩ => ⟨S1x2048x8x96, .f32⟩
  | .hbm, ⟨97, _⟩ => ⟨S2048x8x96, .f32⟩
  | .hbm, ⟨98, _⟩ => ⟨S_, .i32⟩
  | .hbm, ⟨99, _⟩ => ⟨S_, .f32⟩
  | .hbm, ⟨100, _⟩ => ⟨S2048x8x128, .f32⟩
  | .hbm, ⟨101, _⟩ => ⟨S2048x1024, .f32⟩
  | .hbm, ⟨102, _⟩ => ⟨S2048x8x96, .f32⟩
  | .hbm, ⟨103, _⟩ => ⟨S_, .i32⟩
  | .hbm, ⟨104, _⟩ => ⟨S_, .f32⟩
  | .hbm, ⟨105, _⟩ => ⟨S2048x8x128, .f32⟩
  | .hbm, ⟨106, _⟩ => ⟨S2048x1024, .f32⟩
  | .hbm, ⟨107, _⟩ => ⟨S2048x8x64, .f32⟩
  | .hbm, ⟨108, _⟩ => ⟨S_, .i32⟩
  | .hbm, ⟨109, _⟩ => ⟨S_, .f32⟩
  | .hbm, ⟨110, _⟩ => ⟨S2048x8x128, .f32⟩
  | .hbm, ⟨111, _⟩ => ⟨S2048x1024, .f32⟩
  | _, _ => ⟨S1x2048x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_call0_v0 : Ref sig .tc := ⟨.hbm, 19, rfl⟩
abbrev main_v13_1 : Ref sig .tc := ⟨.hbm, 20, rfl⟩
abbrev main_call0_v2 : Ref sig .tc := ⟨.hbm, 21, rfl⟩
abbrev main_v13_0 : Ref sig .tc := ⟨.hbm, 22, rfl⟩
abbrev main_call0_cst : Ref sig .tc := ⟨.hbm, 23, rfl⟩
abbrev main_v13_2 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_10 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_call1_cst : Ref sig .tc := ⟨.hbm, 86, rfl⟩
abbrev main_call1_v0 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c : Ref sig .tc := ⟨.hbm, 98, rfl⟩
abbrev main_call2_v0 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c_14 : Ref sig .tc := ⟨.hbm, 103, rfl⟩
abbrev main_call3_v0 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_c_15 : Ref sig .tc := ⟨.hbm, 108, rfl⟩
abbrev main_call4_v0 : Ref sig .tc := ⟨.hbm, 109, rfl⟩
abbrev main_v78 : Ref sig .tc := ⟨.hbm, 110, rfl⟩
abbrev main_v79 : Ref sig .tc := ⟨.hbm, 111, rfl⟩

abbrev nD : Nat := 1
abbrev τ : Topo := Topo.v7x

variable {F : FTy → Type} [FloatOps F]
-- ==== Ffn.lean ====
abbrev S1x2048x1024 : Shape := ⟨3, ![1, 2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1x2048x4096 : Shape := ⟨3, ![1, 2048, 4096]⟩
abbrev S1024x4x1024 : Shape := ⟨3, ![1024, 4, 1024]⟩
abbrev S4x1024x1024 : Shape := ⟨3, ![4, 1024, 1024]⟩
abbrev S2048x1024 : Shape := ⟨2, ![2048, 1024]⟩
abbrev S1x1024 : Shape := ⟨2, ![1, 1024]⟩
abbrev S2048x4096 : Shape := ⟨2, ![2048, 4096]⟩
abbrev S4x2048x1024 : Shape := ⟨3, ![4, 2048, 1024]⟩
abbrev S512x1024 : Shape := ⟨2, ![512, 1024]⟩
abbrev S1x1024x1024 : Shape := ⟨3, ![1, 1024, 1024]⟩
abbrev S1x512x1024 : Shape := ⟨3, ![1, 512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 43
  | .vmem => 22
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1x2048x1024, .f32⟩
  | .hbm, ⟨5, _⟩ => ⟨S1x2048x1024, .f32⟩
  | .hbm, ⟨6, _⟩ => ⟨S_, .f32⟩
  | .hbm, ⟨7, _⟩ => ⟨S1x2048, .f32⟩
  | .hbm, ⟨8, _⟩ => ⟨S1x2048x1, .f32⟩
  | .hbm, ⟨9, _⟩ => ⟨S_, .f32⟩
  | .hbm, ⟨10, _⟩ => ⟨S1x2048x1, .f32⟩
  | .hbm, ⟨11, _⟩ => ⟨S1x2048x1, .f32⟩
  | .hbm, ⟨12, _⟩ => ⟨S_, .f32⟩
  | .hbm, ⟨13, _⟩ => ⟨S1x2048x1, .f32⟩
  | .hbm, ⟨14, _⟩ => ⟨S1x2048x1, .f32⟩
  | .hbm, ⟨15, _⟩ => ⟨S1x2048x1, .f32⟩
  | .hbm, ⟨16, _⟩ => ⟨S1x2048x1024, .f32⟩
  | .hbm, ⟨17, _⟩ => ⟨S1x2048x1024, .f32⟩
  | .hbm, ⟨18, _⟩ => ⟨S1x1x1024, .f32⟩
  | .hbm, ⟨19, _⟩ => ⟨S1x2048x1024, .f32⟩
  | .hbm, ⟨20, _⟩ => ⟨S1x2048x1024, .f32⟩
  | .hbm, ⟨21, _⟩ => ⟨S1x2048x4096, .f32⟩
  | .hbm, ⟨22, _⟩ => ⟨S_, .f32⟩
  | .hbm, ⟨23, _⟩ => ⟨S1x2048x4096, .f32⟩
  | .hbm, ⟨24, _⟩ => ⟨S1x2048x4096, .f32⟩
  | .hbm, ⟨25, _⟩ => ⟨S1x2048x4096, .bf16⟩
  | .hbm, ⟨26, _⟩ => ⟨S1024x4x1024, .f32⟩
  | .hbm, ⟨27, _⟩ => ⟨S4x1024x1024, .f32⟩
  | .hbm, ⟨28, _⟩ => ⟨S4x1024x1024, .bf16⟩
  | .hbm, ⟨29, _⟩ => ⟨S4x1024x1024, .f32⟩
  | .hbm, ⟨30, _⟩ => ⟨S4x1024x1024, .bf16⟩
  | .hbm, ⟨31, _⟩ => ⟨S2048x1024, .f32⟩
  | .hbm, ⟨32, _⟩ => ⟨S1x1024, .f32⟩
  | .hbm, ⟨33, _⟩ => ⟨S2048x4096, .bf16⟩
  | .hbm, ⟨34, _⟩ => ⟨S2048x1024, .f32⟩
  | .hbm, ⟨35, _⟩ => ⟨S4x2048x1024, .f32⟩
  | .hbm, ⟨36, _⟩ => ⟨S1x1024, .f32⟩
  | .hbm, ⟨37, _⟩ => ⟨S4x1024x1024, .f32⟩
  | .hbm, ⟨38, _⟩ => ⟨S4x1024x1024, .f32⟩
  | .hbm, ⟨39, _⟩ => ⟨S4x1024x1024, .bf16⟩
  | .hbm, ⟨40, _⟩ => ⟨S4x1024x1024, .bf16⟩
  | .hbm, ⟨41, _⟩ => ⟨S_, .f32⟩
  | .hbm, ⟨42, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x1024, .f32⟩
  | .local _ .vmem, ⟨14, _⟩ => ⟨S1x1024x1024, .f32⟩
  | .local _ .vmem, ⟨15, _⟩ => ⟨S1x1024x1024, .f32⟩
  | .local _ .vmem, ⟨16, _⟩ => ⟨S1x1024x1024, .f32⟩
  | .local _ .vmem, ⟨17, _⟩ => ⟨S1x1024x1024, .f32⟩
  | .local _ .vmem, ⟨18, _⟩ => ⟨S1x1024x1024, .bf16⟩
  | .local _ .vmem, ⟨19, _⟩ => ⟨S1x1024x1024, .bf16⟩
  | .local _ .vmem, ⟨20, _⟩ => ⟨S1x1024x1024, .bf16⟩
  | .local _ .vmem, ⟨21, _⟩ => ⟨S1x1024x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25_0 : Ref sig .tc := ⟨.hbm, 35, rfl⟩
abbrev main_v25_1 : Ref sig .tc := ⟨.hbm, 36, rfl⟩
abbrev main_v25_2 : Ref sig .tc := ⟨.hbm, 37, rfl⟩
abbrev main_v25_3 : Ref sig .tc := ⟨.hbm, 38, rfl⟩
abbrev main_v25_4 : Ref sig .tc := ⟨.hbm, 39, rfl⟩
abbrev main_v25_5 : Ref sig .tc := ⟨.hbm, 40, rfl⟩
abbrev main_cst_2 : Ref sig .tc := ⟨.hbm, 41, rfl⟩
abbrev main_v26 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v58 : BitVec 1 := Scalar.cmpi .eq arg0 c0_i32
  let arg1 : BitVec 32 := BitVec.ofNat 32 (i 1).val
  let c0_i32_26 : BitVec 32 := 0#32
  let v59 : BitVec 1 := Scalar.cmpi .eq arg1 c0_i32_26
  let v60 : BitVec 1 := Scalar.andi v58 v59
  let v61 : BitVec 32 := Scalar.extui v60
  let c0_i32_27 : BitVec 32 := 0#32
  let v62 : BitVec 1 := Scalar.cmpi .ne v61 c0_i32_27
  v62

def k0_cond2 (i : grid0.Coords) : BitVec 1 :=
  let arg0 : BitVec 32 := BitVec.ofNat 32 (i 0).val
  let c0_i32 : BitVec 32 := 0#32
  let v58 : BitVec 1 := Scalar.cmpi .eq arg0 c0_i32
  let arg1 : BitVec 32 := BitVec.ofNat 32 (i 1).val
  let c0_i32_26 : BitVec 32 := 0#32
  let v59 : BitVec 1 := Scalar.cmpi .eq arg1 c0_i32_26
  let v60 : BitVec 1 := Scalar.andi v58 v59
  let v_true : BitVec 1 := 1#1
  let v63 : BitVec 1 := Scalar.xori v60 v_true
  let v64 : BitVec 32 := Scalar.extui v63
  let c0_i32_28 : BitVec 32 := 0#32
  let v65 : BitVec 1 := Scalar.cmpi .ne v64 c0_i32_28
  v65

def k0_cond3 (i : grid0.Coords) : BitVec 1 :=
  let arg1 : BitVec 32 := BitVec.ofNat 32 (i 1).val
  let c0_i32_30 : BitVec 32 := 0#32
  let v69 : BitVec 1 := Scalar.cmpi .eq arg1 c0_i32_30
  let v70 : BitVec 32 := Scalar.extui v69
  let c0_i32_31 : BitVec 32 := 0#32
  let v71 : BitVec 1 := Scalar.cmpi .ne v70 c0_i32_31
  v71

def k0_cond4 (i : grid0.Coords) : BitVec 1 :=
  let arg1 : BitVec 32 := BitVec.ofNat 32 (i 1).val
  let c0_i32_30 : BitVec 32 := 0#32
  let v69 : BitVec 1 := Scalar.cmpi .eq arg1 c0_i32_30
  let true_32 : BitVec 1 := 1#1
  let v72 : BitVec 1 := Scalar.xori v69 true_32
  let v73 : BitVec 32 := Scalar.extui v72
  let c0_i32_33 : BitVec 32 := 0#32
  let v74 : BitVec 1 := Scalar.cmpi .ne v73 c0_i32_33
  v74

def k0_cond5 (i : grid0.Coords) : BitVec 1 :=
  let arg1 : BitVec 32 := BitVec.ofNat 32 (i 1).val
  let c0_i32_35 : BitVec 32 := 0#32
  let v79 : BitVec 1 := Scalar.cmpi .eq arg1 c0_i32_35
  let v80 : BitVec 32 := Scalar.extui v79
  let c0_i32_36 : BitVec 32 := 0#32
  let v81 : BitVec 1 := Scalar.cmpi .ne v80 c0_i32_36
  v81

def k0_cond6 (i : grid0.Coords) : BitVec 1 :=
  let arg1 : BitVec 32 := BitVec.ofNat 32 (i 1).val
  let c0_i32_35 : BitVec 32 := 0#32
  let v79 : BitVec 1 := Scalar.cmpi .eq arg1 c0_i32_35
  let true_37 : BitVec 1 := 1#1
  let v82 : BitVec 1 := Scalar.xori v79 true_37
  let v83 : BitVec 32 := Scalar.extui v82
  let c0_i32_38 : BitVec 32 := 0#32
  let v84 : BitVec 1 := Scalar.cmpi .ne v83 c0_i32_38
  v84

def k0_cond7 (i : grid0.Coords) : BitVec 1 :=
  let arg1 : BitVec 32 := BitVec.ofNat 32 (i 1).val
  let c3_i32 : BitVec 32 := 3#32
  let v85 : BitVec 1 := Scalar.cmpi .eq arg1 c3_i32
  let v86 : BitVec 32 := Scalar.extui v85
  let c0_i32_39 : BitVec 32 := 0#32
  let v87 : BitVec 1 := Scalar.cmpi .ne v86 c0_i32_39
  v87

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== FfnRefIdeal.lean ====
abbrev S1x2048x1024 : Shape := ⟨3, ![1, 2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1x2048x4096 : Shape := ⟨3, ![1, 2048, 4096]⟩
abbrev S1x1024 : Shape := ⟨2, ![1, 1024]⟩
abbrev S2048 : Shape := ⟨1, ![2048]⟩
abbrev S1024x4x1024 : Shape := ⟨3, ![1024, 4, 1024]⟩
abbrev S4x1024x1024 : Shape := ⟨3, ![4, 1024, 1024]⟩
abbrev S2048x1024 : Shape := ⟨2, ![2048, 1024]⟩

abbrev nBuf : Space → Nat
  | .hbm => 82
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1x2048x1024, .f32⟩
  | .hbm, ⟨5, _⟩ => ⟨S1x2048x1024, .f32⟩
  | .hbm, ⟨6, _⟩ => ⟨S_, .f32⟩
  | .hbm, ⟨7, _⟩ => ⟨S1x2048, .f32⟩
  | .hbm, ⟨8, _⟩ => ⟨S1x2048x1, .f32⟩
  | .hbm, ⟨9, _⟩ => ⟨S_, .f32⟩
  | .hbm, ⟨10, _⟩ => ⟨S1x2048x1, .f32⟩
  | .hbm, ⟨11, _⟩ => ⟨S1x2048x1, .f32⟩
  | .hbm, ⟨12, _⟩ => ⟨S_, .f32⟩
  | .hbm, ⟨13, _⟩ => ⟨S1x2048x1, .f32⟩
  | .hbm, ⟨14, _⟩ => ⟨S1x2048x1, .f32⟩
  | .hbm, ⟨15, _⟩ => ⟨S1x2048x1, .f32⟩
  | .hbm, ⟨16, _⟩ => ⟨S1x2048x1, .f32⟩
  | .hbm, ⟨17, _⟩ => ⟨S_, .f32⟩
  | .hbm, ⟨18, _⟩ => ⟨S1x2048x1, .f32⟩
  | .hbm, ⟨19, _⟩ => ⟨S1x2048x1, .f32⟩
  | .hbm, ⟨20, _⟩ => ⟨S1x2048x1024, .f32⟩
  | .hbm, ⟨21, _⟩ => ⟨S1x2048x1024, .f32⟩
  | .hbm, ⟨22, _⟩ => ⟨S1x1x1024, .f32⟩
  | .hbm, ⟨23, _⟩ => ⟨S1x2048x1024, .f32⟩
  | .hbm, ⟨24, _⟩ => ⟨S1x2048x1024, .f32⟩
  | .hbm, ⟨25, _⟩ => ⟨S1x2048x4096, .f32⟩
  | .hbm, ⟨26, _⟩ => ⟨S_, .f32⟩
  | .hbm, ⟨27, _⟩ => ⟨S1x2048x4096, .f32⟩
  | .hbm, ⟨28, _⟩ => ⟨S1x2048x4096, .f32⟩
  | .hbm, ⟨29, _⟩ => ⟨S_, .f32⟩
  | .hbm, ⟨30, _⟩ => ⟨S1x2048x4096, .f32⟩
  | .hbm, ⟨31, _⟩ => ⟨S1x2048x4096, .i1⟩
  | .hbm, ⟨32, _⟩ => ⟨S_, .f32⟩
  | .hbm, ⟨33, _⟩ => ⟨S1x2048x4096, .f32⟩
  | .hbm, ⟨34, _⟩ => ⟨S1x2048x4096, .f32⟩
  | .hbm, ⟨35, _⟩ => ⟨S_, .f32⟩
  | .hbm, ⟨36, _⟩ => ⟨S1x2048x4096, .f32⟩
  | .hbm, ⟨37, _⟩ => ⟨S1x2048x4096, .f32⟩
  | .hbm, ⟨38, _⟩ => ⟨S1x2048x1024, .f32⟩
  | .hbm, ⟨39, _⟩ => ⟨S1024x4096, .f32⟩
  | .hbm, ⟨40, _⟩ => ⟨S4096x1024, .f32⟩
  | .hbm, ⟨41, _⟩ => ⟨S1x2048x4096, .f32⟩
  | .hbm, ⟨42, _⟩ => ⟨S1x2048x4096, .f32⟩
  | .hbm, ⟨43, _⟩ => ⟨S_, .f32⟩
  | .hbm, ⟨44, _⟩ => ⟨S1x2048x4096, .f32⟩
  | .hbm, ⟨45, _⟩ => ⟨S1x2048x4096, .f32⟩
  | .hbm, ⟨46, _⟩ => ⟨S4096x1024, .f32⟩
  | .hbm, ⟨47, _⟩ => ⟨S1024x4096, .f32⟩
  | .hbm, ⟨48, _⟩ => ⟨S1x2048x1024, .f32⟩
  | .hbm, ⟨49, _⟩ => ⟨S1x2048x1024, .f32⟩
  | .hbm, ⟨50, _⟩ => ⟨S_, .f32⟩
  | .hbm, ⟨51, _⟩ => ⟨S1x1024, .f32⟩
  | .hbm, ⟨52, _⟩ => ⟨S1x1x1024, .f32⟩
  | .hbm, ⟨53, _⟩ => ⟨S1x2048x1024, .f32⟩
  | .hbm, ⟨54, _⟩ => ⟨S1x2048x1024, .f32⟩
  | .hbm, ⟨55, _⟩ => ⟨S_, .f32⟩
  | .hbm, ⟨56, _⟩ => ⟨S1024, .f32⟩
  | .hbm, ⟨57, _⟩ => ⟨S1x2048x1024, .f32⟩
  | .hbm, ⟨58, _⟩ => ⟨S_, .f32⟩
  | .hbm, ⟨59, _⟩ => ⟨S1x2048, .f32⟩
  | .hbm, ⟨60, _⟩ => ⟨S1x2048x1, .f32⟩
  | .hbm, ⟨61, _⟩ => ⟨S1x2048x1024, .f32⟩
  | .hbm, ⟨62, _⟩ => ⟨S1x2048x1024, .f32⟩
  | .hbm, ⟨63, _⟩ => ⟨S1x2048x1, .f32⟩
  | .hbm, ⟨64, _⟩ => ⟨S_, .f32⟩
  | .hbm, ⟨65, _⟩ => ⟨S1x2048x1, .f32⟩
  | .hbm, ⟨66, _⟩ => ⟨S1x2048x1, .f32⟩
  | .hbm, ⟨67, _⟩ => ⟨S_, .f32⟩
  | .hbm, ⟨68, _⟩ => ⟨S2048, .f32⟩
  | .hbm, ⟨69, _⟩ => ⟨S1x2048, .f32⟩
  | .hbm, ⟨70, _⟩ => ⟨S1x2048x1024, .f32⟩
  | .hbm, ⟨71, _⟩ => ⟨S1x2048x1024, .f32⟩
  | .hbm, ⟨72, _⟩ => ⟨S1x2048x1024, .f32⟩
  | .hbm, ⟨73, _⟩ => ⟨S1x2048x1024, .f32⟩
  | .hbm, ⟨74, _⟩ => ⟨S1x2048x1024, .f32⟩
  | .hbm, ⟨75, _⟩ => ⟨S1024x4x1024, .f32⟩
  | .hbm, ⟨76, _⟩ => ⟨S4x1024x1024, .f32⟩
  | .hbm, ⟨77, _⟩ => ⟨S4x1024x1024, .f32⟩
  | .hbm, ⟨78, _⟩ => ⟨S2048x1024, .f32⟩
  | .hbm, ⟨79, _⟩ => ⟨S1x1024, .f32⟩
  | .hbm, ⟨80, _⟩ => ⟨S4x1024x1024, .bf16⟩
  | .hbm, ⟨81, _⟩ => ⟨S4x1024x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]
-- ==== Inproj.lean ====
abbrev S1x2048x1024 : Shape := ⟨3, ![1, 2048, 1024]⟩
abbrev S1024 : Shape := ⟨1, ![1024]⟩
abbrev S1024x1952 : Shape := ⟨2, ![1024, 1952]⟩
abbrev S1x2048x1952 : Shape := ⟨3, ![1, 2048, 1952]⟩
abbrev S1024x416 : Shape := ⟨2, ![1024, 416]⟩
abbrev S_ : Shape := ⟨0, ![]⟩
abbrev S1024x512 : Shape := ⟨2, ![1024, 512]⟩
abbrev S2048x1952 : Shape := ⟨2, ![2048, 1952]⟩
abbrev S2048x416 : Shape := ⟨2, ![2048, 416]⟩
abbrev S2048x512 : Shape := ⟨2, ![2048, 512]⟩
abbrev S2048x1024 : Shape := ⟨2, ![2048, 1024]⟩
abbrev S1x1024 : Shape := ⟨2, ![1, 1024]⟩
abbrev S1024x1024 : Shape := ⟨2, ![1024, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 27
  | .vmem => 20
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1024x1952, .f32⟩
  | .hbm, ⟨3, _⟩ => ⟨S1x2048x1952, .f32⟩
  | .hbm, ⟨4, _⟩ => ⟨S1x2048x1024, .f32⟩
  | .hbm, ⟨5, _⟩ => ⟨S1024x1952, .bf16⟩
  | .hbm, ⟨6, _⟩ => ⟨S1024x416, .bf16⟩
  | .hbm, ⟨7, _⟩ => ⟨S_, .i32⟩
  | .hbm, ⟨8, _⟩ => ⟨S_, .bf16⟩
  | .hbm, ⟨9, _⟩ => ⟨S1024x512, .bf16⟩
  | .hbm, ⟨10, _⟩ => ⟨S2048x1952, .f32⟩
  | .hbm, ⟨11, _⟩ => ⟨S2048x416, .f32⟩
  | .hbm, ⟨12, _⟩ => ⟨S_, .i32⟩
  | .hbm, ⟨13, _⟩ => ⟨S_, .f32⟩
  | .hbm, ⟨14, _⟩ => ⟨S2048x512, .f32⟩
  | .hbm, ⟨15, _⟩ => ⟨S2048x1024, .f32⟩
  | .hbm, ⟨16, _⟩ => ⟨S1x1024, .f32⟩
  | .hbm, ⟨17, _⟩ => ⟨S1024x512, .bf16⟩
  | .hbm, ⟨18, _⟩ => ⟨S1024x1024, .bf16⟩
  | .hbm, ⟨19, _⟩ => ⟨S2048x512, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S1024x512, .f32⟩
  | .hbm, ⟨25, _⟩ => ⟨S1024x1024, .f32⟩
  | .hbm, ⟨26, _⟩ => ⟨S1024x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x1024, .bf16⟩
  | .local _ .vmem, ⟨5, _⟩ => ⟨S1024x512, .bf16⟩
  | .local _ .vmem, ⟨6, _⟩ => ⟨S512x512, .f32⟩
  | .local _ .vmem, ⟨7, _⟩ => ⟨S512x512, .f32⟩
  | .local _ .vmem, ⟨8, _⟩ => ⟨S512x1024, .f32⟩
  | .local _ .vmem, ⟨9, _⟩ => ⟨S512x1024, .f32⟩
  | .local _ .vmem, ⟨10, _⟩ => ⟨S512x512, .f32⟩
  | .local _ .vmem, ⟨11, _⟩ => ⟨S512x512, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S1024x512, .f32⟩
  | .local _ .vmem, ⟨18, _⟩ => ⟨S1024x1024, .f32⟩
  | .local _ .vmem, ⟨19, _⟩ => ⟨S1024x512, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev main_v13_4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v79 : BitVec 32 := Scalar.extui v0
  let c0_i32_32 : BitVec 32 := 0#32
  let v80 : BitVec 1 := Scalar.cmpi .ne v79 c0_i32_32
  v80

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v81 : BitVec 1 := Scalar.xori v0 v_true
  let v82 : BitVec 32 := Scalar.extui v81
  let c0_i32_33 : BitVec 32 := 0#32
  let v83 : BitVec 1 := Scalar.cmpi .ne v82 c0_i32_33
  v83

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v84 : BitVec 32 := Scalar.extui v0
  let c0_i32_34 : BitVec 32 := 0#32
  let v85 : BitVec 1 := Scalar.cmpi .ne v84 c0_i32_34
  v85

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_35 : BitVec 1 := 1#1
  let v86 : BitVec 1 := Scalar.xori v0 true_35
  let v87 : BitVec 32 := Scalar.extui v86
  let c0_i32_36 : BitVec 32 := 0#32
  let v88 : BitVec 1 := Scalar.cmpi .ne v87 c0_i32_36
  v88

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v89 : BitVec 32 := Scalar.extui v0
  let c0_i32_37 : BitVec 32 := 0#32
  let v90 : BitVec 1 := Scalar.cmpi .ne v89 c0_i32_37
  v90

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_38 : BitVec 1 := 1#1
  let v91 : BitVec 1 := Scalar.xori v0 true_38
  let v92 : BitVec 32 := Scalar.extui v91
  let c0_i32_39 : BitVec 32 := 0#32
  let v93 : BitVec 1 := Scalar.cmpi .ne v92 c0_i32_39
  v93

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v94 : BitVec 32 := Scalar.extui v0
  let c0_i32_40 : BitVec 32 := 0#32
  let v95 : BitVec 1 := Scalar.cmpi .ne v94 c0_i32_40
  v95

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_41 : BitVec 1 := 1#1
  let v96 : BitVec 1 := Scalar.xori v0 true_41
  let v97 : BitVec 32 := Scalar.extui v96
  let c0_i32_42 : BitVec 32 := 0#32
  let v98 : BitVec 1 := Scalar.cmpi .ne v97 c0_i32_42
  v98

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== InprojRefIdeal.lean ====
abbrev S1x2048x1024 : Shape := ⟨3, ![1, 2048, 1024]⟩
abbrev S1024 : Shape := ⟨1, ![1024]⟩
abbrev S1024x1952 : Shape := ⟨2, ![1024, 1952]⟩
abbrev S1x2048x1952 : Shape := ⟨3, ![1, 2048, 1952]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1952x1024 : Shape := ⟨2, ![1952, 1024]⟩
abbrev S1x1024 : Shape := ⟨2, ![1, 1024]⟩
abbrev S2048 : Shape := ⟨1, ![2048]⟩
abbrev S2048x1024 : Shape := ⟨2, ![2048, 1024]⟩
abbrev S1024x512 : Shape := ⟨2, ![1024, 512]⟩
abbrev S1024x1024 : Shape := ⟨2, ![1024, 1024]⟩
abbrev S1024x416 : Shape := ⟨2, ![1024, 416]⟩

abbrev nBuf : Space → Nat
  | .hbm => 64
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1024x1952, .f32⟩
  | .hbm, ⟨3, _⟩ => ⟨S1x2048x1952, .f32⟩
  | .hbm, ⟨4, _⟩ => ⟨S1x2048x1024, .f32⟩
  | .hbm, ⟨5, _⟩ => ⟨S1x2048x1024, .f32⟩
  | .hbm, ⟨6, _⟩ => ⟨S_, .f32⟩
  | .hbm, ⟨7, _⟩ => ⟨S1x2048, .f32⟩
  | .hbm, ⟨8, _⟩ => ⟨S1x2048x1, .f32⟩
  | .hbm, ⟨9, _⟩ => ⟨S_, .f32⟩
  | .hbm, ⟨10, _⟩ => ⟨S1x2048x1, .f32⟩
  | .hbm, ⟨11, _⟩ => ⟨S1x2048x1, .f32⟩
  | .hbm, ⟨12, _⟩ => ⟨S_, .f32⟩
  | .hbm, ⟨13, _⟩ => ⟨S1x2048x1, .f32⟩
  | .hbm, ⟨14, _⟩ => ⟨S1x2048x1, .f32⟩
  | .hbm, ⟨15, _⟩ => ⟨S1x2048x1, .f32⟩
  | .hbm, ⟨16, _⟩ => ⟨S1x2048x1, .f32⟩
  | .hbm, ⟨17, _⟩ => ⟨S_, .f32⟩
  | .hbm, ⟨18, _⟩ => ⟨S1x2048x1, .f32⟩
  | .hbm, ⟨19, _⟩ => ⟨S1x2048x1, .f32⟩
  | .hbm, ⟨20, _⟩ => ⟨S1x2048x1024, .f32⟩
  | .hbm, ⟨21, _⟩ => ⟨S1x2048x1024, .f32⟩
  | .hbm, ⟨22, _⟩ => ⟨S1x1x1024, .f32⟩
  | .hbm, ⟨23, _⟩ => ⟨S1x2048x1024, .f32⟩
  | .hbm, ⟨24, _⟩ => ⟨S1x2048x1024, .f32⟩
  | .hbm, ⟨25, _⟩ => ⟨S1x2048x1952, .f32⟩
  | .hbm, ⟨26, _⟩ => ⟨S1952x1024, .f32⟩
  | .hbm, ⟨27, _⟩ => ⟨S1024x1952, .f32⟩
  | .hbm, ⟨28, _⟩ => ⟨S1x2048x1024, .f32⟩
  | .hbm, ⟨29, _⟩ => ⟨S1x2048x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x2048x1024, .f32⟩
  | .hbm, ⟨34, _⟩ => ⟨S1x2048x1024, .f32⟩
  | .hbm, ⟨35, _⟩ => ⟨S_, .f32⟩
  | .hbm, ⟨36, _⟩ => ⟨S1024, .f32⟩
  | .hbm, ⟨37, _⟩ => ⟨S1x2048x1024, .f32⟩
  | .hbm, ⟨38, _⟩ => ⟨S_, .f32⟩
  | .hbm, ⟨39, _⟩ => ⟨S1x2048, .f32⟩
  | .hbm, ⟨40, _⟩ => ⟨S1x2048x1, .f32⟩
  | .hbm, ⟨41, _⟩ => ⟨S1x2048x1024, .f32⟩
  | .hbm, ⟨42, _⟩ => ⟨S1x2048x1024, .f32⟩
  | .hbm, ⟨43, _⟩ => ⟨S1x2048x1024, .f32⟩
  | .hbm, ⟨44, _⟩ => ⟨S1x2048x1, .f32⟩
  | .hbm, ⟨45, _⟩ => ⟨S_, .f32⟩
  | .hbm, ⟨46, _⟩ => ⟨S1x2048x1, .f32⟩
  | .hbm, ⟨47, _⟩ => ⟨S1x2048x1, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S1x2048x1024, .f32⟩
  | .hbm, ⟨52, _⟩ => ⟨S1x2048x1024, .f32⟩
  | .hbm, ⟨53, _⟩ => ⟨S1x2048x1024, .f32⟩
  | .hbm, ⟨54, _⟩ => ⟨S1x2048x1024, .f32⟩
  | .hbm, ⟨55, _⟩ => ⟨S1x2048x1024, .f32⟩
  | .hbm, ⟨56, _⟩ => ⟨S2048x1024, .f32⟩
  | .hbm, ⟨57, _⟩ => ⟨S1x1024, .f32⟩
  | .hbm, ⟨58, _⟩ => ⟨S1024x512, .f32⟩
  | .hbm, ⟨59, _⟩ => ⟨S1024x1024, .f32⟩
  | .hbm, ⟨60, _⟩ => ⟨S1024x416, .f32⟩
  | .hbm, ⟨61, _⟩ => ⟨S_, .i32⟩
  | .hbm, ⟨62, _⟩ => ⟨S_, .f32⟩
  | .hbm, ⟨63, _⟩ => ⟨S1024x512, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c : Ref sig .tc := ⟨.hbm, 61, rfl⟩
abbrev main_call0_v0 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== Outproj.lean ====
abbrev S1x2048x1024 : Shape := ⟨3, ![1, 2048, 1024]⟩
abbrev S1x2048x256 : Shape := ⟨3, ![1, 2048, 256]⟩
abbrev S1x2048x512 : Shape := ⟨3, ![1, 2048, 512]⟩
abbrev S512 : Shape := ⟨1, ![512]⟩
abbrev S1024x1024 : Shape := ⟨2, ![1024, 1024]⟩
abbrev S4x2048x1024 : Shape := ⟨3, ![4, 2048, 1024]⟩
abbrev S4x256x1024 : Shape := ⟨3, ![4, 256, 1024]⟩
abbrev S1x256x1024 : Shape := ⟨3, ![1, 256, 1024]⟩
abbrev S256x1024 : Shape := ⟨2, ![256, 1024]⟩
abbrev S512x1024 : Shape := ⟨2, ![512, 1024]⟩
abbrev S8x64x1024 : Shape := ⟨3, ![8, 64, 1024]⟩
abbrev S_ : Shape := ⟨0, ![]⟩
abbrev S8x128x1024 : Shape := ⟨3, ![8, 128, 1024]⟩
abbrev S8x64 : Shape := ⟨2, ![8, 64]⟩
abbrev S8x128 : Shape := ⟨2, ![8, 128]⟩
abbrev S1024 : Shape := ⟨1, ![1024]⟩
abbrev S1x1024 : Shape := ⟨2, ![1, 1024]⟩
abbrev S2048x256 : Shape := ⟨2, ![2048, 256]⟩
abbrev S2048x512 : Shape := ⟨2, ![2048, 512]⟩
abbrev S2048x8x64 : Shape := ⟨3, ![2048, 8, 64]⟩
abbrev S2048x8x128 : Shape := ⟨3, ![2048, 8, 128]⟩
abbrev S2048x1024 : Shape := ⟨2, ![2048, 1024]⟩
abbrev S512x256 : Shape := ⟨2, ![512, 256]⟩
abbrev S4x512x1024 : Shape := ⟨3, ![4, 512, 1024]⟩
abbrev S1x512x1024 : Shape := ⟨3, ![1, 512, 1024]⟩
abbrev S512x128 : Shape := ⟨2, ![512, 128]⟩
abbrev S1x128 : Shape := ⟨2, ![1, 128]⟩
abbrev S512x1 : Shape := ⟨2, ![512, 1]⟩
abbrev S128 : Shape := ⟨1, ![128]⟩

abbrev nBuf : Space → Nat
  | .hbm => 50
  | .vmem => 26
  | .smem => 0
  | _ => 0

abbrev bufTy : (tb : Table) → Fin (tcTables nBuf tb) → BufTy
  | .hbm, ⟨0, _⟩ => ⟨S1x2048x1024, .f32⟩
  | .hbm, ⟨1, _⟩ => ⟨S1x2048x256, .f32⟩
  | .hbm, ⟨2, _⟩ => ⟨S1x2048x256, .f32⟩
  | .hbm, ⟨3, _⟩ => ⟨S1x2048x512, .f32⟩
  | .hbm, ⟨4, _⟩ => ⟨S512, .f32⟩
  | .hbm, ⟨5, _⟩ => ⟨S1024x1024, .f32⟩
  | .hbm, ⟨6, _⟩ => ⟨S1x2048x1024, .f32⟩
  | .hbm, ⟨7, _⟩ => ⟨S4x2048x1024, .f32⟩
  | .hbm, ⟨8, _⟩ => ⟨S4x256x1024, .f32⟩
  | .hbm, ⟨9, _⟩ => ⟨S4x256x1024, .bf16⟩
  | .hbm, ⟨10, _⟩ => ⟨S1x256x1024, .bf16⟩
  | .hbm, ⟨11, _⟩ => ⟨S256x1024, .bf16⟩
  | .hbm, ⟨12, _⟩ => ⟨S1x256x1024, .bf16⟩
  | .hbm, ⟨13, _⟩ => ⟨S256x1024, .bf16⟩
  | .hbm, ⟨14, _⟩ => ⟨S1x256x1024, .bf16⟩
  | .hbm, ⟨15, _⟩ => ⟨S256x1024, .bf16⟩
  | .hbm, ⟨16, _⟩ => ⟨S1x256x1024, .bf16⟩
  | .hbm, ⟨17, _⟩ => ⟨S256x1024, .bf16⟩
  | .hbm, ⟨18, _⟩ => ⟨S1024x1024, .bf16⟩
  | .hbm, ⟨19, _⟩ => ⟨S512x1024, .bf16⟩
  | .hbm, ⟨20, _⟩ => ⟨S8x64x1024, .bf16⟩
  | .hbm, ⟨21, _⟩ => ⟨S_, .i32⟩
  | .hbm, ⟨22, _⟩ => ⟨S_, .bf16⟩
  | .hbm, ⟨23, _⟩ => ⟨S8x128x1024, .bf16⟩
  | .hbm, ⟨24, _⟩ => ⟨S1024x1024, .bf16⟩
  | .hbm, ⟨25, _⟩ => ⟨S256x1024, .bf16⟩
  | .hbm, ⟨26, _⟩ => ⟨S256x1024, .bf16⟩
  | .hbm, ⟨27, _⟩ => ⟨S8x64, .f32⟩
  | .hbm, ⟨28, _⟩ => ⟨S_, .i32⟩
  | .hbm, ⟨29, _⟩ => ⟨S_, .f32⟩
  | .hbm, ⟨30, _⟩ => ⟨S8x128, .f32⟩
  | .hbm, ⟨31, _⟩ => ⟨S1024, .f32⟩
  | .hbm, ⟨32, _⟩ => ⟨S1x1024, .f32⟩
  | .hbm, ⟨33, _⟩ => ⟨S2048x256, .f32⟩
  | .hbm, ⟨34, _⟩ => ⟨S2048x256, .f32⟩
  | .hbm, ⟨35, _⟩ => ⟨S2048x512, .f32⟩
  | .hbm, ⟨36, _⟩ => ⟨S2048x8x64, .f32⟩
  | .hbm, ⟨37, _⟩ => ⟨S_, .i32⟩
  | .hbm, ⟨38, _⟩ => ⟨S_, .f32⟩
  | .hbm, ⟨39, _⟩ => ⟨S2048x8x128, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x256, .f32⟩
  | .hbm, ⟨44, _⟩ => ⟨S2048x256, .f32⟩
  | .hbm, ⟨45, _⟩ => ⟨S2048x1024, .f32⟩
  | .hbm, ⟨46, _⟩ => ⟨S1x1024, .f32⟩
  | .hbm, ⟨47, _⟩ => ⟨S256x1024, .f32⟩
  | .hbm, ⟨48, _⟩ => ⟨S256x1024, .f32⟩
  | .hbm, ⟨49, _⟩ => ⟨S1024x1024, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S256x1024, .bf16⟩
  | .local _ .vmem, ⟨8, _⟩ => ⟨S256x1024, .bf16⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | .local _ .vmem, ⟨12, _⟩ => ⟨S4x512x1024, .f32⟩
  | .local _ .vmem, ⟨13, _⟩ => ⟨S4x512x1024, .f32⟩
  | .local _ .vmem, ⟨14, _⟩ => ⟨S512x1024, .f32⟩
  | .local _ .vmem, ⟨15, _⟩ => ⟨S512x1024, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | .local _ .vmem, ⟨23, _⟩ => ⟨S256x1024, .f32⟩
  | .local _ .vmem, ⟨24, _⟩ => ⟨S256x1024, .f32⟩
  | .local _ .vmem, ⟨25, _⟩ => ⟨S1024x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_0 : Ref sig .tc := ⟨.hbm, 28, rfl⟩
abbrev main_call1_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_1 : Ref sig .tc := ⟨.hbm, 37, rfl⟩
abbrev main_call2_v0 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28_0 : Ref sig .tc := ⟨.hbm, 42, rfl⟩
abbrev main_v28_1 : Ref sig .tc := ⟨.hbm, 43, rfl⟩
abbrev main_v28_2 : Ref sig .tc := ⟨.hbm, 44, rfl⟩
abbrev main_v28_3 : Ref sig .tc := ⟨.hbm, 45, rfl⟩
abbrev main_v28_4 : Ref sig .tc := ⟨.hbm, 46, rfl⟩
abbrev main_v28_5 : Ref sig .tc := ⟨.hbm, 47, rfl⟩
abbrev main_v28_6 : Ref sig .tc := ⟨.hbm, 48, rfl⟩
abbrev main_v28_7 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem15_0 : DmaSem sig := 24
abbrev cc0_sem16_0 : DmaSem sig := 25

abbrev nD : Nat := 1
abbrev τ : Topo := Topo.v7x

variable {F : FTy → Type} [FloatOps F]

abbrev grid0 : Pipeline.Grid := ⟨1, ![4], ![false]⟩

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v386 : BitVec 32 := Scalar.extui v0
  let c0_i32_130 : BitVec 32 := 0#32
  let v387 : BitVec 1 := Scalar.cmpi .ne v386 c0_i32_130
  v387

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_131 : BitVec 1 := 1#1
  let v388 : BitVec 1 := Scalar.xori v0 true_131
  let v389 : BitVec 32 := Scalar.extui v388
  let c0_i32_132 : BitVec 32 := 0#32
  let v390 : BitVec 1 := Scalar.cmpi .ne v389 c0_i32_132
  v390

def k0_cond9 (i : grid0.Coords) : BitVec 1 :=
  let arg0 : BitVec 32 := BitVec.ofNat 32 (i 0).val
  let c0_i32 : BitVec 32 := 0#32
  let v0 : BitVec 1 := Scalar.cmpi .eq arg0 c0_i32
  let v392 : BitVec 32 := Scalar.extui v0
  let c0_i32_135 : BitVec 32 := 0#32
  let v393 : BitVec 1 := Scalar.cmpi .ne v392 c0_i32_135
  v393

def k0_cond10 (i : grid0.Coords) : BitVec 1 :=
  let arg0 : BitVec 32 := BitVec.ofNat 32 (i 0).val
  let c0_i32 : BitVec 32 := 0#32
  let v0 : BitVec 1 := Scalar.cmpi .eq arg0 c0_i32
  let true_136 : BitVec 1 := 1#1
  let v394 : BitVec 1 := Scalar.xori v0 true_136
  let v395 : BitVec 32 := Scalar.extui v394
  let c0_i32_137 : BitVec 32 := 0#32
  let v396 : BitVec 1 := Scalar.cmpi .ne v395 c0_i32_137
  v396

def k0_cond11 (i : grid0.Coords) : BitVec 1 :=
  let arg0 : BitVec 32 := BitVec.ofNat 32 (i 0).val
  let c0_i32 : BitVec 32 := 0#32
  let v0 : BitVec 1 := Scalar.cmpi .eq arg0 c0_i32
  let v398 : BitVec 32 := Scalar.extui v0
  let c0_i32_140 : BitVec 32 := 0#32
  let v399 : BitVec 1 := Scalar.cmpi .ne v398 c0_i32_140
  v399

def k0_cond12 (i : grid0.Coords) : BitVec 1 :=
  let arg0 : BitVec 32 := BitVec.ofNat 32 (i 0).val
  let c0_i32 : BitVec 32 := 0#32
  let v0 : BitVec 1 := Scalar.cmpi .eq arg0 c0_i32
  let true_141 : BitVec 1 := 1#1
  let v400 : BitVec 1 := Scalar.xori v0 true_141
  let v401 : BitVec 32 := Scalar.extui v400
  let c0_i32_142 : BitVec 32 := 0#32
  let v402 : BitVec 1 := Scalar.cmpi .ne v401 c0_i32_142
  v402

def k0_cond13 (i : grid0.Coords) : BitVec 1 :=
  let arg0 : BitVec 32 := BitVec.ofNat 32 (i 0).val
  let c0_i32 : BitVec 32 := 0#32
  let v0 : BitVec 1 := Scalar.cmpi .eq arg0 c0_i32
  let v404 : BitVec 32 := Scalar.extui v0
  let c0_i32_145 : BitVec 32 := 0#32
  let v405 : BitVec 1 := Scalar.cmpi .ne v404 c0_i32_145
  v405

def k0_cond14 (i : grid0.Coords) : BitVec 1 :=
  let arg0 : BitVec 32 := BitVec.ofNat 32 (i 0).val
  let c0_i32 : BitVec 32 := 0#32
  let v0 : BitVec 1 := Scalar.cmpi .eq arg0 c0_i32
  let true_146 : BitVec 1 := 1#1
  let v406 : BitVec 1 := Scalar.xori v0 true_146
  let v407 : BitVec 32 := Scalar.extui v406
  let c0_i32_147 : BitVec 32 := 0#32
  let v408 : BitVec 1 := Scalar.cmpi .ne v407 c0_i32_147
  v408

def k0_cond15 (i : grid0.Coords) : BitVec 1 :=
  let arg0 : BitVec 32 := BitVec.ofNat 32 (i 0).val
  let c0_i32 : BitVec 32 := 0#32
  let v0 : BitVec 1 := Scalar.cmpi .eq arg0 c0_i32
  let v410 : BitVec 32 := Scalar.extui v0
  let c0_i32_150 : BitVec 32 := 0#32
  let v411 : BitVec 1 := Scalar.cmpi .ne v410 c0_i32_150
  v411

def k0_cond16 (i : grid0.Coords) : BitVec 1 :=
  let arg0 : BitVec 32 := BitVec.ofNat 32 (i 0).val
  let c0_i32 : BitVec 32 := 0#32
  let v0 : BitVec 1 := Scalar.cmpi .eq arg0 c0_i32
  let true_151 : BitVec 1 := 1#1
  let v412 : BitVec 1 := Scalar.xori v0 true_151
  let v413 : BitVec 32 := Scalar.extui v412
  let c0_i32_152 : BitVec 32 := 0#32
  let v414 : BitVec 1 := Scalar.cmpi .ne v413 c0_i32_152
  v414

def k0_cond17 (i : grid0.Coords) : BitVec 1 :=
  let arg0 : BitVec 32 := BitVec.ofNat 32 (i 0).val
  let c0_i32 : BitVec 32 := 0#32
  let v0 : BitVec 1 := Scalar.cmpi .eq arg0 c0_i32
  let v416 : BitVec 32 := Scalar.extui v0
  let c0_i32_155 : BitVec 32 := 0#32
  let v417 : BitVec 1 := Scalar.cmpi .ne v416 c0_i32_155
  v417

def k0_cond18 (i : grid0.Coords) : BitVec 1 :=
  let arg0 : BitVec 32 := BitVec.ofNat 32 (i 0).val
  let c0_i32 : BitVec 32 := 0#32
  let v0 : BitVec 1 := Scalar.cmpi .eq arg0 c0_i32
  let true_156 : BitVec 1 := 1#1
  let v418 : BitVec 1 := Scalar.xori v0 true_156
  let v419 : BitVec 32 := Scalar.extui v418
  let c0_i32_157 : BitVec 32 := 0#32
  let v420 : BitVec 1 := Scalar.cmpi .ne v419 c0_i32_157
  v420

def k0_cond19 (i : grid0.Coords) : BitVec 1 :=
  let arg0 : BitVec 32 := BitVec.ofNat 32 (i 0).val
  let c0_i32 : BitVec 32 := 0#32
  let v0 : BitVec 1 := Scalar.cmpi .eq arg0 c0_i32
  let v422 : BitVec 32 := Scalar.extui v0
  let c0_i32_160 : BitVec 32 := 0#32
  let v423 : BitVec 1 := Scalar.cmpi .ne v422 c0_i32_160
  v423

def k0_cond20 (i : grid0.Coords) : BitVec 1 :=
  let arg0 : BitVec 32 := BitVec.ofNat 32 (i 0).val
  let c0_i32 : BitVec 32 := 0#32
  let v0 : BitVec 1 := Scalar.cmpi .eq arg0 c0_i32
  let true_161 : BitVec 1 := 1#1
  let v424 : BitVec 1 := Scalar.xori v0 true_161
  let v425 : BitVec 32 := Scalar.extui v424
  let c0_i32_162 : BitVec 32 := 0#32
  let v426 : BitVec 1 := Scalar.cmpi .ne v425 c0_i32_162
  v426

def k0_cond21 (i : grid0.Coords) : BitVec 1 :=
  let arg0 : BitVec 32 := BitVec.ofNat 32 (i 0).val
  let c0_i32 : BitVec 32 := 0#32
  let v0 : BitVec 1 := Scalar.cmpi .eq arg0 c0_i32
  let v428 : BitVec 32 := Scalar.extui v0
  let c0_i32_165 : BitVec 32 := 0#32
  let v429 : BitVec 1 := Scalar.cmpi .ne v428 c0_i32_165
  v429

def k0_cond22 (i : grid0.Coords) : BitVec 1 :=
  let arg0 : BitVec 32 := BitVec.ofNat 32 (i 0).val
  let c0_i32 : BitVec 32 := 0#32
  let v0 : BitVec 1 := Scalar.cmpi .eq arg0 c0_i32
  let true_166 : BitVec 1 := 1#1
  let v430 : BitVec 1 := Scalar.xori v0 true_166
  let v431 : BitVec 32 := Scalar.extui v430
  let c0_i32_167 : BitVec 32 := 0#32
  let v432 : BitVec 1 := Scalar.cmpi .ne v431 c0_i32_167
  v432

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v370 : BitVec 32 := Scalar.extui v0
  let c0_i32_120 : BitVec 32 := 0#32
  let v371 : BitVec 1 := Scalar.cmpi .ne v370 c0_i32_120
  v371

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v372 : BitVec 1 := Scalar.xori v0 v_true
  let v373 : BitVec 32 := Scalar.extui v372
  let c0_i32_121 : BitVec 32 := 0#32
  let v374 : BitVec 1 := Scalar.cmpi .ne v373 c0_i32_121
  v374

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v375 : BitVec 32 := Scalar.extui v0
  let c0_i32_122 : BitVec 32 := 0#32
  let v376 : BitVec 1 := Scalar.cmpi .ne v375 c0_i32_122
  v376

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_123 : BitVec 1 := 1#1
  let v377 : BitVec 1 := Scalar.xori v0 true_123
  let v378 : BitVec 32 := Scalar.extui v377
  let c0_i32_124 : BitVec 32 := 0#32
  let v379 : BitVec 1 := Scalar.cmpi .ne v378 c0_i32_124
  v379

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v380 : BitVec 32 := Scalar.extui v0
  let c0_i32_125 : BitVec 32 := 0#32
  let v381 : BitVec 1 := Scalar.cmpi .ne v380 c0_i32_125
  v381

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_126 : BitVec 1 := 1#1
  let v382 : BitVec 1 := Scalar.xori v0 true_126
  let v383 : BitVec 32 := Scalar.extui v382
  let c0_i32_127 : BitVec 32 := 0#32
  let v384 : BitVec 1 := Scalar.cmpi .ne v383 c0_i32_127
  v384

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== OutprojRefIdeal.lean ====
abbrev S1x2048x1024 : Shape := ⟨3, ![1, 2048, 1024]⟩
abbrev S1x2048x256 : Shape := ⟨3, ![1, 2048, 256]⟩
abbrev S1x2048x512 : Shape := ⟨3, ![1, 2048, 512]⟩
abbrev S512 : Shape := ⟨1, ![512]⟩
abbrev S1024x1024 : Shape := ⟨2, ![1024, 1024]⟩
abbrev S4x2048x1024 : Shape := ⟨3, ![4, 2048, 1024]⟩
abbrev S1x2048x8x64 : Shape := ⟨4, ![1, 2048, 8, 64]⟩
abbrev S8x64 : Shape := ⟨2, ![8, 64]⟩
abbrev S_ : Shape := ⟨0, ![]⟩
abbrev S1x2048x8 : Shape := ⟨3, ![1, 2048, 8]⟩
abbrev S1x2048x8x1 : Shape := ⟨4, ![1, 2048, 8, 1]⟩
abbrev S1x1x8x64 : Shape := ⟨4, ![1, 1, 8, 64]⟩
abbrev S2048x1024 : Shape := ⟨2, ![2048, 1024]⟩
abbrev S1x8x64 : Shape := ⟨3, ![1, 8, 64]⟩
abbrev S2048x8 : Shape := ⟨2, ![2048, 8]⟩
abbrev S2048x8x64 : Shape := ⟨3, ![2048, 8, 64]⟩
abbrev S2048x8x128 : Shape := ⟨3, ![2048, 8, 128]⟩
abbrev S8x128 : Shape := ⟨2, ![8, 128]⟩
abbrev S1x1024 : Shape := ⟨2, ![1, 1024]⟩
abbrev S512x1024 : Shape := ⟨2, ![512, 1024]⟩
abbrev S8x64x1024 : Shape := ⟨3, ![8, 64, 1024]⟩
abbrev S8x128x1024 : Shape := ⟨3, ![8, 128, 1024]⟩
abbrev S2048x256 : Shape := ⟨2, ![2048, 256]⟩
abbrev S256x1024 : Shape := ⟨2, ![256, 1024]⟩

abbrev nBuf : Space → Nat
  | .hbm => 94
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x256, .f32⟩
  | .hbm, ⟨2, _⟩ => ⟨S1x2048x256, .f32⟩
  | .hbm, ⟨3, _⟩ => ⟨S1x2048x512, .f32⟩
  | .hbm, ⟨4, _⟩ => ⟨S512, .f32⟩
  | .hbm, ⟨5, _⟩ => ⟨S1024x1024, .f32⟩
  | .hbm, ⟨6, _⟩ => ⟨S1x2048x1024, .f32⟩
  | .hbm, ⟨7, _⟩ => ⟨S4x2048x1024, .f32⟩
  | .hbm, ⟨8, _⟩ => ⟨S1x2048x8x64, .f32⟩
  | .hbm, ⟨9, _⟩ => ⟨S8x64, .f32⟩
  | .hbm, ⟨10, _⟩ => ⟨S1x2048x8x64, .f32⟩
  | .hbm, ⟨11, _⟩ => ⟨S_, .f32⟩
  | .hbm, ⟨12, _⟩ => ⟨S1x2048x8, .f32⟩
  | .hbm, ⟨13, _⟩ => ⟨S1x2048x8x1, .f32⟩
  | .hbm, ⟨14, _⟩ => ⟨S_, .f32⟩
  | .hbm, ⟨15, _⟩ => ⟨S1x2048x8x1, .f32⟩
  | .hbm, ⟨16, _⟩ => ⟨S1x2048x8x1, .f32⟩
  | .hbm, ⟨17, _⟩ => ⟨S_, .f32⟩
  | .hbm, ⟨18, _⟩ => ⟨S1x2048x8x1, .f32⟩
  | .hbm, ⟨19, _⟩ => ⟨S1x2048x8x1, .f32⟩
  | .hbm, ⟨20, _⟩ => ⟨S1x2048x8x1, .f32⟩
  | .hbm, ⟨21, _⟩ => ⟨S1x2048x8x1, .f32⟩
  | .hbm, ⟨22, _⟩ => ⟨S_, .f32⟩
  | .hbm, ⟨23, _⟩ => ⟨S1x2048x8x1, .f32⟩
  | .hbm, ⟨24, _⟩ => ⟨S1x2048x8x1, .f32⟩
  | .hbm, ⟨25, _⟩ => ⟨S1x2048x8x64, .f32⟩
  | .hbm, ⟨26, _⟩ => ⟨S1x2048x8x64, .f32⟩
  | .hbm, ⟨27, _⟩ => ⟨S1x1x8x64, .f32⟩
  | .hbm, ⟨28, _⟩ => ⟨S1x2048x8x64, .f32⟩
  | .hbm, ⟨29, _⟩ => ⟨S1x2048x8x64, .f32⟩
  | .hbm, ⟨30, _⟩ => ⟨S1x2048x512, .f32⟩
  | .hbm, ⟨31, _⟩ => ⟨S1x2048x1024, .f32⟩
  | .hbm, ⟨32, _⟩ => ⟨S1x2048x1024, .f32⟩
  | .hbm, ⟨33, _⟩ => ⟨S1x2048x1024, .f32⟩
  | .hbm, ⟨34, _⟩ => ⟨S_, .f32⟩
  | .hbm, ⟨35, _⟩ => ⟨S2048x1024, .f32⟩
  | .hbm, ⟨36, _⟩ => ⟨S1x2048x1024, .f32⟩
  | .hbm, ⟨37, _⟩ => ⟨S1x2048x1024, .f32⟩
  | .hbm, ⟨38, _⟩ => ⟨S1024x1024, .f32⟩
  | .hbm, ⟨39, _⟩ => ⟨S1024x1024, .f32⟩
  | .hbm, ⟨40, _⟩ => ⟨S1x2048x1024, .f32⟩
  | .hbm, ⟨41, _⟩ => ⟨S1x2048x256, .f32⟩
  | .hbm, ⟨42, _⟩ => ⟨S1x2048x256, .f32⟩
  | .hbm, ⟨43, _⟩ => ⟨S1x2048x512, .f32⟩
  | .hbm, ⟨44, _⟩ => ⟨S1x2048x8x64, .f32⟩
  | .hbm, ⟨45, _⟩ => ⟨S1x2048x8x64, .f32⟩
  | .hbm, ⟨46, _⟩ => ⟨S_, .f32⟩
  | .hbm, ⟨47, _⟩ => ⟨S1x8x64, .f32⟩
  | .hbm, ⟨48, _⟩ => ⟨S1x1x8x64, .f32⟩
  | .hbm, ⟨49, _⟩ => ⟨S1x2048x8x64, .f32⟩
  | .hbm, ⟨50, _⟩ => ⟨S1x2048x8x64, .f32⟩
  | .hbm, ⟨51, _⟩ => ⟨S_, .f32⟩
  | .hbm, ⟨52, _⟩ => ⟨S8x64, .f32⟩
  | .hbm, ⟨53, _⟩ => ⟨S1x2048x8x64, .f32⟩
  | .hbm, ⟨54, _⟩ => ⟨S_, .f32⟩
  | .hbm, ⟨55, _⟩ => ⟨S1x2048x8, .f32⟩
  | .hbm, ⟨56, _⟩ => ⟨S1x2048x8x1, .f32⟩
  | .hbm, ⟨57, _⟩ => ⟨S1x2048x8x64, .f32⟩
  | .hbm, ⟨58, _⟩ => ⟨S1x2048x8x64, .f32⟩
  | .hbm, ⟨59, _⟩ => ⟨S1x2048x8x1, .f32⟩
  | .hbm, ⟨60, _⟩ => ⟨S_, .f32⟩
  | .hbm, ⟨61, _⟩ => ⟨S1x2048x8x1, .f32⟩
  | .hbm, ⟨62, _⟩ => ⟨S1x2048x8x1, .f32⟩
  | .hbm, ⟨63, _⟩ => ⟨S_, .f32⟩
  | .hbm, ⟨64, _⟩ => ⟨S2048x8, .f32⟩
  | .hbm, ⟨65, _⟩ => ⟨S1x2048x8, .f32⟩
  | .hbm, ⟨66, _⟩ => ⟨S1x2048x8x64, .f32⟩
  | .hbm, ⟨67, _⟩ => ⟨S1x2048x8x64, .f32⟩
  | .hbm, ⟨68, _⟩ => ⟨S1x2048x8x64, .f32⟩
  | .hbm, ⟨69, _⟩ => ⟨S1x2048x8x64, .f32⟩
  | .hbm, ⟨70, _⟩ => ⟨S1x2048x8x64, .f32⟩
  | .hbm, ⟨71, _⟩ => ⟨S512, .f32⟩
  | .hbm, ⟨72, _⟩ => ⟨S1x2048x512, .f32⟩
  | .hbm, ⟨73, _⟩ => ⟨S2048x8x64, .f32⟩
  | .hbm, ⟨74, _⟩ => ⟨S_, .i32⟩
  | .hbm, ⟨75, _⟩ => ⟨S_, .f32⟩
  | .hbm, ⟨76, _⟩ => ⟨S2048x8x128, .f32⟩
  | .hbm, ⟨77, _⟩ => ⟨S2048x1024, .f32⟩
  | .hbm, ⟨78, _⟩ => ⟨S8x64, .f32⟩
  | .hbm, ⟨79, _⟩ => ⟨S_, .i32⟩
  | .hbm, ⟨80, _⟩ => ⟨S_, .f32⟩
  | .hbm, ⟨81, _⟩ => ⟨S8x128, .f32⟩
  | .hbm, ⟨82, _⟩ => ⟨S1x1024, .f32⟩
  | .hbm, ⟨83, _⟩ => ⟨S512x1024, .f32⟩
  | .hbm, ⟨84, _⟩ => ⟨S8x64x1024, .f32⟩
  | .hbm, ⟨85, _⟩ => ⟨S_, .i32⟩
  | .hbm, ⟨86, _⟩ => ⟨S_, .f32⟩
  | .hbm, ⟨87, _⟩ => ⟨S8x128x1024, .f32⟩
  | .hbm, ⟨88, _⟩ => ⟨S1024x1024, .f32⟩
  | .hbm, ⟨89, _⟩ => ⟨S2048x1024, .f32⟩
  | .hbm, ⟨90, _⟩ => ⟨S2048x256, .f32⟩
  | .hbm, ⟨91, _⟩ => ⟨S2048x256, .f32⟩
  | .hbm, ⟨92, _⟩ => ⟨S256x1024, .f32⟩
  | .hbm, ⟨93, _⟩ => ⟨S256x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c : Ref sig .tc := ⟨.hbm, 74, rfl⟩
abbrev main_call0_v0 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c_9 : Ref sig .tc := ⟨.hbm, 79, rfl⟩
abbrev main_call1_v0 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_c_10 : Ref sig .tc := ⟨.hbm, 85, rfl⟩
abbrev main_call2_v0 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩

abbrev nD : Nat := 1
abbrev τ : Topo := Topo.v7x

variable {F : FTy → Type} [FloatOps F]
-- ==== Gm.lean ====
abbrev S1x2048x256 : Shape := ⟨3, ![1, 2048, 256]⟩
abbrev S256 : Shape := ⟨1, ![256]⟩
abbrev S4x128x128 : Shape := ⟨3, ![4, 128, 128]⟩
abbrev S4x128 : Shape := ⟨2, ![4, 128]⟩
abbrev S2048x256 : Shape := ⟨2, ![2048, 256]⟩
abbrev S2048x512 : Shape := ⟨2, ![2048, 512]⟩
abbrev S1x256 : Shape := ⟨2, ![1, 256]⟩
abbrev S4x128x1 : Shape := ⟨3, ![4, 128, 1]⟩
abbrev S512x512 : Shape := ⟨2, ![512, 512]⟩
abbrev S512x256 : Shape := ⟨2, ![512, 256]⟩
abbrev S1x128x1 : Shape := ⟨3, ![1, 128, 1]⟩
abbrev S128x1 : Shape := ⟨2, ![128, 1]⟩
abbrev S128x256 : Shape := ⟨2, ![128, 256]⟩
abbrev S1x1x256 : Shape := ⟨3, ![1, 1, 256]⟩
abbrev S4x1x256 : Shape := ⟨3, ![4, 1, 256]⟩
abbrev S128 : Shape := ⟨1, ![128]⟩
abbrev S128x128 : Shape := ⟨2, ![128, 128]⟩
abbrev S1x128x128 : Shape := ⟨3, ![1, 128, 128]⟩
abbrev S1x128x256 : Shape := ⟨3, ![1, 128, 256]⟩
abbrev S4x128x256 : Shape := ⟨3, ![4, 128, 256]⟩

abbrev nBuf : Space → Nat
  | .hbm => 19
  | .vmem => 14
  | .smem => 0
  | _ => 0

abbrev bufTy : (tb : Table) → Fin (tcTables nBuf tb) → BufTy
  | .hbm, ⟨0, _⟩ => ⟨S1x2048x256, .f32⟩
  | .hbm, ⟨1, _⟩ => ⟨S1x2048x256, .f32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S256, .f32⟩
  | .hbm, ⟨6, _⟩ => ⟨S1x2048x256, .f32⟩
  | .hbm, ⟨7, _⟩ => ⟨S2048x256, .f32⟩
  | .hbm, ⟨8, _⟩ => ⟨S2048x256, .f32⟩
  | .hbm, ⟨9, _⟩ => ⟨S2048x512, .f32⟩
  | .hbm, ⟨10, _⟩ => ⟨S1x256, .f32⟩
  | .hbm, ⟨11, _⟩ => ⟨S4x128x1, .f32⟩
  | .hbm, ⟨12, _⟩ => ⟨S1x256, .f32⟩
  | .hbm, ⟨13, _⟩ => ⟨S2048x256, .f32⟩
  | .hbm, ⟨14, _⟩ => ⟨S2048x512, .f32⟩
  | .hbm, ⟨15, _⟩ => ⟨S1x256, .f32⟩
  | .hbm, ⟨16, _⟩ => ⟨S4x128x128, .f32⟩
  | .hbm, ⟨17, _⟩ => ⟨S4x128x1, .f32⟩
  | .hbm, ⟨18, _⟩ => ⟨S1x256, .f32⟩
  | .local _ .vmem, ⟨0, _⟩ => ⟨S512x512, .f32⟩
  | .local _ .vmem, ⟨1, _⟩ => ⟨S512x512, .f32⟩
  | .local _ .vmem, ⟨2, _⟩ => ⟨S1x256, .f32⟩
  | .local _ .vmem, ⟨3, _⟩ => ⟨S4x128x128, .f32⟩
  | .local _ .vmem, ⟨4, _⟩ => ⟨S4x128x1, .f32⟩
  | .local _ .vmem, ⟨5, _⟩ => ⟨S1x256, .f32⟩
  | .local _ .vmem, ⟨6, _⟩ => ⟨S512x256, .f32⟩
  | .local _ .vmem, ⟨7, _⟩ => ⟨S512x256, .f32⟩
  | .local _ .vmem, ⟨8, _⟩ => ⟨S512x512, .f32⟩
  | .local _ .vmem, ⟨9, _⟩ => ⟨S512x512, .f32⟩
  | .local _ .vmem, ⟨10, _⟩ => ⟨S1x256, .f32⟩
  | .local _ .vmem, ⟨11, _⟩ => ⟨S4x128x128, .f32⟩
  | .local _ .vmem, ⟨12, _⟩ => ⟨S4x128x1, .f32⟩
  | .local _ .vmem, ⟨13, _⟩ => ⟨S1x256, .f32⟩
  | _, _ => ⟨S1x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1818 : BitVec 32 := Scalar.extui v0
  let c0_i32_476 : BitVec 32 := 0#32
  let v1819 : BitVec 1 := Scalar.cmpi .ne v1818 c0_i32_476
  v1819

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v1820 : BitVec 1 := Scalar.xori v0 v_true
  let v1821 : BitVec 32 := Scalar.extui v1820
  let c0_i32_477 : BitVec 32 := 0#32
  let v1822 : BitVec 1 := Scalar.cmpi .ne v1821 c0_i32_477
  v1822

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v1823 : BitVec 32 := Scalar.extui v0
  let c0_i32_478 : BitVec 32 := 0#32
  let v1824 : BitVec 1 := Scalar.cmpi .ne v1823 c0_i32_478
  v1824

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_479 : BitVec 1 := 1#1
  let v1825 : BitVec 1 := Scalar.xori v0 true_479
  let v1826 : BitVec 32 := Scalar.extui v1825
  let c0_i32_480 : BitVec 32 := 0#32
  let v1827 : BitVec 1 := Scalar.cmpi .ne v1826 c0_i32_480
  v1827

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v1833 : BitVec 32 := Scalar.extui v0
  let c0_i32_485 : BitVec 32 := 0#32
  let v1834 : BitVec 1 := Scalar.cmpi .ne v1833 c0_i32_485
  v1834

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_486 : BitVec 1 := 1#1
  let v1835 : BitVec 1 := Scalar.xori v0 true_486
  let v1836 : BitVec 32 := Scalar.extui v1835
  let c0_i32_488 : BitVec 32 := 0#32
  let v1837 : BitVec 1 := Scalar.cmpi .ne v1836 c0_i32_488
  v1837

def k0_cond9 (i : grid0.Coords) : BitVec 1 :=
  let arg0 : BitVec 32 := BitVec.ofNat 32 (i 0).val
  let c0_i32 : BitVec 32 := 0#32
  let v0 : BitVec 1 := Scalar.cmpi .eq arg0 c0_i32
  let v1838 : BitVec 32 := Scalar.extui v0
  let c0_i32_490 : BitVec 32 := 0#32
  let v1839 : BitVec 1 := Scalar.cmpi .ne v1838 c0_i32_490
  v1839

def k0_cond10 (i : grid0.Coords) : BitVec 1 :=
  let arg0 : BitVec 32 := BitVec.ofNat 32 (i 0).val
  let c0_i32 : BitVec 32 := 0#32
  let v0 : BitVec 1 := Scalar.cmpi .eq arg0 c0_i32
  let true_491 : BitVec 1 := 1#1
  let v1840 : BitVec 1 := Scalar.xori v0 true_491
  let v1841 : BitVec 32 := Scalar.extui v1840
  let c0_i32_493 : BitVec 32 := 0#32
  let v1842 : BitVec 1 := Scalar.cmpi .ne v1841 c0_i32_493
  v1842

def k0_cond11 (i : grid0.Coords) : BitVec 1 :=
  let arg0 : BitVec 32 := BitVec.ofNat 32 (i 0).val
  let c0_i32 : BitVec 32 := 0#32
  let v0 : BitVec 1 := Scalar.cmpi .eq arg0 c0_i32
  let v1843 : BitVec 32 := Scalar.extui v0
  let c0_i32_495 : BitVec 32 := 0#32
  let v1844 : BitVec 1 := Scalar.cmpi .ne v1843 c0_i32_495
  v1844

def k0_cond12 (i : grid0.Coords) : BitVec 1 :=
  let arg0 : BitVec 32 := BitVec.ofNat 32 (i 0).val
  let c0_i32 : BitVec 32 := 0#32
  let v0 : BitVec 1 := Scalar.cmpi .eq arg0 c0_i32
  let true_496 : BitVec 1 := 1#1
  let v1845 : BitVec 1 := Scalar.xori v0 true_496
  let v1846 : BitVec 32 := Scalar.extui v1845
  let c0_i32_498 : BitVec 32 := 0#32
  let v1847 : BitVec 1 := Scalar.cmpi .ne v1846 c0_i32_498
  v1847

def k0_cond13 (i : grid0.Coords) : BitVec 1 :=
  let arg0 : BitVec 32 := BitVec.ofNat 32 (i 0).val
  let c0_i32 : BitVec 32 := 0#32
  let v0 : BitVec 1 := Scalar.cmpi .eq arg0 c0_i32
  let v1848 : BitVec 32 := Scalar.extui v0
  let c0_i32_500 : BitVec 32 := 0#32
  let v1849 : BitVec 1 := Scalar.cmpi .ne v1848 c0_i32_500
  v1849

def k0_cond14 (i : grid0.Coords) : BitVec 1 :=
  let arg0 : BitVec 32 := BitVec.ofNat 32 (i 0).val
  let c0_i32 : BitVec 32 := 0#32
  let v0 : BitVec 1 := Scalar.cmpi .eq arg0 c0_i32
  let true_501 : BitVec 1 := 1#1
  let v1850 : BitVec 1 := Scalar.xori v0 true_501
  let v1851 : BitVec 32 := Scalar.extui v1850
  let c0_i32_503 : BitVec 32 := 0#32
  let v1852 : BitVec 1 := Scalar.cmpi .ne v1851 c0_i32_503
  v1852

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v1828 : BitVec 32 := Scalar.extui v0
  let c0_i32_481 : BitVec 32 := 0#32
  let v1829 : BitVec 1 := Scalar.cmpi .ne v1828 c0_i32_481
  v1829

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_482 : BitVec 1 := 1#1
  let v1830 : BitVec 1 := Scalar.xori v0 true_482
  let v1831 : BitVec 32 := Scalar.extui v1830
  let c0_i32_483 : BitVec 32 := 0#32
  let v1832 : BitVec 1 := Scalar.cmpi .ne v1831 c0_i32_483
  v1832

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== GmRefIdeal.lean ====
abbrev S1x2048x256 : Shape := ⟨3, ![1, 2048, 256]⟩
abbrev S256 : Shape := ⟨1, ![256]⟩
abbrev S4x128x128 : Shape := ⟨3, ![4, 128, 128]⟩
abbrev S4x128 : Shape := ⟨2, ![4, 128]⟩
abbrev S_ : Shape := ⟨0, ![]⟩
abbrev S1x2048x4x64 : Shape := ⟨4, ![1, 2048, 4, 64]⟩
abbrev S4x64 : Shape := ⟨2, ![4, 64]⟩
abbrev S1x2048x4 : Shape := ⟨3, ![1, 2048, 4]⟩
abbrev S1x2048x4x1 : Shape := ⟨4, ![1, 2048, 4, 1]⟩
abbrev S1x1x4x64 : Shape := ⟨4, ![1, 1, 4, 64]⟩
abbrev S1x16x128x4x64 : Shape := ⟨5, ![1, 16, 128, 4, 64]⟩
abbrev S128x128 : Shape := ⟨2, ![128, 128]⟩
abbrev S4x1x16x64x128 : Shape := ⟨5, ![4, 1, 16, 64, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S1x4x64 : Shape := ⟨3, ![1, 4, 64]⟩
abbrev S2048x4 : Shape := ⟨2, ![2048, 4]⟩
abbrev S1x128x4 : Shape := ⟨3, ![1, 128, 4]⟩
abbrev S2048x256 : Shape := ⟨2, ![2048, 256]⟩
abbrev S2048x512 : Shape := ⟨2, ![2048, 512]⟩
abbrev S1x256 : Shape := ⟨2, ![1, 256]⟩
abbrev S4x128x1 : Shape := ⟨3, ![4, 128, 1]⟩

abbrev nBuf : Space → Nat
  | .hbm => 251
  | .vmem => 0
  | .smem => 0
  | _ => 0

abbrev hbmTy0_0 (i : Nat) : BufTy := match i % 128 with
  | 0 => ⟨S1x2048x256, .f32⟩
  | 1 => ⟨S1x2048x256, .f32⟩
  | 2 => ⟨S256, .f32⟩
  | 3 => ⟨S4x128x128, .f32⟩
  | 4 => ⟨S4x128, .f32⟩
  | 5 => ⟨S256, .f32⟩
  | 6 => ⟨S1x2048x256, .f32⟩
  | 7 => ⟨S1x2048x256, .f32⟩
  | 8 => ⟨S1x2048x256, .f32⟩
  | 9 => ⟨S1x2048x256, .f32⟩
  | 10 => ⟨S_, .f32⟩
  | 11 => ⟨S1x2048x256, .f32⟩
  | 12 => ⟨S1x2048x256, .f32⟩
  | 13 => ⟨S_, .f32⟩
  | 14 => ⟨S1x2048x256, .f32⟩
  | 15 => ⟨S1x2048x256, .f32⟩
  | 16 => ⟨S1x2048x256, .f32⟩
  | 17 => ⟨S_, .f32⟩
  | 18 => ⟨S1x2048x256, .f32⟩
  | 19 => ⟨S1x2048x256, .f32⟩
  | 20 => ⟨S1x2048x256, .f32⟩
  | 21 => ⟨S_, .f32⟩
  | 22 => ⟨S1x2048x256, .f32⟩
  | 23 => ⟨S1x2048x256, .f32⟩
  | 24 => ⟨S_, .f32⟩
  | 25 => ⟨S1x2048x256, .f32⟩
  | 26 => ⟨S1x2048x256, .f32⟩
  | 27 => ⟨S1x2048x256, .f32⟩
  | 28 => ⟨S_, .f32⟩
  | 29 => ⟨S1x2048x256, .f32⟩
  | 30 => ⟨S1x2048x256, .f32⟩
  | 31 => ⟨S_, .f32⟩
  | 32 => ⟨S1x2048x256, .f32⟩
  | 33 => ⟨S1x2048x256, .f32⟩
  | 34 => ⟨S1x2048x256, .f32⟩
  | 35 => ⟨S1x2048x256, .f32⟩
  | 36 => ⟨S1x2048x256, .f32⟩
  | 37 => ⟨S1x2048x256, .f32⟩
  | 38 => ⟨S_, .f32⟩
  | 39 => ⟨S1x2048x256, .f32⟩
  | 40 => ⟨S1x2048x256, .f32⟩
  | 41 => ⟨S_, .f32⟩
  | 42 => ⟨S1x2048x256, .f32⟩
  | 43 => ⟨S1x2048x256, .f32⟩
  | 44 => ⟨S1x2048x256, .f32⟩
  | 45 => ⟨S_, .f32⟩
  | 46 => ⟨S1x2048x256, .f32⟩
  | 47 => ⟨S1x2048x256, .f32⟩
  | 48 => ⟨S1x2048x256, .f32⟩
  | 49 => ⟨S_, .f32⟩
  | 50 => ⟨S1x2048x256, .f32⟩
  | 51 => ⟨S1x2048x256, .f32⟩
  | 52 => ⟨S_, .f32⟩
  | 53 => ⟨S1x2048x256, .f32⟩
  | 54 => ⟨S1x2048x256, .f32⟩
  | 55 => ⟨S1x2048x256, .f32⟩
  | 56 => ⟨S_, .f32⟩
  | 57 => ⟨S1x2048x256, .f32⟩
  | 58 => ⟨S1x2048x256, .f32⟩
  | 59 => ⟨S_, .f32⟩
  | 60 => ⟨S1x2048x256, .f32⟩
  | 61 => ⟨S1x2048x256, .f32⟩
  | 62 => ⟨S1x2048x256, .f32⟩
  | 63 => ⟨S1x2048x4x64, .f32⟩
  | 64 => ⟨S4x64, .f32⟩
  | 65 => ⟨S1x2048x4x64, .f32⟩
  | 66 => ⟨S_, .f32⟩
  | 67 => ⟨S1x2048x4, .f32⟩
  | 68 => ⟨S1x2048x4x1, .f32⟩
  | 69 => ⟨S_, .f32⟩
  | 70 => ⟨S1x2048x4x1, .f32⟩
  | 71 => ⟨S1x2048x4x1, .f32⟩
  | 72 => ⟨S_, .f32⟩
  | 73 => ⟨S1x2048x4x1, .f32⟩
  | 74 => ⟨S1x2048x4x1, .f32⟩
  | 75 => ⟨S1x2048x4x1, .f32⟩
  | 76 => ⟨S1x2048x4x1, .f32⟩
  | 77 => ⟨S_, .f32⟩
  | 78 => ⟨S1x2048x4x1, .f32⟩
  | 79 => ⟨S1x2048x4x1, .f32⟩
  | 80 => ⟨S1x2048x4x64, .f32⟩
  | 81 => ⟨S1x2048x4x64, .f32⟩
  | 82 => ⟨S1x1x4x64, .f32⟩
  | 83 => ⟨S1x2048x4x64, .f32⟩
  | 84 => ⟨S1x2048x4x64, .f32⟩
  | 85 => ⟨S1x2048x256, .f32⟩
  | 86 => ⟨S1x16x128x4x64, .f32⟩
  | 87 => ⟨S_, .i1⟩
  | 88 => ⟨S128x128, .i1⟩
  | 89 => ⟨S128x128, .i32⟩
  | 90 => ⟨S_, .i32⟩
  | 91 => ⟨S128x128, .i32⟩
  | 92 => ⟨S128x128, .i32⟩
  | 93 => ⟨S128x128, .i32⟩
  | 94 => ⟨S128x128, .i1⟩
  | 95 => ⟨S_, .i1⟩
  | 96 => ⟨S128x128, .i1⟩
  | 97 => ⟨S128x128, .i1⟩
  | 98 => ⟨S_, .i32⟩
  | 99 => ⟨S_, .f32⟩
  | 100 => ⟨S4x128x128, .i1⟩
  | 101 => ⟨S4x128x128, .f32⟩
  | 102 => ⟨S4x128x128, .f32⟩
  | 103 => ⟨S_, .f32⟩
  | 104 => ⟨S4x128x128, .f32⟩
  | 105 => ⟨S4x1x16x64x128, .f32⟩
  | 106 => ⟨S1x16x128x4x64, .f32⟩
  | 107 => ⟨S128x4, .f32⟩
  | 108 => ⟨S128x4x1, .f32⟩
  | 109 => ⟨S1x1x128x4x1, .f32⟩
  | 110 => ⟨S1x16x128x4x64, .f32⟩
  | 111 => ⟨S1x16x128x4x64, .f32⟩
  | 112 => ⟨S1x2048x256, .f32⟩
  | 113 => ⟨S1x2048x256, .f32⟩
  | 114 => ⟨S1x2048x4x64, .f32⟩
  | 115 => ⟨S4x64, .f32⟩
  | 116 => ⟨S1x2048x4x64, .f32⟩
  | 117 => ⟨S_, .f32⟩
  | 118 => ⟨S1x2048x4, .f32⟩
  | 119 => ⟨S1x2048x4x1, .f32⟩
  | 120 => ⟨S_, .f32⟩
  | 121 => ⟨S1x2048x4x1, .f32⟩
  | 122 => ⟨S1x2048x4x1, .f32⟩
  | 123 => ⟨S_, .f32⟩
  | 124 => ⟨S1x2048x4x1, .f32⟩
  | 125 => ⟨S1x2048x4x1, .f32⟩
  | 126 => ⟨S1x2048x4x1, .f32⟩
  | 127 => ⟨S1x2048x4x1, .f32⟩
  | _ => ⟨S1x2048x256, .f32⟩

abbrev hbmTy0_1 (i : Nat) : BufTy := match i % 128 with
  | 0 => ⟨S_, .f32⟩
  | 1 => ⟨S1x2048x4x1, .f32⟩
  | 2 => ⟨S1x2048x4x1, .f32⟩
  | 3 => ⟨S1x2048x4x64, .f32⟩
  | 4 => ⟨S1x2048x4x64, .f32⟩
  | 5 => ⟨S1x1x4x64, .f32⟩
  | 6 => ⟨S1x2048x4x64, .f32⟩
  | 7 => ⟨S1x2048x4x64, .f32⟩
  | 8 => ⟨S1x2048x256, .f32⟩
  | 9 => ⟨S1x2048x4x64, .f32⟩
  | 10 => ⟨S1x2048x4x64, .f32⟩
  | 11 => ⟨S_, .f32⟩
  | 12 => ⟨S1x4x64, .f32⟩
  | 13 => ⟨S1x1x4x64, .f32⟩
  | 14 => ⟨S1x2048x4x64, .f32⟩
  | 15 => ⟨S1x2048x4x64, .f32⟩
  | 16 => ⟨S_, .f32⟩
  | 17 => ⟨S4x64, .f32⟩
  | 18 => ⟨S1x2048x4x64, .f32⟩
  | 19 => ⟨S_, .f32⟩
  | 20 => ⟨S1x2048x4, .f32⟩
  | 21 => ⟨S1x2048x4x1, .f32⟩
  | 22 => ⟨S1x2048x4x64, .f32⟩
  | 23 => ⟨S1x2048x4x64, .f32⟩
  | 24 => ⟨S1x2048x4x1, .f32⟩
  | 25 => ⟨S_, .f32⟩
  | 26 => ⟨S1x2048x4x1, .f32⟩
  | 27 => ⟨S1x2048x4x1, .f32⟩
  | 28 => ⟨S_, .f32⟩
  | 29 => ⟨S2048x4, .f32⟩
  | 30 => ⟨S1x2048x4, .f32⟩
  | 31 => ⟨S1x2048x4x64, .f32⟩
  | 32 => ⟨S1x2048x4x64, .f32⟩
  | 33 => ⟨S1x2048x4x64, .f32⟩
  | 34 => ⟨S1x2048x4x64, .f32⟩
  | 35 => ⟨S1x2048x4x64, .f32⟩
  | 36 => ⟨S256, .f32⟩
  | 37 => ⟨S1x2048x256, .f32⟩
  | 38 => ⟨S1x2048x256, .f32⟩
  | 39 => ⟨S1x2048x256, .f32⟩
  | 40 => ⟨S1x16x128x4x64, .f32⟩
  | 41 => ⟨S_, .f32⟩
  | 42 => ⟨S1x128x4, .f32⟩
  | 43 => ⟨S1x1x128x4x1, .f32⟩
  | 44 => ⟨S_, .f32⟩
  | 45 => ⟨S128x4, .f32⟩
  | 46 => ⟨S128x4x1, .f32⟩
  | 47 => ⟨S_, .f32⟩
  | 48 => ⟨S128x4, .f32⟩
  | 49 => ⟨S4x128, .f32⟩
  | 50 => ⟨S4x1x16x64x128, .f32⟩
  | 51 => ⟨S4x128x128, .f32⟩
  | 52 => ⟨S4x1x16x64x128, .f32⟩
  | 53 => ⟨S1x16x128x4x64, .f32⟩
  | 54 => ⟨S_, .f32⟩
  | 55 => ⟨S4x128x128, .f32⟩
  | 56 => ⟨S4x128x128, .f32⟩
  | 57 => ⟨S1x2048x256, .f32⟩
  | 58 => ⟨S1x2048x4x64, .f32⟩
  | 59 => ⟨S1x2048x4x64, .f32⟩
  | 60 => ⟨S_, .f32⟩
  | 61 => ⟨S1x4x64, .f32⟩
  | 62 => ⟨S1x1x4x64, .f32⟩
  | 63 => ⟨S1x2048x4x64, .f32⟩
  | 64 => ⟨S1x2048x4x64, .f32⟩
  | 65 => ⟨S_, .f32⟩
  | 66 => ⟨S4x64, .f32⟩
  | 67 => ⟨S1x2048x4x64, .f32⟩
  | 68 => ⟨S_, .f32⟩
  | 69 => ⟨S1x2048x4, .f32⟩
  | 70 => ⟨S1x2048x4x1, .f32⟩
  | 71 => ⟨S1x2048x4x64, .f32⟩
  | 72 => ⟨S1x2048x4x64, .f32⟩
  | 73 => ⟨S1x2048x4x1, .f32⟩
  | 74 => ⟨S_, .f32⟩
  | 75 => ⟨S1x2048x4x1, .f32⟩
  | 76 => ⟨S1x2048x4x1, .f32⟩
  | 77 => ⟨S_, .f32⟩
  | 78 => ⟨S2048x4, .f32⟩
  | 79 => ⟨S1x2048x4, .f32⟩
  | 80 => ⟨S1x2048x4x64, .f32⟩
  | 81 => ⟨S1x2048x4x64, .f32⟩
  | 82 => ⟨S1x2048x4x64, .f32⟩
  | 83 => ⟨S1x2048x4x64, .f32⟩
  | 84 => ⟨S1x2048x4x64, .f32⟩
  | 85 => ⟨S256, .f32⟩
  | 86 => ⟨S1x2048x256, .f32⟩
  | 87 => ⟨S1x2048x256, .f32⟩
  | 88 => ⟨S1x2048x256, .f32⟩
  | 89 => ⟨S_, .f32⟩
  | 90 => ⟨S1x2048x256, .f32⟩
  | 91 => ⟨S1x2048x256, .f32⟩
  | 92 => ⟨S1x2048x256, .f32⟩
  | 93 => ⟨S_, .f32⟩
  | 94 => ⟨S1x2048x256, .f32⟩
  | 95 => ⟨S1x2048x256, .f32⟩
  | 96 => ⟨S1x2048x256, .f32⟩
  | 97 => ⟨S_, .f32⟩
  | 98 => ⟨S1x2048x256, .f32⟩
  | 99 => ⟨S1x2048x256, .f32⟩
  | 100 => ⟨S1x2048x256, .f32⟩
  | 101 => ⟨S1x2048x256, .f32⟩
  | 102 => ⟨S1x2048x256, .f32⟩
  | 103 => ⟨S1x2048x256, .f32⟩
  | 104 => ⟨S_, .f32⟩
  | 105 => ⟨S1x2048x256, .f32⟩
  | 106 => ⟨S1x2048x256, .f32⟩
  | 107 => ⟨S1x2048x256, .f32⟩
  | 108 => ⟨S_, .f32⟩
  | 109 => ⟨S1x2048x256, .f32⟩
  | 110 => ⟨S1x2048x256, .f32⟩
  | 111 => ⟨S1x2048x256, .f32⟩
  | 112 => ⟨S_, .f32⟩
  | 113 => ⟨S1x2048x256, .f32⟩
  | 114 => ⟨S1x2048x256, .f32⟩
  | 115 => ⟨S1x2048x256, .f32⟩
  | 116 => ⟨S1x2048x256, .f32⟩
  | 117 => ⟨S2048x256, .f32⟩
  | 118 => ⟨S2048x256, .f32⟩
  | 119 => ⟨S2048x512, .f32⟩
  | 120 => ⟨S1x256, .f32⟩
  | 121 => ⟨S4x128x1, .f32⟩
  | 122 => ⟨S1x256, .f32⟩
  | _ => ⟨S1x2048x256, .f32⟩

abbrev hbmTy (i : Nat) : BufTy := match i / 128 with
  | 0 => hbmTy0_0 i
  | 1 => hbmTy0_1 i
  | _ => ⟨S1x2048x256, .f32⟩

abbrev bufTy : (tb : Table) → Fin (tcTables nBuf tb) → BufTy
  | .hbm, ⟨i, _⟩ => hbmTy i
  | _, _ => ⟨S1x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_9 : Ref sig .tc := ⟨.hbm, 49, rfl⟩
abbrev main_v32 : Ref sig .tc := ⟨.hbm, 50, rfl⟩
abbrev main_v33 : Ref sig .tc := ⟨.hbm, 51, rfl⟩
abbrev main_cst_10 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_11 : Ref sig .tc := ⟨.hbm, 56, rfl⟩
abbrev main_v37 : Ref sig .tc := ⟨.hbm, 57, rfl⟩
abbrev main_v38 : Ref sig .tc := ⟨.hbm, 58, rfl⟩
abbrev main_cst_12 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_13 : Ref sig .tc := ⟨.hbm, 66, rfl⟩
abbrev main_v45 : Ref sig .tc := ⟨.hbm, 67, rfl⟩
abbrev main_v46 : Ref sig .tc := ⟨.hbm, 68, rfl⟩
abbrev main_cst_14 : Ref sig .tc := ⟨.hbm, 69, rfl⟩
abbrev main_v47 : Ref sig .tc := ⟨.hbm, 70, rfl⟩
abbrev main_v48 : Ref sig .tc := ⟨.hbm, 71, rfl⟩
abbrev main_cst_15 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_16 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c : Ref sig .tc := ⟨.hbm, 87, rfl⟩
abbrev main_v62 : Ref sig .tc := ⟨.hbm, 88, rfl⟩
abbrev main_call0_v0 : Ref sig .tc := ⟨.hbm, 89, rfl⟩
abbrev main_call0_c : Ref sig .tc := ⟨.hbm, 90, rfl⟩
abbrev main_call0_v1 : Ref sig .tc := ⟨.hbm, 91, rfl⟩
abbrev main_call0_v2 : Ref sig .tc := ⟨.hbm, 92, rfl⟩
abbrev main_call0_v3 : Ref sig .tc := ⟨.hbm, 93, rfl⟩
abbrev main_call0_v4 : Ref sig .tc := ⟨.hbm, 94, rfl⟩
abbrev main_call0_c_0 : Ref sig .tc := ⟨.hbm, 95, rfl⟩
abbrev main_call0_v5 : Ref sig .tc := ⟨.hbm, 96, rfl⟩
abbrev main_v63 : Ref sig .tc := ⟨.hbm, 97, rfl⟩
abbrev main_c_17 : Ref sig .tc := ⟨.hbm, 98, rfl⟩
abbrev main_call1_v0 : Ref sig .tc := ⟨.hbm, 99, rfl⟩
abbrev main_v64_1 : Ref sig .tc := ⟨.hbm, 100, rfl⟩
abbrev main_call1_v2 : Ref sig .tc := ⟨.hbm, 101, rfl⟩
abbrev main_v64_0 : Ref sig .tc := ⟨.hbm, 102, rfl⟩
abbrev main_call1_cst : Ref sig .tc := ⟨.hbm, 103, rfl⟩
abbrev main_v64_2 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_18 : Ref sig .tc := ⟨.hbm, 117, rfl⟩
abbrev main_v77 : Ref sig .tc := ⟨.hbm, 118, rfl⟩
abbrev main_v78 : Ref sig .tc := ⟨.hbm, 119, rfl⟩
abbrev main_cst_19 : Ref sig .tc := ⟨.hbm, 120, rfl⟩
abbrev main_v79 : Ref sig .tc := ⟨.hbm, 121, rfl⟩
abbrev main_v80 : Ref sig .tc := ⟨.hbm, 122, rfl⟩
abbrev main_cst_20 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_cst_21 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_22 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_23 : Ref sig .tc := ⟨.hbm, 144, rfl⟩
abbrev main_v99 : Ref sig .tc := ⟨.hbm, 145, rfl⟩
abbrev main_v100 : Ref sig .tc := ⟨.hbm, 146, rfl⟩
abbrev main_cst_24 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_cst_25 : Ref sig .tc := ⟨.hbm, 153, rfl⟩
abbrev main_v106 : Ref sig .tc := ⟨.hbm, 154, rfl⟩
abbrev main_v107 : Ref sig .tc := ⟨.hbm, 155, rfl⟩
abbrev main_cst_26 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_cst_27 : Ref sig .tc := ⟨.hbm, 169, rfl⟩
abbrev main_v120 : Ref sig .tc := ⟨.hbm, 170, rfl⟩
abbrev main_v121 : Ref sig .tc := ⟨.hbm, 171, rfl⟩
abbrev main_cst_28 : Ref sig .tc := ⟨.hbm, 172, rfl⟩
abbrev main_v122 : Ref sig .tc := ⟨.hbm, 173, rfl⟩
abbrev main_v123 : Ref sig .tc := ⟨.hbm, 174, rfl⟩
abbrev main_cst_29 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_call2_cst : Ref sig .tc := ⟨.hbm, 182, rfl⟩
abbrev main_call2_v0 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_cst_30 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_cst_31 : Ref sig .tc := ⟨.hbm, 193, rfl⟩
abbrev main_v138 : Ref sig .tc := ⟨.hbm, 194, rfl⟩
abbrev main_v139 : Ref sig .tc := ⟨.hbm, 195, rfl⟩
abbrev main_cst_32 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_cst_33 : Ref sig .tc := ⟨.hbm, 202, rfl⟩
abbrev main_v145 : Ref sig .tc := ⟨.hbm, 203, rfl⟩
abbrev main_v146 : Ref sig .tc := ⟨.hbm, 204, rfl⟩
abbrev main_cst_34 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_cst_35 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_cst_36 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_cst_37 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_cst_38 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_cst_39 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_cst_40 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩

abbrev nD : Nat := 1
abbrev τ : Topo := Topo.v7x

variable {F : FTy → Type} [FloatOps F]
-- ==== InprojFwd.lean ====
abbrev S1x2048x1024 : Shape := ⟨3, ![1, 2048, 1024]⟩
abbrev S1024 : Shape := ⟨1, ![1024]⟩
abbrev S1024x1952 : Shape := ⟨2, ![1024, 1952]⟩
abbrev S1024x416 : Shape := ⟨2, ![1024, 416]⟩
abbrev S_ : Shape := ⟨0, ![]⟩
abbrev S1024x512 : Shape := ⟨2, ![1024, 512]⟩
abbrev S2048x1024 : Shape := ⟨2, ![2048, 1024]⟩
abbrev S1x1024 : Shape := ⟨2, ![1, 1024]⟩
abbrev S1024x1024 : Shape := ⟨2, ![1024, 1024]⟩
abbrev S2048x512 : Shape := ⟨2, ![2048, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 15
  | .vmem => 12
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1024x1952, .f32⟩
  | .hbm, ⟨3, _⟩ => ⟨S1024x1952, .bf16⟩
  | .hbm, ⟨4, _⟩ => ⟨S1024x416, .bf16⟩
  | .hbm, ⟨5, _⟩ => ⟨S_, .i32⟩
  | .hbm, ⟨6, _⟩ => ⟨S_, .bf16⟩
  | .hbm, ⟨7, _⟩ => ⟨S1024x512, .bf16⟩
  | .hbm, ⟨8, _⟩ => ⟨S2048x1024, .f32⟩
  | .hbm, ⟨9, _⟩ => ⟨S1x1024, .f32⟩
  | .hbm, ⟨10, _⟩ => ⟨S1024x512, .bf16⟩
  | .hbm, ⟨11, _⟩ => ⟨S1024x1024, .bf16⟩
  | .hbm, ⟨12, _⟩ => ⟨S2048x512, .f32⟩
  | .hbm, ⟨13, _⟩ => ⟨S2048x1024, .f32⟩
  | .hbm, ⟨14, _⟩ => ⟨S2048x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x1024, .bf16⟩
  | .local _ .vmem, ⟨5, _⟩ => ⟨S1024x512, .bf16⟩
  | .local _ .vmem, ⟨6, _⟩ => ⟨S512x512, .f32⟩
  | .local _ .vmem, ⟨7, _⟩ => ⟨S512x512, .f32⟩
  | .local _ .vmem, ⟨8, _⟩ => ⟨S512x1024, .f32⟩
  | .local _ .vmem, ⟨9, _⟩ => ⟨S512x1024, .f32⟩
  | .local _ .vmem, ⟨10, _⟩ => ⟨S512x512, .f32⟩
  | .local _ .vmem, ⟨11, _⟩ => ⟨S512x512, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InprojFwdRefIdeal.lean ====
abbrev S1x2048x1024 : Shape := ⟨3, ![1, 2048, 1024]⟩
abbrev S1024 : Shape := ⟨1, ![1024]⟩
abbrev S1024x1952 : Shape := ⟨2, ![1024, 1952]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1x2048x1952 : Shape := ⟨3, ![1, 2048, 1952]⟩
abbrev S2048x1952 : Shape := ⟨2, ![2048, 1952]⟩
abbrev S2048x512 : Shape := ⟨2, ![2048, 512]⟩
abbrev S2048x1024 : Shape := ⟨2, ![2048, 1024]⟩
abbrev S2048x416 : Shape := ⟨2, ![2048, 416]⟩

abbrev nBuf : Space → Nat
  | .hbm => 27
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1024x1952, .f32⟩
  | .hbm, ⟨3, _⟩ => ⟨S1x2048x1024, .f32⟩
  | .hbm, ⟨4, _⟩ => ⟨S_, .f32⟩
  | .hbm, ⟨5, _⟩ => ⟨S1x2048, .f32⟩
  | .hbm, ⟨6, _⟩ => ⟨S1x2048x1, .f32⟩
  | .hbm, ⟨7, _⟩ => ⟨S_, .f32⟩
  | .hbm, ⟨8, _⟩ => ⟨S1x2048x1, .f32⟩
  | .hbm, ⟨9, _⟩ => ⟨S1x2048x1, .f32⟩
  | .hbm, ⟨10, _⟩ => ⟨S_, .f32⟩
  | .hbm, ⟨11, _⟩ => ⟨S1x2048x1, .f32⟩
  | .hbm, ⟨12, _⟩ => ⟨S1x2048x1, .f32⟩
  | .hbm, ⟨13, _⟩ => ⟨S1x2048x1, .f32⟩
  | .hbm, ⟨14, _⟩ => ⟨S1x2048x1024, .f32⟩
  | .hbm, ⟨15, _⟩ => ⟨S1x2048x1024, .f32⟩
  | .hbm, ⟨16, _⟩ => ⟨S1x1x1024, .f32⟩
  | .hbm, ⟨17, _⟩ => ⟨S1x2048x1024, .f32⟩
  | .hbm, ⟨18, _⟩ => ⟨S1x2048x1024, .f32⟩
  | .hbm, ⟨19, _⟩ => ⟨S1x2048x1952, .f32⟩
  | .hbm, ⟨20, _⟩ => ⟨S2048x1952, .f32⟩
  | .hbm, ⟨21, _⟩ => ⟨S2048x512, .f32⟩
  | .hbm, ⟨22, _⟩ => ⟨S2048x1024, .f32⟩
  | .hbm, ⟨23, _⟩ => ⟨S2048x416, .f32⟩
  | .hbm, ⟨24, _⟩ => ⟨S_, .i32⟩
  | .hbm, ⟨25, _⟩ => ⟨S_, .f32⟩
  | .hbm, ⟨26, _⟩ => ⟨S2048x512, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_call0_v0 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== OutprojFwd.lean ====
abbrev S1x2048x1024 : Shape := ⟨3, ![1, 2048, 1024]⟩
abbrev S1x2048x256 : Shape := ⟨3, ![1, 2048, 256]⟩
abbrev S1x2048x512 : Shape := ⟨3, ![1, 2048, 512]⟩
abbrev S512 : Shape := ⟨1, ![512]⟩
abbrev S1024x1024 : Shape := ⟨2, ![1024, 1024]⟩
abbrev S4x256x1024 : Shape := ⟨3, ![4, 256, 1024]⟩
abbrev S1x256x1024 : Shape := ⟨3, ![1, 256, 1024]⟩
abbrev S256x1024 : Shape := ⟨2, ![256, 1024]⟩
abbrev S512x1024 : Shape := ⟨2, ![512, 1024]⟩
abbrev S8x64x1024 : Shape := ⟨3, ![8, 64, 1024]⟩
abbrev S_ : Shape := ⟨0, ![]⟩
abbrev S8x128x1024 : Shape := ⟨3, ![8, 128, 1024]⟩
abbrev S8x64 : Shape := ⟨2, ![8, 64]⟩
abbrev S8x128 : Shape := ⟨2, ![8, 128]⟩
abbrev S1024 : Shape := ⟨1, ![1024]⟩
abbrev S1x1024 : Shape := ⟨2, ![1, 1024]⟩
abbrev S2048x1024 : Shape := ⟨2, ![2048, 1024]⟩
abbrev S2048x256 : Shape := ⟨2, ![2048, 256]⟩
abbrev S2048x512 : Shape := ⟨2, ![2048, 512]⟩
abbrev S2048x8x64 : Shape := ⟨3, ![2048, 8, 64]⟩
abbrev S2048x8x128 : Shape := ⟨3, ![2048, 8, 128]⟩
abbrev S512x256 : Shape := ⟨2, ![512, 256]⟩
abbrev S512x128 : Shape := ⟨2, ![512, 128]⟩
abbrev S1x128 : Shape := ⟨2, ![1, 128]⟩
abbrev S512x1 : Shape := ⟨2, ![512, 1]⟩

abbrev nBuf : Space → Nat
  | .hbm => 41
  | .vmem => 14
  | .smem => 0
  | _ => 0

abbrev bufTy : (tb : Table) → Fin (tcTables nBuf tb) → BufTy
  | .hbm, ⟨0, _⟩ => ⟨S1x2048x1024, .f32⟩
  | .hbm, ⟨1, _⟩ => ⟨S1x2048x256, .f32⟩
  | .hbm, ⟨2, _⟩ => ⟨S1x2048x256, .f32⟩
  | .hbm, ⟨3, _⟩ => ⟨S1x2048x512, .f32⟩
  | .hbm, ⟨4, _⟩ => ⟨S512, .f32⟩
  | .hbm, ⟨5, _⟩ => ⟨S1024x1024, .f32⟩
  | .hbm, ⟨6, _⟩ => ⟨S4x256x1024, .f32⟩
  | .hbm, ⟨7, _⟩ => ⟨S4x256x1024, .bf16⟩
  | .hbm, ⟨8, _⟩ => ⟨S1x256x1024, .bf16⟩
  | .hbm, ⟨9, _⟩ => ⟨S256x1024, .bf16⟩
  | .hbm, ⟨10, _⟩ => ⟨S1x256x1024, .bf16⟩
  | .hbm, ⟨11, _⟩ => ⟨S256x1024, .bf16⟩
  | .hbm, ⟨12, _⟩ => ⟨S1x256x1024, .bf16⟩
  | .hbm, ⟨13, _⟩ => ⟨S256x1024, .bf16⟩
  | .hbm, ⟨14, _⟩ => ⟨S1x256x1024, .bf16⟩
  | .hbm, ⟨15, _⟩ => ⟨S256x1024, .bf16⟩
  | .hbm, ⟨16, _⟩ => ⟨S1024x1024, .bf16⟩
  | .hbm, ⟨17, _⟩ => ⟨S512x1024, .bf16⟩
  | .hbm, ⟨18, _⟩ => ⟨S8x64x1024, .bf16⟩
  | .hbm, ⟨19, _⟩ => ⟨S_, .i32⟩
  | .hbm, ⟨20, _⟩ => ⟨S_, .bf16⟩
  | .hbm, ⟨21, _⟩ => ⟨S8x128x1024, .bf16⟩
  | .hbm, ⟨22, _⟩ => ⟨S1024x1024, .bf16⟩
  | .hbm, ⟨23, _⟩ => ⟨S256x1024, .bf16⟩
  | .hbm, ⟨24, _⟩ => ⟨S256x1024, .bf16⟩
  | .hbm, ⟨25, _⟩ => ⟨S8x64, .f32⟩
  | .hbm, ⟨26, _⟩ => ⟨S_, .i32⟩
  | .hbm, ⟨27, _⟩ => ⟨S_, .f32⟩
  | .hbm, ⟨28, _⟩ => ⟨S8x128, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x256, .f32⟩
  | .hbm, ⟨33, _⟩ => ⟨S2048x256, .f32⟩
  | .hbm, ⟨34, _⟩ => ⟨S2048x512, .f32⟩
  | .hbm, ⟨35, _⟩ => ⟨S2048x8x64, .f32⟩
  | .hbm, ⟨36, _⟩ => ⟨S_, .i32⟩
  | .hbm, ⟨37, _⟩ => ⟨S_, .f32⟩
  | .hbm, ⟨38, _⟩ => ⟨S2048x8x128, .f32⟩
  | .hbm, ⟨39, _⟩ => ⟨S2048x1024, .f32⟩
  | .hbm, ⟨40, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S256x1024, .bf16⟩
  | .local _ .vmem, ⟨10, _⟩ => ⟨S256x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_call0_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_0 : Ref sig .tc := ⟨.hbm, 26, rfl⟩
abbrev main_call1_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_1 : Ref sig .tc := ⟨.hbm, 36, rfl⟩
abbrev main_call2_v0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutprojFwdRefIdeal.lean ====
abbrev S1x2048x1024 : Shape := ⟨3, ![1, 2048, 1024]⟩
abbrev S1x2048x256 : Shape := ⟨3, ![1, 2048, 256]⟩
abbrev S1x2048x512 : Shape := ⟨3, ![1, 2048, 512]⟩
abbrev S512 : Shape := ⟨1, ![512]⟩
abbrev S1024x1024 : Shape := ⟨2, ![1024, 1024]⟩
abbrev S1x2048x8x64 : Shape := ⟨4, ![1, 2048, 8, 64]⟩
abbrev S8x64 : Shape := ⟨2, ![8, 64]⟩
abbrev S_ : Shape := ⟨0, ![]⟩
abbrev S1x2048x8 : Shape := ⟨3, ![1, 2048, 8]⟩
abbrev S1x2048x8x1 : Shape := ⟨4, ![1, 2048, 8, 1]⟩
abbrev S1x1x8x64 : Shape := ⟨4, ![1, 1, 8, 64]⟩
abbrev S2048x1024 : Shape := ⟨2, ![2048, 1024]⟩

abbrev nBuf : Space → Nat
  | .hbm => 29
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x256, .f32⟩
  | .hbm, ⟨2, _⟩ => ⟨S1x2048x256, .f32⟩
  | .hbm, ⟨3, _⟩ => ⟨S1x2048x512, .f32⟩
  | .hbm, ⟨4, _⟩ => ⟨S512, .f32⟩
  | .hbm, ⟨5, _⟩ => ⟨S1024x1024, .f32⟩
  | .hbm, ⟨6, _⟩ => ⟨S1x2048x8x64, .f32⟩
  | .hbm, ⟨7, _⟩ => ⟨S8x64, .f32⟩
  | .hbm, ⟨8, _⟩ => ⟨S1x2048x8x64, .f32⟩
  | .hbm, ⟨9, _⟩ => ⟨S_, .f32⟩
  | .hbm, ⟨10, _⟩ => ⟨S1x2048x8, .f32⟩
  | .hbm, ⟨11, _⟩ => ⟨S1x2048x8x1, .f32⟩
  | .hbm, ⟨12, _⟩ => ⟨S_, .f32⟩
  | .hbm, ⟨13, _⟩ => ⟨S1x2048x8x1, .f32⟩
  | .hbm, ⟨14, _⟩ => ⟨S1x2048x8x1, .f32⟩
  | .hbm, ⟨15, _⟩ => ⟨S_, .f32⟩
  | .hbm, ⟨16, _⟩ => ⟨S1x2048x8x1, .f32⟩
  | .hbm, ⟨17, _⟩ => ⟨S1x2048x8x1, .f32⟩
  | .hbm, ⟨18, _⟩ => ⟨S1x2048x8x1, .f32⟩
  | .hbm, ⟨19, _⟩ => ⟨S1x2048x8x64, .f32⟩
  | .hbm, ⟨20, _⟩ => ⟨S1x2048x8x64, .f32⟩
  | .hbm, ⟨21, _⟩ => ⟨S1x1x8x64, .f32⟩
  | .hbm, ⟨22, _⟩ => ⟨S1x2048x8x64, .f32⟩
  | .hbm, ⟨23, _⟩ => ⟨S1x2048x8x64, .f32⟩
  | .hbm, ⟨24, _⟩ => ⟨S1x2048x512, .f32⟩
  | .hbm, ⟨25, _⟩ => ⟨S1x2048x1024, .f32⟩
  | .hbm, ⟨26, _⟩ => ⟨S1x2048x1024, .f32⟩
  | .hbm, ⟨27, _⟩ => ⟨S1x2048x1024, .f32⟩
  | .hbm, ⟨28, _⟩ => ⟨S2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Proof.Ereal.lean ====
module

public import Idealize.ShloMosaic.Lib.Pipeline.ValueKit
public import Idealize.ShloMosaic.Lib.Pointwise

/-! Laws of the extended reals that the value claims share: which words are which rationals, when a factor moves into a
sum, and how a quotient by a constant is a product. -/

@[expose] public section

noncomputable section

open Idealize.ShloMosaic

namespace Cert.Aux

/-- A nonnegative real factor moves into any finite sum of extended reals. -/
theorem coe_mul_sum {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

/-- The word of `0.5`. -/
theorem half_f32 : Ideal.ofBits .f32 0x3F000000#32 = ((1 / 2 : ℝ) : EReal) := by
  simp [Ideal.ofBits, Ideal.ieee, -EReal.coe_mul]; norm_num

/-- The word of `2`. -/
theorem two_f32 : Ideal.ofBits .f32 0x40000000#32 = ((2 : ℝ) : EReal) := by
  simp [Ideal.ofBits, Ideal.ieee, -EReal.coe_mul]; norm_num

/-- The word of `1024`. -/
theorem k1024_f32 : Ideal.ofBits .f32 0x44800000#32 = ((1024 : ℝ) : EReal) := by
  simp [Ideal.ofBits, Ideal.ieee, -EReal.coe_mul]; norm_num

/-- The word of `1 / 1024`. -/
theorem inv1024_f32 : Ideal.ofBits .f32 0x3A800000#32 = ((1 / 1024 : ℝ) : EReal) := by
  simp [Ideal.ofBits, Ideal.ieee, -EReal.coe_mul]; norm_num

/-- The word of `1 / 2048`. -/
theorem inv2048_f32 : Ideal.ofBits .f32 0x3A000000#32 = ((1 / 2048 : ℝ) : EReal) := by
  simp [Ideal.ofBits, Ideal.ieee, -EReal.coe_mul]; norm_num

end Cert.Aux

end
-- ==== Proof.Loss.lean ====
module

public import proofs.«01_k».proof.Defs
public import proofs.«01_k».proof.Proof.Gen.LossIdeal.Value
public import proofs.«01_k».proof.Proof.Gen.LossRefIdeal.Run
public import proofs.«01_k».proof.Proof.Gen.LossRefIdeal.Read
public import proofs.«01_k».proof.Proof.Ereal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.LossIdeal.Hand

open Cert.LossIdeal Cert.LossIdeal.Gen

variable {F : FTy → Type} [FloatOps F]
variable (m : (ℓ : Loc nD τ sig) → Buf (Elt F) ℓ)

theorem hz : (![0, 0] : Fin 2 → Nat) = fun _ => 0 := funext fun a => by fin_cases a <;> rfl

section
variable (c : Dev nD) (i : grid0.Coords) (a1 : Memref sig .tc .vmem S512x1024 .f32) (h1 : a1.IsWhole)
  (a2 : Memref sig .tc .vmem S512x1024 .f32) (h2 : a2.IsWhole) (a3 : Memref sig .tc .vmem S512x1024 .f32) (h3 : a3.IsWhole)
  (a4 : Memref sig .tc .vmem S1x128 .f32) (h4 : a4.IsWhole)

theorem out_A_2 (hc0 hc1) (x0 x1 : Vec F S512x1024 .f32) :
    out0_A_2 c i a1 h1 a2 h2 a3 h3 a4 h4 hc0 hc1 x0 x1 = k0_pay2 x0 x1 := by
  unfold out0_A_2
  rw [View.read_writes_eq_canon _ _ _ (cover0_A_2 c i a1 h1 a2 h2 a3 h3 a4 h4 hc0 hc1 x0 x1)]
  unfold kernelRun0_A
  dsimp only
  rw [View.canon_unit_zero hz]
  simp only [View.readAt_eq_ld, h1.read_unread, h2.read_unread, View.ld_unit_zero (S := S512x1024) hz]

theorem out_B_2 (hc0 hc1) (x0 x1 : Vec F S512x1024 .f32) (xo : Vec F S1x128 .f32) :
    out0_B_2 c i a1 h1 a2 h2 a3 h3 a4 h4 hc0 hc1 x0 x1 xo = k0_pay2 x0 x1 := by
  unfold out0_B_2
  rw [View.read_writes_eq_canon _ _ _ (cover0_B_2 c i a1 h1 a2 h2 a3 h3 a4 h4 hc0 hc1 x0 x1 xo)]
  unfold kernelRun0_B
  dsimp only
  rw [View.canon_unit_zero hz]
  simp only [View.readAt_eq_ld, h1.read_unread, h2.read_unread, View.ld_unit_zero (S := S512x1024) hz]

theorem out_A_3 (hc0 hc1) (x0 x1 : Vec F S512x1024 .f32) :
    out0_A_3 c i a1 h1 a2 h2 a3 h3 a4 h4 hc0 hc1 x0 x1 = k0_pay3 x0 x1 := by
  unfold out0_A_3
  rw [View.read_writes_eq_canon _ _ _ (cover0_A_3 c i a1 h1 a2 h2 a3 h3 a4 h4 hc0 hc1 x0 x1)]
  unfold kernelRun0_A
  dsimp only
  rw [View.canon_unit_zero hz]
  simp only [View.readAt_eq_ld, h1.read_unread, h2.read_unread, View.ld_unit_zero (S := S512x1024) hz]

theorem out_B_3 (hc0 hc1) (x0 x1 : Vec F S512x1024 .f32) (xo : Vec F S1x128 .f32) :
    out0_B_3 c i a1 h1 a2 h2 a3 h3 a4 h4 hc0 hc1 x0 x1 xo = k0_pay4 x0 x1 xo := by
  unfold out0_B_3
  rw [View.read_writes_eq_canon _ _ _ (cover0_B_3 c i a1 h1 a2 h2 a3 h3 a4 h4 hc0 hc1 x0 x1 xo)]
  unfold kernelRun0_B
  dsimp only
  rw [View.canon_unit_zero hz]
  simp only [View.readAt_eq_ld, h1.read_unread, h2.read_unread, h4.read_unread, View.ld_unit_zero (S := S512x1024) hz,
    View.ld_unit_zero (S := S1x128) hz]
end

/-- After every point the first output's buffer holds that point's block of the gradient. -/
theorem outs_fst (c : Dev nD) (t : Fin cfg0.N) :
    (outsAt0 m c t.val t.isLt).1 = k0_pay2 (iblk m c 0 t) (iblk m c 1 t) := by
  have hN : cfg0.N = 4 := N_0
  by_cases h : 1 ≤ t.val
  · have h0 : ¬t.val % 4 = 0 := by have := t.isLt; omega
    simp only [outsAt0_B m c t h0 h, out_B_2]
  · have h0 : t.val % 4 = 0 := by omega
    simp only [outsAt0_A m c t h0 h, out_A_2]

/-- At the first point the second output's buffer holds the point's part of the loss. -/
theorem outs_snd_first (c : Dev nD) (t : Fin cfg0.N) (h : ¬1 ≤ t.val) :
    (outsAt0 m c t.val t.isLt).2 = k0_pay3 (iblk m c 0 t) (iblk m c 1 t) := by
  have h0 : t.val % 4 = 0 := by omega
  simp only [outsAt0_A m c t h0 h, out_A_3]

/-- At a later point the part of the loss is added to what the point before left. -/
theorem outs_snd_later (c : Dev nD) (t : Fin cfg0.N) (h : 1 ≤ t.val) :
    (outsAt0 m c t.val t.isLt).2 = k0_pay4 (iblk m c 0 t) (iblk m c 1 t)
      (outsAt0 m c (t.val - 1) (Nat.lt_of_le_of_lt (Nat.sub_le _ _) t.isLt)).2 := by
  have hN : cfg0.N = 4 := N_0
  have h0 : ¬t.val % 4 = 0 := by have := t.isLt; omega
  simp only [outsAt0_B m c t h0 h, out_B_3]

/-- Dropping the leading axis of extent one. -/
theorem drop_unit {α : Type} (x : S1x2048x1024.Idx → α) (h : S1x2048x1024.ShapeCasts S2048x1024) (i : Fin 2048) (j : Fin 1024) :
    shapeCast S2048x1024 x h (ix2 i j) = x (ix3 0 i j) := by
  pointwise

theorem index_rows : ∀ t : Fin cfg0.N, (win0_0.index t 0 = t.val ∧ win0_0.index t 1 = 0)
    ∧ (win0_1.index t 0 = t.val ∧ win0_1.index t 1 = 0) ∧ (win0_2.index t 0 = t.val ∧ win0_2.index t 1 = 0)
    ∧ (win0_3.index t 0 = 0 ∧ win0_3.index t 1 = 0) := by decide +kernel

theorem row_lt (t : Fin cfg0.N) (r : Fin 512) : t.val * 512 + r.val < 2048 := by
  have := t.isLt; have : cfg0.N = 4 := N_0; omega

theorem V_v0 (c : Dev nD) (i : Fin 2048) (j : Fin 1024) : V m c main_v0 (ix2 i j) = m (c.tc.loc main_arg0) (ix3 0 i j) := by
  have : V m c main_v0 = shapeCast S2048x1024 (m (c.tc.loc main_arg0)) shapeCasts_S1x2048x1024_S2048x1024 := by
    unfold V
    after_results <;> rfl
  rw [this]
  exact drop_unit _ _ i j

theorem V_v1 (c : Dev nD) (i : Fin 2048) (j : Fin 1024) : V m c main_v1 (ix2 i j) = m (c.tc.loc main_arg1) (ix3 0 i j) := by
  have : V m c main_v1 = shapeCast S2048x1024 (m (c.tc.loc main_arg1)) shapeCasts_S1x2048x1024_S2048x1024 := by
    unfold V
    after_results <;> rfl
  rw [this]
  exact drop_unit _ _ i j

theorem iblk0_apply (c : Dev nD) (t : Fin cfg0.N) (r : Fin 512) (j : Fin 1024) :
    iblk m c 0 t (ix2 r j) = m (c.tc.loc main_arg0) (ix3 0 ⟨t.val * 512 + r.val, row_lt t r⟩ j) := by
  rw [← V_v0 m]
  unfold iblk
  rw [View.read_apply]
  show V m c main_v0 _ = _
  congr 1
  funext a
  apply Fin.ext
  match a with
  | ⟨0, _⟩ => show win0_0.index t 0 * 512 + 1 * r.val = t.val * 512 + r.val; rw [(index_rows t).1.1]; omega
  | ⟨1, _⟩ => show win0_0.index t 1 * 1024 + 1 * j.val = j.val; rw [(index_rows t).1.2]; omega

theorem iblk1_apply (c : Dev nD) (t : Fin cfg0.N) (r : Fin 512) (j : Fin 1024) :
    iblk m c 1 t (ix2 r j) = m (c.tc.loc main_arg1) (ix3 0 ⟨t.val * 512 + r.val, row_lt t r⟩ j) := by
  rw [← V_v1 m]
  unfold iblk
  rw [View.read_apply]
  show V m c main_v1 _ = _
  congr 1
  funext a
  apply Fin.ext
  match a with
  | ⟨0, _⟩ => show win0_1.index t 0 * 512 + 1 * r.val = t.val * 512 + r.val; rw [(index_rows t).2.1.1]; omega
  | ⟨1, _⟩ => show win0_1.index t 1 * 1024 + 1 * j.val = j.val; rw [(index_rows t).2.1.2]; omega

/-- The first result, read at an index: the block of the point that covers it. -/
theorem arr2_apply (c : Dev nD) (t : Fin cfg0.N) (r : Fin 512) (j : Fin 1024) :
    (dats m 0 c).arrAt 2 cfg0.N (ix2 ⟨t.val * 512 + r.val, row_lt t r⟩ j)
      = k0_pay2 (iblk m c 0 t) (iblk m c 1 t) (ix2 r j) := by
  have h := congrFun (Value.blocks2 m c t (flush0_2 t)) (ix2 r j)
  rw [Value.flushed2, outs_fst] at h
  rw [View.read_apply] at h
  refine Eq.trans ?_ h
  show (dats m 0 c).arrAt 2 cfg0.N _ = (dats m 0 c).arrAt 2 cfg0.N _
  congr 1
  funext a
  apply Fin.ext
  match a with
  | ⟨0, _⟩ => show t.val * 512 + r.val = win0_2.index t 0 * 512 + 1 * r.val; rw [(index_rows t).2.2.1.1]; omega
  | ⟨1, _⟩ => show j.val = win0_2.index t 1 * 1024 + 1 * j.val; rw [(index_rows t).2.2.1.2]; omega

/-- The second result: what the last point leaves. -/
theorem arr3_eq (c : Dev nD) (h : 3 < cfg0.N) : (dats m 0 c).arrAt 3 cfg0.N = (outsAt0 m c 3 h).2 := by
  have hN : cfg0.N = 4 := N_0
  refine (dats m 0 c).arrAt_eq_of_cover 3 (outsAt0 m c 3 h).2 (fun t hf => ?_) fun i => ⟨⟨3, h⟩, (flush0_3 ⟨3, h⟩).mpr rfl, ?_⟩
  · have h3 : t.val = 3 := by have := (flush0_3 t).mp hf; have := t.isLt; omega
    obtain rfl : t = ⟨3, h⟩ := Fin.ext h3
    rw [Value.flushed3]
    have hz' : (fun a => win0_3.index ⟨3, h⟩ a * main_v2_1.ty.shape.size a) = fun _ => 0 := funext fun a => by
      fin_cases a
      · show win0_3.index ⟨3, h⟩ 0 * 1 = 0; rw [(index_rows _).2.2.2.1]
      · show win0_3.index ⟨3, h⟩ 1 * 128 = 0; rw [(index_rows _).2.2.2.2]
    exact (Memref.read_access_unit_zero (Elt F) main_v2_1 hz' (fun a => by rw [congrFun hz' a]; simp) _).symm
  · show i ∈ ((View.whole main_v2_1).slice (win0_3.rect ⟨3, h⟩)).set
    rw [View.set_slice_whole, Rect.mem_set_unit]
    intro a
    have h0 : (i 0 : Nat) < 1 := (i 0).isLt
    have h1 : (i 1 : Nat) < 128 := (i 1).isLt
    match a with
    | ⟨0, _⟩ => show win0_3.index ⟨3, h⟩ 0 * 1 ≤ (i 0 : Nat) ∧ (i 0 : Nat) < win0_3.index ⟨3, h⟩ 0 * 1 + 1
                rw [(index_rows _).2.2.2.1]; omega
    | ⟨1, _⟩ => show win0_3.index ⟨3, h⟩ 1 * 128 ≤ (i 1 : Nat) ∧ (i 1 : Nat) < win0_3.index ⟨3, h⟩ 1 * 128 + 128
                rw [(index_rows _).2.2.2.2]; omega

end Cert.LossIdeal.Hand

namespace Cert.LossProof

open Cert.LossIdeal Cert.LossIdeal.Gen

/-- The squared error of one element. -/
def sq (x0 x1 : S1x2048x1024.Idx → Ideal .f32) (i : Fin 2048) (j : Fin 1024) : EReal :=
  (x0 (ix3 0 i j) - x1 (ix3 0 i j)) * (x0 (ix3 0 i j) - x1 (ix3 0 i j))

theorem pay2_apply (a b : Vec Ideal S512x1024 .f32) (r : Fin 512) (j : Fin 1024) :
    k0_pay2 a b (ix2 r j) = (a (ix2 r j) - b (ix2 r j)) * ((1 / 1024 : ℝ) : EReal) := by
  pointwise [k0_pay2, k0_pay1]
  rw [Cert.Aux.inv1024_f32]

theorem pay3_apply (a b : Vec Ideal S512x1024 .f32) (j : Fin 128) :
    k0_pay3 a b (ix2 0 j) = (∑ r : Fin 512, ∑ l : Fin 1024, (a (ix2 r l) - b (ix2 r l)) * (a (ix2 r l) - b (ix2 r l)))
      * ((1 / 2048 : ℝ) : EReal) := by
  pointwise [k0_pay3, k0_pay1]
  rw [Cert.Aux.inv2048_f32]

theorem pay4_apply (a b : Vec Ideal S512x1024 .f32) (x : Vec Ideal S1x128 .f32) (j : Fin 128) :
    k0_pay4 a b x (ix2 0 j) = x (ix2 0 j) + k0_pay3 a b (ix2 0 j) := by
  pointwise [k0_pay4]

theorem ref15_apply (x0 x1 : S1x2048x1024.Idx → Ideal .f32) (i : Fin 2048) (j : Fin 1024) :
    Cert.LossRefIdeal.Read.val_main_v15 (F := Ideal) x0 x1 (ix2 i j)
      = (x0 (ix3 0 i j) - x1 (ix3 0 i j)) * ((1 / 1024 : ℝ) : EReal) := by
  rw [← Cert.LossRefIdeal.Read.val_main_v15_eq]
  pointwise
  rw [Cert.Aux.half_f32, Cert.Aux.two_f32, Cert.Aux.k1024_f32, Ideal.div_coe (by norm_num), ← mul_assoc, ← EReal.coe_mul, ← EReal.coe_mul, mul_comm]
  norm_num

theorem ref16_apply (x0 x1 : S1x2048x1024.Idx → Ideal .f32) (j : Fin 128) :
    Cert.LossRefIdeal.Read.val_main_v16 (F := Ideal) x0 x1 (ix2 0 j)
      = (∑ i : Fin 2048, ∑ l : Fin 1024, sq x0 x1 i l) * ((1 / 2048 : ℝ) : EReal) := by
  rw [← Cert.LossRefIdeal.Read.val_main_v16_eq]
  pointwise
  have h (i : Fin 2048) : Ideal.div (∑ k : Fin 1024, (x0 (ix3 0 i k) - x1 (ix3 0 i k)) * (x0 (ix3 0 i k) - x1 (ix3 0 i k))) (Ideal.ofBits .f32 0x44800000#32)
      = ((1 / 1024 : ℝ) : EReal) * ∑ l : Fin 1024, sq x0 x1 i l := by
    rw [Cert.Aux.k1024_f32, Ideal.div_coe (by norm_num), mul_comm]; rfl
  simp only [h]
  rw [Cert.Aux.half_f32, ← Cert.Aux.coe_mul_sum _ _ (by norm_num), Fin.sum_univ_one, ← mul_assoc, ← EReal.coe_mul, mul_comm]
  norm_num

/-- The sum of a row block's squared errors. -/
theorem block_sum (m : (ℓ : Loc nD τ sig) → Buf (Elt Ideal) ℓ) (c : Dev nD) (t : Fin cfg0.N) (j : Fin 128) :
    k0_pay3 (iblk m c 0 t) (iblk m c 1 t) (ix2 0 j)
      = (∑ r : Fin 512, ∑ l : Fin 1024, sq (m (c.tc.loc main_arg0)) (m (c.tc.loc main_arg1))
          ⟨t.val * 512 + r.val, Cert.LossIdeal.Hand.row_lt t r⟩ l) * ((1 / 2048 : ℝ) : EReal) := by
  rw [pay3_apply]
  simp only [Cert.LossIdeal.Hand.iblk0_apply, Cert.LossIdeal.Hand.iblk1_apply]
  rfl

/-- What the second output's buffer holds after point `n`: the parts of the loss up to it. -/
theorem outs_snd (m : (ℓ : Loc nD τ sig) → Buf (Elt Ideal) ℓ) (c : Dev nD) (j : Fin 128) : ∀ (n : ℕ) (h : n < cfg0.N),
    (outsAt0 m c n h).2 (ix2 0 j) = ∑ t : Fin (n + 1), k0_pay3 (iblk m c 0 ⟨t.val, by omega⟩) (iblk m c 1 ⟨t.val, by omega⟩) (ix2 0 j)
  | 0, h => by
    rw [Cert.LossIdeal.Hand.outs_snd_first m c ⟨0, h⟩ (by simp)]
    simp
  | n + 1, h => by
    rw [Cert.LossIdeal.Hand.outs_snd_later m c ⟨n + 1, h⟩ (by simp), pay4_apply, Fin.sum_univ_castSucc]
    congr 1
    exact outs_snd m c j n (Nat.lt_of_succ_lt h)

theorem loss_apply (m : (ℓ : Loc nD τ sig) → Buf (Elt Ideal) ℓ) (c : Dev nD) (j : Fin 128) :
    (dats m 0 c).arrAt 3 cfg0.N (ix2 0 j)
      = (∑ i : Fin 2048, ∑ l : Fin 1024, sq (m (c.tc.loc main_arg0)) (m (c.tc.loc main_arg1)) i l) * ((1 / 2048 : ℝ) : EReal) := by
  have hN : cfg0.N = 4 := N_0
  rw [Cert.LossIdeal.Hand.arr3_eq m c (by omega), outs_snd m c j 3]
  simp only [block_sum]
  rw [← Fin.sum_mul_add_fin 4 512 (fun i : Fin 2048 => ∑ l : Fin 1024, sq (m (c.tc.loc main_arg0)) (m (c.tc.loc main_arg1)) i l)]
  simp only [mul_comm _ ((1 / 2048 : ℝ) : EReal)]
  rw [Cert.Aux.coe_mul_sum _ _ (by norm_num)]

/-- The gradient of one element. -/
def gradAt (x0 x1 : S1x2048x1024.Idx → Ideal .f32) (i : Fin 2048) (j : Fin 1024) : EReal :=
  (x0 (ix3 0 i j) - x1 (ix3 0 i j)) * ((1 / 1024 : ℝ) : EReal)

theorem grad_apply (m : (ℓ : Loc nD τ sig) → Buf (Elt Ideal) ℓ) (c : Dev nD) (i : Fin 2048) (j : Fin 1024) :
    (dats m 0 c).arrAt 2 cfg0.N (ix2 i j)
      = gradAt (m (c.tc.loc main_arg0)) (m (c.tc.loc main_arg1)) i j := by
  have hN : cfg0.N = 4 := N_0
  obtain ⟨t, r, hi⟩ : ∃ (t : Fin cfg0.N) (r : Fin 512), i.val = t.val * 512 + r.val :=
    ⟨⟨i.val / 512, by omega⟩, ⟨i.val % 512, by omega⟩, by simp only; omega⟩
  obtain rfl : i = ⟨t.val * 512 + r.val, Cert.LossIdeal.Hand.row_lt t r⟩ := Fin.ext hi
  rw [Cert.LossIdeal.Hand.arr2_apply, pay2_apply, Cert.LossIdeal.Hand.iblk0_apply, Cert.LossIdeal.Hand.iblk1_apply]
  rfl

/-- The loss head computes the derivative of the loss, and the loss. -/
theorem algebraic : Cert.algebraic_LossIdeal_LossRefIdeal := by
  intro m g m' g' _ hagree
  refine ⟨fun c => (dats m 0 c).arrAt 2 cfg0.N, fun c => (dats m 0 c).arrAt 3 cfg0.N,
    Cert.LossIdeal.Value.run_blocks (F := Ideal) m g, ?_⟩
  refine (θ_run Cert.LossRefIdeal.defs _ _).mono (fun _ h c => ?_) (Cert.LossRefIdeal.Value.run (F := Ideal) m' g')
  refine ⟨(h c).1.trans ?_, (h c).2.1.trans ?_, (h c).2.2⟩
  · rw [Cert.LossRefIdeal.Read.val_main_v15_eq, (hagree c).1, (hagree c).2]
    funext i
    obtain ⟨a, b, rfl⟩ : ∃ (a : Fin 2048) (b : Fin 1024), i = ix2 a b := ⟨i 0, i 1, eq_ix2 i⟩
    rw [ref15_apply]
    exact (grad_apply m c a b).symm
  · rw [Cert.LossRefIdeal.Read.val_main_v16_eq, (hagree c).1, (hagree c).2]
    funext i
    obtain ⟨b, rfl⟩ : ∃ b : Fin 128, i = ix2 0 b := ⟨i 1, (eq_ix2 i).trans (by congr 1; exact Fin.fin_one_eq_zero _)⟩
    rw [ref16_apply]
    exact (loss_apply m c b).symm

end Cert.LossProof

end
-- ==== Proof.Attn.lean ====
module

public import proofs.«01_k».proof.Defs
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.Attn.Frame
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Pre_attn_finite
public import proofs.«01_k».proof.Proof.Gen.AttnRefIdeal
public import proofs.«01_k».proof.Proof.Gen.AttnRefIdeal.Run
public import proofs.«01_k».proof.Proof.Gen.AttnRefIdeal.Read

@[expose] public section
end
-- ==== Proof.AttnTrip.lean ====
module

public import proofs.«01_k».proof.Proof.Attn
public import Idealize.ShloMosaic.Lib.Pipeline.FrameBody
public import Idealize.ShloMosaic.Lib.Ring
public import Idealize.ShloMosaic.Lib.Tactic
public import Idealize.ShloMosaic.Lib.WordCmp

/-! The steps of the attention's backward kernel, each run once on named contents. -/

@[expose] public section

set_option maxRecDepth 16384

noncomputable section

namespace Cert.AttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal.Gen

variable {F : FTy → Type} [FloatOps F] [Named F]

local notation "𝕄" => MT nD τ sig Unit (Elt F) ℕ (UR sig nD τ) ℕ

/-- What the loop over whole row blocks carries: the four heads' sums for dk and dv, and the
    four raw products of the next block. -/
abbrev Carry (F : FTy → Type) := FVec F S256x128 .f32 × FVec F S256x128 .f32 × FVec F S256x128 .f32 × FVec F S256x128 .f32 × FVec F S256x128 .f32 × FVec F S256x128 .f32 × FVec F S256x128 .f32 × FVec F S256x128 .f32 × FVec F S512x256 .f32 × FVec F S512x256 .f32 × FVec F S512x256 .f32 × FVec F S512x256 .f32

/-- What the kernel's first part hands on: the grid's coordinate, the heads' blocks of k and v, the
    zero block, and the words that count the blocks. -/
abbrev Loads (F : FTy → Type) := Σ' (_ : BitVec 32) (_ _ _ _ _ _ _ _ : FVec F S256x128 .bf16) (_ : FVec F S256x128 .f32) (_ _ _ _ : BitVec 32), BitVec 32

/-- What the kernel's second part hands on: the sums after the masked step and the next products. -/
abbrev Masked (F : FTy → Type) := Σ' (_ : BitVec 32) (_ _ _ _ _ _ _ _ : FVec F S256x128 .f32) (_ _ _ : FVec F S512x256 .f32) (_ : FVec F S512x128 .bf16), FVec F S512x256 .f32

variable (c : Dev nD) (i : grid0.Coords)
  (arg2 : Memref sig .tc .vmem S2048x512 .bf16) (harg2 : arg2.IsWhole)
  (arg3 : Memref sig .tc .vmem S256x512 .bf16) (harg3 : arg3.IsWhole)
  (arg4 : Memref sig .tc .vmem S256x512 .bf16) (harg4 : arg4.IsWhole)
  (arg5 : Memref sig .tc .vmem S2048x512 .f32) (harg5 : arg5.IsWhole)
  (arg6 : Memref sig .tc .vmem S2048x512 .f32) (harg6 : arg6.IsWhole)
  (arg7 : Memref sig .tc .vmem S4x2048x1 .f32) (harg7 : arg7.IsWhole)
  (arg8 : Memref sig .tc .vmem S2048x512 .f32) (harg8 : arg8.IsWhole)
  (arg9 : Memref sig .tc .vmem S256x512 .f32) (harg9 : arg9.IsWhole)
  (arg10 : Memref sig .tc .vmem S256x512 .f32) (harg10 : arg10.IsWhole)
  (arg11 : Memref sig .tc .vmem S4x2048x1 .f32) (harg11 : arg11.IsWhole)
  (x3 x4 : FVec F S256x512 .bf16) (x5 : FVec F S2048x512 .f32)
  (v4 v6 v8 v10 v12 v14 v16 v18 : FVec F S256x128 .bf16)
  (x2 : FVec F S2048x512 .bf16) (x6 : FVec F S2048x512 .f32) (x7 : FVec F S4x2048x1 .f32)
  (x11 : FVec F S4x2048x1 .f32)

/-- One whole row block: the loop's trip run once. -/
def tripW (v37 : BitVec 32) (k : Fin (k0_t4_loop i).trips) (a0 a1 a2 a3 a4 a5 a6 a7 : FVec F S256x128 .f32) (a8 a9 a10 a11 : FVec F S512x256 .f32) (f8 : arg8.view.ty.Contents (Elt F)) :
    Σ' (L8 : List (View.Piece (Elt F) S2048x512 .f32)), { y : Carry F // ∀ (E : Set ℕ) (K : Carry F → sProp 𝕄),
      iprop((arg2.view.loc (c : Thread nD τ) ↦[arg2.view.set]{fullShare} harg2.unread x2) ∗ (arg6.view.loc (c : Thread nD τ) ↦[arg6.view.set]{fullShare} harg6.unread x6) ∗ (arg7.view.loc (c : Thread nD τ) ↦[arg7.view.set]{fullShare} harg7.unread x7) ∗ (arg11.view.loc (c : Thread nD τ) ↦[arg11.view.set]{fullShare} harg11.unread x11) ∗ (arg8.view.loc (c : Thread nD τ) ↦[arg8.view.set]{fullShare} f8) ∗ (iprop((arg2.view.loc (c : Thread nD τ) ↦[arg2.view.set]{fullShare} harg2.unread x2) ∗ (arg6.view.loc (c : Thread nD τ) ↦[arg6.view.set]{fullShare} harg6.unread x6) ∗ (arg7.view.loc (c : Thread nD τ) ↦[arg7.view.set]{fullShare} harg7.unread x7) ∗ (arg11.view.loc (c : Thread nD τ) ↦[arg11.view.set]{fullShare} harg11.unread x11) ∗ (arg8.view.loc (c : Thread nD τ) ↦[arg8.view.set]{fullShare} arg8.view.writes (Elt F) f8 L8)) -∗ K y))
      ⊢ wp frame (wpE (defs₀ (F := F)) Variants.none c none) E (k0_t4_body i arg2 harg2 arg3 harg3 arg4 harg4 arg5 harg5 arg6 harg6 arg7 harg7 arg8 harg8 arg9 harg9 arg10 harg10 arg11 harg11 v4 v6 v8 v10 v12 v14 v16 v18 v37 k (a0, a1, a2, a3, a4, a5, a6, a7, a8, a9, a10, a11)) K } := by
  refine ⟨?_, ?_, fun E K => ?run⟩
  case run =>
    unfold k0_t4_body
    dsimp only
    iintro ⟨H2, H6, H7, H11, H8, Hk⟩
    sl_exec
    sl_step
    iapply Hk
    sl_close
/-- One block of 256 rows of delta. -/
def tripP (h1 : k0_cond1 i = 1#1) (k : Fin k0_t1_loop.trips) (f11 : arg11.view.ty.Contents (Elt F)) :
    Σ' (L11 : List (View.Piece (Elt F) S4x2048x1 .f32)), { y : Unit // ∀ (E : Set ℕ) (K : Unit → sProp 𝕄),
      iprop((arg5.view.loc (c : Thread nD τ) ↦[arg5.view.set]{fullShare} harg5.unread x5) ∗ (arg6.view.loc (c : Thread nD τ) ↦[arg6.view.set]{fullShare} harg6.unread x6) ∗ (arg11.view.loc (c : Thread nD τ) ↦[arg11.view.set]{fullShare} f11) ∗ (iprop((arg5.view.loc (c : Thread nD τ) ↦[arg5.view.set]{fullShare} harg5.unread x5) ∗ (arg6.view.loc (c : Thread nD τ) ↦[arg6.view.set]{fullShare} harg6.unread x6) ∗ (arg11.view.loc (c : Thread nD τ) ↦[arg11.view.set]{fullShare} arg11.view.writes (Elt F) f11 L11)) -∗ K y))
      ⊢ wp frame (wpE (defs₀ (F := F)) Variants.none c none) E (k0_t1_body i arg2 harg2 arg3 harg3 arg4 harg4 arg5 harg5 arg6 harg6 arg7 harg7 arg8 harg8 arg9 harg9 arg10 harg10 arg11 harg11 h1 k ⟨⟩) K } := by
  refine ⟨?_, ?_, fun E K => ?run⟩
  case run =>
    unfold k0_t1_body
    dsimp only
    iintro ⟨H5, H6, H11, Hk⟩
    sl_exec
    sl_step
    iapply Hk
    sl_close
/-- The masked step at an even tile: 512 rows. -/
def stepE (h2 : k0_cond2 i = 1#1) (w1 : BitVec 32) (v19 : FVec F S256x128 .f32) (w20 w2 w21 w26 w31 : BitVec 32) (f8 : arg8.view.ty.Contents (Elt F)) :
    Σ' (L8 : List (View.Piece (Elt F) S2048x512 .f32)), { y : Masked F // ∀ (E : Set ℕ) (K : Masked F → sProp 𝕄),
      iprop((arg2.view.loc (c : Thread nD τ) ↦[arg2.view.set]{fullShare} harg2.unread x2) ∗ (arg6.view.loc (c : Thread nD τ) ↦[arg6.view.set]{fullShare} harg6.unread x6) ∗ (arg7.view.loc (c : Thread nD τ) ↦[arg7.view.set]{fullShare} harg7.unread x7) ∗ (arg11.view.loc (c : Thread nD τ) ↦[arg11.view.set]{fullShare} harg11.unread x11) ∗ (arg8.view.loc (c : Thread nD τ) ↦[arg8.view.set]{fullShare} f8) ∗ (iprop((arg2.view.loc (c : Thread nD τ) ↦[arg2.view.set]{fullShare} harg2.unread x2) ∗ (arg6.view.loc (c : Thread nD τ) ↦[arg6.view.set]{fullShare} harg6.unread x6) ∗ (arg7.view.loc (c : Thread nD τ) ↦[arg7.view.set]{fullShare} harg7.unread x7) ∗ (arg11.view.loc (c : Thread nD τ) ↦[arg11.view.set]{fullShare} harg11.unread x11) ∗ (arg8.view.loc (c : Thread nD τ) ↦[arg8.view.set]{fullShare} arg8.view.writes (Elt F) f8 L8)) -∗ K y))
      ⊢ wp frame (wpE (defs₀ (F := F)) Variants.none c none) E (k0_part27 i arg2 harg2 arg3 harg3 arg4 harg4 arg5 harg5 arg6 harg6 arg7 harg7 arg8 harg8 arg9 harg9 arg10 harg10 arg11 harg11 w1 v4 v6 v8 v10 v12 v14 v16 v18 v19 w20 w2 w21 w26 w31) K } := by
  refine ⟨?_, ?_, fun E K => ?run⟩
  case run =>
    rw [k0_part27_eq_skeleton]
    unfold k0_part27_skel
    iintro ⟨H2, H6, H7, H11, H8, Hk⟩
    sl_exec (disch := sl_exact h2)
    sl_step
    iapply Hk
    sl_close
/-- The masked step at an odd tile: 256 rows. -/
def stepO (h2 : ¬ k0_cond2 i = 1#1) (ht2 : (k0_t2_loop i).trips = 0) (ht3 : (k0_t3_loop i).trips = 0) (w1 : BitVec 32) (v19 : FVec F S256x128 .f32) (w20 w2 w21 w26 w31 : BitVec 32) (f8 : arg8.view.ty.Contents (Elt F)) :
    Σ' (L8 : List (View.Piece (Elt F) S2048x512 .f32)), { y : Masked F // ∀ (E : Set ℕ) (K : Masked F → sProp 𝕄),
      iprop((arg2.view.loc (c : Thread nD τ) ↦[arg2.view.set]{fullShare} harg2.unread x2) ∗ (arg6.view.loc (c : Thread nD τ) ↦[arg6.view.set]{fullShare} harg6.unread x6) ∗ (arg7.view.loc (c : Thread nD τ) ↦[arg7.view.set]{fullShare} harg7.unread x7) ∗ (arg11.view.loc (c : Thread nD τ) ↦[arg11.view.set]{fullShare} harg11.unread x11) ∗ (arg8.view.loc (c : Thread nD τ) ↦[arg8.view.set]{fullShare} f8) ∗ (iprop((arg2.view.loc (c : Thread nD τ) ↦[arg2.view.set]{fullShare} harg2.unread x2) ∗ (arg6.view.loc (c : Thread nD τ) ↦[arg6.view.set]{fullShare} harg6.unread x6) ∗ (arg7.view.loc (c : Thread nD τ) ↦[arg7.view.set]{fullShare} harg7.unread x7) ∗ (arg11.view.loc (c : Thread nD τ) ↦[arg11.view.set]{fullShare} harg11.unread x11) ∗ (arg8.view.loc (c : Thread nD τ) ↦[arg8.view.set]{fullShare} arg8.view.writes (Elt F) f8 L8)) -∗ K y))
      ⊢ wp frame (wpE (defs₀ (F := F)) Variants.none c none) E (k0_part27 i arg2 harg2 arg3 harg3 arg4 harg4 arg5 harg5 arg6 harg6 arg7 harg7 arg8 harg8 arg9 harg9 arg10 harg10 arg11 harg11 w1 v4 v6 v8 v10 v12 v14 v16 v18 v19 w20 w2 w21 w26 w31) K } := by
  refine ⟨?_, ?_, fun E K => ?run⟩
  case run =>
    rw [k0_part27_eq_skeleton]
    unfold k0_part27_skel
    iintro ⟨H2, H6, H7, H11, H8, Hk⟩
    sl_exec (disch := sl_exact h2)
    sl_step
    iapply Hk
    sl_close
/-- The loads, at a tile that is not a group's first. -/
def loadsN (h1 : ¬ k0_cond1 i = 1#1)  :
     { y : Loads F // ∀ (E : Set ℕ) (K : Loads F → sProp 𝕄),
      iprop((arg3.view.loc (c : Thread nD τ) ↦[arg3.view.set]{fullShare} harg3.unread x3) ∗ (arg4.view.loc (c : Thread nD τ) ↦[arg4.view.set]{fullShare} harg4.unread x4) ∗ (iprop((arg3.view.loc (c : Thread nD τ) ↦[arg3.view.set]{fullShare} harg3.unread x3) ∗ (arg4.view.loc (c : Thread nD τ) ↦[arg4.view.set]{fullShare} harg4.unread x4)) -∗ K y))
      ⊢ wp frame (wpE (defs₀ (F := F)) Variants.none c none) E (k0_part26 i arg2 harg2 arg3 harg3 arg4 harg4 arg5 harg5 arg6 harg6 arg7 harg7 arg8 harg8 arg9 harg9 arg10 harg10 arg11 harg11) K } := by
  refine ⟨?_, fun E K => ?run⟩
  case run =>
    rw [k0_part26_eq_skeleton]
    unfold k0_part26_skel
    iintro ⟨H3, H4, Hk⟩
    sl_exec (disch := sl_exact h1)
    sl_step
    iapply Hk
    sl_close

/-- Delta's buffer after the first `k` blocks of rows. -/
def prepSt (h1 : k0_cond1 i = 1#1) (f11 : arg11.view.ty.Contents (Elt F)) : ℕ → arg11.view.ty.Contents (Elt F)
  | 0 => f11
  | k + 1 => if h : k < k0_t1_loop.trips then arg11.view.writes (Elt F) (prepSt h1 f11 k) (tripP c i arg2 harg2 arg3 harg3 arg4 harg4 arg5 harg5 arg6 harg6 arg7 harg7 arg8 harg8 arg9 harg9 arg10 harg10 arg11 harg11 x5 x6 h1 ⟨k, h⟩ (prepSt h1 f11 k)).1 else prepSt h1 f11 k

/-- The loop over delta's blocks by its invariant. -/
@[instance_reducible] def prepInv (h1 : k0_cond1 i = 1#1) (f11 : arg11.view.ty.Contents (Elt F)) (E : Set ℕ) :
    LoopInv (M := 𝕄) frame (wpE (defs₀ (F := F)) Variants.none (c : Thread nD τ) none) E k0_t1_loop.lb k0_t1_loop.ub k0_t1_loop.st (k0_t1_ok i h1) ⟨⟩
      (k0_t1_body (F := F) i arg2 harg2 arg3 harg3 arg4 harg4 arg5 harg5 arg6 harg6 arg7 harg7 arg8 harg8 arg9 harg9 arg10 harg10 arg11 harg11 h1) where
  inv k _ := iprop((arg5.view.loc (c : Thread nD τ) ↦[arg5.view.set]{fullShare} harg5.unread x5) ∗ (arg6.view.loc (c : Thread nD τ) ↦[arg6.view.set]{fullShare} harg6.unread x6) ∗ (arg11.view.loc (c : Thread nD τ) ↦[arg11.view.set]{fullShare} prepSt c i arg2 harg2 arg3 harg3 arg4 harg4 arg5 harg5 arg6 harg6 arg7 harg7 arg8 harg8 arg9 harg9 arg10 harg10 arg11 harg11 x5 x6 h1 f11 k))
  step k acc := by
    have hk : (k : ℕ) < k0_t1_loop.trips := k.isLt
    have e : prepSt c i arg2 harg2 arg3 harg3 arg4 harg4 arg5 harg5 arg6 harg6 arg7 harg7 arg8 harg8 arg9 harg9 arg10 harg10 arg11 harg11 x5 x6 h1 f11 (k.val + 1) = arg11.view.writes (Elt F) (prepSt c i arg2 harg2 arg3 harg3 arg4 harg4 arg5 harg5 arg6 harg6 arg7 harg7 arg8 harg8 arg9 harg9 arg10 harg10 arg11 harg11 x5 x6 h1 f11 k) (tripP c i arg2 harg2 arg3 harg3 arg4 harg4 arg5 harg5 arg6 harg6 arg7 harg7 arg8 harg8 arg9 harg9 arg10 harg10 arg11 harg11 x5 x6 h1 k (prepSt c i arg2 harg2 arg3 harg3 arg4 harg4 arg5 harg5 arg6 harg6 arg7 harg7 arg8 harg8 arg9 harg9 arg10 harg10 arg11 harg11 x5 x6 h1 f11 k)).1 := by
      rw [prepSt, dif_pos hk]
    rw [e]
    iintro ⟨H5, H6, H11⟩
    iapply (tripP c i arg2 harg2 arg3 harg3 arg4 harg4 arg5 harg5 arg6 harg6 arg7 harg7 arg8 harg8 arg9 harg9 arg10 harg10 arg11 harg11 x5 x6 h1 k (prepSt c i arg2 harg2 arg3 harg3 arg4 harg4 arg5 harg5 arg6 harg6 arg7 harg7 arg8 harg8 arg9 harg9 arg10 harg10 arg11 harg11 x5 x6 h1 f11 k)).2.2 E _
    isplitl [H5]; · iexact H5
    isplitl [H6]; · iexact H6
    isplitl [H11]; · iexact H11
    iintro ⟨H5, H6, H11⟩
    isplitl [H5]; · iexact H5
    isplitl [H6]; · iexact H6
    iexact H11

end Cert.AttnIdeal.Hand
end
-- ==== Proof.AttnRun.lean ====
module

public import proofs.«01_k».proof.Proof.AttnTrip
public import Idealize.ShloMosaic.Lib.Pipeline.FrameBody
public import Idealize.ShloMosaic.Lib.Ring
public import Idealize.ShloMosaic.Lib.Tactic
public import Idealize.ShloMosaic.Lib.WordCmp

/-! The whole body of the attention's backward kernel, from its steps. -/

@[expose] public section

set_option maxRecDepth 16384

noncomputable section

namespace Cert.AttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal.Gen

variable {F : FTy → Type} [FloatOps F] [Named F]

local notation "𝕄" => MT nD τ sig Unit (Elt F) ℕ (UR sig nD τ) ℕ

variable (c : Dev nD) (i : grid0.Coords)
  (arg2 : Memref sig .tc .vmem S2048x512 .bf16) (harg2 : arg2.IsWhole)
  (arg3 : Memref sig .tc .vmem S256x512 .bf16) (harg3 : arg3.IsWhole)
  (arg4 : Memref sig .tc .vmem S256x512 .bf16) (harg4 : arg4.IsWhole)
  (arg5 : Memref sig .tc .vmem S2048x512 .f32) (harg5 : arg5.IsWhole)
  (arg6 : Memref sig .tc .vmem S2048x512 .f32) (harg6 : arg6.IsWhole)
  (arg7 : Memref sig .tc .vmem S4x2048x1 .f32) (harg7 : arg7.IsWhole)
  (arg8 : Memref sig .tc .vmem S2048x512 .f32) (harg8 : arg8.IsWhole)
  (arg9 : Memref sig .tc .vmem S256x512 .f32) (harg9 : arg9.IsWhole)
  (arg10 : Memref sig .tc .vmem S256x512 .f32) (harg10 : arg10.IsWhole)
  (arg11 : Memref sig .tc .vmem S4x2048x1 .f32) (harg11 : arg11.IsWhole)
  (x3 x4 : FVec F S256x512 .bf16) (x5 : FVec F S2048x512 .f32)
  (v4 v6 v8 v10 v12 v14 v16 v18 : FVec F S256x128 .bf16)
  (x2 : FVec F S2048x512 .bf16) (x6 : FVec F S2048x512 .f32) (x7 : FVec F S4x2048x1 .f32)
  (x11 : FVec F S4x2048x1 .f32)

/-- The loads at a group's first tile, after dq is cleared and delta filled. -/
def loadsF (h1 : k0_cond1 i = 1#1) (f8 : arg8.view.ty.Contents (Elt F)) (f11 : arg11.view.ty.Contents (Elt F)) :
    Σ' (L8 : List (View.Piece (Elt F) S2048x512 .f32)), { y : Loads F // ∀ (E : Set ℕ) (K : Loads F → sProp 𝕄),
      iprop((arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg8.view.loc (c : Thread nD τ) ↦[arg8.view.set]{fullShare} f8) ∗ (arg11.view.loc (c : Thread nD τ) ↦[arg11.view.set]{fullShare} f11)
        ∗ (iprop((arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (∃ g, (arg8.view.loc (c : Thread nD τ) ↦[arg8.view.set]{fullShare} arg8.view.writes (Elt F) g L8)) ∗ (arg11.view.loc (c : Thread nD τ) ↦[arg11.view.set]{fullShare} prepSt c i arg2 harg2 arg3 harg3 arg4 harg4 arg5 harg5 arg6 harg6 arg7 harg7 arg8 harg8 arg9 harg9 arg10 harg10 arg11 harg11 x5 x6 h1 f11 k0_t1_loop.trips)) -∗ K y))
      ⊢ wp frame (wpE (defs₀ (F := F)) Variants.none c none) E (k0_part26 i arg2 harg2 arg3 harg3 arg4 harg4 arg5 harg5 arg6 harg6 arg7 harg7 arg8 harg8 arg9 harg9 arg10 harg10 arg11 harg11) K } := by
  refine ⟨?_, ?_, fun E K => ?run⟩
  case run =>
    rw [k0_part26_eq_skeleton]
    unfold k0_part26_skel
    let L := prepInv c i arg2 harg2 arg3 harg3 arg4 harg4 arg5 harg5 arg6 harg6 arg7 harg7 arg8 harg8 arg9 harg9 arg10 harg10 arg11 harg11 x5 x6 h1 f11 E
    iintro ⟨H3, H4, H5, H6, H8, H11, Hk⟩
    sl_exec (disch := sl_exact h1)
    sl_step
    iapply Hk
    sl_close

/-- dq's buffer and what the loop carries after its first `k` trips. -/
def wideSt (v37 : BitVec 32) (f8 : arg8.view.ty.Contents (Elt F)) (a : Carry F) : ℕ → arg8.view.ty.Contents (Elt F) × Carry F
  | 0 => (f8, a)
  | k + 1 => if h : k < (k0_t4_loop i).trips then
      let s := wideSt v37 f8 a k
      let t := tripW c i arg2 harg2 arg3 harg3 arg4 harg4 arg5 harg5 arg6 harg6 arg7 harg7 arg8 harg8 arg9 harg9 arg10 harg10 arg11 harg11 v4 v6 v8 v10 v12 v14 v16 v18 x2 x6 x7 x11 v37 ⟨k, h⟩ s.2.1 s.2.2.1 s.2.2.2.1 s.2.2.2.2.1 s.2.2.2.2.2.1 s.2.2.2.2.2.2.1 s.2.2.2.2.2.2.2.1 s.2.2.2.2.2.2.2.2.1 s.2.2.2.2.2.2.2.2.2.1 s.2.2.2.2.2.2.2.2.2.2.1 s.2.2.2.2.2.2.2.2.2.2.2.1 s.2.2.2.2.2.2.2.2.2.2.2.2 s.1
      (arg8.view.writes (Elt F) s.1 t.1, t.2.1)
    else wideSt v37 f8 a k

/-- The loop over whole row blocks by its invariant. -/
@[instance_reducible] def wideInv (v37 : BitVec 32) (f8 : arg8.view.ty.Contents (Elt F)) (a : Carry F) (E : Set ℕ) :
    LoopInv (M := 𝕄) frame (wpE (defs₀ (F := F)) Variants.none (c : Thread nD τ) none) E (k0_t4_loop i).lb (k0_t4_loop i).ub (k0_t4_loop i).st (k0_t4_ok i) a
      (k0_t4_body (F := F) i arg2 harg2 arg3 harg3 arg4 harg4 arg5 harg5 arg6 harg6 arg7 harg7 arg8 harg8 arg9 harg9 arg10 harg10 arg11 harg11 v4 v6 v8 v10 v12 v14 v16 v18 v37) where
  inv k acc := iprop(⌜acc = (wideSt c i arg2 harg2 arg3 harg3 arg4 harg4 arg5 harg5 arg6 harg6 arg7 harg7 arg8 harg8 arg9 harg9 arg10 harg10 arg11 harg11 v4 v6 v8 v10 v12 v14 v16 v18 x2 x6 x7 x11 v37 f8 a k).2⌝ ∗ (arg2.view.loc (c : Thread nD τ) ↦[arg2.view.set]{fullShare} harg2.unread x2) ∗ (arg6.view.loc (c : Thread nD τ) ↦[arg6.view.set]{fullShare} harg6.unread x6) ∗ (arg7.view.loc (c : Thread nD τ) ↦[arg7.view.set]{fullShare} harg7.unread x7) ∗ (arg11.view.loc (c : Thread nD τ) ↦[arg11.view.set]{fullShare} harg11.unread x11) ∗ (arg8.view.loc (c : Thread nD τ) ↦[arg8.view.set]{fullShare} (wideSt c i arg2 harg2 arg3 harg3 arg4 harg4 arg5 harg5 arg6 harg6 arg7 harg7 arg8 harg8 arg9 harg9 arg10 harg10 arg11 harg11 v4 v6 v8 v10 v12 v14 v16 v18 x2 x6 x7 x11 v37 f8 a k).1))
  step k acc := by
    have hk : (k : ℕ) < (k0_t4_loop i).trips := k.isLt
    rw [wideSt, dif_pos hk]
    dsimp only
    generalize wideSt c i arg2 harg2 arg3 harg3 arg4 harg4 arg5 harg5 arg6 harg6 arg7 harg7 arg8 harg8 arg9 harg9 arg10 harg10 arg11 harg11 v4 v6 v8 v10 v12 v14 v16 v18 x2 x6 x7 x11 v37 f8 a k = s
    obtain ⟨g, a0, a1, a2, a3, a4, a5, a6, a7, a8, a9, a10, a11⟩ := s
    iintro ⟨%ha, H2, H6, H7, H11, H8⟩
    subst ha
    iapply (tripW c i arg2 harg2 arg3 harg3 arg4 harg4 arg5 harg5 arg6 harg6 arg7 harg7 arg8 harg8 arg9 harg9 arg10 harg10 arg11 harg11 v4 v6 v8 v10 v12 v14 v16 v18 x2 x6 x7 x11 v37 k a0 a1 a2 a3 a4 a5 a6 a7 a8 a9 a10 a11 g).2.2 E _
    isplitl [H2]; · iexact H2
    isplitl [H6]; · iexact H6
    isplitl [H7]; · iexact H7
    isplitl [H11]; · iexact H11
    isplitl [H8]; · iexact H8
    iintro ⟨H2, H6, H7, H11, H8⟩
    isplitr; · ipureintro; rfl
    isplitl [H2]; · iexact H2
    isplitl [H6]; · iexact H6
    isplitl [H7]; · iexact H7
    isplitl [H11]; · iexact H11
    iexact H8

/-- The kernel from the loop over whole row blocks on. -/
def tailProg (v4 v6 v8 v10 v12 v14 v16 v18 : FVec F S256x128 .bf16) (v37 : BitVec 32) (v51_0 v51_1 v51_2 v51_3 v51_4 v51_5 v51_6 v51_7 : FVec F S256x128 .f32) (v59 v63 v67 : FVec F S512x256 .f32) (v70 : FVec F S512x128 .bf16) (cst_35 : FVec F S512x256 .f32) :
    Prog (TpuEff nD τ sig (Elt F) Λ₀ .tc) PUnit := do
  let v72 : BitVec 32 := Scalar.subi 4#32 v37
  let v74 : BitVec 32 := Scalar.divsi v72 1#32
  let v75 : BitVec 32 := Scalar.muli v74 1#32
  let v76 : BitVec 32 := Scalar.addi v37 v75
  let (v77_0, v77_1, v77_2, v77_3, v77_4, v77_5, v77_6, v77_7, v77_8, v77_9, v77_10, v77_11) ← Scf.Loop.for (k0_t4_loop i) (k0_t4_ok i) (v51_0, v51_1, v51_2, v51_3, v51_4, v51_5, v51_6, v51_7, v59, v63, v67, k0_pay1 v10 v70 cst_35) (k0_t4_body i arg2 harg2 arg3 harg3 arg4 harg4 arg5 harg5 arg6 harg6 arg7 harg7 arg8 harg8 arg9 harg9 arg10 harg10 arg11 harg11 v4 v6 v8 v10 v12 v14 v16 v18 v37)
  let (v78_0, v78_1, v78_2, v78_3, v78_4, v78_5, v78_6, v78_7, v78_8, v78_9, v78_10, v78_11) ← Scf.Loop.for (k0_t5_loop i) (k0_t5_ok i) (v77_0, v77_1, v77_2, v77_3, v77_4, v77_5, v77_6, v77_7, v77_8, v77_9, v77_10, v77_11) (k0_t5_body i arg2 harg2 arg3 harg3 arg4 harg4 arg5 harg5 arg6 harg6 arg7 harg7 arg8 harg8 arg9 harg9 arg10 harg10 arg11 harg11 v4 v6 v8 v10 v12 v14 v16 v18 v76)
  let v79 : Vec F S256x128 .f32 ← Prog.lift (.load arg9 (Rect.unit (s := S256x512) ![0, 0] S256x128.size inb_S256x512_S256x128_0_0).toLoadRect (View.loadsAt_vmem h_S256x128))
  Prog.lift (.store arg9 (Rect.unit (s := S256x512) ![0, 0] S256x128.size inb_S256x512_S256x128_0_0) v78_0 Finset.univ (View.stores_vmem_bits_univ h_S256x128 rfl) (.inl rfl))
  let v80 : Vec F S256x128 .f32 ← Prog.lift (.load arg10 (Rect.unit (s := S256x512) ![0, 0] S256x128.size inb_S256x512_S256x128_0_0).toLoadRect (View.loadsAt_vmem h_S256x128))
  Prog.lift (.store arg10 (Rect.unit (s := S256x512) ![0, 0] S256x128.size inb_S256x512_S256x128_0_0) v78_1 Finset.univ (View.stores_vmem_bits_univ h_S256x128 rfl) (.inl rfl))
  let v81 : Vec F S256x128 .f32 ← Prog.lift (.load arg9 (Rect.unit (s := S256x512) ![0, 128] S256x128.size inb_S256x512_S256x128_0_128).toLoadRect (View.loadsAt_vmem h_S256x128))
  Prog.lift (.store arg9 (Rect.unit (s := S256x512) ![0, 128] S256x128.size inb_S256x512_S256x128_0_128) v78_2 Finset.univ (View.stores_vmem_bits_univ h_S256x128 rfl) (.inl rfl))
  let v82 : Vec F S256x128 .f32 ← Prog.lift (.load arg10 (Rect.unit (s := S256x512) ![0, 128] S256x128.size inb_S256x512_S256x128_0_128).toLoadRect (View.loadsAt_vmem h_S256x128))
  Prog.lift (.store arg10 (Rect.unit (s := S256x512) ![0, 128] S256x128.size inb_S256x512_S256x128_0_128) v78_3 Finset.univ (View.stores_vmem_bits_univ h_S256x128 rfl) (.inl rfl))
  let v83 : Vec F S256x128 .f32 ← Prog.lift (.load arg9 (Rect.unit (s := S256x512) ![0, 256] S256x128.size inb_S256x512_S256x128_0_256).toLoadRect (View.loadsAt_vmem h_S256x128))
  Prog.lift (.store arg9 (Rect.unit (s := S256x512) ![0, 256] S256x128.size inb_S256x512_S256x128_0_256) v78_4 Finset.univ (View.stores_vmem_bits_univ h_S256x128 rfl) (.inl rfl))
  let v84 : Vec F S256x128 .f32 ← Prog.lift (.load arg10 (Rect.unit (s := S256x512) ![0, 256] S256x128.size inb_S256x512_S256x128_0_256).toLoadRect (View.loadsAt_vmem h_S256x128))
  Prog.lift (.store arg10 (Rect.unit (s := S256x512) ![0, 256] S256x128.size inb_S256x512_S256x128_0_256) v78_5 Finset.univ (View.stores_vmem_bits_univ h_S256x128 rfl) (.inl rfl))
  let v85 : Vec F S256x128 .f32 ← Prog.lift (.load arg9 (Rect.unit (s := S256x512) ![0, 384] S256x128.size inb_S256x512_S256x128_0_384).toLoadRect (View.loadsAt_vmem h_S256x128))
  Prog.lift (.store arg9 (Rect.unit (s := S256x512) ![0, 384] S256x128.size inb_S256x512_S256x128_0_384) v78_6 Finset.univ (View.stores_vmem_bits_univ h_S256x128 rfl) (.inl rfl))
  let v86 : Vec F S256x128 .f32 ← Prog.lift (.load arg10 (Rect.unit (s := S256x512) ![0, 384] S256x128.size inb_S256x512_S256x128_0_384).toLoadRect (View.loadsAt_vmem h_S256x128))
  Prog.lift (.store arg10 (Rect.unit (s := S256x512) ![0, 384] S256x128.size inb_S256x512_S256x128_0_384) v78_7 Finset.univ (View.stores_vmem_bits_univ h_S256x128 rfl) (.inl rfl))
  pure ⟨⟩

/-- The pieces that dk's block is written in, and those of dv's. -/
def outP (y : Carry F) : List (View.Piece (Elt F) S256x512 .f32) × List (View.Piece (Elt F) S256x512 .f32) :=
  ([⟨Rect.unit (s := S256x512) ![0, 384] S256x128.size inb_S256x512_S256x128_0_384, y.2.2.2.2.2.2.1⟩,
    ⟨Rect.unit (s := S256x512) ![0, 256] S256x128.size inb_S256x512_S256x128_0_256, y.2.2.2.2.1⟩,
    ⟨Rect.unit (s := S256x512) ![0, 128] S256x128.size inb_S256x512_S256x128_0_128, y.2.2.1⟩,
    ⟨Rect.unit (s := S256x512) ![0, 0] S256x128.size inb_S256x512_S256x128_0_0, y.1⟩],
   [⟨Rect.unit (s := S256x512) ![0, 384] S256x128.size inb_S256x512_S256x128_0_384, y.2.2.2.2.2.2.2.1⟩,
    ⟨Rect.unit (s := S256x512) ![0, 256] S256x128.size inb_S256x512_S256x128_0_256, y.2.2.2.2.2.1⟩,
    ⟨Rect.unit (s := S256x512) ![0, 128] S256x128.size inb_S256x512_S256x128_0_128, y.2.2.2.1⟩,
    ⟨Rect.unit (s := S256x512) ![0, 0] S256x128.size inb_S256x512_S256x128_0_0, y.2.1⟩])

/-- The eight sums that the loop leaves, stored head by head. -/
theorem tailRun (ht5 : (k0_t5_loop i).trips = 0) (v37 : BitVec 32) (v51_0 v51_1 v51_2 v51_3 v51_4 v51_5 v51_6 v51_7 : FVec F S256x128 .f32) (v59 v63 v67 : FVec F S512x256 .f32) (v70 : FVec F S512x128 .bf16) (cst_35 : FVec F S512x256 .f32)
    (f8 : arg8.view.ty.Contents (Elt F)) (f9 : arg9.view.ty.Contents (Elt F)) (f10 : arg10.view.ty.Contents (Elt F)) (E : Set ℕ) (K : PUnit → sProp 𝕄) :
      iprop((arg2.view.loc (c : Thread nD τ) ↦[arg2.view.set]{fullShare} harg2.unread x2) ∗ (arg6.view.loc (c : Thread nD τ) ↦[arg6.view.set]{fullShare} harg6.unread x6) ∗ (arg7.view.loc (c : Thread nD τ) ↦[arg7.view.set]{fullShare} harg7.unread x7) ∗ (arg11.view.loc (c : Thread nD τ) ↦[arg11.view.set]{fullShare} harg11.unread x11) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)
        ∗ (iprop((arg2.view.loc (c : Thread nD τ) ↦[arg2.view.set]{fullShare} harg2.unread x2) ∗ (arg6.view.loc (c : Thread nD τ) ↦[arg6.view.set]{fullShare} harg6.unread x6) ∗ (arg7.view.loc (c : Thread nD τ) ↦[arg7.view.set]{fullShare} harg7.unread x7) ∗ (arg11.view.loc (c : Thread nD τ) ↦[arg11.view.set]{fullShare} harg11.unread x11) ∗ (arg8.view.loc (c : Thread nD τ) ↦[arg8.view.set]{fullShare} (wideSt c i arg2 harg2 arg3 harg3 arg4 harg4 arg5 harg5 arg6 harg6 arg7 harg7 arg8 harg8 arg9 harg9 arg10 harg10 arg11 harg11 v4 v6 v8 v10 v12 v14 v16 v18 x2 x6 x7 x11 v37 f8 (v51_0, v51_1, v51_2, v51_3, v51_4, v51_5, v51_6, v51_7, v59, v63, v67, k0_pay1 v10 v70 cst_35) (k0_t4_loop i).trips).1) ∗ (arg9.view.loc (c : Thread nD τ) ↦[arg9.view.set]{fullShare} arg9.view.writes (Elt F) f9 (outP (wideSt c i arg2 harg2 arg3 harg3 arg4 harg4 arg5 harg5 arg6 harg6 arg7 harg7 arg8 harg8 arg9 harg9 arg10 harg10 arg11 harg11 v4 v6 v8 v10 v12 v14 v16 v18 x2 x6 x7 x11 v37 f8 (v51_0, v51_1, v51_2, v51_3, v51_4, v51_5, v51_6, v51_7, v59, v63, v67, k0_pay1 v10 v70 cst_35) (k0_t4_loop i).trips).2).1) ∗ (arg10.view.loc (c : Thread nD τ) ↦[arg10.view.set]{fullShare} arg10.view.writes (Elt F) f10 (outP (wideSt c i arg2 harg2 arg3 harg3 arg4 harg4 arg5 harg5 arg6 harg6 arg7 harg7 arg8 harg8 arg9 harg9 arg10 harg10 arg11 harg11 v4 v6 v8 v10 v12 v14 v16 v18 x2 x6 x7 x11 v37 f8 (v51_0, v51_1, v51_2, v51_3, v51_4, v51_5, v51_6, v51_7, v59, v63, v67, k0_pay1 v10 v70 cst_35) (k0_t4_loop i).trips).2).2)) -∗ K ⟨⟩))
      ⊢ wp frame (wpE (defs₀ (F := F)) Variants.none c none) E (tailProg i arg2 harg2 arg3 harg3 arg4 harg4 arg5 harg5 arg6 harg6 arg7 harg7 arg8 harg8 arg9 harg9 arg10 harg10 arg11 harg11 v4 v6 v8 v10 v12 v14 v16 v18 v37 v51_0 v51_1 v51_2 v51_3 v51_4 v51_5 v51_6 v51_7 v59 v63 v67 v70 cst_35) K := by
  unfold tailProg
  let L := wideInv c i arg2 harg2 arg3 harg3 arg4 harg4 arg5 harg5 arg6 harg6 arg7 harg7 arg8 harg8 arg9 harg9 arg10 harg10 arg11 harg11 v4 v6 v8 v10 v12 v14 v16 v18 x2 x6 x7 x11 v37 f8 (v51_0, v51_1, v51_2, v51_3, v51_4, v51_5, v51_6, v51_7, v59, v63, v67, k0_pay1 v10 v70 cst_35) E
  dsimp only [outP]
  iintro ⟨H2, H6, H7, H11, H8, H9, H10, Hk⟩
  sl_exec
  sl_step
  iapply Hk
  sl_close

/-- The whole body is its three stages. -/
theorem body_split : cc0_attn_bwd (F := F) i arg2 harg2 arg3 harg3 arg4 harg4 arg5 harg5 arg6 harg6 arg7 harg7 arg8 harg8 arg9 harg9 arg10 harg10 arg11 harg11 =
    (k0_part26 i arg2 harg2 arg3 harg3 arg4 harg4 arg5 harg5 arg6 harg6 arg7 harg7 arg8 harg8 arg9 harg9 arg10 harg10 arg11 harg11 >>= fun r => k0_part27 i arg2 harg2 arg3 harg3 arg4 harg4 arg5 harg5 arg6 harg6 arg7 harg7 arg8 harg8 arg9 harg9 arg10 harg10 arg11 harg11 r.1 r.2.1 r.2.2.1 r.2.2.2.1 r.2.2.2.2.1 r.2.2.2.2.2.1 r.2.2.2.2.2.2.1 r.2.2.2.2.2.2.2.1 r.2.2.2.2.2.2.2.2.1 r.2.2.2.2.2.2.2.2.2.1 r.2.2.2.2.2.2.2.2.2.2.1 r.2.2.2.2.2.2.2.2.2.2.2.1 r.2.2.2.2.2.2.2.2.2.2.2.2.1 r.2.2.2.2.2.2.2.2.2.2.2.2.2.1 r.2.2.2.2.2.2.2.2.2.2.2.2.2.2 >>= fun s =>
      tailProg i arg2 harg2 arg3 harg3 arg4 harg4 arg5 harg5 arg6 harg6 arg7 harg7 arg8 harg8 arg9 harg9 arg10 harg10 arg11 harg11 r.2.1 r.2.2.1 r.2.2.2.1 r.2.2.2.2.1 r.2.2.2.2.2.1 r.2.2.2.2.2.2.1 r.2.2.2.2.2.2.2.1 r.2.2.2.2.2.2.2.2.1 s.1 s.2.1 s.2.2.1 s.2.2.2.1 s.2.2.2.2.1 s.2.2.2.2.2.1 s.2.2.2.2.2.2.1 s.2.2.2.2.2.2.2.1 s.2.2.2.2.2.2.2.2.1 s.2.2.2.2.2.2.2.2.2.1 s.2.2.2.2.2.2.2.2.2.2.1 s.2.2.2.2.2.2.2.2.2.2.2.1 s.2.2.2.2.2.2.2.2.2.2.2.2.1 s.2.2.2.2.2.2.2.2.2.2.2.2.2) := by
  rw [cc0_attn_bwd_eq_skeleton]
  rfl

end Cert.AttnIdeal.Hand
end
-- ==== Proof.AttnPrep.lean ====
module

public import proofs.«01_k».proof.Proof.AttnRun
public import Idealize.ShloMosaic.Lib.Pipeline.FrameBody
public import Idealize.ShloMosaic.Lib.Ring
public import Idealize.ShloMosaic.Lib.Tactic
public import Idealize.ShloMosaic.Lib.WordCmp

/-! Delta's buffer after the loop that fills it, whatever it held before; the counts of the kernel's loops. -/

@[expose] public section

set_option maxRecDepth 16384

noncomputable section

namespace Cert.AttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal.Gen

variable {F : FTy → Type} [FloatOps F] [Named F]

local notation "𝕄" => MT nD τ sig Unit (Elt F) ℕ (UR sig nD τ) ℕ

variable (c : Dev nD) (i : grid0.Coords)
  (arg2 : Memref sig .tc .vmem S2048x512 .bf16) (harg2 : arg2.IsWhole)
  (arg3 : Memref sig .tc .vmem S256x512 .bf16) (harg3 : arg3.IsWhole)
  (arg4 : Memref sig .tc .vmem S256x512 .bf16) (harg4 : arg4.IsWhole)
  (arg5 : Memref sig .tc .vmem S2048x512 .f32) (harg5 : arg5.IsWhole)
  (arg6 : Memref sig .tc .vmem S2048x512 .f32) (harg6 : arg6.IsWhole)
  (arg7 : Memref sig .tc .vmem S4x2048x1 .f32) (harg7 : arg7.IsWhole)
  (arg8 : Memref sig .tc .vmem S2048x512 .f32) (harg8 : arg8.IsWhole)
  (arg9 : Memref sig .tc .vmem S256x512 .f32) (harg9 : arg9.IsWhole)
  (arg10 : Memref sig .tc .vmem S256x512 .f32) (harg10 : arg10.IsWhole)
  (arg11 : Memref sig .tc .vmem S4x2048x1 .f32) (harg11 : arg11.IsWhole)
  (x3 x4 : FVec F S256x512 .bf16) (x5 : FVec F S2048x512 .f32)
  (v4 v6 v8 v10 v12 v14 v16 v18 : FVec F S256x128 .bf16)
  (x2 : FVec F S2048x512 .bf16) (x6 : FVec F S2048x512 .f32) (x7 : FVec F S4x2048x1 .f32)
  (x11 : FVec F S4x2048x1 .f32)

theorem off2_eq (k : Fin k0_t1_loop.trips) : k0_off2 k = ![0, 256 * k.val, 0] := by
  revert k; decide +kernel
theorem off4_eq (k : Fin k0_t1_loop.trips) : k0_off4 k = ![1, 256 * k.val, 0] := by
  revert k; decide +kernel
theorem off6_eq (k : Fin k0_t1_loop.trips) : k0_off6 k = ![2, 256 * k.val, 0] := by
  revert k; decide +kernel
theorem off8_eq (k : Fin k0_t1_loop.trips) : k0_off8 k = ![3, 256 * k.val, 0] := by
  revert k; decide +kernel

theorem trips1 : k0_t1_loop.trips = 8 := by decide +kernel
theorem trips2 : ∀ i : grid0.Coords, ¬ k0_cond2 i = 1#1 → (k0_t2_loop i).trips = 0 := by decide +kernel
theorem trips3 : ∀ i : grid0.Coords, ¬ k0_cond2 i = 1#1 → (k0_t3_loop i).trips = 0 := by decide +kernel
theorem trips5 : ∀ i : grid0.Coords, (k0_t5_loop i).trips = 0 := by decide +kernel
theorem trips4 : ∀ i : grid0.Coords, (k0_t4_loop i).trips = 4 - ((i 1).val + 2) / 2 := by decide +kernel

/-- The four pieces that one trip of delta's loop writes. -/
def prepPieces (h1 : k0_cond1 i = 1#1) (k : Fin k0_t1_loop.trips) : List (View.Piece (Elt F) S4x2048x1 .f32) :=
  (tripP c i arg2 harg2 arg3 harg3 arg4 harg4 arg5 harg5 arg6 harg6 arg7 harg7 arg8 harg8 arg9 harg9 arg10 harg10 arg11 harg11 x5 x6 h1 k (harg11.unread (constant S4x2048x1 .f32 0x00000000#32))).1

theorem prepPieces_eq (h1 : k0_cond1 i = 1#1) (k : Fin k0_t1_loop.trips) (f : arg11.view.ty.Contents (Elt F)) :
    (tripP c i arg2 harg2 arg3 harg3 arg4 harg4 arg5 harg5 arg6 harg6 arg7 harg7 arg8 harg8 arg9 harg9 arg10 harg10 arg11 harg11 x5 x6 h1 k f).1 = prepPieces c i arg2 harg2 arg3 harg3 arg4 harg4 arg5 harg5 arg6 harg6 arg7 harg7 arg8 harg8 arg9 harg9 arg10 harg10 arg11 harg11 x5 x6 h1 k := rfl

/-- A row of delta lies in some piece of trip `k` exactly when its block is `k`. -/
theorem mem_prep (h1 : k0_cond1 i = 1#1) (k : Fin k0_t1_loop.trips) (y : S4x2048x1.Idx) :
    (∃ p ∈ prepPieces c i arg2 harg2 arg3 harg3 arg4 harg4 arg5 harg5 arg6 harg6 arg7 harg7 arg8 harg8 arg9 harg9 arg10 harg10 arg11 harg11 x5 x6 h1 k, y ∈ p.1.set) ↔ 256 * k.val ≤ (y 1).val ∧ (y 1).val < 256 * k.val + 256 := by
  unfold prepPieces tripP
  simp only [List.mem_cons, List.not_mem_nil, or_false, exists_eq_or_imp, exists_eq_left, Rect.mem_set_unit, off2_eq, off4_eq, off6_eq, off8_eq]
  have h0 : (y 0).val < 4 := (y 0).isLt
  have h2 : (y 2).val < 1 := (y 2).isLt
  constructor
  · rintro (h | h | h | h) <;> exact h 1
  · intro h
    have : (y 0).val = 3 ∨ (y 0).val = 2 ∨ (y 0).val = 1 ∨ (y 0).val = 0 := by omega
    rcases this with e | e | e | e
    · left; intro a; match a with
      | ⟨0, _⟩ => show 3 ≤ (y 0).val ∧ (y 0).val < 3 + 1; omega
      | ⟨1, _⟩ => exact h
      | ⟨2, _⟩ => show 0 ≤ (y 2).val ∧ (y 2).val < 0 + 1; omega
    · right; left; intro a; match a with
      | ⟨0, _⟩ => show 2 ≤ (y 0).val ∧ (y 0).val < 2 + 1; omega
      | ⟨1, _⟩ => exact h
      | ⟨2, _⟩ => show 0 ≤ (y 2).val ∧ (y 2).val < 0 + 1; omega
    · right; right; left; intro a; match a with
      | ⟨0, _⟩ => show 1 ≤ (y 0).val ∧ (y 0).val < 1 + 1; omega
      | ⟨1, _⟩ => exact h
      | ⟨2, _⟩ => show 0 ≤ (y 2).val ∧ (y 2).val < 0 + 1; omega
    · right; right; right; intro a; match a with
      | ⟨0, _⟩ => show 0 ≤ (y 0).val ∧ (y 0).val < 0 + 1; omega
      | ⟨1, _⟩ => exact h
      | ⟨2, _⟩ => show 0 ≤ (y 2).val ∧ (y 2).val < 0 + 1; omega

/-- Delta, entry by entry: what the trip of its block of rows writes. -/
def deltaV (h1 : k0_cond1 i = 1#1) : FVec F S4x2048x1 .f32 := fun y =>
  View.canon (prepPieces c i arg2 harg2 arg3 harg3 arg4 harg4 arg5 harg5 arg6 harg6 arg7 harg7 arg8 harg8 arg9 harg9 arg10 harg10 arg11 harg11 x5 x6 h1 ⟨(y 1).val / 256, by
    have : (y 1).val < 2048 := (y 1).isLt
    rw [trips1]; omega⟩) y

theorem prep_read (h1 : k0_cond1 i = 1#1) (f : arg11.view.ty.Contents (Elt F)) (y : S4x2048x1.Idx) :
    ∀ k, k ≤ k0_t1_loop.trips → (y 1).val < 256 * k →
      arg11.view.read (Elt F) (prepSt c i arg2 harg2 arg3 harg3 arg4 harg4 arg5 harg5 arg6 harg6 arg7 harg7 arg8 harg8 arg9 harg9 arg10 harg10 arg11 harg11 x5 x6 h1 f k) y = deltaV c i arg2 harg2 arg3 harg3 arg4 harg4 arg5 harg5 arg6 harg6 arg7 harg7 arg8 harg8 arg9 harg9 arg10 harg10 arg11 harg11 x5 x6 h1 y
  | 0, _, h => by omega
  | k + 1, hk, h => by
    have hk' : k < k0_t1_loop.trips := hk
    rw [prepSt, dif_pos hk', prepPieces_eq]
    by_cases hc : 256 * k ≤ (y 1).val
    · rw [View.read_writes_apply_eq_canon _ _ _ _ ((mem_prep c i arg2 harg2 arg3 harg3 arg4 harg4 arg5 harg5 arg6 harg6 arg7 harg7 arg8 harg8 arg9 harg9 arg10 harg10 arg11 harg11 x5 x6 h1 ⟨k, hk'⟩ y).2 ⟨hc, by omega⟩)]
      unfold deltaV
      have : (y 1).val / 256 = k := by omega
      simp only [this]
    · rw [View.read_writes_apply_of_forall_not_mem]
      · exact prep_read h1 f y k (by omega) (by omega)
      · intro p hp hy
        have := (mem_prep c i arg2 harg2 arg3 harg3 arg4 harg4 arg5 harg5 arg6 harg6 arg7 harg7 arg8 harg8 arg9 harg9 arg10 harg10 arg11 harg11 x5 x6 h1 ⟨k, hk'⟩ y).1 ⟨p, hp, by simpa [Rect.map_emb_univ] using hy⟩
        exact hc this.1

theorem prep_done (h1 : k0_cond1 i = 1#1) (f : arg11.view.ty.Contents (Elt F)) :
    prepSt c i arg2 harg2 arg3 harg3 arg4 harg4 arg5 harg5 arg6 harg6 arg7 harg7 arg8 harg8 arg9 harg9 arg10 harg10 arg11 harg11 x5 x6 h1 f k0_t1_loop.trips = harg11.unread (deltaV c i arg2 harg2 arg3 harg3 arg4 harg4 arg5 harg5 arg6 harg6 arg7 harg7 arg8 harg8 arg9 harg9 arg10 harg10 arg11 harg11 x5 x6 h1) := by
  apply harg11.eq_unread
  funext y
  exact prep_read c i arg2 harg2 arg3 harg3 arg4 harg4 arg5 harg5 arg6 harg6 arg7 harg7 arg8 harg8 arg9 harg9 arg10 harg10 arg11 harg11 x5 x6 h1 f y _ le_rfl (by rw [trips1]; have : (y 1).val < 2048 := (y 1).isLt; omega)

end Cert.AttnIdeal.Hand
end
-- ==== Proof.AttnBody.lean ====
module

public import proofs.«01_k».proof.Proof.AttnPrep

/-! The attention backward kernel's body at one grid point, on named contents. -/

@[expose] public section

set_option maxRecDepth 16384

noncomputable section

namespace Cert.AttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal.Gen

variable {F : FTy → Type} [FloatOps F] [Named F]

local notation "𝕄" => MT nD τ sig Unit (Elt F) ℕ (UR sig nD τ) ℕ

variable (c : Dev nD) (i : grid0.Coords)
  (arg2 : Memref sig .tc .vmem S2048x512 .bf16) (harg2 : arg2.IsWhole)
  (arg3 : Memref sig .tc .vmem S256x512 .bf16) (harg3 : arg3.IsWhole)
  (arg4 : Memref sig .tc .vmem S256x512 .bf16) (harg4 : arg4.IsWhole)
  (arg5 : Memref sig .tc .vmem S2048x512 .f32) (harg5 : arg5.IsWhole)
  (arg6 : Memref sig .tc .vmem S2048x512 .f32) (harg6 : arg6.IsWhole)
  (arg7 : Memref sig .tc .vmem S4x2048x1 .f32) (harg7 : arg7.IsWhole)
  (arg8 : Memref sig .tc .vmem S2048x512 .f32) (harg8 : arg8.IsWhole)
  (arg9 : Memref sig .tc .vmem S256x512 .f32) (harg9 : arg9.IsWhole)
  (arg10 : Memref sig .tc .vmem S256x512 .f32) (harg10 : arg10.IsWhole)
  (arg11 : Memref sig .tc .vmem S4x2048x1 .f32) (harg11 : arg11.IsWhole)
  (x3 x4 : FVec F S256x512 .bf16) (x5 : FVec F S2048x512 .f32)
  (v4 v6 v8 v10 v12 v14 v16 v18 : FVec F S256x128 .bf16)
  (x2 : FVec F S2048x512 .bf16) (x6 : FVec F S2048x512 .f32) (x7 : FVec F S4x2048x1 .f32)
  (x11 : FVec F S4x2048x1 .f32)

/-- The blocks of k and v of the tile, head by head, and the words that count the row blocks. -/
def loadV : Loads F := ⟨BitVec.ofNat 32 (i 1).val,
  k0_pay211 (arg3.view.readAt (Elt F) (Rect.unit (s := S256x512) ![0, 0] S256x128.size inb_S256x512_S256x128_0_0).toLoadRect (harg3.unread x3)),
  k0_pay212 (arg3.view.readAt (Elt F) (Rect.unit (s := S256x512) ![0, 128] S256x128.size inb_S256x512_S256x128_0_128).toLoadRect (harg3.unread x3)),
  k0_pay213 (arg3.view.readAt (Elt F) (Rect.unit (s := S256x512) ![0, 256] S256x128.size inb_S256x512_S256x128_0_256).toLoadRect (harg3.unread x3)),
  k0_pay214 (arg3.view.readAt (Elt F) (Rect.unit (s := S256x512) ![0, 384] S256x128.size inb_S256x512_S256x128_0_384).toLoadRect (harg3.unread x3)),
  k0_pay215 (arg4.view.readAt (Elt F) (Rect.unit (s := S256x512) ![0, 0] S256x128.size inb_S256x512_S256x128_0_0).toLoadRect (harg4.unread x4)),
  k0_pay216 (arg4.view.readAt (Elt F) (Rect.unit (s := S256x512) ![0, 128] S256x128.size inb_S256x512_S256x128_0_128).toLoadRect (harg4.unread x4)),
  k0_pay217 (arg4.view.readAt (Elt F) (Rect.unit (s := S256x512) ![0, 256] S256x128.size inb_S256x512_S256x128_0_256).toLoadRect (harg4.unread x4)),
  k0_pay218 (arg4.view.readAt (Elt F) (Rect.unit (s := S256x512) ![0, 384] S256x128.size inb_S256x512_S256x128_0_384).toLoadRect (harg4.unread x4)),
  k0_pay219,
  Scalar.addi (BitVec.ofNat 32 (i 1).val) 2#32, 2#32,
  Scalar.divsi (Scalar.addi (BitVec.ofNat 32 (i 1).val) 2#32) 2#32,
  Scalar.subi (Scalar.extui (Scalar.cmpi .sgt (Scalar.addi (BitVec.ofNat 32 (i 1).val) 2#32) 0#32)) (Scalar.extui (Scalar.cmpi .slt (Scalar.addi (BitVec.ofNat 32 (i 1).val) 2#32) 0#32)),
  Scalar.subi (Scalar.extui (Scalar.cmpi .sgt 2#32 0#32)) (Scalar.extui (Scalar.cmpi .slt 2#32 0#32))⟩

theorem loadsN_val (h1 : ¬ k0_cond1 i = 1#1) : (loadsN c i arg2 harg2 arg3 harg3 arg4 harg4 arg5 harg5 arg6 harg6 arg7 harg7 arg8 harg8 arg9 harg9 arg10 harg10 arg11 harg11 x3 x4 h1).1 = loadV i arg3 harg3 arg4 harg4 x3 x4 := rfl

theorem loadsF_val (h1 : k0_cond1 i = 1#1) (f8 : arg8.view.ty.Contents (Elt F)) (f11 : arg11.view.ty.Contents (Elt F)) :
    (loadsF c i arg2 harg2 arg3 harg3 arg4 harg4 arg5 harg5 arg6 harg6 arg7 harg7 arg8 harg8 arg9 harg9 arg10 harg10 arg11 harg11 x3 x4 x5 x6 h1 f8 f11).2.1 = loadV i arg3 harg3 arg4 harg4 x3 x4 := rfl

/-- dq's buffer cleared. -/
theorem loadsF_dq (h1 : k0_cond1 i = 1#1) (f8 g : arg8.view.ty.Contents (Elt F)) (f11 : arg11.view.ty.Contents (Elt F)) :
    arg8.view.writes (Elt F) g (loadsF c i arg2 harg2 arg3 harg3 arg4 harg4 arg5 harg5 arg6 harg6 arg7 harg7 arg8 harg8 arg9 harg9 arg10 harg10 arg11 harg11 x3 x4 x5 x6 h1 f8 f11).1 = harg8.unread (k0_pay209 (F := F)) := by
  apply harg8.eq_unread
  have e : (loadsF c i arg2 harg2 arg3 harg3 arg4 harg4 arg5 harg5 arg6 harg6 arg7 harg7 arg8 harg8 arg9 harg9 arg10 harg10 arg11 harg11 x3 x4 x5 x6 h1 f8 f11).1 = [⟨Rect.unit (s := S2048x512) ![0, 0] S2048x512.size inb_S2048x512_S2048x512_0_0, k0_pay209⟩] := rfl
  have hz : (![0, 0] : Fin 2 → Nat) = fun _ => 0 := by funext a; match a with | ⟨0, _⟩ => rfl | ⟨1, _⟩ => rfl
  rw [e, View.read_writes_eq_canon, View.canon_unit_zero hz]
  refine fun y => ⟨_, List.mem_singleton_self _, ?_⟩
  rw [Rect.mem_set_unit]
  intro a; match a with
  | ⟨0, _⟩ => exact ⟨Nat.zero_le _, by simpa using (y 0).isLt⟩
  | ⟨1, _⟩ => exact ⟨Nat.zero_le _, by simpa using (y 1).isLt⟩

theorem first_spec (h1 : k0_cond1 i = 1#1) (f8 : arg8.view.ty.Contents (Elt F)) (f11 : arg11.view.ty.Contents (Elt F)) (E : Set ℕ) (K : Loads F → sProp 𝕄) :
    iprop((arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg8.view.loc (c : Thread nD τ) ↦[arg8.view.set]{fullShare} f8) ∗ (arg11.view.loc (c : Thread nD τ) ↦[arg11.view.set]{fullShare} f11) ∗ (iprop((arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg8.view.loc (c : Thread nD τ) ↦[arg8.view.set]{fullShare} harg8.unread (k0_pay209 (F := F))) ∗ (arg11.view.loc (c : Thread nD τ) ↦[arg11.view.set]{fullShare} harg11.unread (deltaV c i arg2 harg2 arg3 harg3 arg4 harg4 arg5 harg5 arg6 harg6 arg7 harg7 arg8 harg8 arg9 harg9 arg10 harg10 arg11 harg11 x5 x6 h1))) -∗ K (loadV i arg3 harg3 arg4 harg4 x3 x4)))
      ⊢ wp frame (wpE (defs₀ (F := F)) Variants.none c none) E (k0_part26 i arg2 harg2 arg3 harg3 arg4 harg4 arg5 harg5 arg6 harg6 arg7 harg7 arg8 harg8 arg9 harg9 arg10 harg10 arg11 harg11) K := by
  rw [← loadsF_val c i arg2 harg2 arg3 harg3 arg4 harg4 arg5 harg5 arg6 harg6 arg7 harg7 arg8 harg8 arg9 harg9 arg10 harg10 arg11 harg11 x3 x4 x5 x6 h1 f8 f11, ← prep_done c i arg2 harg2 arg3 harg3 arg4 harg4 arg5 harg5 arg6 harg6 arg7 harg7 arg8 harg8 arg9 harg9 arg10 harg10 arg11 harg11 x5 x6 h1 f11]
  refine BIBase.Entails.trans ?_ ((loadsF c i arg2 harg2 arg3 harg3 arg4 harg4 arg5 harg5 arg6 harg6 arg7 harg7 arg8 harg8 arg9 harg9 arg10 harg10 arg11 harg11 x3 x4 x5 x6 h1 f8 f11).2.2 E K)
  iintro ⟨H3, H4, H5, H6, H8, H11, Hk⟩
  isplitl [H3]; · iexact H3
  isplitl [H4]; · iexact H4
  isplitl [H5]; · iexact H5
  isplitl [H6]; · iexact H6
  isplitl [H8]; · iexact H8
  isplitl [H11]; · iexact H11
  iintro ⟨H3, H4, H5, H6, ⟨%g, H8⟩, H11⟩
  rw [loadsF_dq]
  iapply Hk
  isplitl [H3]; · iexact H3
  isplitl [H4]; · iexact H4
  isplitl [H5]; · iexact H5
  isplitl [H6]; · iexact H6
  isplitl [H8]; · iexact H8
  iexact H11

theorem later_spec (h1 : ¬ k0_cond1 i = 1#1) (E : Set ℕ) (K : Loads F → sProp 𝕄) :
    iprop((arg3.view.loc (c : Thread nD τ) ↦[arg3.view.set]{fullShare} harg3.unread x3) ∗ (arg4.view.loc (c : Thread nD τ) ↦[arg4.view.set]{fullShare} harg4.unread x4) ∗ (iprop((arg3.view.loc (c : Thread nD τ) ↦[arg3.view.set]{fullShare} harg3.unread x3) ∗ (arg4.view.loc (c : Thread nD τ) ↦[arg4.view.set]{fullShare} harg4.unread x4)) -∗ K (loadV i arg3 harg3 arg4 harg4 x3 x4)))
      ⊢ wp frame (wpE (defs₀ (F := F)) Variants.none c none) E (k0_part26 i arg2 harg2 arg3 harg3 arg4 harg4 arg5 harg5 arg6 harg6 arg7 harg7 arg8 harg8 arg9 harg9 arg10 harg10 arg11 harg11) K := by
  rw [← loadsN_val c i arg2 harg2 arg3 harg3 arg4 harg4 arg5 harg5 arg6 harg6 arg7 harg7 arg8 harg8 arg9 harg9 arg10 harg10 arg11 harg11 x3 x4 h1]
  exact (loadsN c i arg2 harg2 arg3 harg3 arg4 harg4 arg5 harg5 arg6 harg6 arg7 harg7 arg8 harg8 arg9 harg9 arg10 harg10 arg11 harg11 x3 x4 h1).2 E K

variable (r : Loads F)

/-- dq's buffer and the sums after the masked step. -/
def midV (f8 : arg8.view.ty.Contents (Elt F)) : arg8.view.ty.Contents (Elt F) × Masked F :=
  if h2 : k0_cond2 i = 1#1 then
    let s := stepE c i arg2 harg2 arg3 harg3 arg4 harg4 arg5 harg5 arg6 harg6 arg7 harg7 arg8 harg8 arg9 harg9 arg10 harg10 arg11 harg11 r.2.1 r.2.2.1 r.2.2.2.1 r.2.2.2.2.1 r.2.2.2.2.2.1 r.2.2.2.2.2.2.1 r.2.2.2.2.2.2.2.1 r.2.2.2.2.2.2.2.2.1 x2 x6 x7 x11 h2 r.1 r.2.2.2.2.2.2.2.2.2.1 r.2.2.2.2.2.2.2.2.2.2.1 r.2.2.2.2.2.2.2.2.2.2.2.1 r.2.2.2.2.2.2.2.2.2.2.2.2.1 r.2.2.2.2.2.2.2.2.2.2.2.2.2.1 r.2.2.2.2.2.2.2.2.2.2.2.2.2.2 f8
    (arg8.view.writes (Elt F) f8 s.1, s.2.1)
  else
    let s := stepO c i arg2 harg2 arg3 harg3 arg4 harg4 arg5 harg5 arg6 harg6 arg7 harg7 arg8 harg8 arg9 harg9 arg10 harg10 arg11 harg11 r.2.1 r.2.2.1 r.2.2.2.1 r.2.2.2.2.1 r.2.2.2.2.2.1 r.2.2.2.2.2.2.1 r.2.2.2.2.2.2.2.1 r.2.2.2.2.2.2.2.2.1 x2 x6 x7 x11 h2 (trips2 i h2) (trips3 i h2) r.1 r.2.2.2.2.2.2.2.2.2.1 r.2.2.2.2.2.2.2.2.2.2.1 r.2.2.2.2.2.2.2.2.2.2.2.1 r.2.2.2.2.2.2.2.2.2.2.2.2.1 r.2.2.2.2.2.2.2.2.2.2.2.2.2.1 r.2.2.2.2.2.2.2.2.2.2.2.2.2.2 f8
    (arg8.view.writes (Elt F) f8 s.1, s.2.1)

theorem mid_spec (f8 : arg8.view.ty.Contents (Elt F)) (E : Set ℕ) (K : Masked F → sProp 𝕄) :
    iprop((arg2.view.loc (c : Thread nD τ) ↦[arg2.view.set]{fullShare} harg2.unread x2) ∗ (arg6.view.loc (c : Thread nD τ) ↦[arg6.view.set]{fullShare} harg6.unread x6) ∗ (arg7.view.loc (c : Thread nD τ) ↦[arg7.view.set]{fullShare} harg7.unread x7) ∗ (arg11.view.loc (c : Thread nD τ) ↦[arg11.view.set]{fullShare} harg11.unread x11) ∗ (arg8.view.loc (c : Thread nD τ) ↦[arg8.view.set]{fullShare} f8) ∗ (iprop((arg2.view.loc (c : Thread nD τ) ↦[arg2.view.set]{fullShare} harg2.unread x2) ∗ (arg6.view.loc (c : Thread nD τ) ↦[arg6.view.set]{fullShare} harg6.unread x6) ∗ (arg7.view.loc (c : Thread nD τ) ↦[arg7.view.set]{fullShare} harg7.unread x7) ∗ (arg11.view.loc (c : Thread nD τ) ↦[arg11.view.set]{fullShare} harg11.unread x11) ∗ (arg8.view.loc (c : Thread nD τ) ↦[arg8.view.set]{fullShare} (midV c i arg2 harg2 arg3 harg3 arg4 harg4 arg5 harg5 arg6 harg6 arg7 harg7 arg8 harg8 arg9 harg9 arg10 harg10 arg11 harg11 x2 x6 x7 x11 r f8).1)) -∗ K (midV c i arg2 harg2 arg3 harg3 arg4 harg4 arg5 harg5 arg6 harg6 arg7 harg7 arg8 harg8 arg9 harg9 arg10 harg10 arg11 harg11 x2 x6 x7 x11 r f8).2))
      ⊢ wp frame (wpE (defs₀ (F := F)) Variants.none c none) E (k0_part27 i arg2 harg2 arg3 harg3 arg4 harg4 arg5 harg5 arg6 harg6 arg7 harg7 arg8 harg8 arg9 harg9 arg10 harg10 arg11 harg11 r.1 r.2.1 r.2.2.1 r.2.2.2.1 r.2.2.2.2.1 r.2.2.2.2.2.1 r.2.2.2.2.2.2.1 r.2.2.2.2.2.2.2.1 r.2.2.2.2.2.2.2.2.1 r.2.2.2.2.2.2.2.2.2.1 r.2.2.2.2.2.2.2.2.2.2.1 r.2.2.2.2.2.2.2.2.2.2.2.1 r.2.2.2.2.2.2.2.2.2.2.2.2.1 r.2.2.2.2.2.2.2.2.2.2.2.2.2.1 r.2.2.2.2.2.2.2.2.2.2.2.2.2.2) K := by
  by_cases h2 : k0_cond2 i = 1#1
  · unfold midV; rw [dif_pos h2]
    exact (stepE c i arg2 harg2 arg3 harg3 arg4 harg4 arg5 harg5 arg6 harg6 arg7 harg7 arg8 harg8 arg9 harg9 arg10 harg10 arg11 harg11 r.2.1 r.2.2.1 r.2.2.2.1 r.2.2.2.2.1 r.2.2.2.2.2.1 r.2.2.2.2.2.2.1 r.2.2.2.2.2.2.2.1 r.2.2.2.2.2.2.2.2.1 x2 x6 x7 x11 h2 r.1 r.2.2.2.2.2.2.2.2.2.1 r.2.2.2.2.2.2.2.2.2.2.1 r.2.2.2.2.2.2.2.2.2.2.2.1 r.2.2.2.2.2.2.2.2.2.2.2.2.1 r.2.2.2.2.2.2.2.2.2.2.2.2.2.1 r.2.2.2.2.2.2.2.2.2.2.2.2.2.2 f8).2.2 E K
  · unfold midV; rw [dif_neg h2]
    exact (stepO c i arg2 harg2 arg3 harg3 arg4 harg4 arg5 harg5 arg6 harg6 arg7 harg7 arg8 harg8 arg9 harg9 arg10 harg10 arg11 harg11 r.2.1 r.2.2.1 r.2.2.2.1 r.2.2.2.2.1 r.2.2.2.2.2.1 r.2.2.2.2.2.2.1 r.2.2.2.2.2.2.2.1 r.2.2.2.2.2.2.2.2.1 x2 x6 x7 x11 h2 (trips2 i h2) (trips3 i h2) r.1 r.2.2.2.2.2.2.2.2.2.1 r.2.2.2.2.2.2.2.2.2.2.1 r.2.2.2.2.2.2.2.2.2.2.2.1 r.2.2.2.2.2.2.2.2.2.2.2.2.1 r.2.2.2.2.2.2.2.2.2.2.2.2.2.1 r.2.2.2.2.2.2.2.2.2.2.2.2.2.2 f8).2.2 E K

/-- What the loop over whole row blocks starts from. -/
def startV (s : Masked F) : Carry F := (s.2.1, s.2.2.1, s.2.2.2.1, s.2.2.2.2.1, s.2.2.2.2.2.1, s.2.2.2.2.2.2.1, s.2.2.2.2.2.2.2.1, s.2.2.2.2.2.2.2.2.1, s.2.2.2.2.2.2.2.2.2.1, s.2.2.2.2.2.2.2.2.2.2.1, s.2.2.2.2.2.2.2.2.2.2.2.1, k0_pay1 r.2.2.2.2.1 s.2.2.2.2.2.2.2.2.2.2.2.2.1 s.2.2.2.2.2.2.2.2.2.2.2.2.2)

/-- dq's buffer and the sums at the end of the tile. -/
def endV (f8 : arg8.view.ty.Contents (Elt F)) : arg8.view.ty.Contents (Elt F) × Carry F :=
  let m := midV c i arg2 harg2 arg3 harg3 arg4 harg4 arg5 harg5 arg6 harg6 arg7 harg7 arg8 harg8 arg9 harg9 arg10 harg10 arg11 harg11 x2 x6 x7 x11 r f8
  wideSt c i arg2 harg2 arg3 harg3 arg4 harg4 arg5 harg5 arg6 harg6 arg7 harg7 arg8 harg8 arg9 harg9 arg10 harg10 arg11 harg11 r.2.1 r.2.2.1 r.2.2.2.1 r.2.2.2.2.1 r.2.2.2.2.2.1 r.2.2.2.2.2.2.1 r.2.2.2.2.2.2.2.1 r.2.2.2.2.2.2.2.2.1 x2 x6 x7 x11 m.2.1 m.1 (startV r m.2) (k0_t4_loop i).trips

theorem tail_spec (s : Masked F) (f8 : arg8.view.ty.Contents (Elt F)) (f9 : arg9.view.ty.Contents (Elt F)) (f10 : arg10.view.ty.Contents (Elt F)) (E : Set ℕ) (K : PUnit → sProp 𝕄) :
    iprop((arg2.view.loc (c : Thread nD τ) ↦[arg2.view.set]{fullShare} harg2.unread x2) ∗ (arg6.view.loc (c : Thread nD τ) ↦[arg6.view.set]{fullShare} harg6.unread x6) ∗ (arg7.view.loc (c : Thread nD τ) ↦[arg7.view.set]{fullShare} harg7.unread x7) ∗ (arg11.view.loc (c : Thread nD τ) ↦[arg11.view.set]{fullShare} harg11.unread x11) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (iprop((arg2.view.loc (c : Thread nD τ) ↦[arg2.view.set]{fullShare} harg2.unread x2) ∗ (arg6.view.loc (c : Thread nD τ) ↦[arg6.view.set]{fullShare} harg6.unread x6) ∗ (arg7.view.loc (c : Thread nD τ) ↦[arg7.view.set]{fullShare} harg7.unread x7) ∗ (arg11.view.loc (c : Thread nD τ) ↦[arg11.view.set]{fullShare} harg11.unread x11) ∗ (arg8.view.loc (c : Thread nD τ) ↦[arg8.view.set]{fullShare} (wideSt c i arg2 harg2 arg3 harg3 arg4 harg4 arg5 harg5 arg6 harg6 arg7 harg7 arg8 harg8 arg9 harg9 arg10 harg10 arg11 harg11 r.2.1 r.2.2.1 r.2.2.2.1 r.2.2.2.2.1 r.2.2.2.2.2.1 r.2.2.2.2.2.2.1 r.2.2.2.2.2.2.2.1 r.2.2.2.2.2.2.2.2.1 x2 x6 x7 x11 s.1 f8 (startV r s) (k0_t4_loop i).trips).1) ∗ (arg9.view.loc (c : Thread nD τ) ↦[arg9.view.set]{fullShare} arg9.view.writes (Elt F) f9 (outP (wideSt c i arg2 harg2 arg3 harg3 arg4 harg4 arg5 harg5 arg6 harg6 arg7 harg7 arg8 harg8 arg9 harg9 arg10 harg10 arg11 harg11 r.2.1 r.2.2.1 r.2.2.2.1 r.2.2.2.2.1 r.2.2.2.2.2.1 r.2.2.2.2.2.2.1 r.2.2.2.2.2.2.2.1 r.2.2.2.2.2.2.2.2.1 x2 x6 x7 x11 s.1 f8 (startV r s) (k0_t4_loop i).trips).2).1) ∗ (arg10.view.loc (c : Thread nD τ) ↦[arg10.view.set]{fullShare} arg10.view.writes (Elt F) f10 (outP (wideSt c i arg2 harg2 arg3 harg3 arg4 harg4 arg5 harg5 arg6 harg6 arg7 harg7 arg8 harg8 arg9 harg9 arg10 harg10 arg11 harg11 r.2.1 r.2.2.1 r.2.2.2.1 r.2.2.2.2.1 r.2.2.2.2.2.1 r.2.2.2.2.2.2.1 r.2.2.2.2.2.2.2.1 r.2.2.2.2.2.2.2.2.1 x2 x6 x7 x11 s.1 f8 (startV r s) (k0_t4_loop i).trips).2).2)) -∗ K ⟨⟩))
      ⊢ wp frame (wpE (defs₀ (F := F)) Variants.none c none) E (tailProg i arg2 harg2 arg3 harg3 arg4 harg4 arg5 harg5 arg6 harg6 arg7 harg7 arg8 harg8 arg9 harg9 arg10 harg10 arg11 harg11 r.2.1 r.2.2.1 r.2.2.2.1 r.2.2.2.2.1 r.2.2.2.2.2.1 r.2.2.2.2.2.2.1 r.2.2.2.2.2.2.2.1 r.2.2.2.2.2.2.2.2.1 s.1 s.2.1 s.2.2.1 s.2.2.2.1 s.2.2.2.2.1 s.2.2.2.2.2.1 s.2.2.2.2.2.2.1 s.2.2.2.2.2.2.2.1 s.2.2.2.2.2.2.2.2.1 s.2.2.2.2.2.2.2.2.2.1 s.2.2.2.2.2.2.2.2.2.2.1 s.2.2.2.2.2.2.2.2.2.2.2.1 s.2.2.2.2.2.2.2.2.2.2.2.2.1 s.2.2.2.2.2.2.2.2.2.2.2.2.2) K := by
  exact tailRun c i arg2 harg2 arg3 harg3 arg4 harg4 arg5 harg5 arg6 harg6 arg7 harg7 arg8 harg8 arg9 harg9 arg10 harg10 arg11 harg11 r.2.1 r.2.2.1 r.2.2.2.1 r.2.2.2.2.1 r.2.2.2.2.2.1 r.2.2.2.2.2.2.1 r.2.2.2.2.2.2.2.1 r.2.2.2.2.2.2.2.2.1 x2 x6 x7 x11 (trips5 i) s.1 s.2.1 s.2.2.1 s.2.2.2.1 s.2.2.2.2.1 s.2.2.2.2.2.1 s.2.2.2.2.2.2.1 s.2.2.2.2.2.2.2.1 s.2.2.2.2.2.2.2.2.1 s.2.2.2.2.2.2.2.2.2.1 s.2.2.2.2.2.2.2.2.2.2.1 s.2.2.2.2.2.2.2.2.2.2.2.1 s.2.2.2.2.2.2.2.2.2.2.2.2.1 s.2.2.2.2.2.2.2.2.2.2.2.2.2 f8 f9 f10 E K

theorem rest_spec (f8 : arg8.view.ty.Contents (Elt F)) (f9 : arg9.view.ty.Contents (Elt F)) (f10 : arg10.view.ty.Contents (Elt F)) (E : Set ℕ) (K : PUnit → sProp 𝕄) :
    iprop((arg2.view.loc (c : Thread nD τ) ↦[arg2.view.set]{fullShare} harg2.unread x2) ∗ (arg6.view.loc (c : Thread nD τ) ↦[arg6.view.set]{fullShare} harg6.unread x6) ∗ (arg7.view.loc (c : Thread nD τ) ↦[arg7.view.set]{fullShare} harg7.unread x7) ∗ (arg11.view.loc (c : Thread nD τ) ↦[arg11.view.set]{fullShare} harg11.unread x11) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (iprop((arg2.view.loc (c : Thread nD τ) ↦[arg2.view.set]{fullShare} harg2.unread x2) ∗ (arg6.view.loc (c : Thread nD τ) ↦[arg6.view.set]{fullShare} harg6.unread x6) ∗ (arg7.view.loc (c : Thread nD τ) ↦[arg7.view.set]{fullShare} harg7.unread x7) ∗ (arg11.view.loc (c : Thread nD τ) ↦[arg11.view.set]{fullShare} harg11.unread x11) ∗ (arg8.view.loc (c : Thread nD τ) ↦[arg8.view.set]{fullShare} (endV c i arg2 harg2 arg3 harg3 arg4 harg4 arg5 harg5 arg6 harg6 arg7 harg7 arg8 harg8 arg9 harg9 arg10 harg10 arg11 harg11 x2 x6 x7 x11 r f8).1) ∗ (arg9.view.loc (c : Thread nD τ) ↦[arg9.view.set]{fullShare} arg9.view.writes (Elt F) f9 (outP (endV c i arg2 harg2 arg3 harg3 arg4 harg4 arg5 harg5 arg6 harg6 arg7 harg7 arg8 harg8 arg9 harg9 arg10 harg10 arg11 harg11 x2 x6 x7 x11 r f8).2).1) ∗ (arg10.view.loc (c : Thread nD τ) ↦[arg10.view.set]{fullShare} arg10.view.writes (Elt F) f10 (outP (endV c i arg2 harg2 arg3 harg3 arg4 harg4 arg5 harg5 arg6 harg6 arg7 harg7 arg8 harg8 arg9 harg9 arg10 harg10 arg11 harg11 x2 x6 x7 x11 r f8).2).2)) -∗ K ⟨⟩))
      ⊢ wp frame (wpE (defs₀ (F := F)) Variants.none c none) E (k0_part27 i arg2 harg2 arg3 harg3 arg4 harg4 arg5 harg5 arg6 harg6 arg7 harg7 arg8 harg8 arg9 harg9 arg10 harg10 arg11 harg11 r.1 r.2.1 r.2.2.1 r.2.2.2.1 r.2.2.2.2.1 r.2.2.2.2.2.1 r.2.2.2.2.2.2.1 r.2.2.2.2.2.2.2.1 r.2.2.2.2.2.2.2.2.1 r.2.2.2.2.2.2.2.2.2.1 r.2.2.2.2.2.2.2.2.2.2.1 r.2.2.2.2.2.2.2.2.2.2.2.1 r.2.2.2.2.2.2.2.2.2.2.2.2.1 r.2.2.2.2.2.2.2.2.2.2.2.2.2.1 r.2.2.2.2.2.2.2.2.2.2.2.2.2.2 >>= fun s => tailProg i arg2 harg2 arg3 harg3 arg4 harg4 arg5 harg5 arg6 harg6 arg7 harg7 arg8 harg8 arg9 harg9 arg10 harg10 arg11 harg11 r.2.1 r.2.2.1 r.2.2.2.1 r.2.2.2.2.1 r.2.2.2.2.2.1 r.2.2.2.2.2.2.1 r.2.2.2.2.2.2.2.1 r.2.2.2.2.2.2.2.2.1 s.1 s.2.1 s.2.2.1 s.2.2.2.1 s.2.2.2.2.1 s.2.2.2.2.2.1 s.2.2.2.2.2.2.1 s.2.2.2.2.2.2.2.1 s.2.2.2.2.2.2.2.2.1 s.2.2.2.2.2.2.2.2.2.1 s.2.2.2.2.2.2.2.2.2.2.1 s.2.2.2.2.2.2.2.2.2.2.2.1 s.2.2.2.2.2.2.2.2.2.2.2.2.1 s.2.2.2.2.2.2.2.2.2.2.2.2.2) K := by
  rw [wp_bind]
  iintro ⟨H2, H6, H7, H11, H8, H9, H10, Hk⟩
  iapply (mid_spec c i arg2 harg2 arg3 harg3 arg4 harg4 arg5 harg5 arg6 harg6 arg7 harg7 arg8 harg8 arg9 harg9 arg10 harg10 arg11 harg11 x2 x6 x7 x11 r f8 E _)
  isplitl [H2]; · iexact H2
  isplitl [H6]; · iexact H6
  isplitl [H7]; · iexact H7
  isplitl [H11]; · iexact H11
  isplitl [H8]; · iexact H8
  iintro ⟨H2, H6, H7, H11, H8⟩
  iapply (tail_spec c i arg2 harg2 arg3 harg3 arg4 harg4 arg5 harg5 arg6 harg6 arg7 harg7 arg8 harg8 arg9 harg9 arg10 harg10 arg11 harg11 x2 x6 x7 x11 r (midV c i arg2 harg2 arg3 harg3 arg4 harg4 arg5 harg5 arg6 harg6 arg7 harg7 arg8 harg8 arg9 harg9 arg10 harg10 arg11 harg11 x2 x6 x7 x11 r f8).2 (midV c i arg2 harg2 arg3 harg3 arg4 harg4 arg5 harg5 arg6 harg6 arg7 harg7 arg8 harg8 arg9 harg9 arg10 harg10 arg11 harg11 x2 x6 x7 x11 r f8).1 f9 f10 E K)
  isplitl [H2]; · iexact H2
  isplitl [H6]; · iexact H6
  isplitl [H7]; · iexact H7
  isplitl [H11]; · iexact H11
  isplitl [H8]; · iexact H8
  isplitl [H9]; · iexact H9
  isplitl [H10]; · iexact H10
  iexact Hk

/-- The body at a group's first tile. -/
theorem body_first (h1 : k0_cond1 i = 1#1) (f8 : arg8.view.ty.Contents (Elt F)) (f9 : arg9.view.ty.Contents (Elt F)) (f10 : arg10.view.ty.Contents (Elt F)) (f11 : arg11.view.ty.Contents (Elt F)) (E : Set ℕ) (K : PUnit → sProp 𝕄) :
    iprop((arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (iprop((arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} (endV c i arg2 harg2 arg3 harg3 arg4 harg4 arg5 harg5 arg6 harg6 arg7 harg7 arg8 harg8 arg9 harg9 arg10 harg10 arg11 harg11 x2 x6 x7 (deltaV c i arg2 harg2 arg3 harg3 arg4 harg4 arg5 harg5 arg6 harg6 arg7 harg7 arg8 harg8 arg9 harg9 arg10 harg10 arg11 harg11 x5 x6 h1) (loadV i arg3 harg3 arg4 harg4 x3 x4) (harg8.unread (k0_pay209 (F := F)))).1) ∗ (arg9.view.loc (c : Thread nD τ) ↦[arg9.view.set]{fullShare} arg9.view.writes (Elt F) f9 (outP (endV c i arg2 harg2 arg3 harg3 arg4 harg4 arg5 harg5 arg6 harg6 arg7 harg7 arg8 harg8 arg9 harg9 arg10 harg10 arg11 harg11 x2 x6 x7 (deltaV c i arg2 harg2 arg3 harg3 arg4 harg4 arg5 harg5 arg6 harg6 arg7 harg7 arg8 harg8 arg9 harg9 arg10 harg10 arg11 harg11 x5 x6 h1) (loadV i arg3 harg3 arg4 harg4 x3 x4) (harg8.unread (k0_pay209 (F := F)))).2).1) ∗ (arg10.view.loc (c : Thread nD τ) ↦[arg10.view.set]{fullShare} arg10.view.writes (Elt F) f10 (outP (endV c i arg2 harg2 arg3 harg3 arg4 harg4 arg5 harg5 arg6 harg6 arg7 harg7 arg8 harg8 arg9 harg9 arg10 harg10 arg11 harg11 x2 x6 x7 (deltaV c i arg2 harg2 arg3 harg3 arg4 harg4 arg5 harg5 arg6 harg6 arg7 harg7 arg8 harg8 arg9 harg9 arg10 harg10 arg11 harg11 x5 x6 h1) (loadV i arg3 harg3 arg4 harg4 x3 x4) (harg8.unread (k0_pay209 (F := F)))).2).2) ∗ (arg11.view.loc (c : Thread nD τ) ↦[arg11.view.set]{fullShare} harg11.unread (deltaV c i arg2 harg2 arg3 harg3 arg4 harg4 arg5 harg5 arg6 harg6 arg7 harg7 arg8 harg8 arg9 harg9 arg10 harg10 arg11 harg11 x5 x6 h1))) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11) K := by
  rw [body_split, wp_bind]
  iintro ⟨H2, H3, H4, H5, H6, H7, H8, H9, H10, H11, Hk⟩
  iapply (first_spec c i arg2 harg2 arg3 harg3 arg4 harg4 arg5 harg5 arg6 harg6 arg7 harg7 arg8 harg8 arg9 harg9 arg10 harg10 arg11 harg11 x3 x4 x5 x6 h1 f8 f11 E _)
  isplitl [H3]; · iexact H3
  isplitl [H4]; · iexact H4
  isplitl [H5]; · iexact H5
  isplitl [H6]; · iexact H6
  isplitl [H8]; · iexact H8
  isplitl [H11]; · iexact H11
  iintro ⟨H3, H4, H5, H6, H8, H11⟩
  iapply (rest_spec c i arg2 harg2 arg3 harg3 arg4 harg4 arg5 harg5 arg6 harg6 arg7 harg7 arg8 harg8 arg9 harg9 arg10 harg10 arg11 harg11 x2 x6 x7 (deltaV c i arg2 harg2 arg3 harg3 arg4 harg4 arg5 harg5 arg6 harg6 arg7 harg7 arg8 harg8 arg9 harg9 arg10 harg10 arg11 harg11 x5 x6 h1) (loadV i arg3 harg3 arg4 harg4 x3 x4) (harg8.unread (k0_pay209 (F := F))) f9 f10 E K)
  isplitl [H2]; · iexact H2
  isplitl [H6]; · iexact H6
  isplitl [H7]; · iexact H7
  isplitl [H11]; · iexact H11
  isplitl [H8]; · iexact H8
  isplitl [H9]; · iexact H9
  isplitl [H10]; · iexact H10
  iintro ⟨H2, H6, H7, H11, H8, H9, H10⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body at a group's later tiles. -/
theorem body_later (h1 : ¬ k0_cond1 i = 1#1) (f8 : arg8.view.ty.Contents (Elt F)) (f9 : arg9.view.ty.Contents (Elt F)) (f10 : arg10.view.ty.Contents (Elt F)) (E : Set ℕ) (K : PUnit → sProp 𝕄) :
    iprop((arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} harg11.unread x11) ∗ (iprop((arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} (endV c i arg2 harg2 arg3 harg3 arg4 harg4 arg5 harg5 arg6 harg6 arg7 harg7 arg8 harg8 arg9 harg9 arg10 harg10 arg11 harg11 x2 x6 x7 x11 (loadV i arg3 harg3 arg4 harg4 x3 x4) f8).1) ∗ (arg9.view.loc (c : Thread nD τ) ↦[arg9.view.set]{fullShare} arg9.view.writes (Elt F) f9 (outP (endV c i arg2 harg2 arg3 harg3 arg4 harg4 arg5 harg5 arg6 harg6 arg7 harg7 arg8 harg8 arg9 harg9 arg10 harg10 arg11 harg11 x2 x6 x7 x11 (loadV i arg3 harg3 arg4 harg4 x3 x4) f8).2).1) ∗ (arg10.view.loc (c : Thread nD τ) ↦[arg10.view.set]{fullShare} arg10.view.writes (Elt F) f10 (outP (endV c i arg2 harg2 arg3 harg3 arg4 harg4 arg5 harg5 arg6 harg6 arg7 harg7 arg8 harg8 arg9 harg9 arg10 harg10 arg11 harg11 x2 x6 x7 x11 (loadV i arg3 harg3 arg4 harg4 x3 x4) f8).2).2) ∗ (arg11.view.loc (c : Thread nD τ) ↦[arg11.view.set]{fullShare} harg11.unread x11)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11) K := by
  rw [body_split, wp_bind]
  iintro ⟨H2, H3, H4, H5, H6, H7, H8, H9, H10, H11, Hk⟩
  iapply (later_spec c i arg2 harg2 arg3 harg3 arg4 harg4 arg5 harg5 arg6 harg6 arg7 harg7 arg8 harg8 arg9 harg9 arg10 harg10 arg11 harg11 x3 x4 h1 E _)
  isplitl [H3]; · iexact H3
  isplitl [H4]; · iexact H4
  iintro ⟨H3, H4⟩
  iapply (rest_spec c i arg2 harg2 arg3 harg3 arg4 harg4 arg5 harg5 arg6 harg6 arg7 harg7 arg8 harg8 arg9 harg9 arg10 harg10 arg11 harg11 x2 x6 x7 x11 (loadV i arg3 harg3 arg4 harg4 x3 x4) f8 f9 f10 E K)
  isplitl [H2]; · iexact H2
  isplitl [H6]; · iexact H6
  isplitl [H7]; · iexact H7
  isplitl [H11]; · iexact H11
  isplitl [H8]; · iexact H8
  isplitl [H9]; · iexact H9
  isplitl [H10]; · iexact H10
  iintro ⟨H2, H6, H7, H11, H8, H9, H10⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Cert.AttnIdeal.Hand
end
-- ==== Proof.AttnVal.lean ====
module

public import proofs.«01_k».proof.Proof.AttnBody

/-! The attention backward kernel's step for one head, and the four heads' steps as its instances. -/

@[expose] public section

set_option maxRecDepth 16384

noncomputable section

namespace Cert.AttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal.Gen

variable {F : FTy → Type} [FloatOps F] [Named F]

local notation "𝕄" => MT nD τ sig Unit (Elt F) ℕ (UR sig nD τ) ℕ

variable (c : Dev nD) (i : grid0.Coords)
  (arg2 : Memref sig .tc .vmem S2048x512 .bf16) (harg2 : arg2.IsWhole)
  (arg3 : Memref sig .tc .vmem S256x512 .bf16) (harg3 : arg3.IsWhole)
  (arg4 : Memref sig .tc .vmem S256x512 .bf16) (harg4 : arg4.IsWhole)
  (arg5 : Memref sig .tc .vmem S2048x512 .f32) (harg5 : arg5.IsWhole)
  (arg6 : Memref sig .tc .vmem S2048x512 .f32) (harg6 : arg6.IsWhole)
  (arg7 : Memref sig .tc .vmem S4x2048x1 .f32) (harg7 : arg7.IsWhole)
  (arg8 : Memref sig .tc .vmem S2048x512 .f32) (harg8 : arg8.IsWhole)
  (arg9 : Memref sig .tc .vmem S256x512 .f32) (harg9 : arg9.IsWhole)
  (arg10 : Memref sig .tc .vmem S256x512 .f32) (harg10 : arg10.IsWhole)
  (arg11 : Memref sig .tc .vmem S4x2048x1 .f32) (harg11 : arg11.IsWhole)
  (x3 x4 : FVec F S256x512 .bf16) (x5 : FVec F S2048x512 .f32)
  (v4 v6 v8 v10 v12 v14 v16 v18 : FVec F S256x128 .bf16)
  (x2 : FVec F S2048x512 .bf16) (x6 : FVec F S2048x512 .f32) (x7 : FVec F S4x2048x1 .f32)
  (x11 : FVec F S4x2048x1 .f32)

section Head

/-- One of four heads' blocks. -/
def K4 {α : Type} (a b c d : α) : Fin 4 → α := ![a, b, c, d]

/-- The products of 512 rows of q with the tile's rows of k. -/
def rawW (k : FVec F S256x128 .bf16) (q : FVec F S512x128 .bf16) : FVec F S512x256 .f32 := k0_pay137 k q
/-- The probabilities of 512 rows, no entry masked. -/
def pW (raw : FVec F S512x256 .f32) (l : FVec F S1x512x1 .f32) : FVec F S512x256 .f32 := k0_pay143 raw l
/-- The same with the entries to the right of the diagonal masked. -/
def pM (raw : FVec F S512x256 .f32) (l : FVec F S1x512x1 .f32) : FVec F S512x256 .f32 :=
  exp (subf (select (cmpi .sge (iota .tc S512x256 32 [0] iota_S512x256_d0_w32) (iota .tc S512x256 32 [1] iota_S512x256_d1_w32))
    (mulf raw (broadcast S512x256 (Scalar.ofBits .f32 0x3DD105EC#32))) (broadcast S512x256 (Named.named κ "mask" 0xF149F2CA#32)))
    (broadcastTo S512x256 (shapeCast S512x1 l shapeCasts_S1x512x1_S512x1) broadcasts_S512x1_S512x256))
def dsW (v : FVec F S256x128 .bf16) (p : FVec F S512x256 .f32) (d : FVec F S512x128 .f32) (e : FVec F S1x512x1 .f32) : FVec F S512x256 .f32 :=
  k0_pay147 v (k0_pay142 d) p e
def dvW (a : FVec F S256x128 .f32) (p : FVec F S512x256 .f32) (d : FVec F S512x128 .f32) : FVec F S256x128 .f32 :=
  k0_pay146 a (truncf .bf16 p bitsLt_bf16_f32) (k0_pay145 d)
def dkW (a : FVec F S256x128 .f32) (ds : FVec F S512x256 .f32) (q : FVec F S512x128 .bf16) : FVec F S256x128 .f32 :=
  k0_pay2 a (k0_pay150 q) (truncf .bf16 ds bitsLt_bf16_f32)
def dqW (ds : FVec F S512x256 .f32) (k : FVec F S256x128 .bf16) (old : FVec F S512x128 .f32) : FVec F S512x128 .f32 :=
  addf (shapeCast S512x128 old shapeCasts_S512x128_S512x128)
    (matmul dot_S512x256_S256x128_S512x128_1_0_0_1_n_n none (truncf .bf16 ds bitsLt_bf16_f32) k (constant S512x128 .f32 0x00000000#32))

def rawS (k : FVec F S256x128 .bf16) (q : FVec F S256x128 .bf16) : FVec F S256x256 .f32 :=
  matmul dot_S256x128_S256x128_S256x256_1_1_0_0_n_n none (shapeCast S256x128 q shapeCasts_S256x128_S256x128) k (constant S256x256 .f32 0x00000000#32)
def pS (raw : FVec F S256x256 .f32) (l : FVec F S1x256x1 .f32) : FVec F S256x256 .f32 :=
  exp (subf (select (cmpi .sge (iota .tc S256x256 32 [0] iota_S256x256_d0_w32) (iota .tc S256x256 32 [1] iota_S256x256_d1_w32))
    (mulf raw (broadcast S256x256 (Scalar.ofBits .f32 0x3DD105EC#32))) (broadcast S256x256 (Named.named κ "mask" 0xF149F2CA#32)))
    (broadcastTo S256x256 (shapeCast S256x1 l shapeCasts_S1x256x1_S256x1) broadcasts_S256x1_S256x256))
def dsS (v : FVec F S256x128 .bf16) (p : FVec F S256x256 .f32) (d : FVec F S256x128 .f32) (e : FVec F S1x256x1 .f32) : FVec F S256x256 .f32 :=
  k0_pay223 p (matmul dot_S256x128_S256x128_S256x256_1_1_0_0_n_n none (truncf .bf16 (shapeCast S256x128 d shapeCasts_S256x128_S256x128) bitsLt_bf16_f32) v (constant S256x256 .f32 0x00000000#32)) e
def dvS (a : FVec F S256x128 .f32) (p : FVec F S256x256 .f32) (d : FVec F S256x128 .f32) : FVec F S256x128 .f32 :=
  addf a (matmul dot_S256x256_S256x128_S256x128_0_0_1_1_n_n none (truncf .bf16 p bitsLt_bf16_f32) (truncf .bf16 (shapeCast S256x128 d shapeCasts_S256x128_S256x128) bitsLt_bf16_f32) (constant S256x128 .f32 0x00000000#32))
def dkS (a : FVec F S256x128 .f32) (ds : FVec F S256x256 .f32) (q : FVec F S256x128 .bf16) : FVec F S256x128 .f32 :=
  addf a (matmul dot_S256x256_S256x128_S256x128_0_0_1_1_n_n none (truncf .bf16 ds bitsLt_bf16_f32) (shapeCast S256x128 q shapeCasts_S256x128_S256x128) (constant S256x128 .f32 0x00000000#32))
def dqS (ds : FVec F S256x256 .f32) (k : FVec F S256x128 .bf16) (old : FVec F S256x128 .f32) : FVec F S256x128 .f32 :=
  addf (shapeCast S256x128 old shapeCasts_S256x128_S256x128)
    (matmul dot_S256x256_S256x128_S256x128_1_0_0_1_n_n none (truncf .bf16 ds bitsLt_bf16_f32) k (constant S256x128 .f32 0x00000000#32))

end Head

section Loads

variable {e : EltTy} (arg : Memref sig .tc .vmem S2048x512 e) (f : arg.view.ty.Contents (Elt F))
  (argL : Memref sig .tc .vmem S4x2048x1 e) (fL : argL.view.ty.Contents (Elt F))

def ldQ (off : Fin 2 → Nat) (inb : ∀ a, off a + S512x128.size a ≤ S2048x512.size a) : S512x128.Idx → Elt F e :=
  arg.view.readAt (Elt F) (Rect.unit (s := S2048x512) off S512x128.size inb).toLoadRect f
def ldL (off : Fin 3 → Nat) (inb : ∀ a, off a + S1x512x1.size a ≤ S4x2048x1.size a) : S1x512x1.Idx → Elt F e :=
  argL.view.readAt (Elt F) (Rect.unit (s := S4x2048x1) off S1x512x1.size inb).toLoadRect fL
def ldQS (off : Fin 2 → Nat) (inb : ∀ a, off a + S256x128.size a ≤ S2048x512.size a) : S256x128.Idx → Elt F e :=
  arg.view.readAt (Elt F) (Rect.unit (s := S2048x512) off S256x128.size inb).toLoadRect f
def ldLS (off : Fin 3 → Nat) (inb : ∀ a, off a + S1x256x1.size a ≤ S4x2048x1.size a) : S1x256x1.Idx → Elt F e :=
  argL.view.readAt (Elt F) (Rect.unit (s := S4x2048x1) off S1x256x1.size inb).toLoadRect fL

end Loads

def offT (i : grid0.Coords) (k : Fin (k0_t4_loop i).trips) : Fin 4 → Fin 2 → Nat := ![k0_off49 i k, k0_off51 i k, k0_off53 i k, k0_off55 i k]
theorem offT_inb (i : grid0.Coords) (k : Fin (k0_t4_loop i).trips) (h : Fin 4) : ∀ a, offT i k h a + S512x128.size a ≤ S2048x512.size a := by
  match h with
  | 0 => exact k0_off49_inb i k
  | 1 => exact k0_off51_inb i k
  | 2 => exact k0_off53_inb i k
  | 3 => exact k0_off55_inb i k

def lofT (i : grid0.Coords) (k : Fin (k0_t4_loop i).trips) : Fin 4 → Fin 3 → Nat := ![k0_off50 i k, k0_off52 i k, k0_off54 i k, k0_off56 i k]
theorem lofT_inb (i : grid0.Coords) (k : Fin (k0_t4_loop i).trips) (h : Fin 4) : ∀ a, lofT i k h a + S1x512x1.size a ≤ S4x2048x1.size a := by
  match h with
  | 0 => exact k0_off50_inb i k
  | 1 => exact k0_off52_inb i k
  | 2 => exact k0_off54_inb i k
  | 3 => exact k0_off56_inb i k

def offA (i : grid0.Coords) (k : Fin (k0_t4_loop i).trips) : Fin 4 → Fin 2 → Nat := ![k0_off45 i k, k0_off46 i k, k0_off47 i k, k0_off48 i k]
theorem offA_inb (i : grid0.Coords) (k : Fin (k0_t4_loop i).trips) (h : Fin 4) : ∀ a, offA i k h a + S512x128.size a ≤ S2048x512.size a := by
  match h with
  | 0 => exact k0_off45_inb i k
  | 1 => exact k0_off46_inb i k
  | 2 => exact k0_off47_inb i k
  | 3 => exact k0_off48_inb i k

def offE (i : grid0.Coords) : Fin 4 → Fin 2 → Nat := ![k0_off9 i, k0_off10 i, k0_off11 i, k0_off12 i]
theorem offE_inb (i : grid0.Coords) (h2 : k0_cond2 i = 1#1) (h : Fin 4) : ∀ a, offE i h a + S512x128.size a ≤ S2048x512.size a := by
  match h with
  | 0 => exact k0_off9_inb i h2
  | 1 => exact k0_off10_inb i h2
  | 2 => exact k0_off11_inb i h2
  | 3 => exact k0_off12_inb i h2

def lofE (i : grid0.Coords) : Fin 4 → Fin 3 → Nat := ![k0_off13 i, k0_off14 i, k0_off15 i, k0_off16 i]
theorem lofE_inb (i : grid0.Coords) (h2 : k0_cond2 i = 1#1) (h : Fin 4) : ∀ a, lofE i h a + S1x512x1.size a ≤ S4x2048x1.size a := by
  match h with
  | 0 => exact k0_off13_inb i h2
  | 1 => exact k0_off14_inb i h2
  | 2 => exact k0_off15_inb i h2
  | 3 => exact k0_off16_inb i h2

def offO (i : grid0.Coords) : Fin 4 → Fin 2 → Nat := ![k0_off17 i, k0_off18 i, k0_off19 i, k0_off20 i]
theorem offO_inb (i : grid0.Coords) (h2 : ¬ k0_cond2 i = 1#1) (h : Fin 4) : ∀ a, offO i h a + S256x128.size a ≤ S2048x512.size a := by
  match h with
  | 0 => exact k0_off17_inb i h2
  | 1 => exact k0_off18_inb i h2
  | 2 => exact k0_off19_inb i h2
  | 3 => exact k0_off20_inb i h2

def lofO (i : grid0.Coords) : Fin 4 → Fin 3 → Nat := ![k0_off21 i, k0_off22 i, k0_off23 i, k0_off24 i]
theorem lofO_inb (i : grid0.Coords) (h2 : ¬ k0_cond2 i = 1#1) (h : Fin 4) : ∀ a, lofO i h a + S1x256x1.size a ≤ S4x2048x1.size a := by
  match h with
  | 0 => exact k0_off21_inb i h2
  | 1 => exact k0_off22_inb i h2
  | 2 => exact k0_off23_inb i h2
  | 3 => exact k0_off24_inb i h2

def offR (i : grid0.Coords) : Fin 4 → Fin 2 → Nat := ![k0_off41 i, k0_off42 i, k0_off43 i, k0_off44 i]
theorem offR_inb (i : grid0.Coords) (h : Fin 4) : ∀ a, offR i h a + S512x128.size a ≤ S2048x512.size a := by
  match h with
  | 0 => exact k0_off41_inb i
  | 1 => exact k0_off42_inb i
  | 2 => exact k0_off43_inb i
  | 3 => exact k0_off44_inb i

section Carried

variable (a : Carry F) (s : Masked F) (h : Fin 4)

def dkC : Fin 4 → FVec F S256x128 .f32 := ![a.1, a.2.2.1, a.2.2.2.2.1, a.2.2.2.2.2.2.1]
def dvC : Fin 4 → FVec F S256x128 .f32 := ![a.2.1, a.2.2.2.1, a.2.2.2.2.2.1, a.2.2.2.2.2.2.2.1]
def rawC : Fin 4 → FVec F S512x256 .f32 := ![a.2.2.2.2.2.2.2.2.1, a.2.2.2.2.2.2.2.2.2.1, a.2.2.2.2.2.2.2.2.2.2.1, a.2.2.2.2.2.2.2.2.2.2.2]

variable (v37 : BitVec 32) (k : Fin (k0_t4_loop i).trips) (f8 : arg8.view.ty.Contents (Elt F))

theorem trip_dk : dkC (tripW c i arg2 harg2 arg3 harg3 arg4 harg4 arg5 harg5 arg6 harg6 arg7 harg7 arg8 harg8 arg9 harg9 arg10 harg10 arg11 harg11 v4 v6 v8 v10 v12 v14 v16 v18 x2 x6 x7 x11 v37 k a.1 a.2.1 a.2.2.1 a.2.2.2.1 a.2.2.2.2.1 a.2.2.2.2.2.1 a.2.2.2.2.2.2.1 a.2.2.2.2.2.2.2.1 a.2.2.2.2.2.2.2.2.1 a.2.2.2.2.2.2.2.2.2.1 a.2.2.2.2.2.2.2.2.2.2.1 a.2.2.2.2.2.2.2.2.2.2.2 f8).2.1 h = dkW (dkC a h) (dsW (K4 v12 v14 v16 v18 h) (pW (rawC a h) (ldL arg7 (harg7.unread x7) (lofT i k h) (lofT_inb i k h))) (ldQ arg6 (harg6.unread x6) (offT i k h) (offT_inb i k h)) (ldL arg11 (harg11.unread x11) (lofT i k h) (lofT_inb i k h))) (ldQ arg2 (harg2.unread x2) (offT i k h) (offT_inb i k h)) := by
  match h with
  | 0 => rfl
  | 1 => rfl
  | 2 => rfl
  | 3 => rfl
theorem trip_dv : dvC (tripW c i arg2 harg2 arg3 harg3 arg4 harg4 arg5 harg5 arg6 harg6 arg7 harg7 arg8 harg8 arg9 harg9 arg10 harg10 arg11 harg11 v4 v6 v8 v10 v12 v14 v16 v18 x2 x6 x7 x11 v37 k a.1 a.2.1 a.2.2.1 a.2.2.2.1 a.2.2.2.2.1 a.2.2.2.2.2.1 a.2.2.2.2.2.2.1 a.2.2.2.2.2.2.2.1 a.2.2.2.2.2.2.2.2.1 a.2.2.2.2.2.2.2.2.2.1 a.2.2.2.2.2.2.2.2.2.2.1 a.2.2.2.2.2.2.2.2.2.2.2 f8).2.1 h = dvW (dvC a h) (pW (rawC a h) (ldL arg7 (harg7.unread x7) (lofT i k h) (lofT_inb i k h))) (ldQ arg6 (harg6.unread x6) (offT i k h) (offT_inb i k h)) := by
  match h with
  | 0 => rfl
  | 1 => rfl
  | 2 => rfl
  | 3 => rfl
theorem trip_raw : rawC (tripW c i arg2 harg2 arg3 harg3 arg4 harg4 arg5 harg5 arg6 harg6 arg7 harg7 arg8 harg8 arg9 harg9 arg10 harg10 arg11 harg11 v4 v6 v8 v10 v12 v14 v16 v18 x2 x6 x7 x11 v37 k a.1 a.2.1 a.2.2.1 a.2.2.2.1 a.2.2.2.2.1 a.2.2.2.2.2.1 a.2.2.2.2.2.2.1 a.2.2.2.2.2.2.2.1 a.2.2.2.2.2.2.2.2.1 a.2.2.2.2.2.2.2.2.2.1 a.2.2.2.2.2.2.2.2.2.2.1 a.2.2.2.2.2.2.2.2.2.2.2 f8).2.1 h = rawW (K4 v4 v6 v8 v10 h) (ldQ arg2 (harg2.unread x2) (offA i k h) (offA_inb i k h)) := by
  match h with
  | 0 => rfl
  | 1 => rfl
  | 2 => rfl
  | 3 => rfl
theorem trip_dq : (tripW c i arg2 harg2 arg3 harg3 arg4 harg4 arg5 harg5 arg6 harg6 arg7 harg7 arg8 harg8 arg9 harg9 arg10 harg10 arg11 harg11 v4 v6 v8 v10 v12 v14 v16 v18 x2 x6 x7 x11 v37 k a.1 a.2.1 a.2.2.1 a.2.2.2.1 a.2.2.2.2.1 a.2.2.2.2.2.1 a.2.2.2.2.2.2.1 a.2.2.2.2.2.2.2.1 a.2.2.2.2.2.2.2.2.1 a.2.2.2.2.2.2.2.2.2.1 a.2.2.2.2.2.2.2.2.2.2.1 a.2.2.2.2.2.2.2.2.2.2.2 f8).1 = [⟨Rect.unit (s := S2048x512) (offT i k 3) S512x128.size (offT_inb i k 3), dqW (dsW (K4 v12 v14 v16 v18 3) (pW (rawC a 3) (ldL arg7 (harg7.unread x7) (lofT i k 3) (lofT_inb i k 3))) (ldQ arg6 (harg6.unread x6) (offT i k 3) (offT_inb i k 3)) (ldL arg11 (harg11.unread x11) (lofT i k 3) (lofT_inb i k 3))) (K4 v4 v6 v8 v10 3) (ldQ arg8 f8 (offT i k 3) (offT_inb i k 3))⟩, ⟨Rect.unit (s := S2048x512) (offT i k 2) S512x128.size (offT_inb i k 2), dqW (dsW (K4 v12 v14 v16 v18 2) (pW (rawC a 2) (ldL arg7 (harg7.unread x7) (lofT i k 2) (lofT_inb i k 2))) (ldQ arg6 (harg6.unread x6) (offT i k 2) (offT_inb i k 2)) (ldL arg11 (harg11.unread x11) (lofT i k 2) (lofT_inb i k 2))) (K4 v4 v6 v8 v10 2) (ldQ arg8 f8 (offT i k 2) (offT_inb i k 2))⟩, ⟨Rect.unit (s := S2048x512) (offT i k 1) S512x128.size (offT_inb i k 1), dqW (dsW (K4 v12 v14 v16 v18 1) (pW (rawC a 1) (ldL arg7 (harg7.unread x7) (lofT i k 1) (lofT_inb i k 1))) (ldQ arg6 (harg6.unread x6) (offT i k 1) (offT_inb i k 1)) (ldL arg11 (harg11.unread x11) (lofT i k 1) (lofT_inb i k 1))) (K4 v4 v6 v8 v10 1) (ldQ arg8 f8 (offT i k 1) (offT_inb i k 1))⟩, ⟨Rect.unit (s := S2048x512) (offT i k 0) S512x128.size (offT_inb i k 0), dqW (dsW (K4 v12 v14 v16 v18 0) (pW (rawC a 0) (ldL arg7 (harg7.unread x7) (lofT i k 0) (lofT_inb i k 0))) (ldQ arg6 (harg6.unread x6) (offT i k 0) (offT_inb i k 0)) (ldL arg11 (harg11.unread x11) (lofT i k 0) (lofT_inb i k 0))) (K4 v4 v6 v8 v10 0) (ldQ arg8 f8 (offT i k 0) (offT_inb i k 0))⟩] := rfl

end Carried

section First

variable (s : Masked F) (h : Fin 4)

theorem even_dk (w1 : BitVec 32) (v19 : FVec F S256x128 .f32) (w20 w2 w21 w26 w31 : BitVec 32) (f8 : arg8.view.ty.Contents (Elt F)) (h2 : k0_cond2 i = 1#1) (r : Loads F) : dkC (startV r (stepE c i arg2 harg2 arg3 harg3 arg4 harg4 arg5 harg5 arg6 harg6 arg7 harg7 arg8 harg8 arg9 harg9 arg10 harg10 arg11 harg11 v4 v6 v8 v10 v12 v14 v16 v18 x2 x6 x7 x11 h2 w1 v19 w20 w2 w21 w26 w31 f8).2.1) h = dkW (v19) (dsW (K4 v12 v14 v16 v18 h) (pM (rawW (K4 v4 v6 v8 v10 h) (ldQ arg2 (harg2.unread x2) (offE i h) (offE_inb i h2 h))) (ldL arg7 (harg7.unread x7) (lofE i h) (lofE_inb i h2 h))) (ldQ arg6 (harg6.unread x6) (offE i h) (offE_inb i h2 h)) (ldL arg11 (harg11.unread x11) (lofE i h) (lofE_inb i h2 h))) (ldQ arg2 (harg2.unread x2) (offE i h) (offE_inb i h2 h)) := by
  match h with
  | 0 => rfl
  | 1 => rfl
  | 2 => rfl
  | 3 => rfl
theorem even_dv (w1 : BitVec 32) (v19 : FVec F S256x128 .f32) (w20 w2 w21 w26 w31 : BitVec 32) (f8 : arg8.view.ty.Contents (Elt F)) (h2 : k0_cond2 i = 1#1) (r : Loads F) : dvC (startV r (stepE c i arg2 harg2 arg3 harg3 arg4 harg4 arg5 harg5 arg6 harg6 arg7 harg7 arg8 harg8 arg9 harg9 arg10 harg10 arg11 harg11 v4 v6 v8 v10 v12 v14 v16 v18 x2 x6 x7 x11 h2 w1 v19 w20 w2 w21 w26 w31 f8).2.1) h = dvW (v19) (pM (rawW (K4 v4 v6 v8 v10 h) (ldQ arg2 (harg2.unread x2) (offE i h) (offE_inb i h2 h))) (ldL arg7 (harg7.unread x7) (lofE i h) (lofE_inb i h2 h))) (ldQ arg6 (harg6.unread x6) (offE i h) (offE_inb i h2 h)) := by
  match h with
  | 0 => rfl
  | 1 => rfl
  | 2 => rfl
  | 3 => rfl
theorem even_raw (w1 : BitVec 32) (v19 : FVec F S256x128 .f32) (w20 w2 w21 w26 w31 : BitVec 32) (f8 : arg8.view.ty.Contents (Elt F)) (h2 : k0_cond2 i = 1#1) (w : BitVec 32) (z : FVec F S256x128 .f32) (wa wb wc wd we : BitVec 32) : rawC (startV ⟨w, v4, v6, v8, v10, v12, v14, v16, v18, z, wa, wb, wc, wd, we⟩ (stepE c i arg2 harg2 arg3 harg3 arg4 harg4 arg5 harg5 arg6 harg6 arg7 harg7 arg8 harg8 arg9 harg9 arg10 harg10 arg11 harg11 v4 v6 v8 v10 v12 v14 v16 v18 x2 x6 x7 x11 h2 w1 v19 w20 w2 w21 w26 w31 f8).2.1) h = rawW (K4 v4 v6 v8 v10 h) (ldQ arg2 (harg2.unread x2) (offR i h) (offR_inb i h)) := by
  match h with
  | 0 => rfl
  | 1 => rfl
  | 2 => rfl
  | 3 => rfl
theorem even_dq (w1 : BitVec 32) (v19 : FVec F S256x128 .f32) (w20 w2 w21 w26 w31 : BitVec 32) (f8 : arg8.view.ty.Contents (Elt F)) (h2 : k0_cond2 i = 1#1) : (stepE c i arg2 harg2 arg3 harg3 arg4 harg4 arg5 harg5 arg6 harg6 arg7 harg7 arg8 harg8 arg9 harg9 arg10 harg10 arg11 harg11 v4 v6 v8 v10 v12 v14 v16 v18 x2 x6 x7 x11 h2 w1 v19 w20 w2 w21 w26 w31 f8).1 = [⟨Rect.unit (s := S2048x512) (offE i 3) S512x128.size (offE_inb i h2 3), dqW (dsW (K4 v12 v14 v16 v18 3) (pM (rawW (K4 v4 v6 v8 v10 3) (ldQ arg2 (harg2.unread x2) (offE i 3) (offE_inb i h2 3))) (ldL arg7 (harg7.unread x7) (lofE i 3) (lofE_inb i h2 3))) (ldQ arg6 (harg6.unread x6) (offE i 3) (offE_inb i h2 3)) (ldL arg11 (harg11.unread x11) (lofE i 3) (lofE_inb i h2 3))) (K4 v4 v6 v8 v10 3) (ldQ arg8 f8 (offE i 3) (offE_inb i h2 3))⟩, ⟨Rect.unit (s := S2048x512) (offE i 2) S512x128.size (offE_inb i h2 2), dqW (dsW (K4 v12 v14 v16 v18 2) (pM (rawW (K4 v4 v6 v8 v10 2) (ldQ arg2 (harg2.unread x2) (offE i 2) (offE_inb i h2 2))) (ldL arg7 (harg7.unread x7) (lofE i 2) (lofE_inb i h2 2))) (ldQ arg6 (harg6.unread x6) (offE i 2) (offE_inb i h2 2)) (ldL arg11 (harg11.unread x11) (lofE i 2) (lofE_inb i h2 2))) (K4 v4 v6 v8 v10 2) (ldQ arg8 f8 (offE i 2) (offE_inb i h2 2))⟩, ⟨Rect.unit (s := S2048x512) (offE i 1) S512x128.size (offE_inb i h2 1), dqW (dsW (K4 v12 v14 v16 v18 1) (pM (rawW (K4 v4 v6 v8 v10 1) (ldQ arg2 (harg2.unread x2) (offE i 1) (offE_inb i h2 1))) (ldL arg7 (harg7.unread x7) (lofE i 1) (lofE_inb i h2 1))) (ldQ arg6 (harg6.unread x6) (offE i 1) (offE_inb i h2 1)) (ldL arg11 (harg11.unread x11) (lofE i 1) (lofE_inb i h2 1))) (K4 v4 v6 v8 v10 1) (ldQ arg8 f8 (offE i 1) (offE_inb i h2 1))⟩, ⟨Rect.unit (s := S2048x512) (offE i 0) S512x128.size (offE_inb i h2 0), dqW (dsW (K4 v12 v14 v16 v18 0) (pM (rawW (K4 v4 v6 v8 v10 0) (ldQ arg2 (harg2.unread x2) (offE i 0) (offE_inb i h2 0))) (ldL arg7 (harg7.unread x7) (lofE i 0) (lofE_inb i h2 0))) (ldQ arg6 (harg6.unread x6) (offE i 0) (offE_inb i h2 0)) (ldL arg11 (harg11.unread x11) (lofE i 0) (lofE_inb i h2 0))) (K4 v4 v6 v8 v10 0) (ldQ arg8 f8 (offE i 0) (offE_inb i h2 0))⟩] := rfl

theorem odd_dk (w1 : BitVec 32) (v19 : FVec F S256x128 .f32) (w20 w2 w21 w26 w31 : BitVec 32) (f8 : arg8.view.ty.Contents (Elt F)) (h2 : ¬ k0_cond2 i = 1#1) (r : Loads F) : dkC (startV r (stepO c i arg2 harg2 arg3 harg3 arg4 harg4 arg5 harg5 arg6 harg6 arg7 harg7 arg8 harg8 arg9 harg9 arg10 harg10 arg11 harg11 v4 v6 v8 v10 v12 v14 v16 v18 x2 x6 x7 x11 h2 (trips2 i h2) (trips3 i h2) w1 v19 w20 w2 w21 w26 w31 f8).2.1) h = dkS (v19) (dsS (K4 v12 v14 v16 v18 h) (pS (rawS (K4 v4 v6 v8 v10 h) (ldQS arg2 (harg2.unread x2) (offO i h) (offO_inb i h2 h))) (ldLS arg7 (harg7.unread x7) (lofO i h) (lofO_inb i h2 h))) (ldQS arg6 (harg6.unread x6) (offO i h) (offO_inb i h2 h)) (ldLS arg11 (harg11.unread x11) (lofO i h) (lofO_inb i h2 h))) (ldQS arg2 (harg2.unread x2) (offO i h) (offO_inb i h2 h)) := by
  match h with
  | 0 => rfl
  | 1 => rfl
  | 2 => rfl
  | 3 => rfl
theorem odd_dv (w1 : BitVec 32) (v19 : FVec F S256x128 .f32) (w20 w2 w21 w26 w31 : BitVec 32) (f8 : arg8.view.ty.Contents (Elt F)) (h2 : ¬ k0_cond2 i = 1#1) (r : Loads F) : dvC (startV r (stepO c i arg2 harg2 arg3 harg3 arg4 harg4 arg5 harg5 arg6 harg6 arg7 harg7 arg8 harg8 arg9 harg9 arg10 harg10 arg11 harg11 v4 v6 v8 v10 v12 v14 v16 v18 x2 x6 x7 x11 h2 (trips2 i h2) (trips3 i h2) w1 v19 w20 w2 w21 w26 w31 f8).2.1) h = dvS (v19) (pS (rawS (K4 v4 v6 v8 v10 h) (ldQS arg2 (harg2.unread x2) (offO i h) (offO_inb i h2 h))) (ldLS arg7 (harg7.unread x7) (lofO i h) (lofO_inb i h2 h))) (ldQS arg6 (harg6.unread x6) (offO i h) (offO_inb i h2 h)) := by
  match h with
  | 0 => rfl
  | 1 => rfl
  | 2 => rfl
  | 3 => rfl
theorem odd_raw (w1 : BitVec 32) (v19 : FVec F S256x128 .f32) (w20 w2 w21 w26 w31 : BitVec 32) (f8 : arg8.view.ty.Contents (Elt F)) (h2 : ¬ k0_cond2 i = 1#1) (w : BitVec 32) (z : FVec F S256x128 .f32) (wa wb wc wd we : BitVec 32) : rawC (startV ⟨w, v4, v6, v8, v10, v12, v14, v16, v18, z, wa, wb, wc, wd, we⟩ (stepO c i arg2 harg2 arg3 harg3 arg4 harg4 arg5 harg5 arg6 harg6 arg7 harg7 arg8 harg8 arg9 harg9 arg10 harg10 arg11 harg11 v4 v6 v8 v10 v12 v14 v16 v18 x2 x6 x7 x11 h2 (trips2 i h2) (trips3 i h2) w1 v19 w20 w2 w21 w26 w31 f8).2.1) h = rawW (K4 v4 v6 v8 v10 h) (ldQ arg2 (harg2.unread x2) (offR i h) (offR_inb i h)) := by
  match h with
  | 0 => rfl
  | 1 => rfl
  | 2 => rfl
  | 3 => rfl
theorem odd_dq (w1 : BitVec 32) (v19 : FVec F S256x128 .f32) (w20 w2 w21 w26 w31 : BitVec 32) (f8 : arg8.view.ty.Contents (Elt F)) (h2 : ¬ k0_cond2 i = 1#1) : (stepO c i arg2 harg2 arg3 harg3 arg4 harg4 arg5 harg5 arg6 harg6 arg7 harg7 arg8 harg8 arg9 harg9 arg10 harg10 arg11 harg11 v4 v6 v8 v10 v12 v14 v16 v18 x2 x6 x7 x11 h2 (trips2 i h2) (trips3 i h2) w1 v19 w20 w2 w21 w26 w31 f8).1 = [⟨Rect.unit (s := S2048x512) (offO i 3) S256x128.size (offO_inb i h2 3), dqS (dsS (K4 v12 v14 v16 v18 3) (pS (rawS (K4 v4 v6 v8 v10 3) (ldQS arg2 (harg2.unread x2) (offO i 3) (offO_inb i h2 3))) (ldLS arg7 (harg7.unread x7) (lofO i 3) (lofO_inb i h2 3))) (ldQS arg6 (harg6.unread x6) (offO i 3) (offO_inb i h2 3)) (ldLS arg11 (harg11.unread x11) (lofO i 3) (lofO_inb i h2 3))) (K4 v4 v6 v8 v10 3) (ldQS arg8 f8 (offO i 3) (offO_inb i h2 3))⟩, ⟨Rect.unit (s := S2048x512) (offO i 2) S256x128.size (offO_inb i h2 2), dqS (dsS (K4 v12 v14 v16 v18 2) (pS (rawS (K4 v4 v6 v8 v10 2) (ldQS arg2 (harg2.unread x2) (offO i 2) (offO_inb i h2 2))) (ldLS arg7 (harg7.unread x7) (lofO i 2) (lofO_inb i h2 2))) (ldQS arg6 (harg6.unread x6) (offO i 2) (offO_inb i h2 2)) (ldLS arg11 (harg11.unread x11) (lofO i 2) (lofO_inb i h2 2))) (K4 v4 v6 v8 v10 2) (ldQS arg8 f8 (offO i 2) (offO_inb i h2 2))⟩, ⟨Rect.unit (s := S2048x512) (offO i 1) S256x128.size (offO_inb i h2 1), dqS (dsS (K4 v12 v14 v16 v18 1) (pS (rawS (K4 v4 v6 v8 v10 1) (ldQS arg2 (harg2.unread x2) (offO i 1) (offO_inb i h2 1))) (ldLS arg7 (harg7.unread x7) (lofO i 1) (lofO_inb i h2 1))) (ldQS arg6 (harg6.unread x6) (offO i 1) (offO_inb i h2 1)) (ldLS arg11 (harg11.unread x11) (lofO i 1) (lofO_inb i h2 1))) (K4 v4 v6 v8 v10 1) (ldQS arg8 f8 (offO i 1) (offO_inb i h2 1))⟩, ⟨Rect.unit (s := S2048x512) (offO i 0) S256x128.size (offO_inb i h2 0), dqS (dsS (K4 v12 v14 v16 v18 0) (pS (rawS (K4 v4 v6 v8 v10 0) (ldQS arg2 (harg2.unread x2) (offO i 0) (offO_inb i h2 0))) (ldLS arg7 (harg7.unread x7) (lofO i 0) (lofO_inb i h2 0))) (ldQS arg6 (harg6.unread x6) (offO i 0) (offO_inb i h2 0)) (ldLS arg11 (harg11.unread x11) (lofO i 0) (lofO_inb i h2 0))) (K4 v4 v6 v8 v10 0) (ldQS arg8 f8 (offO i 0) (offO_inb i h2 0))⟩] := rfl

end First

end Cert.AttnIdeal.Hand
end
-- ==== Proof.AttnHead.lean ====
module

public import proofs.«01_k».proof.Proof.AttnVal
public import Idealize.ShloMosaic.Lib.Pipeline.ValueKit
public import Idealize.ShloMosaic.Lib.Pointwise

/-! One head's step of the attention backward kernel read entry by entry over the extended reals. -/

@[expose] public section

set_option maxRecDepth 16384

noncomputable section

open Idealize.ShloMosaic Idealize.ShloMosaic.TcCoe Idealize.SL.Sem

namespace Cert.AttnIdeal.Hand

open Cert.AttnIdeal Cert.AttnIdeal.Gen

/-- The scale of the scores, the float nearest to `1 / √96`. -/
def sC : EReal := Ideal.ofBits .f32 0x3DD105EC#32

/-- The comparison of two small numbers by their words. -/
theorem mask_le (a b : ℕ) (ha : a < 2 ^ 31) (hb : b < 2 ^ 31) (x y : EReal) :
    Scalar.select (IntOp.cmpi CmpIPredicate.sge (BitVec.ofNat 32 a) (BitVec.ofNat 32 b)) x y = if b ≤ a then x else y := by
  have h : (BitVec.ofNat 32 b).sle (BitVec.ofNat 32 a) = decide (b ≤ a) := by
    rw [BitVec.sle_eq_decide, BitVec.toInt_ofNat', BitVec.toInt_ofNat', Int.bmod_eq_of_le (by omega) (by omega),
      Int.bmod_eq_of_le (by omega) (by omega)]
    simp
  by_cases hl : b ≤ a <;> simp [Scalar.select, IntOp.cmpi, h, hl]

theorem rawW_apply (k : FVec Ideal S256x128 .bf16) (q : FVec Ideal S512x128 .bf16) (i : Fin 512) (j : Fin 256) :
    rawW k q (ix2 i j) = ∑ d : Fin 128, q (ix2 i d) * k (ix2 j d) := by
  pointwise [rawW, k0_pay137]

theorem dsW_apply (v : FVec Ideal S256x128 .bf16) (p : FVec Ideal S512x256 .f32) (d : FVec Ideal S512x128 .f32)
    (e : FVec Ideal S1x512x1 .f32) (i : Fin 512) (j : Fin 256) :
    dsW v p d e (ix2 i j) = p (ix2 i j) * ((∑ x : Fin 128, d (ix2 i x) * v (ix2 j x)) - e (ix3 0 i 0)) * sC := by
  pointwise [dsW, k0_pay147, k0_pay142, k0_pay223]
  rfl

theorem dvW_apply (a : FVec Ideal S256x128 .f32) (p : FVec Ideal S512x256 .f32) (d : FVec Ideal S512x128 .f32) (j : Fin 256) (x : Fin 128) :
    dvW a p d (ix2 j x) = a (ix2 j x) + ∑ i : Fin 512, p (ix2 i j) * d (ix2 i x) := by
  pointwise [dvW, k0_pay146, k0_pay145, k0_pay142]

theorem dkW_apply (a : FVec Ideal S256x128 .f32) (s : FVec Ideal S512x256 .f32) (q : FVec Ideal S512x128 .bf16) (j : Fin 256) (x : Fin 128) :
    dkW a s q (ix2 j x) = a (ix2 j x) + ∑ i : Fin 512, s (ix2 i j) * q (ix2 i x) := by
  pointwise [dkW, k0_pay2, k0_pay150]

theorem dqW_apply (s : FVec Ideal S512x256 .f32) (k : FVec Ideal S256x128 .bf16) (a : FVec Ideal S512x128 .f32) (i : Fin 512) (x : Fin 128) :
    dqW s k a (ix2 i x) = a (ix2 i x) + ∑ j : Fin 256, s (ix2 i j) * k (ix2 j x) := by
  pointwise [dqW]

theorem rawS_apply (k : FVec Ideal S256x128 .bf16) (q : FVec Ideal S256x128 .bf16) (i : Fin 256) (j : Fin 256) :
    rawS k q (ix2 i j) = ∑ d : Fin 128, q (ix2 i d) * k (ix2 j d) := by
  pointwise [rawS, k0_pay137]

theorem dsS_apply (v : FVec Ideal S256x128 .bf16) (p : FVec Ideal S256x256 .f32) (d : FVec Ideal S256x128 .f32)
    (e : FVec Ideal S1x256x1 .f32) (i : Fin 256) (j : Fin 256) :
    dsS v p d e (ix2 i j) = p (ix2 i j) * ((∑ x : Fin 128, d (ix2 i x) * v (ix2 j x)) - e (ix3 0 i 0)) * sC := by
  pointwise [dsS, k0_pay147, k0_pay142, k0_pay223]
  rfl

theorem dvS_apply (a : FVec Ideal S256x128 .f32) (p : FVec Ideal S256x256 .f32) (d : FVec Ideal S256x128 .f32) (j : Fin 256) (x : Fin 128) :
    dvS a p d (ix2 j x) = a (ix2 j x) + ∑ i : Fin 256, p (ix2 i j) * d (ix2 i x) := by
  pointwise [dvS, k0_pay146, k0_pay145, k0_pay142]

theorem dkS_apply (a : FVec Ideal S256x128 .f32) (s : FVec Ideal S256x256 .f32) (q : FVec Ideal S256x128 .bf16) (j : Fin 256) (x : Fin 128) :
    dkS a s q (ix2 j x) = a (ix2 j x) + ∑ i : Fin 256, s (ix2 i j) * q (ix2 i x) := by
  pointwise [dkS, k0_pay2, k0_pay150]

theorem dqS_apply (s : FVec Ideal S256x256 .f32) (k : FVec Ideal S256x128 .bf16) (a : FVec Ideal S256x128 .f32) (i : Fin 256) (x : Fin 128) :
    dqS s k a (ix2 i x) = a (ix2 i x) + ∑ j : Fin 256, s (ix2 i j) * k (ix2 j x) := by
  pointwise [dqS]

theorem pW_apply (raw : FVec Ideal S512x256 .f32) (l : FVec Ideal S1x512x1 .f32) (i : Fin 512) (j : Fin 256) :
    pW raw l (ix2 i j) = Ideal.exp (raw (ix2 i j) * sC - l (ix3 0 i 0)) := by
  pointwise [pW, k0_pay143]
  rfl

theorem pM_apply (raw : FVec Ideal S512x256 .f32) (l : FVec Ideal S1x512x1 .f32) (i : Fin 512) (j : Fin 256) :
    pM raw l (ix2 i j) = Ideal.exp ((if j.val ≤ i.val then raw (ix2 i j) * sC else ⊥) - l (ix3 0 i 0)) := by
  pointwise [pM]
  congr 1
  congr 1
  exact mask_le i.val j.val (by omega) (by omega) _ _

theorem pS_apply (raw : FVec Ideal S256x256 .f32) (l : FVec Ideal S1x256x1 .f32) (i : Fin 256) (j : Fin 256) :
    pS raw l (ix2 i j) = Ideal.exp ((if j.val ≤ i.val then raw (ix2 i j) * sC else ⊥) - l (ix3 0 i 0)) := by
  pointwise [pS]
  congr 1
  congr 1
  exact mask_le i.val j.val (by omega) (by omega) _ _

end Cert.AttnIdeal.Hand
end
-- ==== Proof.AttnMath.lean ====
module

public import proofs.«01_k».proof.Proof.AttnHead

/-! The sums that one tile of the attention backward kernel stands for: scores, probabilities and their gradients of
one tile's 256 columns, and how reads and writes of row blocks see the whole arrays. -/

@[expose] public section

set_option maxRecDepth 16384

noncomputable section

open Idealize.ShloMosaic Idealize.ShloMosaic.TcCoe Idealize.SL.Sem

namespace Cert.AttnIdeal.Hand

open Cert.AttnIdeal Cert.AttnIdeal.Gen

/-- One tile's keys and values, the rows of the queries and of the cotangent, each row's log-sum and delta, for each of
four heads; `c0` is the tile's first column. -/
structure Tile where
  K : Fin 4 → Fin 256 → Fin 128 → EReal
  V : Fin 4 → Fin 256 → Fin 128 → EReal
  Q : Fin 4 → ℕ → Fin 128 → EReal
  D : Fin 4 → ℕ → Fin 128 → EReal
  L : Fin 4 → ℕ → EReal
  E : Fin 4 → ℕ → EReal
  c0 : ℕ

namespace Tile
variable (T : Tile) (h : Fin 4)

/-- The score of a row and a column, unscaled. -/
def sc (r : ℕ) (j : Fin 256) : EReal := ∑ d : Fin 128, T.Q h r d * T.K h j d
/-- Its probability: zero to the right of the diagonal. -/
def pr (r : ℕ) (j : Fin 256) : EReal := Ideal.exp ((if T.c0 + j.val ≤ r then T.sc h r j * sC else ⊥) - T.L h r)
/-- The gradient of the score. -/
def ds (r : ℕ) (j : Fin 256) : EReal := T.pr h r j * ((∑ x : Fin 128, T.D h r x * T.V h j x) - T.E h r) * sC
/-- The gradient of the keys, of the rows below `B`. -/
def dk (B : ℕ) (j : Fin 256) (x : Fin 128) : EReal := ∑ r ∈ Finset.range B, T.ds h r j * T.Q h r x
/-- The gradient of the values, of the rows below `B`. -/
def dv (B : ℕ) (j : Fin 256) (x : Fin 128) : EReal := ∑ r ∈ Finset.range B, T.pr h r j * T.D h r x
/-- The tile's part of the gradient of the queries. -/
def dq (r : ℕ) (x : Fin 128) : EReal := ∑ j : Fin 256, T.ds h r j * T.K h j x

theorem pr_above (r : ℕ) (j : Fin 256) (hr : r < T.c0) : T.pr h r j = 0 := by
  rw [pr, if_neg (by omega), EReal.bot_sub, Ideal.exp_bot]

theorem ds_above (r : ℕ) (j : Fin 256) (hr : r < T.c0) : T.ds h r j = 0 := by
  rw [ds, pr_above T h r j hr, zero_mul, zero_mul]

theorem dq_above (r : ℕ) (x : Fin 128) (hr : r < T.c0) : T.dq h r x = 0 :=
  Finset.sum_eq_zero fun j _ => by rw [ds_above T h r j hr, zero_mul]

theorem dk_c0 (j : Fin 256) (x : Fin 128) : T.dk h T.c0 j x = 0 :=
  Finset.sum_eq_zero fun r hr => by rw [ds_above T h r j (Finset.mem_range.1 hr), zero_mul]

theorem dv_c0 (j : Fin 256) (x : Fin 128) : T.dv h T.c0 j x = 0 :=
  Finset.sum_eq_zero fun r hr => by rw [pr_above T h r j (Finset.mem_range.1 hr), zero_mul]

theorem dk_add (B R : ℕ) (j : Fin 256) (x : Fin 128) :
    T.dk h (B + R) j x = T.dk h B j x + ∑ i : Fin R, T.ds h (B + i.val) j * T.Q h (B + i.val) x := by
  rw [dk, dk, Finset.sum_range_add, Fin.sum_univ_eq_sum_range fun i => T.ds h (B + i) j * T.Q h (B + i) x]

theorem dv_add (B R : ℕ) (j : Fin 256) (x : Fin 128) :
    T.dv h (B + R) j x = T.dv h B j x + ∑ i : Fin R, T.pr h (B + i.val) j * T.D h (B + i.val) x := by
  rw [dv, dv, Finset.sum_range_add, Fin.sum_univ_eq_sum_range fun i => T.pr h (B + i) j * T.D h (B + i) x]

end Tile

/-- A row of one head of an array of four heads' columns. -/
def rowOf {e : EltTy} (x : S2048x512.Idx → Elt Ideal e) (h : Fin 4) (r : ℕ) (d : Fin 128) : Elt Ideal e :=
  x (ix2 ⟨r % 2048, Nat.mod_lt _ (by omega)⟩ ⟨128 * h.val + d.val, by omega⟩)
/-- A row's number of an array of four heads' rows. -/
def numOf (x : S4x2048x1.Idx → Elt Ideal .f32) (h : Fin 4) (r : ℕ) : Elt Ideal .f32 :=
  x (ix3 h ⟨r % 2048, Nat.mod_lt _ (by omega)⟩ 0)

section Reads
variable {e : EltTy} (arg : Memref sig .tc .vmem S2048x512 e) (f : arg.view.ty.Contents (Elt Ideal))
  (argL : Memref sig .tc .vmem S4x2048x1 .f32) (fL : argL.view.ty.Contents (Elt Ideal))

theorem ldQ_apply (off : Fin 2 → Nat) (inb) (B : ℕ) (h : Fin 4) (ho : off = ![B, 128 * h.val]) (i : Fin 512) (d : Fin 128) :
    ldQ arg f off inb (ix2 i d) = rowOf (arg.view.read (Elt Ideal) f) h (B + i.val) d := by
  subst ho
  have hb : B + 512 ≤ 2048 := inb 0
  show arg.view.read (Elt Ideal) f _ = arg.view.read (Elt Ideal) f _
  congr 1
  funext a
  apply Fin.ext
  match a with
  | ⟨0, _⟩ => show B + 1 * i.val = (B + i.val) % 2048; omega
  | ⟨1, _⟩ => show 128 * h.val + 1 * d.val = 128 * h.val + d.val; omega

theorem ldQS_apply (off : Fin 2 → Nat) (inb) (B : ℕ) (h : Fin 4) (ho : off = ![B, 128 * h.val]) (i : Fin 256) (d : Fin 128) :
    ldQS arg f off inb (ix2 i d) = rowOf (arg.view.read (Elt Ideal) f) h (B + i.val) d := by
  subst ho
  have hb : B + 256 ≤ 2048 := inb 0
  show arg.view.read (Elt Ideal) f _ = arg.view.read (Elt Ideal) f _
  congr 1
  funext a
  apply Fin.ext
  match a with
  | ⟨0, _⟩ => show B + 1 * i.val = (B + i.val) % 2048; omega
  | ⟨1, _⟩ => show 128 * h.val + 1 * d.val = 128 * h.val + d.val; omega

theorem ldL_apply (off : Fin 3 → Nat) (inb) (B : ℕ) (h : Fin 4) (ho : off = ![h.val, B, 0]) (i : Fin 512) :
    ldL argL fL off inb (ix3 0 i 0) = numOf (argL.view.read (Elt Ideal) fL) h (B + i.val) := by
  subst ho
  have hb : B + 512 ≤ 2048 := inb 1
  show argL.view.read (Elt Ideal) fL _ = argL.view.read (Elt Ideal) fL _
  congr 1
  funext a
  apply Fin.ext
  match a with
  | ⟨0, _⟩ => show h.val + 1 * 0 = h.val; omega
  | ⟨1, _⟩ => show B + 1 * i.val = (B + i.val) % 2048; omega
  | ⟨2, _⟩ => rfl

theorem ldLS_apply (off : Fin 3 → Nat) (inb) (B : ℕ) (h : Fin 4) (ho : off = ![h.val, B, 0]) (i : Fin 256) :
    ldLS argL fL off inb (ix3 0 i 0) = numOf (argL.view.read (Elt Ideal) fL) h (B + i.val) := by
  subst ho
  have hb : B + 256 ≤ 2048 := inb 1
  show argL.view.read (Elt Ideal) fL _ = argL.view.read (Elt Ideal) fL _
  congr 1
  funext a
  apply Fin.ext
  match a with
  | ⟨0, _⟩ => show h.val + 1 * 0 = h.val; omega
  | ⟨1, _⟩ => show B + 1 * i.val = (B + i.val) % 2048; omega
  | ⟨2, _⟩ => rfl

/-- Four heads' blocks written over rows `B … B + R`: an entry of those rows is the entry of the one array `G` that the
blocks are cut from, another entry is untouched. -/
theorem four_writes (R : ℕ) (sz : Fin 2 → Nat) (hsz : sz = ![R, 128]) (off : Fin 4 → Fin 2 → Nat)
    (inb : ∀ h a, off h a + sz a ≤ S2048x512.size a) (B : ℕ) (ho : ∀ h, off h = ![B, 128 * h.val])
    (val : (h : Fin 4) → (Rect.unit (s := S2048x512) (off h) sz (inb h)).shape.Idx → Elt Ideal e) (G : S2048x512.Idx → Elt Ideal e)
    (hG : ∀ h x, val h x = G ((Rect.unit (s := S2048x512) (off h) sz (inb h)).emb x)) (y : S2048x512.Idx) :
    arg.view.read (Elt Ideal) (arg.view.writes (Elt Ideal) f
      [⟨Rect.unit (s := S2048x512) (off 3) sz (inb 3), val 3⟩, ⟨Rect.unit (s := S2048x512) (off 2) sz (inb 2), val 2⟩,
       ⟨Rect.unit (s := S2048x512) (off 1) sz (inb 1), val 1⟩, ⟨Rect.unit (s := S2048x512) (off 0) sz (inb 0), val 0⟩]) y
      = if B ≤ (y 0).val ∧ (y 0).val < B + R then G y else arg.view.read (Elt Ideal) f y := by
  subst hsz
  have h1 : (y 1).val < 512 := (y 1).isLt
  have hm : ∀ h, y ∈ (Rect.unit (s := S2048x512) (off h) ![R, 128] (inb h)).set
      ↔ (B ≤ (y 0).val ∧ (y 0).val < B + R) ∧ 128 * h.val ≤ (y 1).val ∧ (y 1).val < 128 * h.val + 128 := by
    intro h
    rw [Rect.mem_set_unit]
    constructor
    · intro H
      have a0 := H 0
      have a1 := H 1
      rw [ho] at a0 a1
      exact ⟨a0, a1⟩
    · rintro ⟨a0, a1⟩ a
      rw [ho]
      match a with
      | ⟨0, _⟩ => exact a0
      | ⟨1, _⟩ => exact a1
  split
  case isTrue hc =>
    have hy : ∃ p ∈ ([⟨Rect.unit (s := S2048x512) (off 3) ![R, 128] (inb 3), val 3⟩, ⟨Rect.unit (s := S2048x512) (off 2) ![R, 128] (inb 2), val 2⟩,
       ⟨Rect.unit (s := S2048x512) (off 1) ![R, 128] (inb 1), val 1⟩, ⟨Rect.unit (s := S2048x512) (off 0) ![R, 128] (inb 0), val 0⟩] : List (View.Piece (Elt Ideal) S2048x512 e)), y ∈ p.1.set := by
      simp only [List.mem_cons, List.not_mem_nil, or_false, exists_eq_or_imp, exists_eq_left, hm]
      show (_ ∧ 128 * 3 ≤ _ ∧ _ < 128 * 3 + 128) ∨ (_ ∧ 128 * 2 ≤ _ ∧ _ < 128 * 2 + 128) ∨ (_ ∧ 128 * 1 ≤ _ ∧ _ < 128 * 1 + 128) ∨ (_ ∧ 128 * 0 ≤ _ ∧ _ < 128 * 0 + 128)
      omega
    rw [View.read_writes_apply_eq_canon _ _ _ _ hy]
    refine View.canon_apply_of_pieces G _ ?_ y hy
    intro p hp
    simp only [List.mem_cons, List.not_mem_nil, or_false] at hp
    rcases hp with rfl | rfl | rfl | rfl
    · exact hG 3
    · exact hG 2
    · exact hG 1
    · exact hG 0
  case isFalse hc =>
    apply View.read_writes_apply_of_forall_not_mem
    intro p hp
    simp only [List.mem_cons, List.not_mem_nil, or_false] at hp
    rcases hp with rfl | rfl | rfl | rfl
    · exact fun H => hc ((hm 3).1 H).1
    · exact fun H => hc ((hm 2).1 H).1
    · exact fun H => hc ((hm 1).1 H).1
    · exact fun H => hc ((hm 0).1 H).1

end Reads

/-- The head of a column. -/
def headOf (y : S2048x512.Idx) : Fin 4 := ⟨(y 1).val / 128, by have : (y 1).val < 512 := (y 1).isLt; omega⟩
/-- The column inside its head. -/
def colOf (y : S2048x512.Idx) : Fin 128 := ⟨(y 1).val % 128, by omega⟩

section Offsets

theorem offE_eq : ∀ (i : grid0.Coords) (h : Fin 4), k0_cond2 i = 1#1 → offE i h = ![256 * (i 1).val, 128 * h.val] := by decide +kernel
theorem lofE_eq : ∀ (i : grid0.Coords) (h : Fin 4), k0_cond2 i = 1#1 → lofE i h = ![h.val, 256 * (i 1).val, 0] := by decide +kernel
theorem offO_eq : ∀ (i : grid0.Coords) (h : Fin 4), ¬ k0_cond2 i = 1#1 → offO i h = ![256 * (i 1).val, 128 * h.val] := by decide +kernel
theorem lofO_eq : ∀ (i : grid0.Coords) (h : Fin 4), ¬ k0_cond2 i = 1#1 → lofO i h = ![h.val, 256 * (i 1).val, 0] := by decide +kernel
theorem even_iff : ∀ (i : grid0.Coords), k0_cond2 i = 1#1 ↔ (i 1).val % 2 = 0 := by decide +kernel
theorem offR_eq : ∀ (i : grid0.Coords) (h : Fin 4), ((i 1).val + 2) / 2 < 4 → offR i h = ![512 * (((i 1).val + 2) / 2), 128 * h.val] := by decide +kernel
theorem offT_eq : ∀ (i : grid0.Coords) (k : Fin (k0_t4_loop i).trips) (h : Fin 4), offT i k h = ![512 * (((i 1).val + 2) / 2 + k.val), 128 * h.val] := by decide +kernel
theorem lofT_eq : ∀ (i : grid0.Coords) (k : Fin (k0_t4_loop i).trips) (h : Fin 4), lofT i k h = ![h.val, 512 * (((i 1).val + 2) / 2 + k.val), 0] := by decide +kernel
theorem offA_eq : ∀ (i : grid0.Coords) (k : Fin (k0_t4_loop i).trips) (h : Fin 4), ((i 1).val + 2) / 2 + k.val + 1 < 4 → offA i k h = ![512 * (((i 1).val + 2) / 2 + k.val + 1), 128 * h.val] := by decide +kernel

end Offsets

end Cert.AttnIdeal.Hand
end
-- ==== Proof.AttnTile.lean ====
module

public import proofs.«01_k».proof.Proof.AttnMath

/-! What one tile of the attention backward kernel leaves: sums over the rows worked off so far, by induction over the row
blocks. -/

@[expose] public section

set_option maxRecDepth 16384

noncomputable section

namespace Cert.AttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal Cert.AttnIdeal.Gen

/-- An index of two axes is its pair of coordinates. -/
theorem ix2_eta {a b : ℕ} (x : (Shape.mk 2 ![a, b]).Idx) : x = ix2 (x 0 : Fin a) (x 1 : Fin b) := by
  funext z; match z with
  | ⟨0, _⟩ => rfl
  | ⟨1, _⟩ => rfl

/-- What holds once the rows below `B` are worked off: the sums over them, the next block's scores, and dq's buffer with
the tile's part added in those rows. -/
structure Holds (T : Tile) (old : S2048x512.Idx → EReal) (arg8 : Memref sig .tc .vmem S2048x512 .f32) (B : ℕ)
    (g : arg8.view.ty.Contents (Elt Ideal)) (a : Carry Ideal) : Prop where
  dk : ∀ h j x, dkC a h (ix2 j x) = T.dk h B j x
  dv : ∀ h j x, dvC a h (ix2 j x) = T.dv h B j x
  raw : B < 2048 → ∀ h (r : Fin 512) j, rawC a h (ix2 r j) = T.sc h (B + r.val) j
  dq : ∀ y, arg8.view.read (Elt Ideal) g y = if (y 0).val < B then old y + T.dq (headOf y) (y 0).val (colOf y) else old y

theorem piece_dq (T : Tile) (arg8 : Memref sig .tc .vmem S2048x512 .f32) (g : arg8.view.ty.Contents (Elt Ideal)) (off : Fin 2 → Nat) (inb) (h : Fin 4) (B : ℕ)
    (ho : off = ![B, 128 * h.val]) (s : FVec Ideal S512x256 .f32) (kk : FVec Ideal S256x128 .bf16)
    (hs : ∀ (r : Fin 512) (j : Fin 256), s (ix2 r j) = T.ds h (B + r.val) j) (hk : ∀ j x, kk (ix2 j x) = T.K h j x)
    (x : (Rect.unit (s := S2048x512) off S512x128.size inb).shape.Idx) :
    dqW s kk (ldQ (F := Ideal) arg8 g off inb) x = arg8.view.read (Elt Ideal) g ((Rect.unit (s := S2048x512) off S512x128.size inb).emb x)
      + T.dq (headOf ((Rect.unit (s := S2048x512) off S512x128.size inb).emb x)) (((Rect.unit (s := S2048x512) off S512x128.size inb).emb x) 0).val (colOf ((Rect.unit (s := S2048x512) off S512x128.size inb).emb x)) := by
  subst ho
  have hx : x = ix2 (x 0 : Fin 512) (x 1 : Fin 128) := ix2_eta x
  have e0 : (((Rect.unit (s := S2048x512) ![B, 128 * h.val] S512x128.size inb).emb x) 0).val = B + (x 0).val := by
    show B + 1 * (x 0).val = _; omega
  have hx1 : (x 1).val < 128 := (x 1).isLt
  have e1 : (((Rect.unit (s := S2048x512) ![B, 128 * h.val] S512x128.size inb).emb x) 1).val = 128 * h.val + (x 1).val := by
    show 128 * h.val + 1 * (x 1).val = _; omega
  have e2 : headOf ((Rect.unit (s := S2048x512) ![B, 128 * h.val] S512x128.size inb).emb x) = h := by
    apply Fin.ext; show _ / 128 = _; rw [e1]; omega
  have e3 : colOf ((Rect.unit (s := S2048x512) ![B, 128 * h.val] S512x128.size inb).emb x) = (x 1 : Fin 128) := by
    apply Fin.ext; show _ % 128 = _; rw [e1]; show _ = (x 1).val; omega
  rw [e0, e2, e3]
  have hq := dqW_apply s kk (ldQ (F := Ideal) arg8 g ![B, 128 * h.val] inb) (x 0) (x 1)
  refine (congrArg _ hx).trans (hq.trans ?_)
  refine congrArg₂ (· + ·) (congrArg (ldQ (F := Ideal) arg8 g ![B, 128 * h.val] inb) hx.symm) ?_
  refine Finset.sum_congr rfl fun j _ => ?_
  exact congrArg₂ (· * ·) (hs (x 0) j) (hk j (x 1))

theorem piece_dqS (T : Tile) (arg8 : Memref sig .tc .vmem S2048x512 .f32) (g : arg8.view.ty.Contents (Elt Ideal)) (off : Fin 2 → Nat) (inb) (h : Fin 4) (B : ℕ)
    (ho : off = ![B, 128 * h.val]) (s : FVec Ideal S256x256 .f32) (kk : FVec Ideal S256x128 .bf16)
    (hs : ∀ (r : Fin 256) (j : Fin 256), s (ix2 r j) = T.ds h (B + r.val) j) (hk : ∀ j x, kk (ix2 j x) = T.K h j x)
    (x : (Rect.unit (s := S2048x512) off S256x128.size inb).shape.Idx) :
    dqS s kk (ldQS (F := Ideal) arg8 g off inb) x = arg8.view.read (Elt Ideal) g ((Rect.unit (s := S2048x512) off S256x128.size inb).emb x)
      + T.dq (headOf ((Rect.unit (s := S2048x512) off S256x128.size inb).emb x)) (((Rect.unit (s := S2048x512) off S256x128.size inb).emb x) 0).val (colOf ((Rect.unit (s := S2048x512) off S256x128.size inb).emb x)) := by
  subst ho
  have hx : x = ix2 (x 0 : Fin 256) (x 1 : Fin 128) := ix2_eta x
  have e0 : (((Rect.unit (s := S2048x512) ![B, 128 * h.val] S256x128.size inb).emb x) 0).val = B + (x 0).val := by
    show B + 1 * (x 0).val = _; omega
  have hx1 : (x 1).val < 128 := (x 1).isLt
  have e1 : (((Rect.unit (s := S2048x512) ![B, 128 * h.val] S256x128.size inb).emb x) 1).val = 128 * h.val + (x 1).val := by
    show 128 * h.val + 1 * (x 1).val = _; omega
  have e2 : headOf ((Rect.unit (s := S2048x512) ![B, 128 * h.val] S256x128.size inb).emb x) = h := by
    apply Fin.ext; show _ / 128 = _; rw [e1]; omega
  have e3 : colOf ((Rect.unit (s := S2048x512) ![B, 128 * h.val] S256x128.size inb).emb x) = (x 1 : Fin 128) := by
    apply Fin.ext; show _ % 128 = _; rw [e1]; show _ = (x 1).val; omega
  rw [e0, e2, e3]
  have hq := dqS_apply s kk (ldQS (F := Ideal) arg8 g ![B, 128 * h.val] inb) (x 0) (x 1)
  refine (congrArg _ hx).trans (hq.trans ?_)
  refine congrArg₂ (· + ·) (congrArg (ldQS (F := Ideal) arg8 g ![B, 128 * h.val] inb) hx.symm) ?_
  refine Finset.sum_congr rfl fun j _ => ?_
  exact congrArg₂ (· * ·) (hs (x 0) j) (hk j (x 1))

section Tiles

variable (c : Dev nD) (i : grid0.Coords)
  (arg2 : Memref sig .tc .vmem S2048x512 .bf16) (harg2 : arg2.IsWhole)
  (arg3 : Memref sig .tc .vmem S256x512 .bf16) (harg3 : arg3.IsWhole)
  (arg4 : Memref sig .tc .vmem S256x512 .bf16) (harg4 : arg4.IsWhole)
  (arg5 : Memref sig .tc .vmem S2048x512 .f32) (harg5 : arg5.IsWhole)
  (arg6 : Memref sig .tc .vmem S2048x512 .f32) (harg6 : arg6.IsWhole)
  (arg7 : Memref sig .tc .vmem S4x2048x1 .f32) (harg7 : arg7.IsWhole)
  (arg8 : Memref sig .tc .vmem S2048x512 .f32) (harg8 : arg8.IsWhole)
  (arg9 : Memref sig .tc .vmem S256x512 .f32) (harg9 : arg9.IsWhole)
  (arg10 : Memref sig .tc .vmem S256x512 .f32) (harg10 : arg10.IsWhole)
  (arg11 : Memref sig .tc .vmem S4x2048x1 .f32) (harg11 : arg11.IsWhole)
  (x3 x4 : FVec Ideal S256x512 .bf16) (x5 : FVec Ideal S2048x512 .f32)
  (v4 v6 v8 v10 v12 v14 v16 v18 : FVec Ideal S256x128 .bf16)
  (x2 : FVec Ideal S2048x512 .bf16) (x6 : FVec Ideal S2048x512 .f32) (x7 : FVec Ideal S4x2048x1 .f32)
  (x11 : FVec Ideal S4x2048x1 .f32)

/-- The tile of the named blocks. -/
def tileOf : Tile where
  K h j x := K4 v4 v6 v8 v10 h (ix2 j x)
  V h j x := K4 v12 v14 v16 v18 h (ix2 j x)
  Q h r x := rowOf (e := .bf16) x2 h r x
  D h r x := rowOf (e := .f32) x6 h r x
  L h r := numOf x7 h r
  E h r := numOf x11 h r
  c0 := 256 * (i 1).val

theorem even_pr (h2 : k0_cond2 i = 1#1) (h : Fin 4) (r : Fin 512) (j : Fin 256) :
    (pM (rawW (K4 v4 v6 v8 v10 h) (ldQ (F := Ideal) arg2 (harg2.unread x2) (offE i h) (offE_inb i h2 h))) (ldL (F := Ideal) arg7 (harg7.unread x7) (lofE i h) (lofE_inb i h2 h))) (ix2 r j) = (tileOf i v4 v6 v8 v10 v12 v14 v16 v18 x2 x6 x7 x11).pr h (256 * (i 1).val + r.val) j := by
  rw [pM_apply, rawW_apply, Tile.pr, ldL_apply _ _ _ _ _ _ (lofE_eq i h h2), harg7.read_unread]
  simp only [ldQ_apply _ _ _ _ _ _ (offE_eq i h h2), harg2.read_unread]
  show Ideal.exp ((if j.val ≤ r.val then _ else _) - _) = Ideal.exp ((if 256 * (i 1).val + j.val ≤ 256 * (i 1).val + r.val then _ else _) - _)
  simp only [Nat.add_le_add_iff_left]
  rfl

theorem even_ds (h2 : k0_cond2 i = 1#1) (h : Fin 4) (r : Fin 512) (j : Fin 256) :
    (dsW (K4 v12 v14 v16 v18 h) (pM (rawW (K4 v4 v6 v8 v10 h) (ldQ (F := Ideal) arg2 (harg2.unread x2) (offE i h) (offE_inb i h2 h))) (ldL (F := Ideal) arg7 (harg7.unread x7) (lofE i h) (lofE_inb i h2 h))) (ldQ (F := Ideal) arg6 (harg6.unread x6) (offE i h) (offE_inb i h2 h)) (ldL (F := Ideal) arg11 (harg11.unread x11) (lofE i h) (lofE_inb i h2 h))) (ix2 r j) = (tileOf i v4 v6 v8 v10 v12 v14 v16 v18 x2 x6 x7 x11).ds h (256 * (i 1).val + r.val) j := by
  rw [dsW_apply, even_pr i arg2 harg2 arg7 harg7 v4 v6 v8 v10 v12 v14 v16 v18 x2 x6 x7 x11 h2 h r j, Tile.ds, ldL_apply _ _ _ _ _ _ (lofE_eq i h h2), harg11.read_unread]
  simp only [ldQ_apply _ _ _ _ _ _ (offE_eq i h h2), harg6.read_unread]
  rfl

theorem even_holds (h2 : k0_cond2 i = 1#1) (z : FVec Ideal S256x128 .f32) (hz : ∀ y, z y = 0) (w1 w20 w2 w21 w26 w31 : BitVec 32) (g : arg8.view.ty.Contents (Elt Ideal))
    (hR : 256 * (i 1).val + 512 = 512 * (((i 1).val + 2) / 2)) :
    Holds (tileOf i v4 v6 v8 v10 v12 v14 v16 v18 x2 x6 x7 x11) (arg8.view.read (Elt Ideal) g) arg8 (512 * (((i 1).val + 2) / 2)) (arg8.view.writes (Elt Ideal) g (stepE c i arg2 harg2 arg3 harg3 arg4 harg4 arg5 harg5 arg6 harg6 arg7 harg7 arg8 harg8 arg9 harg9 arg10 harg10 arg11 harg11 v4 v6 v8 v10 v12 v14 v16 v18 x2 x6 x7 x11 h2 w1 z w20 w2 w21 w26 w31 g).1) (startV ⟨w1, v4, v6, v8, v10, v12, v14, v16, v18, z, w20, w2, w21, w26, w31⟩ (stepE c i arg2 harg2 arg3 harg3 arg4 harg4 arg5 harg5 arg6 harg6 arg7 harg7 arg8 harg8 arg9 harg9 arg10 harg10 arg11 harg11 v4 v6 v8 v10 v12 v14 v16 v18 x2 x6 x7 x11 h2 w1 z w20 w2 w21 w26 w31 g).2.1) := by
  rw [← hR]
  constructor
  · intro h j x
    rw [even_dk, dkW_apply, Tile.dk_add, show (tileOf i v4 v6 v8 v10 v12 v14 v16 v18 x2 x6 x7 x11).dk h (256 * (i 1).val) j x = 0 from Tile.dk_c0 _ h j x, hz]
    congr 1
    refine Finset.sum_congr rfl fun r _ => ?_
    rw [even_ds i arg2 harg2 arg6 harg6 arg7 harg7 arg11 harg11 v4 v6 v8 v10 v12 v14 v16 v18 x2 x6 x7 x11 h2 h r j, ldQ_apply _ _ _ _ _ _ (offE_eq i h h2), harg2.read_unread]
    rfl
  · intro h j x
    rw [even_dv, dvW_apply, Tile.dv_add, show (tileOf i v4 v6 v8 v10 v12 v14 v16 v18 x2 x6 x7 x11).dv h (256 * (i 1).val) j x = 0 from Tile.dv_c0 _ h j x, hz]
    congr 1
    refine Finset.sum_congr rfl fun r _ => ?_
    rw [even_pr i arg2 harg2 arg7 harg7 v4 v6 v8 v10 v12 v14 v16 v18 x2 x6 x7 x11 h2 h r j, ldQ_apply _ _ _ _ _ _ (offE_eq i h h2), harg6.read_unread]
    rfl
  · intro hB h r j
    rw [even_raw, rawW_apply, hR]
    simp only [ldQ_apply _ _ _ _ _ _ (offR_eq i h (by omega)), harg2.read_unread]
    rfl
  · intro y
    rw [even_dq, four_writes arg8 g 512 ![512, 128] rfl (offE i) (offE_inb i h2) (256 * (i 1).val) (fun h => offE_eq i h h2)
      (fun h => dqW (dsW (K4 v12 v14 v16 v18 h) (pM (rawW (K4 v4 v6 v8 v10 h) (ldQ (F := Ideal) arg2 (harg2.unread x2) (offE i h) (offE_inb i h2 h))) (ldL (F := Ideal) arg7 (harg7.unread x7) (lofE i h) (lofE_inb i h2 h))) (ldQ (F := Ideal) arg6 (harg6.unread x6) (offE i h) (offE_inb i h2 h)) (ldL (F := Ideal) arg11 (harg11.unread x11) (lofE i h) (lofE_inb i h2 h))) (K4 v4 v6 v8 v10 h) (ldQ (F := Ideal) arg8 g (offE i h) (offE_inb i h2 h)))
      (fun y => arg8.view.read (Elt Ideal) g y + (tileOf i v4 v6 v8 v10 v12 v14 v16 v18 x2 x6 x7 x11).dq (headOf y) (y 0).val (colOf y)) (fun h x => ?_) y]
    · by_cases hc : (y 0).val < 256 * (i 1).val
      · rw [if_neg (by omega), if_pos (by omega), Tile.dq_above _ _ _ _ hc, add_zero]
      · by_cases hc' : (y 0).val < 256 * (i 1).val + 512
        · rw [if_pos (by omega), if_pos (by omega)]
        · rw [if_neg (by omega), if_neg (by omega)]
    · exact piece_dq (tileOf i v4 v6 v8 v10 v12 v14 v16 v18 x2 x6 x7 x11) arg8 g (offE i h) (offE_inb i h2 h) h (256 * (i 1).val) (offE_eq i h h2) _ _
        (fun r j => even_ds i arg2 harg2 arg6 harg6 arg7 harg7 arg11 harg11 v4 v6 v8 v10 v12 v14 v16 v18 x2 x6 x7 x11 h2 h r j) (fun _ _ => rfl) x

theorem odd_pr (h2 : ¬ k0_cond2 i = 1#1) (h : Fin 4) (r : Fin 256) (j : Fin 256) :
    (pS (rawS (K4 v4 v6 v8 v10 h) (ldQS (F := Ideal) arg2 (harg2.unread x2) (offO i h) (offO_inb i h2 h))) (ldLS (F := Ideal) arg7 (harg7.unread x7) (lofO i h) (lofO_inb i h2 h))) (ix2 r j) = (tileOf i v4 v6 v8 v10 v12 v14 v16 v18 x2 x6 x7 x11).pr h (256 * (i 1).val + r.val) j := by
  rw [pS_apply, rawS_apply, Tile.pr, ldLS_apply _ _ _ _ _ _ (lofO_eq i h h2), harg7.read_unread]
  simp only [ldQS_apply _ _ _ _ _ _ (offO_eq i h h2), harg2.read_unread]
  show Ideal.exp ((if j.val ≤ r.val then _ else _) - _) = Ideal.exp ((if 256 * (i 1).val + j.val ≤ 256 * (i 1).val + r.val then _ else _) - _)
  simp only [Nat.add_le_add_iff_left]
  rfl

theorem odd_ds (h2 : ¬ k0_cond2 i = 1#1) (h : Fin 4) (r : Fin 256) (j : Fin 256) :
    (dsS (K4 v12 v14 v16 v18 h) (pS (rawS (K4 v4 v6 v8 v10 h) (ldQS (F := Ideal) arg2 (harg2.unread x2) (offO i h) (offO_inb i h2 h))) (ldLS (F := Ideal) arg7 (harg7.unread x7) (lofO i h) (lofO_inb i h2 h))) (ldQS (F := Ideal) arg6 (harg6.unread x6) (offO i h) (offO_inb i h2 h)) (ldLS (F := Ideal) arg11 (harg11.unread x11) (lofO i h) (lofO_inb i h2 h))) (ix2 r j) = (tileOf i v4 v6 v8 v10 v12 v14 v16 v18 x2 x6 x7 x11).ds h (256 * (i 1).val + r.val) j := by
  rw [dsS_apply, odd_pr i arg2 harg2 arg7 harg7 v4 v6 v8 v10 v12 v14 v16 v18 x2 x6 x7 x11 h2 h r j, Tile.ds, ldLS_apply _ _ _ _ _ _ (lofO_eq i h h2), harg11.read_unread]
  simp only [ldQS_apply _ _ _ _ _ _ (offO_eq i h h2), harg6.read_unread]
  rfl

theorem odd_holds (h2 : ¬ k0_cond2 i = 1#1) (z : FVec Ideal S256x128 .f32) (hz : ∀ y, z y = 0) (w1 w20 w2 w21 w26 w31 : BitVec 32) (g : arg8.view.ty.Contents (Elt Ideal))
    (hR : 256 * (i 1).val + 256 = 512 * (((i 1).val + 2) / 2)) :
    Holds (tileOf i v4 v6 v8 v10 v12 v14 v16 v18 x2 x6 x7 x11) (arg8.view.read (Elt Ideal) g) arg8 (512 * (((i 1).val + 2) / 2)) (arg8.view.writes (Elt Ideal) g (stepO c i arg2 harg2 arg3 harg3 arg4 harg4 arg5 harg5 arg6 harg6 arg7 harg7 arg8 harg8 arg9 harg9 arg10 harg10 arg11 harg11 v4 v6 v8 v10 v12 v14 v16 v18 x2 x6 x7 x11 h2 (trips2 i h2) (trips3 i h2) w1 z w20 w2 w21 w26 w31 g).1) (startV ⟨w1, v4, v6, v8, v10, v12, v14, v16, v18, z, w20, w2, w21, w26, w31⟩ (stepO c i arg2 harg2 arg3 harg3 arg4 harg4 arg5 harg5 arg6 harg6 arg7 harg7 arg8 harg8 arg9 harg9 arg10 harg10 arg11 harg11 v4 v6 v8 v10 v12 v14 v16 v18 x2 x6 x7 x11 h2 (trips2 i h2) (trips3 i h2) w1 z w20 w2 w21 w26 w31 g).2.1) := by
  rw [← hR]
  constructor
  · intro h j x
    rw [odd_dk, dkS_apply, Tile.dk_add, show (tileOf i v4 v6 v8 v10 v12 v14 v16 v18 x2 x6 x7 x11).dk h (256 * (i 1).val) j x = 0 from Tile.dk_c0 _ h j x, hz]
    congr 1
    refine Finset.sum_congr rfl fun r _ => ?_
    rw [odd_ds i arg2 harg2 arg6 harg6 arg7 harg7 arg11 harg11 v4 v6 v8 v10 v12 v14 v16 v18 x2 x6 x7 x11 h2 h r j, ldQS_apply _ _ _ _ _ _ (offO_eq i h h2), harg2.read_unread]
    rfl
  · intro h j x
    rw [odd_dv, dvS_apply, Tile.dv_add, show (tileOf i v4 v6 v8 v10 v12 v14 v16 v18 x2 x6 x7 x11).dv h (256 * (i 1).val) j x = 0 from Tile.dv_c0 _ h j x, hz]
    congr 1
    refine Finset.sum_congr rfl fun r _ => ?_
    rw [odd_pr i arg2 harg2 arg7 harg7 v4 v6 v8 v10 v12 v14 v16 v18 x2 x6 x7 x11 h2 h r j, ldQS_apply _ _ _ _ _ _ (offO_eq i h h2), harg6.read_unread]
    rfl
  · intro hB h r j
    rw [odd_raw, rawW_apply, hR]
    simp only [ldQ_apply _ _ _ _ _ _ (offR_eq i h (by omega)), harg2.read_unread]
    rfl
  · intro y
    rw [odd_dq, four_writes arg8 g 256 ![256, 128] rfl (offO i) (offO_inb i h2) (256 * (i 1).val) (fun h => offO_eq i h h2)
      (fun h => dqS (dsS (K4 v12 v14 v16 v18 h) (pS (rawS (K4 v4 v6 v8 v10 h) (ldQS (F := Ideal) arg2 (harg2.unread x2) (offO i h) (offO_inb i h2 h))) (ldLS (F := Ideal) arg7 (harg7.unread x7) (lofO i h) (lofO_inb i h2 h))) (ldQS (F := Ideal) arg6 (harg6.unread x6) (offO i h) (offO_inb i h2 h)) (ldLS (F := Ideal) arg11 (harg11.unread x11) (lofO i h) (lofO_inb i h2 h))) (K4 v4 v6 v8 v10 h) (ldQS (F := Ideal) arg8 g (offO i h) (offO_inb i h2 h)))
      (fun y => arg8.view.read (Elt Ideal) g y + (tileOf i v4 v6 v8 v10 v12 v14 v16 v18 x2 x6 x7 x11).dq (headOf y) (y 0).val (colOf y)) (fun h x => ?_) y]
    · by_cases hc : (y 0).val < 256 * (i 1).val
      · rw [if_neg (by omega), if_pos (by omega), Tile.dq_above _ _ _ _ hc, add_zero]
      · by_cases hc' : (y 0).val < 256 * (i 1).val + 256
        · rw [if_pos (by omega), if_pos (by omega)]
        · rw [if_neg (by omega), if_neg (by omega)]
    · exact piece_dqS (tileOf i v4 v6 v8 v10 v12 v14 v16 v18 x2 x6 x7 x11) arg8 g (offO i h) (offO_inb i h2 h) h (256 * (i 1).val) (offO_eq i h h2) _ _
        (fun r j => odd_ds i arg2 harg2 arg6 harg6 arg7 harg7 arg11 harg11 v4 v6 v8 v10 v12 v14 v16 v18 x2 x6 x7 x11 h2 h r j) (fun _ _ => rfl) x

theorem trip_lt (k : Fin (k0_t4_loop i).trips) : ((i 1).val + 2) / 2 + k.val < 4 := by
  have h := k.isLt; have e := trips4 i; omega

theorem trip_pr (k : Fin (k0_t4_loop i).trips) (a : Carry Ideal) (hraw : ∀ h (r : Fin 512) j, rawC a h (ix2 r j) = (tileOf i v4 v6 v8 v10 v12 v14 v16 v18 x2 x6 x7 x11).sc h (512 * (((i 1).val + 2) / 2 + k.val) + r.val) j) (h : Fin 4) (r : Fin 512) (j : Fin 256) :
    (pW (rawC a h) (ldL (F := Ideal) arg7 (harg7.unread x7) (lofT i k h) (lofT_inb i k h))) (ix2 r j) = (tileOf i v4 v6 v8 v10 v12 v14 v16 v18 x2 x6 x7 x11).pr h (512 * (((i 1).val + 2) / 2 + k.val) + r.val) j := by
  rw [pW_apply, Tile.pr, ldL_apply _ _ _ _ _ _ (lofT_eq i k h), harg7.read_unread, hraw,
    if_pos (by show 256 * (i 1).val + j.val ≤ _; have := j.isLt; omega)]
  rfl

theorem trip_ds (k : Fin (k0_t4_loop i).trips) (a : Carry Ideal) (hraw : ∀ h (r : Fin 512) j, rawC a h (ix2 r j) = (tileOf i v4 v6 v8 v10 v12 v14 v16 v18 x2 x6 x7 x11).sc h (512 * (((i 1).val + 2) / 2 + k.val) + r.val) j) (h : Fin 4) (r : Fin 512) (j : Fin 256) :
    (dsW (K4 v12 v14 v16 v18 h) (pW (rawC a h) (ldL (F := Ideal) arg7 (harg7.unread x7) (lofT i k h) (lofT_inb i k h))) (ldQ (F := Ideal) arg6 (harg6.unread x6) (offT i k h) (offT_inb i k h)) (ldL (F := Ideal) arg11 (harg11.unread x11) (lofT i k h) (lofT_inb i k h))) (ix2 r j) = (tileOf i v4 v6 v8 v10 v12 v14 v16 v18 x2 x6 x7 x11).ds h (512 * (((i 1).val + 2) / 2 + k.val) + r.val) j := by
  rw [dsW_apply, trip_pr i arg7 harg7 v4 v6 v8 v10 v12 v14 v16 v18 x2 x6 x7 x11 k a hraw h r j, Tile.ds, ldL_apply _ _ _ _ _ _ (lofT_eq i k h), harg11.read_unread]
  simp only [ldQ_apply _ _ _ _ _ _ (offT_eq i k h), harg6.read_unread]
  rfl

theorem trip_holds (k : Fin (k0_t4_loop i).trips) (a : Carry Ideal) (v37 : BitVec 32) (old : S2048x512.Idx → EReal) (g : arg8.view.ty.Contents (Elt Ideal))
    (H : Holds (tileOf i v4 v6 v8 v10 v12 v14 v16 v18 x2 x6 x7 x11) old arg8 (512 * (((i 1).val + 2) / 2 + k.val)) g a) :
    Holds (tileOf i v4 v6 v8 v10 v12 v14 v16 v18 x2 x6 x7 x11) old arg8 (512 * (((i 1).val + 2) / 2 + (k.val + 1))) (arg8.view.writes (Elt Ideal) g (tripW c i arg2 harg2 arg3 harg3 arg4 harg4 arg5 harg5 arg6 harg6 arg7 harg7 arg8 harg8 arg9 harg9 arg10 harg10 arg11 harg11 v4 v6 v8 v10 v12 v14 v16 v18 x2 x6 x7 x11 v37 k a.1 a.2.1 a.2.2.1 a.2.2.2.1 a.2.2.2.2.1 a.2.2.2.2.2.1 a.2.2.2.2.2.2.1 a.2.2.2.2.2.2.2.1 a.2.2.2.2.2.2.2.2.1 a.2.2.2.2.2.2.2.2.2.1 a.2.2.2.2.2.2.2.2.2.2.1 a.2.2.2.2.2.2.2.2.2.2.2 g).1) (tripW c i arg2 harg2 arg3 harg3 arg4 harg4 arg5 harg5 arg6 harg6 arg7 harg7 arg8 harg8 arg9 harg9 arg10 harg10 arg11 harg11 v4 v6 v8 v10 v12 v14 v16 v18 x2 x6 x7 x11 v37 k a.1 a.2.1 a.2.2.1 a.2.2.2.1 a.2.2.2.2.1 a.2.2.2.2.2.1 a.2.2.2.2.2.2.1 a.2.2.2.2.2.2.2.1 a.2.2.2.2.2.2.2.2.1 a.2.2.2.2.2.2.2.2.2.1 a.2.2.2.2.2.2.2.2.2.2.1 a.2.2.2.2.2.2.2.2.2.2.2 g).2.1 := by
  have hk := trip_lt i k
  have hraw := H.raw (by omega)
  have hds := trip_ds i arg6 harg6 arg7 harg7 arg11 harg11 v4 v6 v8 v10 v12 v14 v16 v18 x2 x6 x7 x11 k a hraw
  have hpr := trip_pr i arg7 harg7 v4 v6 v8 v10 v12 v14 v16 v18 x2 x6 x7 x11 k a hraw
  rw [show 512 * (((i 1).val + 2) / 2 + (k.val + 1)) = 512 * (((i 1).val + 2) / 2 + k.val) + 512 by omega]
  constructor
  · intro h j x
    rw [trip_dk, dkW_apply, Tile.dk_add, H.dk]
    congr 1
    refine Finset.sum_congr rfl fun r _ => ?_
    rw [hds h r j, ldQ_apply _ _ _ _ _ _ (offT_eq i k h), harg2.read_unread]
    rfl
  · intro h j x
    rw [trip_dv, dvW_apply, Tile.dv_add, H.dv]
    congr 1
    refine Finset.sum_congr rfl fun r _ => ?_
    rw [hpr h r j, ldQ_apply _ _ _ _ _ _ (offT_eq i k h), harg6.read_unread]
    rfl
  · intro hB h r j
    rw [trip_raw, rawW_apply]
    simp only [ldQ_apply _ _ _ _ _ _ (offA_eq i k h (by omega)), harg2.read_unread]
    rw [show 512 * (((i 1).val + 2) / 2 + k.val + 1) = 512 * (((i 1).val + 2) / 2 + k.val) + 512 by omega]
    rfl
  · intro y
    rw [trip_dq, four_writes arg8 g 512 ![512, 128] rfl (offT i k) (offT_inb i k) (512 * (((i 1).val + 2) / 2 + k.val)) (fun h => offT_eq i k h)
      (fun h => dqW (dsW (K4 v12 v14 v16 v18 h) (pW (rawC a h) (ldL (F := Ideal) arg7 (harg7.unread x7) (lofT i k h) (lofT_inb i k h))) (ldQ (F := Ideal) arg6 (harg6.unread x6) (offT i k h) (offT_inb i k h)) (ldL (F := Ideal) arg11 (harg11.unread x11) (lofT i k h) (lofT_inb i k h))) (K4 v4 v6 v8 v10 h) (ldQ (F := Ideal) arg8 g (offT i k h) (offT_inb i k h)))
      (fun y => arg8.view.read (Elt Ideal) g y + (tileOf i v4 v6 v8 v10 v12 v14 v16 v18 x2 x6 x7 x11).dq (headOf y) (y 0).val (colOf y)) (fun h x => ?_) y]
    · rw [H.dq y]
      by_cases hc : (y 0).val < 512 * (((i 1).val + 2) / 2 + k.val)
      · rw [if_neg (by omega), if_pos (by omega), if_pos (by omega)]
      · by_cases hc' : (y 0).val < 512 * (((i 1).val + 2) / 2 + k.val) + 512
        · rw [if_pos (by omega), if_neg (by omega), if_pos (by omega)]
        · rw [if_neg (by omega), if_neg (by omega), if_neg (by omega)]
    · exact piece_dq (tileOf i v4 v6 v8 v10 v12 v14 v16 v18 x2 x6 x7 x11) arg8 g (offT i k h) (offT_inb i k h) h (512 * (((i 1).val + 2) / 2 + k.val)) (offT_eq i k h) _ _
        (fun r j => hds h r j) (fun _ _ => rfl) x

theorem wide_holds (v37 : BitVec 32) (old : S2048x512.Idx → EReal) (g : arg8.view.ty.Contents (Elt Ideal)) (a : Carry Ideal)
    (H : Holds (tileOf i v4 v6 v8 v10 v12 v14 v16 v18 x2 x6 x7 x11) old arg8 (512 * (((i 1).val + 2) / 2)) g a) : ∀ n, n ≤ (k0_t4_loop i).trips →
    Holds (tileOf i v4 v6 v8 v10 v12 v14 v16 v18 x2 x6 x7 x11) old arg8 (512 * (((i 1).val + 2) / 2 + n)) (wideSt c i arg2 harg2 arg3 harg3 arg4 harg4 arg5 harg5 arg6 harg6 arg7 harg7 arg8 harg8 arg9 harg9 arg10 harg10 arg11 harg11 v4 v6 v8 v10 v12 v14 v16 v18 x2 x6 x7 x11 v37 g a n).1 (wideSt c i arg2 harg2 arg3 harg3 arg4 harg4 arg5 harg5 arg6 harg6 arg7 harg7 arg8 harg8 arg9 harg9 arg10 harg10 arg11 harg11 v4 v6 v8 v10 v12 v14 v16 v18 x2 x6 x7 x11 v37 g a n).2
  | 0, _ => H
  | n + 1, hn => by
    have hn' : n < (k0_t4_loop i).trips := hn
    have ih := wide_holds v37 old g a H n (by omega)
    rw [wideSt, dif_pos hn']
    exact trip_holds c i arg2 harg2 arg3 harg3 arg4 harg4 arg5 harg5 arg6 harg6 arg7 harg7 arg8 harg8 arg9 harg9 arg10 harg10 arg11 harg11 v4 v6 v8 v10 v12 v14 v16 v18 x2 x6 x7 x11 ⟨n, hn'⟩ _ v37 old _ ih

end Tiles

end Cert.AttnIdeal.Hand
end
-- ==== Proof.AttnFrame.lean ====
module

public import proofs.«01_k».proof.Proof.AttnBody
public import proofs.«01_k».proof.Proof.Gen.AttnIdeal.Frame
public import Idealize.ShloMosaic.Lib.Quiescent
public import Idealize.ShloMosaic.Lib.Claim

/-! The attention backward kernel's run: what each grid point leaves, and the frame. -/

@[expose] public section

set_option maxRecDepth 16384

noncomputable section

namespace Cert.AttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal.Gen

variable {F : FTy → Type} [FloatOps F] [Named F]

local notation "𝕄" => MT nD τ sig Unit (Elt F) ℕ (UR sig nD τ) ℕ

variable (m : (ℓ : Loc nD τ sig) → Buf (Elt F) ℓ) (c : Dev nD)

theorem first_iff : ∀ t : Fin cfg0.N, k0_cond1 (grid0.coords t) = 1#1 ↔ t.val % 8 = 0 := by decide +kernel

/-- The first tile of a point's group. -/
def grp (n : ℕ) : Fin cfg0.N := ⟨n / 8 % 2 * 8, by have : cfg0.N = 16 := N_0; omega⟩

theorem grp_first (n : ℕ) : k0_cond1 (grid0.coords (grp n)) = 1#1 := by
  rw [first_iff]; show n / 8 % 2 * 8 % 8 = 0; omega

/-- Delta of a point's group. -/
def deltaAt (n : ℕ) : FVec F S4x2048x1 .f32 :=
  deltaV c (grid0.coords (grp n)) (st0_0 (grp n)) (hstage0_0 ((cfg0.slots (grp n) 0).cast nbuf0_0)) (st0_1 (grp n)) (hstage0_1 ((cfg0.slots (grp n) 1).cast nbuf0_1)) (st0_2 (grp n)) (hstage0_2 ((cfg0.slots (grp n) 2).cast nbuf0_2)) (st0_3 (grp n)) (hstage0_3 ((cfg0.slots (grp n) 3).cast nbuf0_3)) (st0_4 (grp n)) (hstage0_4 ((cfg0.slots (grp n) 4).cast nbuf0_4)) (st0_5 (grp n)) (hstage0_5 ((cfg0.slots (grp n) 5).cast nbuf0_5)) (st0_6 (grp n)) (hstage0_6 ((cfg0.slots (grp n) 6).cast nbuf0_6)) (st0_7 (grp n)) (hstage0_7 ((cfg0.slots (grp n) 7).cast nbuf0_7)) (st0_8 (grp n)) (hstage0_8 ((cfg0.slots (grp n) 8).cast nbuf0_8)) (Memref.whole cc0_scratch0) (Memref.isWhole_whole _) (iblk m c 3 (grp n)) (iblk m c 4 (grp n)) (grp_first n)

/-- What the body at a point leaves, of the dq `x` that it finds. -/
def endAt (t : Fin cfg0.N) (x : FVec F S2048x512 .f32) :=
  endV c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (iblk m c 0 t) (iblk m c 4 t) (iblk m c 5 t) (deltaAt m c t.val) (loadV (grid0.coords t) (st0_1 t) (hstage0_1 ((cfg0.slots t 1).cast nbuf0_1)) (st0_2 t) (hstage0_2 ((cfg0.slots t 2).cast nbuf0_2)) (iblk m c 1 t) (iblk m c 2 t)) ((hstage0_6 ((cfg0.slots t 6).cast nbuf0_6)).unread x)

/-- dq after a point's step. -/
def dqStep (t : Fin cfg0.N) (x : FVec F S2048x512 .f32) : FVec F S2048x512 .f32 :=
  (st0_6 t).view.read (Elt F) (endAt m c t x).1

/-- dq after point `n`: started from zero at each group's first tile. -/
def dqAt : (n : ℕ) → n < cfg0.N → FVec F S2048x512 .f32
  | 0, h => dqStep m c ⟨0, h⟩ k0_pay209
  | n + 1, h => dqStep m c ⟨n + 1, h⟩ (if (n + 1) % 8 = 0 then k0_pay209 else dqAt n (by omega))

/-- The dq that a point's step starts from. -/
def dqIn (t : Fin cfg0.N) : FVec F S2048x512 .f32 :=
  if t.val % 8 = 0 then k0_pay209 else dqAt m c (t.val - 1) (by have := t.isLt; omega)

theorem dqAt_eq (t : Fin cfg0.N) : dqAt m c t.val t.isLt = dqStep m c t (dqIn m c t) := by
  obtain ⟨n, h⟩ := t
  cases n with
  | zero => rfl
  | succ n => rfl

/-- The blocks of dk and dv that a point leaves. -/
def outAt (t : Fin cfg0.N) : FVec F S256x512 .f32 × FVec F S256x512 .f32 :=
  (View.canon (outP (endAt m c t (dqIn m c t)).2).1, View.canon (outP (endAt m c t (dqIn m c t)).2).2)

/-- Between the points the scratch holds the group's delta, once its first tile is done. -/
def PhiAt (n : ℕ) : sProp 𝕄 :=
  iprop((∃ f : Buf (Elt F) ((c : Thread nD τ).loc cc0_scratch0), ⌜n % 8 ≠ 0 → f = (Memref.isWhole_whole cc0_scratch0).unread (deltaAt m c n)⌝ ∗ ((c : Thread nD τ).loc cc0_scratch0) ↦{fullShare} f) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqAt m c t.val t.isLt
    | ⟨7, _⟩ => (outAt m c t).1
    | ⟨8, _⟩ => (outAt m c t).2
  Φ t := PhiAt m c t.val
  q _ := fullShare
  owed _ := 0

theorem A_eq (w : Fin cfg0.W) : (dats m 0 c).A w = V m c (Pipeline.arrRef spec0 w) := by
  dsimp only [dats]

theorem after0_0 (t : Fin cfg0.N) : (dats m 0 c).after 0 t = iblk m c 0 t := by dsimp only [dats]
theorem after0_1 (t : Fin cfg0.N) : (dats m 0 c).after 1 t = iblk m c 1 t := by dsimp only [dats]
theorem after0_2 (t : Fin cfg0.N) : (dats m 0 c).after 2 t = iblk m c 2 t := by dsimp only [dats]
theorem after0_3 (t : Fin cfg0.N) : (dats m 0 c).after 3 t = iblk m c 3 t := by dsimp only [dats]
theorem after0_4 (t : Fin cfg0.N) : (dats m 0 c).after 4 t = iblk m c 4 t := by dsimp only [dats]
theorem after0_5 (t : Fin cfg0.N) : (dats m 0 c).after 5 t = iblk m c 5 t := by dsimp only [dats]
theorem after0_6 (t : Fin cfg0.N) : (dats m 0 c).after 6 t = dqAt m c t.val t.isLt := by dsimp only [dats]
theorem after0_7 (t : Fin cfg0.N) : (dats m 0 c).after 7 t = (outAt m c t).1 := by dsimp only [dats]
theorem after0_8 (t : Fin cfg0.N) : (dats m 0 c).after 8 t = (outAt m c t).2 := by dsimp only [dats]
theorem before0_0 (t : Fin cfg0.N) (d) : (dats m 0 c).before 0 t d = iblk m c 0 t := before0_0_of m (dats m 0 c) (A_eq m c 0) (after0_0 m c) t d
theorem before0_1 (t : Fin cfg0.N) (d) : (dats m 0 c).before 1 t d = iblk m c 1 t := before0_1_of m (dats m 0 c) (A_eq m c 1) (after0_1 m c) t d
theorem before0_2 (t : Fin cfg0.N) (d) : (dats m 0 c).before 2 t d = iblk m c 2 t := before0_2_of m (dats m 0 c) (A_eq m c 2) (after0_2 m c) t d
theorem before0_3 (t : Fin cfg0.N) (d) : (dats m 0 c).before 3 t d = iblk m c 3 t := before0_3_of m (dats m 0 c) (A_eq m c 3) (after0_3 m c) t d
theorem before0_4 (t : Fin cfg0.N) (d) : (dats m 0 c).before 4 t d = iblk m c 4 t := before0_4_of m (dats m 0 c) (A_eq m c 4) (after0_4 m c) t d
theorem before0_5 (t : Fin cfg0.N) (d) : (dats m 0 c).before 5 t d = iblk m c 5 t := before0_5_of m (dats m 0 c) (A_eq m c 5) (after0_5 m c) t d

/-- dq's block carries from tile to tile of a group. -/
theorem before0_6 (t : Fin cfg0.N) (ht : ¬ t.val % 8 = 0) (d) : (dats m 0 c).before 6 t d = dqIn m c t := by
  rw [Dat.before_out_kept _ 6 rfl t (by omega) (by
    rw [Bool.eq_false_iff, Ne, flush0_6]; show ¬ (t.val - 1) % 8 = 7; omega) (fun _ => rfl) (fun _ _ => rfl)]
  · rw [after0_6, dqIn, if_neg ht]

theorem cover_dk (y : Carry F) : ∀ z : S256x512.Idx, ∃ p ∈ (outP y).1, z ∈ p.1.set := by
  intro z
  have h0 : (z 0).val < 256 := (z 0).isLt
  have h1 : (z 1).val < 512 := (z 1).isLt
  simp only [outP, List.mem_cons, List.not_mem_nil, or_false, exists_eq_or_imp, exists_eq_left, Rect.mem_set_unit, Fin.forall_fin_two]
  simp only [Matrix.cons_val_zero, Matrix.cons_val_one]
  show (_ ∧ 384 ≤ (z 1).val ∧ (z 1).val < 384 + 128) ∨ (_ ∧ 256 ≤ (z 1).val ∧ (z 1).val < 256 + 128) ∨ (_ ∧ 128 ≤ (z 1).val ∧ (z 1).val < 128 + 128) ∨ (_ ∧ 0 ≤ (z 1).val ∧ (z 1).val < 0 + 128)
  have h2 : 0 ≤ (z 0).val ∧ (z 0).val < 0 + 256 := by omega
  have : 384 ≤ (z 1).val ∨ (256 ≤ (z 1).val ∧ (z 1).val < 256 + 128) ∨ (128 ≤ (z 1).val ∧ (z 1).val < 128 + 128) ∨ (z 1).val < 128 := by omega
  rcases this with h | h | h | h
  · exact .inl ⟨h2, by omega⟩
  · exact .inr (.inl ⟨h2, by omega⟩)
  · exact .inr (.inr (.inl ⟨h2, by omega⟩))
  · exact .inr (.inr (.inr ⟨h2, by omega⟩))

theorem cover_dv (y : Carry F) : ∀ z : S256x512.Idx, ∃ p ∈ (outP y).2, z ∈ p.1.set := cover_dk (y.2.1, y.2.1, y.2.2.2.1, y.2.2.2.1, y.2.2.2.2.2.1, y.2.2.2.2.2.1, y.2.2.2.2.2.2.2.1, y.2.2.2.2.2.2.2.1, y.2.2.2.2.2.2.2.2)

theorem defs₀_row (t : Fin cfg0.N) : defs₀ (F := F) .tc cfg0.body (cfg0.bodyArgs t (cfg0.slots t)) = bodyAt0 t := by
  unfold defs₀; rw [Defs.onTc_tc]

theorem scratch_eq (f : Buf (Elt F) ((c : Thread nD τ).loc cc0_scratch0)) :
    (((Memref.whole cc0_scratch0).view.loc (c : Thread nD τ) ↦[(Memref.whole cc0_scratch0).view.set]{fullShare} f) : sProp 𝕄) = (((c : Thread nD τ).loc cc0_scratch0) ↦{fullShare} f) := by
  rw [View.set_whole]

theorem deltaAt_eq (n : ℕ) (t : Fin cfg0.N) (e : grp n = t) (h1) : deltaAt m c n = deltaV c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (iblk m c 3 t) (iblk m c 4 t) h1 := by
  subst e; rfl

theorem deltaAt_succ (n : ℕ) (h : (n + 1) % 8 ≠ 0) : deltaAt m c (n + 1) = deltaAt m c n :=
  deltaAt_eq m c (n + 1) (grp n) (Fin.ext (by show (n + 1) / 8 % 2 * 8 = n / 8 % 2 * 8; omega)) (grp_first n)

theorem grp_of_first (t : Fin cfg0.N) (ht : t.val % 8 = 0) : grp t.val = t :=
  Fin.ext (by show t.val / 8 % 2 * 8 = t.val; have := t.isLt; have : cfg0.N = 16 := N_0; omega)

set_option maxHeartbeats 1000000 in
theorem sound_body (t : Fin cfg0.N) :
    iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)))
      ⊢ wp frame (wpE (defs₀ (F := F)) Variants.none c none) Set.univ (bodyAt0 t) fun _ =>
        iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t)) := by
  rw [show (dats m 0 c).owesAt () t.succ = (dats m 0 c).owesAt () t.castSucc from rfl,
    show (dats m 0 c).Φ t.castSucc = PhiAt m c t.val from rfl, show (dats m 0 c).Φ t.succ = PhiAt m c (t.val + 1) from rfl]
  simp only [before0_0, before0_1, before0_2, before0_3, before0_4, before0_5, after0_0, after0_1, after0_2, after0_3, after0_4, after0_5, after0_6, after0_7, after0_8]
  unfold PhiAt
  simp only [← scratch_eq]
  unfold owns
  by_cases ht : t.val % 8 = 0
  · have h1 := (first_iff t).2 ht
    have hd := deltaAt_eq m c t.val t (grp_of_first t ht) h1
    iintro ⟨⟨⟨%f, -, H11⟩, Hp⟩, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, -, H6⟩, ⟨%d7, %f7, -, H7⟩, ⟨%d8, %f8, -, H8⟩⟩
    have q0 := (hstage0_0 ((cfg0.slots t 0).cast nbuf0_0)).eq_unread e0; subst q0
    have q1 := (hstage0_1 ((cfg0.slots t 1).cast nbuf0_1)).eq_unread e1; subst q1
    have q2 := (hstage0_2 ((cfg0.slots t 2).cast nbuf0_2)).eq_unread e2; subst q2
    have q3 := (hstage0_3 ((cfg0.slots t 3).cast nbuf0_3)).eq_unread e3; subst q3
    have q4 := (hstage0_4 ((cfg0.slots t 4).cast nbuf0_4)).eq_unread e4; subst q4
    have q5 := (hstage0_5 ((cfg0.slots t 5).cast nbuf0_5)).eq_unread e5; subst q5
    iapply (body_first c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (iblk m c 1 t) (iblk m c 2 t) (iblk m c 3 t) (iblk m c 0 t) (iblk m c 4 t) (iblk m c 5 t) h1 f6 f7 f8 f Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H11]; · iexact H11
    iintro ⟨H0, H1, H2, H3, H4, H5, H6, H7, H8, H11⟩
    isplitl [H11 Hp]
    · isplitl [H11]
      · iexists _
        isplitr; swap; · iexact H11
        ipureintro; intro h; rw [deltaAt_succ m c t.val h, hd]
      · iexact Hp
    isplitl [Ho]; · iexact Ho
    isplitl [H0]
    · iexists _; isplitr; swap; · iexact H0
      ipureintro; exact (hstage0_0 ((cfg0.slots t 0).cast nbuf0_0)).read_unread _
    isplitl [H1]
    · iexists _; isplitr; swap; · iexact H1
      ipureintro; exact (hstage0_1 ((cfg0.slots t 1).cast nbuf0_1)).read_unread _
    isplitl [H2]
    · iexists _; isplitr; swap; · iexact H2
      ipureintro; exact (hstage0_2 ((cfg0.slots t 2).cast nbuf0_2)).read_unread _
    isplitl [H3]
    · iexists _; isplitr; swap; · iexact H3
      ipureintro; exact (hstage0_3 ((cfg0.slots t 3).cast nbuf0_3)).read_unread _
    isplitl [H4]
    · iexists _; isplitr; swap; · iexact H4
      ipureintro; exact (hstage0_4 ((cfg0.slots t 4).cast nbuf0_4)).read_unread _
    isplitl [H5]
    · iexists _; isplitr; swap; · iexact H5
      ipureintro; exact (hstage0_5 ((cfg0.slots t 5).cast nbuf0_5)).read_unread _
    isplitl [H6]
    · iexists _; isplitr; swap; · iexact H6
      ipureintro; rw [dqAt_eq, dqStep, endAt, dqIn, if_pos ht, hd]
    isplitl [H7]
    · iexists _; isplitr; swap; · iexact H7
      ipureintro; rw [View.read_writes_eq_canon _ _ _ (cover_dk _), outAt, endAt, dqIn, if_pos ht, hd]
    iexists _; isplitr; swap
    · iexact H8
    ipureintro; rw [View.read_writes_eq_canon _ _ _ (cover_dv _), outAt, endAt, dqIn, if_pos ht, hd]
  · have h1 : ¬ k0_cond1 (grid0.coords t) = 1#1 := fun h => ht ((first_iff t).1 h)
    simp only [before0_6 m c t ht]
    iintro ⟨⟨⟨%f, %hf, H11⟩, Hp⟩, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, -, H7⟩, ⟨%d8, %f8, -, H8⟩⟩
    have q0 := (hstage0_0 ((cfg0.slots t 0).cast nbuf0_0)).eq_unread e0; subst q0
    have q1 := (hstage0_1 ((cfg0.slots t 1).cast nbuf0_1)).eq_unread e1; subst q1
    have q2 := (hstage0_2 ((cfg0.slots t 2).cast nbuf0_2)).eq_unread e2; subst q2
    have q3 := (hstage0_3 ((cfg0.slots t 3).cast nbuf0_3)).eq_unread e3; subst q3
    have q4 := (hstage0_4 ((cfg0.slots t 4).cast nbuf0_4)).eq_unread e4; subst q4
    have q5 := (hstage0_5 ((cfg0.slots t 5).cast nbuf0_5)).eq_unread e5; subst q5
    have q6 := (hstage0_6 ((cfg0.slots t 6).cast nbuf0_6)).eq_unread e6; subst q6
    have q := hf ht; subst q
    iapply (body_later c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (iblk m c 1 t) (iblk m c 2 t) (iblk m c 3 t) (iblk m c 0 t) (iblk m c 4 t) (iblk m c 5 t) (deltaAt m c t.val) h1 _ f7 f8 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H11]; · iexact H11
    iintro ⟨H0, H1, H2, H3, H4, H5, H6, H7, H8, H11⟩
    isplitl [H11 Hp]
    · isplitl [H11]
      · iexists _
        isplitr; swap; · iexact H11
        ipureintro; intro h; rw [deltaAt_succ m c t.val h]
      · iexact Hp
    isplitl [Ho]; · iexact Ho
    isplitl [H0]
    · iexists _; isplitr; swap; · iexact H0
      ipureintro; exact (hstage0_0 ((cfg0.slots t 0).cast nbuf0_0)).read_unread _
    isplitl [H1]
    · iexists _; isplitr; swap; · iexact H1
      ipureintro; exact (hstage0_1 ((cfg0.slots t 1).cast nbuf0_1)).read_unread _
    isplitl [H2]
    · iexists _; isplitr; swap; · iexact H2
      ipureintro; exact (hstage0_2 ((cfg0.slots t 2).cast nbuf0_2)).read_unread _
    isplitl [H3]
    · iexists _; isplitr; swap; · iexact H3
      ipureintro; exact (hstage0_3 ((cfg0.slots t 3).cast nbuf0_3)).read_unread _
    isplitl [H4]
    · iexists _; isplitr; swap; · iexact H4
      ipureintro; exact (hstage0_4 ((cfg0.slots t 4).cast nbuf0_4)).read_unread _
    isplitl [H5]
    · iexists _; isplitr; swap; · iexact H5
      ipureintro; exact (hstage0_5 ((cfg0.slots t 5).cast nbuf0_5)).read_unread _
    isplitl [H6]
    · iexists _; isplitr; swap; · iexact H6
      ipureintro; rw [dqAt_eq, dqStep, endAt]
    isplitl [H7]
    · iexists _; isplitr; swap; · iexact H7
      ipureintro; rw [View.read_writes_eq_canon _ _ _ (cover_dk _), outAt, endAt]
    iexists _; isplitr; swap
    · iexact H8
    ipureintro; rw [View.read_writes_eq_canon _ _ _ (cover_dv _), outAt, endAt]

theorem body_obligation (c : Dev nD) : BodyObligation (dats (F := F) m 0 c) (defs₀ (F := F)) Variants.none () Set.univ := fun t => by
  rw [bigSep_W0, bigSep_W0, defs₀_row]
  exact sound_body m c t

theorem Phi_in (c : Dev nD) : Pipeline.ΦA spec0 c ⊢ (dats m 0 c).Φ 0 := by
  rw [show (dats m 0 c).Φ 0 = PhiAt m c 0 from rfl]
  unfold Pipeline.ΦA PhiAt
  rw [scopedRest0_eq]
  iintro ⟨⟨%f, H⟩, Hp⟩
  isplitl [H]
  · iexists f
    isplitr
    · ipureintro; intro h; exact absurd rfl h
    · iexact H
  · iexact Hp

theorem Phi_out (c : Dev nD) : (dats m 0 c).Φ (Fin.last cfg0.N) ⊢ Pipeline.ΦA spec0 c := by
  rw [show (dats m 0 c).Φ (Fin.last cfg0.N) = PhiAt m c cfg0.N from rfl]
  unfold Pipeline.ΦA PhiAt
  rw [scopedRest0_eq]
  iintro ⟨⟨%f, -, H⟩, Hp⟩
  isplitl [H]
  · iexists f; iexact H
  · iexact Hp

variable (ρ : Dev nD → PrngReg)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := Phi_in m) (hout := Phi_out m)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.AttnIdeal.Hand
end
-- ==== Proof.AttnEnd.lean ====
module

public import proofs.«01_k».proof.Proof.AttnTile
public import proofs.«01_k».proof.Proof.AttnFrame
public import Idealize.ShloMosaic.Lib.Pipeline.ValueKit
public import Idealize.ShloMosaic.Lib.Pointwise

/-! What one tile of the attention backward kernel leaves at its end, and delta, entry by entry. -/

@[expose] public section

set_option maxRecDepth 16384

noncomputable section

namespace Cert.AttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal Cert.AttnIdeal.Gen

theorem pay6_apply (d o : FVec Ideal S256x128 .f32) (r : Fin 256) :
    k0_pay6 d o (ix3 0 r 0) = ∑ x : Fin 128, d (ix2 r x) * o (ix2 r x) := by
  pointwise [k0_pay6]

def offP (k : Fin k0_t1_loop.trips) : Fin 4 → Fin 2 → Nat := ![k0_off1 k, k0_off3 k, k0_off5 k, k0_off7 k]
def lofP (k : Fin k0_t1_loop.trips) : Fin 4 → Fin 3 → Nat := ![k0_off2 k, k0_off4 k, k0_off6 k, k0_off8 k]
theorem offP_eq : ∀ (k : Fin k0_t1_loop.trips) (h : Fin 4), offP k h = ![256 * k.val, 128 * h.val] := by decide +kernel
theorem lofP_eq : ∀ (k : Fin k0_t1_loop.trips) (h : Fin 4), lofP k h = ![h.val, 256 * k.val, 0] := by decide +kernel
theorem offP_inb (i : grid0.Coords) (h1 : k0_cond1 i = 1#1) (k : Fin k0_t1_loop.trips) (h : Fin 4) : ∀ a, offP k h a + S256x128.size a ≤ S2048x512.size a := by
  match h with
  | 0 => exact k0_off1_inb i k h1
  | 1 => exact k0_off3_inb i k h1
  | 2 => exact k0_off5_inb i k h1
  | 3 => exact k0_off7_inb i k h1
theorem lofP_inb (i : grid0.Coords) (h1 : k0_cond1 i = 1#1) (k : Fin k0_t1_loop.trips) (h : Fin 4) : ∀ a, lofP k h a + S1x256x1.size a ≤ S4x2048x1.size a := by
  match h with
  | 0 => exact k0_off2_inb i k h1
  | 1 => exact k0_off4_inb i k h1
  | 2 => exact k0_off6_inb i k h1
  | 3 => exact k0_off8_inb i k h1

theorem cut_ix (v : FVec Ideal S256x128 .bf16) (i : Fin 256) (j : Fin 128) : k0_pay211 v (ix2 i j) = v (ix2 i j) := by
  pointwise [k0_pay211]

/-- Four blocks of 128 columns stored side by side, read at an entry. -/
theorem side_by_side (v : Fin 4 → FVec Ideal S256x128 .f32) (h : Fin 4) (j : Fin 256) (x : Fin 128) :
    View.canon (Val := Elt Ideal) (s := S256x512) (e := .f32)
      [⟨Rect.unit (s := S256x512) ![0, 384] S256x128.size inb_S256x512_S256x128_0_384, v 3⟩, ⟨Rect.unit (s := S256x512) ![0, 256] S256x128.size inb_S256x512_S256x128_0_256, v 2⟩,
       ⟨Rect.unit (s := S256x512) ![0, 128] S256x128.size inb_S256x512_S256x128_0_128, v 1⟩, ⟨Rect.unit (s := S256x512) ![0, 0] S256x128.size inb_S256x512_S256x128_0_0, v 0⟩]
      (ix2 j ⟨128 * h.val + x.val, by omega⟩) = v h (ix2 j x) := by
  have hG : ∀ (n : ℕ) (hn : n < 4) (z : S256x128.Idx) (inb), v ⟨n, hn⟩ z = (fun y : S256x512.Idx => v ⟨(y 1).val / 128, by have : (y 1).val < 512 := (y 1).isLt; omega⟩ (ix2 (y 0 : Fin 256) (⟨(y 1).val % 128, by omega⟩ : Fin 128)))
      ((Rect.unit (s := S256x512) ![0, 128 * n] S256x128.size inb).emb z) := by
    intro n hn z inb
    have hz1 : (z 1).val < 128 := (z 1).isLt
    have e0 : (((Rect.unit (s := S256x512) ![0, 128 * n] S256x128.size inb).emb z) 0).val = (z 0).val := by show 0 + 1 * (z 0).val = _; omega
    have e1 : (((Rect.unit (s := S256x512) ![0, 128 * n] S256x128.size inb).emb z) 1).val = 128 * n + (z 1).val := by show 128 * n + 1 * (z 1).val = _; omega
    refine congrArg₂ (fun a b => v a b) (Fin.ext ?_) ?_
    · show n = _ / 128; rw [e1]; omega
    · funext a; match a with
      | ⟨0, _⟩ => exact Fin.ext e0.symm
      | ⟨1, _⟩ => exact Fin.ext (by show (z 1).val = _ % 128; rw [e1]; omega)
  refine (View.canon_apply_of_pieces (fun y : S256x512.Idx => v ⟨(y 1).val / 128, by have : (y 1).val < 512 := (y 1).isLt; omega⟩ (ix2 (y 0 : Fin 256) (⟨(y 1).val % 128, by omega⟩ : Fin 128))) _ ?_ _
    (cover_dk ((v 0, v 0, v 1, v 1, v 2, v 2, v 3, v 3, fun _ => 0, fun _ => 0, fun _ => 0, fun _ => 0) : Carry Ideal) _)).trans ?_
  · intro p hp
    have hp' : p ∈ ([⟨Rect.unit (s := S256x512) ![0, 384] S256x128.size inb_S256x512_S256x128_0_384, v 3⟩, ⟨Rect.unit (s := S256x512) ![0, 256] S256x128.size inb_S256x512_S256x128_0_256, v 2⟩,
       ⟨Rect.unit (s := S256x512) ![0, 128] S256x128.size inb_S256x512_S256x128_0_128, v 1⟩, ⟨Rect.unit (s := S256x512) ![0, 0] S256x128.size inb_S256x512_S256x128_0_0, v 0⟩] : List (View.Piece (Elt Ideal) S256x512 .f32)) := hp
    simp only [List.mem_cons, List.not_mem_nil, or_false] at hp'
    rcases hp' with rfl | rfl | rfl | rfl
    · exact fun z => hG 3 (by omega) z inb_S256x512_S256x128_0_384
    · exact fun z => hG 2 (by omega) z inb_S256x512_S256x128_0_256
    · exact fun z => hG 1 (by omega) z inb_S256x512_S256x128_0_128
    · exact fun z => hG 0 (by omega) z inb_S256x512_S256x128_0_0
  · refine congrArg₂ (fun a b => v a b) (Fin.ext ?_) ?_
    · show (128 * h.val + x.val) / 128 = h.val; have := x.isLt; omega
    · funext a; match a with
      | ⟨0, _⟩ => rfl
      | ⟨1, _⟩ => exact Fin.ext (by show (128 * h.val + x.val) % 128 = x.val; have := x.isLt; omega)

/-- Taking a block out unchanged. -/
theorem cut_apply (v : FVec Ideal S256x128 .bf16) (y : S256x128.Idx) : k0_pay211 v y = v y := by
  rw [ix2_eta y]
  exact cut_ix v (y 0) (y 1)

/-- A block of 128 columns taken out of a tile. -/
theorem cols_apply (arg : Memref sig .tc .vmem S256x512 .bf16) (harg : arg.IsWhole) (v : FVec Ideal S256x512 .bf16) (n : ℕ) (hn : n < 4)
    (inb) (j : Fin 256) (x : Fin 128) :
    k0_pay211 (arg.view.readAt (Elt Ideal) (Rect.unit (s := S256x512) ![0, 128 * n] S256x128.size inb).toLoadRect (harg.unread v)) (ix2 j x)
      = v (ix2 j ⟨128 * n + x.val, by omega⟩) := by
  rw [cut_apply]
  show arg.view.read (Elt Ideal) (harg.unread v) _ = _
  rw [harg.read_unread]
  congr 1
  funext a
  apply Fin.ext
  match a with
  | ⟨0, _⟩ => show 0 + 1 * j.val = j.val; omega
  | ⟨1, _⟩ => show 128 * n + 1 * x.val = 128 * n + x.val; omega

theorem zero_apply (y : S256x128.Idx) : (k0_pay219 : FVec Ideal S256x128 .f32) y = 0 := Ideal.ofBits_zero_f32

/-- An entry of the four heads' sums stored side by side. -/
theorem outP_dk (y : Carry Ideal) (h : Fin 4) (j : Fin 256) (x : Fin 128) :
    View.canon (outP y).1 (ix2 j ⟨128 * h.val + x.val, by omega⟩) = dkC y h (ix2 j x) :=
  side_by_side (dkC y) h j x

theorem outP_dv (y : Carry Ideal) (h : Fin 4) (j : Fin 256) (x : Fin 128) :
    View.canon (outP y).2 (ix2 j ⟨128 * h.val + x.val, by omega⟩) = dvC y h (ix2 j x) :=
  side_by_side (dvC y) h j x

section Ends

variable (c : Dev nD) (i : grid0.Coords)
  (arg2 : Memref sig .tc .vmem S2048x512 .bf16) (harg2 : arg2.IsWhole)
  (arg3 : Memref sig .tc .vmem S256x512 .bf16) (harg3 : arg3.IsWhole)
  (arg4 : Memref sig .tc .vmem S256x512 .bf16) (harg4 : arg4.IsWhole)
  (arg5 : Memref sig .tc .vmem S2048x512 .f32) (harg5 : arg5.IsWhole)
  (arg6 : Memref sig .tc .vmem S2048x512 .f32) (harg6 : arg6.IsWhole)
  (arg7 : Memref sig .tc .vmem S4x2048x1 .f32) (harg7 : arg7.IsWhole)
  (arg8 : Memref sig .tc .vmem S2048x512 .f32) (harg8 : arg8.IsWhole)
  (arg9 : Memref sig .tc .vmem S256x512 .f32) (harg9 : arg9.IsWhole)
  (arg10 : Memref sig .tc .vmem S256x512 .f32) (harg10 : arg10.IsWhole)
  (arg11 : Memref sig .tc .vmem S4x2048x1 .f32) (harg11 : arg11.IsWhole)
  (x3 x4 : FVec Ideal S256x512 .bf16) (x5 : FVec Ideal S2048x512 .f32)
  (v4 v6 v8 v10 v12 v14 v16 v18 : FVec Ideal S256x128 .bf16)
  (x2 : FVec Ideal S2048x512 .bf16) (x6 : FVec Ideal S2048x512 .f32) (x7 : FVec Ideal S4x2048x1 .f32)
  (x11 : FVec Ideal S4x2048x1 .f32)

def deltaP (h1 : k0_cond1 i = 1#1) (k : Fin k0_t1_loop.trips) (h : Fin 4) : View.Piece (Elt Ideal) S4x2048x1 .f32 :=
  ⟨Rect.unit (s := S4x2048x1) (lofP k h) S1x256x1.size (lofP_inb i h1 k h),
    k0_pay6 (ldQS (F := Ideal) arg6 (harg6.unread x6) (offP k h) (offP_inb i h1 k h)) (ldQS (F := Ideal) arg5 (harg5.unread x5) (offP k h) (offP_inb i h1 k h))⟩

/-- Delta of a head and a row: the sum of the products of the cotangent's and the output's entries. -/
theorem delta_apply (h1 : k0_cond1 i = 1#1) (h : Fin 4) (r : Fin 2048) :
    deltaV c i arg2 harg2 arg3 harg3 arg4 harg4 arg5 harg5 arg6 harg6 arg7 harg7 arg8 harg8 arg9 harg9 arg10 harg10 arg11 harg11 x5 x6 h1 (ix3 h r 0) = ∑ x : Fin 128, x6 (ix2 r ⟨128 * h.val + x.val, by omega⟩) * x5 (ix2 r ⟨128 * h.val + x.val, by omega⟩) := by
  have hk : r.val / 256 < k0_t1_loop.trips := by rw [trips1]; have := r.isLt; omega
  rw [deltaV]
  refine (View.canon_apply_of_pieces (fun y => ∑ x : Fin 128, x6 (ix2 (y 1 : Fin 2048) ⟨128 * (y 0).val + x.val, by have : (y 0).val < 4 := (y 0).isLt; omega⟩) * x5 (ix2 (y 1 : Fin 2048) ⟨128 * (y 0).val + x.val, by have : (y 0).val < 4 := (y 0).isLt; omega⟩))
    _ ?_ _ ((mem_prep c i arg2 harg2 arg3 harg3 arg4 harg4 arg5 harg5 arg6 harg6 arg7 harg7 arg8 harg8 arg9 harg9 arg10 harg10 arg11 harg11 x5 x6 h1 ⟨r.val / 256, hk⟩ (ix3 h r 0)).2 ⟨by show 256 * (r.val / 256) ≤ r.val; omega, by show r.val < 256 * (r.val / 256) + 256; omega⟩)).trans rfl
  intro p hp
  have key : ∀ h', ∀ x : (deltaP i arg5 harg5 arg6 harg6 x5 x6 h1 ⟨r.val / 256, hk⟩ h').1.shape.Idx, (deltaP i arg5 harg5 arg6 harg6 x5 x6 h1 ⟨r.val / 256, hk⟩ h').2 x
      = (fun y : S4x2048x1.Idx => ∑ x : Fin 128, x6 (ix2 (y 1 : Fin 2048) ⟨128 * (y 0).val + x.val, by have : (y 0).val < 4 := (y 0).isLt; omega⟩) * x5 (ix2 (y 1 : Fin 2048) ⟨128 * (y 0).val + x.val, by have : (y 0).val < 4 := (y 0).isLt; omega⟩))
        ((deltaP i arg5 harg5 arg6 harg6 x5 x6 h1 ⟨r.val / 256, hk⟩ h').1.emb x) := by
    intro h' x
    have hx : x = ix3 (0 : Fin 1) (x 1 : Fin 256) (0 : Fin 1) := by
      funext z; match z with
      | ⟨0, _⟩ => exact Fin.ext (by have : (x 0).val < 1 := (x 0).isLt; show (x 0).val = 0; omega)
      | ⟨1, _⟩ => rfl
      | ⟨2, _⟩ => exact Fin.ext (by have : (x 2).val < 1 := (x 2).isLt; show (x 2).val = 0; omega)
    have hx1 : (x 1).val < 256 := (x 1).isLt
    have hx0 : (x 0).val < 1 := (x 0).isLt
    have hp := pay6_apply (ldQS (F := Ideal) arg6 (harg6.unread x6) (offP ⟨r.val / 256, hk⟩ h') (offP_inb i h1 _ h'))
      (ldQS (F := Ideal) arg5 (harg5.unread x5) (offP ⟨r.val / 256, hk⟩ h') (offP_inb i h1 _ h')) (x 1)
    refine (congrArg _ hx).trans (hp.trans ?_)
    refine Finset.sum_congr rfl fun d _ => ?_
    have e0 : (((deltaP i arg5 harg5 arg6 harg6 x5 x6 h1 ⟨r.val / 256, hk⟩ h').1.emb x) 0).val = h'.val := by
      show lofP ⟨r.val / 256, hk⟩ h' 0 + 1 * (x 0).val = _; rw [lofP_eq]; show h'.val + 1 * (x 0).val = h'.val; omega
    have e1 : (((deltaP i arg5 harg5 arg6 harg6 x5 x6 h1 ⟨r.val / 256, hk⟩ h').1.emb x) 1).val = 256 * (r.val / 256) + (x 1).val := by
      show lofP ⟨r.val / 256, hk⟩ h' 1 + 1 * (x 1).val = _; rw [lofP_eq]; show 256 * (r.val / 256) + 1 * (x 1).val = _; omega
    have hr := r.isLt
    have e2 : (ix2 (⟨(256 * (r.val / 256) + (x 1).val) % 2048, Nat.mod_lt _ (by omega)⟩ : Fin 2048) (⟨128 * h'.val + d.val, by omega⟩ : Fin 512))
        = ix2 ((((deltaP i arg5 harg5 arg6 harg6 x5 x6 h1 ⟨r.val / 256, hk⟩ h').1.emb x) 1) : Fin 2048) (⟨128 * (((deltaP i arg5 harg5 arg6 harg6 x5 x6 h1 ⟨r.val / 256, hk⟩ h').1.emb x) 0).val + d.val, by rw [e0]; omega⟩ : Fin 512) := by
      congr 1
      · apply Fin.ext; rw [e1]; show (256 * (r.val / 256) + (x 1).val) % 2048 = _; omega
      · apply Fin.ext; show 128 * h'.val + d.val = 128 * _ + d.val; rw [e0]
    have a6 := ldQS_apply arg6 (harg6.unread x6) (offP ⟨r.val / 256, hk⟩ h') (offP_inb i h1 _ h') (256 * (r.val / 256)) h' (offP_eq ⟨r.val / 256, hk⟩ h') (x 1) d
    have a5 := ldQS_apply arg5 (harg5.unread x5) (offP ⟨r.val / 256, hk⟩ h') (offP_inb i h1 _ h') (256 * (r.val / 256)) h' (offP_eq ⟨r.val / 256, hk⟩ h') (x 1) d
    rw [harg6.read_unread] at a6
    rw [harg5.read_unread] at a5
    exact congrArg₂ (· * ·) (a6.trans (congrArg x6 e2)) (a5.trans (congrArg x5 e2))
  have hp' : p ∈ [deltaP i arg5 harg5 arg6 harg6 x5 x6 h1 ⟨r.val / 256, hk⟩ 3, deltaP i arg5 harg5 arg6 harg6 x5 x6 h1 ⟨r.val / 256, hk⟩ 2,
      deltaP i arg5 harg5 arg6 harg6 x5 x6 h1 ⟨r.val / 256, hk⟩ 1, deltaP i arg5 harg5 arg6 harg6 x5 x6 h1 ⟨r.val / 256, hk⟩ 0] := hp
  simp only [List.mem_cons, List.not_mem_nil, or_false] at hp'
  rcases hp' with rfl | rfl | rfl | rfl <;> exact key _

/-- The tile that the body at a point works on. -/
def tileV : Tile := tileOf i (loadV i arg3 harg3 arg4 harg4 x3 x4).2.1 (loadV i arg3 harg3 arg4 harg4 x3 x4).2.2.1 (loadV i arg3 harg3 arg4 harg4 x3 x4).2.2.2.1 (loadV i arg3 harg3 arg4 harg4 x3 x4).2.2.2.2.1 (loadV i arg3 harg3 arg4 harg4 x3 x4).2.2.2.2.2.1 (loadV i arg3 harg3 arg4 harg4 x3 x4).2.2.2.2.2.2.1 (loadV i arg3 harg3 arg4 harg4 x3 x4).2.2.2.2.2.2.2.1 (loadV i arg3 harg3 arg4 harg4 x3 x4).2.2.2.2.2.2.2.2.1 x2 x6 x7 x11

theorem tileV_K (h : Fin 4) (j : Fin 256) (x : Fin 128) : (tileV i arg3 harg3 arg4 harg4 x3 x4 x2 x6 x7 x11).K h j x = x3 (ix2 j ⟨128 * h.val + x.val, by omega⟩) := by
  match h with
  | 0 => show (loadV i arg3 harg3 arg4 harg4 x3 x4).2.1 (ix2 j x) = _; unfold loadV; dsimp only; exact cols_apply arg3 harg3 x3 0 (by omega) _ j x
  | 1 => show (loadV i arg3 harg3 arg4 harg4 x3 x4).2.2.1 (ix2 j x) = _; unfold loadV; dsimp only; exact cols_apply arg3 harg3 x3 1 (by omega) _ j x
  | 2 => show (loadV i arg3 harg3 arg4 harg4 x3 x4).2.2.2.1 (ix2 j x) = _; unfold loadV; dsimp only; exact cols_apply arg3 harg3 x3 2 (by omega) _ j x
  | 3 => show (loadV i arg3 harg3 arg4 harg4 x3 x4).2.2.2.2.1 (ix2 j x) = _; unfold loadV; dsimp only; exact cols_apply arg3 harg3 x3 3 (by omega) _ j x

theorem tileV_V (h : Fin 4) (j : Fin 256) (x : Fin 128) : (tileV i arg3 harg3 arg4 harg4 x3 x4 x2 x6 x7 x11).V h j x = x4 (ix2 j ⟨128 * h.val + x.val, by omega⟩) := by
  match h with
  | 0 => show (loadV i arg3 harg3 arg4 harg4 x3 x4).2.2.2.2.2.1 (ix2 j x) = _; unfold loadV; dsimp only; exact cols_apply arg4 harg4 x4 0 (by omega) _ j x
  | 1 => show (loadV i arg3 harg3 arg4 harg4 x3 x4).2.2.2.2.2.2.1 (ix2 j x) = _; unfold loadV; dsimp only; exact cols_apply arg4 harg4 x4 1 (by omega) _ j x
  | 2 => show (loadV i arg3 harg3 arg4 harg4 x3 x4).2.2.2.2.2.2.2.1 (ix2 j x) = _; unfold loadV; dsimp only; exact cols_apply arg4 harg4 x4 2 (by omega) _ j x
  | 3 => show (loadV i arg3 harg3 arg4 harg4 x3 x4).2.2.2.2.2.2.2.2.1 (ix2 j x) = _; unfold loadV; dsimp only; exact cols_apply arg4 harg4 x4 3 (by omega) _ j x

theorem end_holds (g : arg8.view.ty.Contents (Elt Ideal)) :
    Holds (tileV i arg3 harg3 arg4 harg4 x3 x4 x2 x6 x7 x11) (arg8.view.read (Elt Ideal) g) arg8 2048
      (endV c i arg2 harg2 arg3 harg3 arg4 harg4 arg5 harg5 arg6 harg6 arg7 harg7 arg8 harg8 arg9 harg9 arg10 harg10 arg11 harg11 x2 x6 x7 x11 (loadV i arg3 harg3 arg4 harg4 x3 x4) g).1 (endV c i arg2 harg2 arg3 harg3 arg4 harg4 arg5 harg5 arg6 harg6 arg7 harg7 arg8 harg8 arg9 harg9 arg10 harg10 arg11 harg11 x2 x6 x7 x11 (loadV i arg3 harg3 arg4 harg4 x3 x4) g).2 := by
  have hi : (i 1).val < 8 := (i 1).isLt
  have hB : 2048 = 512 * (((i 1).val + 2) / 2 + (k0_t4_loop i).trips) := by rw [trips4]; omega
  rw [hB]
  have hz : ∀ y, (loadV i arg3 harg3 arg4 harg4 x3 x4).2.2.2.2.2.2.2.2.2.1 y = 0 := zero_apply
  unfold endV tileV
  generalize (loadV i arg3 harg3 arg4 harg4 x3 x4) = r at hz ⊢
  obtain ⟨w1, v4, v6, v8, v10, v12, v14, v16, v18, z, w20, w2, w21, w26, w31⟩ := r
  dsimp only at hz ⊢
  refine wide_holds c i arg2 harg2 arg3 harg3 arg4 harg4 arg5 harg5 arg6 harg6 arg7 harg7 arg8 harg8 arg9 harg9 arg10 harg10 arg11 harg11 v4 v6 v8 v10 v12 v14 v16 v18 x2 x6 x7 x11 _ (arg8.view.read (Elt Ideal) g) _ _ ?_ _ le_rfl
  by_cases h2 : k0_cond2 i = 1#1
  · have he := (even_iff i).1 h2
    simp only [midV, dif_pos h2]
    exact even_holds c i arg2 harg2 arg3 harg3 arg4 harg4 arg5 harg5 arg6 harg6 arg7 harg7 arg8 harg8 arg9 harg9 arg10 harg10 arg11 harg11 v4 v6 v8 v10 v12 v14 v16 v18 x2 x6 x7 x11 h2 z hz w1 w20 w2 w21 w26 w31 g (by omega)
  · have he : ¬ (i 1).val % 2 = 0 := fun e => h2 ((even_iff i).2 e)
    simp only [midV, dif_neg h2]
    exact odd_holds c i arg2 harg2 arg3 harg3 arg4 harg4 arg5 harg5 arg6 harg6 arg7 harg7 arg8 harg8 arg9 harg9 arg10 harg10 arg11 harg11 v4 v6 v8 v10 v12 v14 v16 v18 x2 x6 x7 x11 h2 z hz w1 w20 w2 w21 w26 w31 g (by omega)

end Ends

end Cert.AttnIdeal.Hand
end
-- ==== Proof.AttnArr.lean ====
module

public import proofs.«01_k».proof.Proof.AttnEnd

/-! The attention backward kernel's three result arrays, entry by entry, as sums over whole rows and columns of its six
arguments. -/

@[expose] public section

set_option maxRecDepth 16384

noncomputable section

namespace Cert.AttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal Cert.AttnIdeal.Gen

/-- A row of one head of an array of eight heads' columns. -/
def slot {e : EltTy} (x : S2048x1024.Idx → Elt Ideal e) (h : Fin 8) (r : ℕ) (d : Fin 128) : Elt Ideal e :=
  x (ix2 ⟨r % 2048, Nat.mod_lt _ (by omega)⟩ ⟨128 * h.val + d.val, by omega⟩)

section Whole
variable (q k v : S2048x1024.Idx → Elt Ideal .bf16) (o d : S2048x1024.Idx → Elt Ideal .f32) (l : S8x2048x1.Idx → Elt Ideal .f32) (h : Fin 8)

/-- The score of a row and a column, unscaled. -/
def gsc (r C : ℕ) : EReal := ∑ x : Fin 128, slot (e := .bf16) q h r x * slot (e := .bf16) k h C x
/-- Its probability, by the row's saved log-sum. -/
def gpr (r C : ℕ) : EReal := Ideal.exp ((if C ≤ r then gsc q k h r C * sC else ⊥) - l (ix3 h ⟨r % 2048, Nat.mod_lt _ (by omega)⟩ 0))
/-- The sum of the products of the output's and the cotangent's entries. -/
def gdelta (r : ℕ) : EReal := ∑ x : Fin 128, slot (e := .f32) d h r x * slot (e := .f32) o h r x
/-- The gradient of the score. -/
def gds (r C : ℕ) : EReal :=
  gpr q k l h r C * ((∑ x : Fin 128, slot (e := .f32) d h r x * slot (e := .bf16) v h C x) - gdelta o d h r) * sC

end Whole

theorem pt_lt (t : Fin cfg0.N) : t.val < 16 := by have := t.isLt; have : cfg0.N = 16 := N_0; omega

theorem coords_one : ∀ t : Fin cfg0.N, ((grid0.coords t) 1).val = t.val % 8 := by decide +kernel

theorem index_whole : ∀ t : Fin cfg0.N, (win0_0.index t 0 = 0 ∧ win0_0.index t 1 = t.val / 8) ∧ (win0_3.index t 0 = 0 ∧ win0_3.index t 1 = t.val / 8)
    ∧ (win0_4.index t 0 = 0 ∧ win0_4.index t 1 = t.val / 8) ∧ (win0_6.index t 0 = 0 ∧ win0_6.index t 1 = t.val / 8) := by decide +kernel

theorem index_tile : ∀ t : Fin cfg0.N, (win0_1.index t 0 = t.val % 8 ∧ win0_1.index t 1 = t.val / 8) ∧ (win0_2.index t 0 = t.val % 8 ∧ win0_2.index t 1 = t.val / 8)
    ∧ (win0_7.index t 0 = t.val % 8 ∧ win0_7.index t 1 = t.val / 8) ∧ (win0_8.index t 0 = t.val % 8 ∧ win0_8.index t 1 = t.val / 8) := by decide +kernel

theorem index_lse : ∀ t : Fin cfg0.N, win0_5.index t 0 = t.val / 8 ∧ win0_5.index t 1 = 0 ∧ win0_5.index t 2 = 0 := by decide +kernel

section Arrays

variable (m : (ℓ : Loc nD τ sig) → Buf (Elt Ideal) ℓ) (c : Dev nD)

theorem iblk0_apply (t : Fin cfg0.N) (r : Fin 2048) (x : Fin 512) :
    iblk m c 0 t (ix2 r x) = V m c main_v34 (ix2 ⟨r.val, by have := pt_lt t; omega⟩ ⟨512 * (t.val / 8) + x.val, by have := pt_lt t; omega⟩) := by
  unfold iblk
  generalize V m c = G
  rw [View.read_apply]
  show G main_v34 _ = _
  congr 1
  funext a
  apply Fin.ext
  match a with
  | ⟨0, _⟩ => show win0_0.index t 0 * 2048 + 1 * r.val = r.val; rw [(index_whole t).1.1]; omega
  | ⟨1, _⟩ => show win0_0.index t 1 * 512 + 1 * x.val = 512 * (t.val / 8) + x.val; rw [(index_whole t).1.2]; omega

theorem iblk3_apply (t : Fin cfg0.N) (r : Fin 2048) (x : Fin 512) :
    iblk m c 3 t (ix2 r x) = V m c main_v55 (ix2 ⟨r.val, by have := pt_lt t; omega⟩ ⟨512 * (t.val / 8) + x.val, by have := pt_lt t; omega⟩) := by
  unfold iblk
  generalize V m c = G
  rw [View.read_apply]
  show G main_v55 _ = _
  congr 1
  funext a
  apply Fin.ext
  match a with
  | ⟨0, _⟩ => show win0_3.index t 0 * 2048 + 1 * r.val = r.val; rw [(index_whole t).2.1.1]; omega
  | ⟨1, _⟩ => show win0_3.index t 1 * 512 + 1 * x.val = 512 * (t.val / 8) + x.val; rw [(index_whole t).2.1.2]; omega

theorem iblk4_apply (t : Fin cfg0.N) (r : Fin 2048) (x : Fin 512) :
    iblk m c 4 t (ix2 r x) = V m c main_v58 (ix2 ⟨r.val, by have := pt_lt t; omega⟩ ⟨512 * (t.val / 8) + x.val, by have := pt_lt t; omega⟩) := by
  unfold iblk
  generalize V m c = G
  rw [View.read_apply]
  show G main_v58 _ = _
  congr 1
  funext a
  apply Fin.ext
  match a with
  | ⟨0, _⟩ => show win0_4.index t 0 * 2048 + 1 * r.val = r.val; rw [(index_whole t).2.2.1.1]; omega
  | ⟨1, _⟩ => show win0_4.index t 1 * 512 + 1 * x.val = 512 * (t.val / 8) + x.val; rw [(index_whole t).2.2.1.2]; omega

theorem iblk1_apply (t : Fin cfg0.N) (r : Fin 256) (x : Fin 512) :
    iblk m c 1 t (ix2 r x) = V m c main_v38 (ix2 ⟨256 * (t.val % 8) + r.val, by have := pt_lt t; omega⟩ ⟨512 * (t.val / 8) + x.val, by have := pt_lt t; omega⟩) := by
  unfold iblk
  generalize V m c = G
  rw [View.read_apply]
  show G main_v38 _ = _
  congr 1
  funext a
  apply Fin.ext
  match a with
  | ⟨0, _⟩ => show win0_1.index t 0 * 256 + 1 * r.val = 256 * (t.val % 8) + r.val; rw [(index_tile t).1.1]; omega
  | ⟨1, _⟩ => show win0_1.index t 1 * 512 + 1 * x.val = 512 * (t.val / 8) + x.val; rw [(index_tile t).1.2]; omega

theorem iblk2_apply (t : Fin cfg0.N) (r : Fin 256) (x : Fin 512) :
    iblk m c 2 t (ix2 r x) = V m c main_v52 (ix2 ⟨256 * (t.val % 8) + r.val, by have := pt_lt t; omega⟩ ⟨512 * (t.val / 8) + x.val, by have := pt_lt t; omega⟩) := by
  unfold iblk
  generalize V m c = G
  rw [View.read_apply]
  show G main_v52 _ = _
  congr 1
  funext a
  apply Fin.ext
  match a with
  | ⟨0, _⟩ => show win0_2.index t 0 * 256 + 1 * r.val = 256 * (t.val % 8) + r.val; rw [(index_tile t).2.1.1]; omega
  | ⟨1, _⟩ => show win0_2.index t 1 * 512 + 1 * x.val = 512 * (t.val / 8) + x.val; rw [(index_tile t).2.1.2]; omega

theorem iblk5_read (t : Fin cfg0.N) : iblk m c 5 t = ((cfg0.win 5).blk t).view.read (Elt Ideal) (V m c main_v30) := rfl

theorem blk5_apply (t : Fin cfg0.N) (G : S8x2048x1.Idx → Elt Ideal .f32) (h : Fin 4) (r : Fin 2048) (z : Fin 1) :
    (((cfg0.win 5).blk t).view.read (Elt Ideal) G) (ix3 h r z) = G (((cfg0.win 5).blk t).view.emb (ix3 h r z)) := rfl

theorem emb5 (t : Fin cfg0.N) (h : Fin 4) (r : Fin 2048) (z : Fin 1) :
    ((cfg0.win 5).blk t).view.emb (ix3 h r z) = (ix3 ⟨4 * (t.val / 8) + h.val, by have := pt_lt t; omega⟩ r z : S8x2048x1.Idx) := by
  funext a
  apply Fin.ext
  match a with
  | ⟨0, _⟩ => show win0_5.index t 0 * 4 + 1 * h.val = 4 * (t.val / 8) + h.val; rw [(index_lse t).1]; omega
  | ⟨1, _⟩ => show win0_5.index t 1 * 2048 + 1 * r.val = r.val; rw [(index_lse t).2.1]; omega
  | ⟨2, _⟩ => show win0_5.index t 2 * 1 + 1 * z.val = z.val; rw [(index_lse t).2.2]; omega

theorem iblk5_apply (t : Fin cfg0.N) (h : Fin 4) (r : Fin 2048) :
    iblk m c 5 t (ix3 h r 0) = V m c main_v30 (ix3 ⟨4 * (t.val / 8) + h.val, by have := pt_lt t; omega⟩ r 0) :=
  (congrFun (iblk5_read m c t) _).trans ((blk5_apply t _ h r 0).trans (congrArg (V m c main_v30) (emb5 t h r 0)))

/-- A head's number among the eight. -/
def ghead (n : ℕ) (hn : n < 16) (h : Fin 4) : Fin 8 := ⟨4 * (n / 8) + h.val, by omega⟩

/-- The tile of a point. -/
def tileAt (t : Fin cfg0.N) : Tile :=
  tileV (grid0.coords t) (st0_1 t) (hstage0_1 ((cfg0.slots t 1).cast nbuf0_1)) (st0_2 t) (hstage0_2 ((cfg0.slots t 2).cast nbuf0_2)) (iblk m c 1 t) (iblk m c 2 t) (iblk m c 0 t) (iblk m c 4 t) (iblk m c 5 t) (deltaAt m c t.val)

theorem holds_at (t : Fin cfg0.N) (x : FVec Ideal S2048x512 .f32) :
    Holds (tileAt m c t) x (st0_6 t) 2048 (endAt m c t x).1 (endAt m c t x).2 := by
  have h := end_holds c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (iblk m c 1 t) (iblk m c 2 t) (iblk m c 0 t) (iblk m c 4 t) (iblk m c 5 t) (deltaAt m c t.val) ((hstage0_6 ((cfg0.slots t 6).cast nbuf0_6)).unread x)
  have e : (st0_6 t).view.read (Elt Ideal) ((hstage0_6 ((cfg0.slots t 6).cast nbuf0_6)).unread x) = x := Memref.IsWhole.read_unread _ _
  rw [e] at h
  exact h

/-- Columns of a group's head are the columns of the whole arrays' head. -/
theorem row_slot {e : EltTy} (A : S2048x1024.Idx → Elt Ideal e) (X : S2048x512.Idx → Elt Ideal e) (n : ℕ) (hn : n < 16)
    (hX : ∀ (r : Fin 2048) (x : Fin 512), X (ix2 r x) = A (ix2 r ⟨512 * (n / 8) + x.val, by omega⟩)) (h : Fin 4) (r : ℕ) (d : Fin 128) :
    rowOf X h r d = slot A (ghead n hn h) r d := by
  rw [rowOf, hX, slot]
  congr 2
  apply Fin.ext
  show 512 * (n / 8) + (128 * h.val + d.val) = 128 * (4 * (n / 8) + h.val) + d.val
  omega

theorem tile_Q (t : Fin cfg0.N) (h : Fin 4) (r : ℕ) (d : Fin 128) : (tileAt m c t).Q h r d = slot (e := .bf16) (V m c main_v34) (ghead t.val (pt_lt t) h) r d :=
  row_slot (e := .bf16) _ _ _ _ (fun r x => iblk0_apply m c t r x) h r d

theorem tile_D (t : Fin cfg0.N) (h : Fin 4) (r : ℕ) (d : Fin 128) : (tileAt m c t).D h r d = slot (e := .f32) (V m c main_v58) (ghead t.val (pt_lt t) h) r d :=
  row_slot (e := .f32) _ _ _ _ (fun r x => iblk4_apply m c t r x) h r d

theorem tile_K (t : Fin cfg0.N) (h : Fin 4) (j : Fin 256) (d : Fin 128) :
    (tileAt m c t).K h j d = slot (e := .bf16) (V m c main_v38) (ghead t.val (pt_lt t) h) (256 * (t.val % 8) + j.val) d := by
  unfold tileAt
  rw [tileV_K, iblk1_apply, slot]
  congr 2
  · apply Fin.ext
    show 256 * (t.val % 8) + j.val = (256 * (t.val % 8) + j.val) % 2048
    omega
  · apply Fin.ext
    show 512 * (t.val / 8) + (128 * h.val + d.val) = 128 * (4 * (t.val / 8) + h.val) + d.val
    omega

theorem tile_V (t : Fin cfg0.N) (h : Fin 4) (j : Fin 256) (d : Fin 128) :
    (tileAt m c t).V h j d = slot (e := .bf16) (V m c main_v52) (ghead t.val (pt_lt t) h) (256 * (t.val % 8) + j.val) d := by
  unfold tileAt
  rw [tileV_V, iblk2_apply, slot]
  congr 2
  · apply Fin.ext
    show 256 * (t.val % 8) + j.val = (256 * (t.val % 8) + j.val) % 2048
    omega
  · apply Fin.ext
    show 512 * (t.val / 8) + (128 * h.val + d.val) = 128 * (4 * (t.val / 8) + h.val) + d.val
    omega

theorem tile_L (t : Fin cfg0.N) (h : Fin 4) (r : ℕ) :
    (tileAt m c t).L h r = V m c main_v30 (ix3 (ghead t.val (pt_lt t) h) ⟨r % 2048, Nat.mod_lt _ (by omega)⟩ 0) :=
  iblk5_apply m c t h _

theorem tile_E (t : Fin cfg0.N) (h : Fin 4) (r : ℕ) :
    (tileAt m c t).E h r = gdelta (V m c main_v55) (V m c main_v58) (ghead t.val (pt_lt t) h) r := by
  have hg : (grp t.val).val / 8 = t.val / 8 := by
    have := pt_lt t; show t.val / 8 % 2 * 8 / 8 = t.val / 8; omega
  show deltaAt m c t.val (ix3 h ⟨r % 2048, _⟩ 0) = _
  unfold deltaAt
  rw [delta_apply, gdelta]
  refine Finset.sum_congr rfl fun d _ => ?_
  rw [iblk4_apply, iblk3_apply, slot, slot]
  have e : (⟨512 * ((grp t.val).val / 8) + (128 * h.val + d.val), by rw [hg]; have := pt_lt t; omega⟩ : Fin 1024) = ⟨128 * (ghead t.val (pt_lt t) h).val + d.val, by omega⟩ := by
    apply Fin.ext
    show 512 * ((grp t.val).val / 8) + (128 * h.val + d.val) = 128 * (4 * (t.val / 8) + h.val) + d.val
    rw [hg]; omega
  exact congrArg₂ (· * ·) (congrArg (fun z => V m c main_v58 (ix2 _ z)) e) (congrArg (fun z => V m c main_v55 (ix2 _ z)) e)

theorem tile_pr (t : Fin cfg0.N) (h : Fin 4) (r : ℕ) (j : Fin 256) :
    (tileAt m c t).pr h r j = gpr (V m c main_v34) (V m c main_v38) (V m c main_v30) (ghead t.val (pt_lt t) h) r (256 * (t.val % 8) + j.val) := by
  have h0 : (tileAt m c t).c0 = 256 * (t.val % 8) := by show 256 * _ = _; rw [coords_one]
  simp only [Tile.pr, Tile.sc, gpr, gsc, tile_Q, tile_K, tile_L, h0]

theorem tile_ds (t : Fin cfg0.N) (h : Fin 4) (r : ℕ) (j : Fin 256) :
    (tileAt m c t).ds h r j = gds (V m c main_v34) (V m c main_v38) (V m c main_v52) (V m c main_v55) (V m c main_v58) (V m c main_v30) (ghead t.val (pt_lt t) h) r (256 * (t.val % 8) + j.val) := by
  simp only [Tile.ds, gds, tile_pr, tile_D, tile_V, tile_E]

/-- The gradient of the queries after point `n`: the sum over the columns of the tiles done. -/
theorem dqAt_apply : ∀ (n : ℕ) (hn : n < cfg0.N) (y : S2048x512.Idx), dqAt m c n hn y
    = ∑ C ∈ Finset.range (256 * (n % 8 + 1)), gds (V m c main_v34) (V m c main_v38) (V m c main_v52) (V m c main_v55) (V m c main_v58) (V m c main_v30) (ghead n (by have : cfg0.N = 16 := N_0; omega) (headOf y)) (y 0).val C
      * slot (e := .bf16) (V m c main_v38) (ghead n (by have : cfg0.N = 16 := N_0; omega) (headOf y)) C (colOf y)
  | n, hn, y => by
    have hN : cfg0.N = 16 := N_0
    have hy : (y 0).val < 2048 := (y 0).isLt
    rw [dqAt_eq m c ⟨n, hn⟩, dqStep, (holds_at m c ⟨n, hn⟩ _).dq y, if_pos hy, Tile.dq]
    simp only [tile_ds, tile_K]
    rw [Fin.sum_univ_eq_sum_range (fun j => gds (V m c main_v34) (V m c main_v38) (V m c main_v52) (V m c main_v55) (V m c main_v58) (V m c main_v30) (ghead n (by omega) (headOf y)) (y 0).val (256 * (n % 8) + j)
      * slot (e := .bf16) (V m c main_v38) (ghead n (by omega) (headOf y)) (256 * (n % 8) + j) (colOf y)) 256,
      show 256 * (n % 8 + 1) = 256 * (n % 8) + 256 by omega, Finset.sum_range_add]
    congr 1
    by_cases h0 : n % 8 = 0
    · rw [dqIn, if_pos h0, h0, Nat.mul_zero, Finset.range_zero, Finset.sum_empty]
      exact Ideal.ofBits_zero_f32
    · rw [dqIn, if_neg h0, dqAt_apply (n - 1) _ y]
      have e1 : (n - 1) % 8 + 1 = n % 8 := by omega
      have e2 : ghead (n - 1) (by omega) (headOf y) = ghead n (by omega) (headOf y) := by
        apply Fin.ext
        show 4 * ((n - 1) / 8) + _ = 4 * (n / 8) + _
        omega
      rw [e1, e2]

/-- A column's head among the eight, and its place there. -/
def ghd (y : S2048x1024.Idx) : Fin 8 := ⟨(y 1).val / 128, by have : (y 1).val < 1024 := (y 1).isLt; omega⟩
def gcl (y : S2048x1024.Idx) : Fin 128 := ⟨(y 1).val % 128, by omega⟩

/-- The three results. -/
def gdq (y : S2048x1024.Idx) : EReal := ∑ C ∈ Finset.range 2048, gds (V m c main_v34) (V m c main_v38) (V m c main_v52) (V m c main_v55) (V m c main_v58) (V m c main_v30) (ghd y) (y 0).val C * slot (e := .bf16) (V m c main_v38) (ghd y) C (gcl y)
def gdk (y : S2048x1024.Idx) : EReal := ∑ r ∈ Finset.range 2048, gds (V m c main_v34) (V m c main_v38) (V m c main_v52) (V m c main_v55) (V m c main_v58) (V m c main_v30) (ghd y) r (y 0).val * slot (e := .bf16) (V m c main_v34) (ghd y) r (gcl y)
def gdv (y : S2048x1024.Idx) : EReal := ∑ r ∈ Finset.range 2048, gpr (V m c main_v34) (V m c main_v38) (V m c main_v30) (ghd y) r (y 0).val * slot (e := .f32) (V m c main_v58) (ghd y) r (gcl y)

theorem emb6_val (t : Fin cfg0.N) (y : S2048x512.Idx) :
    ((((cfg0.win 6).blk t).view.emb y : S2048x1024.Idx) 0).val = (y 0).val ∧ ((((cfg0.win 6).blk t).view.emb y : S2048x1024.Idx) 1).val = 512 * (t.val / 8) + (y 1).val := by
  constructor
  · show win0_6.index t 0 * 2048 + 1 * (y 0).val = (y 0).val; rw [(index_whole t).2.2.2.1]; omega
  · show win0_6.index t 1 * 512 + 1 * (y 1).val = 512 * (t.val / 8) + (y 1).val; rw [(index_whole t).2.2.2.2]; omega

theorem emb7_val (t : Fin cfg0.N) (y : S256x512.Idx) :
    ((((cfg0.win 7).blk t).view.emb y : S2048x1024.Idx) 0).val = 256 * (t.val % 8) + (y 0).val ∧ ((((cfg0.win 7).blk t).view.emb y : S2048x1024.Idx) 1).val = 512 * (t.val / 8) + (y 1).val := by
  constructor
  · show win0_7.index t 0 * 256 + 1 * (y 0).val = 256 * (t.val % 8) + (y 0).val; rw [(index_tile t).2.2.1.1]; omega
  · show win0_7.index t 1 * 512 + 1 * (y 1).val = 512 * (t.val / 8) + (y 1).val; rw [(index_tile t).2.2.1.2]; omega

theorem emb8_val (t : Fin cfg0.N) (y : S256x512.Idx) :
    ((((cfg0.win 8).blk t).view.emb y : S2048x1024.Idx) 0).val = 256 * (t.val % 8) + (y 0).val ∧ ((((cfg0.win 8).blk t).view.emb y : S2048x1024.Idx) 1).val = 512 * (t.val / 8) + (y 1).val := by
  constructor
  · show win0_8.index t 0 * 256 + 1 * (y 0).val = 256 * (t.val % 8) + (y 0).val; rw [(index_tile t).2.2.2.1]; omega
  · show win0_8.index t 1 * 512 + 1 * (y 1).val = 512 * (t.val / 8) + (y 1).val; rw [(index_tile t).2.2.2.2]; omega

theorem at_head (t : Fin cfg0.N) (z : S2048x1024.Idx) (h : Fin 4) (x : Fin 128) (hz : (z 1).val = 512 * (t.val / 8) + (128 * h.val + x.val)) :
    ghead t.val (pt_lt t) h = ghd z ∧ x = gcl z := by
  constructor
  · apply Fin.ext
    show 4 * (t.val / 8) + h.val = (z 1).val / 128
    omega
  · apply Fin.ext
    show x.val = (z 1).val % 128
    omega

theorem arr6_eq : (dats m 0 c).arrAt 6 cfg0.N = gdq m c := by
  refine (dats m 0 c).arrAt_eq_of_covers 6 (gdq m c) (by decide +kernel) (fun t hf y => ?_)
  have ht : t.val % 8 = 7 := (flush0_6 t).1 hf
  show (dats m 0 c).after 6 t _ = gdq m c _
  rw [after0_6]
  suffices H : ∀ y : S2048x512.Idx, dqAt m c t.val t.isLt y = gdq m c (((cfg0.win 6).blk t).view.emb y) from H y
  intro y
  obtain ⟨h0, h1⟩ := emb6_val t y
  generalize (((cfg0.win 6).blk t).view.emb y : S2048x1024.Idx) = z at h0 h1
  obtain ⟨e1, e2⟩ := at_head t z (headOf y) (colOf y) (by show _ = 512 * (t.val / 8) + (128 * ((y 1).val / 128) + (y 1).val % 128); omega)
  rw [dqAt_apply, ht, e1, e2, ← h0]
  rfl

theorem split_col (y : S256x512.Idx) : ∃ (h : Fin 4) (j : Fin 256) (x : Fin 128), y = ix2 j ⟨128 * h.val + x.val, by omega⟩ := by
  have hy : (y 1).val < 512 := (y 1).isLt
  refine ⟨⟨(y 1).val / 128, by omega⟩, y 0, ⟨(y 1).val % 128, by omega⟩, (ix2_eta y).trans (congrArg (ix2 _) (Fin.ext ?_))⟩
  show (y 1).val = 128 * ((y 1).val / 128) + (y 1).val % 128
  omega

theorem out_at (t : Fin cfg0.N) (h : Fin 4) (j : Fin 256) (x : Fin 128) (z : S2048x1024.Idx) (h0 : (z 0).val = 256 * (t.val % 8) + j.val)
    (h1 : (z 1).val = 512 * (t.val / 8) + (128 * h.val + x.val)) :
    (outAt m c t).1 (ix2 j ⟨128 * h.val + x.val, by omega⟩) = gdk m c z ∧ (outAt m c t).2 (ix2 j ⟨128 * h.val + x.val, by omega⟩) = gdv m c z := by
  obtain ⟨e1, e2⟩ := at_head t z h x h1
  constructor
  · rw [outAt]
    refine (outP_dk _ h j x).trans (((holds_at m c t _).dk h j x).trans ?_)
    rw [Tile.dk, gdk]
    refine Finset.sum_congr rfl fun r _ => ?_
    rw [tile_ds, tile_Q, e1, ← e2, h0]
  · rw [outAt]
    refine (outP_dv _ h j x).trans (((holds_at m c t _).dv h j x).trans ?_)
    rw [Tile.dv, gdv]
    refine Finset.sum_congr rfl fun r _ => ?_
    rw [tile_pr, tile_D, e1, ← e2, h0]

theorem out_apply (t : Fin cfg0.N) (y : S256x512.Idx) (z : S2048x1024.Idx) (h0 : (z 0).val = 256 * (t.val % 8) + (y 0).val)
    (h1 : (z 1).val = 512 * (t.val / 8) + (y 1).val) : (outAt m c t).1 y = gdk m c z ∧ (outAt m c t).2 y = gdv m c z := by
  obtain ⟨h, j, x, rfl⟩ := split_col y
  exact out_at m c t h j x z h0 h1

theorem arr7_eq : (dats m 0 c).arrAt 7 cfg0.N = gdk m c := by
  refine (dats m 0 c).arrAt_eq_of_covers 7 (gdk m c) (by decide +kernel) (fun t hf y => ?_)
  show (dats m 0 c).after 7 t _ = gdk m c _
  rw [after0_7]
  suffices H : ∀ y : S256x512.Idx, (outAt m c t).1 y = gdk m c (((cfg0.win 7).blk t).view.emb y) from H y
  exact fun y => (out_apply m c t y _ (emb7_val t y).1 (emb7_val t y).2).1

theorem arr8_eq : (dats m 0 c).arrAt 8 cfg0.N = gdv m c := by
  refine (dats m 0 c).arrAt_eq_of_covers 8 (gdv m c) (by decide +kernel) (fun t hf y => ?_)
  show (dats m 0 c).after 8 t _ = gdv m c _
  rw [after0_8]
  suffices H : ∀ y : S256x512.Idx, (outAt m c t).2 y = gdv m c (((cfg0.win 8).blk t).view.emb y) from H y
  exact fun y => (out_apply m c t y _ (emb8_val t y).1 (emb8_val t y).2).2

end Arrays

end Cert.AttnIdeal.Hand
end
-- ==== Proof.AttnHost.lean ====
module

public import proofs.«01_k».proof.Proof.AttnArr
public import proofs.«01_k».proof.Proof.Gen.AttnRefIdeal.Read
public import Idealize.ShloMosaic.Lib.Pointwise

/-! The host lines before the attention's backward kernel: its six arguments, entry by entry, from the queries, keys,
    values and cotangents. -/

@[expose] public section

set_option maxRecDepth 16384

noncomputable section

open Idealize.ShloMosaic Idealize.ShloMosaic.TcCoe Idealize.SL.Sem

namespace Cert.AttnIdeal.Hand

open Cert.AttnIdeal Cert.AttnIdeal.Gen
open Cert.AttnRefIdeal.Read (val_main_v2 val_main_v13_0 val_main_v14)

section AnyFloat
variable {F : FTy → Type} [FloatOps F] [Named F]

/-- Each head's 96 columns at the head of 128 of their own, the rest zero. -/
def slot96 (x : FVec F S1x2048x8x96 .f32) : FVec F S2048x1024 .f32 :=
  shapeCast S2048x1024 (pad S2048x8x128 ![0, 0, 0] ![0, 0, 32] ![0, 0, 0] (shapeCast S2048x8x96 x shapeCasts_S1x2048x8x96_S2048x8x96)
    (sitofp .f32 (constantI S_ 32 0#32)) pads_S2048x8x96_S2048x8x128_000_000_0320 h_S_) shapeCasts_S2048x8x128_S2048x1024

/-- Each head's 64 columns at the head of 128 of their own, the rest zero. -/
def slot64 (x : FVec F S2048x8x64 .f32) : FVec F S2048x1024 .f32 :=
  shapeCast S2048x1024 (pad S2048x8x128 ![0, 0, 0] ![0, 0, 64] ![0, 0, 0] x
    (sitofp .f32 (constantI S_ 32 0#32)) pads_S2048x8x64_S2048x8x128_000_000_0640 h_S_) shapeCasts_S2048x8x128_S2048x1024

/-- One in column 64 of each head, zero elsewhere. -/
def lane : FVec F S2048x1024 .f32 :=
  broadcastInDim S2048x1024 ![0, 1] bcast_S1x1024_S2048x1024_0_1 (broadcastInDim S1x1024 ![1] bcast_S1024_S1x1024_1
    (shapeCast S1024 (broadcastInDim S8x128 ![0, 1] bcast_S1x128_S8x128_0_1 (shapeCast S1x128
      (uitofp .f32 (cmpi .eq (iotaInDim S128 32 0) (broadcastInDim S128 ![] bcast_S_S128 (constantI S_ 32 64#32)))) shapeCasts_S128_S1x128)) shapeCasts_S8x128_S1024))

/-- A row's number for each of its columns. -/
def wide (x : FVec F S1x8x2048x1 .f32) : FVec F S1x8x2048x2048 .f32 :=
  broadcastInDim S1x8x2048x2048 ![0, 1, 2, 3] bcast_S1x8x2048x1_S1x8x2048x2048_0_1_2_3 x
def col1 (x : FVec F S1x8x2048 .f32) : FVec F S1x8x2048x1 .f32 :=
  broadcastInDim S1x8x2048x1 ![0, 1, 2] bcast_S1x8x2048_S1x8x2048x1_0_1_2 x

/-- The exponentials of the masked scores less their row's greatest, and their row sums. -/
def expS (x0 x1 : FVec F S1x2048x8x96 .f32) : FVec F S1x8x2048x2048 .f32 :=
  Host.exp (subf (val_main_v13_0 (F := F) x0 x1) (wide (col1 (val_main_v14 (F := F) x0 x1))))
def sumS (x0 x1 : FVec F S1x2048x8x96 .f32) : FVec F S1x8x2048x1 .f32 :=
  col1 (Host.reduceAdd (expS x0 x1) (constant S_ .f32 0x00000000#32) reducesTo_S1x8x2048x2048_S1x8x2048_d3 h_S_)

/-- The attention's output and its rows' log-sums. -/
def outS (x0 x1 : FVec F S1x2048x8x96 .f32) (x2 : FVec F S1x2048x8x64 .f32) : FVec F S2048x8x64 .f32 :=
  shapeCast S2048x8x64 (transpose S1x2048x8x64 [0, 2, 1, 3] (Host.dotGeneral dot_S1x8x2048x2048_S1x8x2048x64_S1x8x2048x64_3_2_2_3_01_01 none
    (Host.divf (expS x0 x1) (wide (sumS x0 x1))) (val_main_v2 (F := F) x2)) transposes_S1x8x2048x64_S1x2048x8x64_0_2_1_3) shapeCasts_S1x2048x8x64_S2048x8x64
def lseS (x0 x1 : FVec F S1x2048x8x96 .f32) : FVec F S8x2048x1 .f32 :=
  shapeCast S8x2048x1 (addf (col1 (val_main_v14 (F := F) x0 x1)) (Host.log (sumS x0 x1))) shapeCasts_S1x8x2048x1_S8x2048x1

variable (m : (ℓ : Loc nD τ sig) → Buf (Elt F) ℓ) (c : Dev nD)

/-- What the host hands to the kernel. -/
theorem V_host : V m c main_v34 = truncf .bf16 (slot96 (m ((c : Thread nD τ).loc main_arg0))) bitsLt_bf16_f32
    ∧ V m c main_v38 = truncf .bf16 (slot96 (m ((c : Thread nD τ).loc main_arg1))) bitsLt_bf16_f32
    ∧ V m c main_v52 = truncf .bf16 (addf (slot64 (shapeCast S2048x8x64 (m ((c : Thread nD τ).loc main_arg2)) shapeCasts_S1x2048x8x64_S2048x8x64)) lane) bitsLt_bf16_f32
    ∧ V m c main_v58 = slot64 (shapeCast S2048x8x64 (m ((c : Thread nD τ).loc main_arg3)) shapeCasts_S1x2048x512_S2048x8x64)
    ∧ V m c main_v30 = lseS (m ((c : Thread nD τ).loc main_arg0)) (m ((c : Thread nD τ).loc main_arg1))
    ∧ V m c main_v55 = slot64 (outS (m ((c : Thread nD τ).loc main_arg0)) (m ((c : Thread nD τ).loc main_arg1)) (m ((c : Thread nD τ).loc main_arg2))) := by
  refine ⟨?_, ?_, ?_, ?_, ?_, ?_⟩
  all_goals
    unfold V
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
    after_results_simp <;> rfl

end AnyFloat

section Entries

theorem neg_inf : Ideal.ofBits .f32 0xFF800000#32 = ⊥ := by simp [Ideal.ofBits, Ideal.ieee]
theorem sitofp_zero : (FloatOps.sitofp .f32 (0#32) : Ideal .f32) = 0 := by
  show (((0#32).toInt : ℝ) : EReal) = 0
  simp

open Idealize.ShloMosaic.Pointwise in
theorem unslot {e : EltTy} (y : S2048x8x128.Idx → Elt Ideal e) (r : Fin 2048) (h : Fin 8) (d : Fin 128) :
    shapeCast S2048x1024 y shapeCasts_S2048x8x128_S2048x1024 (ix2 r ⟨128 * h.val + d.val, by omega⟩) = y (ix3 r h d) := by
  pointwise

theorem slot96_apply (x : FVec Ideal S1x2048x8x96 .f32) (r : Fin 2048) (h : Fin 8) (d : Fin 128) :
    slot96 x (ix2 r ⟨128 * h.val + d.val, by omega⟩) = if hd : d.val < 96 then x (ix4 0 r h ⟨d.val, hd⟩) else 0 := by
  rw [slot96]
  refine (unslot (e := .f32) _ r h d).trans ?_
  pointwise
  rw [sitofp_zero]

theorem slot64_apply (x : FVec Ideal S2048x8x64 .f32) (r : Fin 2048) (h : Fin 8) (d : Fin 128) :
    slot64 x (ix2 r ⟨128 * h.val + d.val, by omega⟩) = if hd : d.val < 64 then x (ix3 r h ⟨d.val, hd⟩) else 0 := by
  rw [slot64]
  refine (unslot (e := .f32) _ r h d).trans ?_
  pointwise
  rw [sitofp_zero]

theorem lane_apply (r : Fin 2048) (h : Fin 8) (d : Fin 128) :
    lane (F := Ideal) (ix2 r ⟨128 * h.val + d.val, by omega⟩) = if d.val = 64 then 1 else 0 := by
  pointwise [lane]
  show (((IntOp.cmpi CmpIPredicate.eq (BitVec.ofNat 32 d.val) 64#32).toNat : ℝ) : EReal) = _
  by_cases h64 : d.val = 64
  · rw [h64, if_pos rfl]; simp [IntOp.cmpi]
  · have : BitVec.ofNat 32 d.val ≠ 64#32 := fun e => h64 (by have := congrArg BitVec.toNat e; simp at this; omega)
    rw [if_neg h64]; simp [IntOp.cmpi, this]

theorem drop_v (x : FVec Ideal S1x2048x8x64 .f32) (r : Fin 2048) (h : Fin 8) (d : Fin 64) :
    shapeCast S2048x8x64 x shapeCasts_S1x2048x8x64_S2048x8x64 (ix3 r h d) = x (ix4 0 r h d) := by
  pointwise

theorem split_ct (x : FVec Ideal S1x2048x512 .f32) (r : Fin 2048) (h : Fin 8) (d : Fin 64) :
    shapeCast S2048x8x64 x shapeCasts_S1x2048x512_S2048x8x64 (ix3 r h d) = x (ix3 0 r ⟨64 * h.val + d.val, by omega⟩) := by
  pointwise
  exact congrArg (fun z => x (ix3 0 r z)) (Fin.ext (by show h.val * 64 + d.val = 64 * h.val + d.val; omega))

theorem col1_apply (x : FVec Ideal S1x8x2048 .f32) (h : Fin 8) (r : Fin 2048) : col1 x (ix4 0 h r 0) = x (ix3 0 h r) := by
  pointwise [col1]

theorem rowsum_apply (x : FVec Ideal S1x8x2048x2048 .f32) (h : Fin 8) (r : Fin 2048) :
    Host.reduceAdd x (constant S_ .f32 0x00000000#32) reducesTo_S1x8x2048x2048_S1x8x2048_d3 h_S_ (ix3 0 h r) = ∑ C : Fin 2048, x (ix4 0 h r C) := by
  pointwise

theorem rowmax_apply (x0 x1 : FVec Ideal S1x2048x8x96 .f32) (h : Fin 8) (r : Fin 2048) :
    val_main_v14 (F := Ideal) x0 x1 (ix3 0 h r) = Finset.univ.fold max ⊥ fun C : Fin 2048 => val_main_v13_0 (F := Ideal) x0 x1 (ix4 0 h r C) := by
  unfold val_main_v14
  generalize val_main_v13_0 (F := Ideal) x0 x1 = y
  pointwise
  exact congrArg (fun z => Finset.fold max z _ _) neg_inf

theorem score_apply (x0 x1 : FVec Ideal S1x2048x8x96 .f32) (h : Fin 8) (r C : Fin 2048) :
    val_main_v13_0 (F := Ideal) x0 x1 (ix4 0 h r C) = if C.val ≤ r.val then (∑ d : Fin 96, x0 (ix4 0 r h d) * x1 (ix4 0 C h d)) * sC else ⊥ := by
  pointwise [Cert.AttnRefIdeal.Read.val_main_v13_0, Cert.AttnRefIdeal.Read.val_main_v13_1,Cert.AttnRefIdeal.Read.val_main_v12,Cert.AttnRefIdeal.Read.val_main_v5,Cert.AttnRefIdeal.Read.val_main_v3,Cert.AttnRefIdeal.Read.val_main_v0,Cert.AttnRefIdeal.Read.val_main_v1, Cert.AttnRefIdeal.Read.val_main_v4, Cert.AttnRefIdeal.Read.val_main_v10, Cert.AttnRefIdeal.Read.val_main_v11, Cert.AttnRefIdeal.Read.val_main_v9, Cert.AttnRefIdeal.Read.val_main_v8, Cert.AttnRefIdeal.Read.val_main_v7, Cert.AttnRefIdeal.Read.val_main_v6, Cert.AttnRefIdeal.Read.val_main_cst, Cert.AttnRefIdeal.Read.val_main_call0_v2, Cert.AttnRefIdeal.Read.val_main_call0_v0, Cert.AttnRefIdeal.Read.val_main_cst_0]
  rw [mask_le _ _ (by omega) (by omega)]
  congr 1

theorem out_dot (p : FVec Ideal S1x8x2048x2048 .f32) (x2 : FVec Ideal S1x2048x8x64 .f32) (h : Fin 8) (r : Fin 2048) (d : Fin 64) :
    shapeCast S2048x8x64 (transpose S1x2048x8x64 [0, 2, 1, 3] (Host.dotGeneral (φ₂ := .f32) dot_S1x8x2048x2048_S1x8x2048x64_S1x8x2048x64_3_2_2_3_01_01 none
    p (val_main_v2 (F := Ideal) x2)) transposes_S1x8x2048x64_S1x2048x8x64_0_2_1_3) shapeCasts_S1x2048x8x64_S2048x8x64 (ix3 r h d)
      = ∑ C : Fin 2048, p (ix4 0 h r C) * x2 (ix4 0 C h d) := by
  pointwise [Cert.AttnRefIdeal.Read.val_main_v2]

theorem exp_gen (A : FVec Ideal S1x8x2048x2048 .f32) (B : FVec Ideal S1x8x2048 .f32) (h : Fin 8) (r C : Fin 2048) :
    Host.exp (subf A (wide (col1 B))) (ix4 0 h r C) = Ideal.exp (A (ix4 0 h r C) - B (ix3 0 h r)) := by
  pointwise [wide, col1]

theorem div_gen (A : FVec Ideal S1x8x2048x2048 .f32) (B : FVec Ideal S1x8x2048x1 .f32) (h : Fin 8) (r C : Fin 2048) :
    Host.divf A (wide B) (ix4 0 h r C) = Ideal.div (A (ix4 0 h r C)) (B (ix4 0 h r 0)) := by
  pointwise [wide]

theorem lse_gen (A : FVec Ideal S1x8x2048 .f32) (B : FVec Ideal S1x8x2048x1 .f32) (h : Fin 8) (r : Fin 2048) :
    shapeCast S8x2048x1 (addf (col1 A) (Host.log B)) shapeCasts_S1x8x2048x1_S8x2048x1 (ix3 h r 0) = A (ix3 0 h r) + Ideal.log (B (ix4 0 h r 0)) := by
  pointwise [col1]

theorem expS_apply (x0 x1 : FVec Ideal S1x2048x8x96 .f32) (h : Fin 8) (r C : Fin 2048) :
    expS x0 x1 (ix4 0 h r C) = Ideal.exp (val_main_v13_0 (F := Ideal) x0 x1 (ix4 0 h r C) - val_main_v14 (F := Ideal) x0 x1 (ix3 0 h r)) :=
  exp_gen _ _ h r C

theorem sumS_apply (x0 x1 : FVec Ideal S1x2048x8x96 .f32) (h : Fin 8) (r : Fin 2048) :
    sumS x0 x1 (ix4 0 h r 0) = ∑ C : Fin 2048, expS x0 x1 (ix4 0 h r C) := by
  rw [sumS, col1_apply, rowsum_apply]

theorem outS_apply (x0 x1 : FVec Ideal S1x2048x8x96 .f32) (x2 : FVec Ideal S1x2048x8x64 .f32) (h : Fin 8) (r : Fin 2048) (d : Fin 64) :
    outS x0 x1 x2 (ix3 r h d) = ∑ C : Fin 2048, Ideal.div (expS x0 x1 (ix4 0 h r C)) (sumS x0 x1 (ix4 0 h r 0)) * x2 (ix4 0 C h d) := by
  rw [outS, out_dot]
  exact Finset.sum_congr rfl fun C _ => by rw [div_gen]

theorem lseS_apply (x0 x1 : FVec Ideal S1x2048x8x96 .f32) (h : Fin 8) (r : Fin 2048) :
    lseS x0 x1 (ix3 h r 0) = val_main_v14 (F := Ideal) x0 x1 (ix3 0 h r) + Ideal.log (sumS x0 x1 (ix4 0 h r 0)) :=
  lse_gen _ _ h r

end Entries

end Cert.AttnIdeal.Hand
end
-- ==== Proof.AttnReal.lean ====
module

public import proofs.«01_k».proof.Proof.AttnHost
public import proofs.«01_k».proof.Proof.Ereal

/-! The attention's backward kernel at finite arguments: every entry of its three results is a real number, the one that
    the softmax's derivative names. -/

@[expose] public section

set_option maxRecDepth 16384

noncomputable section

open Idealize.ShloMosaic Idealize.ShloMosaic.TcCoe Idealize.SL.Sem

namespace Cert.AttnIdeal.Hand

open Cert.AttnIdeal Cert.AttnIdeal.Gen
open Cert.AttnRefIdeal.Read (val_main_v13_0 val_main_v14)

/-- Real numbers as extended ones. -/
abbrev up {s : Shape} (f : s.Idx → ℝ) : FVec Ideal s .f32 := fun i => ((f i : ℝ) : EReal)

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum over a head's columns of terms that are zero after the first `n`. -/
theorem sum_head {n k : ℕ} (f : Fin n → ℝ) :
    ∑ x : Fin (n + k), (if hx : x.val < n then ((f ⟨x.val, hx⟩ : ℝ) : EReal) else 0) = ((∑ x, f x : ℝ) : EReal) := by
  rw [Fin.sum_univ_add]
  simp [coe_sum]

def sR : ℝ := 13698540 / 2 ^ 27
theorem sC_eq : sC = ((sR : ℝ) : EReal) := by
  unfold sC sR
  simp [Ideal.ofBits, Ideal.ieee, -EReal.coe_mul]
  norm_num

section Real

variable (q k : S1x2048x8x96.Idx → ℝ) (v : S1x2048x8x64.Idx → ℝ) (ct : S1x2048x512.Idx → ℝ) (h : Fin 8)

/-- The scaled score of a row and a column. -/
def scR (r C : Fin 2048) : ℝ := (∑ d : Fin 96, q (ix4 0 r h d) * k (ix4 0 C h d)) * sR
/-- The greatest score of a row among the columns it sees. -/
def maxR (r : Fin 2048) : ℝ := (val_main_v14 (F := Ideal) (up q) (up k) (ix3 0 h r) : EReal).toReal
def eR (r C : Fin 2048) : ℝ := if C.val ≤ r.val then Real.exp (scR q k h r C - maxR q k h r) else 0
def lR (r : Fin 2048) : ℝ := ∑ C, eR q k h r C
/-- The attention's probability. -/
def pR (r C : Fin 2048) : ℝ := eR q k h r C / lR q k h r
/-- The gradient of a probability. -/
def dpR (r C : Fin 2048) : ℝ := ∑ x : Fin 64, ct (ix3 0 r ⟨64 * h.val + x.val, by omega⟩) * v (ix4 0 C h x)
/-- The gradient of an unscaled score. -/
def dsR (r C : Fin 2048) : ℝ := pR q k h r C * (dpR v ct h r C - ∑ D, pR q k h r D * dpR v ct h r D) * sR

theorem score_real (r C : Fin 2048) :
    val_main_v13_0 (F := Ideal) (up q) (up k) (ix4 0 h r C) = if C.val ≤ r.val then ((scR q k h r C : ℝ) : EReal) else ⊥ := by
  rw [score_apply]
  split_ifs
  · rw [scR, EReal.coe_mul, ← coe_sum, sC_eq]
    simp only [EReal.coe_mul]
  · rfl

theorem max_real (r : Fin 2048) : val_main_v14 (F := Ideal) (up q) (up k) (ix3 0 h r) = ((maxR q k h r : ℝ) : EReal) := by
  rw [maxR, EReal.coe_toReal]
  · rw [rowmax_apply]
    refine ne_of_lt (Finset.fold_max_lt _ |>.2 ⟨bot_lt_top, fun C _ => ?_⟩)
    rw [score_real]
    split_ifs
    · exact EReal.coe_lt_top _
    · exact bot_lt_top
  · rw [rowmax_apply]
    refine ne_of_gt ((Finset.lt_fold_max _).2 (Or.inr ⟨r, Finset.mem_univ _, ?_⟩))
    rw [score_real, if_pos le_rfl]
    exact EReal.bot_lt_coe _

theorem exp_real (r C : Fin 2048) (M : ℝ) :
    Ideal.exp ((if C.val ≤ r.val then ((scR q k h r C : ℝ) : EReal) else ⊥) - ((M : ℝ) : EReal))
      = ((if C.val ≤ r.val then Real.exp (scR q k h r C - M) else 0 : ℝ) : EReal) := by
  split_ifs
  · rw [← EReal.coe_sub, Ideal.exp_coe]
  · rw [EReal.bot_sub, Ideal.exp_bot, EReal.coe_zero]

theorem expS_real (r C : Fin 2048) : expS (up q) (up k) (ix4 0 h r C) = ((eR q k h r C : ℝ) : EReal) := by
  rw [expS_apply, max_real, score_real, exp_real, eR]

theorem sumS_real (r : Fin 2048) : sumS (up q) (up k) (ix4 0 h r 0) = ((lR q k h r : ℝ) : EReal) := by
  rw [sumS_apply, lR, ← coe_sum]
  exact Finset.sum_congr rfl fun C _ => expS_real q k h r C

theorem eR_nonneg (r C : Fin 2048) : 0 ≤ eR q k h r C := by
  unfold eR; split_ifs
  · exact (Real.exp_pos _).le
  · exact le_rfl

theorem lR_pos (r : Fin 2048) : 0 < lR q k h r := by
  refine Finset.sum_pos' (fun C _ => eR_nonneg q k h r C) ⟨r, Finset.mem_univ _, ?_⟩
  rw [eR, if_pos le_rfl]
  exact Real.exp_pos _

theorem div_real (r C : Fin 2048) : Ideal.div ((eR q k h r C : ℝ) : EReal) ((lR q k h r : ℝ) : EReal) = ((pR q k h r C : ℝ) : EReal) := by
  rw [Ideal.div_coe (lR_pos q k h r).ne', ← EReal.coe_mul, pR, mul_one_div]

theorem outS_real (r : Fin 2048) (d : Fin 64) :
    outS (up q) (up k) (up v) (ix3 r h d) = ((∑ C, pR q k h r C * v (ix4 0 C h d) : ℝ) : EReal) := by
  rw [outS_apply, ← coe_sum]
  refine Finset.sum_congr rfl fun C _ => ?_
  rw [expS_real, sumS_real, div_real, EReal.coe_mul]

theorem lseS_real (r : Fin 2048) : lseS (up q) (up k) (ix3 h r 0) = ((maxR q k h r + Real.log (lR q k h r) : ℝ) : EReal) := by
  rw [lseS_apply, max_real, sumS_real, Ideal.log_coe, if_neg (not_le.2 (lR_pos q k h r)), EReal.coe_add]

end Real

end Cert.AttnIdeal.Hand
end
-- ==== Proof.AttnOut.lean ====
module

public import proofs.«01_k».proof.Proof.AttnReal

/-! The attention's backward kernel's three results at finite arguments. -/

@[expose] public section

set_option maxRecDepth 16384

noncomputable section

open Idealize.ShloMosaic Idealize.ShloMosaic.TcCoe Idealize.SL.Sem

namespace Cert.AttnIdeal.Hand

open Cert.AttnIdeal Cert.AttnIdeal.Gen

section Real

variable (q k : S1x2048x8x96.Idx → ℝ) (v : S1x2048x8x64.Idx → ℝ) (ct : S1x2048x512.Idx → ℝ) (h : Fin 8)

/-- The kernel's six arguments. -/
def qA : S2048x1024.Idx → Elt Ideal .bf16 := truncf .bf16 (slot96 (up q)) bitsLt_bf16_f32
def vA : S2048x1024.Idx → Elt Ideal .bf16 :=
  truncf .bf16 (addf (slot64 (shapeCast S2048x8x64 (up v) shapeCasts_S1x2048x8x64_S2048x8x64)) lane) bitsLt_bf16_f32
def dA : S2048x1024.Idx → Elt Ideal .f32 := slot64 (shapeCast S2048x8x64 (up ct) shapeCasts_S1x2048x512_S2048x8x64)
def oA : S2048x1024.Idx → Elt Ideal .f32 := slot64 (outS (up q) (up k) (up v))
def lA : S8x2048x1.Idx → Elt Ideal .f32 := lseS (up q) (up k)

theorem row_mod (r : Fin 2048) : (⟨r.val % 2048, Nat.mod_lt _ (by omega)⟩ : Fin 2048) = r := Fin.ext (Nat.mod_eq_of_lt r.isLt)

theorem slot_q (r : Fin 2048) (d : Fin 128) :
    slot (e := .bf16) (qA q) h r.val d = (if hd : d.val < 96 then ((q (ix4 0 r h ⟨d.val, hd⟩) : ℝ) : EReal) else 0 : EReal) := by
  unfold slot; rw [row_mod]; exact slot96_apply (up q) r h d

theorem slot_v (r : Fin 2048) (d : Fin 128) :
    slot (e := .bf16) (vA v) h r.val d
      = ((if hd : d.val < 64 then ((v (ix4 0 r h ⟨d.val, hd⟩) : ℝ) : EReal) else 0) + (if d.val = 64 then 1 else 0) : EReal) := by
  unfold slot; rw [row_mod]
  refine (congrArg₂ (· + ·) (slot64_apply _ r h d) (lane_apply r h d)).trans ?_
  split_ifs
  · rw [drop_v]
  · rw [drop_v]
  · rfl
  · rfl

theorem slot_d (r : Fin 2048) (d : Fin 128) :
    slot (e := .f32) (dA ct) h r.val d = (if hd : d.val < 64 then ((ct (ix3 0 r ⟨64 * h.val + d.val, by omega⟩) : ℝ) : EReal) else 0 : EReal) := by
  unfold slot; rw [row_mod]
  refine (slot64_apply _ r h d).trans ?_
  split_ifs
  · rw [split_ct]
  · rfl

theorem slot_o (r : Fin 2048) (d : Fin 128) :
    slot (e := .f32) (oA q k v) h r.val d = (if hd : d.val < 64 then ((∑ C, pR q k h r C * v (ix4 0 C h ⟨d.val, hd⟩) : ℝ) : EReal) else 0 : EReal) := by
  unfold slot; rw [row_mod]
  refine (slot64_apply _ r h d).trans ?_
  split_ifs
  · rw [outS_real]
  · rfl

theorem gsc_real (r C : Fin 2048) : gsc (qA q) (qA k) h r.val C.val = ((∑ d : Fin 96, q (ix4 0 r h d) * k (ix4 0 C h d) : ℝ) : EReal) := by
  rw [gsc, ← sum_head (n := 96) (k := 32)]
  refine Finset.sum_congr rfl fun d _ => ?_
  rw [slot_q, slot_q]
  split_ifs
  · rw [EReal.coe_mul]
  · rw [mul_zero]

theorem gpr_real (r C : Fin 2048) : gpr (qA q) (qA k) (lA q k) h r.val C.val = ((pR q k h r C : ℝ) : EReal) := by
  have hl := lR_pos q k h r
  rw [gpr, gsc_real, sC_eq, ← EReal.coe_mul, row_mod, lA, lseS_real]
  refine (exp_real q k h r C _).trans (congrArg _ ?_)
  rw [pR, eR]
  split_ifs
  · rw [← sub_sub, Real.exp_sub, Real.exp_log hl]
  · rw [zero_div]

theorem gdp_real (r C : Fin 2048) :
    ∑ x : Fin 128, slot (e := .f32) (dA ct) h r.val x * slot (e := .bf16) (vA v) h C.val x = ((dpR v ct h r C : ℝ) : EReal) := by
  rw [dpR, ← sum_head (n := 64) (k := 64)]
  refine Finset.sum_congr rfl fun d _ => ?_
  rw [slot_d, slot_v]
  split_ifs
  · omega
  · rw [EReal.coe_mul, add_zero]
  · rw [zero_mul]
  · rw [zero_mul]

theorem gdelta_real (r : Fin 2048) :
    gdelta (oA q k v) (dA ct) h r.val = ((∑ C, pR q k h r C * dpR v ct h r C : ℝ) : EReal) := by
  have e : ∑ C, pR q k h r C * dpR v ct h r C
      = ∑ x : Fin 64, ct (ix3 0 r ⟨64 * h.val + x.val, by omega⟩) * ∑ C, pR q k h r C * v (ix4 0 C h x) := by
    simp only [dpR, Finset.mul_sum]
    rw [Finset.sum_comm]
    exact Finset.sum_congr rfl fun x _ => Finset.sum_congr rfl fun C _ => by ring
  rw [gdelta, e, ← sum_head (n := 64) (k := 64)]
  refine Finset.sum_congr rfl fun d _ => ?_
  rw [slot_d, slot_o]
  split_ifs
  · rw [EReal.coe_mul]
  · rw [zero_mul]

theorem gds_real (r C : Fin 2048) :
    gds (qA q) (qA k) (vA v) (oA q k v) (dA ct) (lA q k) h r.val C.val = ((dsR q k v ct h r C : ℝ) : EReal) := by
  rw [gds, gpr_real, gdp_real, gdelta_real, sC_eq, ← EReal.coe_sub, ← EReal.coe_mul, ← EReal.coe_mul, dsR]

end Real

variable (m : (ℓ : Loc nD τ sig) → Buf (Elt Ideal) ℓ) (c : Dev nD)
variable (q k : S1x2048x8x96.Idx → ℝ) (v : S1x2048x8x64.Idx → ℝ) (ct : S1x2048x512.Idx → ℝ) (h : Fin 8)

/-- The arguments of a memory are these real numbers. -/
structure Args : Prop where
  hq : m ((c : Thread nD τ).loc main_arg0) = up q
  hk : m ((c : Thread nD τ).loc main_arg1) = up k
  hv : m ((c : Thread nD τ).loc main_arg2) = up v
  hc : m ((c : Thread nD τ).loc main_arg3) = up ct

variable {m c q k v ct} (A : Args m c q k v ct)
include A

theorem arr_q : V m c main_v34 = qA q := (V_host m c).1.trans (by rw [A.hq]; rfl)
theorem arr_k : V m c main_v38 = qA k := (V_host m c).2.1.trans (by rw [A.hk]; rfl)
theorem arr_v : V m c main_v52 = vA v := (V_host m c).2.2.1.trans (by rw [A.hv]; rfl)
theorem arr_o : V m c main_v55 = oA q k v := (V_host m c).2.2.2.2.2.trans (by rw [A.hq, A.hk, A.hv]; rfl)
theorem arr_d : V m c main_v58 = dA ct := (V_host m c).2.2.2.1.trans (by rw [A.hc]; rfl)
theorem arr_l : V m c main_v30 = lA q k := (V_host m c).2.2.2.2.1.trans (by rw [A.hq, A.hk]; rfl)

theorem at_col (r : Fin 2048) (h : Fin 8) (d : Fin 128) :
    ghd (ix2 r ⟨128 * h.val + d.val, by omega⟩) = h ∧ gcl (ix2 r ⟨128 * h.val + d.val, by omega⟩) = d := by
  constructor
  · apply Fin.ext; show (128 * h.val + d.val) / 128 = h.val; omega
  · apply Fin.ext; show (128 * h.val + d.val) % 128 = d.val; omega

theorem gdq_real (r : Fin 2048) (d : Fin 128) :
    gdq m c (ix2 r ⟨128 * h.val + d.val, by omega⟩)
      = if hd : d.val < 96 then ((∑ C, dsR q k v ct h r C * k (ix4 0 C h ⟨d.val, hd⟩) : ℝ) : EReal) else 0 := by
  rw [gdq, (at_col A r h d).1, (at_col A r h d).2, arr_q A, arr_k A, arr_v A, arr_o A, arr_d A, arr_l A, Finset.sum_range]
  split_ifs with hd
  · rw [← coe_sum]
    refine Finset.sum_congr rfl fun C _ => ?_
    rw [slot_q, dif_pos hd, EReal.coe_mul]
    exact congrArg (· * _) (gds_real q k v ct h r C)
  · exact Finset.sum_eq_zero fun C _ => by rw [slot_q, dif_neg hd, mul_zero]

theorem gdk_real (r : Fin 2048) (d : Fin 128) :
    gdk m c (ix2 r ⟨128 * h.val + d.val, by omega⟩)
      = if hd : d.val < 96 then ((∑ i, dsR q k v ct h i r * q (ix4 0 i h ⟨d.val, hd⟩) : ℝ) : EReal) else 0 := by
  rw [gdk, (at_col A r h d).1, (at_col A r h d).2, arr_q A, arr_k A, arr_v A, arr_o A, arr_d A, arr_l A, Finset.sum_range]
  split_ifs with hd
  · rw [← coe_sum]
    refine Finset.sum_congr rfl fun i _ => ?_
    rw [slot_q, dif_pos hd, EReal.coe_mul]
    exact congrArg (· * _) (gds_real q k v ct h i r)
  · exact Finset.sum_eq_zero fun C _ => by rw [slot_q, dif_neg hd, mul_zero]

theorem gdv_real (r : Fin 2048) (d : Fin 128) :
    gdv m c (ix2 r ⟨128 * h.val + d.val, by omega⟩)
      = if hd : d.val < 64 then ((∑ i, pR q k h i r * ct (ix3 0 i ⟨64 * h.val + d.val, by omega⟩) : ℝ) : EReal) else 0 := by
  rw [gdv, (at_col A r h d).1, (at_col A r h d).2, arr_q A, arr_k A, arr_d A, arr_l A, Finset.sum_range]
  split_ifs with hd
  · rw [← coe_sum]
    refine Finset.sum_congr rfl fun i _ => ?_
    rw [slot_d, dif_pos hd, EReal.coe_mul]
    exact congrArg (· * _) (gpr_real q k h i r)
  · exact Finset.sum_eq_zero fun C _ => by rw [slot_d, dif_neg hd, mul_zero]

end Cert.AttnIdeal.Hand
end
-- ==== Proof.AttnRef.lean ====
module

public import proofs.«01_k».proof.Proof.AttnReal

/-! The derivative of the attention's forward lines at finite arguments, entry by entry. -/

@[expose] public section

set_option maxRecDepth 16384

noncomputable section

open Idealize.ShloMosaic Idealize.ShloMosaic.TcCoe Idealize.SL.Sem

namespace Cert.AttnIdeal.Hand

open Cert.AttnRefIdeal Cert.AttnRefIdeal.Gen Cert.AttnRefIdeal.Read

section Steps
variable (x0 x1 : FVec Ideal S1x2048x8x96 .f32) (x2 : FVec Ideal S1x2048x8x64 .f32) (x3 : FVec Ideal S1x2048x512 .f32) (h : Fin 8)

theorem swap64 (x : Fin 64) : (⟨h.val * 64 + x.val, by omega⟩ : Fin 512) = ⟨64 * h.val + x.val, by omega⟩ := Fin.ext (by show h.val * 64 + x.val = 64 * h.val + x.val; omega)

/-- A sum over two axes of one entry each. -/
theorem red03 (x : FVec Ideal S1x8x2048x1 .f32) (r : Fin 2048) :
    Ideal.hostReduceAdd reducesTo_S1x8x2048x1_S8x2048_d0_3 x 0 (ix2 h r) = x (ix4 0 h r 0) := by
  rw [Ideal.hostReduceAdd, zero_add]
  refine Finset.sum_eq_single_of_mem (ix4 0 h r 0) (Finset.mem_filter.2 ⟨Finset.mem_univ _, ?_⟩) fun i hi hne => absurd ?_ hne
  · funext a; match a with
    | ⟨0, _⟩ => rfl
    | ⟨1, _⟩ => rfl
  · have e := (Finset.mem_filter.1 hi).2
    funext a; apply Fin.ext; match a with
    | ⟨0, _⟩ => show (i 0).val = 0; exact Nat.lt_one_iff.1 (i 0).isLt
    | ⟨1, _⟩ => exact congrArg Fin.val (congrFun e 0)
    | ⟨2, _⟩ => exact congrArg Fin.val (congrFun e 1)
    | ⟨3, _⟩ => show (i 3).val = 0; exact Nat.lt_one_iff.1 (i 3).isLt

theorem r21 (r : Fin 2048) : val_main_v21 (F := Ideal) x0 x1 (ix3 0 h r) = max ⊥ (val_main_v14 (F := Ideal) x0 x1 (ix3 0 h r)) := by
  rw [val_main_v21_apply, val_main_v20_apply, val_main_cst_3_apply]
  generalize val_main_v14 (F := Ideal) x0 x1 (ix3 0 h r) = z
  exact congrArg (fun w : EReal => max w z) neg_inf

theorem r34 (r C : Fin 2048) : val_main_v34 (F := Ideal) x0 x1 (ix4 0 h r C)
    = Ideal.exp (val_main_v13_0 (F := Ideal) x0 x1 (ix4 0 h r C) - max ⊥ (val_main_v14 (F := Ideal) x0 x1 (ix3 0 h r))) :=
  (exp_gen (val_main_v13_0 (F := Ideal) x0 x1) (val_main_v21 (F := Ideal) x0 x1) h r C).trans (by rw [r21])

theorem r36 (r : Fin 2048) : val_main_v36 (F := Ideal) x0 x1 (ix4 0 h r 0) = ∑ C : Fin 2048, val_main_v34 (F := Ideal) x0 x1 (ix4 0 h r C) := by
  unfold val_main_v36 val_main_v35 val_main_cst_9
  generalize val_main_v34 (F := Ideal) x0 x1 = A
  pointwise

theorem r38 (r C : Fin 2048) : val_main_v38 (F := Ideal) x0 x1 (ix4 0 h r C)
    = Ideal.div (val_main_v34 (F := Ideal) x0 x1 (ix4 0 h r C)) (val_main_v36 (F := Ideal) x0 x1 (ix4 0 h r 0)) := by
  unfold val_main_v38 val_main_v37
  generalize val_main_v34 (F := Ideal) x0 x1 = A
  generalize val_main_v36 (F := Ideal) x0 x1 = B
  pointwise

theorem r49 (r C : Fin 2048) : val_main_v49 (F := Ideal) x2 x3 (ix4 0 h r C)
    = ∑ x : Fin 64, x3 (ix3 0 r ⟨64 * h.val + x.val, by omega⟩) * x2 (ix4 0 C h x) := by
  pointwise [val_main_v49, val_main_v46, val_main_v45, val_main_v2]
  exact Finset.sum_congr rfl fun x _ => congrArg (· * _) (congrArg x3 (congrArg (ix3 0 r) (swap64 h x)))

theorem r47 (C : Fin 2048) (x : Fin 64) : val_main_v48 (F := Ideal) x0 x1 x3 (ix4 0 h C x)
    = ∑ r : Fin 2048, x3 (ix3 0 r ⟨64 * h.val + x.val, by omega⟩) * val_main_v38 (F := Ideal) x0 x1 (ix4 0 h r C) := by
  unfold val_main_v48 val_main_v47
  generalize val_main_v38 (F := Ideal) x0 x1 = A
  pointwise [val_main_v46, val_main_v45]
  exact Finset.sum_congr rfl fun r _ => congrArg (· * _) (congrArg x3 (congrArg (ix3 0 r) (swap64 h x)))

theorem r41 (r : Fin 2048) : val_main_v41 (F := Ideal) x0 x1 (ix4 0 h r 0)
    = Ideal.div 1 (val_main_v36 (F := Ideal) x0 x1 (ix4 0 h r 0) * val_main_v36 (F := Ideal) x0 x1 (ix4 0 h r 0)) := by
  unfold val_main_v41 val_main_v40 val_main_v39 val_main_cst_10
  generalize val_main_v36 (F := Ideal) x0 x1 = A
  rw [← Ideal.ofBits_one_f32]
  pointwise

theorem r60 (r C : Fin 2048) : val_main_v60 (F := Ideal) x0 x1 x2 x3 (ix4 0 h r C)
    = -∑ D : Fin 2048, val_main_v49 (F := Ideal) x2 x3 (ix4 0 h r D) * val_main_v41 (F := Ideal) x0 x1 (ix4 0 h r 0) * val_main_v34 (F := Ideal) x0 x1 (ix4 0 h r D) := by
  unfold val_main_v60 val_main_v59 val_main_v58 val_main_v55 val_main_v54 val_main_v53 val_main_v52 val_main_v51 val_main_v50 val_main_cst_12 val_main_cst_11
  generalize val_main_v49 (F := Ideal) x2 x3 = A
  generalize val_main_v41 (F := Ideal) x0 x1 = B
  generalize val_main_v34 (F := Ideal) x0 x1 = E
  pointwise
  rw [red03]
  pointwise

theorem r65 (r C : Fin 2048) : val_main_v65 (F := Ideal) x0 x1 x2 x3 (ix4 0 h r C)
    = (if C.val ≤ r.val then (Ideal.div (val_main_v49 (F := Ideal) x2 x3 (ix4 0 h r C)) (val_main_v36 (F := Ideal) x0 x1 (ix4 0 h r 0))
        + val_main_v60 (F := Ideal) x0 x1 x2 x3 (ix4 0 h r C)) * val_main_v34 (F := Ideal) x0 x1 (ix4 0 h r C) else 0) * sC := by
  unfold val_main_v65 val_main_v64 val_main_v63 val_main_v62 val_main_v61 val_main_v57 val_main_v56 val_main_cst_13 val_main_call1_v0 val_main_call1_cst
  generalize val_main_v49 (F := Ideal) x2 x3 = A
  generalize val_main_v36 (F := Ideal) x0 x1 = B
  generalize val_main_v60 (F := Ideal) x0 x1 x2 x3 = D
  generalize val_main_v34 (F := Ideal) x0 x1 = E
  pointwise [val_main_v13_1,val_main_v12, val_main_v10, val_main_v11, val_main_v9, val_main_v8, val_main_v7, val_main_v6]
  rw [mask_le _ _ (by omega) (by omega)]
  split_ifs
  · rfl
  · exact (zero_mul _).symm

theorem r73 (r : Fin 2048) (d : Fin 128) : val_main_v73 (F := Ideal) x0 x1 x2 x3 (ix2 r ⟨128 * h.val + d.val, by omega⟩)
    = if hd : d.val < 96 then ∑ C : Fin 2048, val_main_v65 (F := Ideal) x0 x1 x2 x3 (ix4 0 h r C) * x1 (ix4 0 C h ⟨d.val, hd⟩) else 0 := by
  unfold val_main_v73 val_main_v72 val_main_v71 val_main_v70 val_main_v67 val_main_call2_v0 val_main_c
  generalize val_main_v65 (F := Ideal) x0 x1 x2 x3 = A
  refine (unslot (e := .f32) _ r h d).trans ?_
  pointwise [val_main_v1]
  rw [sitofp_zero]

theorem r76 (r : Fin 2048) (d : Fin 128) : val_main_v76 (F := Ideal) x0 x1 x2 x3 (ix2 r ⟨128 * h.val + d.val, by omega⟩)
    = if hd : d.val < 96 then ∑ i : Fin 2048, val_main_v65 (F := Ideal) x0 x1 x2 x3 (ix4 0 h i r) * x0 (ix4 0 i h ⟨d.val, hd⟩) else 0 := by
  unfold val_main_v76 val_main_v75 val_main_v74 val_main_v69 val_main_v66 val_main_call3_v0 val_main_c_14
  generalize val_main_v65 (F := Ideal) x0 x1 x2 x3 = A
  refine (unslot (e := .f32) _ r h d).trans ?_
  pointwise [val_main_v0]
  rw [sitofp_zero]

theorem r79 (r : Fin 2048) (d : Fin 128) : val_main_v79 (F := Ideal) x0 x1 x3 (ix2 r ⟨128 * h.val + d.val, by omega⟩)
    = if hd : d.val < 64 then val_main_v48 (F := Ideal) x0 x1 x3 (ix4 0 h r ⟨d.val, hd⟩) else 0 := by
  unfold val_main_v79 val_main_v78 val_main_v77 val_main_v68 val_main_call4_v0 val_main_c_15
  generalize val_main_v48 (F := Ideal) x0 x1 x3 = A
  refine (unslot (e := .f32) _ r h d).trans ?_
  pointwise
  rw [sitofp_zero]

end Steps

section Real
variable (q k : S1x2048x8x96.Idx → ℝ) (v : S1x2048x8x64.Idx → ℝ) (ct : S1x2048x512.Idx → ℝ) (h : Fin 8)

theorem r34_real (r C : Fin 2048) : val_main_v34 (F := Ideal) (up q) (up k) (ix4 0 h r C) = ((eR q k h r C : ℝ) : EReal) := by
  rw [r34, max_real, max_eq_right bot_le, score_real, exp_real, eR]

theorem r36_real (r : Fin 2048) : val_main_v36 (F := Ideal) (up q) (up k) (ix4 0 h r 0) = ((lR q k h r : ℝ) : EReal) := by
  rw [r36, lR, ← coe_sum]
  exact Finset.sum_congr rfl fun C _ => r34_real q k h r C

theorem r38_real (r C : Fin 2048) : val_main_v38 (F := Ideal) (up q) (up k) (ix4 0 h r C) = ((pR q k h r C : ℝ) : EReal) := by
  rw [r38, r34_real, r36_real, div_real]

theorem r49_real (r C : Fin 2048) : val_main_v49 (F := Ideal) (up v) (up ct) (ix4 0 h r C) = ((dpR v ct h r C : ℝ) : EReal) := by
  rw [r49, dpR, ← coe_sum]
  exact Finset.sum_congr rfl fun x _ => (EReal.coe_mul _ _).symm

theorem r48_real (C : Fin 2048) (x : Fin 64) : val_main_v48 (F := Ideal) (up q) (up k) (up ct) (ix4 0 h C x)
    = ((∑ r, pR q k h r C * ct (ix3 0 r ⟨64 * h.val + x.val, by omega⟩) : ℝ) : EReal) := by
  rw [r47, ← coe_sum]
  exact Finset.sum_congr rfl fun r _ => by rw [r38_real, mul_comm, EReal.coe_mul]

theorem r60_real (r C : Fin 2048) : val_main_v60 (F := Ideal) (up q) (up k) (up v) (up ct) (ix4 0 h r C)
    = ((-∑ D, dpR v ct h r D * (1 / (lR q k h r * lR q k h r)) * eR q k h r D : ℝ) : EReal) := by
  have hl := lR_pos q k h r
  rw [r60, EReal.coe_neg, ← coe_sum]
  refine congrArg Neg.neg (Finset.sum_congr rfl fun D _ => ?_)
  rw [r49_real, r41, r36_real, r34_real, ← EReal.coe_mul (lR q k h r), Ideal.div_coe (mul_pos hl hl).ne', one_mul, EReal.coe_mul, EReal.coe_mul]

theorem r65_real (r C : Fin 2048) : val_main_v65 (F := Ideal) (up q) (up k) (up v) (up ct) (ix4 0 h r C) = ((dsR q k v ct h r C : ℝ) : EReal) := by
  have hl := (lR_pos q k h r).ne'
  rw [r65, r60_real, r49_real, r36_real, r34_real, sC_eq, Ideal.div_coe hl, dsR]
  split_ifs with hm
  · rw [← EReal.coe_mul, ← EReal.coe_add, ← EReal.coe_mul, ← EReal.coe_mul]
    refine congrArg _ ?_
    have e : ∑ D, dpR v ct h r D * (1 / (lR q k h r * lR q k h r)) * eR q k h r D
        = (∑ D, pR q k h r D * dpR v ct h r D) * (1 / lR q k h r) := by
      rw [Finset.sum_mul]
      refine Finset.sum_congr rfl fun D _ => ?_
      rw [pR]; field_simp
    rw [e, pR]
    field_simp
    ring
  · rw [zero_mul, pR, eR, if_neg hm, zero_div, zero_mul, zero_mul, EReal.coe_zero]

theorem r73_real (r : Fin 2048) (d : Fin 128) :
    val_main_v73 (F := Ideal) (up q) (up k) (up v) (up ct) (ix2 r ⟨128 * h.val + d.val, by omega⟩)
      = if hd : d.val < 96 then ((∑ C, dsR q k v ct h r C * k (ix4 0 C h ⟨d.val, hd⟩) : ℝ) : EReal) else 0 := by
  rw [r73]
  split_ifs with hd
  · rw [← coe_sum]
    exact Finset.sum_congr rfl fun C _ => by rw [r65_real, EReal.coe_mul]
  · rfl

theorem r76_real (r : Fin 2048) (d : Fin 128) :
    val_main_v76 (F := Ideal) (up q) (up k) (up v) (up ct) (ix2 r ⟨128 * h.val + d.val, by omega⟩)
      = if hd : d.val < 96 then ((∑ i, dsR q k v ct h i r * q (ix4 0 i h ⟨d.val, hd⟩) : ℝ) : EReal) else 0 := by
  rw [r76]
  split_ifs with hd
  · rw [← coe_sum]
    exact Finset.sum_congr rfl fun C _ => by rw [r65_real, EReal.coe_mul]
  · rfl

theorem r79_real (r : Fin 2048) (d : Fin 128) :
    val_main_v79 (F := Ideal) (up q) (up k) (up ct) (ix2 r ⟨128 * h.val + d.val, by omega⟩)
      = if hd : d.val < 64 then ((∑ i, pR q k h i r * ct (ix3 0 i ⟨64 * h.val + d.val, by omega⟩) : ℝ) : EReal) else 0 := by
  rw [r79]
  split_ifs with hd
  · exact r48_real q k ct h r ⟨d.val, hd⟩
  · rfl

end Real

end Cert.AttnIdeal.Hand
end
-- ==== Proof.AttnFrames.lean ====
module

public import proofs.«01_k».proof.Defs
public import proofs.«01_k».proof.Proof.AttnFrame
public import Idealize.ShloMosaic.Lib.Tactic

/-! The frame of the attention's backward kernel on machine words: the same run, with each named
    constant read as its word. -/

@[expose] public section

set_option maxRecDepth 16384

noncomputable section

namespace Cert.AttnIdeal.Hand

open Idealize.ShloMosaic Idealize.ShloMosaic.Tactic

/-- On machine words a named constant is its word. -/
@[reducible] def namedBits : Named Bits where
  named _ _ {φ} bits := FloatOps.ofBits φ bits

attribute [local instance] namedBits

theorem main_eq : Cert.Attn.main (F := Bits) = Cert.AttnIdeal.main (F := Bits) := by sl_kernel_rfl

theorem defs_eq : Cert.Attn.defs (F := Bits) = Cert.AttnIdeal.defs (F := Bits) := by sl_kernel_rfl

theorem frame_attn : Cert.quiescent_Attn := fun m ρ _ => by
  have h := frame (F := Bits) m ρ
  rw [← main_eq, ← defs_eq] at h
  exact h

end Cert.AttnIdeal.Hand
end
-- ==== Proof.Finite.lean ====
module

public import Idealize.ShloMosaic.Lib.Pipeline.ValueKit
public import Idealize.ShloMosaic.Lib.ReduceAll

/-! A printed precondition that all entries of an array are finite, as a real array. -/

@[expose] public section

noncomputable section

open Idealize.ShloMosaic

namespace Cert.Aux

theorem inf_f32 : Ideal.ofBits .f32 0x7F800000#32 = ⊤ := by simp [Ideal.ofBits, Ideal.ieee]

theorem real_of_abs_lt {x : EReal} (h : max x (-x) < ⊤) : ∃ r : ℝ, x = (r : EReal) := by
  refine ⟨x.toReal, (EReal.coe_toReal ?_ ?_).symm⟩
  · rintro rfl; simp at h
  · rintro rfl; simp at h

/-- The scalar shape. -/
abbrev S0 : Shape := ⟨0, ![]⟩

instance : Subsingleton S0.Idx := ⟨fun a b => funext fun i => i.elim0⟩

/-- If every absolute value is below infinity, the array is one of real numbers. -/
theorem real_of_all {s : Shape} {axes : List (Fin s.rank)} (x : FVec Ideal s .f32) (h : s.ReducesTo axes S0) (hu : 0 < S0.numel)
    (hb : S0.BroadcastsInDim s (![] : Fin 0 → Fin s.rank)) (init : IVec S0 1)
    (e : Host.reduce IntOp.andi (cmpf .olt (Host.absf x) (broadcastInDim s ![] hb (constant (F := Ideal) S0 .f32 0x7F800000#32))) init h hu
      (fun a => a.elim0) = 1#1) :
    ∃ f : s.Idx → ℝ, x = fun i => ((f i : ℝ) : EReal) := by
  have H : ∀ i, ∃ r : ℝ, x i = (r : EReal) := fun i => by
    have e1 : Ideal.cmp .olt (max (x i) (-(x i))) (Ideal.ofBits .f32 0x7F800000#32) = 1#1 := Host.reduce_andi_all _ init h hu _ e i
    rw [inf_f32] at e1
    refine real_of_abs_lt ?_
    by_contra hn
    rw [Ideal.cmp, decide_eq_false hn] at e1
    exact absurd e1 (by decide)
  exact ⟨fun i => (H i).choose, funext fun i => (H i).choose_spec⟩

theorem and_one {a b : BitVec 1} (h : IntOp.andi a b = 1#1) : a = 1#1 ∧ b = 1#1 := by
  revert a b; decide

end Cert.Aux

end
-- ==== Proof.AttnClaim.lean ====
module

public import proofs.«01_k».proof.Proof.AttnOut
public import proofs.«01_k».proof.Proof.AttnRef
public import proofs.«01_k».proof.Proof.AttnFrames
public import proofs.«01_k».proof.Proof.Finite
public import proofs.«01_k».proof.Proof.Gen.AttnRefIdeal.Run

/-! The claims of the attention's backward kernel. -/

@[expose] public section

set_option maxRecDepth 16384

noncomputable section

open Idealize.ShloMosaic Idealize.ShloMosaic.TcCoe Idealize.SL.Sem

namespace Cert.AttnIdeal.Hand

open Cert.AttnIdeal Cert.AttnIdeal.Gen

/-- The precondition gives real arrays. -/
theorem args_of_pre (m : (ℓ : Loc nD τ sig) → Buf (Elt Ideal) ℓ) (hp : Cert.Pre_AttnIdeal_attn_finite m) (c : Dev nD) :
    ∃ q k v ct, Args m c q k v ct := by
  have e := congrFun (hp c) (fun a => a.elim0)
  dsimp only [Cert.Pre_attn_finite.fn, Cert.Pre_attn_finite.fn_part1] at e
  obtain ⟨e3, ect⟩ := Cert.Aux.and_one e
  obtain ⟨e2, ev⟩ := Cert.Aux.and_one e3
  obtain ⟨eq, ek⟩ := Cert.Aux.and_one e2
  obtain ⟨q, hq⟩ := Cert.Aux.real_of_all _ _ _ _ _ eq
  obtain ⟨k, hk⟩ := Cert.Aux.real_of_all _ _ _ _ _ ek
  obtain ⟨v, hv⟩ := Cert.Aux.real_of_all _ _ _ _ _ ev
  obtain ⟨ct, hc⟩ := Cert.Aux.real_of_all _ _ _ _ _ ect
  exact ⟨q, k, v, ct, hq, hk, hv, hc⟩

/-- A statement about every head's columns is one about all columns. -/
theorem all_cols {A B : S2048x1024.Idx → EReal}
    (H : ∀ (r : Fin 2048) (h : Fin 8) (d : Fin 128), A (ix2 r ⟨128 * h.val + d.val, by omega⟩) = B (ix2 r ⟨128 * h.val + d.val, by omega⟩)) :
    A = B := by
  funext y
  have e : y = ix2 (y 0) ⟨128 * ((y 1).val / 128) + (y 1).val % 128, by have := (y 1).isLt; change (y 1).val < 1024 at this; omega⟩ := by
    funext a; apply Fin.ext; match a with
    | ⟨0, _⟩ => rfl
    | ⟨1, _⟩ => show (y 1).val = _ + _; exact (Nat.div_add_mod _ _).symm
  rw [e]
  exact H (y 0) ⟨(y 1).val / 128, by have := (y 1).isLt; change (y 1).val < 1024 at this; omega⟩ ⟨(y 1).val % 128, Nat.mod_lt _ (by omega)⟩

theorem frame_ref : Cert.quiescent_AttnRefIdeal := fun m ρ _ =>
  (θ_run Cert.AttnRefIdeal.defs _ _).mono (fun r h => ⟨fun c => (h c).2.2.2, sem_eq_zero_of_no_sems (by decide) r.2⟩)
    (Cert.AttnRefIdeal.Value.run (F := Ideal) m ρ)

theorem preserves : Cert.preserves_Attn_AttnIdeal :=
  IdealRules.named_const.statement Cert.AttnIdeal.κ "mask" .f32 0xF149F2CA#32 ⊥ rfl

theorem algebraic : Cert.algebraic_AttnIdeal_AttnRefIdeal_pre_attn_finite := by
  intro m g m' g' hpre hagree
  refine ⟨fun c => gdq m c, fun c => gdk m c, fun c => gdv m c, ?_, ?_⟩
  · refine (θ_run defs _ _).mono (fun r h c => ?_) (θ_run_and (run_main m g) (frame m g))
    have hw := (h.1 c).1
    have ha := h.2.1 c
    exact ⟨(hw 6).trans (arr6_eq m c), (hw 7).trans (arr7_eq m c), (hw 8).trans (arr8_eq m c), ha⟩
  · refine (θ_run Cert.AttnRefIdeal.defs _ _).mono (fun _ h c => ?_) (Cert.AttnRefIdeal.Value.run (F := Ideal) m' g')
    obtain ⟨q, k, v, ct, A⟩ := args_of_pre m hpre c
    obtain ⟨a0, a1, a2, a3⟩ := hagree c
    refine ⟨(h c).1.trans ?_, (h c).2.1.trans ?_, (h c).2.2.1.trans ?_, (h c).2.2.2⟩
    · rw [Cert.AttnRefIdeal.Read.val_main_v73_eq, a0, a1, a2, a3, A.hq, A.hk, A.hv, A.hc]
      exact all_cols fun r h d => (r73_real q k v ct h r d).trans (gdq_real h A r d).symm
    · rw [Cert.AttnRefIdeal.Read.val_main_v76_eq, a0, a1, a2, a3, A.hq, A.hk, A.hv, A.hc]
      exact all_cols fun r h d => (r76_real q k v ct h r d).trans (gdk_real h A r d).symm
    · rw [Cert.AttnRefIdeal.Read.val_main_v79_eq, a0, a1, a3, A.hq, A.hk, A.hc]
      exact all_cols fun r h d => (r79_real q k ct h r d).trans (gdv_real h A r d).symm

end Cert.AttnIdeal.Hand
end
-- ==== Proof.FfnOut.lean ====
module

public import proofs.«01_k».proof.Proof.Gen.FfnIdeal
public import proofs.«01_k».proof.Proof.Gen.FfnIdeal.Frame
public import Idealize.ShloMosaic.Lib.Pipeline.ValueKit

/-! What the feed-forward block's backward kernel leaves in its output buffers after each point of its grid: the
gradient of the rows, and four accumulators. -/

@[expose] public section

set_option maxRecDepth 16384

noncomputable section

open Idealize.ShloMosaic Idealize.ShloMosaic.TcCoe Idealize.SL.Sem

namespace Cert.FfnIdeal.Hand

open Cert.FfnIdeal Cert.FfnIdeal.Gen

variable {F : FTy → Type} [FloatOps F]
variable (m : (ℓ : Loc nD τ sig) → Buf (Elt F) ℓ) (c : Dev nD)

theorem hz2 : (![0, 0] : Fin 2 → Nat) = fun _ => 0 := funext fun a => by fin_cases a <;> rfl
theorem hz3 : (![0, 0, 0] : Fin 3 → Nat) = fun _ => 0 := funext fun a => by fin_cases a <;> rfl

/-- A point's gradient before the first product's derivative, of the rows' saved values `v`, the cotangent `y` and a part of `w2`. -/
abbrev daT (t : Fin cfg0.N) : FVec F S512x1024 .f32 := k0_pay15 (iblk m c 4 t) (iblk m c 5 t) (iblk m c 3 t)
abbrev dxT (t : Fin cfg0.N) : FVec F S1x512x1024 .f32 :=
  k0_pay19 (k0_pay6 (iblk m c 0 t)) (k0_pay7 (iblk m c 1 t)) (k0_pay9 (iblk m c 0 t)) (k0_pay10 (iblk m c 0 t))
    (k0_pay16 (iblk m c 4 t) (iblk m c 5 t) (iblk m c 3 t) (iblk m c 2 t))
abbrev dgT (t : Fin cfg0.N) : FVec F S512x1024 .f32 :=
  k0_pay17 (iblk m c 0 t) (iblk m c 4 t) (iblk m c 5 t) (iblk m c 3 t) (iblk m c 2 t)
abbrev hT (t : Fin cfg0.N) : FVec F S512x1024 .f32 := k0_pay12 (iblk m c 0 t) (iblk m c 1 t)

set_option maxHeartbeats 1000000 in
theorem outs_A (t : Fin cfg0.N) (h : t.val = 0) :
    (outsAt0 m c t.val t.isLt).1 = dxT m c t ∧ (outsAt0 m c t.val t.isLt).2.1 = k0_pay18 (dgT m c t)
    ∧ (outsAt0 m c t.val t.isLt).2.2.1 = k0_pay22 (hT m c t) (daT m c t)
    ∧ (outsAt0 m c t.val t.isLt).2.2.2.1 = k0_pay2 (k0_pay13 (iblk m c 4 t)) (k0_pay14 (iblk m c 5 t)) := by
  rw [outsAt0_A m c t (by omega) (by omega) (by omega) (by omega) (by omega) (by omega) (by omega)]
  dsimp only
  unfold out0_A_6 out0_A_7 out0_A_8 out0_A_9
  refine ⟨(View.read_writes_eq_canon _ _ _ fun _ => cover0_A_6 ..).trans ?_, (View.read_writes_eq_canon _ _ _ fun _ => cover0_A_7 ..).trans ?_,
    (View.read_writes_eq_canon _ _ _ fun _ => cover0_A_8 ..).trans ?_, (View.read_writes_eq_canon _ _ _ fun _ => cover0_A_9 ..).trans ?_⟩
  all_goals
    unfold kernelRun0_A
    dsimp only
    first | rw [View.canon_unit_zero hz3] | rw [View.canon_unit_zero hz2]
    simp only [kernelRun0_A.sl.r, kernelRun0_A.sl.r_1, kernelRun0_A.sl.r_2, kernelRun0_A.sl.r_3, kernelRun0_A.sl.r_4,
      kernelRun0_A.sl.r_5, kernelRun0_A.sl.r_6, kernelRun0_A.sl.r_7, kernelRun0_A.sl.r_8, kernelRun0_A.sl.r_9, View.readAt_eq_ld, Memref.IsWhole.read_unread, View.ld_unit_zero (S := S512x1024) hz2,
      View.ld_unit_zero (S := S1x1024) hz2, View.ld_unit_zero (S := S1x1024x1024) hz3]

variable (t : Fin cfg0.N)

set_option maxHeartbeats 1000000 in
theorem outs_D (h : t.val % 4 = 0) (h0 : t.val ≠ 0) :
    (outsAt0 m c t.val t.isLt).1 = dxT m c t ∧ (outsAt0 m c t.val t.isLt).2.1 = k0_pay20 (dgT m c t) (outsAt0 m c (t.val - 1) (by omega)).2.1
    ∧ (outsAt0 m c t.val t.isLt).2.2.1 = k0_pay22 (hT m c t) (daT m c t)
    ∧ (outsAt0 m c t.val t.isLt).2.2.2.1 = k0_pay2 (k0_pay13 (iblk m c 4 t)) (k0_pay14 (iblk m c 5 t)) := by
  have ht := t.isLt
  have hN : cfg0.N = 16 := rfl
  rw [outsAt0_D m c t (by omega) (by omega) (by omega) (by omega) (by omega) (by omega) (by omega)]
  dsimp only
  unfold out0_D_6 out0_D_7 out0_D_8 out0_D_9
  refine ⟨(View.read_writes_eq_canon _ _ _ fun _ => cover0_D_6 ..).trans ?_, (View.read_writes_eq_canon _ _ _ fun _ => cover0_D_7 ..).trans ?_,
    (View.read_writes_eq_canon _ _ _ fun _ => cover0_D_8 ..).trans ?_, (View.read_writes_eq_canon _ _ _ fun _ => cover0_D_9 ..).trans ?_⟩
  all_goals
    unfold kernelRun0_D
    dsimp only
    first | rw [View.canon_unit_zero hz3] | rw [View.canon_unit_zero hz2]
    simp only [kernelRun0_D.sl.r, kernelRun0_D.sl.r_1, kernelRun0_D.sl.r_2, kernelRun0_D.sl.r_3, kernelRun0_D.sl.r_4,
      kernelRun0_D.sl.r_5, kernelRun0_D.sl.r_6, kernelRun0_D.sl.r_7, kernelRun0_D.sl.r_8, kernelRun0_D.sl.r_9, View.readAt_eq_ld, Memref.IsWhole.read_unread, View.ld_unit_zero (S := S512x1024) hz2,
      View.ld_unit_zero (S := S1x1024) hz2, View.ld_unit_zero (S := S1x1024x1024) hz3]

set_option maxHeartbeats 1000000 in
theorem outs_B (h : 1 ≤ t.val % 4) (h3 : t.val % 4 ≠ 3) :
    (outsAt0 m c t.val t.isLt).1 = dxT m c t ∧ (outsAt0 m c t.val t.isLt).2.1 = k0_pay20 (dgT m c t) (outsAt0 m c (t.val - 1) (by omega)).2.1
    ∧ (outsAt0 m c t.val t.isLt).2.2.1 = k0_pay23 (hT m c t) (daT m c t) (outsAt0 m c (t.val - 1) (by omega)).2.2.1
    ∧ (outsAt0 m c t.val t.isLt).2.2.2.1 = k0_pay3 (k0_pay13 (iblk m c 4 t)) (k0_pay14 (iblk m c 5 t)) (outsAt0 m c (t.val - 1) (by omega)).2.2.2.1 := by
  have ht := t.isLt
  have hN : cfg0.N = 16 := rfl
  rw [outsAt0_B m c t (by omega) (by omega) (by omega) (by omega) (by omega) (by omega) (by omega)]
  dsimp only
  unfold out0_B_6 out0_B_7 out0_B_8 out0_B_9
  refine ⟨(View.read_writes_eq_canon _ _ _ fun _ => cover0_B_6 ..).trans ?_, (View.read_writes_eq_canon _ _ _ fun _ => cover0_B_7 ..).trans ?_,
    (View.read_writes_eq_canon _ _ _ fun _ => cover0_B_8 ..).trans ?_, (View.read_writes_eq_canon _ _ _ fun _ => cover0_B_9 ..).trans ?_⟩
  all_goals
    unfold kernelRun0_B
    dsimp only
    first | rw [View.canon_unit_zero hz3] | rw [View.canon_unit_zero hz2]
    simp only [kernelRun0_B.sl.r, kernelRun0_B.sl.r_1, kernelRun0_B.sl.r_2, kernelRun0_B.sl.r_3, kernelRun0_B.sl.r_4,
      kernelRun0_B.sl.r_5, kernelRun0_B.sl.r_6, kernelRun0_B.sl.r_7, kernelRun0_B.sl.r_8, kernelRun0_B.sl.r_9, View.readAt_eq_ld, Memref.IsWhole.read_unread, View.ld_unit_zero (S := S512x1024) hz2,
      View.ld_unit_zero (S := S1x1024) hz2, View.ld_unit_zero (S := S1x1024x1024) hz3]

set_option maxHeartbeats 1000000 in
theorem outs_C (h3 : t.val % 4 = 3) :
    (outsAt0 m c t.val t.isLt).1 = dxT m c t ∧ (outsAt0 m c t.val t.isLt).2.1 = k0_pay20 (dgT m c t) (outsAt0 m c (t.val - 1) (by omega)).2.1
    ∧ (outsAt0 m c t.val t.isLt).2.2.1 = k0_pay23 (hT m c t) (daT m c t) (outsAt0 m c (t.val - 1) (by omega)).2.2.1
    ∧ (outsAt0 m c t.val t.isLt).2.2.2.1 = k0_pay3 (k0_pay13 (iblk m c 4 t)) (k0_pay14 (iblk m c 5 t)) (outsAt0 m c (t.val - 1) (by omega)).2.2.2.1
    ∧ (outsAt0 m c t.val t.isLt).2.2.2.2.1 = k0_pay4 (outsAt0 m c t.val t.isLt).2.2.1
    ∧ (outsAt0 m c t.val t.isLt).2.2.2.2.2 = k0_pay5 (outsAt0 m c t.val t.isLt).2.2.2.1 := by
  have ht := t.isLt
  have hN : cfg0.N = 16 := rfl
  have e := outsAt0_C m c t (by omega) (by omega) (by omega) (by omega) (by omega) (by omega) (by omega)
  have e8 : (outsAt0 m c t.val t.isLt).2.2.1 = k0_pay23 (hT m c t) (daT m c t) (outsAt0 m c (t.val - 1) (by omega)).2.2.1 := by
    rw [e]
    dsimp only
    unfold out0_C_8
    refine (View.read_writes_eq_canon _ _ _ fun _ => cover0_C_8 ..).trans ?_
    unfold kernelRun0_C
    simp only [kernelRun0_C.sl.H8_1, kernelRun0_C.sl.H9_1]
    rw [View.canon_unit_zero hz3]
    simp only [kernelRun0_C.sl.r, kernelRun0_C.sl.r_1, kernelRun0_C.sl.r_2, kernelRun0_C.sl.r_3, kernelRun0_C.sl.r_4,
      kernelRun0_C.sl.r_5, kernelRun0_C.sl.r_6, kernelRun0_C.sl.r_7, kernelRun0_C.sl.r_8, kernelRun0_C.sl.r_9, View.readAt_eq_ld, Memref.IsWhole.read_unread, View.ld_unit_zero (S := S512x1024) hz2,
      View.ld_unit_zero (S := S1x1024) hz2, View.ld_unit_zero (S := S1x1024x1024) hz3]
  have e9 : (outsAt0 m c t.val t.isLt).2.2.2.1 = k0_pay3 (k0_pay13 (iblk m c 4 t)) (k0_pay14 (iblk m c 5 t)) (outsAt0 m c (t.val - 1) (by omega)).2.2.2.1 := by
    rw [e]
    dsimp only
    unfold out0_C_9
    refine (View.read_writes_eq_canon _ _ _ fun _ => cover0_C_9 ..).trans ?_
    unfold kernelRun0_C
    simp only [kernelRun0_C.sl.H8_1, kernelRun0_C.sl.H9_1]
    rw [View.canon_unit_zero hz3]
    simp only [kernelRun0_C.sl.r, kernelRun0_C.sl.r_1, kernelRun0_C.sl.r_2, kernelRun0_C.sl.r_3, kernelRun0_C.sl.r_4,
      kernelRun0_C.sl.r_5, kernelRun0_C.sl.r_6, kernelRun0_C.sl.r_7, kernelRun0_C.sl.r_8, kernelRun0_C.sl.r_9, View.readAt_eq_ld, Memref.IsWhole.read_unread, View.ld_unit_zero (S := S512x1024) hz2,
      View.ld_unit_zero (S := S1x1024) hz2, View.ld_unit_zero (S := S1x1024x1024) hz3]
  rw [e8, e9, e]
  clear e8 e9 e
  dsimp only
  unfold out0_C_6 out0_C_7 out0_C_10 out0_C_11
  refine ⟨(View.read_writes_eq_canon _ _ _ fun _ => cover0_C_6 ..).trans ?_, (View.read_writes_eq_canon _ _ _ fun _ => cover0_C_7 ..).trans ?_,
    rfl, rfl, (View.read_writes_eq_canon _ _ _ fun _ => cover0_C_10 ..).trans ?_, (View.read_writes_eq_canon _ _ _ fun _ => cover0_C_11 ..).trans ?_⟩
  all_goals
    unfold kernelRun0_C
    try dsimp only
    try simp only [kernelRun0_C.sl.H8_1, kernelRun0_C.sl.H9_1]
    first | rw [View.canon_unit_zero hz3] | rw [View.canon_unit_zero hz2]
    try simp only [kernelRun0_C.sl.v88, kernelRun0_C.sl.v94, kernelRun0_C.sl.H8_1, kernelRun0_C.sl.H9_1]
    simp only [kernelRun0_C.sl.r, kernelRun0_C.sl.r_1, kernelRun0_C.sl.r_2, kernelRun0_C.sl.r_3, kernelRun0_C.sl.r_4,
      kernelRun0_C.sl.r_5, kernelRun0_C.sl.r_6, kernelRun0_C.sl.r_7, kernelRun0_C.sl.r_8, kernelRun0_C.sl.r_9, View.readAt_eq_ld, Memref.IsWhole.read_unread, View.ld_unit_zero (S := S512x1024) hz2,
      View.ld_unit_zero (S := S1x1024) hz2, View.ld_unit_zero (S := S1x1024x1024) hz3]
    try rw [View.readCov_unit_zero _ hz3]

end Cert.FfnIdeal.Hand
end
-- ==== Proof.Rms.lean ====
module

public import proofs.«01_k».proof.Proof.Ereal

/-! The root-mean-square norm of a row of 1024 real numbers, and its derivative. -/

@[expose] public section

set_option maxRecDepth 16384

noncomputable section

open Idealize.ShloMosaic

namespace Cert.Rms

/-- The number added to the mean square. -/
def eps : ℝ := 8796093 / 2 ^ 43
theorem eps_f32 : Ideal.ofBits .f32 0x358637BD#32 = ((eps : ℝ) : EReal) := by
  unfold eps
  simp [Ideal.ofBits, Ideal.ieee, -EReal.coe_mul]
  norm_num
theorem eps_pos : 0 < eps := by unfold eps; norm_num
theorem neg_half_f32 : Ideal.ofBits .f32 0xBF000000#32 = ((-(1 / 2) : ℝ) : EReal) := by
  simp [Ideal.ofBits, Ideal.ieee, -EReal.coe_mul]
  norm_num

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

section Row
variable (x g dh : Fin 1024 → ℝ)

/-- The mean square and the small number. -/
def ms : ℝ := (∑ d, x d * x d) * (1 / 1024) + eps
/-- The reciprocal of its square root. -/
def rs : ℝ := 1 / Real.sqrt (ms x)
/-- The derivative of that reciprocal by the mean square. -/
def co : ℝ := -(1 / 2) * (rs x * (1 / ms x))
/-- The gradient's factor of the row itself, halved. -/
def fac : ℝ := ((∑ d, x d * (dh d * g d)) * co x) * (1 / 1024)
/-- The gradient of the row, of a gradient `dh` of its scaled norm. -/
def dx (d : Fin 1024) : ℝ := dh d * g d * rs x + x d * fac x g dh + fac x g dh * x d

theorem ms_pos : 0 < ms x :=
  add_pos_of_nonneg_of_pos (mul_nonneg (Finset.sum_nonneg fun d _ => mul_self_nonneg _) (by norm_num)) eps_pos

theorem ms_coe : (∑ d, ((x d : ℝ) : EReal) * ((x d : ℝ) : EReal)) * ((1 / 1024 : ℝ) : EReal) + ((eps : ℝ) : EReal) = ((ms x : ℝ) : EReal) := by
  rw [ms, EReal.coe_add, EReal.coe_mul, ← coe_sum]
  simp only [EReal.coe_mul]

theorem rs_coe : Ideal.rsqrt ((ms x : ℝ) : EReal) = ((rs x : ℝ) : EReal) := by
  rw [Ideal.rsqrt_coe, if_neg (not_lt.2 (ms_pos x).le), if_neg (ms_pos x).ne', rs, one_div]

theorem co_coe : ((-(1 / 2) : ℝ) : EReal) * Ideal.div ((rs x : ℝ) : EReal) ((ms x : ℝ) : EReal) = ((co x : ℝ) : EReal) := by
  rw [Ideal.div_coe (ms_pos x).ne', ← EReal.coe_mul, ← EReal.coe_mul, co]

/-- The row's gradient is linear in `dh`. -/
theorem dx_sum {n : ℕ} (f : Fin n → Fin 1024 → ℝ) (d : Fin 1024) : dx x g (fun e => ∑ p, f p e) d = ∑ p, dx x g (f p) d := by
  have h : fac x g (fun e => ∑ p, f p e) = ∑ p, fac x g (f p) := by
    simp only [fac]
    rw [← Finset.sum_mul, ← Finset.sum_mul, Finset.sum_comm]
    congr 2
    exact Finset.sum_congr rfl fun e _ => by rw [Finset.sum_mul, Finset.mul_sum]
  simp only [dx]
  rw [h, Finset.sum_add_distrib, Finset.sum_add_distrib, Finset.sum_mul, Finset.sum_mul, Finset.mul_sum, Finset.sum_mul]

end Row

end Cert.Rms
end
-- ==== Proof.FfnPay.lean ====
module

public import proofs.«01_k».proof.Proof.FfnOut
public import proofs.«01_k».proof.Proof.Rms
public import Idealize.ShloMosaic.Lib.Pointwise

/-! The feed-forward block's backward kernel at one tile of real numbers: every value its body computes, as a real number. -/

@[expose] public section

set_option maxRecDepth 16384

noncomputable section

open Idealize.ShloMosaic Idealize.ShloMosaic.TcCoe Idealize.SL.Sem

namespace Cert.FfnIdeal.Hand

open Cert.FfnIdeal Cert.FfnIdeal.Gen
open Cert.Rms

/-- A table of real numbers as an array of extended ones; a list of one table likewise. -/
def up2 {a b : ℕ} (f : Fin a → Fin b → ℝ) : (⟨2, ![a, b]⟩ : Shape).Idx → EReal := fun y => ((f (y 0) (y 1) : ℝ) : EReal)
def up1 {b : ℕ} (f : Fin b → ℝ) : (⟨2, ![1, b]⟩ : Shape).Idx → EReal := fun y => ((f (y 1) : ℝ) : EReal)
def up3 {a b : ℕ} (f : Fin a → Fin b → ℝ) : (⟨3, ![1, a, b]⟩ : Shape).Idx → EReal := fun y => ((f (y 1) (y 2) : ℝ) : EReal)

section Tile
variable (x : Fin 512 → Fin 1024 → ℝ) (g : Fin 1024 → ℝ) (w1 w2 : Fin 1024 → Fin 1024 → ℝ) (r y : Fin 512 → Fin 1024 → ℝ)

/-- The scaled norm, the gradient of the first product, the gradient of the scaled norm. -/
def tH (n : Fin 512) (d : Fin 1024) : ℝ := x n d * rs (x n) * g d
def tDa (n : Fin 512) (f : Fin 1024) : ℝ := (∑ d, y n d * w2 f d) * (2 * r n f)
def tDh (n : Fin 512) (d : Fin 1024) : ℝ := ∑ f, tDa w2 r y n f * w1 d f
def tDg (n : Fin 512) (d : Fin 1024) : ℝ := x n d * rs (x n) * tDh w1 w2 r y n d

theorem pay8_real (n : Fin 512) (z : Fin 1) : k0_pay8 (F := Ideal) (up2 x) (ix2 n z) = ((ms (x n) : ℝ) : EReal) := by
  refine Eq.trans ?_ (ms_coe (x n))
  rw [← eps_f32, ← Ideal.div_coe (by norm_num : (1024:ℝ) ≠ 0), ← Cert.Aux.k1024_f32]
  pointwise [k0_pay8, k0_pay6]
  rfl

theorem pay9_real (n : Fin 512) (z : Fin 1) : k0_pay9 (F := Ideal) (up2 x) (ix2 n z) = ((rs (x n) : ℝ) : EReal) := by
  rw [← rs_coe (x n), ← pay8_real x n z]
  rfl

theorem pay10_real (n : Fin 512) (z : Fin 1) : k0_pay10 (F := Ideal) (up2 x) (ix2 n z) = ((co (x n) : ℝ) : EReal) := by
  rw [← co_coe (x n), ← pay8_real x n z, ← pay9_real x n z, ← neg_half_f32]
  rfl

theorem pay11_real (n : Fin 512) (d : Fin 1024) : k0_pay11 (F := Ideal) (up2 x) (ix2 n d) = ((x n d * rs (x n) : ℝ) : EReal) := by
  rw [EReal.coe_mul, ← pay9_real x n 0]
  pointwise [k0_pay11, k0_pay6]
  rfl

theorem pay12_real (n : Fin 512) (d : Fin 1024) : k0_pay12 (F := Ideal) (up2 x) (up1 g) (ix2 n d) = ((tH x g n d : ℝ) : EReal) := by
  rw [tH, EReal.coe_mul, ← pay11_real x n d]
  pointwise [k0_pay12, k0_pay7]
  rfl

theorem pay15_real (n : Fin 512) (f : Fin 1024) : k0_pay15 (F := Ideal) (up2 r) (up2 y) (up3 w2) (ix2 n f) = ((tDa w2 r y n f : ℝ) : EReal) := by
  rw [tDa, EReal.coe_mul, EReal.coe_mul, ← coe_sum, ← Cert.Aux.two_f32]
  simp only [EReal.coe_mul]
  pointwise [k0_pay15, k0_pay13, k0_pay14]
  rfl

theorem pay16_real (n : Fin 512) (d : Fin 1024) : k0_pay16 (F := Ideal) (up2 r) (up2 y) (up3 w2) (up3 w1) (ix2 n d) = ((tDh w1 w2 r y n d : ℝ) : EReal) := by
  rw [tDh, ← coe_sum]
  simp only [EReal.coe_mul, ← pay15_real]
  pointwise [k0_pay16]
  rfl

theorem pay17_real (n : Fin 512) (d : Fin 1024) :
    k0_pay17 (F := Ideal) (up2 x) (up2 r) (up2 y) (up3 w2) (up3 w1) (ix2 n d) = ((tDg x w1 w2 r y n d : ℝ) : EReal) := by
  rw [tDg, EReal.coe_mul, ← pay11_real, ← pay16_real]
  rfl

theorem pay18_gen (v : FVec Ideal S512x1024 .f32) (z : Fin 1) (d : Fin 1024) : k0_pay18 (F := Ideal) v (ix2 z d) = ∑ n : Fin 512, v (ix2 n d) := by
  pointwise [k0_pay18]

theorem pay20_gen (v : FVec Ideal S512x1024 .f32) (w : FVec Ideal S1x1024 .f32) (z : Fin 1) (d : Fin 1024) :
    k0_pay20 (F := Ideal) v w (ix2 z d) = w (ix2 z d) + ∑ n : Fin 512, v (ix2 n d) := by
  pointwise [k0_pay20, k0_pay18]

theorem pay19_gen (v1 dh : FVec Ideal S512x1024 .f32) (v3 : FVec Ideal S1x1024 .f32) (v11 v14 : FVec Ideal S512x1 .f32) (z : Fin 1) (n : Fin 512) (d : Fin 1024) :
    k0_pay19 (F := Ideal) v1 v3 v11 v14 dh (ix3 z n d) = dh (ix2 n d) * v3 (ix2 0 d) * v11 (ix2 n 0)
      + v1 (ix2 n d) * Ideal.div ((∑ e : Fin 1024, v1 (ix2 n e) * (dh (ix2 n e) * v3 (ix2 0 e))) * v14 (ix2 n 0)) (Ideal.ofBits .f32 0x44800000#32)
      + Ideal.div ((∑ e : Fin 1024, v1 (ix2 n e) * (dh (ix2 n e) * v3 (ix2 0 e))) * v14 (ix2 n 0)) (Ideal.ofBits .f32 0x44800000#32) * v1 (ix2 n d) := by
  pointwise [k0_pay19]
  simp only [Fin.sum_univ_one]

theorem pay6_real (n : Fin 512) (d : Fin 1024) : k0_pay6 (F := Ideal) (up2 x) (ix2 n d) = ((x n d : ℝ) : EReal) := by
  pointwise [k0_pay6]
  rfl
theorem pay7_real (z : Fin 1) (d : Fin 1024) : k0_pay7 (F := Ideal) (up1 g) (ix2 z d) = ((g d : ℝ) : EReal) := by
  pointwise [k0_pay7]
  rfl

theorem dx_real (z : Fin 1) (n : Fin 512) (d : Fin 1024) :
    k0_pay19 (F := Ideal) (k0_pay6 (up2 x)) (k0_pay7 (up1 g)) (k0_pay9 (up2 x)) (k0_pay10 (up2 x)) (k0_pay16 (up2 r) (up2 y) (up3 w2) (up3 w1)) (ix3 z n d)
      = ((dx (x n) g (tDh w1 w2 r y n) d : ℝ) : EReal) := by
  rw [pay19_gen, Cert.Aux.k1024_f32, Ideal.div_coe (by norm_num)]
  simp only [pay6_real, pay7_real, pay9_real, pay10_real, pay16_real]
  rw [dx, fac]
  simp only [EReal.coe_add, EReal.coe_mul, ← coe_sum]

theorem pay22_gen (h a : FVec Ideal S512x1024 .f32) (z : Fin 1) (d f : Fin 1024) :
    k0_pay22 (F := Ideal) h a (ix3 z d f) = ∑ n : Fin 512, h (ix2 n d) * a (ix2 n f) := by
  pointwise [k0_pay22, k0_pay21]

theorem pay23_gen (h a : FVec Ideal S512x1024 .f32) (w : FVec Ideal S1x1024x1024 .f32) (z : Fin 1) (d f : Fin 1024) :
    k0_pay23 (F := Ideal) h a w (ix3 z d f) = w (ix3 z d f) + ∑ n : Fin 512, h (ix2 n d) * a (ix2 n f) := by
  obtain rfl : z = 0 := Subsingleton.elim _ _
  pointwise [k0_pay23, k0_pay21]

theorem pay2_gen (r : FVec Ideal S512x1024 .bf16) (y : FVec Ideal S512x1024 .f32) (z : Fin 1) (f d : Fin 1024) :
    k0_pay2 (F := Ideal) (k0_pay13 r) (k0_pay14 y) (ix3 z f d) = ∑ n : Fin 512, (r (ix2 n f) * r (ix2 n f)) * y (ix2 n d) := by
  pointwise [k0_pay2, k0_pay1, k0_pay13, k0_pay14]

theorem pay3_gen (r : FVec Ideal S512x1024 .bf16) (y : FVec Ideal S512x1024 .f32) (w : FVec Ideal S1x1024x1024 .f32) (z : Fin 1) (f d : Fin 1024) :
    k0_pay3 (F := Ideal) (k0_pay13 r) (k0_pay14 y) w (ix3 z f d) = w (ix3 z f d) + ∑ n : Fin 512, (r (ix2 n f) * r (ix2 n f)) * y (ix2 n d) := by
  obtain rfl : z = 0 := Subsingleton.elim _ _
  pointwise [k0_pay3, k0_pay1, k0_pay13, k0_pay14]

theorem pay4_id (w : FVec Ideal S1x1024x1024 .f32) : k0_pay4 (F := Ideal) w = w := by
  funext i
  obtain ⟨a, b, d, rfl⟩ : ∃ a b d, i = ix3 a b d := ⟨i 0, i 1, i 2, (ix3_eta i).symm⟩
  obtain rfl : a = 0 := Subsingleton.elim _ _
  pointwise [k0_pay4]
theorem pay5_id (w : FVec Ideal S1x1024x1024 .f32) : k0_pay5 (F := Ideal) w = w := by
  funext i
  obtain ⟨a, b, d, rfl⟩ : ∃ a b d, i = ix3 a b d := ⟨i 0, i 1, i 2, (ix3_eta i).symm⟩
  obtain rfl : a = 0 := Subsingleton.elim _ _
  pointwise [k0_pay5]

end Tile

end Cert.FfnIdeal.Hand
end
-- ==== Proof.FfnArr.lean ====
module

public import proofs.«01_k».proof.Proof.FfnPay

/-! The feed-forward block's backward kernel at real arguments: its result arrays, entry by entry, as sums over whole rows,
    hidden units and columns. -/

@[expose] public section

set_option maxRecDepth 16384

noncomputable section

open Idealize.ShloMosaic Idealize.ShloMosaic.TcCoe Idealize.SL.Sem

namespace Cert.FfnIdeal.Hand

open Cert.FfnIdeal Cert.FfnIdeal.Gen
open Cert.Rms

/-- A row, a part and a hidden unit by their numbers. -/
def rw' (N : ℕ) : Fin 2048 := ⟨N % 2048, Nat.mod_lt _ (by omega)⟩
def pr (q : ℕ) : Fin 4 := ⟨q % 4, Nat.mod_lt _ (by omega)⟩
def hid (p : Fin 4) (f : Fin 1024) : Fin 4096 := ⟨1024 * p.val + f.val, by omega⟩

section Whole
variable (X Y : Fin 2048 → Fin 1024 → ℝ) (G : Fin 1024 → ℝ) (W1 W2 : Fin 4 → Fin 1024 → Fin 1024 → ℝ) (R : Fin 2048 → Fin 4096 → ℝ)

/-- The scaled norm; a part's gradient of the first product; its share of the gradient of the scaled norm. -/
def HF (n : Fin 2048) (d : Fin 1024) : ℝ := X n d * rs (X n) * G d
def DaF (p : Fin 4) (n : Fin 2048) (f : Fin 1024) : ℝ := (∑ d, Y n d * W2 p f d) * (2 * R n (hid p f))
def DhF (p : Fin 4) (n : Fin 2048) (d : Fin 1024) : ℝ := ∑ f, DaF Y W2 R p n f * W1 p d f
def DgF (p : Fin 4) (n : Fin 2048) (d : Fin 1024) : ℝ := X n d * rs (X n) * DhF Y W1 W2 R p n d
def S1F (k : ℕ) (p : Fin 4) (d f : Fin 1024) : ℝ := ∑ N ∈ Finset.range k, HF X G (rw' N) d * DaF Y W2 R p (rw' N) f
def S2F (k : ℕ) (p : Fin 4) (f d : Fin 1024) : ℝ := ∑ N ∈ Finset.range k, R (rw' N) (hid p f) * R (rw' N) (hid p f) * Y (rw' N) d
def SgF (q k : ℕ) (d : Fin 1024) : ℝ :=
  ∑ s ∈ Finset.range q, ∑ N ∈ Finset.range 2048, DgF X Y W1 W2 R (pr s) (rw' N) d + ∑ N ∈ Finset.range k, DgF X Y W1 W2 R (pr q) (rw' N) d

end Whole

section Arrays
variable (m : (ℓ : Loc nD τ sig) → Buf (Elt Ideal) ℓ) (c : Dev nD)

/-- The kernel's six arguments are real arrays. -/
structure Args (X Y : Fin 2048 → Fin 1024 → ℝ) (G : Fin 1024 → ℝ) (W1 W2 : Fin 4 → Fin 1024 → Fin 1024 → ℝ) (R : Fin 2048 → Fin 4096 → ℝ) : Prop where
  hx : V m c main_v21 = up2 X
  hg : V m c main_v22 = up1 G
  hw1 : V m c main_v18 = fun y : S4x1024x1024.Idx => ((W1 (y 0) (y 1) (y 2) : ℝ) : EReal)
  hw2 : V m c main_v20 = fun y : S4x1024x1024.Idx => ((W2 (y 0) (y 1) (y 2) : ℝ) : EReal)
  hr : V m c main_v23 = up2 R
  hy : V m c main_v24 = up2 Y

theorem index_in : ∀ t : Fin cfg0.N, (win0_0.index t 0 = t.val % 4 ∧ win0_0.index t 1 = 0) ∧ (win0_1.index t 0 = 0 ∧ win0_1.index t 1 = 0)
    ∧ (win0_2.index t 0 = t.val / 4 ∧ win0_2.index t 1 = 0 ∧ win0_2.index t 2 = 0) ∧ (win0_3.index t 0 = t.val / 4 ∧ win0_3.index t 1 = 0 ∧ win0_3.index t 2 = 0)
    ∧ (win0_4.index t 0 = t.val % 4 ∧ win0_4.index t 1 = t.val / 4) ∧ (win0_5.index t 0 = t.val % 4 ∧ win0_5.index t 1 = 0) := by decide +kernel

theorem index_out : ∀ t : Fin cfg0.N, (win0_6.index t 0 = t.val / 4 ∧ win0_6.index t 1 = t.val % 4 ∧ win0_6.index t 2 = 0) ∧ (win0_7.index t 0 = 0 ∧ win0_7.index t 1 = 0)
    ∧ (win0_8.index t 0 = t.val / 4 ∧ win0_8.index t 1 = 0 ∧ win0_8.index t 2 = 0) ∧ (win0_9.index t 0 = t.val / 4 ∧ win0_9.index t 1 = 0 ∧ win0_9.index t 2 = 0)
    ∧ (win0_10.index t 0 = t.val / 4 ∧ win0_10.index t 1 = 0 ∧ win0_10.index t 2 = 0) ∧ (win0_11.index t 0 = t.val / 4 ∧ win0_11.index t 1 = 0 ∧ win0_11.index t 2 = 0) := by decide +kernel

theorem pt_lt (t : Fin cfg0.N) : t.val < 16 := by have := t.isLt; have : cfg0.N = 16 := N_0; omega

variable {m c} {X Y : Fin 2048 → Fin 1024 → ℝ} {G : Fin 1024 → ℝ} {W1 W2 : Fin 4 → Fin 1024 → Fin 1024 → ℝ} {R : Fin 2048 → Fin 4096 → ℝ}
  (A : Args m c X Y G W1 W2 R) (t : Fin cfg0.N)

/-- The rows of a point's tile. -/
def row (t : ℕ) (n : Fin 512) : Fin 2048 := rw' (512 * (t % 4) + n.val)

include A in
theorem blk0 : iblk m c 0 t = up2 (fun n => X (row t.val n)) := by
  have e : ∀ y, iblk m c 0 t y = V m c main_v21 (((cfg0.win 0).blk t).view.emb y) := fun _ => rfl
  suffices H : ∀ y : S512x1024.Idx, iblk m c 0 t y = up2 (fun n => X (row t.val n)) y from funext H
  intro y
  have h0 : (y 0).val < 512 := (y 0).isLt
  rw [e, A.hx]
  refine congrArg (fun r : ℝ => (r : EReal)) (congrArg₂ X (Fin.ext ?_) (Fin.ext ?_))
  · show win0_0.index t 0 * 512 + 1 * (y 0).val = (512 * (t.val % 4) + (y 0).val) % 2048
    rw [(index_in t).1.1]; omega
  · show win0_0.index t 1 * 1024 + 1 * (y 1).val = (y 1).val
    rw [(index_in t).1.2]; omega

include A in
theorem blk5 : iblk m c 5 t = up2 (fun n => Y (row t.val n)) := by
  have e : ∀ y, iblk m c 5 t y = V m c main_v24 (((cfg0.win 5).blk t).view.emb y) := fun _ => rfl
  suffices H : ∀ y : S512x1024.Idx, iblk m c 5 t y = up2 (fun n => Y (row t.val n)) y from funext H
  intro y
  have h0 : (y 0).val < 512 := (y 0).isLt
  rw [e, A.hy]
  refine congrArg (fun r : ℝ => (r : EReal)) (congrArg₂ Y (Fin.ext ?_) (Fin.ext ?_))
  · show win0_5.index t 0 * 512 + 1 * (y 0).val = (512 * (t.val % 4) + (y 0).val) % 2048
    rw [(index_in t).2.2.2.2.2.1]; omega
  · show win0_5.index t 1 * 1024 + 1 * (y 1).val = (y 1).val
    rw [(index_in t).2.2.2.2.2.2]; omega

include A in
theorem blk1 : iblk m c 1 t = up1 G := by
  have e : ∀ y, iblk m c 1 t y = V m c main_v22 (((cfg0.win 1).blk t).view.emb y) := fun _ => rfl
  suffices H : ∀ y : S1x1024.Idx, iblk m c 1 t y = up1 G y from funext H
  intro y
  rw [e, A.hg]
  refine congrArg (fun r : ℝ => (r : EReal)) (congrArg G (Fin.ext ?_))
  show win0_1.index t 1 * 1024 + 1 * (y 1).val = (y 1).val
  rw [(index_in t).2.1.2]; omega

include A in
theorem blk2 : iblk m c 2 t = up3 (W1 (pr (t.val / 4))) := by
  have e : ∀ y, iblk m c 2 t y = V m c main_v18 (((cfg0.win 2).blk t).view.emb y) := fun _ => rfl
  suffices H : ∀ y : S1x1024x1024.Idx, iblk m c 2 t y = up3 (W1 (pr (t.val / 4))) y from funext H
  intro y
  have h0 : (y 0).val < 1 := (y 0).isLt
  have ht := pt_lt t
  rw [e, A.hw1]
  refine congrArg (fun r : ℝ => (r : EReal)) (congr (congrArg₂ W1 (Fin.ext ?_) (Fin.ext ?_)) (Fin.ext ?_))
  · show win0_2.index t 0 * 1 + 1 * (y 0).val = t.val / 4 % 4
    rw [(index_in t).2.2.1.1]; omega
  · show win0_2.index t 1 * 1024 + 1 * (y 1).val = (y 1).val
    rw [(index_in t).2.2.1.2.1]; omega
  · show win0_2.index t 2 * 1024 + 1 * (y 2).val = (y 2).val
    rw [(index_in t).2.2.1.2.2]; omega

include A in
theorem blk3 : iblk m c 3 t = up3 (W2 (pr (t.val / 4))) := by
  have e : ∀ y, iblk m c 3 t y = V m c main_v20 (((cfg0.win 3).blk t).view.emb y) := fun _ => rfl
  suffices H : ∀ y : S1x1024x1024.Idx, iblk m c 3 t y = up3 (W2 (pr (t.val / 4))) y from funext H
  intro y
  have h0 : (y 0).val < 1 := (y 0).isLt
  have ht := pt_lt t
  rw [e, A.hw2]
  refine congrArg (fun r : ℝ => (r : EReal)) (congr (congrArg₂ W2 (Fin.ext ?_) (Fin.ext ?_)) (Fin.ext ?_))
  · show win0_3.index t 0 * 1 + 1 * (y 0).val = t.val / 4 % 4
    rw [(index_in t).2.2.2.1.1]; omega
  · show win0_3.index t 1 * 1024 + 1 * (y 1).val = (y 1).val
    rw [(index_in t).2.2.2.1.2.1]; omega
  · show win0_3.index t 2 * 1024 + 1 * (y 2).val = (y 2).val
    rw [(index_in t).2.2.2.1.2.2]; omega

include A in
theorem blk4 : iblk m c 4 t = up2 (fun n f => R (row t.val n) (hid (pr (t.val / 4)) f)) := by
  have e : ∀ y, iblk m c 4 t y = V m c main_v23 (((cfg0.win 4).blk t).view.emb y) := fun _ => rfl
  suffices H : ∀ y : S512x1024.Idx, iblk m c 4 t y = up2 (fun n f => R (row t.val n) (hid (pr (t.val / 4)) f)) y from funext H
  intro y
  have h0 : (y 0).val < 512 := (y 0).isLt
  have ht := pt_lt t
  rw [e, A.hr]
  refine congrArg (fun r : ℝ => (r : EReal)) (congrArg₂ R (Fin.ext ?_) (Fin.ext ?_))
  · show win0_4.index t 0 * 512 + 1 * (y 0).val = (512 * (t.val % 4) + (y 0).val) % 2048
    rw [(index_in t).2.2.2.2.1.1]; omega
  · show win0_4.index t 1 * 1024 + 1 * (y 1).val = 1024 * (t.val / 4 % 4) + (y 1).val
    rw [(index_in t).2.2.2.2.1.2]; omega

/-! What a point computes. -/

include A in
theorem da_pt (n : Fin 512) (f : Fin 1024) : daT m c t (ix2 n f) = ((DaF Y W2 R (pr (t.val / 4)) (row t.val n) f : ℝ) : EReal) := by
  rw [daT, blk3 A, blk4 A, blk5 A]
  exact pay15_real _ _ _ n f

include A in
theorem h_pt (n : Fin 512) (d : Fin 1024) : hT m c t (ix2 n d) = ((HF X G (row t.val n) d : ℝ) : EReal) := by
  rw [hT, blk0 A, blk1 A]
  exact pay12_real _ _ n d

include A in
theorem dg_pt (n : Fin 512) (d : Fin 1024) : dgT m c t (ix2 n d) = ((DgF X Y W1 W2 R (pr (t.val / 4)) (row t.val n) d : ℝ) : EReal) := by
  rw [dgT, blk0 A, blk2 A, blk3 A, blk4 A, blk5 A]
  exact pay17_real _ _ _ _ _ n d

include A in
theorem dx_pt (z : Fin 1) (n : Fin 512) (d : Fin 1024) :
    dxT m c t (ix3 z n d) = ((dx (X (row t.val n)) G (DhF Y W1 W2 R (pr (t.val / 4)) (row t.val n)) d : ℝ) : EReal) := by
  rw [dxT, blk0 A, blk1 A, blk2 A, blk3 A, blk4 A, blk5 A]
  exact dx_real _ _ _ _ _ _ z n d

/-- A sum over a tile's rows, added to one over the rows before it. -/
theorem tile_sum (u : ℕ → ℝ) (k : ℕ) : ∑ N ∈ Finset.range (512 * (k + 1)), u N = ∑ N ∈ Finset.range (512 * k), u N + ∑ n : Fin 512, u (512 * k + n.val) := by
  rw [show 512 * (k + 1) = 512 * k + 512 by omega, Finset.sum_range_add, Fin.sum_univ_eq_sum_range (fun j => u (512 * k + j)) 512]

/-- Each point's block of the rows' gradient. -/
theorem out_dx : (outsAt0 m c t.val t.isLt).1 = dxT m c t := by
  by_cases h0 : t.val = 0
  · exact (outs_A m c t h0).1
  by_cases h : t.val % 4 = 0
  · exact (outs_D m c t h h0).1
  by_cases h3 : t.val % 4 = 3
  · exact (outs_C m c t h3).1
  · exact (outs_B m c t (by omega) h3).1

variable (m c) in
/-- The point's saved values and cotangent. -/
def rT : FVec Ideal S512x1024 .bf16 := iblk m c 4 t
variable (m c) in
def yT : FVec Ideal S512x1024 .f32 := iblk m c 5 t

set_option maxHeartbeats 1000000 in
include A in
/-- The accumulators after a point. -/
theorem acc : ∀ (n : ℕ) (hn : n < cfg0.N),
    (∀ (z : Fin 1) (d : Fin 1024), (outsAt0 m c n hn).2.1 (ix2 z d) = ((SgF X Y W1 W2 R (n / 4) (512 * (n % 4 + 1)) d : ℝ) : EReal))
    ∧ (∀ (z : Fin 1) (d f : Fin 1024), (outsAt0 m c n hn).2.2.1 (ix3 z d f) = ((S1F X Y G W2 R (512 * (n % 4 + 1)) (pr (n / 4)) d f : ℝ) : EReal))
    ∧ (∀ (z : Fin 1) (f d : Fin 1024), (outsAt0 m c n hn).2.2.2.1 (ix3 z f d) = ((S2F Y R (512 * (n % 4 + 1)) (pr (n / 4)) f d : ℝ) : EReal))
  | n, hn => by
    have sg : ∀ d, ∑ r : Fin 512, dgT m c ⟨n, hn⟩ (ix2 r d) = ((∑ r : Fin 512, DgF X Y W1 W2 R (pr (n / 4)) (rw' (512 * (n % 4) + r.val)) d : ℝ) : EReal) := fun d => by
      rw [← coe_sum]; exact Finset.sum_congr rfl fun r _ => dg_pt A ⟨n, hn⟩ r d
    have s1 : ∀ d f, ∑ r : Fin 512, hT m c ⟨n, hn⟩ (ix2 r d) * daT m c ⟨n, hn⟩ (ix2 r f)
        = ((∑ r : Fin 512, HF X G (rw' (512 * (n % 4) + r.val)) d * DaF Y W2 R (pr (n / 4)) (rw' (512 * (n % 4) + r.val)) f : ℝ) : EReal) := fun d f => by
      rw [← coe_sum]; exact Finset.sum_congr rfl fun r _ => by rw [h_pt A, da_pt A, EReal.coe_mul]; rfl
    have s2 : ∀ f d, ∑ r : Fin 512, (rT m c ⟨n, hn⟩ (ix2 r f) * rT m c ⟨n, hn⟩ (ix2 r f)) * yT m c ⟨n, hn⟩ (ix2 r d)
        = ((∑ r : Fin 512, R (rw' (512 * (n % 4) + r.val)) (hid (pr (n / 4)) f) * R (rw' (512 * (n % 4) + r.val)) (hid (pr (n / 4)) f) * Y (rw' (512 * (n % 4) + r.val)) d : ℝ) : EReal) := fun f d => by
      rw [← coe_sum]; exact Finset.sum_congr rfl fun r _ => by rw [rT, yT, blk4 A, blk5 A, EReal.coe_mul, EReal.coe_mul]; rfl
    by_cases h : n % 4 = 0
    · have f1 : (outsAt0 m c n hn).2.2.1 = k0_pay22 (hT m c ⟨n, hn⟩) (daT m c ⟨n, hn⟩) := by
        by_cases h0 : n = 0
        · exact (outs_A m c ⟨n, hn⟩ h0).2.2.1
        · exact (outs_D m c ⟨n, hn⟩ h h0).2.2.1
      have f2 : (outsAt0 m c n hn).2.2.2.1 = k0_pay2 (F := Ideal) (k0_pay13 (rT m c ⟨n, hn⟩)) (k0_pay14 (yT m c ⟨n, hn⟩)) := by
        by_cases h0 : n = 0
        · exact (outs_A m c ⟨n, hn⟩ h0).2.2.2
        · exact (outs_D m c ⟨n, hn⟩ h h0).2.2.2
      refine ⟨fun z d => ?_, fun z d f => ?_, fun z f d => ?_⟩
      · by_cases h0 : n = 0
        · refine (congrFun (outs_A m c ⟨n, hn⟩ h0).2.1 _).trans ((pay18_gen _ z d).trans ((sg d).trans ?_))
          subst h0
          rw [SgF, tile_sum, Nat.zero_mod, Nat.zero_div, Nat.mul_zero, Finset.range_zero, Finset.sum_empty, Finset.sum_empty, zero_add, zero_add]
        · refine (congrFun (outs_D m c ⟨n, hn⟩ h h0).2.1 _).trans ((pay20_gen _ _ z d).trans ?_)
          rw [sg d, (acc (n - 1) (by omega)).1 z d, ← EReal.coe_add]
          congr 1
          have e1 : n / 4 = (n - 1) / 4 + 1 := by omega
          have e2 : (n - 1) % 4 = 3 := by omega
          rw [SgF, SgF, tile_sum _ (n % 4), h, e2, e1, Finset.sum_range_succ (fun s => ∑ N ∈ Finset.range 2048, DgF X Y W1 W2 R (pr s) (rw' N) d),
            Nat.mul_zero, Finset.range_zero, Finset.sum_empty, zero_add]
      · refine (congrFun f1 _).trans ((pay22_gen _ _ z d f).trans ((s1 d f).trans ?_))
        rw [S1F, tile_sum, h, Nat.mul_zero, Finset.range_zero, Finset.sum_empty, zero_add]
      · refine (congrFun f2 _).trans ((pay2_gen _ _ z f d).trans ((s2 f d).trans ?_))
        rw [S2F, tile_sum, h, Nat.mul_zero, Finset.range_zero, Finset.sum_empty, zero_add]
    · have f0 : (outsAt0 m c n hn).2.1 = k0_pay20 (dgT m c ⟨n, hn⟩) (outsAt0 m c (n - 1) (by omega)).2.1 := by
        by_cases h3 : n % 4 = 3
        · exact (outs_C m c ⟨n, hn⟩ h3).2.1
        · exact (outs_B m c ⟨n, hn⟩ (by show 1 ≤ n % 4; omega) h3).2.1
      have f1 : (outsAt0 m c n hn).2.2.1 = k0_pay23 (hT m c ⟨n, hn⟩) (daT m c ⟨n, hn⟩) (outsAt0 m c (n - 1) (by omega)).2.2.1 := by
        by_cases h3 : n % 4 = 3
        · exact (outs_C m c ⟨n, hn⟩ h3).2.2.1
        · exact (outs_B m c ⟨n, hn⟩ (by show 1 ≤ n % 4; omega) h3).2.2.1
      have f2 : (outsAt0 m c n hn).2.2.2.1 = k0_pay3 (F := Ideal) (k0_pay13 (rT m c ⟨n, hn⟩)) (k0_pay14 (yT m c ⟨n, hn⟩)) (outsAt0 m c (n - 1) (by omega)).2.2.2.1 := by
        by_cases h3 : n % 4 = 3
        · exact (outs_C m c ⟨n, hn⟩ h3).2.2.2.1
        · exact (outs_B m c ⟨n, hn⟩ (by show 1 ≤ n % 4; omega) h3).2.2.2
      have e1 : (n - 1) / 4 = n / 4 := by omega
      have e2 : (n - 1) % 4 + 1 = n % 4 := by omega
      obtain ⟨p0, p1, p2⟩ := acc (n - 1) (by omega)
      refine ⟨fun z d => ?_, fun z d f => ?_, fun z f d => ?_⟩
      · refine (congrFun f0 _).trans ((pay20_gen _ _ z d).trans ?_)
        rw [sg d, p0 z d, ← EReal.coe_add, e1, e2, SgF, SgF, tile_sum _ (n % 4), add_assoc]
      · refine (congrFun f1 _).trans ((pay23_gen _ _ _ z d f).trans ?_)
        rw [s1 d f, p1 z d f, ← EReal.coe_add, e1, e2, S1F, S1F, tile_sum _ (n % 4)]
      · refine (congrFun f2 _).trans ((pay3_gen _ _ _ z f d).trans ?_)
        rw [p2 z f d, e1, e2]
        rw [s2 f d, ← EReal.coe_add, S2F, S2F, tile_sum _ (n % 4)]

/-! The result arrays. -/

include A in
theorem arr6_real : (dats m 0 c).arrAt 6 cfg0.N
    = fun y : S4x2048x1024.Idx => ((dx (X (y 1)) G (DhF Y W1 W2 R (y 0) (y 1)) (y 2) : ℝ) : EReal) := by
  refine (dats m 0 c).arrAt_eq_of_covers 6 (fun y : S4x2048x1024.Idx => ((dx (X (y 1)) G (DhF Y W1 W2 R (y 0) (y 1)) (y 2) : ℝ) : EReal)) (by decide +kernel) (fun t hf y => ?_)
  show (dats m 0 c).after 6 t _ = _
  rw [after0_6, out_dx]
  suffices H : ∀ y : S1x512x1024.Idx, dxT m c t y
      = (fun y : S4x2048x1024.Idx => ((dx (X (y 1)) G (DhF Y W1 W2 R (y 0) (y 1)) (y 2) : ℝ) : EReal)) (((cfg0.win 6).blk t).view.emb y) from H y
  intro y
  have h0 : (y 0).val < 1 := (y 0).isLt
  have h1 : (y 1).val < 512 := (y 1).isLt
  have ht := pt_lt t
  have e0 : ((((cfg0.win 6).blk t).view.emb y : S4x2048x1024.Idx) 0) = pr (t.val / 4) := by
    apply Fin.ext
    show win0_6.index t 0 * 1 + 1 * (y 0).val = t.val / 4 % 4
    rw [(index_out t).1.1]; omega
  have e1 : ((((cfg0.win 6).blk t).view.emb y : S4x2048x1024.Idx) 1) = row t.val (y 1) := by
    apply Fin.ext
    show win0_6.index t 1 * 512 + 1 * (y 1).val = (512 * (t.val % 4) + (y 1).val) % 2048
    rw [(index_out t).1.2.1]; omega
  have e2 : ((((cfg0.win 6).blk t).view.emb y : S4x2048x1024.Idx) 2) = (y 2 : Fin 1024) := by
    apply Fin.ext
    show win0_6.index t 2 * 1024 + 1 * (y 2).val = (y 2).val
    rw [(index_out t).1.2.2]; omega
  generalize (((cfg0.win 6).blk t).view.emb y : S4x2048x1024.Idx) = w at e0 e1 e2
  show _ = ((dx (X (w 1)) G (DhF Y W1 W2 R (w 0) (w 1)) (w 2) : ℝ) : EReal)
  rw [e0, e1, e2]
  exact (congrArg (dxT m c t) (ix3_eta y).symm).trans (dx_pt A t (y 0) (y 1) (y 2))

include A in
theorem arr7_real : (dats m 0 c).arrAt 7 cfg0.N = up1 (fun d => SgF X Y W1 W2 R 3 2048 d) := by
  refine (dats m 0 c).arrAt_eq_of_covers 7 (up1 (fun d => SgF X Y W1 W2 R 3 2048 d)) (by decide +kernel) (fun t hf y => ?_)
  have ht : t.val = 15 := by
    have := (by decide +kernel : ∀ t : Fin cfg0.N, (cfg0.win 7).flush t = true → t.val = 15) t hf
    exact this
  show (dats m 0 c).after 7 t _ = _
  rw [after0_7]
  suffices H : ∀ y : S1x1024.Idx, (outsAt0 m c t.val t.isLt).2.1 y
      = up1 (fun d => SgF X Y W1 W2 R 3 2048 d) (((cfg0.win 7).blk t).view.emb y) from H y
  intro y
  have e1 : ((((cfg0.win 7).blk t).view.emb y : S1x1024.Idx) 1) = (y 1 : Fin 1024) := by
    apply Fin.ext
    show win0_7.index t 1 * 1024 + 1 * (y 1).val = (y 1).val
    rw [(index_out t).2.1.2]; omega
  generalize (((cfg0.win 7).blk t).view.emb y : S1x1024.Idx) = w at e1
  show _ = ((SgF X Y W1 W2 R 3 2048 (w 1) : ℝ) : EReal)
  refine (congrArg _ (ix2_eta y).symm).trans (((acc A t.val t.isLt).1 (y 0) (y 1)).trans ?_)
  rw [e1, ht]

/-- An accumulated array whose block at a part's last point is a table of that part. -/
theorem part_emb (T : Fin 4 → Fin 1024 → Fin 1024 → ℝ) (o : S1x1024x1024.Idx → EReal) (z : S4x1024x1024.Idx) (y : S1x1024x1024.Idx)
    (h0 : (z 0).val = t.val / 4) (h1 : (z 1).val = (y 1).val) (h2 : (z 2).val = (y 2).val)
    (ho : ∀ a b d, o (ix3 a b d) = ((T (pr (t.val / 4)) b d : ℝ) : EReal)) : o y = ((T (z 0) (z 1) (z 2) : ℝ) : EReal) := by
  have ht := pt_lt t
  refine (congrArg o (ix3_eta y).symm).trans ((ho _ _ _).trans ?_)
  have e0 : z 0 = pr (t.val / 4) := Fin.ext (by show _ = t.val / 4 % 4; omega)
  have e1 : z 1 = (y 1 : Fin 1024) := Fin.ext h1
  have e2 : z 2 = (y 2 : Fin 1024) := Fin.ext h2
  rw [e0, e1, e2]

theorem out_bf (h : t.val % 4 = 3) : (outsAt0 m c t.val t.isLt).2.2.2.2.1 = (outsAt0 m c t.val t.isLt).2.2.1
    ∧ (outsAt0 m c t.val t.isLt).2.2.2.2.2 = (outsAt0 m c t.val t.isLt).2.2.2.1 :=
  ⟨(outs_C m c t h).2.2.2.2.1.trans (pay4_id _), (outs_C m c t h).2.2.2.2.2.trans (pay5_id _)⟩

include A in
theorem arr8_real : (dats m 0 c).arrAt 8 cfg0.N = fun y : S4x1024x1024.Idx => ((S1F X Y G W2 R 2048 (y 0) (y 1) (y 2) : ℝ) : EReal) := by
  refine (dats m 0 c).arrAt_eq_of_covers 8 (fun y : S4x1024x1024.Idx => ((S1F X Y G W2 R 2048 (y 0) (y 1) (y 2) : ℝ) : EReal)) (by decide +kernel) (fun t hf y => ?_)
  have h3 : t.val % 4 = 3 := (flush0_8 t).1 hf
  show (dats m 0 c).after 8 t _ = _
  rw [after0_8]
  suffices H : ∀ y : S1x1024x1024.Idx, (outsAt0 m c t.val t.isLt).2.2.1 y
      = (fun y : S4x1024x1024.Idx => ((S1F X Y G W2 R 2048 (y 0) (y 1) (y 2) : ℝ) : EReal)) (((cfg0.win 8).blk t).view.emb y) from H y
  intro y
  have h0 : (y 0).val < 1 := (y 0).isLt
  refine part_emb t (S1F X Y G W2 R 2048) _ _ y ?_ ?_ ?_ (fun a b d => by rw [(acc A t.val t.isLt).2.1 a b d, h3])
  · show win0_8.index t 0 * 1 + 1 * (y 0).val = t.val / 4
    rw [(index_out t).2.2.1.1]; omega
  · show win0_8.index t 1 * 1024 + 1 * (y 1).val = (y 1).val
    rw [(index_out t).2.2.1.2.1]; omega
  · show win0_8.index t 2 * 1024 + 1 * (y 2).val = (y 2).val
    rw [(index_out t).2.2.1.2.2]; omega

include A in
theorem arr9_real : (dats m 0 c).arrAt 9 cfg0.N = fun y : S4x1024x1024.Idx => ((S2F Y R 2048 (y 0) (y 1) (y 2) : ℝ) : EReal) := by
  refine (dats m 0 c).arrAt_eq_of_covers 9 (fun y : S4x1024x1024.Idx => ((S2F Y R 2048 (y 0) (y 1) (y 2) : ℝ) : EReal)) (by decide +kernel) (fun t hf y => ?_)
  have h3 : t.val % 4 = 3 := (flush0_9 t).1 hf
  show (dats m 0 c).after 9 t _ = _
  rw [after0_9]
  suffices H : ∀ y : S1x1024x1024.Idx, (outsAt0 m c t.val t.isLt).2.2.2.1 y
      = (fun y : S4x1024x1024.Idx => ((S2F Y R 2048 (y 0) (y 1) (y 2) : ℝ) : EReal)) (((cfg0.win 9).blk t).view.emb y) from H y
  intro y
  have h0 : (y 0).val < 1 := (y 0).isLt
  refine part_emb t (S2F Y R 2048) _ _ y ?_ ?_ ?_ (fun a b d => by rw [(acc A t.val t.isLt).2.2 a b d, h3])
  · show win0_9.index t 0 * 1 + 1 * (y 0).val = t.val / 4
    rw [(index_out t).2.2.2.1.1]; omega
  · show win0_9.index t 1 * 1024 + 1 * (y 1).val = (y 1).val
    rw [(index_out t).2.2.2.1.2.1]; omega
  · show win0_9.index t 2 * 1024 + 1 * (y 2).val = (y 2).val
    rw [(index_out t).2.2.2.1.2.2]; omega

include A in
theorem arr10_real : (dats m 0 c).arrAt 10 cfg0.N = fun y : S4x1024x1024.Idx => ((S1F X Y G W2 R 2048 (y 0) (y 1) (y 2) : ℝ) : EReal) := by
  refine (dats m 0 c).arrAt_eq_of_covers 10 (fun y : S4x1024x1024.Idx => ((S1F X Y G W2 R 2048 (y 0) (y 1) (y 2) : ℝ) : EReal)) (by decide +kernel) (fun t hf y => ?_)
  have h3 : t.val % 4 = 3 := (flush0_10 t).1 hf
  show (dats m 0 c).after 10 t _ = _
  rw [after0_10, (out_bf t h3).1]
  suffices H : ∀ y : S1x1024x1024.Idx, (outsAt0 m c t.val t.isLt).2.2.1 y
      = (fun y : S4x1024x1024.Idx => ((S1F X Y G W2 R 2048 (y 0) (y 1) (y 2) : ℝ) : EReal)) (((cfg0.win 10).blk t).view.emb y) from H y
  intro y
  have h0 : (y 0).val < 1 := (y 0).isLt
  refine part_emb t (S1F X Y G W2 R 2048) _ _ y ?_ ?_ ?_ (fun a b d => by rw [(acc A t.val t.isLt).2.1 a b d, h3])
  · show win0_10.index t 0 * 1 + 1 * (y 0).val = t.val / 4
    rw [(index_out t).2.2.2.2.1.1]; omega
  · show win0_10.index t 1 * 1024 + 1 * (y 1).val = (y 1).val
    rw [(index_out t).2.2.2.2.1.2.1]; omega
  · show win0_10.index t 2 * 1024 + 1 * (y 2).val = (y 2).val
    rw [(index_out t).2.2.2.2.1.2.2]; omega

include A in
theorem arr11_real : (dats m 0 c).arrAt 11 cfg0.N = fun y : S4x1024x1024.Idx => ((S2F Y R 2048 (y 0) (y 1) (y 2) : ℝ) : EReal) := by
  refine (dats m 0 c).arrAt_eq_of_covers 11 (fun y : S4x1024x1024.Idx => ((S2F Y R 2048 (y 0) (y 1) (y 2) : ℝ) : EReal)) (by decide +kernel) (fun t hf y => ?_)
  have h3 : t.val % 4 = 3 := (flush0_11 t).1 hf
  show (dats m 0 c).after 11 t _ = _
  rw [after0_11, (out_bf t h3).2]
  suffices H : ∀ y : S1x1024x1024.Idx, (outsAt0 m c t.val t.isLt).2.2.2.1 y
      = (fun y : S4x1024x1024.Idx => ((S2F Y R 2048 (y 0) (y 1) (y 2) : ℝ) : EReal)) (((cfg0.win 11).blk t).view.emb y) from H y
  intro y
  have h0 : (y 0).val < 1 := (y 0).isLt
  refine part_emb t (S2F Y R 2048) _ _ y ?_ ?_ ?_ (fun a b d => by rw [(acc A t.val t.isLt).2.2 a b d, h3])
  · show win0_11.index t 0 * 1 + 1 * (y 0).val = t.val / 4
    rw [(index_out t).2.2.2.2.2.1]; omega
  · show win0_11.index t 1 * 1024 + 1 * (y 1).val = (y 1).val
    rw [(index_out t).2.2.2.2.2.2.1]; omega
  · show win0_11.index t 2 * 1024 + 1 * (y 2).val = (y 2).val
    rw [(index_out t).2.2.2.2.2.2.2]; omega

end Arrays

end Cert.FfnIdeal.Hand
end
-- ==== Proof.FfnHost.lean ====
module

public import proofs.«01_k».proof.Proof.FfnArr
public import proofs.«01_k».proof.Proof.Gen.FfnRefIdeal.Read

/-! The host lines around the feed-forward block's backward kernel: its six arguments from the block's own arrays, and the
    sum over the parts after it. -/

@[expose] public section

set_option maxRecDepth 16384

noncomputable section

open Idealize.ShloMosaic Idealize.ShloMosaic.TcCoe Idealize.SL.Sem

namespace Cert.FfnIdeal.Hand

open Cert.FfnIdeal Cert.FfnIdeal.Gen
open Cert.Rms

section AnyFloat
variable {F : FTy → Type} [FloatOps F]
variable (m : (ℓ : Loc nD τ sig) → Buf (Elt F) ℓ) (c : Dev nD)

/-- What the host hands to the kernel. -/
theorem V_host : V m c main_v21 = shapeCast S2048x1024 (m ((c : Thread nD τ).loc main_arg0)) shapeCasts_S1x2048x1024_S2048x1024
    ∧ V m c main_v22 = broadcastInDim S1x1024 ![1] bcast_S1024_S1x1024_1 (m ((c : Thread nD τ).loc main_arg1))
    ∧ V m c main_v18 = truncf .bf16 (transpose S4x1024x1024 [1, 0, 2] (shapeCast S1024x4x1024 (m ((c : Thread nD τ).loc main_arg2)) shapeCasts_S1024x4096_S1024x4x1024) transposes_S1024x4x1024_S4x1024x1024_1_0_2) bitsLt_bf16_f32
    ∧ V m c main_v20 = truncf .bf16 (shapeCast S4x1024x1024 (m ((c : Thread nD τ).loc main_arg3)) shapeCasts_S4096x1024_S4x1024x1024) bitsLt_bf16_f32
    ∧ V m c main_v23 = shapeCast S2048x4096 (truncf .bf16 (Cert.FfnRefIdeal.Read.val_main_v17 (F := F) (m ((c : Thread nD τ).loc main_arg0)) (m ((c : Thread nD τ).loc main_arg1)) (m ((c : Thread nD τ).loc main_arg2))) bitsLt_bf16_f32) shapeCasts_S1x2048x4096_S2048x4096
    ∧ V m c main_v24 = shapeCast S2048x1024 (m ((c : Thread nD τ).loc main_arg4)) shapeCasts_S1x2048x1024_S2048x1024 := by
  refine ⟨?_, ?_, ?_, ?_, ?_, ?_⟩
  all_goals
    unfold V V0
    simp only [hostOps0, hostOps0_1, hostOps0_2, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
    after_results_simp <;> rfl

/-- The sum over the parts, after the kernel. -/
theorem tail : Pipeline.afterTail₀ cfgs (dats m) 0 (V0 m) [hostOps1] c main_v26
    = Host.reduceAdd ((dats m 0 c).arrAt 6 cfg0.N : (⟨S4x2048x1024, .f32⟩ : BufTy).Contents (Elt F)) (constant S_ .f32 0x00000000#32) reducesTo_S4x2048x1024_S2048x1024_d0 h_S_ := by
  unfold Pipeline.afterTail₀
  simp only [hostOps1, List.flatten_cons, List.flatten_nil, List.append_nil]
  after_results_simp
  exact congrArg (fun x => Host.reduceAdd x _ _ _) (Pipeline.withArrays_arr spec0 (by decide) c (V0 m c) _ 6)
end AnyFloat
end Cert.FfnIdeal.Hand
end
-- ==== Proof.FfnRef.lean ====
module

public import proofs.«01_k».proof.Proof.FfnArr
public import proofs.«01_k».proof.Proof.Gen.FfnRefIdeal.Read

/-! The derivative of the feed-forward block at real arrays, entry by entry. -/

@[expose] public section

set_option maxRecDepth 16384

noncomputable section

open Idealize.ShloMosaic Idealize.ShloMosaic.TcCoe Idealize.SL.Sem

namespace Cert.FfnIdeal.Hand

open Cert.FfnRefIdeal Cert.FfnRefIdeal.Gen Cert.FfnRefIdeal.Read
open Cert.Rms

def up0 {b : ℕ} (f : Fin b → ℝ) : (⟨1, ![b]⟩ : Shape).Idx → EReal := fun y => ((f (y 0) : ℝ) : EReal)

theorem coe_max' (a b : ℝ) : ((max a b : ℝ) : EReal) = max (a : EReal) b := EReal.coe_strictMono.monotone.map_max

section Reductions
theorem red01 (x : FVec Ideal S1x1x1024 .f32) (d : Fin 1024) :
    Ideal.hostReduceAdd reducesTo_S1x1x1024_S1024_d0_1 x 0 (ix1 d) = x (ix3 0 0 d) := by
  rw [Ideal.hostReduceAdd, zero_add]
  refine Finset.sum_eq_single_of_mem (ix3 0 0 d) (Finset.mem_filter.2 ⟨Finset.mem_univ _, ?_⟩) fun i hi hne => absurd ?_ hne
  · funext a; match a with
    | ⟨0, _⟩ => rfl
  · have e := (Finset.mem_filter.1 hi).2
    funext a; apply Fin.ext; match a with
    | ⟨0, _⟩ => show (i 0).val = 0; exact Nat.lt_one_iff.1 (i 0).isLt
    | ⟨1, _⟩ => show (i 1).val = 0; exact Nat.lt_one_iff.1 (i 1).isLt
    | ⟨2, _⟩ => exact congrArg (fun z : S1024.Idx => (z 0).val) e

theorem red02 (x : FVec Ideal S1x2048x1 .f32) (n : Fin 2048) :
    Ideal.hostReduceAdd reducesTo_S1x2048x1_S2048_d0_2 x 0 (ix1 n) = x (ix3 0 n 0) := by
  rw [Ideal.hostReduceAdd, zero_add]
  refine Finset.sum_eq_single_of_mem (ix3 0 n 0) (Finset.mem_filter.2 ⟨Finset.mem_univ _, ?_⟩) fun i hi hne => absurd ?_ hne
  · funext a; match a with
    | ⟨0, _⟩ => rfl
  · have e := (Finset.mem_filter.1 hi).2
    funext a; apply Fin.ext; match a with
    | ⟨0, _⟩ => show (i 0).val = 0; exact Nat.lt_one_iff.1 (i 0).isLt
    | ⟨1, _⟩ => exact congrArg (fun z : S2048.Idx => (z 0).val) e
    | ⟨2, _⟩ => show (i 2).val = 0; exact Nat.lt_one_iff.1 (i 2).isLt
end Reductions

section Real
variable (X Y : Fin 2048 → Fin 1024 → ℝ) (G : Fin 1024 → ℝ) (A1 : Fin 1024 → Fin 4096 → ℝ) (A2 : Fin 4096 → Fin 1024 → ℝ)

/-- The hidden layer before its gate, and after it; the gradient of the hidden layer; of the scaled norm. -/
def rA (n : Fin 2048) (j : Fin 4096) : ℝ := ∑ d, HF X G n d * A1 d j
def rR (n : Fin 2048) (j : Fin 4096) : ℝ := max (rA X G A1 n j) 0
def rDa (n : Fin 2048) (j : Fin 4096) : ℝ := (∑ d, Y n d * A2 j d) * (2 * rR X G A1 n j)
def rDh (n : Fin 2048) (d : Fin 1024) : ℝ := ∑ j, rDa X Y G A1 A2 n j * A1 d j

theorem r6 (n : Fin 2048) : val_main_v6 (F := Ideal) (up3 X) (ix3 0 n 0) = ((ms (X n) : ℝ) : EReal) := by
  refine Eq.trans ?_ (ms_coe (X n))
  rw [← eps_f32, ← Ideal.div_coe (by norm_num : (1024:ℝ) ≠ 0), ← Cert.Aux.k1024_f32]
  pointwise [val_main_v6, val_main_v5, val_main_v4, val_main_v3, val_main_v2, val_main_v1, val_main_v0, val_main_cst, val_main_cst_0, val_main_cst_1]
  rfl

theorem r7 (n : Fin 2048) : val_main_v7 (F := Ideal) (up3 X) (ix3 0 n 0) = ((rs (X n) : ℝ) : EReal) := by
  rw [val_main_v7_apply, r6]
  exact rs_coe (X n)

theorem r10 (n : Fin 2048) : val_main_v10 (F := Ideal) (up3 X) (ix3 0 n 0) = ((co (X n) : ℝ) : EReal) := by
  rw [← co_coe, ← neg_half_f32, ← r7, ← r6]
  unfold val_main_v10 val_main_v9 val_main_v8 val_main_cst_2
  generalize val_main_v7 (F := Ideal) (up3 X) = a
  generalize val_main_v6 (F := Ideal) (up3 X) = b
  pointwise

theorem r12 (n : Fin 2048) (d : Fin 1024) : val_main_v12 (F := Ideal) (up3 X) (ix3 0 n d) = ((X n d * rs (X n) : ℝ) : EReal) := by
  rw [EReal.coe_mul, ← r7]
  unfold val_main_v12 val_main_v11
  generalize val_main_v7 (F := Ideal) (up3 X) = a
  pointwise
  rfl

theorem r15 (n : Fin 2048) (d : Fin 1024) : val_main_v15 (F := Ideal) (up3 X) (up0 G) (ix3 0 n d) = ((HF X G n d : ℝ) : EReal) := by
  rw [HF, EReal.coe_mul, ← r12]
  unfold val_main_v15 val_main_v14 val_main_v13
  generalize val_main_v12 (F := Ideal) (up3 X) = a
  pointwise
  rfl

theorem r16 (n : Fin 2048) (j : Fin 4096) : val_main_v16 (F := Ideal) (up3 X) (up0 G) (up2 A1) (ix3 0 n j) = ((rA X G A1 n j : ℝ) : EReal) := by
  rw [rA, ← coe_sum]
  simp only [EReal.coe_mul, ← r15]
  unfold val_main_v16
  generalize val_main_v15 (F := Ideal) (up3 X) (up0 G) = a
  pointwise
  rfl

theorem r17 (n : Fin 2048) (j : Fin 4096) : val_main_v17 (F := Ideal) (up3 X) (up0 G) (up2 A1) (ix3 0 n j) = ((rR X G A1 n j : ℝ) : EReal) := by
  rw [rR, coe_max', ← r16, EReal.coe_zero, ← Ideal.ofBits_zero_f32]
  unfold val_main_v17 val_main_call0_v0 val_main_call0_cst
  generalize val_main_v16 (F := Ideal) (up3 X) (up0 G) (up2 A1) = a
  pointwise

theorem v30_gen (a b : FVec Ideal S1x2048x4096 .f32) (n : Fin 2048) (j : Fin 4096) :
    select (cmpf (F := Ideal) .ogt a (val_main_v18 (F := Ideal))) b (val_main_v29 (F := Ideal)) (ix3 0 n j)
      = if 0 < a (ix3 0 n j) then b (ix3 0 n j) else (0 : EReal) := by
  pointwise [val_main_v18, val_main_v29, val_main_cst_3, val_main_cst_6]

theorem r27 (n : Fin 2048) (j : Fin 4096) : val_main_v27 (F := Ideal) (up2 A2) (up3 Y) (ix3 0 n j) = ((∑ d, Y n d * A2 j d : ℝ) : EReal) := by
  rw [← coe_sum]
  simp only [EReal.coe_mul]
  pointwise [val_main_v27]
  rfl

theorem r23 (n : Fin 2048) (j : Fin 4096) : val_main_v23 (F := Ideal) (up3 X) (up0 G) (up2 A1) (ix3 0 n j) = ((2 * rR X G A1 n j : ℝ) : EReal) := by
  rw [EReal.coe_mul, ← r17, ← Cert.Aux.two_f32]
  unfold val_main_v23 val_main_v22 val_main_cst_5
  generalize val_main_v17 (F := Ideal) (up3 X) (up0 G) (up2 A1) = a
  pointwise

theorem r30 (n : Fin 2048) (j : Fin 4096) :
    val_main_v30 (F := Ideal) (up3 X) (up0 G) (up2 A1) (up2 A2) (up3 Y) (ix3 0 n j) = ((rDa X Y G A1 A2 n j : ℝ) : EReal) := by
  refine (v30_gen _ _ n j).trans ?_
  rw [r16, val_main_v28_apply, r27, r23]
  rw [rDa]
  split_ifs with h
  · rw [EReal.coe_mul]; rfl
  · have h' : rA X G A1 n j ≤ 0 := by
      rw [← EReal.coe_zero, EReal.coe_lt_coe_iff] at h; exact not_lt.1 h
    rw [rR, max_eq_right h']; simp

theorem r33 (n : Fin 2048) (d : Fin 1024) :
    val_main_v33 (F := Ideal) (up3 X) (up0 G) (up2 A1) (up2 A2) (up3 Y) (ix3 0 n d) = ((rDh X Y G A1 A2 n d : ℝ) : EReal) := by
  rw [rDh, ← coe_sum]
  simp only [EReal.coe_mul, ← r30]
  unfold val_main_v33
  generalize val_main_v30 (F := Ideal) (up3 X) (up0 G) (up2 A1) (up2 A2) (up3 Y) = a
  pointwise
  rfl

theorem r38 (n : Fin 2048) (d : Fin 1024) :
    val_main_v38 (F := Ideal) (up3 X) (up0 G) (up2 A1) (up2 A2) (up3 Y) (ix3 0 n d) = ((rDh X Y G A1 A2 n d * G d : ℝ) : EReal) := by
  rw [EReal.coe_mul, ← r33]
  unfold val_main_v38 val_main_v37 val_main_v13
  generalize val_main_v33 (F := Ideal) (up3 X) (up0 G) (up2 A1) (up2 A2) (up3 Y) = a
  pointwise
  rfl

theorem r39 (d : Fin 1024) :
    val_main_v39 (F := Ideal) (up3 X) (up0 G) (up2 A1) (up2 A2) (up3 Y) (ix1 d) = ((∑ n, X n d * rs (X n) * rDh X Y G A1 A2 n d : ℝ) : EReal) := by
  rw [← coe_sum]
  simp only [EReal.coe_mul]
  have e : ∀ n, ((X n d : ℝ) : EReal) * ((rs (X n) : ℝ) : EReal) = val_main_v12 (F := Ideal) (up3 X) (ix3 0 n d) := fun n => by rw [r12, EReal.coe_mul]
  simp only [e, ← r33]
  unfold val_main_v39 val_main_v36 val_main_v35 val_main_v34 val_main_cst_7 val_main_cst_8
  generalize val_main_v33 (F := Ideal) (up3 X) (up0 G) (up2 A1) (up2 A2) (up3 Y) = a
  generalize val_main_v12 (F := Ideal) (up3 X) = b
  pointwise
  rw [red01]
  pointwise

theorem r48 (n : Fin 2048) :
    val_main_v48 (F := Ideal) (up3 X) (up0 G) (up2 A1) (up2 A2) (up3 Y) (ix1 n) = ((fac (X n) G (rDh X Y G A1 A2 n) : ℝ) : EReal) := by
  rw [fac, EReal.coe_mul, EReal.coe_mul, ← coe_sum, ← Ideal.div_coe (by norm_num : (1024:ℝ) ≠ 0), ← Cert.Aux.k1024_f32, ← r10]
  simp only [EReal.coe_mul]
  have e : ∀ d, ((rDh X Y G A1 A2 n d : ℝ) : EReal) * ((G d : ℝ) : EReal) = val_main_v38 (F := Ideal) (up3 X) (up0 G) (up2 A1) (up2 A2) (up3 Y) (ix3 0 n d) := fun d => by rw [r38, EReal.coe_mul]
  simp only [e]
  unfold val_main_v48 val_main_v47 val_main_v46 val_main_v45 val_main_v42 val_main_v41 val_main_v40 val_main_cst_9 val_main_cst_10 val_main_cst_11
  generalize val_main_v38 (F := Ideal) (up3 X) (up0 G) (up2 A1) (up2 A2) (up3 Y) = a
  generalize val_main_v10 (F := Ideal) (up3 X) = b
  pointwise
  rw [red02]
  pointwise
  rfl

theorem r54 (n : Fin 2048) (d : Fin 1024) :
    val_main_v54 (F := Ideal) (up3 X) (up0 G) (up2 A1) (up2 A2) (up3 Y) (ix3 0 n d) = ((dx (X n) G (rDh X Y G A1 A2 n) d : ℝ) : EReal) := by
  rw [dx, EReal.coe_add, EReal.coe_add, EReal.coe_mul _ (rs _), EReal.coe_mul (X n d), EReal.coe_mul _ (X n d), ← r38, ← r48, ← r7]
  unfold val_main_v54 val_main_v53 val_main_v52 val_main_v51 val_main_v50 val_main_v49 val_main_v44 val_main_v43
  generalize val_main_v38 (F := Ideal) (up3 X) (up0 G) (up2 A1) (up2 A2) (up3 Y) = a
  generalize val_main_v48 (F := Ideal) (up3 X) (up0 G) (up2 A1) (up2 A2) (up3 Y) = b
  generalize val_main_v7 (F := Ideal) (up3 X) = e
  pointwise
  rfl

theorem r58 (n : Fin 2048) (d : Fin 1024) :
    val_main_v58 (F := Ideal) (up3 X) (up0 G) (up2 A1) (up2 A2) (up3 Y) (ix2 n d) = ((dx (X n) G (rDh X Y G A1 A2 n) d : ℝ) : EReal) := by
  rw [← r54]
  unfold val_main_v58
  generalize val_main_v54 (F := Ideal) (up3 X) (up0 G) (up2 A1) (up2 A2) (up3 Y) = a
  pointwise

theorem r59 (d : Fin 1024) :
    val_main_v59 (F := Ideal) (up3 X) (up0 G) (up2 A1) (up2 A2) (up3 Y) (ix2 0 d) = ((∑ n, X n d * rs (X n) * rDh X Y G A1 A2 n d : ℝ) : EReal) := by
  rw [← r39]
  unfold val_main_v59
  generalize val_main_v39 (F := Ideal) (up3 X) (up0 G) (up2 A1) (up2 A2) (up3 Y) = a
  pointwise

theorem dot01_1 (a : FVec Ideal S1x2048x4096 .f32) (b : FVec Ideal S1x2048x1024 .f32) (p : Fin 4) (d f : Fin 1024) :
    transpose S4x1024x1024 [1, 0, 2] (shapeCast S1024x4x1024 (transpose S1024x4096 [1, 0]
      (Host.dotGeneral (F := Ideal) dot_S1x2048x4096_S1x2048x1024_S4096x1024_01_01_2_2_n_n none a b) transposes_S4096x1024_S1024x4096_1_0)
      shapeCasts_S1024x4096_S1024x4x1024) transposes_S1024x4x1024_S4x1024x1024_1_0_2 (ix3 p d f)
      = ∑ n, a (ix3 0 n (hid p f)) * b (ix3 0 n d) := by
  pointwise
  rw [Fin.sum_univ_one]
  have e : (⟨p.val * 1024 + f.val, by omega⟩ : Fin 4096) = hid p f := Fin.ext (by show p.val * 1024 + f.val = 1024 * p.val + f.val; omega)
  rw [e]

theorem dot01_2 (a : FVec Ideal S1x2048x1024 .f32) (b : FVec Ideal S1x2048x4096 .f32) (p : Fin 4) (f d : Fin 1024) :
    shapeCast S4x1024x1024 (transpose S4096x1024 [1, 0]
      (Host.dotGeneral (F := Ideal) dot_S1x2048x1024_S1x2048x4096_S1024x4096_01_01_2_2_n_n none a b) transposes_S1024x4096_S4096x1024_1_0)
      shapeCasts_S4096x1024_S4x1024x1024 (ix3 p f d)
      = ∑ n, a (ix3 0 n d) * b (ix3 0 n (hid p f)) := by
  pointwise
  rw [Fin.sum_univ_one]
  have e : (⟨p.val * 1024 + f.val, by omega⟩ : Fin 4096) = hid p f := Fin.ext (by show p.val * 1024 + f.val = 1024 * p.val + f.val; omega)
  rw [e]

theorem r56 (p : Fin 4) (d f : Fin 1024) :
    val_main_v56 (F := Ideal) (up3 X) (up0 G) (up2 A1) (up2 A2) (up3 Y) (ix3 p d f) = ((∑ n, HF X G n d * rDa X Y G A1 A2 n (hid p f) : ℝ) : EReal) := by
  refine (dot01_1 _ _ p d f).trans ?_
  simp only [r30, r15, ← EReal.coe_mul, coe_sum]
  simp only [mul_comm]

theorem r25v (n : Fin 2048) (j : Fin 4096) :
    val_main_v21 (F := Ideal) (up3 X) (up0 G) (up2 A1) (ix3 0 n j) = ((rR X G A1 n j * rR X G A1 n j : ℝ) : EReal) := by
  rw [EReal.coe_mul, ← r17]
  rfl

theorem r57 (p : Fin 4) (f d : Fin 1024) :
    val_main_v57 (F := Ideal) (up3 X) (up0 G) (up2 A1) (up3 Y) (ix3 p f d) = ((∑ n, rR X G A1 n (hid p f) * rR X G A1 n (hid p f) * Y n d : ℝ) : EReal) := by
  refine (dot01_2 _ _ p f d).trans ?_
  simp only [r25v]
  have e : ∀ n, (up3 Y : S1x2048x1024.Idx → EReal) (ix3 0 n d) = ((Y n d : ℝ) : EReal) := fun _ => rfl
  simp only [e, ← EReal.coe_mul, coe_sum]
  simp only [mul_comm]

end Real

section Split
variable (X Y : Fin 2048 → Fin 1024 → ℝ) (G : Fin 1024 → ℝ) (A1 : Fin 1024 → Fin 4096 → ℝ) (A2 : Fin 4096 → Fin 1024 → ℝ)

/-- The weights cut into parts of the hidden layer. -/
def cut1 (p : Fin 4) (d f : Fin 1024) : ℝ := A1 d (hid p f)
def cut2 (p : Fin 4) (f d : Fin 1024) : ℝ := A2 (hid p f) d

theorem sum_hid (g : Fin 4096 → ℝ) : ∑ j, g j = ∑ p : Fin 4, ∑ f : Fin 1024, g (hid p f) := by
  refine (Fin.sum_mul_add_fin 4 1024 g).symm.trans (Finset.sum_congr rfl fun p _ => Finset.sum_congr rfl fun f _ => congrArg g (Fin.ext ?_))
  show p.val * 1024 + f.val = 1024 * p.val + f.val
  omega

theorem sum_rows (g : Fin 2048 → ℝ) : ∑ N ∈ Finset.range 2048, g (rw' N) = ∑ n, g n := by
  rw [Finset.sum_range]
  exact Finset.sum_congr rfl fun n _ => congrArg g (Fin.ext (Nat.mod_eq_of_lt n.isLt))

theorem rDh_parts (n : Fin 2048) (d : Fin 1024) :
    rDh X Y G A1 A2 n d = ∑ p, DhF Y (cut1 A1) (cut2 A2) (rR X G A1) p n d := sum_hid _

theorem dx_parts (n : Fin 2048) (d : Fin 1024) :
    dx (X n) G (rDh X Y G A1 A2 n) d = ∑ p, dx (X n) G (DhF Y (cut1 A1) (cut2 A2) (rR X G A1) p n) d := by
  rw [← dx_sum]
  exact congrArg (fun h => dx (X n) G h d) (funext fun e => rDh_parts X Y G A1 A2 n e)

theorem dg_parts (d : Fin 1024) :
    ∑ n, X n d * rs (X n) * rDh X Y G A1 A2 n d = SgF X Y (cut1 A1) (cut2 A2) (rR X G A1) 3 2048 d := by
  rw [SgF, ← Finset.sum_range_succ (fun s => ∑ N ∈ Finset.range 2048, DgF X Y (cut1 A1) (cut2 A2) (rR X G A1) (pr s) (rw' N) d), Finset.sum_range]
  simp only [fun p => sum_rows (fun n => DgF X Y (cut1 A1) (cut2 A2) (rR X G A1) p n d)]
  rw [Finset.sum_comm]
  refine Finset.sum_congr rfl fun n _ => ?_
  rw [rDh_parts, Finset.mul_sum]
  exact Finset.sum_congr rfl fun p _ => congrArg (fun q => DgF X Y (cut1 A1) (cut2 A2) (rR X G A1) q n d) (Fin.ext (Nat.mod_eq_of_lt p.isLt).symm)

theorem dw1_parts (p : Fin 4) (d f : Fin 1024) :
    ∑ n, HF X G n d * rDa X Y G A1 A2 n (hid p f) = S1F X Y G (cut2 A2) (rR X G A1) 2048 p d f :=
  (sum_rows (fun n => HF X G n d * DaF Y (cut2 A2) (rR X G A1) p n f)).symm

theorem dw2_parts (p : Fin 4) (f d : Fin 1024) :
    ∑ n, rR X G A1 n (hid p f) * rR X G A1 n (hid p f) * Y n d = S2F Y (rR X G A1) 2048 p f d :=
  (sum_rows (fun n => rR X G A1 n (hid p f) * rR X G A1 n (hid p f) * Y n d)).symm

end Split

end Cert.FfnIdeal.Hand
end
-- ==== Proof.FfnClaim.lean ====
module

public import proofs.«01_k».proof.Defs
public import proofs.«01_k».proof.Proof.FfnHost
public import proofs.«01_k».proof.Proof.FfnRef
public import proofs.«01_k».proof.Proof.Finite
public import proofs.«01_k».proof.Proof.Gen.FfnRefIdeal.Run
public import proofs.«01_k».proof.Proof.Gen.Pre_ffn_finite
public import proofs.«01_k».proof.Proof.Gen.Ffn.Frame

/-! The claims of the feed-forward block's backward kernel. -/

@[expose] public section

set_option maxRecDepth 16384

noncomputable section

open Idealize.ShloMosaic Idealize.ShloMosaic.TcCoe Idealize.SL.Sem

namespace Cert.FfnIdeal.Hand

open Cert.FfnIdeal Cert.FfnIdeal.Gen
open Cert.Rms

/-- The arguments are arrays of reals. -/
structure Reals (m : (ℓ : Loc nD τ sig) → Buf (Elt Ideal) ℓ) (c : Dev nD) (X Y : Fin 2048 → Fin 1024 → ℝ) (G : Fin 1024 → ℝ)
    (A1 : Fin 1024 → Fin 4096 → ℝ) (A2 : Fin 4096 → Fin 1024 → ℝ) : Prop where
  h0 : m ((c : Thread nD τ).loc main_arg0) = up3 X
  h1 : m ((c : Thread nD τ).loc main_arg1) = up0 G
  h2 : m ((c : Thread nD τ).loc main_arg2) = up2 A1
  h3 : m ((c : Thread nD τ).loc main_arg3) = up2 A2
  h4 : m ((c : Thread nD τ).loc main_arg4) = up3 Y

/-- The precondition gives real arrays. -/
theorem reals_of_pre (m : (ℓ : Loc nD τ sig) → Buf (Elt Ideal) ℓ) (hp : Cert.Pre_FfnIdeal_ffn_finite m) (c : Dev nD) :
    ∃ X Y G A1 A2, Reals m c X Y G A1 A2 := by
  have e := congrFun (hp c) (fun a => a.elim0)
  dsimp only [Cert.Pre_ffn_finite.fn, Cert.Pre_ffn_finite.fn_part1] at e
  obtain ⟨e4, ey⟩ := Cert.Aux.and_one e
  obtain ⟨e3, e2'⟩ := Cert.Aux.and_one e4
  obtain ⟨e2, e1'⟩ := Cert.Aux.and_one e3
  obtain ⟨ex, eg⟩ := Cert.Aux.and_one e2
  obtain ⟨x, hx⟩ := Cert.Aux.real_of_all _ _ _ _ _ ex
  obtain ⟨g, hg⟩ := Cert.Aux.real_of_all _ _ _ _ _ eg
  obtain ⟨a1, h1⟩ := Cert.Aux.real_of_all _ _ _ _ _ e1'
  obtain ⟨a2, h2⟩ := Cert.Aux.real_of_all _ _ _ _ _ e2'
  obtain ⟨y, hy⟩ := Cert.Aux.real_of_all _ _ _ _ _ ey
  refine ⟨fun n d => x (ix3 0 n d), fun n d => y (ix3 0 n d), fun d => g (ix1 d), fun d j => a1 (ix2 d j), fun j d => a2 (ix2 j d), hx.trans ?_, hg.trans ?_, h1.trans ?_, h2.trans ?_, hy.trans ?_⟩
  all_goals funext i
  · obtain ⟨z, n, d, rfl⟩ : ∃ (z : Fin 1) (n : Fin 2048) (d : Fin 1024), i = ix3 z n d := ⟨i 0, i 1, i 2, (ix3_eta i).symm⟩
    obtain rfl : z = 0 := Subsingleton.elim _ _
    rfl
  · exact congrArg (fun j => ((g j : ℝ) : EReal)) (by funext a; match a with | ⟨0, _⟩ => rfl)
  · exact congrArg (fun j => ((a1 j : ℝ) : EReal)) (by funext a; match a with | ⟨0, _⟩ => rfl | ⟨1, _⟩ => rfl)
  · exact congrArg (fun j => ((a2 j : ℝ) : EReal)) (by funext a; match a with | ⟨0, _⟩ => rfl | ⟨1, _⟩ => rfl)
  · obtain ⟨z, n, d, rfl⟩ : ∃ (z : Fin 1) (n : Fin 2048) (d : Fin 1024), i = ix3 z n d := ⟨i 0, i 1, i 2, (ix3_eta i).symm⟩
    obtain rfl : z = 0 := Subsingleton.elim _ _
    rfl

variable {m : (ℓ : Loc nD τ sig) → Buf (Elt Ideal) ℓ} {c : Dev nD} {X Y : Fin 2048 → Fin 1024 → ℝ} {G : Fin 1024 → ℝ}
  {A1 : Fin 1024 → Fin 4096 → ℝ} {A2 : Fin 4096 → Fin 1024 → ℝ}

theorem hid_mul (p : Fin 4) (f : Fin 1024) (h : p.val * 1024 + f.val < 4096) : (⟨p.val * 1024 + f.val, h⟩ : Fin 4096) = hid p f :=
  Fin.ext (by show p.val * 1024 + f.val = 1024 * p.val + f.val; omega)

theorem host_w1 (a : FVec Ideal S1024x4096 .f32) (p : Fin 4) (d f : Fin 1024) :
    (truncf .bf16 (transpose S4x1024x1024 [1, 0, 2] (shapeCast S1024x4x1024 a shapeCasts_S1024x4096_S1024x4x1024) transposes_S1024x4x1024_S4x1024x1024_1_0_2) bitsLt_bf16_f32 : FVec Ideal S4x1024x1024 .bf16) (ix3 p d f) = a (ix2 d (hid p f)) := by
  pointwise
  rw [hid_mul]

theorem host_w2 (a : FVec Ideal S4096x1024 .f32) (p : Fin 4) (f d : Fin 1024) :
    (truncf .bf16 (shapeCast S4x1024x1024 a shapeCasts_S4096x1024_S4x1024x1024) bitsLt_bf16_f32 : FVec Ideal S4x1024x1024 .bf16) (ix3 p f d) = a (ix2 (hid p f) d) := by
  pointwise
  rw [hid_mul]

theorem host_r (a : FVec Ideal S1x2048x4096 .f32) (n : Fin 2048) (j : Fin 4096) :
    (shapeCast S2048x4096 (truncf .bf16 a bitsLt_bf16_f32 : FVec Ideal S1x2048x4096 .bf16) shapeCasts_S1x2048x4096_S2048x4096) (ix2 n j) = a (ix3 0 n j) := by
  pointwise

theorem host_x (a : FVec Ideal S1x2048x1024 .f32) (n : Fin 2048) (d : Fin 1024) :
    (shapeCast S2048x1024 a shapeCasts_S1x2048x1024_S2048x1024) (ix2 n d) = a (ix3 0 n d) := by
  pointwise

theorem host_g (a : FVec Ideal S1024 .f32) (d : Fin 1024) :
    (broadcastInDim S1x1024 ![1] bcast_S1024_S1x1024_1 a) (ix2 0 d) = a (ix1 d) := by
  pointwise

theorem tail_pt (a : FVec Ideal S4x2048x1024 .f32) (n : Fin 2048) (d : Fin 1024) :
    Host.reduceAdd a (constant (F := Ideal) S_ .f32 0x00000000#32) reducesTo_S4x2048x1024_S2048x1024_d0 h_S_ (ix2 n d) = ∑ p, a (ix3 p n d) := by
  pointwise

/-- What the kernel is given, of real arguments. -/
theorem args_of_reals (H : Reals m c X Y G A1 A2) : Args m c X Y G (cut1 A1) (cut2 A2) (rR X G A1) where
  hx := by
    rw [(V_host _ _).1, H.h0]; funext y
    obtain ⟨n, d, rfl⟩ : ∃ n d, y = ix2 n d := ⟨y 0, y 1, (ix2_eta y).symm⟩
    exact host_x _ n d
  hg := by
    rw [(V_host _ _).2.1, H.h1]; funext y
    obtain ⟨n, d, rfl⟩ : ∃ n d, y = ix2 n d := ⟨y 0, y 1, (ix2_eta y).symm⟩
    obtain rfl : n = 0 := Subsingleton.elim _ _
    exact host_g _ d
  hw1 := by
    rw [(V_host _ _).2.2.1, H.h2]; funext y
    obtain ⟨p, d, f, rfl⟩ : ∃ p d f, y = ix3 p d f := ⟨y 0, y 1, y 2, (ix3_eta y).symm⟩
    exact host_w1 _ p d f
  hw2 := by
    rw [(V_host _ _).2.2.2.1, H.h3]; funext y
    obtain ⟨p, d, f, rfl⟩ : ∃ p d f, y = ix3 p d f := ⟨y 0, y 1, y 2, (ix3_eta y).symm⟩
    exact host_w2 _ p d f
  hr := by
    rw [(V_host _ _).2.2.2.2.1, H.h0, H.h1, H.h2]; funext y
    obtain ⟨n, d, rfl⟩ : ∃ n d, y = ix2 n d := ⟨y 0, y 1, (ix2_eta y).symm⟩
    exact (host_r _ n d).trans (r17 X G A1 n d)
  hy := by
    rw [(V_host _ _).2.2.2.2.2, H.h4]; funext y
    obtain ⟨n, d, rfl⟩ : ∃ n d, y = ix2 n d := ⟨y 0, y 1, (ix2_eta y).symm⟩
    exact host_x _ n d

section Results
open Cert.FfnRefIdeal.Read

theorem res_dx (H : Reals m c X Y G A1 A2) : val_main_v58 (F := Ideal) (up3 X) (up0 G) (up2 A1) (up2 A2) (up3 Y)
    = Pipeline.afterTail₀ cfgs (dats m) 0 (V0 m) [hostOps1] c main_v26 := by
  rw [tail, arr6_real (args_of_reals H)]
  funext y
  obtain ⟨n, d, rfl⟩ : ∃ n d, y = ix2 n d := ⟨y 0, y 1, (ix2_eta y).symm⟩
  refine (r58 X Y G A1 A2 n d).trans (Eq.trans ?_ (tail_pt _ n d).symm)
  rw [dx_parts]
  exact (coe_sum _ _).symm

theorem res_dg (H : Reals m c X Y G A1 A2) : val_main_v59 (F := Ideal) (up3 X) (up0 G) (up2 A1) (up2 A2) (up3 Y) = (dats m 0 c).arrAt 7 cfg0.N := by
  rw [arr7_real (args_of_reals H)]
  funext y
  obtain ⟨z, d, rfl⟩ : ∃ z d, y = ix2 z d := ⟨y 0, y 1, (ix2_eta y).symm⟩
  obtain rfl : z = 0 := Subsingleton.elim _ _
  exact (r59 X Y G A1 A2 d).trans (congrArg _ (dg_parts X Y G A1 A2 d))

theorem real_dw1 : val_main_v56 (F := Ideal) (up3 X) (up0 G) (up2 A1) (up2 A2) (up3 Y)
    = fun y : S4x1024x1024.Idx => ((S1F X Y G (cut2 A2) (rR X G A1) 2048 (y 0) (y 1) (y 2) : ℝ) : EReal) := by
  funext y
  obtain ⟨p, d, f, rfl⟩ : ∃ p d f, y = ix3 p d f := ⟨y 0, y 1, y 2, (ix3_eta y).symm⟩
  exact (r56 X Y G A1 A2 p d f).trans (congrArg _ (dw1_parts X Y G A1 A2 p d f))

theorem real_dw2 : val_main_v57 (F := Ideal) (up3 X) (up0 G) (up2 A1) (up3 Y)
    = fun y : S4x1024x1024.Idx => ((S2F Y (rR X G A1) 2048 (y 0) (y 1) (y 2) : ℝ) : EReal) := by
  funext y
  obtain ⟨p, d, f, rfl⟩ : ∃ p d f, y = ix3 p d f := ⟨y 0, y 1, y 2, (ix3_eta y).symm⟩
  exact (r57 X Y G A1 p d f).trans (congrArg _ (dw2_parts X Y G A1 p d f))

theorem res_dw1 (H : Reals m c X Y G A1 A2) : val_main_v56 (F := Ideal) (up3 X) (up0 G) (up2 A1) (up2 A2) (up3 Y) = (dats m 0 c).arrAt 8 cfg0.N :=
  real_dw1.trans (arr8_real (args_of_reals H)).symm
theorem res_dw2 (H : Reals m c X Y G A1 A2) : val_main_v57 (F := Ideal) (up3 X) (up0 G) (up2 A1) (up3 Y) = (dats m 0 c).arrAt 9 cfg0.N :=
  real_dw2.trans (arr9_real (args_of_reals H)).symm
theorem res_dw1b (H : Reals m c X Y G A1 A2) : val_main_v60 (F := Ideal) (up3 X) (up0 G) (up2 A1) (up2 A2) (up3 Y) = (dats m 0 c).arrAt 10 cfg0.N :=
  (real_dw1 (X := X) (Y := Y) (G := G) (A1 := A1) (A2 := A2)).trans (arr10_real (args_of_reals H)).symm
theorem res_dw2b (H : Reals m c X Y G A1 A2) : val_main_v61 (F := Ideal) (up3 X) (up0 G) (up2 A1) (up3 Y) = (dats m 0 c).arrAt 11 cfg0.N :=
  (real_dw2 (X := X) (Y := Y) (G := G) (A1 := A1)).trans (arr11_real (args_of_reals H)).symm

end Results

theorem frame_ref : Cert.quiescent_FfnRefIdeal := fun m ρ _ =>
  (θ_run Cert.FfnRefIdeal.defs _ _).mono (fun r h => ⟨fun c => (h c).2.2.2.2.2.2, sem_eq_zero_of_no_sems (by decide) r.2⟩)
    (Cert.FfnRefIdeal.Value.run (F := Ideal) m ρ)

set_option maxHeartbeats 2000000 in
theorem algebraic : Cert.algebraic_FfnIdeal_FfnRefIdeal_pre_ffn_finite := by
  intro m g m' g' hpre hagree
  refine ⟨fun c => Pipeline.afterTail₀ cfgs (dats m) 0 (V0 m) [hostOps1] c main_v26, fun c => (dats m 0 c).arrAt 7 cfg0.N, fun c => (dats m 0 c).arrAt 8 cfg0.N,
    fun c => (dats m 0 c).arrAt 9 cfg0.N, fun c => (dats m 0 c).arrAt 10 cfg0.N, fun c => (dats m 0 c).arrAt 11 cfg0.N, ?_, ?_⟩
  · refine (θ_run defs _ _).mono (fun r h c => ?_) (θ_run_and (run_main m g) (frame m g))
    have hw := (h.1 c).1
    exact ⟨(h.1 c).2 main_v26 (by decide), hw 7, hw 8, hw 9, hw 10, hw 11, h.2.1 c⟩
  · refine (θ_run Cert.FfnRefIdeal.defs _ _).mono (fun _ h c => ?_) (Cert.FfnRefIdeal.Value.run (F := Ideal) m' g')
    obtain ⟨X, Y, G, A1, A2, H⟩ := reals_of_pre m hpre c
    obtain ⟨a0, a1, a2, a3, a4⟩ := hagree c
    have b0 := a0.trans H.h0
    have b1 := a1.trans H.h1
    have b2 := a2.trans H.h2
    have b3 := a3.trans H.h3
    have b4 := a4.trans H.h4
    clear a0 a1 a2 a3 a4
    have hc := h c
    clear h
    rw [Cert.FfnRefIdeal.Read.val_main_v58_eq, Cert.FfnRefIdeal.Read.val_main_v59_eq, Cert.FfnRefIdeal.Read.val_main_v56_eq, Cert.FfnRefIdeal.Read.val_main_v57_eq] at hc
    obtain ⟨h1, h2, h3, h4, h5, h6, h7⟩ := hc
    rw [b0, b1, b2, b3, b4] at h1 h2 h3 h5
    rw [b0, b1, b2, b4] at h4 h6
    exact ⟨h1.trans (res_dx H), h2.trans (res_dg H), h3.trans (res_dw1 H), h4.trans (res_dw2 H), h5.trans (res_dw1b H), h6.trans (res_dw2b H), h7⟩

end Cert.FfnIdeal.Hand
end
-- ==== Proof.GmOut.lean ====
module

public import proofs.«01_k».proof.Proof.Gen.GmIdeal.Frame
public import Idealize.ShloMosaic.Lib.Pipeline.ValueKit

/-! What the spatial gate's backward kernel leaves in its output buffers after each point of its grid. The kernel takes four
    chunks of 128 rows at a point; here the operations are written once, as functions of a chunk. -/

@[expose] public section

set_option maxRecDepth 16384

noncomputable section

open Idealize.ShloMosaic Idealize.ShloMosaic.TcCoe Idealize.SL.Sem

namespace Cert.GmIdeal.Hand

open Cert.GmIdeal Cert.GmIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The mask of a head's columns, one row. -/
def mkV (k : BitVec 32) : FVec F S1x256 .f32 :=
  sitofp .f32 (extui 32 (cmpi .eq (shrsi (iota .tc S1x256 32 [1] iota_S1x256_d1_w32) (broadcast S1x256 6#32)) (broadcast S1x256 k)) natLt_1_32)
def rowB (v : FVec F S1x256 .f32) : FVec F S128x256 .f32 := broadcastTo S128x256 v broadcasts_S1x256_S128x256
def colB (v : FVec F S128x1 .f32) : FVec F S128x256 .f32 := broadcastTo S128x256 v broadcasts_S128x1_S128x256
def rsum (x : FVec F S128x256 .f32) : FVec F S128x1 .f32 :=
  shapeCast S128x1 (multiReduction .add [1] S128 x 0x00000000#32 reduces_S128x256_S128 (.inl rfl) rfl) shapeCasts_S128_S128x1
def csum (x : FVec F S128x256 .f32) : FVec F S1x256 .f32 :=
  shapeCast S1x256 (multiReduction .add [0] S256 x 0x00000000#32 reduces_S128x256_S256 (.inl rfl) rfl) shapeCasts_S256_S1x256
def cst (w : BitVec 32) : FVec F S128x256 .f32 := broadcast S128x256 (Scalar.ofBits .f32 w)

/-- The mean of a head's columns, in these columns; the norm's denominator, its reciprocal root, and its slope. -/
def part (k : BitVec 32) (q : FVec F S128x256 .f32) : FVec F S128x256 .f32 :=
  mulf (rowB (mkV k)) (colB (mulf (rsum (mulf q (rowB (mkV k)))) (broadcast S128x1 (Scalar.ofBits .f32 0x3C800000#32))))
def msV (q : FVec F S128x256 .f32) : FVec F S128x256 .f32 :=
  addf (addf (addf (addf (addf (cst 0x00000000#32) (part 0#32 q)) (part 1#32 q)) (part 2#32 q)) (part 3#32 q)) (cst 0x358637BD#32)
def rsV (x : FVec F S128x256 .f32) : FVec F S128x256 .f32 := rsqrt (msV (mulf x x))
def coV (x : FVec F S128x256 .f32) : FVec F S128x256 .f32 := mulf (cst 0xBF000000#32) (divf (rsV x) (msV (mulf x x)))

/-- The norm's gradient. -/
def back (k : BitVec 32) (d : FVec F S128x256 .f32) : FVec F S128x256 .f32 :=
  mulf (colB (shapeCast S128x1 (multiReduction .add [1] S128 (mulf (rsum (mulf (rowB (mkV k)) d)) (broadcast S128x1 (Scalar.ofBits .f32 0x3C800000#32))) 0x00000000#32
    reduces_S128x1_S128 (.inl rfl) rfl) shapeCasts_S128_S128x1)) (rowB (mkV k))
def qqV (d : FVec F S128x256 .f32) : FVec F S128x256 .f32 := addf (addf (addf (back 3#32 d) (back 2#32 d)) (back 1#32 d)) (back 0#32 d)
def dxV (x dyg : FVec F S128x256 .f32) : FVec F S128x256 .f32 :=
  addf (addf (mulf dyg (rsV x)) (mulf x (qqV (mulf (mulf x dyg) (coV x))))) (mulf (qqV (mulf (mulf x dyg) (coV x))) x)

/-- The gated unit and its gradient. -/
def th (x : FVec F S128x256 .f32) : FVec F S128x256 .f32 :=
  tanh (mulf (cst 0x3F4C422A#32) (addf x (mulf (cst 0x3D372713#32) (mulf (mulf x x) x))))
def op (x : FVec F S128x256 .f32) : FVec F S128x256 .f32 := addf (cst 0x3F800000#32) (th x)
def gel (x : FVec F S128x256 .f32) : FVec F S128x256 .f32 := mulf (mulf (cst 0x3F000000#32) x) (op x)
def dg1 (x a : FVec F S128x256 .f32) : FVec F S128x256 .f32 :=
  mulf (cst 0x3F4C422A#32) (mulf (mulf (mulf (cst 0x3F000000#32) x) a) (mulf (op x) (subf (cst 0x3F800000#32) (th x))))
def dg2 (x a : FVec F S128x256 .f32) : FVec F S128x256 .f32 := mulf (cst 0x3D372713#32) (dg1 x a)
def dgel (x a : FVec F S128x256 .f32) : FVec F S128x256 .f32 :=
  addf (addf (addf (addf (dg1 x a) (mulf (mulf x x) (dg2 x a))) (mulf x (mulf (dg2 x a) x))) (mulf (mulf (dg2 x a) x) x))
    (mulf (cst 0x3F000000#32) (mulf a (op x)))

/-- The mixing weights below the diagonal, the masks of the four heads, and the mixed values. -/
def tri : IVec S4x128x128 1 := k0_pay44
def wmV (w : FVec F S4x128x128 .f32) : FVec F S4x128x128 .f32 := k0_pay45 w
def mhV : FVec F S4x1x256 .f32 :=
  concatenate S4x1x256 0 [⟨S1x1x256, shapeCast S1x1x256 (mkV 0#32) shapeCasts_S1x256_S1x1x256⟩, ⟨S1x1x256, shapeCast S1x1x256 (mkV 1#32) shapeCasts_S1x256_S1x1x256⟩,
    ⟨S1x1x256, shapeCast S1x1x256 (mkV 2#32) shapeCasts_S1x256_S1x1x256⟩, ⟨S1x1x256, shapeCast S1x1x256 (mkV 3#32) shapeCasts_S1x256_S1x1x256⟩]
    concatenates_S1x1x256_S1x1x256_S1x1x256_S1x1x256_S4x1x256_d0
def bc4 (x : FVec F S128x256 .f32) : FVec F S4x128x256 .f32 :=
  broadcastTo S4x128x256 (shapeCast S1x128x256 x shapeCasts_S128x256_S1x128x256) broadcasts_S1x128x256_S4x128x256
def mhB : FVec F S4x128x256 .f32 := broadcastTo S4x128x256 mhV broadcasts_S4x1x256_S4x128x256
def nvh (v : FVec F S128x256 .f32) (vg : FVec F S1x256 .f32) : FVec F S4x128x256 .f32 := mulf (bc4 (mulf (mulf (gel v) (rsV (gel v))) (rowB vg))) mhB
def yV (v : FVec F S128x256 .f32) (vg : FVec F S1x256 .f32) (w : FVec F S4x128x128 .f32) (b0 b1 b2 b3 : FVec F S128x1 .f32) : FVec F S128x256 .f32 :=
  k0_pay49 b0 b1 b2 b3 (mkV 0#32) (mkV 1#32) (mkV 2#32) (mkV 3#32) (truncf .bf16 (wmV w) bitsLt_bf16_f32) (truncf .bf16 (nvh v vg) bitsLt_bf16_f32)
    (constant S4x128x256 .f32 0x00000000#32)

/-- One chunk's inputs, and what the kernel computes of it. -/
structure Ch (F : FTy → Type) [FloatOps F] where
  u : FVec F S128x256 .f32
  v : FVec F S128x256 .f32
  ct : FVec F S128x256 .f32
  vg : FVec F S1x256 .f32
  og : FVec F S1x256 .f32
  w : FVec F S4x128x128 .f32
  b0 : FVec F S128x1 .f32
  b1 : FVec F S128x1 .f32
  b2 : FVec F S128x1 .f32
  b3 : FVec F S128x1 .f32

namespace Ch
variable (a : Ch F)
def y : FVec F S128x256 .f32 := yV a.v a.vg a.w a.b0 a.b1 a.b2 a.b3
def z : FVec F S128x256 .f32 := mulf (gel a.u) a.y
def dog : FVec F S1x256 .f32 := csum (mulf (mulf a.z (rsV a.z)) a.ct)
def dz : FVec F S128x256 .f32 := dxV a.z (mulf a.ct (rowB a.og))
def dy : FVec F S128x256 .f32 := mulf (gel a.u) a.dz
def dgu : FVec F S128x256 .f32 := mulf a.dz a.y
def db (k : BitVec 32) : FVec F S128x1 .f32 := rsum (mulf a.dy (rowB (mkV k)))
def dw : FVec F S4x128x128 .f32 :=
  select tri (matmul dot_S4x128x256_S4x128x256_S4x128x128_2_2_1_1_0_0 none (truncf .bf16 (bc4 a.dy) bitsLt_bf16_f32 : FVec F S4x128x256 .bf16)
    (truncf .bf16 (nvh a.v a.vg) bitsLt_bf16_f32 : FVec F S4x128x256 .bf16) (constant S4x128x128 .f32 0x00000000#32))
    (broadcast S4x128x128 (Scalar.ofBits .f32 0x00000000#32))
def dnv : FVec F S128x256 .f32 :=
  multiReduction .add [0] S128x256 (shapeCast S1x128x256 (multiReduction .add [0] S128x256
    (mulf (matmul dot_S4x128x128_S4x128x256_S4x128x256_1_1_2_2_0_0 none (truncf .bf16 (wmV a.w) bitsLt_bf16_f32 : FVec F S4x128x128 .bf16)
      (truncf .bf16 (bc4 a.dy) bitsLt_bf16_f32 : FVec F S4x128x256 .bf16) (constant S4x128x256 .f32 0x00000000#32)) mhB)
    0x00000000#32 reduces_S4x128x256_S128x256 (.inl rfl) rfl) shapeCasts_S128x256_S1x128x256) 0x00000000#32 reduces_S1x128x256_S128x256 (.inl rfl) rfl
def dvg : FVec F S1x256 .f32 := csum (mulf (mulf (gel a.v) (rsV (gel a.v))) a.dnv)
def dv : FVec F S128x256 .f32 := dgel a.v (dxV (gel a.v) (mulf a.dnv (rowB a.vg)))
def du : FVec F S128x256 .f32 := dgel a.u a.dgu
end Ch

def sum4 {S : Shape} (f : Fin 4 → FVec F S .f32) : FVec F S .f32 := addf (addf (addf (f 0) (f 1)) (f 2)) (f 3)

/-- The parts of the blocks a point takes. -/
def pu (j : Fin 4) : Rect S512x512 := Rect.unit ![128 * j.val, 0] S128x256.size fun i => by
  match i with
  | ⟨0, _⟩ => show 128 * j.val + 128 ≤ 512; omega
  | ⟨1, _⟩ => show 0 + 256 ≤ 512; omega
def pv (j : Fin 4) : Rect S512x512 := Rect.unit ![128 * j.val, 256] S128x256.size fun i => by
  match i with
  | ⟨0, _⟩ => show 128 * j.val + 128 ≤ 512; omega
  | ⟨1, _⟩ => show 256 + 256 ≤ 512; omega
def pc (j : Fin 4) : Rect S512x256 := Rect.unit ![128 * j.val, 0] S128x256.size fun i => by
  match i with
  | ⟨0, _⟩ => show 128 * j.val + 128 ≤ 512; omega
  | ⟨1, _⟩ => show 0 + 256 ≤ 256; omega
def pb (h : Fin 4) : Rect S4x128x1 := Rect.unit ![h.val, 0, 0] S1x128x1.size fun i => by
  match i with
  | ⟨0, _⟩ => show h.val + 1 ≤ 4; omega
  | ⟨1, _⟩ => show 0 + 128 ≤ 128; omega
  | ⟨2, _⟩ => show 0 + 1 ≤ 1; omega

def bias (b : Vec F S4x128x1 .f32) (h : Fin 4) : FVec F S128x1 .f32 := shapeCast S128x1 (View.ld b (pb h)) shapeCasts_S1x128x1_S128x1
def chk (pa : Vec F S512x512 .f32) (vg : Vec F S1x256 .f32) (w : Vec F S4x128x128 .f32) (b : Vec F S4x128x1 .f32) (og : Vec F S1x256 .f32)
    (ct : Vec F S512x256 .f32) (j : Fin 4) : Ch F where
  u := shapeCast S128x256 (View.ld pa (pu j)) shapeCasts_S128x256_S128x256
  v := shapeCast S128x256 (View.ld pa (pv j)) shapeCasts_S128x256_S128x256
  ct := shapeCast S128x256 (View.ld ct (pc j)) shapeCasts_S128x256_S128x256
  vg := shapeCast S1x256 vg shapeCasts_S1x256_S1x256
  og := shapeCast S1x256 og shapeCasts_S1x256_S1x256
  w := w
  b0 := bias b 0
  b1 := bias b 1
  b2 := bias b 2
  b3 := bias b 3

def can8 (du dv : Fin 4 → Vec F S128x256 .f32) : Vec F S512x512 .f32 :=
  View.canon (Val := Elt F) [⟨pv 3, dv 3⟩, ⟨pu 3, du 3⟩, ⟨pv 2, dv 2⟩, ⟨pu 2, du 2⟩, ⟨pv 1, dv 1⟩, ⟨pu 1, du 1⟩, ⟨pv 0, dv 0⟩, ⟨pu 0, du 0⟩]
def can4 (b : Fin 4 → Vec F S1x128x1 .f32) : Vec F S4x128x1 .f32 :=
  View.canon (Val := Elt F) [⟨pb 3, b 3⟩, ⟨pb 2, b 2⟩, ⟨pb 1, b 1⟩, ⟨pb 0, b 0⟩]

variable (m : (ℓ : Loc nD τ sig) → Buf (Elt F) ℓ) (c : Dev nD) (t : Fin cfg0.N)

abbrev chT (j : Fin 4) : Ch F := chk (iblk m c 0 t) (iblk m c 1 t) (iblk m c 2 t) (iblk m c 3 t) (iblk m c 4 t) (iblk m c 5 t) j
def wd (h : Fin 4) : BitVec 32 := match h with | ⟨0, _⟩ => 0#32 | ⟨1, _⟩ => 1#32 | ⟨2, _⟩ => 2#32 | ⟨3, _⟩ => 3#32
abbrev dbT (h : Fin 4) : FVec F S128x1 .f32 := sum4 fun j => (chT m c t j).db (wd h)

end Cert.GmIdeal.Hand
-- ==== Proof.OutprojOut.lean ====
module

public import proofs.«01_k».proof.Proof.Gen.OutprojIdeal.Frame
public import Idealize.ShloMosaic.Lib.Pipeline.ValueKit

/-! What the output projection's backward kernel leaves in its output buffers after each point of its grid: the gradients of
    the rows it takes, and four accumulators. The norm works head by head, each head's columns in 128 of their own. -/

@[expose] public section

set_option maxRecDepth 16384

noncomputable section

open Idealize.ShloMosaic Idealize.ShloMosaic.TcCoe Idealize.SL.Sem

namespace Cert.OutprojIdeal.Hand

open Cert.OutprojIdeal Cert.OutprojIdeal.Gen

variable {F : FTy → Type} [FloatOps F]

theorem hz2 : (![0, 0] : Fin 2 → Nat) = fun _ => 0 := funext fun a => by fin_cases a <;> rfl

/-- The columns of head `k`. -/
def sl (a : ℕ) (k : Fin 8) : Rect ⟨2, ![a, 1024]⟩ := Rect.unit ![0, 128 * k.val] ![a, 128] fun i => by
  match i with
  | ⟨0, _⟩ => exact (Nat.zero_add a).le
  | ⟨1, _⟩ => show 128 * k.val + 128 ≤ 1024; omega

/-- A head's columns of an array; the array of eight heads' columns. -/
def part {a : ℕ} (u : Vec F ⟨2, ![a, 1024]⟩ .f32) (k : Fin 8) : Vec F ⟨2, ![a, 128]⟩ .f32 := View.ld u (sl a k)
def can8 {a : ℕ} (w : Fin 8 → Vec F ⟨2, ![a, 128]⟩ .f32) : Vec F ⟨2, ![a, 1024]⟩ .f32 :=
  View.canon (Val := Elt F) [⟨sl a 7, w 7⟩, ⟨sl a 6, w 6⟩, ⟨sl a 5, w 5⟩, ⟨sl a 4, w 4⟩, ⟨sl a 3, w 3⟩, ⟨sl a 2, w 2⟩, ⟨sl a 1, w 1⟩, ⟨sl a 0, w 0⟩]

/-- The gradient that comes in is a sum of five. -/
def ctV (r : FVec F S512x1024 .f32) (p : Vec F S4x512x1024 .f32) : FVec F S512x1024 .f32 :=
  k0_pay5 r (View.ld p (Rect.unit ![0, 0, 0] S1x512x1024.size inb_S4x512x1024_S1x512x1024_0_0_0))
    (View.ld p (Rect.unit ![1, 0, 0] S1x512x1024.size inb_S4x512x1024_S1x512x1024_1_0_0))
    (View.ld p (Rect.unit ![2, 0, 0] S1x512x1024.size inb_S4x512x1024_S1x512x1024_2_0_0))
    (View.ld p (Rect.unit ![3, 0, 0] S1x512x1024.size inb_S4x512x1024_S1x512x1024_3_0_0))

/-- One head's columns: the scaled norm, its gradient, and what it adds to the gain's gradient. -/
def yH (x : FVec F S512x128 .f32) (g : FVec F S1x128 .f32) : FVec F S512x128 .f32 := k0_pay31 (k0_pay8 x) (k0_pay16 g)
def doH (x : FVec F S512x128 .f32) (g : FVec F S1x128 .f32) (dy : FVec F S512x128 .f32) : FVec F S512x128 .f32 :=
  k0_pay101 (k0_pay8 x) (k0_pay28 (k0_pay8 x)) (k0_pay29 (k0_pay8 x)) dy (k0_pay100 (k0_pay16 g))
def dgH (x dy : FVec F S512x128 .f32) : FVec F S1x128 .f32 := k0_pay99 (k0_pay30 (k0_pay8 x)) dy

/-- The gradient of the normed heads, head by head. -/
def dyP (ct : FVec F S512x1024 .f32) (w : FVec F S1024x1024 .bf16) (k : Fin 8) : FVec F S512x128 .f32 :=
  match k with
  | ⟨0, _⟩ => k0_pay73 ct (k0_pay26 w)
  | ⟨1, _⟩ => k0_pay74 (k0_pay67 ct (k0_pay26 w))
  | ⟨2, _⟩ => k0_pay75 (k0_pay67 ct (k0_pay26 w))
  | ⟨3, _⟩ => k0_pay76 (k0_pay67 ct (k0_pay26 w))
  | ⟨4, _⟩ => k0_pay77 (k0_pay67 ct (k0_pay26 w))
  | ⟨5, _⟩ => k0_pay78 (k0_pay67 ct (k0_pay26 w))
  | ⟨6, _⟩ => k0_pay79 (k0_pay67 ct (k0_pay26 w))
  | ⟨7, _⟩ => k0_pay80 (k0_pay67 ct (k0_pay26 w))
def dwcV (ct : FVec F S512x1024 .f32) (x : FVec F S512x1024 .f32) (g : FVec F S1x1024 .f32) : FVec F S1024x1024 .f32 :=
  k0_pay68 ct (k0_pay8 (part x 6)) (k0_pay8 (part x 7)) (k0_pay16 (part g 6)) (k0_pay16 (part g 7)) (yH (part x 0) (part g 0)) (yH (part x 1) (part g 1))
    (yH (part x 2) (part g 2)) (yH (part x 3) (part g 3)) (yH (part x 4) (part g 4)) (yH (part x 5) (part g 5)) (k0_pay58 (k0_pay8 (part x 6)))

variable (m : (ℓ : Loc nD τ sig) → Buf (Elt F) ℓ) (c : Dev nD) (t : Fin cfg0.N)

abbrev ctT : FVec F S512x1024 .f32 := ctV (iblk m c 7 t) (iblk m c 8 t)
abbrev dyaT : FVec F S512x256 .f32 := k0_pay71 (ctT m c t) (k0_pay24 (iblk m c 4 t))
abbrev dybT : FVec F S512x256 .f32 := k0_pay69 (ctT m c t) (k0_pay25 (iblk m c 5 t))
abbrev doT (k : Fin 8) : FVec F S512x128 .f32 :=
  doH (part (a := 512) (iblk m c 2 t) k) (part (a := 1) (iblk m c 3 t) k) (dyP (ctT m c t) (iblk m c 6 t) k)
abbrev dgT (k : Fin 8) : FVec F S1x128 .f32 := dgH (part (a := 512) (iblk m c 2 t) k) (dyP (ctT m c t) (iblk m c 6 t) k)
abbrev dwaT : FVec F S256x1024 .f32 := k0_pay72 (ctT m c t) (k0_pay6 (iblk m c 0 t))
abbrev dwbT : FVec F S256x1024 .f32 := k0_pay70 (ctT m c t) (k0_pay7 (iblk m c 1 t))
abbrev dwcT : FVec F S1024x1024 .f32 := dwcV (ctT m c t) (iblk m c 2 t) (iblk m c 3 t)

set_option maxHeartbeats 8000000 in
theorem outs_A (h : t.val = 0) : (outsAt0 m c t.val t.isLt).1 = ctT m c t
    ∧ (outsAt0 m c t.val t.isLt).2.1 = dyaT m c t
    ∧ (outsAt0 m c t.val t.isLt).2.2.1 = dybT m c t
    ∧ (outsAt0 m c t.val t.isLt).2.2.2.1 = can8 (doT m c t)
    ∧ (outsAt0 m c t.val t.isLt).2.2.2.2.1 = can8 (dgT m c t)
    ∧ (outsAt0 m c t.val t.isLt).2.2.2.2.2.1 = dwaT m c t
    ∧ (outsAt0 m c t.val t.isLt).2.2.2.2.2.2.1 = dwbT m c t
    ∧ (outsAt0 m c t.val t.isLt).2.2.2.2.2.2.2 = dwcT m c t := by
  have ht := t.isLt
  have hN : cfg0.N = 4 := rfl
  rw [outsAt0_A m c t (by omega) (by omega) (by omega) (by omega) (by omega) (by omega) (by omega) (by omega) (by omega) (by omega) (by omega) (by omega) (by omega) (by omega) (by omega) (by omega) (by omega) (by omega) (by omega) (by omega) (by omega) (by omega)]
  dsimp only
  unfold out0_A_9 out0_A_10 out0_A_11 out0_A_12 out0_A_13 out0_A_14 out0_A_15 out0_A_16
  refine ⟨(View.read_writes_eq_canon _ _ _ fun _ => cover0_A_9 ..).trans ?_, (View.read_writes_eq_canon _ _ _ fun _ => cover0_A_10 ..).trans ?_, (View.read_writes_eq_canon _ _ _ fun _ => cover0_A_11 ..).trans ?_, (View.read_writes_eq_canon _ _ _ fun _ => cover0_A_12 ..).trans ?_, (View.read_writes_eq_canon _ _ _ fun _ => cover0_A_13 ..).trans ?_, (View.read_writes_eq_canon _ _ _ fun _ => cover0_A_14 ..).trans ?_, (View.read_writes_eq_canon _ _ _ fun _ => cover0_A_15 ..).trans ?_, (View.read_writes_eq_canon _ _ _ fun _ => cover0_A_16 ..).trans ?_⟩
  all_goals
    unfold kernelRun0_A; dsimp only
    try rw [View.canon_unit_zero hz2]
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, View.readAt_eq_ld, Memref.IsWhole.read_unread, View.ld_unit_zero (S := S512x1024) hz2, View.ld_unit_zero (S := S256x1024) hz2, View.ld_unit_zero (S := S512x256) hz2, View.ld_unit_zero (S := S1024x1024) hz2]
    try rfl

set_option maxHeartbeats 8000000 in
theorem outs_B (h : t.val ≠ 0) : (outsAt0 m c t.val t.isLt).1 = ctT m c t
    ∧ (outsAt0 m c t.val t.isLt).2.1 = dyaT m c t
    ∧ (outsAt0 m c t.val t.isLt).2.2.1 = dybT m c t
    ∧ (outsAt0 m c t.val t.isLt).2.2.2.1 = can8 (doT m c t)
    ∧ (outsAt0 m c t.val t.isLt).2.2.2.2.1 = can8 (fun k => k0_pay1 (dgT m c t k) (part (a := 1) (outsAt0 m c (t.val - 1) (by omega)).2.2.2.2.1 k))
    ∧ (outsAt0 m c t.val t.isLt).2.2.2.2.2.1 = k0_pay102 (dwaT m c t) (outsAt0 m c (t.val - 1) (by omega)).2.2.2.2.2.1
    ∧ (outsAt0 m c t.val t.isLt).2.2.2.2.2.2.1 = k0_pay103 (dwbT m c t) (outsAt0 m c (t.val - 1) (by omega)).2.2.2.2.2.2.1
    ∧ (outsAt0 m c t.val t.isLt).2.2.2.2.2.2.2 = k0_pay104 (dwcT m c t) (outsAt0 m c (t.val - 1) (by omega)).2.2.2.2.2.2.2 := by
  have ht := t.isLt
  have hN : cfg0.N = 4 := rfl
  rw [outsAt0_B m c t (by omega) (by omega) (by omega) (by omega) (by omega) (by omega) (by omega) (by omega) (by omega) (by omega) (by omega) (by omega) (by omega) (by omega) (by omega) (by omega) (by omega) (by omega) (by omega) (by omega) (by omega) (by omega)]
  dsimp only
  unfold out0_B_9 out0_B_10 out0_B_11 out0_B_12 out0_B_13 out0_B_14 out0_B_15 out0_B_16
  refine ⟨(View.read_writes_eq_canon _ _ _ fun _ => cover0_B_9 ..).trans ?_, (View.read_writes_eq_canon _ _ _ fun _ => cover0_B_10 ..).trans ?_, (View.read_writes_eq_canon _ _ _ fun _ => cover0_B_11 ..).trans ?_, (View.read_writes_eq_canon _ _ _ fun _ => cover0_B_12 ..).trans ?_, (View.read_writes_eq_canon _ _ _ fun _ => cover0_B_13 ..).trans ?_, (View.read_writes_eq_canon _ _ _ fun _ => cover0_B_14 ..).trans ?_, (View.read_writes_eq_canon _ _ _ fun _ => cover0_B_15 ..).trans ?_, (View.read_writes_eq_canon _ _ _ fun _ => cover0_B_16 ..).trans ?_⟩
  all_goals
    unfold kernelRun0_B; dsimp only
    try rw [View.canon_unit_zero hz2]
    simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_70, kernelRun0_B.sl.r_71, kernelRun0_B.sl.r_72, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_80, kernelRun0_B.sl.r_81, kernelRun0_B.sl.r_82, kernelRun0_B.sl.r_83, kernelRun0_B.sl.r_84, kernelRun0_B.sl.r_85, kernelRun0_B.sl.r_86, kernelRun0_B.sl.v433, kernelRun0_B.sl.v433_1, kernelRun0_B.sl.v433_2, kernelRun0_B.sl.v433_3, kernelRun0_B.sl.v433_4, kernelRun0_B.sl.v433_5, kernelRun0_B.sl.v433_6, View.readAt_eq_ld, Memref.IsWhole.read_unread, View.ld_unit_zero (S := S512x1024) hz2, View.ld_unit_zero (S := S256x1024) hz2, View.ld_unit_zero (S := S512x256) hz2, View.ld_unit_zero (S := S1024x1024) hz2]
    try rfl

end Cert.OutprojIdeal.Hand
end
-- ==== Proof.OutprojPay.lean ====
module

public import proofs.«01_k».proof.Proof.OutprojOut
public import Idealize.ShloMosaic.Lib.Pointwise

/-! The output projection's backward kernel, one point of its grid: its payloads entry by entry over the extended reals. -/

@[expose] public section

set_option maxRecDepth 16384

noncomputable section

open Idealize.ShloMosaic Idealize.ShloMosaic.TcCoe Idealize.SL.Sem

namespace Cert.HeadE

variable {n : ℕ}
/-- A head's mean square over its 64 columns plus ε, its scale, the factor of the scale's derivative, and the gradient of a scaled norm. -/
def ms (x : Fin n → EReal) : EReal := Ideal.div (∑ k, x k * x k) (Ideal.ofBits .f32 0x42800000#32) + Ideal.ofBits .f32 0x358637BD#32
def rs (x : Fin n → EReal) : EReal := Ideal.rsqrt (ms x)
def co (x : Fin n → EReal) : EReal := Ideal.ofBits .f32 0xBF000000#32 * Ideal.div (rs x) (ms x)
def qq (x g dy : Fin n → EReal) : EReal := Ideal.div ((∑ k, x k * (dy k * g k)) * co x) (Ideal.ofBits .f32 0x42800000#32)
def dx (x g dy : Fin n → EReal) (d : Fin n) : EReal := dy d * g d * rs x + x d * qq x g dy + qq x g dy * x d

/-- A head's 64 columns at the head of 128, the others zero. -/
def pad (f : Fin 64 → EReal) (d : Fin 128) : EReal := if h : d.val < 64 then f ⟨d.val, h⟩ else 0

theorem sum_pad (f g : Fin 64 → EReal) : ∑ d, pad f d * pad g d = ∑ d, f d * g d := by
  rw [show (∑ d, pad f d * pad g d) = ∑ d : Fin (64 + 64), pad f d * pad g d from rfl, Fin.sum_univ_add]
  have z : ∑ i : Fin 64, pad f (Fin.natAdd 64 i) * pad g (Fin.natAdd 64 i) = 0 := Finset.sum_eq_zero fun i _ => by
    rw [pad, dif_neg (by simp), zero_mul]
  rw [z, add_zero]
  refine Finset.sum_congr rfl fun i _ => ?_
  have hi : (Fin.castAdd 64 i).val < 64 := i.isLt
  rw [pad, pad, dif_pos hi, dif_pos hi]
  rfl
theorem pad_mul (f g : Fin 64 → EReal) (d : Fin 128) : pad f d * pad g d = pad (fun k => f k * g k) d := by
  unfold pad; split
  · rfl
  · rw [mul_zero]
theorem pad_smul (f : Fin 64 → EReal) (s : EReal) (d : Fin 128) : pad f d * s = pad (fun k => f k * s) d := by
  unfold pad; split
  · rfl
  · rw [zero_mul]
theorem pad_sum {ι : Type} (s : Finset ι) (f : ι → Fin 64 → EReal) (d : Fin 128) : ∑ i ∈ s, pad (f i) d = pad (fun k => ∑ i ∈ s, f i k) d := by
  unfold pad; split
  · rfl
  · exact Finset.sum_const_zero
theorem ms_pad (x : Fin 64 → EReal) : ms (pad x) = ms x := by rw [ms, ms, sum_pad]
theorem rs_pad (x : Fin 64 → EReal) : rs (pad x) = rs x := by rw [rs, rs, ms_pad]
theorem co_pad (x : Fin 64 → EReal) : co (pad x) = co x := by rw [co, co, ms_pad, rs_pad]
theorem qq_pad (x g dy : Fin 64 → EReal) : qq (pad x) (pad g) (pad dy) = qq x g dy := by
  rw [qq, qq, co_pad]
  simp only [pad_mul dy g]
  rw [sum_pad]
theorem dx_pad (x g dy : Fin 64 → EReal) (d : Fin 128) : dx (pad x) (pad g) (pad dy) d = pad (dx x g dy) d := by
  rw [dx, qq_pad, rs_pad]
  unfold pad; split
  · rfl
  · simp only [mul_zero, zero_mul, add_zero]

/-- A product with 1/64 is a quotient by 64. -/
theorem div64 (a : EReal) : a * Ideal.ofBits .f32 0x3C800000#32 = Ideal.div a (Ideal.ofBits .f32 0x42800000#32) := by
  have h1 : Ideal.ofBits .f32 0x42800000#32 = ((64 : ℝ) : EReal) := by simp [Ideal.ofBits, Ideal.ieee, -EReal.coe_mul]; norm_num
  have h2 : Ideal.ofBits .f32 0x3C800000#32 = ((1 / 64 : ℝ) : EReal) := by simp [Ideal.ofBits, Ideal.ieee, -EReal.coe_mul]; norm_num
  rw [h1, h2, Ideal.div_coe (by norm_num)]

end Cert.HeadE

namespace Cert.OutprojIdeal.Hand

open Cert.OutprojIdeal Cert.OutprojIdeal.Gen
open Cert

/-- Column `d` of head `k`. -/
def cc (k : Fin 8) (d : Fin 128) : Fin 1024 := ⟨128 * k.val + d.val, by omega⟩

theorem cc_eq (j : Fin 1024) : ∃ k d, j = cc k d :=
  ⟨⟨j.val / 128, by omega⟩, ⟨j.val % 128, Nat.mod_lt _ (by omega)⟩, Fin.ext (by show j.val = 128 * (j.val / 128) + j.val % 128; omega)⟩

theorem sl_emb {a : ℕ} (k : Fin 8) (n : Fin a) (d : Fin 128) : ((sl a k).emb (ix2 n d : (⟨2, ![a, 128]⟩ : Shape).Idx) : (⟨2, ![a, 1024]⟩ : Shape).Idx) = ix2 n (cc k d) := by
  funext i; match i with
  | ⟨0, _⟩ => exact Fin.ext (by show 0 + 1 * n.val = n.val; omega)
  | ⟨1, _⟩ => exact Fin.ext (by show 128 * k.val + 1 * d.val = 128 * k.val + d.val; omega)

theorem part_apply {a : ℕ} (u : Vec Ideal ⟨2, ![a, 1024]⟩ .f32) (k : Fin 8) (n : Fin a) (d : Fin 128) : part u k (ix2 n d) = u (ix2 n (cc k d)) :=
  congrArg u (sl_emb k n d)

theorem canon_at {a : ℕ} (w : Fin 8 → Vec Ideal ⟨2, ![a, 128]⟩ .f32) (k : Fin 8) (n : Fin a) (d : Fin 128) : ∀ l : List (Fin 8), k ∈ l →
    View.canon (Val := Elt Ideal) (l.map fun j => (⟨sl a j, w j⟩ : View.Piece (Elt Ideal) ⟨2, ![a, 1024]⟩ .f32)) (ix2 n (cc k d)) = w k (ix2 n d)
  | [], h => absurd h List.not_mem_nil
  | j :: l, h => by
    rw [List.map_cons]
    by_cases hj : k = j
    · subst hj
      rw [← sl_emb k n d]
      exact View.canon_cons_emb (sl a k) (w k) _ (ix2 n d)
    · refine (View.canon_cons_of_not_mem ⟨sl a j, w j⟩ _ fun hm => ?_).trans (canon_at w k n d l ((List.mem_cons.mp h).resolve_left hj))
      obtain ⟨i, hi, he⟩ := (LoadRect.mem_set _).mp hm (1 : Fin 2)
      have hi' : i < 128 := hi
      have he' : 128 * k.val + d.val = 128 * j.val + 1 * i := he
      have := d.isLt
      exact hj (Fin.ext (by omega))

theorem can8_apply {a : ℕ} (w : Fin 8 → Vec Ideal ⟨2, ![a, 128]⟩ .f32) (k : Fin 8) (n : Fin a) (d : Fin 128) : can8 w (ix2 n (cc k d)) = w k (ix2 n d) :=
  canon_at w k n d [7, 6, 5, 4, 3, 2, 1, 0] (by fin_cases k <;> decide)

section Head
variable (x : FVec Ideal S512x128 .f32) (g : FVec Ideal S1x128 .f32) (dy : FVec Ideal S512x128 .f32)

theorem pay27_apply (n : Fin 512) : k0_pay27 (F := Ideal) (k0_pay8 x) (ix2 n 0) = HeadE.ms (fun k => x (ix2 n k)) := by
  rw [HeadE.ms, ← HeadE.div64]
  pointwise [k0_pay27, k0_pay8]
theorem pay28_apply (n : Fin 512) : k0_pay28 (F := Ideal) (k0_pay8 x) (ix2 n 0) = HeadE.rs (fun k => x (ix2 n k)) := by
  rw [HeadE.rs, ← pay27_apply]; rfl
theorem pay29_apply (n : Fin 512) : k0_pay29 (F := Ideal) (k0_pay8 x) (ix2 n 0) = HeadE.co (fun k => x (ix2 n k)) := by
  rw [HeadE.co, ← pay27_apply, ← pay28_apply]
  unfold k0_pay29
  generalize k0_pay28 (F := Ideal) (k0_pay8 x) = a
  generalize k0_pay27 (F := Ideal) (k0_pay8 x) = b
  pointwise
theorem pay30_apply (n : Fin 512) (d : Fin 128) : k0_pay30 (F := Ideal) (k0_pay8 x) (ix2 n d) = x (ix2 n d) * HeadE.rs (fun k => x (ix2 n k)) := by
  rw [← pay28_apply]
  unfold k0_pay30
  generalize k0_pay28 (F := Ideal) (k0_pay8 x) = a
  pointwise [k0_pay8]
theorem yH_apply (n : Fin 512) (d : Fin 128) : yH (F := Ideal) x g (ix2 n d) = x (ix2 n d) * HeadE.rs (fun k => x (ix2 n k)) * g (ix2 0 d) := by
  rw [← pay30_apply]
  unfold yH k0_pay31
  generalize k0_pay30 (F := Ideal) (k0_pay8 x) = a
  pointwise [k0_pay16]
theorem dgH_apply (d : Fin 128) : dgH (F := Ideal) x dy (ix2 0 d) = ∑ n : Fin 512, x (ix2 n d) * HeadE.rs (fun k => x (ix2 n k)) * dy (ix2 n d) := by
  simp only [← pay30_apply]
  unfold dgH k0_pay99
  generalize k0_pay30 (F := Ideal) (k0_pay8 x) = a
  pointwise
theorem doH_apply (n : Fin 512) (d : Fin 128) : doH (F := Ideal) x g dy (ix2 n d)
    = HeadE.dx (fun k => x (ix2 n k)) (fun k => g (ix2 0 k)) (fun k => dy (ix2 n k)) d := by
  rw [HeadE.dx, HeadE.qq, ← HeadE.div64, ← pay28_apply, ← pay29_apply]
  unfold doH k0_pay101
  generalize k0_pay28 (F := Ideal) (k0_pay8 x) = a
  generalize k0_pay29 (F := Ideal) (k0_pay8 x) = a'
  pointwise [k0_pay8, k0_pay16, k0_pay100]
  simp only [Finset.univ_unique, Finset.sum_singleton]
  rfl
end Head

variable (r : FVec Ideal S512x1024 .f32) (p : Vec Ideal S4x512x1024 .f32)
theorem ctV_apply (n : Fin 512) (e : Fin 1024) : ctV (F := Ideal) r p (ix2 n e)
    = r (ix2 n e) + p (ix3 0 n e) + p (ix3 1 n e) + p (ix3 2 n e) + p (ix3 3 n e) := by
  have hp (k : ℕ) (hk : k < 4) (hb) : View.ld p (Rect.unit ![k, 0, 0] S1x512x1024.size hb) (ix3 (0 : Fin 1) n e) = p (ix3 (⟨k, hk⟩ : Fin 4) n e) :=
    congrArg p (by
      funext a; match a with
      | ⟨0, _⟩ => rfl
      | ⟨1, _⟩ => exact Fin.ext (by show 0 + 1 * n.val = n.val; omega)
      | ⟨2, _⟩ => exact Fin.ext (by show 0 + 1 * e.val = e.val; omega))
  have h0 := hp 0 (by omega) inb_S4x512x1024_S1x512x1024_0_0_0
  have h1 := hp 1 (by omega) inb_S4x512x1024_S1x512x1024_1_0_0
  have h2 := hp 2 (by omega) inb_S4x512x1024_S1x512x1024_2_0_0
  have h3 := hp 3 (by omega) inb_S4x512x1024_S1x512x1024_3_0_0
  unfold ctV
  generalize View.ld p (Rect.unit ![0, 0, 0] S1x512x1024.size inb_S4x512x1024_S1x512x1024_0_0_0) = p0 at h0 ⊢
  generalize View.ld p (Rect.unit ![1, 0, 0] S1x512x1024.size inb_S4x512x1024_S1x512x1024_1_0_0) = p1 at h1 ⊢
  generalize View.ld p (Rect.unit ![2, 0, 0] S1x512x1024.size inb_S4x512x1024_S1x512x1024_2_0_0) = p2 at h2 ⊢
  generalize View.ld p (Rect.unit ![3, 0, 0] S1x512x1024.size inb_S4x512x1024_S1x512x1024_3_0_0) = p3 at h3 ⊢
  pointwise [k0_pay5]
  rw [h0, h1, h2, h3]
  rfl

variable (ct : FVec Ideal S512x1024 .f32) (w : FVec Ideal S1024x1024 .bf16)
theorem dyP_apply (k : Fin 8) (n : Fin 512) (d : Fin 128) : dyP (F := Ideal) ct w k (ix2 n d) = ∑ e : Fin 1024, ct (ix2 n e) * w (ix2 (cc k d) e) := by
  match k with
  | ⟨0, _⟩ => show k0_pay73 (F := Ideal) ct (k0_pay26 w) (ix2 n d) = _; pointwise [k0_pay73, k0_pay67, k0_pay26]; exact Finset.sum_congr rfl fun e _ => congrArg (fun q => ct (ix2 n e) * w (ix2 q e)) (Fin.ext (by show d.val = 128 * 0 + d.val; omega))
  | ⟨1, _⟩ => show k0_pay74 (F := Ideal) (k0_pay67 ct (k0_pay26 w)) (ix2 n d) = _; pointwise [k0_pay74, k0_pay67, k0_pay26]; rfl
  | ⟨2, _⟩ => show k0_pay75 (F := Ideal) (k0_pay67 ct (k0_pay26 w)) (ix2 n d) = _; pointwise [k0_pay75, k0_pay67, k0_pay26]; rfl
  | ⟨3, _⟩ => show k0_pay76 (F := Ideal) (k0_pay67 ct (k0_pay26 w)) (ix2 n d) = _; pointwise [k0_pay76, k0_pay67, k0_pay26]; rfl
  | ⟨4, _⟩ => show k0_pay77 (F := Ideal) (k0_pay67 ct (k0_pay26 w)) (ix2 n d) = _; pointwise [k0_pay77, k0_pay67, k0_pay26]; rfl
  | ⟨5, _⟩ => show k0_pay78 (F := Ideal) (k0_pay67 ct (k0_pay26 w)) (ix2 n d) = _; pointwise [k0_pay78, k0_pay67, k0_pay26]; rfl
  | ⟨6, _⟩ => show k0_pay79 (F := Ideal) (k0_pay67 ct (k0_pay26 w)) (ix2 n d) = _; pointwise [k0_pay79, k0_pay67, k0_pay26]; rfl
  | ⟨7, _⟩ => show k0_pay80 (F := Ideal) (k0_pay67 ct (k0_pay26 w)) (ix2 n d) = _; pointwise [k0_pay80, k0_pay67, k0_pay26]; rfl

theorem dya_apply (wa : FVec Ideal S256x1024 .bf16) (n : Fin 512) (j : Fin 256) : k0_pay71 (F := Ideal) ct (k0_pay24 wa) (ix2 n j) = ∑ e : Fin 1024, ct (ix2 n e) * wa (ix2 j e) := by
  pointwise [k0_pay71, k0_pay24]
theorem dyb_apply (wa : FVec Ideal S256x1024 .bf16) (n : Fin 512) (j : Fin 256) : k0_pay69 (F := Ideal) ct (k0_pay25 wa) (ix2 n j) = ∑ e : Fin 1024, ct (ix2 n e) * wa (ix2 j e) := by
  pointwise [k0_pay69, k0_pay25]
theorem dwa_apply (y : FVec Ideal S512x256 .f32) (j : Fin 256) (e : Fin 1024) : k0_pay72 (F := Ideal) ct (k0_pay6 y) (ix2 j e) = ∑ n : Fin 512, y (ix2 n j) * ct (ix2 n e) := by
  pointwise [k0_pay72, k0_pay6]
theorem dwb_apply (y : FVec Ideal S512x256 .f32) (j : Fin 256) (e : Fin 1024) : k0_pay70 (F := Ideal) ct (k0_pay7 y) (ix2 j e) = ∑ n : Fin 512, y (ix2 n j) * ct (ix2 n e) := by
  pointwise [k0_pay70, k0_pay7]

theorem y6_eq (x : FVec Ideal S512x128 .f32) (g : FVec Ideal S1x128 .f32) :
    mulf (k0_pay62 (k0_pay8 x) (k0_pay58 (k0_pay8 x))) (broadcastTo S512x128 (k0_pay16 g) broadcasts_S1x128_S512x128) = yH (F := Ideal) x g := rfl
theorem y7_eq (x : FVec Ideal S512x128 .f32) (g : FVec Ideal S1x128 .f32) :
    mulf (k0_pay66 (k0_pay8 x)) (broadcastTo S512x128 (k0_pay16 g) broadcasts_S1x128_S512x128) = yH (F := Ideal) x g := rfl

/-- Eight arrays of 128 columns one after the other, at column `d` of the `k`-th. -/
theorem cat8 (f : Fin 8 → Fin 128 → EReal) (k : Fin 8) (d : Fin 128) (N : ℕ) (h7 : N - 128 - 128 - 128 - 128 - 128 - 128 - 128 < 128) (hN : N = 128 * k.val + d.val) :
    (if h : N < 128 then f 0 ⟨N, h⟩ else if h : N - 128 < 128 then f 1 ⟨N - 128, h⟩ else if h : N - 128 - 128 < 128 then f 2 ⟨N - 128 - 128, h⟩ else
      if h : N - 128 - 128 - 128 < 128 then f 3 ⟨N - 128 - 128 - 128, h⟩ else if h : N - 128 - 128 - 128 - 128 < 128 then f 4 ⟨N - 128 - 128 - 128 - 128, h⟩ else if h : N - 128 - 128 - 128 - 128 - 128 < 128 then f 5 ⟨N - 128 - 128 - 128 - 128 - 128, h⟩ else
      if h : N - 128 - 128 - 128 - 128 - 128 - 128 < 128 then f 6 ⟨N - 128 - 128 - 128 - 128 - 128 - 128, h⟩ else f 7 ⟨N - 128 - 128 - 128 - 128 - 128 - 128 - 128, h7⟩) = f k d := by
  have e (i : Fin 8) (q : Fin 128) (hi : i.val = k.val) (hq : q.val = d.val) : f i q = f k d := by rw [Fin.ext hi, Fin.ext hq]
  repeat' split
  all_goals exact e _ _ (by first | omega | (simp; omega) | (show _ = k.val; simp; omega)) (by dsimp only; omega)

theorem dwc_apply (x : Vec Ideal S512x1024 .f32) (g : Vec Ideal S1x1024 .f32) (k : Fin 8) (d : Fin 128) (e : Fin 1024) :
    dwcV (F := Ideal) ct x g (ix2 (cc k d) e) = ∑ n : Fin 512, yH (F := Ideal) (part (a := 512) x k) (part (a := 1) g k) (ix2 n d) * ct (ix2 n e) := by
  unfold dwcV k0_pay68
  rw [y6_eq, y7_eq]
  obtain ⟨y, hY⟩ : ∃ y : Fin 8 → FVec Ideal S512x128 .f32, ∀ k, yH (F := Ideal) (part (a := 512) x k) (part (a := 1) g k) = y k := ⟨_, fun k => rfl⟩
  rw [hY 0, hY 1, hY 2, hY 3, hY 4, hY 5, hY 6, hY 7, hY k]
  pointwise
  refine Finset.sum_congr rfl fun n _ => congrArg (· * _) ?_
  exact cat8 (fun k d => y k (ix2 n d)) k d _ (by show 128 * k.val + d.val - 128 - 128 - 128 - 128 - 128 - 128 - 128 < 128; omega) rfl

theorem pay1_apply (a b : FVec Ideal S1x128 .f32) (i) : k0_pay1 a b i = b i + a i := by
  obtain ⟨z, d, rfl⟩ : ∃ z d, i = ix2 z d := ⟨i 0, i 1, (ix2_eta i).symm⟩
  pointwise [k0_pay1]
theorem pay102_apply (a b : FVec Ideal S256x1024 .f32) (i) : k0_pay102 a b i = b i + a i := by
  obtain ⟨z, d, rfl⟩ : ∃ z d, i = ix2 z d := ⟨i 0, i 1, (ix2_eta i).symm⟩
  pointwise [k0_pay102]
theorem pay103_apply (a b : FVec Ideal S256x1024 .f32) (i) : k0_pay103 a b i = b i + a i := by
  obtain ⟨z, d, rfl⟩ : ∃ z d, i = ix2 z d := ⟨i 0, i 1, (ix2_eta i).symm⟩
  pointwise [k0_pay103]
theorem pay104_apply (a b : FVec Ideal S1024x1024 .f32) (i) : k0_pay104 a b i = b i + a i := by
  obtain ⟨z, d, rfl⟩ : ∃ z d, i = ix2 z d := ⟨i 0, i 1, (ix2_eta i).symm⟩
  pointwise [k0_pay104]

end Cert.OutprojIdeal.Hand
end
-- ==== Proof.GmPay.lean ====
module

public import proofs.«01_k».proof.Proof.GmOut
public import proofs.«01_k».proof.Proof.OutprojPay
public import proofs.«01_k».proof.Proof.Rms
public import Idealize.ShloMosaic.Lib.Pointwise

/-! The spatial gate's backward kernel, one chunk of 128 rows: its operations entry by entry over the extended reals. -/

@[expose] public section

set_option maxRecDepth 16384

noncomputable section

open Idealize.ShloMosaic Idealize.ShloMosaic.TcCoe Idealize.SL.Sem

namespace Cert.GateE

/-- Column `e` of head `h`. -/
def cc (h : Fin 4) (e : Fin 64) : Fin 256 := ⟨64 * h.val + e.val, by omega⟩
theorem cc_eq (j : Fin 256) : ∃ h e, j = cc h e :=
  ⟨⟨j.val / 64, by omega⟩, ⟨j.val % 64, Nat.mod_lt _ (by omega)⟩, Fin.ext (by show j.val = 64 * (j.val / 64) + j.val % 64; omega)⟩

theorem sum_cc {M : Type} [AddCommMonoid M] (f : Fin 256 → M) : ∑ j, f j = ∑ h, ∑ e, f (cc h e) := by
  rw [← Fintype.sum_prod_type' (f := fun h e => f (cc h e))]
  exact (Fintype.sum_equiv (finProdFinEquiv (m := 4) (n := 64)) _ _ fun p => congrArg f (Fin.ext (by
    show 64 * p.1.val + p.2.val = p.2.val + 64 * p.1.val; omega))).symm

/-- The sum over the columns of head `k`, the others masked. -/
theorem sum_mask (f : Fin 256 → EReal) (k : Fin 4) (M : Fin 256 → EReal) (hM : ∀ h e, M (cc h e) = if h = k then 1 else 0) :
    ∑ j, f j * M j = ∑ e, f (cc k e) := by
  rw [sum_cc, Finset.sum_eq_single k]
  · exact Finset.sum_congr rfl fun e _ => by rw [hM, if_pos rfl, mul_one]
  · intro h _ hk
    exact Finset.sum_eq_zero fun e _ => by rw [hM, if_neg hk, mul_zero]
  · intro h; exact absurd (Finset.mem_univ _) h

theorem word_int (t : Fin 128) : (BitVec.ofNat 32 t.val).toInt = t.val := by
  have ht := t.isLt
  have hn : (BitVec.ofNat 32 t.val).toNat = t.val := by rw [BitVec.toNat_ofNat]; exact Nat.mod_eq_of_lt (by omega)
  rw [BitVec.toInt_eq_toNat_of_lt (by rw [hn]; omega), hn]
theorem tri_word (t s : Fin 128) : IntOp.cmpi CmpIPredicate.sge (BitVec.ofNat 32 t.val) (BitVec.ofNat 32 s.val) = if s ≤ t then 1#1 else 0#1 := by
  have ht := t.isLt
  have hs := s.isLt
  have h1 : (BitVec.ofNat 32 t.val).toInt = t.val := word_int t
  have h2 : (BitVec.ofNat 32 s.val).toInt = s.val := word_int s
  have h3 : (BitVec.sle (BitVec.ofNat 32 s.val) (BitVec.ofNat 32 t.val)) = decide (s ≤ t) := by
    rw [BitVec.sle, h1, h2]; exact decide_eq_decide.2 (by rw [Int.ofNat_le]; rfl)
  by_cases h : s ≤ t
  · rw [if_pos h]; simp [IntOp.cmpi, h3, h]
  · rw [if_neg h]; simp [IntOp.cmpi, h3, h]

/-- A real number among the extended ones. -/
def R (x : EReal) : Prop := ∃ r : ℝ, x = ((r : ℝ) : EReal)
namespace R
theorem coe (r : ℝ) : R ((r : ℝ) : EReal) := ⟨r, rfl⟩
theorem zero : R 0 := ⟨0, EReal.coe_zero.symm⟩
theorem one : R 1 := ⟨1, EReal.coe_one.symm⟩
theorem add {x y : EReal} (hx : R x) (hy : R y) : R (x + y) := by
  obtain ⟨p, rfl⟩ := hx; obtain ⟨q, rfl⟩ := hy; exact ⟨p + q, (EReal.coe_add _ _).symm⟩
theorem mul {x y : EReal} (hx : R x) (hy : R y) : R (x * y) := by
  obtain ⟨p, rfl⟩ := hx; obtain ⟨q, rfl⟩ := hy; exact ⟨p * q, (EReal.coe_mul _ _).symm⟩
theorem sum {ι : Type} {s : Finset ι} {f : ι → EReal} (hf : ∀ i, R (f i)) : R (∑ i ∈ s, f i) := by
  choose g hg using hf
  exact ⟨∑ i ∈ s, g i, by rw [← Rms.coe_sum]; exact Finset.sum_congr rfl fun i _ => hg i⟩
theorem sum_mul {ι : Type} {s : Finset ι} {f : ι → EReal} {c : EReal} (hf : ∀ i, R (f i)) (hc : R c) : ∑ i ∈ s, f i * c = (∑ i ∈ s, f i) * c := by
  choose g hg using hf
  obtain ⟨r, rfl⟩ := hc
  simp only [hg, ← EReal.coe_mul, Rms.coe_sum]
  rw [Finset.sum_mul]
theorem tanh {x : EReal} (hx : R x) : R (Ideal.tanh x) := by
  obtain ⟨p, rfl⟩ := hx; exact ⟨_, Ideal.tanh_coe p⟩
theorem half : R (Ideal.ofBits .f32 0x3F000000#32) := ⟨1 / 2, by simp [Ideal.ofBits, Ideal.ieee, -EReal.coe_mul]; norm_num⟩
theorem word1 : R (Ideal.ofBits .f32 0x3F4C422A#32) := by
  rw [R]; simp [Ideal.ofBits, Ideal.ieee, -EReal.coe_mul]
theorem word2 : R (Ideal.ofBits .f32 0x3D372713#32) := by
  rw [R]; simp [Ideal.ofBits, Ideal.ieee, -EReal.coe_mul]
theorem f64 : Ideal.ofBits .f32 0x42800000#32 = ((64 : ℝ) : EReal) := by simp [Ideal.ofBits, Ideal.ieee, -EReal.coe_mul]; norm_num
theorem div64 {x : EReal} (hx : R x) : R (Ideal.div x (Ideal.ofBits .f32 0x42800000#32)) := by
  obtain ⟨p, rfl⟩ := hx
  exact ⟨p * (1 / 64), by rw [f64, Ideal.div_coe (by norm_num), EReal.coe_mul]⟩
theorem ms {x : Fin 64 → EReal} (hx : ∀ e, R (x e)) : ∃ r : ℝ, 0 < r ∧ HeadE.ms x = ((r : ℝ) : EReal) := by
  choose g hg using hx
  refine ⟨(∑ e, g e * g e) * (1 / 64) + Rms.eps, add_pos_of_nonneg_of_pos (mul_nonneg (Finset.sum_nonneg fun d _ => mul_self_nonneg _) (by norm_num)) Rms.eps_pos, ?_⟩
  simp only [HeadE.ms, hg, ← EReal.coe_mul, Rms.coe_sum]
  rw [f64, Rms.eps_f32, Ideal.div_coe (by norm_num), ← EReal.coe_mul, ← EReal.coe_add]
theorem rs {x : Fin 64 → EReal} (hx : ∀ e, R (x e)) : R (HeadE.rs x) := by
  obtain ⟨r, hr, h⟩ := ms hx
  rw [HeadE.rs, h, Ideal.rsqrt_coe, if_neg (not_lt.2 hr.le), if_neg hr.ne']
  exact coe _
theorem co {x : Fin 64 → EReal} (hx : ∀ e, R (x e)) : R (HeadE.co x) := by
  obtain ⟨r, hr, h⟩ := ms hx
  rw [HeadE.co, h, Ideal.div_coe hr.ne', Rms.neg_half_f32]
  exact (coe _).mul ((rs hx).mul (coe _))
theorem dx {x g d : Fin 64 → EReal} (hx : ∀ e, R (x e)) (hg : ∀ e, R (g e)) (hd : ∀ e, R (d e)) (e : Fin 64) : R (HeadE.dx x g d e) := by
  have hq : R (HeadE.qq x g d) := (((sum fun k => (hx k).mul ((hd k).mul (hg k))).mul (co hx))).div64
  exact ((((hd e).mul (hg e)).mul (rs hx)).add ((hx e).mul hq)).add (hq.mul (hx e))
end R

/-- The gated unit, its inner hyperbolic tangent, and its gradient. -/
def th (x : EReal) : EReal := Ideal.tanh (Ideal.ofBits .f32 0x3F4C422A#32 * (x + Ideal.ofBits .f32 0x3D372713#32 * (x * x * x)))
def op (x : EReal) : EReal := 1 + th x
def gel (x : EReal) : EReal := Ideal.ofBits .f32 0x3F000000#32 * x * op x
def dg1 (x a : EReal) : EReal :=
  Ideal.ofBits .f32 0x3F4C422A#32 * (Ideal.ofBits .f32 0x3F000000#32 * x * a * (op x * (1 - th x)))
def dg2 (x a : EReal) : EReal := Ideal.ofBits .f32 0x3D372713#32 * dg1 x a
def dgel (x a : EReal) : EReal :=
  dg1 x a + x * x * dg2 x a + x * (dg2 x a * x) + dg2 x a * x * x + Ideal.ofBits .f32 0x3F000000#32 * (a * op x)

/-- One chunk's inputs, head by head. -/
structure Sp where
  u : Fin 128 → Fin 4 → Fin 64 → EReal
  v : Fin 128 → Fin 4 → Fin 64 → EReal
  ct : Fin 128 → Fin 4 → Fin 64 → EReal
  vg : Fin 4 → Fin 64 → EReal
  og : Fin 4 → Fin 64 → EReal
  w : Fin 4 → Fin 128 → Fin 128 → EReal
  b : Fin 4 → Fin 128 → EReal

namespace Sp
variable (a : Sp)
def gu (n : Fin 128) (h : Fin 4) (e : Fin 64) : EReal := gel (a.u n h e)
def gv (n : Fin 128) (h : Fin 4) (e : Fin 64) : EReal := gel (a.v n h e)
def vn (n : Fin 128) (h : Fin 4) (e : Fin 64) : EReal := a.gv n h e * HeadE.rs (a.gv n h)
def nv (n : Fin 128) (h : Fin 4) (e : Fin 64) : EReal := a.vn n h e * a.vg h e
def wm (h : Fin 4) (t s : Fin 128) : EReal := if s ≤ t then a.w h t s else 0
def y (n : Fin 128) (h : Fin 4) (e : Fin 64) : EReal := ∑ s, a.wm h n s * a.nv s h e + a.b h n
def z (n : Fin 128) (h : Fin 4) (e : Fin 64) : EReal := a.gu n h e * a.y n h e
def zn (n : Fin 128) (h : Fin 4) (e : Fin 64) : EReal := a.z n h e * HeadE.rs (a.z n h)
def dog (h : Fin 4) (e : Fin 64) : EReal := ∑ n, a.zn n h e * a.ct n h e
def dz (n : Fin 128) (h : Fin 4) (e : Fin 64) : EReal := HeadE.dx (a.z n h) (a.og h) (a.ct n h) e
def dy (n : Fin 128) (h : Fin 4) (e : Fin 64) : EReal := a.gu n h e * a.dz n h e
def db (h : Fin 4) (n : Fin 128) : EReal := ∑ e, a.dy n h e
def dw (h : Fin 4) (t s : Fin 128) : EReal := if s ≤ t then ∑ e, a.dy t h e * a.nv s h e else 0
def dnv (s : Fin 128) (h : Fin 4) (e : Fin 64) : EReal := ∑ t, a.wm h t s * a.dy t h e
def dvg (h : Fin 4) (e : Fin 64) : EReal := ∑ n, a.vn n h e * a.dnv n h e
def dv (n : Fin 128) (h : Fin 4) (e : Fin 64) : EReal := dgel (a.v n h e) (HeadE.dx (a.gv n h) (a.vg h) (a.dnv n h) e)
def du (n : Fin 128) (h : Fin 4) (e : Fin 64) : EReal := dgel (a.u n h e) (a.dz n h e * a.y n h e)

/-- All inputs are real numbers. -/
structure Reals : Prop where
  u : ∀ n h e, R (a.u n h e)
  v : ∀ n h e, R (a.v n h e)
  ct : ∀ n h e, R (a.ct n h e)
  vg : ∀ h e, R (a.vg h e)
  og : ∀ h e, R (a.og h e)
  w : ∀ h t s, R (a.w h t s)
  b : ∀ h n, R (a.b h n)
namespace Reals
variable {a} (ha : a.Reals)
include ha
theorem gelR {x : EReal} (hx : R x) : R (gel x) := by
  clear ha
  exact (R.half.mul hx).mul (R.one.add (R.word1.mul (hx.add (R.word2.mul ((hx.mul hx).mul hx)))).tanh)
theorem gu n h e : R (a.gu n h e) := gelR ha (ha.u n h e)
theorem gv n h e : R (a.gv n h e) := gelR ha (ha.v n h e)
theorem wm h t s : R (a.wm h t s) := by
  unfold Sp.wm; split
  · exact ha.w h t s
  · exact R.zero
theorem nv n h e : R (a.nv n h e) := ((ha.gv n h e).mul (R.rs fun e => ha.gv n h e)).mul (ha.vg h e)
theorem y n h e : R (a.y n h e) := (R.sum fun s => (ha.wm h n s).mul (ha.nv s h e)).add (ha.b h n)
theorem z n h e : R (a.z n h e) := (ha.gu n h e).mul (ha.y n h e)
theorem dz n h e : R (a.dz n h e) := R.dx (fun e => ha.z n h e) (fun e => ha.og h e) (fun e => ha.ct n h e) e
theorem dy n h e : R (a.dy n h e) := (ha.gu n h e).mul (ha.dz n h e)
theorem dnv n h e : R (a.dnv n h e) := R.sum fun t => (ha.wm h t n).mul (ha.dy t h e)
end Reals
end Sp

end Cert.GateE

namespace Cert.GmIdeal.Hand

open Cert.GmIdeal Cert.GmIdeal.Gen
open Cert Cert.GateE

theorem mkV_apply (k : Fin 4) (h : Fin 4) (e : Fin 64) : mkV (F := Ideal) (wd k) (ix2 0 (cc h e)) = if h = k then 1 else 0 := by
  have hw : BitVec.setWidth 32 (IntOp.cmpi CmpIPredicate.eq (IntOp.shrsi ArithUnit.vector (BitVec.ofNat 32 (cc h e).val) 6#32) (wd k))
      = if h = k then 1#32 else 0#32 := by revert k h e; decide
  pointwise [mkV]
  rw [hw]
  split
  · show (((1#32 : BitVec 32).toInt : ℝ) : EReal) = 1
    norm_num
  · show (((0#32 : BitVec 32).toInt : ℝ) : EReal) = 0
    norm_num

section
variable (q x g ct : FVec Ideal S128x256 .f32) (n : Fin 128) (h : Fin 4) (e : Fin 64)

theorem part_apply (k : Fin 4) : Hand.part (F := Ideal) (wd k) q (ix2 n (cc h e)) = if h = k then Ideal.div (∑ e, q (ix2 n (cc k e))) (Ideal.ofBits .f32 0x42800000#32) else 0 := by
  have hm := mkV_apply k
  generalize hw : mkV (F := Ideal) (wd k) = M at hm
  unfold Hand.part
  rw [hw]
  pointwise [rowB, colB, rsum]
  rw [sum_mask (fun j => q (ix2 n j)) k (fun j => M (ix2 0 j)) hm, hm]
  split
  · rw [one_mul, HeadE.div64]
  · rw [zero_mul]
theorem back_apply (k : Fin 4) : back (F := Ideal) (wd k) q (ix2 n (cc h e)) = if h = k then Ideal.div (∑ e, q (ix2 n (cc k e))) (Ideal.ofBits .f32 0x42800000#32) else 0 := by
  have hm := mkV_apply k
  generalize hw : mkV (F := Ideal) (wd k) = M at hm
  unfold back
  rw [hw]
  pointwise [rowB, colB, rsum]
  simp only [Finset.sum_const, Finset.card_univ, Fintype.card_fin, one_smul, mul_comm (M _) (q _)]
  rw [sum_mask (fun j => q (ix2 n j)) k (fun j => M (ix2 0 j)) hm, hm]
  split
  · rw [mul_one, HeadE.div64]
  · rw [mul_zero]
theorem gel_apply (j : Fin 256) : Hand.gel (F := Ideal) x (ix2 n j) = GateE.gel (x (ix2 n j)) := by
  pointwise [Hand.gel, Hand.op, Hand.th, cst]
  rfl
theorem dgel_apply (j : Fin 256) : Hand.dgel (F := Ideal) x g (ix2 n j) = GateE.dgel (x (ix2 n j)) (g (ix2 n j)) := by
  pointwise [Hand.dgel, Hand.dg1, Hand.dg2, Hand.op, Hand.th, cst]
  rfl

theorem msV_apply : msV (F := Ideal) (mulf x x) (ix2 n (cc h e)) = HeadE.ms (fun e => x (ix2 n (cc h e))) := by
  have h0 := part_apply (mulf x x) n h e 0
  have h1 := part_apply (mulf x x) n h e 1
  have h2 := part_apply (mulf x x) n h e 2
  have h3 := part_apply (mulf x x) n h e 3
  have hs : msV (F := Ideal) (mulf x x) (ix2 n (cc h e)) = Ideal.ofBits .f32 0x00000000#32 + Hand.part (F := Ideal) (wd 0) (mulf x x) (ix2 n (cc h e))
    + Hand.part (F := Ideal) (wd 1) (mulf x x) (ix2 n (cc h e)) + Hand.part (F := Ideal) (wd 2) (mulf x x) (ix2 n (cc h e))
    + Hand.part (F := Ideal) (wd 3) (mulf x x) (ix2 n (cc h e)) + Ideal.ofBits .f32 0x358637BD#32 := rfl
  rw [hs, h0, h1, h2, h3, Ideal.ofBits_zero_f32]
  fin_cases h <;> simp [HeadE.ms] <;> rfl
theorem rsV_apply : rsV (F := Ideal) x (ix2 n (cc h e)) = HeadE.rs (fun e => x (ix2 n (cc h e))) := by
  rw [HeadE.rs, ← msV_apply x n h e]; rfl
theorem coV_apply : coV (F := Ideal) x (ix2 n (cc h e)) = HeadE.co (fun e => x (ix2 n (cc h e))) := by
  rw [HeadE.co, ← msV_apply x n h e, ← rsV_apply x n h e]; rfl
theorem qqV_apply : qqV (F := Ideal) q (ix2 n (cc h e)) = Ideal.div (∑ e, q (ix2 n (cc h e))) (Ideal.ofBits .f32 0x42800000#32) := by
  have h0 := back_apply q n h e 0
  have h1 := back_apply q n h e 1
  have h2 := back_apply q n h e 2
  have h3 := back_apply q n h e 3
  have hs : qqV (F := Ideal) q (ix2 n (cc h e)) = back (F := Ideal) (wd 3) q (ix2 n (cc h e))
    + back (F := Ideal) (wd 2) q (ix2 n (cc h e)) + back (F := Ideal) (wd 1) q (ix2 n (cc h e))
    + back (F := Ideal) (wd 0) q (ix2 n (cc h e)) := rfl
  rw [hs, h0, h1, h2, h3]
  fin_cases h <;> simp
theorem dxV_apply (G : Fin 4 → Fin 64 → EReal) (D : Fin 4 → Fin 64 → EReal) (hg : ∀ h e, g (ix2 n (cc h e)) = D h e * G h e)
    (hx : ∀ h e, R (x (ix2 n (cc h e)))) (hG : ∀ h e, R (G h e)) (hD : ∀ h e, R (D h e)) :
    dxV (F := Ideal) x g (ix2 n (cc h e)) = HeadE.dx (fun e => x (ix2 n (cc h e))) (G h) (D h) e := by
  have hs : dxV (F := Ideal) x g (ix2 n (cc h e)) = g (ix2 n (cc h e)) * rsV (F := Ideal) x (ix2 n (cc h e))
    + x (ix2 n (cc h e)) * qqV (F := Ideal) (mulf (mulf x g) (coV x)) (ix2 n (cc h e))
    + qqV (F := Ideal) (mulf (mulf x g) (coV x)) (ix2 n (cc h e)) * x (ix2 n (cc h e)) := rfl
  have hq : ∀ e, (mulf (mulf x g) (coV x) : FVec Ideal S128x256 .f32) (ix2 n (cc h e)) = x (ix2 n (cc h e)) * (D h e * G h e) * HeadE.co (fun e => x (ix2 n (cc h e))) := fun e => by
    rw [← hg, ← coV_apply x n h e]; rfl
  rw [hs, qqV_apply, rsV_apply, hg, HeadE.dx, HeadE.qq]
  simp only [hq]
  rw [R.sum_mul (fun e => (hx h e).mul ((hD h e).mul (hG h e))) (R.co fun e => hx h e)]
end

section
variable (a : Ch Ideal)

theorem wm_apply (w : FVec Ideal S4x128x128 .f32) (h : Fin 4) (t s : Fin 128) : wmV (F := Ideal) w (ix3 h t s) = if s ≤ t then w (ix3 h t s) else 0 := by
  have hw : IntOp.cmpi CmpIPredicate.sge (BitVec.ofNat 32 t.val) (BitVec.ofNat 32 s.val) = if s ≤ t then 1#1 else 0#1 := tri_word t s
  pointwise [wmV, k0_pay45, k0_pay44]
  rw [hw]
  split <;> rfl
theorem mh_apply (k : Fin 4) (t : Fin 128) (h : Fin 4) (e : Fin 64) : mhB (F := Ideal) (ix3 k t (cc h e)) = if h = k then 1 else 0 := by
  have hm := mkV_apply
  unfold mhB mhV
  pointwise
  fin_cases k
  · exact hm 0 h e
  · exact hm 1 h e
  · exact hm 2 h e
  · exact hm 3 h e
theorem nvh_apply (v : FVec Ideal S128x256 .f32) (vg : FVec Ideal S1x256 .f32) (k : Fin 4) (n : Fin 128) (h : Fin 4) (e : Fin 64) :
    nvh (F := Ideal) v vg (ix3 k n (cc h e)) = GateE.gel (v (ix2 n (cc h e))) * HeadE.rs (fun e => GateE.gel (v (ix2 n (cc h e)))) * vg (ix2 0 (cc h e)) * if h = k then 1 else 0 := by
  have h2 := rsV_apply (Hand.gel v) n h e
  rw [← mh_apply k n h e]
  simp only [← gel_apply]
  rw [← h2]
  unfold nvh
  generalize mhB (F := Ideal) = M
  generalize rsV (F := Ideal) (Hand.gel v) = A
  generalize Hand.gel (F := Ideal) v = B
  pointwise [bc4, rowB]
theorem pay49_apply (W : FVec Ideal S4x128x128 .f32) (N : FVec Ideal S4x128x256 .f32) (b0 b1 b2 b3 : FVec Ideal S128x1 .f32) (M0 M1 M2 M3 : FVec Ideal S1x256 .f32) (n : Fin 128) (j : Fin 256) :
    k0_pay49 (F := Ideal) b0 b1 b2 b3 M0 M1 M2 M3 (truncf .bf16 W bitsLt_bf16_f32) (truncf .bf16 N bitsLt_bf16_f32)
    (constant S4x128x256 .f32 0x00000000#32) (ix2 n j)
    = (∑ x, ∑ x_1, W (ix3 x n x_1) * N (ix3 x x_1 j)) + b0 (ix2 n 0) * M0 (ix2 0 j) + b1 (ix2 n 0) * M1 (ix2 0 j) + b2 (ix2 n 0) * M2 (ix2 0 j)
      + b3 (ix2 n 0) * M3 (ix2 0 j) := by
  pointwise [k0_pay49]

def Ch.bh (h : Fin 4) : FVec Ideal S128x1 .f32 := match h with | ⟨0, _⟩ => a.b0 | ⟨1, _⟩ => a.b1 | ⟨2, _⟩ => a.b2 | ⟨3, _⟩ => a.b3
/-- The chunk, head by head. -/
def Ch.sp : Sp where
  u n h e := a.u (ix2 n (cc h e))
  v n h e := a.v (ix2 n (cc h e))
  ct n h e := a.ct (ix2 n (cc h e))
  vg h e := a.vg (ix2 0 (cc h e))
  og h e := a.og (ix2 0 (cc h e))
  w h t s := a.w (ix3 h t s)
  b h n := a.bh h (ix2 n 0)

variable (n : Fin 128) (h : Fin 4) (e : Fin 64)
theorem nv_eq (k : Fin 4) : nvh (F := Ideal) a.v a.vg (ix3 k n (cc h e)) = a.sp.nv n h e * if h = k then 1 else 0 := nvh_apply a.v a.vg k n h e
theorem y_eq : a.y (ix2 n (cc h e)) = a.sp.y n h e := by
  have hm : ∀ k, mkV (F := Ideal) (wd k) (ix2 0 (cc h e)) = if h = k then 1 else 0 := fun k => mkV_apply k h e
  have h0 := hm 0
  have h1 := hm 1
  have h2 := hm 2
  have h3 := hm 3
  refine (pay49_apply (wmV a.w) (nvh a.v a.vg) a.b0 a.b1 a.b2 a.b3 (mkV (wd 0)) (mkV (wd 1)) (mkV (wd 2)) (mkV (wd 3)) n (cc h e)).trans ?_
  rw [h0, h1, h2, h3]
  simp only [nv_eq, wm_apply]
  rw [Finset.sum_eq_single h (fun k _ hk => Finset.sum_eq_zero fun s _ => by rw [if_neg (Ne.symm hk), mul_zero, mul_zero]) (fun hh => absurd (Finset.mem_univ _) hh)]
  simp only [if_true, mul_one]
  fin_cases h <;> simp [Sp.y, Sp.wm, Ch.sp, Ch.bh]
theorem z_eq : a.z (ix2 n (cc h e)) = a.sp.z n h e := by
  show Hand.gel (F := Ideal) a.u (ix2 n (cc h e)) * a.y (ix2 n (cc h e)) = _
  rw [gel_apply, y_eq]; rfl
theorem zf_eq : (fun e => a.z (ix2 n (cc h e))) = a.sp.z n h := funext fun e => z_eq a n h e
theorem gv_eq : Hand.gel (F := Ideal) a.v (ix2 n (cc h e)) = a.sp.gv n h e := gel_apply _ _ _
theorem gvf_eq : (fun e => Hand.gel (F := Ideal) a.v (ix2 n (cc h e))) = a.sp.gv n h := funext fun e => gv_eq a n h e
theorem csum_apply (x : FVec Ideal S128x256 .f32) (j : Fin 256) : csum (F := Ideal) x (ix2 0 j) = ∑ n, x (ix2 n j) := by pointwise [csum]
theorem rsum_apply (x : FVec Ideal S128x256 .f32) (n : Fin 128) : rsum (F := Ideal) x (ix2 n 0) = ∑ j, x (ix2 n j) := by pointwise [rsum]
theorem rowB_apply (x : FVec Ideal S1x256 .f32) (n : Fin 128) (j : Fin 256) : rowB (F := Ideal) x (ix2 n j) = x (ix2 0 j) := by pointwise [rowB]
theorem bc4_apply (x : FVec Ideal S128x256 .f32) (k : Fin 4) (n : Fin 128) (j : Fin 256) : bc4 (F := Ideal) x (ix3 k n j) = x (ix2 n j) := by pointwise [bc4]
theorem dog_eq : a.dog (ix2 0 (cc h e)) = a.sp.dog h e := by
  refine (csum_apply _ _).trans (Finset.sum_congr rfl fun n _ => ?_)
  show a.z (ix2 n (cc h e)) * rsV (F := Ideal) a.z (ix2 n (cc h e)) * a.ct (ix2 n (cc h e)) = _
  rw [rsV_apply, zf_eq, z_eq]; rfl

variable (ha : a.sp.Reals)
include ha
theorem dz_eq : a.dz (ix2 n (cc h e)) = a.sp.dz n h e := by
  refine (dxV_apply a.z (mulf a.ct (rowB a.og)) n h e (fun h e => a.sp.og h e) (fun h e => a.sp.ct n h e) (fun h e => ?_) (fun h e => ?_) (fun h e => ha.og h e) (fun h e => ha.ct n h e)).trans ?_
  · show a.ct (ix2 n (cc h e)) * rowB (F := Ideal) a.og (ix2 n (cc h e)) = _
    rw [rowB_apply]; rfl
  · rw [z_eq]; exact ha.z n h e
  · rw [zf_eq]; rfl
theorem dy_eq : a.dy (ix2 n (cc h e)) = a.sp.dy n h e := by
  show Hand.gel (F := Ideal) a.u (ix2 n (cc h e)) * a.dz (ix2 n (cc h e)) = _
  rw [gel_apply, dz_eq a n h e ha]; rfl
theorem db_eq : a.db (wd h) (ix2 n 0) = a.sp.db h n := by
  refine (rsum_apply _ n).trans ?_
  refine Eq.trans (Finset.sum_congr rfl fun j _ => ?_) (sum_mask (fun j => a.dy (ix2 n j)) h (fun j => mkV (F := Ideal) (wd h) (ix2 0 j)) (mkV_apply h)) |>.trans ?_
  · show a.dy (ix2 n j) * rowB (F := Ideal) (mkV (wd h)) (ix2 n j) = _
    rw [rowB_apply]
  · exact Finset.sum_congr rfl fun e _ => dy_eq a n h e ha
theorem dw_raw (t s : Fin 128) (D N : FVec Ideal S4x128x256 .f32) :
    (select tri (matmul dot_S4x128x256_S4x128x256_S4x128x128_2_2_1_1_0_0 none (truncf .bf16 D bitsLt_bf16_f32 : FVec Ideal S4x128x256 .bf16)
    (truncf .bf16 N bitsLt_bf16_f32 : FVec Ideal S4x128x256 .bf16) (constant S4x128x128 .f32 0x00000000#32))
    (broadcast S4x128x128 (Scalar.ofBits .f32 0x00000000#32)) : FVec Ideal S4x128x128 .f32) (ix3 h t s) = if s ≤ t then ∑ j, D (ix3 h t j) * N (ix3 h s j) else 0 := by
  clear ha
  have hw : IntOp.cmpi CmpIPredicate.sge (BitVec.ofNat 32 t.val) (BitVec.ofNat 32 s.val) = if s ≤ t then 1#1 else 0#1 := tri_word t s
  pointwise [tri, k0_pay44]
  rw [hw]
  split <;> rfl
theorem dw_eq (t s : Fin 128) : a.dw (ix3 h t s) = a.sp.dw h t s := by
  refine (dw_raw a h ha t s _ _).trans ?_
  rw [Sp.dw]
  split
  · rw [sum_cc, Finset.sum_eq_single h (fun k _ hk => Finset.sum_eq_zero fun e _ => by rw [nv_eq, if_neg hk, mul_zero, mul_zero]) (fun hh => absurd (Finset.mem_univ _) hh)]
    refine Finset.sum_congr rfl fun e _ => ?_
    rw [nv_eq, if_pos rfl, mul_one, bc4_apply, dy_eq a t h e ha]
  · rfl
theorem dnv_raw (W : FVec Ideal S4x128x128 .f32) (D M : FVec Ideal S4x128x256 .f32) (s : Fin 128) (j : Fin 256) :
    (multiReduction .add [0] S128x256 (shapeCast S1x128x256 (multiReduction .add [0] S128x256
    (mulf (matmul dot_S4x128x128_S4x128x256_S4x128x256_1_1_2_2_0_0 none (truncf .bf16 W bitsLt_bf16_f32 : FVec Ideal S4x128x128 .bf16)
      (truncf .bf16 D bitsLt_bf16_f32 : FVec Ideal S4x128x256 .bf16) (constant S4x128x256 .f32 0x00000000#32)) M)
    0x00000000#32 reduces_S4x128x256_S128x256 (.inl rfl) rfl) shapeCasts_S128x256_S1x128x256) 0x00000000#32 reduces_S1x128x256_S128x256 (.inl rfl) rfl : FVec Ideal S128x256 .f32) (ix2 s j)
    = ∑ k, (∑ t, W (ix3 k t s) * D (ix3 k t j)) * M (ix3 k s j) := by
  clear ha
  pointwise
  simp only [Finset.sum_const, Finset.card_univ, Fintype.card_fin, one_smul]
theorem dnv_eq : a.dnv (ix2 n (cc h e)) = a.sp.dnv n h e := by
  refine (dnv_raw a ha _ _ _ n (cc h e)).trans ?_
  simp only [mh_apply]
  rw [Finset.sum_eq_single h (fun k _ hk => by rw [if_neg (Ne.symm hk), mul_zero]) (fun hh => absurd (Finset.mem_univ _) hh), if_pos rfl, mul_one]
  refine Finset.sum_congr rfl fun t _ => ?_
  rw [bc4_apply, dy_eq a t h e ha, wm_apply]; rfl
theorem dvg_eq : a.dvg (ix2 0 (cc h e)) = a.sp.dvg h e := by
  refine (csum_apply _ _).trans (Finset.sum_congr rfl fun n _ => ?_)
  show Hand.gel (F := Ideal) a.v (ix2 n (cc h e)) * rsV (F := Ideal) (Hand.gel a.v) (ix2 n (cc h e)) * a.dnv (ix2 n (cc h e)) = _
  rw [rsV_apply, gvf_eq, gv_eq, dnv_eq a n h e ha]; rfl
theorem dv_eq : a.dv (ix2 n (cc h e)) = a.sp.dv n h e := by
  refine (dgel_apply _ _ n (cc h e)).trans ?_
  rw [dxV_apply (Hand.gel a.v) (mulf a.dnv (rowB a.vg)) n h e (fun h e => a.sp.vg h e) (fun h e => a.sp.dnv n h e) (fun h e => ?_) (fun h e => ?_) (fun h e => ha.vg h e) (fun h e => ha.dnv n h e), gvf_eq]
  · rfl
  · show a.dnv (ix2 n (cc h e)) * rowB (F := Ideal) a.vg (ix2 n (cc h e)) = _
    rw [rowB_apply, dnv_eq a n h e ha]; rfl
  · rw [gv_eq]; exact ha.gv n h e
theorem du_eq : a.du (ix2 n (cc h e)) = a.sp.du n h e := by
  refine (dgel_apply _ _ n (cc h e)).trans ?_
  show GateE.dgel _ (a.dz (ix2 n (cc h e)) * a.y (ix2 n (cc h e))) = _
  rw [dz_eq a n h e ha, y_eq]; rfl
end

end Cert.GmIdeal.Hand
end
-- ==== Proof.GmWinA.lean ====
module

public import proofs.«01_k».proof.Proof.GmOut

/-! What the grid's first point leaves in its five output windows. -/

@[expose] public section

set_option maxRecDepth 16384

noncomputable section

open Idealize.ShloMosaic Idealize.ShloMosaic.TcCoe Idealize.SL.Sem

namespace Cert.GmIdeal.Hand

open Cert.GmIdeal Cert.GmIdeal.Gen

variable {F : FTy → Type} [FloatOps F]

variable (m : (ℓ : Loc nD τ sig) → Buf (Elt F) ℓ) (c : Dev nD) (t : Fin cfg0.N)

set_option maxHeartbeats 40000000 in
open kernelRun0_A.sl in
theorem out_A (h : t.val = 0) :
    ((outsAt0 m c t.val t.isLt).1 = (can8 (fun j => (chT m c t j).du) (fun j => (chT m c t j).dv)))
    ∧ ((outsAt0 m c t.val t.isLt).2.1 = (sum4 fun j => (chT m c t j).dvg))
    ∧ ((outsAt0 m c t.val t.isLt).2.2.1 = (sum4 fun j => (chT m c t j).dw))
    ∧ ((outsAt0 m c t.val t.isLt).2.2.2.1 = (can4 fun h => shapeCast S1x128x1 (dbT m c t h) shapeCasts_S128x1_S1x128x1))
    ∧ ((outsAt0 m c t.val t.isLt).2.2.2.2 = (sum4 fun j => (chT m c t j).dog)) := by
  have ht := t.isLt
  have hN : cfg0.N = 4 := rfl
  rw [outsAt0_A m c t (by omega) (by omega) (by omega) (by omega) (by omega) (by omega) (by omega) (by omega) (by omega) (by omega) (by omega) (by omega) (by omega) (by omega)]
  dsimp only
  unfold out0_A_6 out0_A_7 out0_A_8 out0_A_9 out0_A_10
  refine ⟨(View.read_writes_eq_canon _ _ _ fun _ => cover0_A_6 ..).trans ?_,
    (View.read_writes_eq_canon _ _ _ fun _ => cover0_A_7 ..).trans ?_,
    (View.read_writes_eq_canon _ _ _ fun _ => cover0_A_8 ..).trans ?_,
    (View.read_writes_eq_canon _ _ _ fun _ => cover0_A_9 ..).trans ?_,
    (View.read_writes_eq_canon _ _ _ fun _ => cover0_A_10 ..).trans ?_⟩
  all_goals
    unfold kernelRun0_A; dsimp only
    first | rw [View.canon_unit_zero hz2] | rw [View.canon_unit_zero hz3] | skip
    simp only [r, r_1, r_2, r_3, r_4, r_5, r_6, r_7, r_8, r_9, r_10, r_11, r_12, r_13, r_14, r_15, r_16, r_17, r_18, r_19, r_20, r_21, r_22, r_23, r_24, r_25, r_26, r_27, r_28,
      r_29, r_30, r_31, r_32, r_33, r_34, r_35, r_36, r_37, r_38, r_39, r_40, r_41, r_42, r_43, r_44, r_45, r_46, r_47, r_48, r_49, r_50, r_51, r_52, r_53, r_54, r_55,
      r_56, r_57, r_58, r_59, r_60, r_61, r_62, r_63, r_64, r_65, r_66, r_67, r_68, r_69, r_70, r_71, r_72, r_73, r_74, r_75, r_76, r_77, r_78, r_79, r_80, r_81, r_82,
      r_83, r_84, r_85, r_86, r_87, r_88, r_89, r_90, r_91, r_92, r_93, r_94, r_95, r_96, r_97, r_98, r_99, r_100, r_101, r_102, r_103, r_104, r_105, r_106, r_107,
      r_108, r_109, r_110, r_111, r_112, r_113, r_114, r_115, r_116, r_117, r_118, r_119, r_120, r_121, r_122, r_123, r_124, r_125, r_126, r_127, r_128, r_129, r_130,
      r_131, r_132, r_133, r_134, r_135, r_136, r_137, r_138, r_139, r_140, r_141, r_142, r_143, r_144, r_145, r_146, r_147, r_148, r_149, r_150, r_151, r_152, r_153,
      r_154, r_155, r_156, r_157, r_158, r_159, r_160, r_161, r_162, r_163, r_164, r_165, r_166, r_167, r_168, r_169, r_170, r_171, r_172, r_173, r_174, r_175, r_176,
      r_177, r_178, r_179, r_180, r_181, r_182, r_183, r_184, r_185, r_186, r_187, r_188, r_189, r_190, r_191, r_192, r_193, r_194, r_195, r_196, r_197, r_198, r_199,
      r_200, r_201, r_202, r_203, r_204, r_205, r_206, r_207, r_208, r_209, r_210, r_211, r_212, r_213, View.readAt_eq_ld, Memref.IsWhole.read_unread,
      View.ld_unit_zero (S := S1x256) hz2, View.ld_unit_zero (S := S4x128x128) hz3]
    rfl

end Cert.GmIdeal.Hand
end
-- ==== Proof.GmWinB.lean ====
module

public import proofs.«01_k».proof.Proof.GmOut

/-! What the grid's later points leaves in its five output windows. -/

@[expose] public section

set_option maxRecDepth 16384

noncomputable section

open Idealize.ShloMosaic Idealize.ShloMosaic.TcCoe Idealize.SL.Sem

namespace Cert.GmIdeal.Hand

open Cert.GmIdeal Cert.GmIdeal.Gen

variable {F : FTy → Type} [FloatOps F]

variable (m : (ℓ : Loc nD τ sig) → Buf (Elt F) ℓ) (c : Dev nD) (t : Fin cfg0.N)

set_option maxHeartbeats 40000000 in
open kernelRun0_B.sl in
theorem out_B (h : t.val ≠ 0) :
    ((outsAt0 m c t.val t.isLt).1 = (can8 (fun j => (chT m c t j).du) (fun j => (chT m c t j).dv)))
    ∧ ((outsAt0 m c t.val t.isLt).2.1 = (addf (shapeCast S1x256 (outsAt0 m c (t.val - 1) (by omega)).2.1 shapeCasts_S1x256_S1x256) (sum4 fun j => (chT m c t j).dvg)))
    ∧ ((outsAt0 m c t.val t.isLt).2.2.1 = (addf (shapeCast S4x128x128 (outsAt0 m c (t.val - 1) (by omega)).2.2.1 shapeCasts_S4x128x128_S4x128x128) (sum4 fun j => (chT m c t j).dw)))
    ∧ ((outsAt0 m c t.val t.isLt).2.2.2.1 = (can4 fun h => shapeCast S1x128x1 (addf (bias (outsAt0 m c (t.val - 1) (by omega)).2.2.2.1 h) (dbT m c t h)) shapeCasts_S128x1_S1x128x1))
    ∧ ((outsAt0 m c t.val t.isLt).2.2.2.2 = (addf (shapeCast S1x256 (outsAt0 m c (t.val - 1) (by omega)).2.2.2.2 shapeCasts_S1x256_S1x256) (sum4 fun j => (chT m c t j).dog))) := by
  have ht := t.isLt
  have hN : cfg0.N = 4 := rfl
  rw [outsAt0_B m c t (by omega) (by omega) (by omega) (by omega) (by omega) (by omega) (by omega) (by omega) (by omega) (by omega) (by omega) (by omega) (by omega) (by omega)]
  dsimp only
  unfold out0_B_6 out0_B_7 out0_B_8 out0_B_9 out0_B_10
  refine ⟨(View.read_writes_eq_canon _ _ _ fun _ => cover0_B_6 ..).trans ?_,
    (View.read_writes_eq_canon _ _ _ fun _ => cover0_B_7 ..).trans ?_,
    (View.read_writes_eq_canon _ _ _ fun _ => cover0_B_8 ..).trans ?_,
    (View.read_writes_eq_canon _ _ _ fun _ => cover0_B_9 ..).trans ?_,
    (View.read_writes_eq_canon _ _ _ fun _ => cover0_B_10 ..).trans ?_⟩
  all_goals
    unfold kernelRun0_B; dsimp only
    first | rw [View.canon_unit_zero hz2] | rw [View.canon_unit_zero hz3] | skip
    simp only [r, r_1, r_2, r_3, r_4, r_5, r_6, r_7, r_8, r_9, r_10, r_11, r_12, r_13, r_14, r_15, r_16, r_17, r_18, r_19, r_20, r_21, r_22, r_23, r_24, r_25, r_26, r_27, r_28,
      r_29, r_30, r_31, r_32, r_33, r_34, r_35, r_36, r_37, r_38, r_39, r_40, r_41, r_42, r_43, r_44, r_45, r_46, r_47, r_48, r_49, r_50, r_51, r_52, r_53, r_54, r_55,
      r_56, r_57, r_58, r_59, r_60, r_61, r_62, r_63, r_64, r_65, r_66, r_67, r_68, r_69, r_70, r_71, r_72, r_73, r_74, r_75, r_76, r_77, r_78, r_79, r_80, r_81, r_82,
      r_83, r_84, r_85, r_86, r_87, r_88, r_89, r_90, r_91, r_92, r_93, r_94, r_95, r_96, r_97, r_98, r_99, r_100, r_101, r_102, r_103, r_104, r_105, r_106, r_107,
      r_108, r_109, r_110, r_111, r_112, r_113, r_114, r_115, r_116, r_117, r_118, r_119, r_120, r_121, r_122, r_123, r_124, r_125, r_126, r_127, r_128, r_129, r_130,
      r_131, r_132, r_133, r_134, r_135, r_136, r_137, r_138, r_139, r_140, r_141, r_142, r_143, r_144, r_145, r_146, r_147, r_148, r_149, r_150, r_151, r_152, r_153,
      r_154, r_155, r_156, r_157, r_158, r_159, r_160, r_161, r_162, r_163, r_164, r_165, r_166, r_167, r_168, r_169, r_170, r_171, r_172, r_173, r_174, r_175, r_176,
      r_177, r_178, r_179, r_180, r_181, r_182, r_183, r_184, r_185, r_186, r_187, r_188, r_189, r_190, r_191, r_192, r_193, r_194, r_195, r_196, r_197, r_198, r_199,
      r_200, r_201, r_202, r_203, r_204, r_205, r_206, r_207, r_208, r_209, r_210, r_211, r_212, r_213, v1838, v1854, v1854_1, v1854_2, View.readAt_eq_ld,
      Memref.IsWhole.read_unread, View.ld_unit_zero (S := S1x256) hz2, View.ld_unit_zero (S := S4x128x128) hz3]
    rfl

end Cert.GmIdeal.Hand
end
-- ==== Proof.GmArr.lean ====
module

public import proofs.«01_k».proof.Proof.GmPay
public import proofs.«01_k».proof.Proof.GmWinA
public import proofs.«01_k».proof.Proof.GmWinB

/-! The spatial gate's backward kernel: its result arrays, entry by entry, chunk by chunk or as sums over the sixteen chunks. -/

@[expose] public section

set_option maxRecDepth 16384

noncomputable section

open Idealize.ShloMosaic Idealize.ShloMosaic.TcCoe Idealize.SL.Sem

namespace Cert.GmIdeal.Hand

open Cert.GmIdeal Cert.GmIdeal.Gen
open Cert Cert.GateE

/-- Row `r` of chunk `q`; a chunk by its number; a column of the left and of the right half. -/
def rw (q : Fin 16) (r : Fin 128) : Fin 2048 := ⟨128 * q.val + r.val, by omega⟩
def qn (N : ℕ) : Fin 16 := ⟨N % 16, Nat.mod_lt _ (by omega)⟩
def lr (o : Fin 2) (j : Fin 256) : Fin 512 := ⟨256 * o.val + j.val, by omega⟩
theorem rw_eq (n : Fin 2048) : ∃ q r, n = rw q r :=
  ⟨⟨n.val / 128, by omega⟩, ⟨n.val % 128, Nat.mod_lt _ (by omega)⟩, Fin.ext (by show n.val = 128 * (n.val / 128) + n.val % 128; omega)⟩
theorem lr_eq (j : Fin 512) : ∃ o i, j = lr o i :=
  ⟨⟨j.val / 256, by omega⟩, ⟨j.val % 256, Nat.mod_lt _ (by omega)⟩, Fin.ext (by show j.val = 256 * (j.val / 256) + j.val % 256; omega)⟩

/-- Back from rows and columns. -/
def rq (n : Fin 2048) : Fin 16 := ⟨n.val / 128, by omega⟩
def rr (n : Fin 2048) : Fin 128 := ⟨n.val % 128, Nat.mod_lt _ (by omega)⟩
def lo (j : Fin 512) : Fin 2 := ⟨j.val / 256, by omega⟩
def li (j : Fin 512) : Fin 256 := ⟨j.val % 256, Nat.mod_lt _ (by omega)⟩
def hd (j : Fin 256) : Fin 4 := ⟨j.val / 64, by omega⟩
def cl (j : Fin 256) : Fin 64 := ⟨j.val % 64, Nat.mod_lt _ (by omega)⟩
theorem rq_rw (q : Fin 16) (r : Fin 128) : rq (rw q r) = q := Fin.ext (by show (128 * q.val + r.val) / 128 = q.val; omega)
theorem rr_rw (q : Fin 16) (r : Fin 128) : rr (rw q r) = r := Fin.ext (by show (128 * q.val + r.val) % 128 = r.val; omega)
theorem lo_lr (o : Fin 2) (j : Fin 256) : lo (lr o j) = o := Fin.ext (by show (256 * o.val + j.val) / 256 = o.val; omega)
theorem li_lr (o : Fin 2) (j : Fin 256) : li (lr o j) = j := Fin.ext (by show (256 * o.val + j.val) % 256 = j.val; omega)
theorem hd_cc (h : Fin 4) (e : Fin 64) : hd (cc h e) = h := Fin.ext (by show (64 * h.val + e.val) / 64 = h.val; omega)
theorem cl_cc (h : Fin 4) (e : Fin 64) : cl (cc h e) = e := Fin.ext (by show (64 * h.val + e.val) % 64 = e.val; omega)

/-! The pieces of the blocks. -/

def pp (o : Fin 2) (j : Fin 4) : Rect S512x512 := Rect.unit ![128 * j.val, 256 * o.val] S128x256.size fun i => by
  match i with
  | ⟨0, _⟩ => show 128 * j.val + 128 ≤ 512; omega
  | ⟨1, _⟩ => show 256 * o.val + 256 ≤ 512; omega
def pr (j : Fin 4) (r : Fin 128) : Fin 512 := ⟨128 * j.val + r.val, by omega⟩
theorem pr_eq (n : Fin 512) : ∃ j r, n = pr j r :=
  ⟨⟨n.val / 128, by omega⟩, ⟨n.val % 128, Nat.mod_lt _ (by omega)⟩, Fin.ext (by show n.val = 128 * (n.val / 128) + n.val % 128; omega)⟩

theorem pp_emb (o : Fin 2) (j : Fin 4) (r : Fin 128) (i : Fin 256) : ((pp o j).emb (ix2 r i : S128x256.Idx) : S512x512.Idx) = ix2 (pr j r) (lr o i) := by
  funext a; match a with
  | ⟨0, _⟩ => exact Fin.ext (by show 128 * j.val + 1 * r.val = 128 * j.val + r.val; omega)
  | ⟨1, _⟩ => exact Fin.ext (by show 256 * o.val + 1 * i.val = 256 * o.val + i.val; omega)
theorem pc_emb (j : Fin 4) (r : Fin 128) (i : Fin 256) : ((pc j).emb (ix2 r i : S128x256.Idx) : S512x256.Idx) = ix2 (pr j r) i := by
  funext a; match a with
  | ⟨0, _⟩ => exact Fin.ext (by show 128 * j.val + 1 * r.val = 128 * j.val + r.val; omega)
  | ⟨1, _⟩ => exact Fin.ext (by show 0 + 1 * i.val = i.val; omega)
theorem pb_emb (h : Fin 4) (n : Fin 128) : ((pb h).emb (ix3 0 n 0 : S1x128x1.Idx) : S4x128x1.Idx) = ix3 h n 0 := by
  funext a; match a with
  | ⟨0, _⟩ => exact Fin.ext (by show h.val + 1 * 0 = h.val; omega)
  | ⟨1, _⟩ => exact Fin.ext (by show 0 + 1 * n.val = n.val; omega)
  | ⟨2, _⟩ => rfl

theorem canon_at (w : Fin 2 → Fin 4 → Vec Ideal S128x256 .f32) (o : Fin 2) (k : Fin 4) (r : Fin 128) (x : Fin 256) : ∀ l : List (Fin 2 × Fin 4), (o, k) ∈ l →
    View.canon (Val := Elt Ideal) (l.map fun i => (⟨pp i.1 i.2, w i.1 i.2⟩ : View.Piece (Elt Ideal) S512x512 .f32)) (ix2 (pr k r) (lr o x)) = w o k (ix2 r x)
  | [], h => absurd h List.not_mem_nil
  | i :: l, h => by
    rw [List.map_cons]
    by_cases hj : (o, k) = i
    · subst hj
      rw [← pp_emb o k r x]
      exact View.canon_cons_emb (pp o k) (w o k) _ (ix2 r x)
    · refine (View.canon_cons_of_not_mem ⟨pp i.1 i.2, w i.1 i.2⟩ _ fun hm => ?_).trans (canon_at w o k r x l ((List.mem_cons.mp h).resolve_left hj))
      have hm' := (LoadRect.mem_set _).mp hm
      obtain ⟨a, ha, he⟩ := hm' (0 : Fin 2)
      obtain ⟨b, hb, hf⟩ := hm' (1 : Fin 2)
      have ha' : a < 128 := ha
      have hb' : b < 256 := hb
      have he' : 128 * k.val + r.val = 128 * i.2.val + 1 * a := he
      have hf' : 256 * o.val + x.val = 256 * i.1.val + 1 * b := hf
      have := r.isLt
      have := x.isLt
      exact hj (Prod.ext (Fin.ext (by show o.val = i.1.val; omega)) (Fin.ext (by show k.val = i.2.val; omega)))

theorem can8_apply (du dv : Fin 4 → Vec Ideal S128x256 .f32) (o : Fin 2) (k : Fin 4) (r : Fin 128) (x : Fin 256) :
    can8 du dv (ix2 (pr k r) (lr o x)) = (if o = 0 then du k else dv k) (ix2 r x) :=
  canon_at (fun o k => if o = 0 then du k else dv k) o k r x [(1, 3), (0, 3), (1, 2), (0, 2), (1, 1), (0, 1), (1, 0), (0, 0)] (by fin_cases o <;> fin_cases k <;> decide)

theorem canon4_at (w : Fin 4 → Vec Ideal S1x128x1 .f32) (h : Fin 4) (n : Fin 128) : ∀ l : List (Fin 4), h ∈ l →
    View.canon (Val := Elt Ideal) (l.map fun i => (⟨pb i, w i⟩ : View.Piece (Elt Ideal) S4x128x1 .f32)) (ix3 h n 0) = w h (ix3 0 n 0)
  | [], hh => absurd hh List.not_mem_nil
  | i :: l, hh => by
    rw [List.map_cons]
    by_cases hj : h = i
    · subst hj
      rw [← pb_emb h n]
      exact View.canon_cons_emb (pb h) (w h) _ (ix3 0 n 0)
    · refine (View.canon_cons_of_not_mem ⟨pb i, w i⟩ _ fun hm => ?_).trans (canon4_at w h n l ((List.mem_cons.mp hh).resolve_left hj))
      obtain ⟨a, ha, he⟩ := (LoadRect.mem_set _).mp hm (0 : Fin 3)
      have ha' : a < 1 := ha
      have he' : h.val = i.val + 1 * a := he
      exact hj (Fin.ext (by omega))
theorem can4_apply (w : Fin 4 → Vec Ideal S1x128x1 .f32) (h : Fin 4) (n : Fin 128) : can4 w (ix3 h n 0) = w h (ix3 0 n 0) :=
  canon4_at w h n [3, 2, 1, 0] (by fin_cases h <;> decide)

/-- Shape casts that keep the entries. -/
theorem sc1 (x : FVec Ideal S128x256 .f32) (i : S128x256.Idx) : shapeCast S128x256 x shapeCasts_S128x256_S128x256 i = x i := by
  obtain ⟨n, d, rfl⟩ : ∃ n d, i = ix2 n d := ⟨i 0, i 1, (ix2_eta i).symm⟩
  pointwise
theorem sc2 (x : FVec Ideal S1x256 .f32) (d : Fin 256) : shapeCast S1x256 x shapeCasts_S1x256_S1x256 (ix2 0 d) = x (ix2 0 d) := by pointwise
theorem sc3 (x : FVec Ideal S4x128x128 .f32) (h : Fin 4) (t s : Fin 128) : shapeCast S4x128x128 x shapeCasts_S4x128x128_S4x128x128 (ix3 h t s) = x (ix3 h t s) := by pointwise
theorem sc4 (x : FVec Ideal S1x128x1 .f32) (n : Fin 128) : shapeCast S128x1 x shapeCasts_S1x128x1_S128x1 (ix2 n 0) = x (ix3 0 n 0) := by pointwise
theorem sc5 (x : FVec Ideal S128x1 .f32) (n : Fin 128) : shapeCast S1x128x1 x shapeCasts_S128x1_S1x128x1 (ix3 0 n 0) = x (ix2 n 0) := by pointwise
theorem bias_apply (b : FVec Ideal S4x128x1 .f32) (h : Fin 4) (n : Fin 128) : bias (F := Ideal) b h (ix2 n 0) = b (ix3 h n 0) :=
  (sc4 _ n).trans (congrArg b (pb_emb h n))

section
variable (pa : Vec Ideal S512x512 .f32) (vg : Vec Ideal S1x256 .f32) (w : Vec Ideal S4x128x128 .f32) (b : Vec Ideal S4x128x1 .f32) (og : Vec Ideal S1x256 .f32)
    (ct : Vec Ideal S512x256 .f32) (j : Fin 4) (n : Fin 128) (h : Fin 4) (e : Fin 64)
theorem chk_u : (chk pa vg w b og ct j).sp.u n h e = pa (ix2 (pr j n) (lr 0 (cc h e))) :=
  (sc1 (View.ld pa (pu j)) (ix2 n (cc h e))).trans (congrArg pa (pp_emb 0 j n (cc h e)))
theorem chk_v : (chk pa vg w b og ct j).sp.v n h e = pa (ix2 (pr j n) (lr 1 (cc h e))) :=
  (sc1 (View.ld pa (pv j)) (ix2 n (cc h e))).trans (congrArg pa (pp_emb 1 j n (cc h e)))
theorem chk_ct : (chk pa vg w b og ct j).sp.ct n h e = ct (ix2 (pr j n) (cc h e)) :=
  (sc1 (View.ld ct (pc j)) (ix2 n (cc h e))).trans (congrArg ct (pc_emb j n (cc h e)))
theorem chk_vg : (chk pa vg w b og ct j).sp.vg h e = vg (ix2 0 (cc h e)) := sc2 vg (cc h e)
theorem chk_og : (chk pa vg w b og ct j).sp.og h e = og (ix2 0 (cc h e)) := sc2 og (cc h e)
theorem chk_b : (chk pa vg w b og ct j).sp.b h n = b (ix3 h n 0) := by
  have hh : (chk pa vg w b og ct j).sp.b h n = bias (F := Ideal) b h (ix2 n 0) := by fin_cases h <;> rfl
  rw [hh, bias_apply]
end

/-- The arguments, chunk by chunk and head by head. -/
structure Arg where
  u : Fin 2048 → Fin 4 → Fin 64 → EReal
  v : Fin 2048 → Fin 4 → Fin 64 → EReal
  ct : Fin 2048 → Fin 4 → Fin 64 → EReal
  vg : Fin 4 → Fin 64 → EReal
  og : Fin 4 → Fin 64 → EReal
  w : Fin 4 → Fin 128 → Fin 128 → EReal
  b : Fin 4 → Fin 128 → EReal
def Arg.ch (A : Arg) (q : Fin 16) : Sp where
  u n := A.u (rw q n)
  v n := A.v (rw q n)
  ct n := A.ct (rw q n)
  vg := A.vg
  og := A.og
  w := A.w
  b := A.b

section Whole
variable (A : Arg)
/-- The five results by their entries. -/
def G6 (y : S2048x512.Idx) : EReal := (if lo (y 1) = 0 then (A.ch (rq (y 0))).du else (A.ch (rq (y 0))).dv) (rr (y 0)) (hd (li (y 1))) (cl (li (y 1)))
def G7 (y : S1x256.Idx) : EReal := ∑ q, (A.ch q).dvg (hd (y 1)) (cl (y 1))
def G8 (y : S4x128x128.Idx) : EReal := ∑ q, (A.ch q).dw (y 0) (y 1) (y 2)
def G9 (y : S4x128x1.Idx) : EReal := ∑ q, (A.ch q).db (y 0) (y 1)
def G10 (y : S1x256.Idx) : EReal := ∑ q, (A.ch q).dog (hd (y 1)) (cl (y 1))
end Whole

theorem tile_sum (u : ℕ → EReal) (k : ℕ) : ∑ N ∈ Finset.range (4 * (k + 1)), u N = ∑ N ∈ Finset.range (4 * k), u N + ∑ n : Fin 4, u (4 * k + n.val) := by
  rw [show 4 * (k + 1) = 4 * k + 4 by omega, Finset.sum_range_add, Fin.sum_univ_eq_sum_range (fun j => u (4 * k + j)) 4]
theorem rows_sum (u : Fin 16 → EReal) : ∑ N ∈ Finset.range 16, u (qn N) = ∑ n, u n := by
  rw [← Fin.sum_univ_eq_sum_range (fun N => u (qn N)) 16]
  exact Finset.sum_congr rfl fun n _ => congrArg u (Fin.ext (Nat.mod_eq_of_lt n.isLt))
theorem acc_sum {ι : Type} (o p : (n : ℕ) → n < cfg0.N → ι → EReal) (u : ℕ → ι → EReal)
    (hp : ∀ n hn i, p n hn i = ∑ k : Fin 4, u (4 * n + k.val) i)
    (h0 : ∀ hn i, o 0 hn i = p 0 hn i) (hs : ∀ n (hn : n + 1 < cfg0.N) i, o (n + 1) hn i = o n (by omega) i + p (n + 1) hn i) :
    ∀ n hn i, o n hn i = ∑ N ∈ Finset.range (4 * (n + 1)), u N i
  | 0, hn, i => by rw [h0, hp, tile_sum (fun N => u N i), Nat.mul_zero, Finset.range_zero, Finset.sum_empty, zero_add]
  | n + 1, hn, i => by rw [hs, acc_sum o p u hp h0 hs n _ i, hp, tile_sum (fun N => u N i) (n + 1)]

section Arrays
variable (m : (ℓ : Loc nD τ sig) → Buf (Elt Ideal) ℓ) (c : Dev nD)

/-- The kernel's six arguments by their entries; they are real numbers. -/
structure Args (A : Arg) : Prop where
  hu : ∀ n h e, V m c main_v2 (ix2 n (lr 0 (cc h e))) = A.u n h e
  hv : ∀ n h e, V m c main_v2 (ix2 n (lr 1 (cc h e))) = A.v n h e
  hvg : ∀ h e, V m c main_v3 (ix2 0 (cc h e)) = A.vg h e
  hw : ∀ h t s, V m c main_arg3 (ix3 h t s) = A.w h t s
  hb : ∀ h n, V m c main_v4 (ix3 h n 0) = A.b h n
  hog : ∀ h e, V m c main_v5 (ix2 0 (cc h e)) = A.og h e
  hct : ∀ n h e, V m c main_v6 (ix2 n (cc h e)) = A.ct n h e
  real : ∀ q, (A.ch q).Reals

theorem index_in : ∀ t : Fin cfg0.N, (win0_0.index t 0 = t.val ∧ win0_0.index t 1 = 0)
    ∧ (win0_1.index t 0 = 0 ∧ win0_1.index t 1 = 0)
    ∧ (win0_2.index t 0 = 0 ∧ win0_2.index t 1 = 0 ∧ win0_2.index t 2 = 0)
    ∧ (win0_3.index t 0 = 0 ∧ win0_3.index t 1 = 0 ∧ win0_3.index t 2 = 0)
    ∧ (win0_4.index t 0 = 0 ∧ win0_4.index t 1 = 0)
    ∧ (win0_5.index t 0 = t.val ∧ win0_5.index t 1 = 0) := by decide +kernel
theorem index_out : ∀ t : Fin cfg0.N, (win0_6.index t 0 = t.val ∧ win0_6.index t 1 = 0)
    ∧ (win0_7.index t 0 = 0 ∧ win0_7.index t 1 = 0)
    ∧ (win0_8.index t 0 = 0 ∧ win0_8.index t 1 = 0 ∧ win0_8.index t 2 = 0)
    ∧ (win0_9.index t 0 = 0 ∧ win0_9.index t 1 = 0 ∧ win0_9.index t 2 = 0)
    ∧ (win0_10.index t 0 = 0 ∧ win0_10.index t 1 = 0) := by decide +kernel

theorem pt_lt (t : Fin cfg0.N) : t.val < 4 := by have := t.isLt; have : cfg0.N = 4 := N_0; omega

theorem at_ix {a b : ℕ} {α : Type} (f : (⟨2, ![a, b]⟩ : Shape).Idx → α) (z : (⟨2, ![a, b]⟩ : Shape).Idx) (p : Fin a) (q : Fin b)
    (h0 : (z 0).val = p.val) (h1 : (z 1).val = q.val) : f z = f (ix2 p q) := by
  rw [← ix2_eta z, show z 0 = p from Fin.ext h0, show z 1 = q from Fin.ext h1]
theorem at_ix3 {a b d : ℕ} {α : Type} (f : (⟨3, ![a, b, d]⟩ : Shape).Idx → α) (z : (⟨3, ![a, b, d]⟩ : Shape).Idx) (p : Fin a) (q : Fin b) (r : Fin d)
    (h0 : (z 0).val = p.val) (h1 : (z 1).val = q.val) (h2 : (z 2).val = r.val) : f z = f (ix3 p q r) := by
  rw [← ix3_eta z, show z 0 = p from Fin.ext h0, show z 1 = q from Fin.ext h1, show z 2 = r from Fin.ext h2]

variable {m c} {A : Arg} (H : Args m c A) (t : Fin cfg0.N)

/-- The chunk that a point takes at its `j`-th place. -/
abbrev tq (t : Fin cfg0.N) (j : Fin 4) : Fin 16 := qn (4 * t.val + j.val)
theorem tq_val (j : Fin 4) : (tq t j).val = 4 * t.val + j.val := Nat.mod_eq_of_lt (by have := pt_lt t; omega)
theorem row_val (j : Fin 4) (r : Fin 128) : t.val * 512 + 1 * (pr j r).val = (rw (tq t j) r).val := by
  show t.val * 512 + 1 * (128 * j.val + r.val) = 128 * (tq t j).val + r.val
  rw [tq_val]; omega

include H in
theorem pt_u (j : Fin 4) : (chT m c t j).sp.u = (A.ch (tq t j)).u := funext fun n => funext fun h => funext fun e =>
    (chk_u (iblk m c 0 t) (iblk m c 1 t) (iblk m c 2 t) (iblk m c 3 t) (iblk m c 4 t) (iblk m c 5 t) j n h e).trans ((at_ix (V m c main_v2) (((cfg0.win 0).blk t).view.emb (ix2 (pr j n) (lr 0 (cc h e)))) (rw (tq t j) n) (lr 0 (cc h e))
      (by show win0_0.index t 0 * 512 + 1 * (pr j n).val = _; rw [(index_in t).1.1]; exact row_val t j n)
      (by show win0_0.index t 1 * 512 + 1 * (lr 0 (cc h e)).val = _; rw [(index_in t).1.2]; omega)).trans (H.hu _ _ _))
include H in
theorem pt_v (j : Fin 4) : (chT m c t j).sp.v = (A.ch (tq t j)).v := funext fun n => funext fun h => funext fun e =>
    (chk_v (iblk m c 0 t) (iblk m c 1 t) (iblk m c 2 t) (iblk m c 3 t) (iblk m c 4 t) (iblk m c 5 t) j n h e).trans ((at_ix (V m c main_v2) (((cfg0.win 0).blk t).view.emb (ix2 (pr j n) (lr 1 (cc h e)))) (rw (tq t j) n) (lr 1 (cc h e))
      (by show win0_0.index t 0 * 512 + 1 * (pr j n).val = _; rw [(index_in t).1.1]; exact row_val t j n)
      (by show win0_0.index t 1 * 512 + 1 * (lr 1 (cc h e)).val = _; rw [(index_in t).1.2]; omega)).trans (H.hv _ _ _))
include H in
theorem pt_ct (j : Fin 4) : (chT m c t j).sp.ct = (A.ch (tq t j)).ct := funext fun n => funext fun h => funext fun e =>
    (chk_ct (iblk m c 0 t) (iblk m c 1 t) (iblk m c 2 t) (iblk m c 3 t) (iblk m c 4 t) (iblk m c 5 t) j n h e).trans ((at_ix (V m c main_v6) (((cfg0.win 5).blk t).view.emb (ix2 (pr j n) (cc h e))) (rw (tq t j) n) (cc h e)
      (by show win0_5.index t 0 * 512 + 1 * (pr j n).val = _; rw [(index_in t).2.2.2.2.2.1]; exact row_val t j n)
      (by show win0_5.index t 1 * 256 + 1 * (cc h e).val = _; rw [(index_in t).2.2.2.2.2.2]; omega)).trans (H.hct _ _ _))
include H in
theorem pt_vg (j : Fin 4) : (chT m c t j).sp.vg = (A.ch (tq t j)).vg := funext fun h => funext fun e =>
    (chk_vg (iblk m c 0 t) (iblk m c 1 t) (iblk m c 2 t) (iblk m c 3 t) (iblk m c 4 t) (iblk m c 5 t) j h e).trans ((at_ix (V m c main_v3) (((cfg0.win 1).blk t).view.emb (ix2 0 (cc h e))) 0 (cc h e)
      (by show win0_1.index t 0 * 1 + 1 * 0 = _; rw [(index_in t).2.1.1]; rfl)
      (by show win0_1.index t 1 * 256 + 1 * (cc h e).val = _; rw [(index_in t).2.1.2]; omega)).trans (H.hvg _ _))
include H in
theorem pt_og (j : Fin 4) : (chT m c t j).sp.og = (A.ch (tq t j)).og := funext fun h => funext fun e =>
    (chk_og (iblk m c 0 t) (iblk m c 1 t) (iblk m c 2 t) (iblk m c 3 t) (iblk m c 4 t) (iblk m c 5 t) j h e).trans ((at_ix (V m c main_v5) (((cfg0.win 4).blk t).view.emb (ix2 0 (cc h e))) 0 (cc h e)
      (by show win0_4.index t 0 * 1 + 1 * 0 = _; rw [(index_in t).2.2.2.2.1.1]; rfl)
      (by show win0_4.index t 1 * 256 + 1 * (cc h e).val = _; rw [(index_in t).2.2.2.2.1.2]; omega)).trans (H.hog _ _))
include H in
theorem pt_w (j : Fin 4) : (chT m c t j).sp.w = (A.ch (tq t j)).w := funext fun h => funext fun p => funext fun s =>
    (at_ix3 (V m c main_arg3) (((cfg0.win 2).blk t).view.emb (ix3 h p s)) h p s
      (by show win0_2.index t 0 * 4 + 1 * h.val = _; rw [(index_in t).2.2.1.1]; omega)
      (by show win0_2.index t 1 * 128 + 1 * p.val = _; rw [(index_in t).2.2.1.2.1]; omega)
      (by show win0_2.index t 2 * 128 + 1 * s.val = _; rw [(index_in t).2.2.1.2.2]; omega)).trans (H.hw _ _ _)
include H in
theorem pt_b (j : Fin 4) : (chT m c t j).sp.b = (A.ch (tq t j)).b := funext fun h => funext fun n =>
    (chk_b (iblk m c 0 t) (iblk m c 1 t) (iblk m c 2 t) (iblk m c 3 t) (iblk m c 4 t) (iblk m c 5 t) j n h).trans ((at_ix3 (V m c main_v4) (((cfg0.win 3).blk t).view.emb (ix3 h n 0)) h n 0
      (by show win0_3.index t 0 * 4 + 1 * h.val = _; rw [(index_in t).2.2.2.1.1]; omega)
      (by show win0_3.index t 1 * 128 + 1 * n.val = _; rw [(index_in t).2.2.2.1.2.1]; omega)
      (by show win0_3.index t 2 * 1 + 1 * 0 = _; rw [(index_in t).2.2.2.1.2.2]; rfl)).trans (H.hb _ _))
theorem Sp_ext {S T : Sp} (hu : S.u = T.u) (hv : S.v = T.v) (hct : S.ct = T.ct) (hvg : S.vg = T.vg) (hog : S.og = T.og) (hw : S.w = T.w) (hb : S.b = T.b) : S = T := by
  obtain ⟨su, sv, sct, svg, sog, sw, sb⟩ := S
  obtain ⟨tu, tv, tct, tvg, tog, tw, tb⟩ := T
  dsimp only at hu hv hct hvg hog hw hb
  subst hu hv hct hvg hog hw hb
  rfl
include H in
theorem sp_pt (j : Fin 4) : (chT m c t j).sp = A.ch (tq t j) :=
  Sp_ext (pt_u H t j) (pt_v H t j) (pt_ct H t j) (pt_vg H t j) (pt_og H t j) (pt_w H t j) (pt_b H t j)

include H in
theorem fin_pt (j : Fin 4) : (chT m c t j).sp.Reals := by rw [sp_pt H]; exact H.real _

theorem sum4_apply {S : Shape} (f : Fin 4 → FVec Ideal S .f32) (i : S.Idx) : sum4 f i = ∑ j, f j i := by
  rw [Fin.sum_univ_four]; rfl

include H in
theorem acc_dvg (n : ℕ) (hn : n < cfg0.N) (i : Fin 4 × Fin 64) : (outsAt0 m c n hn).2.1 (ix2 0 (cc i.1 i.2)) = ∑ N ∈ Finset.range (4 * (n + 1)), (A.ch (qn N)).dvg i.1 i.2 :=
  acc_sum (fun n hn (i : Fin 4 × Fin 64) => (outsAt0 m c n hn).2.1 (ix2 0 (cc i.1 i.2))) (fun n hn i => (sum4 fun j => (chT m c ⟨n, hn⟩ j).dvg) (ix2 0 (cc i.1 i.2))) (fun N i => (A.ch (qn N)).dvg i.1 i.2)
    (fun n hn i => (sum4_apply _ _).trans (Finset.sum_congr rfl fun j _ => (dvg_eq _ i.1 i.2 (fin_pt H ⟨n, hn⟩ j)).trans (by rw [sp_pt H]))) (fun hn i => (congrFun ((out_A m c ⟨0, hn⟩ rfl).2.1) _))
    (fun n hn i => (congrFun ((out_B m c ⟨n + 1, hn⟩ (Nat.succ_ne_zero n)).2.1) _).trans (congrArg (· + _) (sc2 _ _))) n hn i
include H in
theorem acc_dog (n : ℕ) (hn : n < cfg0.N) (i : Fin 4 × Fin 64) : (outsAt0 m c n hn).2.2.2.2 (ix2 0 (cc i.1 i.2)) = ∑ N ∈ Finset.range (4 * (n + 1)), (A.ch (qn N)).dog i.1 i.2 :=
  acc_sum (fun n hn (i : Fin 4 × Fin 64) => (outsAt0 m c n hn).2.2.2.2 (ix2 0 (cc i.1 i.2))) (fun n hn i => (sum4 fun j => (chT m c ⟨n, hn⟩ j).dog) (ix2 0 (cc i.1 i.2))) (fun N i => (A.ch (qn N)).dog i.1 i.2)
    (fun n hn i => (sum4_apply _ _).trans (Finset.sum_congr rfl fun j _ => (dog_eq _ i.1 i.2).trans (by rw [sp_pt H]))) (fun hn i => (congrFun ((out_A m c ⟨0, hn⟩ rfl).2.2.2.2) _))
    (fun n hn i => (congrFun ((out_B m c ⟨n + 1, hn⟩ (Nat.succ_ne_zero n)).2.2.2.2) _).trans (congrArg (· + _) (sc2 _ _))) n hn i
include H in
theorem acc_dw (n : ℕ) (hn : n < cfg0.N) (i : Fin 4 × Fin 128 × Fin 128) : (outsAt0 m c n hn).2.2.1 (ix3 i.1 i.2.1 i.2.2) = ∑ N ∈ Finset.range (4 * (n + 1)), (A.ch (qn N)).dw i.1 i.2.1 i.2.2 :=
  acc_sum (fun n hn (i : Fin 4 × Fin 128 × Fin 128) => (outsAt0 m c n hn).2.2.1 (ix3 i.1 i.2.1 i.2.2)) (fun n hn i => (sum4 fun j => (chT m c ⟨n, hn⟩ j).dw) (ix3 i.1 i.2.1 i.2.2)) (fun N i => (A.ch (qn N)).dw i.1 i.2.1 i.2.2)
    (fun n hn i => (sum4_apply _ _).trans (Finset.sum_congr rfl fun j _ => (dw_eq _ i.1 (fin_pt H ⟨n, hn⟩ j) i.2.1 i.2.2).trans (by rw [sp_pt H]))) (fun hn i => (congrFun ((out_A m c ⟨0, hn⟩ rfl).2.2.1) _))
    (fun n hn i => (congrFun ((out_B m c ⟨n + 1, hn⟩ (Nat.succ_ne_zero n)).2.2.1) _).trans (congrArg (· + _) (sc3 _ _ _ _))) n hn i
include H in
theorem acc_db (n : ℕ) (hn : n < cfg0.N) (i : Fin 4 × Fin 128) : (outsAt0 m c n hn).2.2.2.1 (ix3 i.1 i.2 0) = ∑ N ∈ Finset.range (4 * (n + 1)), (A.ch (qn N)).db i.1 i.2 :=
  acc_sum (fun n hn (i : Fin 4 × Fin 128) => (outsAt0 m c n hn).2.2.2.1 (ix3 i.1 i.2 0)) (fun n hn i => dbT m c ⟨n, hn⟩ i.1 (ix2 i.2 0)) (fun N i => (A.ch (qn N)).db i.1 i.2)
    (fun n hn i => (sum4_apply _ _).trans (Finset.sum_congr rfl fun j _ => (db_eq _ i.2 i.1 (fin_pt H ⟨n, hn⟩ j)).trans (by rw [sp_pt H]))) (fun hn i => (congrFun ((out_A m c ⟨0, hn⟩ rfl).2.2.2.1) _).trans ((can4_apply _ i.1 i.2).trans (sc5 _ _)))
    (fun n hn i => (congrFun ((out_B m c ⟨n + 1, hn⟩ (Nat.succ_ne_zero n)).2.2.2.1) _).trans ((can4_apply _ i.1 i.2).trans ((sc5 _ _).trans (congrArg (· + _) (bias_apply _ _ _))))) n hn i

theorem out_rows : (outsAt0 m c t.val t.isLt).1 = can8 (fun j => (chT m c t j).du) (fun j => (chT m c t j).dv) := by
  by_cases h : t.val = 0
  · exact (out_A m c t h).1
  · exact (out_B m c t h).1

/-! The result arrays. -/

include H in
theorem arr6 : (dats m 0 c).arrAt 6 cfg0.N = G6 A := by
  refine (dats m 0 c).arrAt_eq_of_covers 6 (G6 A) (by decide +kernel) (fun t hf y => ?_)
  show (dats m 0 c).after 6 t _ = _
  rw [after0_6]
  suffices K : ∀ y : S512x512.Idx, (outsAt0 m c t.val t.isLt).1 y = (G6 A) (((cfg0.win 6).blk t).view.emb y) from K y
  intro y
  obtain ⟨n, d, rfl⟩ : ∃ n d, y = ix2 n d := ⟨y 0, y 1, (ix2_eta y).symm⟩
  obtain ⟨j, r, rfl⟩ := pr_eq n
  refine Eq.trans ?_ (at_ix (G6 A) _ (rw (tq t j) r) d ?_ ?_).symm
  · obtain ⟨o, x, rfl⟩ := lr_eq d
    obtain ⟨h, e, rfl⟩ := cc_eq x
    rw [out_rows]
    refine (can8_apply _ _ o j r (cc h e)).trans ?_
    show _ = (if lo (lr o (cc h e)) = 0 then (A.ch (rq (rw (tq t j) r))).du else (A.ch (rq (rw (tq t j) r))).dv) (rr (rw (tq t j) r)) (hd (li (lr o (cc h e)))) (cl (li (lr o (cc h e))))
    rw [rq_rw, rr_rw, lo_lr, li_lr, hd_cc, cl_cc]
    split
    · exact (du_eq _ r h e (fin_pt H t j)).trans (by rw [sp_pt H])
    · exact (dv_eq _ r h e (fin_pt H t j)).trans (by rw [sp_pt H])
  · show win0_6.index t 0 * 512 + 1 * (pr j r).val = _; rw [(index_out t).1.1]; exact row_val t j r
  · show win0_6.index t 1 * 512 + 1 * d.val = _; rw [(index_out t).1.2]; omega

include H in
theorem arr7 : (dats m 0 c).arrAt 7 cfg0.N = G7 A := by
  refine (dats m 0 c).arrAt_eq_of_covers 7 (G7 A) (by decide +kernel) (fun t hf y => ?_)
  have ht : t.val = 3 := by have := (flush0_7 t).1 hf; have := pt_lt t; omega
  show (dats m 0 c).after 7 t _ = _
  rw [after0_7]
  suffices K : ∀ y : S1x256.Idx, (outsAt0 m c t.val t.isLt).2.1 y = (G7 A) (((cfg0.win 7).blk t).view.emb y) from K y
  intro y
  obtain ⟨n, d, rfl⟩ : ∃ n d, y = ix2 n d := ⟨y 0, y 1, (ix2_eta y).symm⟩
  obtain rfl : n = 0 := Subsingleton.elim _ _
  refine Eq.trans ?_ (at_ix (G7 A) _ 0 d ?_ ?_).symm
  · obtain ⟨h, e, rfl⟩ := cc_eq d
    refine (acc_dvg H t.val t.isLt (h, e)).trans ?_
    show _ = ∑ q, (A.ch q).dvg (hd (cc h e)) (cl (cc h e))
    rw [hd_cc, cl_cc, ht]
    exact rows_sum fun q => (A.ch q).dvg h e
  · show win0_7.index t 0 * 1 + 1 * 0 = _; rw [(index_out t).2.1.1]; rfl
  · show win0_7.index t 1 * 256 + 1 * d.val = _; rw [(index_out t).2.1.2]; omega

include H in
theorem arr10 : (dats m 0 c).arrAt 10 cfg0.N = G10 A := by
  refine (dats m 0 c).arrAt_eq_of_covers 10 (G10 A) (by decide +kernel) (fun t hf y => ?_)
  have ht : t.val = 3 := by have := (flush0_10 t).1 hf; have := pt_lt t; omega
  show (dats m 0 c).after 10 t _ = _
  rw [after0_10]
  suffices K : ∀ y : S1x256.Idx, (outsAt0 m c t.val t.isLt).2.2.2.2 y = (G10 A) (((cfg0.win 10).blk t).view.emb y) from K y
  intro y
  obtain ⟨n, d, rfl⟩ : ∃ n d, y = ix2 n d := ⟨y 0, y 1, (ix2_eta y).symm⟩
  obtain rfl : n = 0 := Subsingleton.elim _ _
  refine Eq.trans ?_ (at_ix (G10 A) _ 0 d ?_ ?_).symm
  · obtain ⟨h, e, rfl⟩ := cc_eq d
    refine (acc_dog H t.val t.isLt (h, e)).trans ?_
    show _ = ∑ q, (A.ch q).dog (hd (cc h e)) (cl (cc h e))
    rw [hd_cc, cl_cc, ht]
    exact rows_sum fun q => (A.ch q).dog h e
  · show win0_10.index t 0 * 1 + 1 * 0 = _; rw [(index_out t).2.2.2.2.1]; rfl
  · show win0_10.index t 1 * 256 + 1 * d.val = _; rw [(index_out t).2.2.2.2.2]; omega

include H in
theorem arr8 : (dats m 0 c).arrAt 8 cfg0.N = G8 A := by
  refine (dats m 0 c).arrAt_eq_of_covers 8 (G8 A) (by decide +kernel) (fun t hf y => ?_)
  have ht : t.val = 3 := by have := (flush0_8 t).1 hf; have := pt_lt t; omega
  show (dats m 0 c).after 8 t _ = _
  rw [after0_8]
  suffices K : ∀ y : S4x128x128.Idx, (outsAt0 m c t.val t.isLt).2.2.1 y = (G8 A) (((cfg0.win 8).blk t).view.emb y) from K y
  intro y
  obtain ⟨h, p, s, rfl⟩ : ∃ h p s, y = ix3 h p s := ⟨y 0, y 1, y 2, (ix3_eta y).symm⟩
  refine Eq.trans ?_ (at_ix3 (G8 A) _ h p s ?_ ?_ ?_).symm
  · exact (acc_dw H t.val t.isLt (h, p, s)).trans (by rw [ht]; exact rows_sum fun q => (A.ch q).dw h p s)
  · show win0_8.index t 0 * 4 + 1 * h.val = _; rw [(index_out t).2.2.1.1]; omega
  · show win0_8.index t 1 * 128 + 1 * p.val = _; rw [(index_out t).2.2.1.2.1]; omega
  · show win0_8.index t 2 * 128 + 1 * s.val = _; rw [(index_out t).2.2.1.2.2]; omega

include H in
theorem arr9 : (dats m 0 c).arrAt 9 cfg0.N = G9 A := by
  refine (dats m 0 c).arrAt_eq_of_covers 9 (G9 A) (by decide +kernel) (fun t hf y => ?_)
  have ht : t.val = 3 := by have := (flush0_9 t).1 hf; have := pt_lt t; omega
  show (dats m 0 c).after 9 t _ = _
  rw [after0_9]
  suffices K : ∀ y : S4x128x1.Idx, (outsAt0 m c t.val t.isLt).2.2.2.1 y = (G9 A) (((cfg0.win 9).blk t).view.emb y) from K y
  intro y
  obtain ⟨h, p, s, rfl⟩ : ∃ h p s, y = ix3 h p s := ⟨y 0, y 1, y 2, (ix3_eta y).symm⟩
  obtain rfl : s = 0 := Subsingleton.elim _ _
  refine Eq.trans ?_ (at_ix3 (G9 A) _ h p 0 ?_ ?_ ?_).symm
  · exact (acc_db H t.val t.isLt (h, p)).trans (by rw [ht]; exact rows_sum fun q => (A.ch q).db h p)
  · show win0_9.index t 0 * 4 + 1 * h.val = _; rw [(index_out t).2.2.2.1.1]; omega
  · show win0_9.index t 1 * 128 + 1 * p.val = _; rw [(index_out t).2.2.2.1.2.1]; omega
  · show win0_9.index t 2 * 1 + 1 * 0 = _; rw [(index_out t).2.2.2.1.2.2]; rfl

end Arrays

end Cert.GmIdeal.Hand
end
-- ==== Proof.GmHost.lean ====
module

public import proofs.«01_k».proof.Proof.GmArr

/-! The host lines before the spatial gate's backward kernel: its seven arguments from the layer's own arrays. -/

@[expose] public section

set_option maxRecDepth 16384

noncomputable section

open Idealize.ShloMosaic Idealize.ShloMosaic.TcCoe Idealize.SL.Sem

namespace Cert.GmIdeal.Hand

open Cert.GmIdeal Cert.GmIdeal.Gen
open Cert Cert.GateE

section AnyFloat
variable {F : FTy → Type} [FloatOps F]

/-- The prepared arguments as functions of the arrays. -/
def argX (x : FVec F S1x2048x256 .f32) : FVec F S2048x256 .f32 := shapeCast S2048x256 x shapeCasts_S1x2048x256_S2048x256
def argP (x y : FVec F S1x2048x256 .f32) : FVec F S2048x512 .f32 :=
  concatenate S2048x512 1 [⟨S2048x256, argX x⟩, ⟨S2048x256, argX y⟩] concatenates_S2048x256_S2048x256_S2048x512_d1
def argG (g : FVec F S256 .f32) : FVec F S1x256 .f32 := broadcastInDim S1x256 ![1] bcast_S256_S1x256_1 g
def argB (b : FVec F S4x128 .f32) : FVec F S4x128x1 .f32 := broadcastInDim S4x128x1 ![0, 1] bcast_S4x128_S4x128x1_0_1 b

variable (m : (ℓ : Loc nD τ sig) → Buf (Elt F) ℓ) (c : Dev nD)

theorem V_all : V m c main_v2 = argP (m ((c : Thread nD τ).loc main_arg0)) (m ((c : Thread nD τ).loc main_arg1))
    ∧ V m c main_v3 = argG (m ((c : Thread nD τ).loc main_arg2)) ∧ V m c main_arg3 = m ((c : Thread nD τ).loc main_arg3)
    ∧ V m c main_v4 = argB (m ((c : Thread nD τ).loc main_arg4)) ∧ V m c main_v5 = argG (m ((c : Thread nD τ).loc main_arg5))
    ∧ V m c main_v6 = argX (m ((c : Thread nD τ).loc main_arg6)) := by
  refine ⟨?_, ?_, ?_, ?_, ?_, ?_⟩
  all_goals
    unfold V
    simp only [hostOps0, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
    after_results_simp <;> rfl

end AnyFloat

section Ideal
theorem argX_apply (x : FVec Ideal S1x2048x256 .f32) (n : Fin 2048) (j : Fin 256) : argX x (ix2 n j) = x (ix3 0 n j) := by pointwise [argX]
theorem argG_apply (g : FVec Ideal S256 .f32) (j : Fin 256) : argG g (ix2 0 j) = g (ix1 j) := by pointwise [argG]
theorem argB_apply (b : FVec Ideal S4x128 .f32) (h : Fin 4) (n : Fin 128) : argB b (ix3 h n 0) = b (ix2 h n) := by pointwise [argB]
theorem argP_left (x y : FVec Ideal S1x2048x256 .f32) (n : Fin 2048) (j : Fin 256) : argP x y (ix2 n (lr 0 j)) = x (ix3 0 n j) := by
  have hv : (lr 0 j).val = j.val := by show 256 * 0 + j.val = j.val; omega
  pointwise [argP, argX]
  rw [dif_pos (show (lr 0 j).val < 256 by omega)]
  exact congrArg (fun z => x (ix3 0 n z)) (Fin.ext hv)
theorem argP_right (x y : FVec Ideal S1x2048x256 .f32) (n : Fin 2048) (j : Fin 256) : argP x y (ix2 n (lr 1 j)) = y (ix3 0 n j) := by
  have hv : (lr 1 j).val = 256 + j.val := by show 256 * 1 + j.val = 256 + j.val; omega
  pointwise [argP, argX]
  rw [dif_neg (show ¬(lr 1 j).val < 256 by omega)]
  exact congrArg (fun z => y (ix3 0 n z)) (Fin.ext (by show (lr 1 j).val - 256 = j.val; omega))

variable (x0 x1 : FVec Ideal S1x2048x256 .f32) (x2 : FVec Ideal S256 .f32) (x3 : FVec Ideal S4x128x128 .f32) (x4 : FVec Ideal S4x128 .f32)
  (x5 : FVec Ideal S256 .f32) (x6 : FVec Ideal S1x2048x256 .f32)

/-- The arrays by rows, heads and columns. -/
def argOf : Arg where
  u n h e := x0 (ix3 0 n (cc h e))
  v n h e := x1 (ix3 0 n (cc h e))
  ct n h e := x6 (ix3 0 n (cc h e))
  vg h e := x2 (ix1 (cc h e))
  og h e := x5 (ix1 (cc h e))
  w h t s := x3 (ix3 h t s)
  b h n := x4 (ix2 h n)

/-- All entries of the arrays are real numbers. -/
structure RealArrays : Prop where
  r0 : ∀ i, R (x0 i)
  r1 : ∀ i, R (x1 i)
  r2 : ∀ i, R (x2 i)
  r3 : ∀ i, R (x3 i)
  r4 : ∀ i, R (x4 i)
  r5 : ∀ i, R (x5 i)
  r6 : ∀ i, R (x6 i)

variable {x0 x1 x2 x3 x4 x5 x6}

theorem RealArrays.ch (H : RealArrays x0 x1 x2 x3 x4 x5 x6) (q : Fin 16) : ((argOf x0 x1 x2 x3 x4 x5 x6).ch q).Reals where
  u _ _ _ := H.r0 _
  v _ _ _ := H.r1 _
  ct _ _ _ := H.r6 _
  vg _ _ := H.r2 _
  og _ _ := H.r5 _
  w _ _ _ := H.r3 _
  b _ _ := H.r4 _

variable (m : (ℓ : Loc nD τ sig) → Buf (Elt Ideal) ℓ) (c : Dev nD)

theorem args (H : RealArrays x0 x1 x2 x3 x4 x5 x6) (h0 : m ((c : Thread nD τ).loc main_arg0) = x0) (h1 : m ((c : Thread nD τ).loc main_arg1) = x1)
    (h2 : m ((c : Thread nD τ).loc main_arg2) = x2) (h3 : m ((c : Thread nD τ).loc main_arg3) = x3) (h4 : m ((c : Thread nD τ).loc main_arg4) = x4)
    (h5 : m ((c : Thread nD τ).loc main_arg5) = x5) (h6 : m ((c : Thread nD τ).loc main_arg6) = x6) : Args m c (argOf x0 x1 x2 x3 x4 x5 x6) := by
  obtain ⟨e2, e3, ew, e4, e5, e6⟩ := V_all m c
  rw [h0, h1] at e2; rw [h2] at e3; rw [h3] at ew; rw [h4] at e4; rw [h5] at e5; rw [h6] at e6
  exact ⟨fun n h e => (congrFun e2 _).trans (argP_left _ _ n _), fun n h e => (congrFun e2 _).trans (argP_right _ _ n _), fun h e => (congrFun e3 _).trans (argG_apply _ _),
    fun h t s => congrFun ew _, fun h n => (congrFun e4 _).trans (argB_apply _ h n), fun h e => (congrFun e5 _).trans (argG_apply _ _),
    fun n h e => (congrFun e6 _).trans (argX_apply _ n _), H.ch⟩
end Ideal

end Cert.GmIdeal.Hand
end
-- ==== Proof.GmRef.lean ====
module

public import proofs.«01_k».proof.Proof.GmHost
public import proofs.«01_k».proof.Proof.Gen.GmRefIdeal.Read
public import proofs.«01_k».proof.Proof.Gen.GmRefIdeal.Run

/-! The spatial gate's reference: its five results entry by entry over the extended reals. -/

@[expose] public section

set_option maxRecDepth 16384

noncomputable section

open Idealize.ShloMosaic Idealize.ShloMosaic.TcCoe Idealize.SL.Sem

namespace Cert.GmIdeal.Hand

open Cert.GmRefIdeal Cert.GmRefIdeal.Gen Cert.GmRefIdeal.Read
open Cert Cert.GateE

section Reductions
theorem red01 (x : FVec Ideal S1x1x4x64 .f32) (h : Fin 4) (e : Fin 64) :
    Ideal.hostReduceAdd reducesTo_S1x1x4x64_S4x64_d0_1 x 0 (ix2 h e) = x (ix4 0 0 h e) := by
  rw [Ideal.hostReduceAdd, zero_add]
  refine Finset.sum_eq_single_of_mem (ix4 0 0 h e) (Finset.mem_filter.2 ⟨Finset.mem_univ _, ?_⟩) fun i hi hne => absurd ?_ hne
  · funext a; match a with
    | ⟨0, _⟩ => rfl
    | ⟨1, _⟩ => rfl
  · have e := (Finset.mem_filter.1 hi).2
    funext a; apply Fin.ext; match a with
    | ⟨0, _⟩ => show (i 0).val = 0; exact Nat.lt_one_iff.1 (i 0).isLt
    | ⟨1, _⟩ => show (i 1).val = 0; exact Nat.lt_one_iff.1 (i 1).isLt
    | ⟨2, _⟩ => exact congrArg (fun z : S4x64.Idx => (z 0).val) e
    | ⟨3, _⟩ => exact congrArg (fun z : S4x64.Idx => (z 1).val) e

theorem red03 (x : FVec Ideal S1x2048x4x1 .f32) (n : Fin 2048) (k : Fin 4) :
    Ideal.hostReduceAdd reducesTo_S1x2048x4x1_S2048x4_d0_3 x 0 (ix2 n k) = x (ix4 0 n k 0) := by
  rw [Ideal.hostReduceAdd, zero_add]
  refine Finset.sum_eq_single_of_mem (ix4 0 n k 0) (Finset.mem_filter.2 ⟨Finset.mem_univ _, ?_⟩) fun i hi hne => absurd ?_ hne
  · funext a; match a with
    | ⟨0, _⟩ => rfl
    | ⟨1, _⟩ => rfl
  · have e := (Finset.mem_filter.1 hi).2
    funext a; apply Fin.ext; match a with
    | ⟨0, _⟩ => show (i 0).val = 0; exact Nat.lt_one_iff.1 (i 0).isLt
    | ⟨1, _⟩ => exact congrArg (fun z : S2048x4.Idx => (z 0).val) e
    | ⟨2, _⟩ => exact congrArg (fun z : S2048x4.Idx => (z 1).val) e
    | ⟨3, _⟩ => show (i 3).val = 0; exact Nat.lt_one_iff.1 (i 3).isLt

theorem red014 (x : FVec Ideal S1x1x128x4x1 .f32) (n : Fin 128) (k : Fin 4) :
    Ideal.hostReduceAdd reducesTo_S1x1x128x4x1_S128x4_d0_1_4 x 0 (ix2 n k) = x (ix5 0 0 n k 0) := by
  rw [Ideal.hostReduceAdd, zero_add]
  refine Finset.sum_eq_single_of_mem (ix5 0 0 n k 0) (Finset.mem_filter.2 ⟨Finset.mem_univ _, ?_⟩) fun i hi hne => absurd ?_ hne
  · funext a; match a with
    | ⟨0, _⟩ => rfl
    | ⟨1, _⟩ => rfl
  · have e := (Finset.mem_filter.1 hi).2
    funext a; apply Fin.ext; match a with
    | ⟨0, _⟩ => show (i 0).val = 0; exact Nat.lt_one_iff.1 (i 0).isLt
    | ⟨1, _⟩ => show (i 1).val = 0; exact Nat.lt_one_iff.1 (i 1).isLt
    | ⟨2, _⟩ => exact congrArg (fun z : S128x4.Idx => (z 0).val) e
    | ⟨3, _⟩ => exact congrArg (fun z : S128x4.Idx => (z 1).val) e
    | ⟨4, _⟩ => show (i 4).val = 0; exact Nat.lt_one_iff.1 (i 4).isLt

theorem red14 (x : FVec Ideal S1x16x128x4x64 .f32) (n : Fin 128) (k : Fin 4) :
    Ideal.hostReduceAdd reducesTo_S1x16x128x4x64_S1x128x4_d1_4 x 0 (ix3 0 n k) = ∑ q, ∑ e, x (ix5 0 q n k e) := by
  rw [Ideal.hostReduceAdd, zero_add, ← Fintype.sum_prod_type' (f := fun q e => x (ix5 0 q n k e))]
  refine (Finset.sum_bij (fun (p : Fin 16 × Fin 64) _ => (ix5 0 p.1 n k p.2 : S1x16x128x4x64.Idx)) (fun p _ => Finset.mem_filter.2 ⟨Finset.mem_univ _, ?_⟩) (fun p _ p' _ hp => ?_) (fun i hi => ?_) (fun p _ => rfl)).symm
  · funext a; match a with
    | ⟨0, _⟩ => rfl
    | ⟨1, _⟩ => rfl
    | ⟨2, _⟩ => rfl
  · exact Prod.ext (congrFun hp 1) (congrFun hp 4)
  · have e := (Finset.mem_filter.1 hi).2
    refine ⟨(i 1, i 4), Finset.mem_univ _, ?_⟩
    funext a; apply Fin.ext; match a with
    | ⟨0, _⟩ => show 0 = (i 0).val; exact (Nat.lt_one_iff.1 (i 0).isLt).symm
    | ⟨1, _⟩ => rfl
    | ⟨2, _⟩ => exact (congrArg (fun z : S1x128x4.Idx => (z 1).val) e).symm
    | ⟨3, _⟩ => exact (congrArg (fun z : S1x128x4.Idx => (z 2).val) e).symm
    | ⟨4, _⟩ => rfl
end Reductions

theorem sum_rw (f : Fin 2048 → EReal) : ∑ n, f n = ∑ q, ∑ r, f (rw q r) := by
  rw [← Fintype.sum_prod_type' (f := fun q r => f (rw q r))]
  exact (Fintype.sum_equiv (finProdFinEquiv (m := 16) (n := 128)) _ _ fun p => congrArg f (Fin.ext (by
    show 128 * p.1.val + p.2.val = p.2.val + 128 * p.1.val; omega))).symm

/-! The gate function and its derivative as the reference writes them. -/

theorem word3 : Ideal.ofBits .f32 0x40400000#32 = ((3 : ℝ) : EReal) := by
  simp [Ideal.ofBits, Ideal.ieee, -EReal.coe_mul]; norm_num
theorem triple (y : EReal) : ((3 : ℝ) : EReal) * y = y + y + y := by
  induction y with
  | bot => rw [EReal.coe_mul_bot_of_pos (by norm_num)]; rfl
  | top => rw [EReal.coe_mul_top_of_pos (by norm_num)]; rfl
  | coe r => rw [← EReal.coe_mul, ← EReal.coe_add, ← EReal.coe_add]; congr 1; ring
theorem gel_host (x : EReal) : x * (Ideal.ofBits .f32 0x3F000000#32 * GateE.op x) = GateE.gel x := by
  rw [GateE.gel, mul_left_comm, mul_assoc]
theorem dgel_host (x a : EReal) :
    a * (Ideal.ofBits .f32 0x3F000000#32 * GateE.op x) + Ideal.ofBits .f32 0x3F4C422A#32 * (Ideal.ofBits .f32 0x3F000000#32 * (x * a) * (GateE.op x * (1 - GateE.th x)))
      + Ideal.ofBits .f32 0x3D372713#32 * (Ideal.ofBits .f32 0x3F4C422A#32 * (Ideal.ofBits .f32 0x3F000000#32 * (x * a) * (GateE.op x * (1 - GateE.th x))))
        * (Ideal.ofBits .f32 0x40400000#32 * (x * x)) = GateE.dgel x a := by
  rw [← mul_assoc (Ideal.ofBits .f32 0x3F000000#32) x a]
  show a * _ + GateE.dg1 x a + GateE.dg2 x a * _ = _
  rw [word3, mul_left_comm (GateE.dg2 x a), triple, GateE.dgel, mul_left_comm a]
  generalize GateE.dg1 x a = d
  generalize GateE.dg2 x a = b
  have e1 : x * x * b = b * (x * x) := mul_comm _ _
  have e2 : x * (b * x) = b * (x * x) := mul_left_comm _ _ _
  have e3 : b * x * x = b * (x * x) := mul_assoc _ _ _
  rw [e1, e2, e3]
  generalize b * (x * x) = y
  abel

/-! Rows, heads and columns in the reshaped arrays. -/

section Reshapes
variable (q : Fin 16) (r : Fin 128) (h : Fin 4) (e : Fin 64)
theorem sc43 (x : FVec Ideal S1x2048x4x64 .f32) (n : Fin 2048) : shapeCast S1x2048x256 x shapeCasts_S1x2048x4x64_S1x2048x256 (ix3 0 n (cc h e)) = x (ix4 0 n h e) := by
  pointwise
  exact congrArg₂ (fun y z => x (ix4 0 n y z)) (Fin.ext (by show (64 * h.val + e.val) / 64 = h.val; omega)) (Fin.ext (by show (64 * h.val + e.val) % 64 = e.val; omega))
theorem sc34 (x : FVec Ideal S1x2048x256 .f32) (n : Fin 2048) : shapeCast S1x2048x4x64 x shapeCasts_S1x2048x256_S1x2048x4x64 (ix4 0 n h e) = x (ix3 0 n (cc h e)) := by
  pointwise
  exact congrArg (fun z => x (ix3 0 n z)) (Fin.ext (by show h.val * 64 + e.val = 64 * h.val + e.val; omega))
theorem sc35 (x : FVec Ideal S1x2048x256 .f32) : shapeCast S1x16x128x4x64 x shapeCasts_S1x2048x256_S1x16x128x4x64 (ix5 0 q r h e) = x (ix3 0 (rw q r) (cc h e)) := by
  pointwise
  exact congrArg₂ (fun y z => x (ix3 0 y z)) (Fin.ext (by show q.val * 128 + r.val = 128 * q.val + r.val; omega)) (Fin.ext (by show h.val * 64 + e.val = 64 * h.val + e.val; omega))
theorem sc53 (x : FVec Ideal S1x16x128x4x64 .f32) : shapeCast S1x2048x256 x shapeCasts_S1x16x128x4x64_S1x2048x256 (ix3 0 (rw q r) (cc h e)) = x (ix5 0 q r h e) := by
  have hq : (⟨(128 * q.val + r.val) / 128, by omega⟩ : Fin 16) = q := Fin.ext (by show (128 * q.val + r.val) / 128 = q.val; omega)
  have hr : (⟨(128 * q.val + r.val) % 128, by omega⟩ : Fin 128) = r := Fin.ext (by show (128 * q.val + r.val) % 128 = r.val; omega)
  have hh : (⟨(64 * h.val + e.val) / 64, by omega⟩ : Fin 4) = h := Fin.ext (by show (64 * h.val + e.val) / 64 = h.val; omega)
  have he : (⟨(64 * h.val + e.val) % 64, by omega⟩ : Fin 64) = e := Fin.ext (by show (64 * h.val + e.val) % 64 = e.val; omega)
  have hx : x (ix5 0 ⟨(128 * q.val + r.val) / 128, by omega⟩ ⟨(128 * q.val + r.val) % 128, by omega⟩ ⟨(64 * h.val + e.val) / 64, by omega⟩ ⟨(64 * h.val + e.val) % 64, by omega⟩)
      = x (ix5 0 q r h e) := by rw [hq, hr, hh, he]
  refine Eq.trans ?_ hx
  pointwise
  rfl
end Reshapes

/-- The seven arrays. -/
structure Arrs where
  x0 : FVec Ideal S1x2048x256 .f32
  x1 : FVec Ideal S1x2048x256 .f32
  x2 : FVec Ideal S256 .f32
  x3 : FVec Ideal S4x128x128 .f32
  x4 : FVec Ideal S4x128 .f32
  x5 : FVec Ideal S256 .f32
  x6 : FVec Ideal S1x2048x256 .f32

def Arrs.arg (X : Arrs) : Arg := argOf X.x0 X.x1 X.x2 X.x3 X.x4 X.x5 X.x6
def Arrs.ch (X : Arrs) (q : Fin 16) : Sp := X.arg.ch q

variable (X : Arrs) (q : Fin 16) (r : Fin 128) (h : Fin 4) (e : Fin 64)

/-! The gate function on both halves. -/

theorem r10 (n : Fin 2048) (j : Fin 256) : val_main_v10 (F := Ideal) X.x0 (ix3 0 n j) = GateE.th (X.x0 (ix3 0 n j)) := by
  pointwise [GateE.th, val_main_v10, val_main_v9, val_main_v8, val_main_v7, val_main_v6, val_main_v5, val_main_v1, val_main_v0, val_main_cst_0, val_main_cst_1]
theorem r31 (n : Fin 2048) (j : Fin 256) : val_main_v31 (F := Ideal) X.x1 (ix3 0 n j) = GateE.th (X.x1 (ix3 0 n j)) := by
  pointwise [GateE.th, val_main_v31, val_main_v30, val_main_v29, val_main_v28, val_main_v27, val_main_v26, val_main_v22, val_main_v21, val_main_cst_7, val_main_cst_8]

theorem r20 : val_main_v20 (F := Ideal) X.x0 (ix3 0 (rw q r) (cc h e)) = (X.ch q).gu r h e := by
  refine Eq.trans ?_ (gel_host (X.x0 (ix3 0 (rw q r) (cc h e))))
  rw [GateE.op, ← r10]
  unfold val_main_v20 val_main_v19 val_main_v18 val_main_v17 val_main_v16 val_main_cst_4 val_main_cst_5
  generalize val_main_v10 (F := Ideal) X.x0 = a
  pointwise
theorem r41 (n : Fin 2048) (j : Fin 256) : val_main_v41 (F := Ideal) X.x1 (ix3 0 n j) = GateE.gel (X.x1 (ix3 0 n j)) := by
  refine Eq.trans ?_ (gel_host _)
  rw [GateE.op, ← r31]
  unfold val_main_v41 val_main_v40 val_main_v39 val_main_v38 val_main_v37 val_main_cst_11 val_main_cst_12
  generalize val_main_v31 (F := Ideal) X.x1 = a
  pointwise
theorem r42 : val_main_v42 (F := Ideal) X.x1 (ix4 0 (rw q r) h e) = (X.ch q).gv r h e := (sc34 h e _ _).trans (r41 X _ _)

/-! The first norm. -/

theorem r57 : val_main_v57 (F := Ideal) X.x2 (ix4 0 0 h e) = X.arg.vg h e := by
  unfold val_main_v57 val_main_v43
  show _ = X.x2 (ix1 (cc h e))
  pointwise
  exact congrArg (fun z => X.x2 (ix1 z)) (Fin.ext (by show h.val * 64 + e.val = 64 * h.val + e.val; omega))

theorem r50 : val_main_v50 (F := Ideal) X.x1 (ix4 0 (rw q r) h 0) = HeadE.ms ((X.ch q).gv r h) := by
  simp only [HeadE.ms, ← r42]
  unfold val_main_v50 val_main_v49 val_main_v48 val_main_v47 val_main_v46 val_main_v45 val_main_v44 val_main_cst_13 val_main_cst_14 val_main_cst_15
  generalize val_main_v42 (F := Ideal) X.x1 = a
  pointwise
theorem r51 : val_main_v51 (F := Ideal) X.x1 (ix4 0 (rw q r) h 0) = HeadE.rs ((X.ch q).gv r h) := by
  rw [HeadE.rs, ← r50]
  unfold val_main_v51
  generalize val_main_v50 (F := Ideal) X.x1 = a
  pointwise
theorem r54 : val_main_v54 (F := Ideal) X.x1 (ix4 0 (rw q r) h 0) = HeadE.co ((X.ch q).gv r h) := by
  rw [HeadE.co, ← r51, ← r50]
  unfold val_main_v54 val_main_v53 val_main_v52 val_main_cst_16
  generalize val_main_v51 (F := Ideal) X.x1 = a
  generalize val_main_v50 (F := Ideal) X.x1 = b
  pointwise
theorem r56 : val_main_v56 (F := Ideal) X.x1 (ix4 0 (rw q r) h e) = (X.ch q).vn r h e := by
  rw [Sp.vn, ← r51, ← r42]
  unfold val_main_v56 val_main_v55
  generalize val_main_v51 (F := Ideal) X.x1 = a
  generalize val_main_v42 (F := Ideal) X.x1 = b
  pointwise
theorem r59 : val_main_v59 (F := Ideal) X.x1 X.x2 (ix4 0 (rw q r) h e) = (X.ch q).nv r h e := by
  show _ = (X.ch q).vn r h e * X.arg.vg h e
  rw [← r56, ← r57]
  unfold val_main_v59 val_main_v58
  generalize val_main_v56 (F := Ideal) X.x1 = a
  generalize val_main_v57 (F := Ideal) X.x2 = b
  pointwise
theorem r61 : val_main_v61 (F := Ideal) X.x1 X.x2 (ix5 0 q r h e) = (X.ch q).nv r h e :=
  ((sc35 q r h e _).trans (sc43 h e _ _)).trans (r59 X q r h e)

/-! The products with the lower triangles. -/

theorem r64m (t s : Fin 128) : val_main_v64_1 (F := Ideal) (ix3 h t s) = if s ≤ t then 1#1 else 0#1 := by
  have hz : IntOp.addi (BitVec.ofNat 32 t.val) 0#32 = BitVec.ofNat 32 t.val := BitVec.add_zero _
  pointwise [val_main_v64_1, val_main_v63, val_main_v62, val_main_c, val_main_call0_v0, val_main_call0_c, val_main_call0_v1, val_main_call0_v2,
    val_main_call0_v3, val_main_call0_v4, val_main_call0_c_0, val_main_call0_v5]
  rw [hz, tri_word]
  split <;> rfl
theorem r64 (t s : Fin 128) : val_main_v64_0 (F := Ideal) X.x3 (ix3 h t s) = (X.ch q).wm h t s := by
  have hm := r64m h t s
  show _ = if s ≤ t then X.x3 (ix3 h t s) else 0
  unfold val_main_v64_0
  generalize val_main_v64_1 (F := Ideal) = a at hm
  pointwise [val_main_call1_v2, val_main_call1_v0, val_main_c_17]
  rw [hm]
  split
  · rfl
  · show (((0#32 : BitVec 32).toInt : ℝ) : EReal) = 0
    norm_num
theorem r65 (t : Fin 128) : val_main_v65 (F := Ideal) X.x1 X.x2 X.x3 (ix5 h 0 q e t) = ∑ s, (X.ch q).wm h t s * (X.ch q).nv s h e := by
  simp only [← r61, ← r64 X q, mul_comm (val_main_v64_0 (F := Ideal) X.x3 _)]
  unfold val_main_v65
  generalize val_main_v61 (F := Ideal) X.x1 X.x2 = a
  generalize val_main_v64_0 (F := Ideal) X.x3 = b
  pointwise
theorem r72 : val_main_v72 (F := Ideal) X.x1 X.x2 X.x3 X.x4 (ix3 0 (rw q r) (cc h e)) = (X.ch q).y r h e := by
  refine (sc53 q r h e _).trans ?_
  rw [Sp.y, ← r65]
  show _ = _ + X.x4 (ix2 h r)
  unfold val_main_v71 val_main_v70 val_main_v69 val_main_v68 val_main_v67 val_main_v66
  generalize val_main_v65 (F := Ideal) X.x1 X.x2 X.x3 = a
  pointwise
theorem r73 : val_main_v73 (F := Ideal) X.x0 X.x1 X.x2 X.x3 X.x4 (ix3 0 (rw q r) (cc h e)) = (X.ch q).z r h e := by
  rw [Sp.z, ← r20, ← r72]
  rfl
theorem r74 : val_main_v74 (F := Ideal) X.x0 X.x1 X.x2 X.x3 X.x4 (ix4 0 (rw q r) h e) = (X.ch q).z r h e :=
  (sc34 h e _ _).trans (r73 X q r h e)

/-! The second norm and its derivative. -/

theorem r89 : val_main_v89 (F := Ideal) X.x5 (ix4 0 0 h e) = X.arg.og h e := by
  unfold val_main_v89 val_main_v75
  show _ = X.x5 (ix1 (cc h e))
  pointwise
  exact congrArg (fun z => X.x5 (ix1 z)) (Fin.ext (by show h.val * 64 + e.val = 64 * h.val + e.val; omega))
theorem r82 : val_main_v82 (F := Ideal) X.x0 X.x1 X.x2 X.x3 X.x4 (ix4 0 (rw q r) h 0) = HeadE.ms ((X.ch q).z r h) := by
  simp only [HeadE.ms, ← r74]
  unfold val_main_v82 val_main_v81 val_main_v80 val_main_v79 val_main_v78 val_main_v77 val_main_v76 val_main_cst_18 val_main_cst_19 val_main_cst_20
  generalize val_main_v74 (F := Ideal) X.x0 X.x1 X.x2 X.x3 X.x4 = a
  pointwise
theorem r83 : val_main_v83 (F := Ideal) X.x0 X.x1 X.x2 X.x3 X.x4 (ix4 0 (rw q r) h 0) = HeadE.rs ((X.ch q).z r h) := by
  rw [HeadE.rs, ← r82]
  unfold val_main_v83
  generalize val_main_v82 (F := Ideal) X.x0 X.x1 X.x2 X.x3 X.x4 = a
  pointwise
theorem r86 : val_main_v86 (F := Ideal) X.x0 X.x1 X.x2 X.x3 X.x4 (ix4 0 (rw q r) h 0) = HeadE.co ((X.ch q).z r h) := by
  rw [HeadE.co, ← r83, ← r82]
  unfold val_main_v86 val_main_v85 val_main_v84 val_main_cst_21
  generalize val_main_v83 (F := Ideal) X.x0 X.x1 X.x2 X.x3 X.x4 = a
  generalize val_main_v82 (F := Ideal) X.x0 X.x1 X.x2 X.x3 X.x4 = b
  pointwise
theorem r88 : val_main_v88 (F := Ideal) X.x0 X.x1 X.x2 X.x3 X.x4 (ix4 0 (rw q r) h e) = (X.ch q).zn r h e := by
  rw [Sp.zn, ← r83, ← r74]
  unfold val_main_v88 val_main_v87
  generalize val_main_v83 (F := Ideal) X.x0 X.x1 X.x2 X.x3 X.x4 = a
  generalize val_main_v74 (F := Ideal) X.x0 X.x1 X.x2 X.x3 X.x4 = b
  pointwise
theorem r93 : val_main_v93 (F := Ideal) X.x6 (ix4 0 (rw q r) h e) = (X.ch q).ct r h e := sc34 h e _ _
theorem r99 : val_main_v99 (F := Ideal) X.x0 X.x1 X.x2 X.x3 X.x4 X.x6 (ix2 h e) = ∑ q, (X.ch q).dog h e := by
  simp only [Sp.dog, ← r88, ← r93]
  rw [← sum_rw (fun n => val_main_v88 (F := Ideal) X.x0 X.x1 X.x2 X.x3 X.x4 (ix4 0 n h e) * val_main_v93 (F := Ideal) X.x6 (ix4 0 n h e))]
  unfold val_main_v99 val_main_v96 val_main_v95 val_main_v94 val_main_cst_22 val_main_cst_23
  generalize val_main_v88 (F := Ideal) X.x0 X.x1 X.x2 X.x3 X.x4 = a
  generalize val_main_v93 (F := Ideal) X.x6 = b
  pointwise
  rw [red01]
  pointwise
theorem r98 : val_main_v98 (F := Ideal) X.x5 X.x6 (ix4 0 (rw q r) h e) = (X.ch q).ct r h e * (X.ch q).og h e := by
  show _ = _ * X.arg.og h e
  rw [← r93, ← r89]
  unfold val_main_v98 val_main_v97
  generalize val_main_v93 (F := Ideal) X.x6 = a
  generalize val_main_v89 (F := Ideal) X.x5 = b
  pointwise
theorem r108 : val_main_v108 (F := Ideal) X.x0 X.x1 X.x2 X.x3 X.x4 X.x5 X.x6 (ix2 (rw q r) h) = HeadE.qq ((X.ch q).z r h) ((X.ch q).og h) ((X.ch q).ct r h) := by
  simp only [HeadE.qq, ← r86, ← r98, ← r74]
  unfold val_main_v108 val_main_v107 val_main_v106 val_main_v105 val_main_v102 val_main_v101 val_main_v100 val_main_cst_24 val_main_cst_25 val_main_cst_26
  generalize val_main_v86 (F := Ideal) X.x0 X.x1 X.x2 X.x3 X.x4 = a
  generalize val_main_v98 (F := Ideal) X.x5 X.x6 = b
  generalize val_main_v74 (F := Ideal) X.x0 X.x1 X.x2 X.x3 X.x4 = c
  pointwise
  rw [red03]
  pointwise
theorem r114 : val_main_v114 (F := Ideal) X.x0 X.x1 X.x2 X.x3 X.x4 X.x5 X.x6 (ix4 0 (rw q r) h e) = (X.ch q).dz r h e := by
  rw [Sp.dz, HeadE.dx, ← r98, ← r108, ← r83, ← r74]
  unfold val_main_v114 val_main_v113 val_main_v112 val_main_v111 val_main_v110 val_main_v109 val_main_v104 val_main_v103
  generalize val_main_v108 (F := Ideal) X.x0 X.x1 X.x2 X.x3 X.x4 X.x5 X.x6 = a
  generalize val_main_v98 (F := Ideal) X.x5 X.x6 = b
  generalize val_main_v83 (F := Ideal) X.x0 X.x1 X.x2 X.x3 X.x4 = c
  generalize val_main_v74 (F := Ideal) X.x0 X.x1 X.x2 X.x3 X.x4 = d
  pointwise
theorem r116 : val_main_v116 (F := Ideal) X.x0 X.x1 X.x2 X.x3 X.x4 X.x5 X.x6 (ix3 0 (rw q r) (cc h e)) = (X.ch q).dz r h e :=
  (sc43 h e _ _).trans (r114 X q r h e)

/-! Through the triangles. -/

theorem r119 : val_main_v119 (F := Ideal) X.x0 X.x1 X.x2 X.x3 X.x4 X.x5 X.x6 (ix5 0 q r h e) = (X.ch q).dy r h e := by
  rw [Sp.dy, ← r20, ← r116]
  exact sc35 q r h e _
theorem r126 : val_main_v126 (F := Ideal) X.x0 X.x1 X.x2 X.x3 X.x4 X.x5 X.x6 (ix5 h 0 q e r) = (X.ch q).dy r h e := by
  rw [← r119]
  unfold val_main_v126
  generalize val_main_v119 (F := Ideal) X.x0 X.x1 X.x2 X.x3 X.x4 X.x5 X.x6 = a
  pointwise
theorem r125 : val_main_v125 (F := Ideal) X.x0 X.x1 X.x2 X.x3 X.x4 X.x5 X.x6 (ix2 h r) = ∑ q, (X.ch q).db h r := by
  simp only [Sp.db, ← r119]
  unfold val_main_v125 val_main_v124 val_main_v123 val_main_v122 val_main_v121 val_main_v120 val_main_cst_27 val_main_cst_28 val_main_cst_29
  generalize val_main_v119 (F := Ideal) X.x0 X.x1 X.x2 X.x3 X.x4 X.x5 X.x6 = a
  pointwise
  simp only [Finset.univ_unique, Finset.sum_singleton]
  rw [red014]
  pointwise
  exact red14 a r h
/-- The contraction over chunks and columns: its index from a chunk and a column. -/
def contrQE (q : Fin 16) (e : Fin 64) : dot_S4x1x16x64x128_S1x16x128x4x64_S4x128x128_123_014_4_2_0_3.contr.Idx := fun p => match p with
  | ⟨0, _⟩ => (0 : Fin 1)
  | ⟨1, _⟩ => q
  | ⟨2, _⟩ => e
theorem dot_qe (a : FVec Ideal S4x1x16x64x128 .f32) (b : FVec Ideal S1x16x128x4x64 .f32) (h : Fin 4) (t s : Fin 128) :
    Ideal.matmul dot_S4x1x16x64x128_S1x16x128x4x64_S4x128x128_123_014_4_2_0_3 a b (fun _ => 0) (ix3 h t s) = ∑ q, ∑ e, a (ix5 h 0 q e t) * b (ix5 0 q s h e) := by
  rw [← Fintype.sum_prod_type' (f := fun q e => a (ix5 h 0 q e t) * b (ix5 0 q s h e))]
  refine (zero_add _).trans (Finset.sum_bij (fun (p : Fin 16 × Fin 64) _ => contrQE p.1 p.2) (fun _ _ => Finset.mem_univ _) (fun p _ p' _ hp => ?_) (fun i _ => ?_) (fun p _ => ?_)).symm
  · exact Prod.ext (congrFun hp ⟨1, by decide⟩) (congrFun hp ⟨2, by decide⟩)
  · refine ⟨(i ⟨1, by decide⟩, i ⟨2, by decide⟩), Finset.mem_univ _, ?_⟩
    funext a; match a with
    | ⟨0, _⟩ => exact Subsingleton.elim (α := Fin 1) _ _
    | ⟨1, _⟩ => rfl
    | ⟨2, _⟩ => rfl
  · refine congrArg₂ (fun x y => a x * b y) ?_ ?_
    · funext i; match i with
      | ⟨0, _⟩ => rfl
      | ⟨1, _⟩ => rfl
      | ⟨2, _⟩ => rfl
      | ⟨3, _⟩ => rfl
      | ⟨4, _⟩ => rfl
    · funext i; match i with
      | ⟨0, _⟩ => rfl
      | ⟨1, _⟩ => rfl
      | ⟨2, _⟩ => rfl
      | ⟨3, _⟩ => rfl
      | ⟨4, _⟩ => rfl
theorem r130 (t s : Fin 128) : val_main_v130 (F := Ideal) X.x0 X.x1 X.x2 X.x3 X.x4 X.x5 X.x6 (ix3 h t s) = ∑ q, (X.ch q).dw h t s := by
  have hm := r64m h t s
  have hs : ∑ q, (X.ch q).dw h t s = if s ≤ t then ∑ q, ∑ e, (X.ch q).dy t h e * (X.ch q).nv s h e else 0 := by
    simp only [Sp.dw]
    split
    · rfl
    · exact Finset.sum_const_zero
  rw [hs]
  simp only [← r126, ← r61]
  unfold val_main_v130 val_main_v127
  generalize val_main_v64_1 (F := Ideal) = m at hm
  generalize val_main_v126 (F := Ideal) X.x0 X.x1 X.x2 X.x3 X.x4 X.x5 X.x6 = a
  generalize val_main_v61 (F := Ideal) X.x1 X.x2 = b
  pointwise [val_main_call2_v0, val_main_call2_cst]
  rw [hm, dot_qe]
  split <;> rfl
theorem r128 : val_main_v128 (F := Ideal) X.x0 X.x1 X.x2 X.x3 X.x4 X.x5 X.x6 (ix5 h 0 q e r) = (X.ch q).dnv r h e := by
  simp only [Sp.dnv, ← r126, ← r64 X q, mul_comm (val_main_v64_0 (F := Ideal) X.x3 _)]
  unfold val_main_v128
  generalize val_main_v126 (F := Ideal) X.x0 X.x1 X.x2 X.x3 X.x4 X.x5 X.x6 = a
  generalize val_main_v64_0 (F := Ideal) X.x3 = b
  pointwise
theorem r132 : val_main_v132 (F := Ideal) X.x0 X.x1 X.x2 X.x3 X.x4 X.x5 X.x6 (ix4 0 (rw q r) h e) = (X.ch q).dnv r h e := by
  refine (sc34 h e _ _).trans ((sc53 q r h e _).trans ?_)
  rw [← r128]
  unfold val_main_v129
  generalize val_main_v128 (F := Ideal) X.x0 X.x1 X.x2 X.x3 X.x4 X.x5 X.x6 = a
  pointwise

/-! The first norm's derivative. -/

theorem r138 : val_main_v138 (F := Ideal) X.x0 X.x1 X.x2 X.x3 X.x4 X.x5 X.x6 (ix2 h e) = ∑ q, (X.ch q).dvg h e := by
  simp only [Sp.dvg, ← r56, ← r132]
  rw [← sum_rw (fun n => val_main_v56 (F := Ideal) X.x1 (ix4 0 n h e) * val_main_v132 (F := Ideal) X.x0 X.x1 X.x2 X.x3 X.x4 X.x5 X.x6 (ix4 0 n h e))]
  unfold val_main_v138 val_main_v135 val_main_v134 val_main_v133 val_main_cst_30 val_main_cst_31
  generalize val_main_v56 (F := Ideal) X.x1 = a
  generalize val_main_v132 (F := Ideal) X.x0 X.x1 X.x2 X.x3 X.x4 X.x5 X.x6 = b
  pointwise
  rw [red01]
  pointwise
theorem r137 : val_main_v137 (F := Ideal) X.x0 X.x1 X.x2 X.x3 X.x4 X.x5 X.x6 (ix4 0 (rw q r) h e) = (X.ch q).dnv r h e * (X.ch q).vg h e := by
  show _ = _ * X.arg.vg h e
  rw [← r132, ← r57]
  unfold val_main_v137 val_main_v136
  generalize val_main_v132 (F := Ideal) X.x0 X.x1 X.x2 X.x3 X.x4 X.x5 X.x6 = a
  generalize val_main_v57 (F := Ideal) X.x2 = b
  pointwise
theorem r147 : val_main_v147 (F := Ideal) X.x0 X.x1 X.x2 X.x3 X.x4 X.x5 X.x6 (ix2 (rw q r) h) = HeadE.qq ((X.ch q).gv r h) ((X.ch q).vg h) ((X.ch q).dnv r h) := by
  simp only [HeadE.qq, ← r54, ← r137, ← r42]
  unfold val_main_v147 val_main_v146 val_main_v145 val_main_v144 val_main_v141 val_main_v140 val_main_v139 val_main_cst_32 val_main_cst_33 val_main_cst_34
  generalize val_main_v54 (F := Ideal) X.x1 = a
  generalize val_main_v137 (F := Ideal) X.x0 X.x1 X.x2 X.x3 X.x4 X.x5 X.x6 = b
  generalize val_main_v42 (F := Ideal) X.x1 = c
  pointwise
  rw [red03]
  pointwise
theorem r153 : val_main_v153 (F := Ideal) X.x0 X.x1 X.x2 X.x3 X.x4 X.x5 X.x6 (ix4 0 (rw q r) h e)
    = HeadE.dx ((X.ch q).gv r h) ((X.ch q).vg h) ((X.ch q).dnv r h) e := by
  rw [HeadE.dx, ← r137, ← r147, ← r51, ← r42]
  unfold val_main_v153 val_main_v152 val_main_v151 val_main_v150 val_main_v149 val_main_v148 val_main_v143 val_main_v142
  generalize val_main_v147 (F := Ideal) X.x0 X.x1 X.x2 X.x3 X.x4 X.x5 X.x6 = a
  generalize val_main_v137 (F := Ideal) X.x0 X.x1 X.x2 X.x3 X.x4 X.x5 X.x6 = b
  generalize val_main_v51 (F := Ideal) X.x1 = c
  generalize val_main_v42 (F := Ideal) X.x1 = d
  pointwise

/-! The gate function's derivative on both halves. -/

theorem r167 : val_main_v167 (F := Ideal) X.x0 X.x1 X.x2 X.x3 X.x4 X.x5 X.x6 (ix3 0 (rw q r) (cc h e)) = (X.ch q).dv r h e := by
  have h5 : val_main_v155 (F := Ideal) X.x0 X.x1 X.x2 X.x3 X.x4 X.x5 X.x6 (ix3 0 (rw q r) (cc h e))
      = HeadE.dx ((X.ch q).gv r h) ((X.ch q).vg h) ((X.ch q).dnv r h) e := (sc43 h e _ _).trans (r153 X q r h e)
  rw [Sp.dv, ← h5]
  refine Eq.trans ?_ (dgel_host (X.x1 (ix3 0 (rw q r) (cc h e))) _)
  rw [GateE.op, ← r31]
  unfold val_main_v167 val_main_v166 val_main_v165 val_main_v164 val_main_v163 val_main_v162 val_main_v161 val_main_v160 val_main_v159 val_main_v158 val_main_v157 val_main_v156
    val_main_v40 val_main_v39 val_main_v38 val_main_v37 val_main_v36 val_main_v35 val_main_v34 val_main_v33 val_main_v32 val_main_v25 val_main_v24 val_main_v23
    val_main_cst_35 val_main_cst_36 val_main_cst_37 val_main_cst_6 val_main_cst_9 val_main_cst_10 val_main_cst_11 val_main_cst_12
  generalize val_main_v31 (F := Ideal) X.x1 = a
  generalize val_main_v155 (F := Ideal) X.x0 X.x1 X.x2 X.x3 X.x4 X.x5 X.x6 = b
  pointwise
theorem r179 : val_main_v179 (F := Ideal) X.x0 X.x1 X.x2 X.x3 X.x4 X.x5 X.x6 (ix3 0 (rw q r) (cc h e)) = (X.ch q).du r h e := by
  have h5 : val_main_v118 (F := Ideal) X.x0 X.x1 X.x2 X.x3 X.x4 X.x5 X.x6 (ix3 0 (rw q r) (cc h e)) = (X.ch q).dz r h e * (X.ch q).y r h e := by
    rw [← r116, ← r72]; rfl
  rw [Sp.du, ← h5]
  refine Eq.trans ?_ (dgel_host (X.x0 (ix3 0 (rw q r) (cc h e))) _)
  rw [GateE.op, ← r10]
  unfold val_main_v179 val_main_v178 val_main_v177 val_main_v176 val_main_v175 val_main_v174 val_main_v173 val_main_v172 val_main_v171 val_main_v170 val_main_v169 val_main_v168
    val_main_v19 val_main_v18 val_main_v17 val_main_v16 val_main_v15 val_main_v14 val_main_v13 val_main_v12 val_main_v11 val_main_v4 val_main_v3 val_main_v2
    val_main_cst_38 val_main_cst_39 val_main_cst_40 val_main_cst val_main_cst_2 val_main_cst_3 val_main_cst_4 val_main_cst_5
  generalize val_main_v10 (F := Ideal) X.x0 = a
  generalize val_main_v118 (F := Ideal) X.x0 X.x1 X.x2 X.x3 X.x4 X.x5 X.x6 = b
  pointwise

/-! The results. -/

theorem res_uv : val_main_v182 (F := Ideal) X.x0 X.x1 X.x2 X.x3 X.x4 X.x5 X.x6 = G6 X.arg := by
  funext y
  obtain ⟨n, j, rfl⟩ : ∃ n j, y = ix2 n j := ⟨y 0, y 1, (ix2_eta y).symm⟩
  obtain ⟨q, r, rfl⟩ := rw_eq n
  obtain ⟨o, i, rfl⟩ := lr_eq j
  obtain ⟨h, e, rfl⟩ := cc_eq i
  show _ = (if lo (lr o (cc h e)) = 0 then (X.ch (rq (rw q r))).du else (X.ch (rq (rw q r))).dv) (rr (rw q r)) (hd (li (lr o (cc h e)))) (cl (li (lr o (cc h e))))
  rw [lo_lr, li_lr, hd_cc, cl_cc, rq_rw, rr_rw]
  match o with
  | ⟨0, _⟩ =>
    refine Eq.trans ?_ (r179 X q r h e)
    have hv : (lr 0 (cc h e)).val = (cc h e).val := by show 256 * 0 + (cc h e).val = _; omega
    unfold val_main_v182 val_main_v180 val_main_v181
    generalize val_main_v179 (F := Ideal) X.x0 X.x1 X.x2 X.x3 X.x4 X.x5 X.x6 = a
    generalize val_main_v167 (F := Ideal) X.x0 X.x1 X.x2 X.x3 X.x4 X.x5 X.x6 = b
    show concatenate _ _ _ _ (ix2 (rw q r) (lr 0 (cc h e))) = _
    pointwise
    rw [dif_pos (show (lr 0 (cc h e)).val < 256 by omega)]
    exact congrArg (fun z => a (ix3 0 (rw q r) z)) (Fin.ext hv)
  | ⟨1, _⟩ =>
    refine Eq.trans ?_ (r167 X q r h e)
    have hv : (lr 1 (cc h e)).val = 256 + (cc h e).val := by show 256 * 1 + (cc h e).val = _; omega
    unfold val_main_v182 val_main_v180 val_main_v181
    generalize val_main_v179 (F := Ideal) X.x0 X.x1 X.x2 X.x3 X.x4 X.x5 X.x6 = a
    generalize val_main_v167 (F := Ideal) X.x0 X.x1 X.x2 X.x3 X.x4 X.x5 X.x6 = b
    show concatenate _ _ _ _ (ix2 (rw q r) (lr 1 (cc h e))) = _
    pointwise
    rw [dif_neg (show ¬(lr 1 (cc h e)).val < 256 by omega)]
    exact congrArg (fun z => b (ix3 0 (rw q r) z)) (Fin.ext (by show (lr 1 (cc h e)).val - 256 = (cc h e).val; omega))

theorem row_of (x : FVec Ideal S4x64 .f32) : shapeCast S256 x shapeCasts_S4x64_S256 (ix1 (cc h e)) = x (ix2 h e) := by
  pointwise
  exact congrArg₂ (fun y z => x (ix2 y z)) (Fin.ext (by show (64 * h.val + e.val) / 64 = h.val; omega)) (Fin.ext (by show (64 * h.val + e.val) % 64 = e.val; omega))

theorem res_vg : val_main_v183 (F := Ideal) X.x0 X.x1 X.x2 X.x3 X.x4 X.x5 X.x6 = G7 X.arg := by
  funext y
  obtain ⟨z, j, rfl⟩ : ∃ z j, y = ix2 z j := ⟨y 0, y 1, (ix2_eta y).symm⟩
  obtain ⟨h, e, rfl⟩ := cc_eq j
  show _ = ∑ q, (X.ch q).dvg (hd (cc h e)) (cl (cc h e))
  rw [hd_cc, cl_cc, ← r138, ← row_of h e (val_main_v138 (F := Ideal) X.x0 X.x1 X.x2 X.x3 X.x4 X.x5 X.x6)]
  unfold val_main_v183 val_main_v154
  generalize shapeCast S256 (val_main_v138 (F := Ideal) X.x0 X.x1 X.x2 X.x3 X.x4 X.x5 X.x6) shapeCasts_S4x64_S256 = a
  pointwise

theorem res_dw : val_main_v130 (F := Ideal) X.x0 X.x1 X.x2 X.x3 X.x4 X.x5 X.x6 = G8 X.arg := by
  funext y
  obtain ⟨h, t, s, rfl⟩ : ∃ h t s, y = ix3 h t s := ⟨y 0, y 1, y 2, (ix3_eta y).symm⟩
  exact r130 X h t s

theorem res_db : val_main_v184 (F := Ideal) X.x0 X.x1 X.x2 X.x3 X.x4 X.x5 X.x6 = G9 X.arg := by
  funext y
  obtain ⟨h, r, z, rfl⟩ : ∃ h r z, y = ix3 h r z := ⟨y 0, y 1, y 2, (ix3_eta y).symm⟩
  refine Eq.trans ?_ (r125 X r h)
  unfold val_main_v184
  generalize val_main_v125 (F := Ideal) X.x0 X.x1 X.x2 X.x3 X.x4 X.x5 X.x6 = a
  pointwise

theorem res_og : val_main_v185 (F := Ideal) X.x0 X.x1 X.x2 X.x3 X.x4 X.x6 = G10 X.arg := by
  funext y
  obtain ⟨z, j, rfl⟩ : ∃ z j, y = ix2 z j := ⟨y 0, y 1, (ix2_eta y).symm⟩
  obtain ⟨h, e, rfl⟩ := cc_eq j
  show _ = ∑ q, (X.ch q).dog (hd (cc h e)) (cl (cc h e))
  rw [hd_cc, cl_cc, ← r99, ← row_of h e (val_main_v99 (F := Ideal) X.x0 X.x1 X.x2 X.x3 X.x4 X.x6)]
  unfold val_main_v185 val_main_v115
  generalize shapeCast S256 (val_main_v99 (F := Ideal) X.x0 X.x1 X.x2 X.x3 X.x4 X.x6) shapeCasts_S4x64_S256 = a
  pointwise

end Cert.GmIdeal.Hand
end
-- ==== Proof.GmClaim.lean ====
module

public import proofs.«01_k».proof.Defs
public import proofs.«01_k».proof.Proof.GmRef
public import proofs.«01_k».proof.Proof.Finite
public import proofs.«01_k».proof.Proof.Gen.GmIdeal.Value
public import proofs.«01_k».proof.Proof.Gen.Gm.Frame
public import proofs.«01_k».proof.Proof.Gen.Pre_gm_finite
public import Idealize.ShloMosaic.Lib.Quiescent
public import Idealize.ShloMosaic.Lib.Claim

/-! The spatial gate's claims: the kernel's five results are the reference's, over the extended reals, at finite arguments. -/

@[expose] public section

set_option maxRecDepth 16384

noncomputable section

open Idealize.ShloMosaic Idealize.ShloMosaic.TcCoe Idealize.SL.Sem

namespace Cert.GmIdeal.Hand

open Cert.GmIdeal Cert.GmIdeal.Gen
open Cert Cert.GateE

/-- The precondition gives real arrays. -/
theorem reals_of_pre (m : (ℓ : Loc nD τ sig) → Buf (Elt Ideal) ℓ) (hp : Cert.Pre_GmIdeal_gm_finite m) (c : Dev nD) :
    RealArrays (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) := by
  have e := congrFun (hp c) (fun a => a.elim0)
  dsimp only [Cert.Pre_gm_finite.fn, Cert.Pre_gm_finite.fn_part1] at e
  obtain ⟨e, e6⟩ := Cert.Aux.and_one e
  obtain ⟨e, e5⟩ := Cert.Aux.and_one e
  obtain ⟨e, e4⟩ := Cert.Aux.and_one e
  obtain ⟨e, e3⟩ := Cert.Aux.and_one e
  obtain ⟨e, e2⟩ := Cert.Aux.and_one e
  obtain ⟨e0, e1⟩ := Cert.Aux.and_one e
  obtain ⟨f0, h0⟩ := Cert.Aux.real_of_all _ _ _ _ _ e0
  obtain ⟨f1, h1⟩ := Cert.Aux.real_of_all _ _ _ _ _ e1
  obtain ⟨f2, h2⟩ := Cert.Aux.real_of_all _ _ _ _ _ e2
  obtain ⟨f3, h3⟩ := Cert.Aux.real_of_all _ _ _ _ _ e3
  obtain ⟨f4, h4⟩ := Cert.Aux.real_of_all _ _ _ _ _ e4
  obtain ⟨f5, h5⟩ := Cert.Aux.real_of_all _ _ _ _ _ e5
  obtain ⟨f6, h6⟩ := Cert.Aux.real_of_all _ _ _ _ _ e6
  exact ⟨fun i => ⟨f0 i, congrFun h0 i⟩, fun i => ⟨f1 i, congrFun h1 i⟩, fun i => ⟨f2 i, congrFun h2 i⟩, fun i => ⟨f3 i, congrFun h3 i⟩,
    fun i => ⟨f4 i, congrFun h4 i⟩, fun i => ⟨f5 i, congrFun h5 i⟩, fun i => ⟨f6 i, congrFun h6 i⟩⟩

theorem frame_ref : Cert.quiescent_GmRefIdeal := fun m ρ _ =>
  (θ_run Cert.GmRefIdeal.defs _ _).mono (fun r h => ⟨fun c => (h c).2.2.2.2.2, sem_eq_zero_of_no_sems (by decide) r.2⟩)
    (Cert.GmRefIdeal.Value.run (F := Ideal) m ρ)

set_option maxHeartbeats 2000000 in
theorem algebraic : Cert.algebraic_GmIdeal_GmRefIdeal_pre_gm_finite := by
  intro m g m' g' hpre hagree
  refine ⟨fun c => (dats m 0 c).arrAt 6 cfg0.N, fun c => (dats m 0 c).arrAt 7 cfg0.N, fun c => (dats m 0 c).arrAt 8 cfg0.N,
    fun c => (dats m 0 c).arrAt 9 cfg0.N, fun c => (dats m 0 c).arrAt 10 cfg0.N, ?_, ?_⟩
  · exact Cert.GmIdeal.Value.run_blocks (F := Ideal) m g
  · refine (θ_run Cert.GmRefIdeal.defs _ _).mono (fun _ h c => ?_) (Cert.GmRefIdeal.Value.run (F := Ideal) m' g')
    obtain ⟨a0, a1, a2, a3, a4, a5, a6⟩ := hagree c
    have A := args m c (reals_of_pre m hpre c) rfl rfl rfl rfl rfl rfl rfl
    rw [← a0, ← a1, ← a2, ← a3, ← a4, ← a5, ← a6] at A
    have hc := h c
    clear h
    rw [Cert.GmRefIdeal.Read.val_main_v182_eq, Cert.GmRefIdeal.Read.val_main_v183_eq, Cert.GmRefIdeal.Read.val_main_v130_eq,
      Cert.GmRefIdeal.Read.val_main_v184_eq, Cert.GmRefIdeal.Read.val_main_v185_eq] at hc
    obtain ⟨h1, h2, h3, h4, h5, h6⟩ := hc
    exact ⟨h1.trans ((res_uv ⟨_, _, _, _, _, _, _⟩).trans (arr6 A).symm), h2.trans ((res_vg ⟨_, _, _, _, _, _, _⟩).trans (arr7 A).symm),
      h3.trans ((res_dw ⟨_, _, _, _, _, _, _⟩).trans (arr8 A).symm), h4.trans ((res_db ⟨_, _, _, _, _, _, _⟩).trans (arr9 A).symm),
      h5.trans ((res_og ⟨_, _, _, _, _, _, _⟩).trans (arr10 A).symm), h6⟩

end Cert.GmIdeal.Hand
end
-- ==== Proof.InprojOut.lean ====
module

public import proofs.«01_k».proof.Proof.Gen.InprojIdeal.Frame
public import Idealize.ShloMosaic.Lib.Pipeline.ValueKit

/-! What the input projection's backward kernel leaves in its output buffers after each point of its grid: the gradient of
    the rows, and four accumulators. -/

@[expose] public section

set_option maxRecDepth 16384

noncomputable section

open Idealize.ShloMosaic Idealize.ShloMosaic.TcCoe Idealize.SL.Sem

namespace Cert.InprojIdeal.Hand

open Cert.InprojIdeal Cert.InprojIdeal.Gen

variable {F : FTy → Type} [FloatOps F]

theorem hz2 : (![0, 0] : Fin 2 → Nat) = fun _ => 0 := funext fun a => by fin_cases a <;> rfl

/-- A point's row gradient, gain gradient and weight gradients, of its nine input blocks. -/
def dhV (wa : FVec F S1024x512 .bf16) (wb : FVec F S1024x1024 .bf16) (wc : FVec F S1024x512 .bf16) (pa : FVec F S512x512 .f32)
    (pb : FVec F S512x1024 .f32) (pc : FVec F S512x512 .f32) : FVec F S512x1024 .f32 :=
  k0_pay22 (k0_pay7 wa) (k0_pay8 wb) (k0_pay14 pa) (k0_pay15 pb) (k0_pay17 pc) (k0_pay18 wc) (constant S512x1024 .f32 0x00000000#32)
def dxV (x : FVec F S512x1024 .f32) (g : FVec F S1x1024 .f32) (wa : FVec F S1024x512 .bf16) (wb : FVec F S1024x1024 .bf16) (wc : FVec F S1024x512 .bf16) (pa : FVec F S512x512 .f32)
    (pb : FVec F S512x1024 .f32) (pc : FVec F S512x512 .f32) (r : FVec F S512x1024 .f32) : FVec F S512x1024 .f32 :=
  k0_pay24 (k0_pay5 x) (k0_pay6 g) (k0_pay7 wa) (k0_pay8 wb) (k0_pay10 x) (k0_pay11 x) (k0_pay14 pa) (k0_pay15 pb) (k0_pay17 pc) (k0_pay18 wc)
    (constant S512x1024 .f32 0x00000000#32) r
def dgV (x : FVec F S512x1024 .f32) (wa : FVec F S1024x512 .bf16) (wb : FVec F S1024x1024 .bf16) (wc : FVec F S1024x512 .bf16) (pa : FVec F S512x512 .f32)
    (pb : FVec F S512x1024 .f32) (pc : FVec F S512x512 .f32) : FVec F S1x1024 .f32 :=
  k0_pay23 (k0_pay7 wa) (k0_pay8 wb) (k0_pay12 x) (k0_pay14 pa) (k0_pay15 pb) (k0_pay17 pc) (k0_pay18 wc) (constant S512x1024 .f32 0x00000000#32)

variable (m : (ℓ : Loc nD τ sig) → Buf (Elt F) ℓ) (c : Dev nD) (t : Fin cfg0.N)

abbrev dxT : FVec F S512x1024 .f32 :=
  dxV (iblk m c 0 t) (iblk m c 1 t) (iblk m c 2 t) (iblk m c 3 t) (iblk m c 4 t) (iblk m c 5 t) (iblk m c 6 t) (iblk m c 7 t) (iblk m c 8 t)
abbrev dgT : FVec F S1x1024 .f32 :=
  dgV (iblk m c 0 t) (iblk m c 2 t) (iblk m c 3 t) (iblk m c 4 t) (iblk m c 5 t) (iblk m c 6 t) (iblk m c 7 t)
abbrev hT : FVec F S512x1024 .f32 := k0_pay13 (iblk m c 0 t) (iblk m c 1 t)
abbrev daT : FVec F S1024x512 .f32 := k0_pay21 (hT m c t) (k0_pay14 (iblk m c 5 t))
abbrev dbT : FVec F S1024x1024 .f32 := k0_pay20 (hT m c t) (k0_pay15 (iblk m c 6 t))
abbrev dcT : FVec F S1024x512 .f32 := k0_pay19 (hT m c t) (k0_pay16 (iblk m c 7 t))

set_option maxHeartbeats 2000000 in
theorem outs_A (h : t.val = 0) : (outsAt0 m c t.val t.isLt).1 = dxT m c t ∧ (outsAt0 m c t.val t.isLt).2.1 = dgT m c t
    ∧ (outsAt0 m c t.val t.isLt).2.2.1 = daT m c t ∧ (outsAt0 m c t.val t.isLt).2.2.2.1 = dbT m c t
    ∧ (outsAt0 m c t.val t.isLt).2.2.2.2 = dcT m c t := by
  have ht := t.isLt
  have hN : cfg0.N = 4 := rfl
  rw [outsAt0_A m c t (by omega) (by omega) (by omega) (by omega) (by omega) (by omega) (by omega) (by omega)]
  dsimp only
  unfold out0_A_9 out0_A_10 out0_A_11 out0_A_12 out0_A_13
  refine ⟨(View.read_writes_eq_canon _ _ _ fun _ => cover0_A_9 ..).trans ?_,
    (View.read_writes_eq_canon _ _ _ fun _ => cover0_A_10 ..).trans ?_,
    (View.read_writes_eq_canon _ _ _ fun _ => cover0_A_11 ..).trans ?_,
    (View.read_writes_eq_canon _ _ _ fun _ => cover0_A_12 ..).trans ?_,
    (View.read_writes_eq_canon _ _ _ fun _ => cover0_A_13 ..).trans ?_⟩
  all_goals
    unfold kernelRun0_A
    dsimp only
    rw [View.canon_unit_zero hz2]
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16,
      View.readAt_eq_ld, Memref.IsWhole.read_unread, View.ld_unit_zero (S := S512x1024) hz2, View.ld_unit_zero (S := S1x1024) hz2,
      View.ld_unit_zero (S := S1024x512) hz2, View.ld_unit_zero (S := S1024x1024) hz2, View.ld_unit_zero (S := S512x512) hz2]
    try rfl

set_option maxHeartbeats 2000000 in
theorem outs_B (h : t.val ≠ 0) : (outsAt0 m c t.val t.isLt).1 = dxT m c t ∧ (outsAt0 m c t.val t.isLt).2.1 = k0_pay1 (dgT m c t) (outsAt0 m c (t.val - 1) (by omega)).2.1
    ∧ (outsAt0 m c t.val t.isLt).2.2.1 = k0_pay2 (daT m c t) (outsAt0 m c (t.val - 1) (by omega)).2.2.1
    ∧ (outsAt0 m c t.val t.isLt).2.2.2.1 = k0_pay3 (dbT m c t) (outsAt0 m c (t.val - 1) (by omega)).2.2.2.1
    ∧ (outsAt0 m c t.val t.isLt).2.2.2.2 = k0_pay4 (dcT m c t) (outsAt0 m c (t.val - 1) (by omega)).2.2.2.2 := by
  have ht := t.isLt
  have hN : cfg0.N = 4 := rfl
  rw [outsAt0_B m c t (by omega) (by omega) (by omega) (by omega) (by omega) (by omega) (by omega) (by omega)]
  dsimp only
  unfold out0_B_9 out0_B_10 out0_B_11 out0_B_12 out0_B_13
  refine ⟨(View.read_writes_eq_canon _ _ _ fun _ => cover0_B_9 ..).trans ?_,
    (View.read_writes_eq_canon _ _ _ fun _ => cover0_B_10 ..).trans ?_,
    (View.read_writes_eq_canon _ _ _ fun _ => cover0_B_11 ..).trans ?_,
    (View.read_writes_eq_canon _ _ _ fun _ => cover0_B_12 ..).trans ?_,
    (View.read_writes_eq_canon _ _ _ fun _ => cover0_B_13 ..).trans ?_⟩
  all_goals
    unfold kernelRun0_B
    dsimp only
    rw [View.canon_unit_zero hz2]
    simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16,
      View.readAt_eq_ld, Memref.IsWhole.read_unread, View.ld_unit_zero (S := S512x1024) hz2, View.ld_unit_zero (S := S1x1024) hz2,
      View.ld_unit_zero (S := S1024x512) hz2, View.ld_unit_zero (S := S1024x1024) hz2, View.ld_unit_zero (S := S512x512) hz2]
    try rfl

end Cert.InprojIdeal.Hand
end
-- ==== Proof.InprojPay.lean ====
module

public import proofs.«01_k».proof.Proof.InprojOut
public import Idealize.ShloMosaic.Lib.Pointwise

/-! The input projection's backward kernel, one point of its grid: its payloads entry by entry over the extended reals. -/

@[expose] public section

set_option maxRecDepth 16384

noncomputable section

open Idealize.ShloMosaic Idealize.ShloMosaic.TcCoe Idealize.SL.Sem

namespace Cert.NormE

/-- A row's mean square plus ε, its scale, the factor of the scale's derivative, and the gradient of a scaled norm. -/
def ms (x : Fin 1024 → EReal) : EReal := Ideal.div (∑ k, x k * x k) (Ideal.ofBits .f32 0x44800000#32) + Ideal.ofBits .f32 0x358637BD#32
def rs (x : Fin 1024 → EReal) : EReal := Ideal.rsqrt (ms x)
def co (x : Fin 1024 → EReal) : EReal := Ideal.ofBits .f32 0xBF000000#32 * Ideal.div (rs x) (ms x)
def qq (x g dh : Fin 1024 → EReal) : EReal := Ideal.div ((∑ k, x k * (dh k * g k)) * co x) (Ideal.ofBits .f32 0x44800000#32)
def dx (x g dh : Fin 1024 → EReal) (d : Fin 1024) : EReal := dh d * g d * rs x + x d * qq x g dh + qq x g dh * x d

end Cert.NormE

namespace Cert.InprojIdeal.Hand

open Cert.InprojIdeal Cert.InprojIdeal.Gen
open Cert

variable (x : FVec Ideal S512x1024 .f32) (g : FVec Ideal S1x1024 .f32) (wa : FVec Ideal S1024x512 .bf16) (wb : FVec Ideal S1024x1024 .bf16)
  (wc : FVec Ideal S1024x512 .bf16) (pa : FVec Ideal S512x512 .f32) (pb : FVec Ideal S512x1024 .f32) (pc : FVec Ideal S512x512 .f32) (r : FVec Ideal S512x1024 .f32)

theorem dhV_apply (n : Fin 512) (d : Fin 1024) : dhV wa wb wc pa pb pc (ix2 n d)
    = ∑ j : Fin 512, pc (ix2 n j) * wc (ix2 d j) + ∑ j : Fin 1024, pb (ix2 n j) * wb (ix2 d j) + ∑ j : Fin 512, pa (ix2 n j) * wa (ix2 d j) := by
  pointwise [dhV, k0_pay22, k0_pay7, k0_pay8, k0_pay14, k0_pay15, k0_pay16, k0_pay17, k0_pay18]

theorem pay9_apply (n : Fin 512) : k0_pay9 (F := Ideal) x (ix2 n 0) = NormE.ms (fun k => x (ix2 n k)) := by
  pointwise [k0_pay9, k0_pay5]
  rfl
theorem pay10_apply (n : Fin 512) : k0_pay10 (F := Ideal) x (ix2 n 0) = NormE.rs (fun k => x (ix2 n k)) := by
  rw [NormE.rs, ← pay9_apply]; rfl
theorem pay11_apply (n : Fin 512) : k0_pay11 (F := Ideal) x (ix2 n 0) = NormE.co (fun k => x (ix2 n k)) := by
  rw [NormE.co, ← pay9_apply, ← pay10_apply]
  unfold k0_pay11
  generalize k0_pay10 (F := Ideal) x = a
  generalize k0_pay9 (F := Ideal) x = b
  pointwise
theorem pay12_apply (n : Fin 512) (d : Fin 1024) : k0_pay12 (F := Ideal) x (ix2 n d) = x (ix2 n d) * NormE.rs (fun k => x (ix2 n k)) := by
  rw [← pay10_apply]
  unfold k0_pay12
  generalize k0_pay10 (F := Ideal) x = a
  pointwise [k0_pay5]
theorem pay13_apply (n : Fin 512) (d : Fin 1024) : k0_pay13 (F := Ideal) x g (ix2 n d) = x (ix2 n d) * NormE.rs (fun k => x (ix2 n k)) * g (ix2 0 d) := by
  rw [← pay12_apply]
  unfold k0_pay13
  generalize k0_pay12 (F := Ideal) x = a
  pointwise [k0_pay6]

theorem dgV_apply (d : Fin 1024) : dgV x wa wb wc pa pb pc (ix2 0 d)
    = ∑ n : Fin 512, x (ix2 n d) * NormE.rs (fun k => x (ix2 n k)) * dhV wa wb wc pa pb pc (ix2 n d) := by
  simp only [← pay12_apply]
  unfold dgV k0_pay23
  change _ = ∑ n : Fin 512, k0_pay12 x (ix2 n d) * (k0_pay22 (F := Ideal) (k0_pay7 wa) (k0_pay8 wb) (k0_pay14 pa) (k0_pay15 pb) (k0_pay17 pc) (k0_pay18 wc) (constant S512x1024 .f32 0x00000000#32)) (ix2 n d)
  generalize k0_pay12 (F := Ideal) x = a
  generalize k0_pay22 (F := Ideal) (k0_pay7 wa) (k0_pay8 wb) (k0_pay14 pa) (k0_pay15 pb) (k0_pay17 pc) (k0_pay18 wc) (constant S512x1024 .f32 0x00000000#32) = b
  pointwise

theorem dxV_apply (n : Fin 512) (d : Fin 1024) : dxV x g wa wb wc pa pb pc r (ix2 n d)
    = NormE.dx (fun k => x (ix2 n k)) (fun k => g (ix2 0 k)) (fun k => dhV wa wb wc pa pb pc (ix2 n k)) d + r (ix2 n d) := by
  rw [NormE.dx, NormE.qq, ← pay10_apply, ← pay11_apply]
  unfold dxV k0_pay24 dhV
  generalize k0_pay10 (F := Ideal) x = a
  generalize k0_pay11 (F := Ideal) x = a'
  generalize k0_pay22 (F := Ideal) (k0_pay7 wa) (k0_pay8 wb) (k0_pay14 pa) (k0_pay15 pb) (k0_pay17 pc) (k0_pay18 wc) (constant S512x1024 .f32 0x00000000#32) = b
  pointwise [k0_pay5, k0_pay6]
  simp only [Finset.univ_unique, Finset.sum_singleton]
  rfl

variable (h : FVec Ideal S512x1024 .f32)
theorem da_apply (d : Fin 1024) (j : Fin 512) : k0_pay21 h (k0_pay14 pa) (ix2 d j) = ∑ n : Fin 512, h (ix2 n d) * pa (ix2 n j) := by
  pointwise [k0_pay21, k0_pay14]
theorem db_apply (d j : Fin 1024) : k0_pay20 h (k0_pay15 pb) (ix2 d j) = ∑ n : Fin 512, h (ix2 n d) * pb (ix2 n j) := by
  pointwise [k0_pay20, k0_pay15]
theorem dc_apply (d : Fin 1024) (j : Fin 512) : k0_pay19 h (k0_pay16 pc) (ix2 d j) = ∑ n : Fin 512, h (ix2 n d) * pc (ix2 n j) := by
  pointwise [k0_pay19, k0_pay16]
theorem pay1_apply (a b : FVec Ideal S1x1024 .f32) (i) : k0_pay1 a b i = b i + a i := by
  obtain ⟨z, d, rfl⟩ : ∃ z d, i = ix2 z d := ⟨i 0, i 1, (ix2_eta i).symm⟩
  pointwise [k0_pay1]
theorem pay2_apply (a b : FVec Ideal S1024x512 .f32) (i) : k0_pay2 a b i = b i + a i := by
  obtain ⟨z, d, rfl⟩ : ∃ z d, i = ix2 z d := ⟨i 0, i 1, (ix2_eta i).symm⟩
  pointwise [k0_pay2]
theorem pay3_apply (a b : FVec Ideal S1024x1024 .f32) (i) : k0_pay3 a b i = b i + a i := by
  obtain ⟨z, d, rfl⟩ : ∃ z d, i = ix2 z d := ⟨i 0, i 1, (ix2_eta i).symm⟩
  pointwise [k0_pay3]
theorem pay4_apply (a b : FVec Ideal S1024x512 .f32) (i) : k0_pay4 a b i = b i + a i := by
  obtain ⟨z, d, rfl⟩ : ∃ z d, i = ix2 z d := ⟨i 0, i 1, (ix2_eta i).symm⟩
  pointwise [k0_pay4]

end Cert.InprojIdeal.Hand
end
-- ==== Proof.InprojArr.lean ====
module

public import proofs.«01_k».proof.Proof.InprojPay

/-! The input projection's backward kernel: its result arrays, entry by entry, as sums over whole rows and columns. -/

@[expose] public section

set_option maxRecDepth 16384

noncomputable section

open Idealize.ShloMosaic Idealize.ShloMosaic.TcCoe Idealize.SL.Sem

namespace Cert.InprojIdeal.Hand

open Cert.InprojIdeal Cert.InprojIdeal.Gen
open Cert

/-- The three groups of the projection's columns, the last filled up with zeros. -/
def ja (j : Fin 512) : Fin 1952 := ⟨j.val, by omega⟩
def jb (j : Fin 1024) : Fin 1952 := ⟨512 + j.val, by omega⟩
def padc (f : Fin 1952 → EReal) (j : Fin 512) : EReal := if h : j.val < 416 then f ⟨1536 + j.val, by omega⟩ else 0

/-- A row by its number. -/
def row (N : ℕ) : Fin 2048 := ⟨N % 2048, Nat.mod_lt _ (by omega)⟩

section Whole
variable (X : Fin 2048 → Fin 1024 → EReal) (G : Fin 1024 → EReal) (W : Fin 1024 → Fin 1952 → EReal) (C : Fin 2048 → Fin 1952 → EReal)

/-- The gradient of the scaled norm, the scaled norm, and what a row adds to the gain's gradient. -/
def DH (n : Fin 2048) (d : Fin 1024) : EReal := ∑ j, C n j * W d j
def HH (n : Fin 2048) (d : Fin 1024) : EReal := X n d * NormE.rs (X n) * G d
def DG (n : Fin 2048) (d : Fin 1024) : EReal := X n d * NormE.rs (X n) * DH W C n d

variable (R : Fin 2048 → Fin 1024 → EReal)
/-- The five results by their entries. -/
def G9 (y : S2048x1024.Idx) : EReal := NormE.dx (X (y 0)) G (DH W C (y 0)) (y 1) + R (y 0) (y 1)
def G10 (y : S1x1024.Idx) : EReal := ∑ n, DG X W C n (y 1)
def G11 (y : S1024x512.Idx) : EReal := ∑ n, HH X G n (y 0) * C n (ja (y 1))
def G12 (y : S1024x1024.Idx) : EReal := ∑ n, HH X G n (y 0) * C n (jb (y 1))
def G13 (y : S1024x512.Idx) : EReal := ∑ n, HH X G n (y 0) * padc (C n) (y 1)

theorem sum_cols (f : Fin 1952 → EReal) : ∑ j, f j = ∑ j : Fin 416, f ⟨1536 + j.val, by omega⟩ + ∑ j, f (jb j) + ∑ j, f (ja j) := by
  rw [show (∑ j, f j) = ∑ j : Fin (512 + 1024 + 416), f j from rfl, Fin.sum_univ_add, Fin.sum_univ_add, add_comm, add_comm (∑ i : Fin 512, _), ← add_assoc]
  rfl

theorem sum_pad (f g : Fin 1952 → EReal) : ∑ j, padc f j * padc g j = ∑ j : Fin 416, f ⟨1536 + j.val, by omega⟩ * g ⟨1536 + j.val, by omega⟩ := by
  rw [show (∑ j, padc f j * padc g j) = ∑ j : Fin (416 + 96), padc f j * padc g j from rfl, Fin.sum_univ_add]
  have z : ∑ i : Fin 96, padc f (Fin.natAdd 416 i) * padc g (Fin.natAdd 416 i) = 0 := Finset.sum_eq_zero fun i _ => by
    rw [padc, dif_neg (by simp), zero_mul]
  rw [z, add_zero]
  refine Finset.sum_congr rfl fun i _ => ?_
  have hi : (Fin.castAdd 96 i).val < 416 := i.isLt
  rw [padc, padc, dif_pos hi, dif_pos hi]
  rfl

theorem dh_groups (n : Fin 2048) (d : Fin 1024) :
    ∑ j, padc (C n) j * padc (W d) j + ∑ j, C n (jb j) * W d (jb j) + ∑ j, C n (ja j) * W d (ja j) = DH W C n d := by
  rw [sum_pad, DH, sum_cols]

end Whole

/-- A sum over a tile's rows, added to one over the rows before it; a sum over all rows. -/
theorem tile_sum (u : ℕ → EReal) (k : ℕ) : ∑ N ∈ Finset.range (512 * (k + 1)), u N = ∑ N ∈ Finset.range (512 * k), u N + ∑ n : Fin 512, u (512 * k + n.val) := by
  rw [show 512 * (k + 1) = 512 * k + 512 by omega, Finset.sum_range_add, Fin.sum_univ_eq_sum_range (fun j => u (512 * k + j)) 512]
theorem rows_sum (u : Fin 2048 → EReal) : ∑ N ∈ Finset.range 2048, u (row N) = ∑ n, u n := by
  rw [← Fin.sum_univ_eq_sum_range (fun N => u (row N)) 2048]
  exact Finset.sum_congr rfl fun n _ => congrArg u (Fin.ext (Nat.mod_eq_of_lt n.isLt))

section Arrays
variable (m : (ℓ : Loc nD τ sig) → Buf (Elt Ideal) ℓ) (c : Dev nD)

/-- The kernel's nine arguments by their entries. -/
structure Args (X : Fin 2048 → Fin 1024 → EReal) (G : Fin 1024 → EReal) (W : Fin 1024 → Fin 1952 → EReal) (C : Fin 2048 → Fin 1952 → EReal) (R : Fin 2048 → Fin 1024 → EReal) : Prop where
  hx : ∀ n d, V m c main_v6 (ix2 n d) = X n d
  hg : ∀ d, V m c main_v7 (ix2 0 d) = G d
  hwa : ∀ d j, V m c main_v8 (ix2 d j) = W d (ja j)
  hwb : ∀ d j, V m c main_v9 (ix2 d j) = W d (jb j)
  hwc : ∀ d j, V m c main_v2 (ix2 d j) = padc (W d) j
  hpa : ∀ n j, V m c main_v10 (ix2 n j) = C n (ja j)
  hpb : ∀ n j, V m c main_v11 (ix2 n j) = C n (jb j)
  hpc : ∀ n j, V m c main_v5 (ix2 n j) = padc (C n) j
  hr : ∀ n d, V m c main_v12 (ix2 n d) = R n d

theorem index_in : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0) ∧ (win0_4.index t 0 = 0 ∧ win0_4.index t 1 = 0)
    ∧ (win0_5.index t 0 = t.val ∧ win0_5.index t 1 = 0) ∧ (win0_6.index t 0 = t.val ∧ win0_6.index t 1 = 0) ∧ (win0_7.index t 0 = t.val ∧ win0_7.index t 1 = 0)
    ∧ (win0_8.index t 0 = t.val ∧ win0_8.index t 1 = 0) := by decide +kernel

theorem index_out : ∀ t : Fin cfg0.N, (win0_9.index t 0 = t.val ∧ win0_9.index t 1 = 0) ∧ (win0_10.index t 0 = 0 ∧ win0_10.index t 1 = 0)
    ∧ (win0_11.index t 0 = 0 ∧ win0_11.index t 1 = 0) ∧ (win0_12.index t 0 = 0 ∧ win0_12.index t 1 = 0) ∧ (win0_13.index t 0 = 0 ∧ win0_13.index t 1 = 0) := by decide +kernel

theorem pt_lt (t : Fin cfg0.N) : t.val < 4 := by have := t.isLt; have : cfg0.N = 4 := N_0; omega

/-- An array of two axes at an index whose coordinates are known. -/
theorem at_ix {a b : ℕ} {α : Type} (f : (⟨2, ![a, b]⟩ : Shape).Idx → α) (z : (⟨2, ![a, b]⟩ : Shape).Idx) (p : Fin a) (q : Fin b)
    (h0 : (z 0).val = p.val) (h1 : (z 1).val = q.val) : f z = f (ix2 p q) := by
  rw [← ix2_eta z, show z 0 = p from Fin.ext h0, show z 1 = q from Fin.ext h1]

variable {m c} {X : Fin 2048 → Fin 1024 → EReal} {G : Fin 1024 → EReal} {W : Fin 1024 → Fin 1952 → EReal} {C : Fin 2048 → Fin 1952 → EReal} {R : Fin 2048 → Fin 1024 → EReal}
  (A : Args m c X G W C R) (t : Fin cfg0.N)

/-- The row of a point's tile. -/
abbrev tr (t : Fin cfg0.N) (n : Fin 512) : Fin 2048 := row (512 * t.val + n.val)

theorem tr_val (n : Fin 512) : (tr t n).val = 512 * t.val + n.val := Nat.mod_eq_of_lt (by have := pt_lt t; omega)

include A in
theorem blk0 (n : Fin 512) (d : Fin 1024) : (iblk m c 0 t : S512x1024.Idx → EReal) (ix2 n d) = X (tr t n) d :=
  (at_ix (V m c main_v6) (((cfg0.win 0).blk t).view.emb (ix2 n d)) (tr t n) d
    (by rw [tr_val]; show win0_0.index t 0 * 512 + 1 * n.val = _; rw [(index_in t).1.1]; omega)
    (by show win0_0.index t 1 * 1024 + 1 * d.val = _; rw [(index_in t).1.2]; omega)).trans (A.hx _ _)
include A in
theorem blk1 (d : Fin 1024) : (iblk m c 1 t : S1x1024.Idx → EReal) (ix2 0 d) = G d :=
  (at_ix (V m c main_v7) (((cfg0.win 1).blk t).view.emb (ix2 0 d)) 0 d
    (by show win0_1.index t 0 * 1 + 1 * 0 = _; rw [(index_in t).2.1.1]; rfl)
    (by show win0_1.index t 1 * 1024 + 1 * d.val = _; rw [(index_in t).2.1.2]; omega)).trans (A.hg _)
include A in
theorem blk2 (d : Fin 1024) (j : Fin 512) : (iblk m c 2 t : S1024x512.Idx → EReal) (ix2 d j) = W d (ja j) :=
  (at_ix (V m c main_v8) (((cfg0.win 2).blk t).view.emb (ix2 d j)) d j
    (by show win0_2.index t 0 * 1024 + 1 * d.val = _; rw [(index_in t).2.2.1.1]; omega)
    (by show win0_2.index t 1 * 512 + 1 * j.val = _; rw [(index_in t).2.2.1.2]; omega)).trans (A.hwa _ _)
include A in
theorem blk3 (d j : Fin 1024) : (iblk m c 3 t : S1024x1024.Idx → EReal) (ix2 d j) = W d (jb j) :=
  (at_ix (V m c main_v9) (((cfg0.win 3).blk t).view.emb (ix2 d j)) d j
    (by show win0_3.index t 0 * 1024 + 1 * d.val = _; rw [(index_in t).2.2.2.1.1]; omega)
    (by show win0_3.index t 1 * 1024 + 1 * j.val = _; rw [(index_in t).2.2.2.1.2]; omega)).trans (A.hwb _ _)
include A in
theorem blk4 (d : Fin 1024) (j : Fin 512) : (iblk m c 4 t : S1024x512.Idx → EReal) (ix2 d j) = padc (W d) j :=
  (at_ix (V m c main_v2) (((cfg0.win 4).blk t).view.emb (ix2 d j)) d j
    (by show win0_4.index t 0 * 1024 + 1 * d.val = _; rw [(index_in t).2.2.2.2.1.1]; omega)
    (by show win0_4.index t 1 * 512 + 1 * j.val = _; rw [(index_in t).2.2.2.2.1.2]; omega)).trans (A.hwc _ _)
include A in
theorem blk5 (n : Fin 512) (j : Fin 512) : (iblk m c 5 t : S512x512.Idx → EReal) (ix2 n j) = C (tr t n) (ja j) :=
  (at_ix (V m c main_v10) (((cfg0.win 5).blk t).view.emb (ix2 n j)) (tr t n) j
    (by rw [tr_val]; show win0_5.index t 0 * 512 + 1 * n.val = _; rw [(index_in t).2.2.2.2.2.1.1]; omega)
    (by show win0_5.index t 1 * 512 + 1 * j.val = _; rw [(index_in t).2.2.2.2.2.1.2]; omega)).trans (A.hpa _ _)
include A in
theorem blk6 (n : Fin 512) (j : Fin 1024) : (iblk m c 6 t : S512x1024.Idx → EReal) (ix2 n j) = C (tr t n) (jb j) :=
  (at_ix (V m c main_v11) (((cfg0.win 6).blk t).view.emb (ix2 n j)) (tr t n) j
    (by rw [tr_val]; show win0_6.index t 0 * 512 + 1 * n.val = _; rw [(index_in t).2.2.2.2.2.2.1.1]; omega)
    (by show win0_6.index t 1 * 1024 + 1 * j.val = _; rw [(index_in t).2.2.2.2.2.2.1.2]; omega)).trans (A.hpb _ _)
include A in
theorem blk7 (n : Fin 512) (j : Fin 512) : (iblk m c 7 t : S512x512.Idx → EReal) (ix2 n j) = padc (C (tr t n)) j :=
  (at_ix (V m c main_v5) (((cfg0.win 7).blk t).view.emb (ix2 n j)) (tr t n) j
    (by rw [tr_val]; show win0_7.index t 0 * 512 + 1 * n.val = _; rw [(index_in t).2.2.2.2.2.2.2.1.1]; omega)
    (by show win0_7.index t 1 * 512 + 1 * j.val = _; rw [(index_in t).2.2.2.2.2.2.2.1.2]; omega)).trans (A.hpc _ _)
include A in
theorem blk8 (n : Fin 512) (d : Fin 1024) : (iblk m c 8 t : S512x1024.Idx → EReal) (ix2 n d) = R (tr t n) d :=
  (at_ix (V m c main_v12) (((cfg0.win 8).blk t).view.emb (ix2 n d)) (tr t n) d
    (by rw [tr_val]; show win0_8.index t 0 * 512 + 1 * n.val = _; rw [(index_in t).2.2.2.2.2.2.2.2.1]; omega)
    (by show win0_8.index t 1 * 1024 + 1 * d.val = _; rw [(index_in t).2.2.2.2.2.2.2.2.2]; omega)).trans (A.hr _ _)

/-! What a point computes. -/

include A in
theorem dh_pt (n : Fin 512) (d : Fin 1024) :
    dhV (F := Ideal) (iblk m c 2 t) (iblk m c 3 t) (iblk m c 4 t) (iblk m c 5 t) (iblk m c 6 t) (iblk m c 7 t) (ix2 n d) = DH W C (tr t n) d := by
  refine (dhV_apply _ _ _ _ _ _ n d).trans ((congrArg₂ (· + ·) (congrArg₂ (· + ·) ?_ ?_) ?_).trans (dh_groups W C (tr t n) d))
  · exact Finset.sum_congr rfl fun j _ => congrArg₂ (· * ·) (blk7 A t n j) (blk4 A t d j)
  · exact Finset.sum_congr rfl fun j _ => congrArg₂ (· * ·) (blk6 A t n j) (blk3 A t d j)
  · exact Finset.sum_congr rfl fun j _ => congrArg₂ (· * ·) (blk5 A t n j) (blk2 A t d j)

include A in
theorem x_row (n : Fin 512) : (fun k => (iblk m c 0 t : S512x1024.Idx → EReal) (ix2 n k)) = X (tr t n) := funext fun k => blk0 A t n k

include A in
theorem dx_pt (n : Fin 512) (d : Fin 1024) : dxT m c t (ix2 n d) = NormE.dx (X (tr t n)) G (DH W C (tr t n)) d + R (tr t n) d := by
  refine (dxV_apply _ _ _ _ _ _ _ _ _ n d).trans (congrArg₂ (· + ·) ?_ (blk8 A t n d))
  rw [x_row A t n, show (fun k => (iblk m c 1 t : S1x1024.Idx → EReal) (ix2 0 k)) = G from funext fun k => blk1 A t k,
    show (fun k => dhV (F := Ideal) (iblk m c 2 t) (iblk m c 3 t) (iblk m c 4 t) (iblk m c 5 t) (iblk m c 6 t) (iblk m c 7 t) (ix2 n k)) = DH W C (tr t n) from
      funext fun k => dh_pt A t n k]

include A in
theorem h_pt (n : Fin 512) (d : Fin 1024) : hT m c t (ix2 n d) = HH X G (tr t n) d := by
  refine (pay13_apply _ _ n d).trans ?_
  rw [x_row A t n]
  exact congrArg₂ (· * ·) (congrArg (· * _) (blk0 A t n d)) (blk1 A t d)

include A in
theorem dg_pt (d : Fin 1024) : dgT m c t (ix2 0 d) = ∑ n : Fin 512, DG X W C (tr t n) d := by
  refine (dgV_apply _ _ _ _ _ _ _ d).trans (Finset.sum_congr rfl fun n _ => ?_)
  rw [dh_pt A t n d, x_row A t n]
  exact congrArg (· * _) (congrArg (· * _) (blk0 A t n d))

include A in
theorem da_pt (d : Fin 1024) (j : Fin 512) : daT m c t (ix2 d j) = ∑ n : Fin 512, HH X G (tr t n) d * C (tr t n) (ja j) :=
  (da_apply _ _ d j).trans (Finset.sum_congr rfl fun n _ => congrArg₂ (· * ·) (h_pt A t n d) (blk5 A t n j))
include A in
theorem db_pt (d j : Fin 1024) : dbT m c t (ix2 d j) = ∑ n : Fin 512, HH X G (tr t n) d * C (tr t n) (jb j) :=
  (db_apply _ _ d j).trans (Finset.sum_congr rfl fun n _ => congrArg₂ (· * ·) (h_pt A t n d) (blk6 A t n j))
include A in
theorem dc_pt (d : Fin 1024) (j : Fin 512) : dcT m c t (ix2 d j) = ∑ n : Fin 512, HH X G (tr t n) d * padc (C (tr t n)) j :=
  (dc_apply _ _ d j).trans (Finset.sum_congr rfl fun n _ => congrArg₂ (· * ·) (h_pt A t n d) (blk7 A t n j))

/-- An accumulator: set at the first point, added to at the others. -/
theorem acc_sum {ι : Type} (o p : (n : ℕ) → n < cfg0.N → ι → EReal) (u : ℕ → ι → EReal)
    (hp : ∀ n hn i, p n hn i = ∑ k : Fin 512, u (512 * n + k.val) i)
    (h0 : ∀ hn i, o 0 hn i = p 0 hn i) (hs : ∀ n (hn : n + 1 < cfg0.N) i, o (n + 1) hn i = o n (by omega) i + p (n + 1) hn i) :
    ∀ n hn i, o n hn i = ∑ N ∈ Finset.range (512 * (n + 1)), u N i
  | 0, hn, i => by rw [h0, hp, tile_sum (fun N => u N i), Nat.mul_zero, Finset.range_zero, Finset.sum_empty, zero_add]
  | n + 1, hn, i => by rw [hs, acc_sum o p u hp h0 hs n _ i, hp, tile_sum (fun N => u N i) (n + 1)]

include A in
theorem acc_dg (n : ℕ) (hn : n < cfg0.N) (d : Fin 1024) : (outsAt0 m c n hn).2.1 (ix2 0 d) = ∑ N ∈ Finset.range (512 * (n + 1)), DG X W C (row N) d :=
  acc_sum (fun n hn (d : Fin 1024) => (outsAt0 m c n hn).2.1 (ix2 0 d)) (fun n hn d => dgT m c ⟨n, hn⟩ (ix2 0 d)) (fun N d => DG X W C (row N) d)
    (fun n hn d => dg_pt A ⟨n, hn⟩ d) (fun hn d => congrFun (outs_A m c ⟨0, hn⟩ rfl).2.1 _)
    (fun n hn d => (congrFun (outs_B m c ⟨n + 1, hn⟩ (Nat.succ_ne_zero n)).2.1 _).trans (pay1_apply _ _ _)) n hn d
include A in
theorem acc_da (n : ℕ) (hn : n < cfg0.N) (d : Fin 1024) (j : Fin 512) :
    (outsAt0 m c n hn).2.2.1 (ix2 d j) = ∑ N ∈ Finset.range (512 * (n + 1)), HH X G (row N) d * C (row N) (ja j) :=
  acc_sum (fun n hn (i : Fin 1024 × Fin 512) => (outsAt0 m c n hn).2.2.1 (ix2 i.1 i.2)) (fun n hn i => daT m c ⟨n, hn⟩ (ix2 i.1 i.2)) (fun N i => HH X G (row N) i.1 * C (row N) (ja i.2))
    (fun n hn i => da_pt A ⟨n, hn⟩ i.1 i.2) (fun hn i => congrFun (outs_A m c ⟨0, hn⟩ rfl).2.2.1 _)
    (fun n hn i => (congrFun (outs_B m c ⟨n + 1, hn⟩ (Nat.succ_ne_zero n)).2.2.1 _).trans (pay2_apply _ _ _)) n hn (d, j)
include A in
theorem acc_db (n : ℕ) (hn : n < cfg0.N) (d j : Fin 1024) :
    (outsAt0 m c n hn).2.2.2.1 (ix2 d j) = ∑ N ∈ Finset.range (512 * (n + 1)), HH X G (row N) d * C (row N) (jb j) :=
  acc_sum (fun n hn (i : Fin 1024 × Fin 1024) => (outsAt0 m c n hn).2.2.2.1 (ix2 i.1 i.2)) (fun n hn i => dbT m c ⟨n, hn⟩ (ix2 i.1 i.2)) (fun N i => HH X G (row N) i.1 * C (row N) (jb i.2))
    (fun n hn i => db_pt A ⟨n, hn⟩ i.1 i.2) (fun hn i => congrFun (outs_A m c ⟨0, hn⟩ rfl).2.2.2.1 _)
    (fun n hn i => (congrFun (outs_B m c ⟨n + 1, hn⟩ (Nat.succ_ne_zero n)).2.2.2.1 _).trans (pay3_apply _ _ _)) n hn (d, j)
include A in
theorem acc_dc (n : ℕ) (hn : n < cfg0.N) (d : Fin 1024) (j : Fin 512) :
    (outsAt0 m c n hn).2.2.2.2 (ix2 d j) = ∑ N ∈ Finset.range (512 * (n + 1)), HH X G (row N) d * padc (C (row N)) j :=
  acc_sum (fun n hn (i : Fin 1024 × Fin 512) => (outsAt0 m c n hn).2.2.2.2 (ix2 i.1 i.2)) (fun n hn i => dcT m c ⟨n, hn⟩ (ix2 i.1 i.2)) (fun N i => HH X G (row N) i.1 * padc (C (row N)) i.2)
    (fun n hn i => dc_pt A ⟨n, hn⟩ i.1 i.2) (fun hn i => congrFun (outs_A m c ⟨0, hn⟩ rfl).2.2.2.2 _)
    (fun n hn i => (congrFun (outs_B m c ⟨n + 1, hn⟩ (Nat.succ_ne_zero n)).2.2.2.2 _).trans (pay4_apply _ _ _)) n hn (d, j)

theorem out_dx : (outsAt0 m c t.val t.isLt).1 = dxT m c t := by
  by_cases h : t.val = 0
  · exact (outs_A m c t h).1
  · exact (outs_B m c t h).1

/-! The result arrays. -/

include A in
theorem arr9 : (dats m 0 c).arrAt 9 cfg0.N = G9 X G W C R := by
  refine (dats m 0 c).arrAt_eq_of_covers 9 (G9 X G W C R) (by decide +kernel) (fun t hf y => ?_)
  show (dats m 0 c).after 9 t _ = _
  rw [after0_9, out_dx]
  suffices H : ∀ y : S512x1024.Idx, dxT m c t y
      = (G9 X G W C R) (((cfg0.win 9).blk t).view.emb y) from H y
  intro y
  obtain ⟨n, d, rfl⟩ : ∃ n d, y = ix2 n d := ⟨y 0, y 1, (ix2_eta y).symm⟩
  refine Eq.trans ?_ (at_ix (G9 X G W C R) _ (tr t n) d ?_ ?_).symm
  · exact dx_pt A t n d
  · rw [tr_val]; show win0_9.index t 0 * 512 + 1 * n.val = _; rw [(index_out t).1.1]; omega
  · show win0_9.index t 1 * 1024 + 1 * d.val = _; rw [(index_out t).1.2]; omega

include A in
theorem arr10 : (dats m 0 c).arrAt 10 cfg0.N = G10 X W C := by
  refine (dats m 0 c).arrAt_eq_of_covers 10 (G10 X W C) (by decide +kernel) (fun t hf y => ?_)
  have ht : t.val = 3 := by have := (flush0_10 t).1 hf; have := pt_lt t; omega
  show (dats m 0 c).after 10 t _ = _
  rw [after0_10]
  suffices H : ∀ y : S1x1024.Idx, (outsAt0 m c t.val t.isLt).2.1 y = (G10 X W C) (((cfg0.win 10).blk t).view.emb y) from H y
  intro y
  obtain ⟨z, d, rfl⟩ : ∃ z d, y = ix2 z d := ⟨y 0, y 1, (ix2_eta y).symm⟩
  obtain rfl : z = 0 := Subsingleton.elim _ _
  refine Eq.trans ?_ (at_ix (G10 X W C) _ 0 d ?_ ?_).symm
  · exact (acc_dg A t.val t.isLt d).trans (by rw [ht]; exact rows_sum fun n => DG X W C n d)
  · show win0_10.index t 0 * 1 + 1 * 0 = _; rw [(index_out t).2.1.1]; rfl
  · show win0_10.index t 1 * 1024 + 1 * d.val = _; rw [(index_out t).2.1.2]; omega

include A in
theorem arr11 : (dats m 0 c).arrAt 11 cfg0.N = G11 X G C := by
  refine (dats m 0 c).arrAt_eq_of_covers 11 (G11 X G C) (by decide +kernel) (fun t hf y => ?_)
  have ht : t.val = 3 := by have := (flush0_11 t).1 hf; have := pt_lt t; omega
  show (dats m 0 c).after 11 t _ = _
  rw [after0_11]
  suffices H : ∀ y : S1024x512.Idx, (outsAt0 m c t.val t.isLt).2.2.1 y = (G11 X G C) (((cfg0.win 11).blk t).view.emb y) from H y
  intro y
  refine Eq.trans ?_ (at_ix (G11 X G C) _ (y 0) (y 1) ?_ ?_).symm
  · exact (congrArg _ (ix2_eta y).symm).trans ((acc_da A t.val t.isLt (y 0) (y 1)).trans (by rw [ht]; exact rows_sum fun n => HH X G n (y 0) * C n (ja (y 1))))
  · show win0_11.index t 0 * 1024 + 1 * (y 0).val = _; rw [(index_out t).2.2.1.1]; omega
  · show win0_11.index t 1 * 512 + 1 * (y 1).val = _; rw [(index_out t).2.2.1.2]; omega

include A in
theorem arr12 : (dats m 0 c).arrAt 12 cfg0.N = G12 X G C := by
  refine (dats m 0 c).arrAt_eq_of_covers 12 (G12 X G C) (by decide +kernel) (fun t hf y => ?_)
  have ht : t.val = 3 := by have := (flush0_12 t).1 hf; have := pt_lt t; omega
  show (dats m 0 c).after 12 t _ = _
  rw [after0_12]
  suffices H : ∀ y : S1024x1024.Idx, (outsAt0 m c t.val t.isLt).2.2.2.1 y = (G12 X G C) (((cfg0.win 12).blk t).view.emb y) from H y
  intro y
  refine Eq.trans ?_ (at_ix (G12 X G C) _ (y 0) (y 1) ?_ ?_).symm
  · exact (congrArg _ (ix2_eta y).symm).trans ((acc_db A t.val t.isLt (y 0) (y 1)).trans (by rw [ht]; exact rows_sum fun n => HH X G n (y 0) * C n (jb (y 1))))
  · show win0_12.index t 0 * 1024 + 1 * (y 0).val = _; rw [(index_out t).2.2.2.1.1]; omega
  · show win0_12.index t 1 * 1024 + 1 * (y 1).val = _; rw [(index_out t).2.2.2.1.2]; omega

include A in
theorem arr13 : (dats m 0 c).arrAt 13 cfg0.N = G13 X G C := by
  refine (dats m 0 c).arrAt_eq_of_covers 13 (G13 X G C) (by decide +kernel) (fun t hf y => ?_)
  have ht : t.val = 3 := by have := (flush0_13 t).1 hf; have := pt_lt t; omega
  show (dats m 0 c).after 13 t _ = _
  rw [after0_13]
  suffices H : ∀ y : S1024x512.Idx, (outsAt0 m c t.val t.isLt).2.2.2.2 y = (G13 X G C) (((cfg0.win 13).blk t).view.emb y) from H y
  intro y
  refine Eq.trans ?_ (at_ix (G13 X G C) _ (y 0) (y 1) ?_ ?_).symm
  · exact (congrArg _ (ix2_eta y).symm).trans ((acc_dc A t.val t.isLt (y 0) (y 1)).trans (by rw [ht]; exact rows_sum fun n => HH X G n (y 0) * padc (C n) (y 1)))
  · show win0_13.index t 0 * 1024 + 1 * (y 0).val = _; rw [(index_out t).2.2.2.2.1]; omega
  · show win0_13.index t 1 * 512 + 1 * (y 1).val = _; rw [(index_out t).2.2.2.2.2]; omega

end Arrays

end Cert.InprojIdeal.Hand
end
-- ==== Proof.InprojHost.lean ====
module

public import proofs.«01_k».proof.Proof.InprojArr

/-! The host lines before the input projection's backward kernel: its nine arguments from the layer's own arrays. -/

@[expose] public section

set_option maxRecDepth 16384

noncomputable section

open Idealize.ShloMosaic Idealize.ShloMosaic.TcCoe Idealize.SL.Sem

namespace Cert.InprojIdeal.Hand

open Cert.InprojIdeal Cert.InprojIdeal.Gen
open Cert

section AnyFloat
variable {F : FTy → Type} [FloatOps F]

/-- The nine arguments as functions of the arrays. -/
def argX (x : FVec F S1x2048x1024 .f32) : FVec F S2048x1024 .f32 := shapeCast S2048x1024 x shapeCasts_S1x2048x1024_S2048x1024
def argG (g : FVec F S1024 .f32) : FVec F S1x1024 .f32 := broadcastInDim S1x1024 ![1] bcast_S1024_S1x1024_1 g
def argW (w : FVec F S1024x1952 .f32) : FVec F S1024x1952 .bf16 := truncf .bf16 w bitsLt_bf16_f32
def argC (x : FVec F S1x2048x1952 .f32) : FVec F S2048x1952 .f32 := shapeCast S2048x1952 x shapeCasts_S1x2048x1952_S2048x1952
def argWa (w : FVec F S1024x1952 .f32) : FVec F S1024x512 .bf16 := extractStridedSlice S1024x512 ![0, 0] (argW w) slices_S1024x1952_S1024x512_0_0
def argWb (w : FVec F S1024x1952 .f32) : FVec F S1024x1024 .bf16 := extractStridedSlice S1024x1024 ![0, 512] (argW w) slices_S1024x1952_S1024x1024_0_512
def argWc (w : FVec F S1024x1952 .f32) : FVec F S1024x512 .bf16 :=
  pad S1024x512 ![0, 0] ![0, 96] ![0, 0] (extractStridedSlice S1024x416 ![0, 1536] (argW w) slices_S1024x1952_S1024x416_0_1536)
    (sitofp .bf16 (constantI S_ 32 0#32)) pads_S1024x416_S1024x512_000_0960 h_S_
def argCa (x : FVec F S1x2048x1952 .f32) : FVec F S2048x512 .f32 := extractStridedSlice S2048x512 ![0, 0] (argC x) slices_S2048x1952_S2048x512_0_0
def argCb (x : FVec F S1x2048x1952 .f32) : FVec F S2048x1024 .f32 := extractStridedSlice S2048x1024 ![0, 512] (argC x) slices_S2048x1952_S2048x1024_0_512
def argCc (x : FVec F S1x2048x1952 .f32) : FVec F S2048x512 .f32 :=
  pad S2048x512 ![0, 0] ![0, 96] ![0, 0] (extractStridedSlice S2048x416 ![0, 1536] (argC x) slices_S2048x1952_S2048x416_0_1536)
    (sitofp .f32 (constantI S_ 32 0#32)) pads_S2048x416_S2048x512_000_0960 h_S_

variable (m : (ℓ : Loc nD τ sig) → Buf (Elt F) ℓ) (c : Dev nD)

theorem V_all : V m c main_v6 = argX (m ((c : Thread nD τ).loc main_arg0)) ∧ V m c main_v7 = argG (m ((c : Thread nD τ).loc main_arg1))
    ∧ V m c main_v8 = argWa (m ((c : Thread nD τ).loc main_arg2)) ∧ V m c main_v9 = argWb (m ((c : Thread nD τ).loc main_arg2)) ∧ V m c main_v2 = argWc (m ((c : Thread nD τ).loc main_arg2))
    ∧ V m c main_v10 = argCa (m ((c : Thread nD τ).loc main_arg3)) ∧ V m c main_v11 = argCb (m ((c : Thread nD τ).loc main_arg3)) ∧ V m c main_v5 = argCc (m ((c : Thread nD τ).loc main_arg3))
    ∧ V m c main_v12 = argX (m ((c : Thread nD τ).loc main_arg4)) := by
  refine ⟨?_, ?_, ?_, ?_, ?_, ?_, ?_, ?_, ?_⟩
  all_goals
    unfold V
    simp only [hostOps0, hostOps0_1, hostOps0_2, hostOps0_3, hostOps0_4, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
    after_results_simp <;> rfl

end AnyFloat

section Ideal
theorem zero_word (f : FTy) : FloatOps.sitofp (F := Ideal) f (0x00000000#32 : BitVec 32) = 0 := by
  show (((BitVec.toInt 0x00000000#32 : ℤ) : ℝ) : EReal) = 0
  norm_num
theorem argX_apply (x : FVec Ideal S1x2048x1024 .f32) (n : Fin 2048) (d : Fin 1024) : argX x (ix2 n d) = x (ix3 0 n d) := by pointwise [argX]
theorem argG_apply (g : FVec Ideal S1024 .f32) (d : Fin 1024) : argG g (ix2 0 d) = g (ix1 d) := by pointwise [argG]
theorem argWa_apply (w : FVec Ideal S1024x1952 .f32) (d : Fin 1024) (j : Fin 512) : argWa w (ix2 d j) = w (ix2 d (ja j)) := by
  pointwise [argWa, argW]
  rfl
theorem argWb_apply (w : FVec Ideal S1024x1952 .f32) (d j : Fin 1024) : argWb w (ix2 d j) = w (ix2 d (jb j)) := by
  pointwise [argWb, argW]
  rfl
theorem argWc_apply (w : FVec Ideal S1024x1952 .f32) (d : Fin 1024) (j : Fin 512) : argWc w (ix2 d j) = padc (fun k => w (ix2 d k)) j := by
  rw [padc]
  pointwise [argWc, argW]
  rw [zero_word]
theorem argCa_apply (x : FVec Ideal S1x2048x1952 .f32) (n : Fin 2048) (j : Fin 512) : argCa x (ix2 n j) = x (ix3 0 n (ja j)) := by
  pointwise [argCa, argC]
  rfl
theorem argCb_apply (x : FVec Ideal S1x2048x1952 .f32) (n : Fin 2048) (j : Fin 1024) : argCb x (ix2 n j) = x (ix3 0 n (jb j)) := by
  pointwise [argCb, argC]
  rfl
theorem argCc_apply (x : FVec Ideal S1x2048x1952 .f32) (n : Fin 2048) (j : Fin 512) : argCc x (ix2 n j) = padc (fun k => x (ix3 0 n k)) j := by
  rw [padc]
  pointwise [argCc, argC]
  rw [zero_word]

variable (x0 : FVec Ideal S1x2048x1024 .f32) (x1 : FVec Ideal S1024 .f32) (x2 : FVec Ideal S1024x1952 .f32) (x3 : FVec Ideal S1x2048x1952 .f32) (x4 : FVec Ideal S1x2048x1024 .f32)

/-- The arrays by their entries. -/
def fX (n : Fin 2048) (d : Fin 1024) : EReal := x0 (ix3 0 n d)
def fG (d : Fin 1024) : EReal := x1 (ix1 d)
def fW (d : Fin 1024) (j : Fin 1952) : EReal := x2 (ix2 d j)
def fC (n : Fin 2048) (j : Fin 1952) : EReal := x3 (ix3 0 n j)

variable (m : (ℓ : Loc nD τ sig) → Buf (Elt Ideal) ℓ) (c : Dev nD)

theorem args (h0 : m ((c : Thread nD τ).loc main_arg0) = x0) (h1 : m ((c : Thread nD τ).loc main_arg1) = x1) (h2 : m ((c : Thread nD τ).loc main_arg2) = x2)
    (h3 : m ((c : Thread nD τ).loc main_arg3) = x3) (h4 : m ((c : Thread nD τ).loc main_arg4) = x4) : Args m c (fX x0) (fG x1) (fW x2) (fC x3) (fX x4) := by
  obtain ⟨e0, e1, e2, e3, e4, e5, e6, e7, e8⟩ := V_all m c
  rw [h0] at e0; rw [h1] at e1; rw [h2] at e2 e3 e4; rw [h3] at e5 e6 e7; rw [h4] at e8
  exact ⟨fun n d => (congrFun e0 _).trans (argX_apply _ n d), fun d => (congrFun e1 _).trans (argG_apply _ d), fun d j => (congrFun e2 _).trans (argWa_apply _ d j),
    fun d j => (congrFun e3 _).trans (argWb_apply _ d j), fun d j => (congrFun e4 _).trans (argWc_apply _ d j), fun n j => (congrFun e5 _).trans (argCa_apply _ n j),
    fun n j => (congrFun e6 _).trans (argCb_apply _ n j), fun n j => (congrFun e7 _).trans (argCc_apply _ n j), fun n d => (congrFun e8 _).trans (argX_apply _ n d)⟩
end Ideal

end Cert.InprojIdeal.Hand
end
-- ==== Proof.InprojRef.lean ====
module

public import proofs.«01_k».proof.Proof.InprojHost
public import proofs.«01_k».proof.Proof.Gen.InprojRefIdeal.Read
public import proofs.«01_k».proof.Proof.Gen.InprojRefIdeal.Run

/-! The input projection's reference: its five results entry by entry over the extended reals. -/

@[expose] public section

set_option maxRecDepth 16384

noncomputable section

open Idealize.ShloMosaic Idealize.ShloMosaic.TcCoe Idealize.SL.Sem

namespace Cert.InprojIdeal.Hand

open Cert.InprojRefIdeal Cert.InprojRefIdeal.Gen Cert.InprojRefIdeal.Read
open Cert

section Reductions
theorem red01 (x : FVec Ideal S1x1x1024 .f32) (d : Fin 1024) :
    Ideal.hostReduceAdd reducesTo_S1x1x1024_S1024_d0_1 x 0 (ix1 d) = x (ix3 0 0 d) := by
  rw [Ideal.hostReduceAdd, zero_add]
  refine Finset.sum_eq_single_of_mem (ix3 0 0 d) (Finset.mem_filter.2 ⟨Finset.mem_univ _, ?_⟩) fun i hi hne => absurd ?_ hne
  · funext a; match a with
    | ⟨0, _⟩ => rfl
  · have e := (Finset.mem_filter.1 hi).2
    funext a; apply Fin.ext; match a with
    | ⟨0, _⟩ => show (i 0).val = 0; exact Nat.lt_one_iff.1 (i 0).isLt
    | ⟨1, _⟩ => show (i 1).val = 0; exact Nat.lt_one_iff.1 (i 1).isLt
    | ⟨2, _⟩ => exact congrArg (fun z : S1024.Idx => (z 0).val) e

theorem red02 (x : FVec Ideal S1x2048x1 .f32) (n : Fin 2048) :
    Ideal.hostReduceAdd reducesTo_S1x2048x1_S2048_d0_2 x 0 (ix1 n) = x (ix3 0 n 0) := by
  rw [Ideal.hostReduceAdd, zero_add]
  refine Finset.sum_eq_single_of_mem (ix3 0 n 0) (Finset.mem_filter.2 ⟨Finset.mem_univ _, ?_⟩) fun i hi hne => absurd ?_ hne
  · funext a; match a with
    | ⟨0, _⟩ => rfl
  · have e := (Finset.mem_filter.1 hi).2
    funext a; apply Fin.ext; match a with
    | ⟨0, _⟩ => show (i 0).val = 0; exact Nat.lt_one_iff.1 (i 0).isLt
    | ⟨1, _⟩ => exact congrArg (fun z : S2048.Idx => (z 0).val) e
    | ⟨2, _⟩ => show (i 2).val = 0; exact Nat.lt_one_iff.1 (i 2).isLt
end Reductions

variable (x0 : FVec Ideal S1x2048x1024 .f32) (x1 : FVec Ideal S1024 .f32) (x2 : FVec Ideal S1024x1952 .f32) (x3 : FVec Ideal S1x2048x1952 .f32) (x4 : FVec Ideal S1x2048x1024 .f32)

theorem r6 (n : Fin 2048) : val_main_v6 (F := Ideal) x0 (ix3 0 n 0) = NormE.ms (fX x0 n) := by
  pointwise [val_main_v6, val_main_v5, val_main_v4, val_main_v3, val_main_v2, val_main_v1, val_main_v0, val_main_cst, val_main_cst_0, val_main_cst_1]
  rfl

theorem r7 (n : Fin 2048) : val_main_v7 (F := Ideal) x0 (ix3 0 n 0) = NormE.rs (fX x0 n) := by
  rw [val_main_v7_apply, r6]
  rfl

theorem r10 (n : Fin 2048) : val_main_v10 (F := Ideal) x0 (ix3 0 n 0) = NormE.co (fX x0 n) := by
  rw [NormE.co, ← r7, ← r6]
  unfold val_main_v10 val_main_v9 val_main_v8 val_main_cst_2
  generalize val_main_v7 (F := Ideal) x0 = a
  generalize val_main_v6 (F := Ideal) x0 = b
  pointwise

theorem r12 (n : Fin 2048) (d : Fin 1024) : val_main_v12 (F := Ideal) x0 (ix3 0 n d) = fX x0 n d * NormE.rs (fX x0 n) := by
  rw [← r7]
  unfold val_main_v12 val_main_v11
  generalize val_main_v7 (F := Ideal) x0 = a
  pointwise
  rfl

theorem r15 (n : Fin 2048) (d : Fin 1024) : val_main_v15 (F := Ideal) x0 x1 (ix3 0 n d) = HH (fX x0) (fG x1) n d := by
  rw [HH, ← r12]
  unfold val_main_v15 val_main_v14 val_main_v13
  generalize val_main_v12 (F := Ideal) x0 = a
  pointwise
  rfl

theorem r18 (d : Fin 1024) (j : Fin 1952) : val_main_v18 (F := Ideal) x0 x1 x3 (ix2 d j) = ∑ n, HH (fX x0) (fG x1) n d * fC x3 n j := by
  simp only [← r15, mul_comm (val_main_v15 (F := Ideal) x0 x1 _)]
  unfold val_main_v18 val_main_v17
  generalize val_main_v15 (F := Ideal) x0 x1 = a
  pointwise
  simp only [Finset.univ_unique, Finset.sum_singleton]
  rfl

theorem r19 (n : Fin 2048) (d : Fin 1024) : val_main_v19 (F := Ideal) x2 x3 (ix3 0 n d) = DH (fW x2) (fC x3) n d := by
  pointwise [val_main_v19]
  rfl

theorem r25 (d : Fin 1024) : val_main_v25 (F := Ideal) x0 x2 x3 (ix1 d) = ∑ n, DG (fX x0) (fW x2) (fC x3) n d := by
  simp only [DG, ← r12, ← r19]
  unfold val_main_v25 val_main_v22 val_main_v21 val_main_v20 val_main_cst_3 val_main_cst_4
  generalize val_main_v12 (F := Ideal) x0 = a
  generalize val_main_v19 (F := Ideal) x2 x3 = b
  pointwise
  rw [red01]
  pointwise

theorem r24 (n : Fin 2048) (d : Fin 1024) : val_main_v24 (F := Ideal) x1 x2 x3 (ix3 0 n d) = DH (fW x2) (fC x3) n d * fG x1 d := by
  rw [← r19]
  unfold val_main_v24 val_main_v23 val_main_v13
  generalize val_main_v19 (F := Ideal) x2 x3 = a
  pointwise
  rfl

theorem r35 (n : Fin 2048) : val_main_v35 (F := Ideal) x0 x1 x2 x3 (ix1 n) = NormE.qq (fX x0 n) (fG x1) (DH (fW x2) (fC x3) n) := by
  simp only [NormE.qq, ← r10, ← r24]
  unfold val_main_v35 val_main_v34 val_main_v33 val_main_v32 val_main_v28 val_main_v27 val_main_v26 val_main_cst_5 val_main_cst_6 val_main_cst_7
  generalize val_main_v10 (F := Ideal) x0 = a
  generalize val_main_v24 (F := Ideal) x1 x2 x3 = b
  pointwise
  rw [red02]
  pointwise
  rfl

theorem r41 (n : Fin 2048) (d : Fin 1024) : val_main_v41 (F := Ideal) x0 x1 x2 x3 x4 (ix3 0 n d)
    = fX x4 n d + DH (fW x2) (fC x3) n d * fG x1 d * NormE.rs (fX x0 n) + fX x0 n d * NormE.qq (fX x0 n) (fG x1) (DH (fW x2) (fC x3) n)
      + NormE.qq (fX x0 n) (fG x1) (DH (fW x2) (fC x3) n) * fX x0 n d := by
  rw [← r24, ← r35, ← r7]
  unfold val_main_v41 val_main_v40 val_main_v39 val_main_v38 val_main_v37 val_main_v36 val_main_v31 val_main_v30 val_main_v29
  generalize val_main_v35 (F := Ideal) x0 x1 x2 x3 = a
  generalize val_main_v24 (F := Ideal) x1 x2 x3 = b
  generalize val_main_v7 (F := Ideal) x0 = e
  pointwise
  rfl

/-! The results. -/

theorem res_dx : val_main_v42 (F := Ideal) x0 x1 x2 x3 x4 = G9 (fX x0) (fG x1) (fW x2) (fC x3) (fX x4) := by
  funext y
  obtain ⟨n, d, rfl⟩ : ∃ n d, y = ix2 n d := ⟨y 0, y 1, (ix2_eta y).symm⟩
  refine Eq.trans ?_ ((r41 x0 x1 x2 x3 x4 n d).trans ?_)
  · unfold val_main_v42
    generalize val_main_v41 (F := Ideal) x0 x1 x2 x3 x4 = a
    pointwise
  · show _ = NormE.dx (fX x0 n) (fG x1) (DH (fW x2) (fC x3) n) d + fX x4 n d
    rw [NormE.dx, add_comm _ (fX x4 n d), ← add_assoc, ← add_assoc]

theorem res_dg : val_main_v43 (F := Ideal) x0 x2 x3 = G10 (fX x0) (fW x2) (fC x3) := by
  funext y
  obtain ⟨z, d, rfl⟩ : ∃ z d, y = ix2 z d := ⟨y 0, y 1, (ix2_eta y).symm⟩
  refine Eq.trans ?_ (r25 x0 x2 x3 d)
  unfold val_main_v43
  generalize val_main_v25 (F := Ideal) x0 x2 x3 = a
  pointwise

theorem res_da : val_main_v44 (F := Ideal) x0 x1 x3 = G11 (fX x0) (fG x1) (fC x3) := by
  funext y
  obtain ⟨d, j, rfl⟩ : ∃ d j, y = ix2 d j := ⟨y 0, y 1, (ix2_eta y).symm⟩
  refine Eq.trans ?_ (r18 x0 x1 x3 d (ja j))
  unfold val_main_v44
  generalize val_main_v18 (F := Ideal) x0 x1 x3 = a
  pointwise
  rfl

theorem res_db : val_main_v45 (F := Ideal) x0 x1 x3 = G12 (fX x0) (fG x1) (fC x3) := by
  funext y
  obtain ⟨d, j, rfl⟩ : ∃ d j, y = ix2 d j := ⟨y 0, y 1, (ix2_eta y).symm⟩
  refine Eq.trans ?_ (r18 x0 x1 x3 d (jb j))
  unfold val_main_v45
  generalize val_main_v18 (F := Ideal) x0 x1 x3 = a
  pointwise
  rfl

theorem res_dc : val_main_v47 (F := Ideal) x0 x1 x3 = G13 (fX x0) (fG x1) (fC x3) := by
  funext y
  obtain ⟨d, j, rfl⟩ : ∃ d j, y = ix2 d j := ⟨y 0, y 1, (ix2_eta y).symm⟩
  have e : val_main_v47 (F := Ideal) x0 x1 x3 (ix2 d j) = if h : j.val < 416 then val_main_v18 (F := Ideal) x0 x1 x3 (ix2 d ⟨1536 + j.val, by omega⟩) else 0 := by
    unfold val_main_v47 val_main_v46
    generalize val_main_v18 (F := Ideal) x0 x1 x3 = a
    pointwise [val_main_call0_v0]
    exact congrArg (fun z => dite (j.val < 416) _ fun _ => z) (zero_word .f32)
  refine e.trans ?_
  show _ = ∑ n, HH (fX x0) (fG x1) n d * padc (fC x3 n) j
  by_cases h : j.val < 416
  · rw [dif_pos h, r18]
    exact Finset.sum_congr rfl fun n _ => by rw [padc, dif_pos h]
  · rw [dif_neg h]
    exact (Finset.sum_eq_zero fun n _ => by rw [padc, dif_neg h, mul_zero]).symm

end Cert.InprojIdeal.Hand
end
-- ==== Proof.InprojClaim.lean ====
module

public import proofs.«01_k».proof.Defs
public import proofs.«01_k».proof.Proof.InprojRef
public import proofs.«01_k».proof.Proof.Gen.InprojIdeal.Value
public import proofs.«01_k».proof.Proof.Gen.Inproj.Frame
public import Idealize.ShloMosaic.Lib.Quiescent
public import Idealize.ShloMosaic.Lib.Claim

/-! The input projection's claims: the kernel's five results are the reference's, over the extended reals. -/

@[expose] public section

set_option maxRecDepth 16384

noncomputable section

open Idealize.ShloMosaic Idealize.ShloMosaic.TcCoe Idealize.SL.Sem

namespace Cert.InprojIdeal.Hand

open Cert.InprojIdeal Cert.InprojIdeal.Gen

theorem frame_ref : Cert.quiescent_InprojRefIdeal := fun m ρ _ =>
  (θ_run Cert.InprojRefIdeal.defs _ _).mono (fun r h => ⟨fun c => (h c).2.2.2.2.2, sem_eq_zero_of_no_sems (by decide) r.2⟩)
    (Cert.InprojRefIdeal.Value.run (F := Ideal) m ρ)

set_option maxHeartbeats 2000000 in
theorem algebraic : Cert.algebraic_InprojIdeal_InprojRefIdeal := by
  intro m g m' g' _ hagree
  refine ⟨fun c => (dats m 0 c).arrAt 9 cfg0.N, fun c => (dats m 0 c).arrAt 10 cfg0.N, fun c => (dats m 0 c).arrAt 11 cfg0.N,
    fun c => (dats m 0 c).arrAt 12 cfg0.N, fun c => (dats m 0 c).arrAt 13 cfg0.N, ?_, ?_⟩
  · exact Cert.InprojIdeal.Value.run_blocks (F := Ideal) m g
  · refine (θ_run Cert.InprojRefIdeal.defs _ _).mono (fun _ h c => ?_) (Cert.InprojRefIdeal.Value.run (F := Ideal) m' g')
    obtain ⟨a0, a1, a2, a3, a4⟩ := hagree c
    have A := args _ _ _ _ _ m c a0.symm a1.symm a2.symm a3.symm a4.symm
    have hc := h c
    clear h
    rw [Cert.InprojRefIdeal.Read.val_main_v42_eq, Cert.InprojRefIdeal.Read.val_main_v43_eq, Cert.InprojRefIdeal.Read.val_main_v44_eq,
      Cert.InprojRefIdeal.Read.val_main_v45_eq, Cert.InprojRefIdeal.Read.val_main_v47_eq] at hc
    obtain ⟨h1, h2, h3, h4, h5, h6⟩ := hc
    exact ⟨h1.trans ((res_dx ..).trans (arr9 A).symm), h2.trans ((res_dg ..).trans (arr10 A).symm), h3.trans ((res_da ..).trans (arr11 A).symm),
      h4.trans ((res_db ..).trans (arr12 A).symm), h5.trans ((res_dc ..).trans (arr13 A).symm), h6⟩

end Cert.InprojIdeal.Hand
end
-- ==== Proof.InprojFwdClaim.lean ====
module

public import proofs.«01_k».proof.Defs
public import proofs.«01_k».proof.Proof.InprojHost
public import proofs.«01_k».proof.Proof.Gen.InprojFwd.Frame
public import proofs.«01_k».proof.Proof.Gen.InprojFwdIdeal.Value
public import proofs.«01_k».proof.Proof.Gen.InprojFwdRefIdeal.Read
public import proofs.«01_k».proof.Proof.Gen.InprojFwdRefIdeal.Run
public import Idealize.ShloMosaic.Lib.Pointwise
public import Idealize.ShloMosaic.Lib.Pipeline.ValueKit
public import Idealize.ShloMosaic.Lib.Quiescent

/-! The input projection's forward kernel: the layer's normed rows times the three groups of the projection's columns. -/

@[expose] public section

set_option maxRecDepth 16384

noncomputable section

open Idealize.ShloMosaic Idealize.ShloMosaic.TcCoe Idealize.SL.Sem

namespace Cert.InprojFwdIdeal.Hand

open Cert.InprojFwdIdeal Cert.InprojFwdIdeal.Gen
open Cert
open Cert.InprojIdeal.Hand (ja jb padc row at_ix HH hz2 argX argG argWa argWb argWc argX_apply argG_apply argWa_apply argWb_apply argWc_apply zero_word)

section Payloads
variable (x : FVec Ideal S512x1024 .f32) (g : FVec Ideal S1x1024 .f32)

theorem pay1_apply (n : Fin 512) (d : Fin 1024) : k0_pay1 (F := Ideal) x g (ix2 n d) = x (ix2 n d) * NormE.rs (fun k => x (ix2 n k)) * g (ix2 0 d) := by
  rw [NormE.rs, NormE.ms]
  pointwise [k0_pay1]
theorem pay2_apply (w : FVec Ideal S1024x512 .bf16) (n j : Fin 512) :
    k0_pay2 (F := Ideal) x g w (ix2 n j) = ∑ d : Fin 1024, x (ix2 n d) * NormE.rs (fun k => x (ix2 n k)) * g (ix2 0 d) * w (ix2 d j) := by
  simp only [← pay1_apply]
  unfold k0_pay2
  generalize k0_pay1 (F := Ideal) x g = a
  pointwise
theorem pay3_apply (w : FVec Ideal S1024x1024 .bf16) (n : Fin 512) (j : Fin 1024) :
    k0_pay3 (F := Ideal) x g w (ix2 n j) = ∑ d : Fin 1024, x (ix2 n d) * NormE.rs (fun k => x (ix2 n k)) * g (ix2 0 d) * w (ix2 d j) := by
  simp only [← pay1_apply]
  unfold k0_pay3
  generalize k0_pay1 (F := Ideal) x g = a
  pointwise
theorem pay4_apply (w : FVec Ideal S1024x512 .bf16) (n j : Fin 512) :
    k0_pay4 (F := Ideal) x g w (ix2 n j) = ∑ d : Fin 1024, x (ix2 n d) * NormE.rs (fun k => x (ix2 n k)) * g (ix2 0 d) * w (ix2 d j) := by
  simp only [← pay1_apply]
  unfold k0_pay4
  generalize k0_pay1 (F := Ideal) x g = a
  pointwise
end Payloads

section Outs
variable {F : FTy → Type} [FloatOps F]
variable (x0 : Vec F S512x1024 .f32) (x1 : Vec F S1x1024 .f32) (x2 : Vec F S1024x512 .bf16) (x3 : Vec F S1024x1024 .bf16) (x4 : Vec F S1024x512 .bf16)

theorem outs : out0_5 x0 x1 x2 x3 x4 = k0_pay2 x0 x1 x2 ∧ out0_6 x0 x1 x2 x3 x4 = k0_pay3 x0 x1 x3 ∧ out0_7 x0 x1 x2 x3 x4 = k0_pay4 x0 x1 x4 := by
  refine ⟨?_, ?_, ?_⟩
  all_goals
    first | unfold out0_5 | unfold out0_6 | unfold out0_7
    rw [View.canon_unit_zero hz2]
    simp only [View.ld_unit_zero (S := S512x1024) hz2, View.ld_unit_zero (S := S1x1024) hz2,
      View.ld_unit_zero (S := S1024x512) hz2, View.ld_unit_zero (S := S1024x1024) hz2]
end Outs

section Host
variable {F : FTy → Type} [FloatOps F]

variable (m : (ℓ : Loc nD τ sig) → Buf (Elt F) ℓ) (c : Dev nD)

theorem V_all : V m c main_v3 = argX (F := F) (m ((c : Thread nD τ).loc main_arg0)) ∧ V m c main_v4 = argG (F := F) (m ((c : Thread nD τ).loc main_arg1))
    ∧ V m c main_v5 = argWa (F := F) (m ((c : Thread nD τ).loc main_arg2)) ∧ V m c main_v6 = argWb (F := F) (m ((c : Thread nD τ).loc main_arg2))
    ∧ V m c main_v2 = argWc (F := F) (m ((c : Thread nD τ).loc main_arg2)) := by
  refine ⟨?_, ?_, ?_, ?_, ?_⟩
  all_goals
    unfold V
    simp only [hostOps0, hostOps0_1, hostOps0_2, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
    after_results_simp <;> rfl
end Host

section Whole
variable (x0 : FVec Ideal S1x2048x1024 .f32) (x1 : FVec Ideal S1024 .f32) (x2 : FVec Ideal S1024x1952 .f32)

/-- The projection of a row, and the three results by their entries. -/
def Z (n : Fin 2048) (j : Fin 1952) : EReal := ∑ d, HH (fun n d => x0 (ix3 0 n d)) (fun d => x1 (ix1 d)) n d * x2 (ix2 d j)
def G5 (y : S2048x512.Idx) : EReal := Z x0 x1 x2 (y 0) (ja (y 1))
def G6 (y : S2048x1024.Idx) : EReal := Z x0 x1 x2 (y 0) (jb (y 1))
def G7 (y : S2048x512.Idx) : EReal := padc (Z x0 x1 x2 (y 0)) (y 1)

theorem z_pad (n : Fin 2048) (j : Fin 512) :
    ∑ d, HH (fun n d => x0 (ix3 0 n d)) (fun d => x1 (ix1 d)) n d * padc (fun k => x2 (ix2 d k)) j = padc (Z x0 x1 x2 n) j := by
  by_cases h : j.val < 416
  · rw [padc, dif_pos h]
    exact Finset.sum_congr rfl fun d _ => by rw [padc, dif_pos h]
  · rw [padc, dif_neg h]
    exact Finset.sum_eq_zero fun d _ => by rw [padc, dif_neg h, mul_zero]
end Whole

section Arrays
variable (m : (ℓ : Loc nD τ sig) → Buf (Elt Ideal) ℓ) (c : Dev nD)

theorem index_in : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0) ∧ (win0_4.index t 0 = 0 ∧ win0_4.index t 1 = 0) := by decide +kernel
theorem index_out : ∀ t : Fin cfg0.N, (win0_5.index t 0 = t.val ∧ win0_5.index t 1 = 0) ∧ (win0_6.index t 0 = t.val ∧ win0_6.index t 1 = 0)
    ∧ (win0_7.index t 0 = t.val ∧ win0_7.index t 1 = 0) := by decide +kernel
theorem pt_lt (t : Fin cfg0.N) : t.val < 4 := by have := t.isLt; have : cfg0.N = 4 := N_0; omega

/-- The row of a point's tile. -/
abbrev tr (t : Fin cfg0.N) (n : Fin 512) : Fin 2048 := row (512 * t.val + n.val)
theorem tr_val (t : Fin cfg0.N) (n : Fin 512) : (tr t n).val = 512 * t.val + n.val := Nat.mod_eq_of_lt (by have := pt_lt t; omega)

/-- The kernel's three arrays in the launch memory. -/
structure Args (x0 : FVec Ideal S1x2048x1024 .f32) (x1 : FVec Ideal S1024 .f32) (x2 : FVec Ideal S1024x1952 .f32) : Prop where
  h0 : m ((c : Thread nD τ).loc main_arg0) = x0
  h1 : m ((c : Thread nD τ).loc main_arg1) = x1
  h2 : m ((c : Thread nD τ).loc main_arg2) = x2

variable {m c} {x0 : FVec Ideal S1x2048x1024 .f32} {x1 : FVec Ideal S1024 .f32} {x2 : FVec Ideal S1024x1952 .f32} (A : Args m c x0 x1 x2) (t : Fin cfg0.N)

include A in
theorem blk0 (n : Fin 512) (d : Fin 1024) : (iblk m c 0 t : S512x1024.Idx → EReal) (ix2 n d) = x0 (ix3 0 (tr t n) d) :=
  (at_ix (V m c main_v3) (((cfg0.win 0).blk t).view.emb (ix2 n d)) (tr t n) d
    (by rw [tr_val]; show win0_0.index t 0 * 512 + 1 * n.val = _; rw [(index_in t).1.1]; omega)
    (by show win0_0.index t 1 * 1024 + 1 * d.val = _; rw [(index_in t).1.2]; omega)).trans
    ((congrFun ((V_all m c).1.trans (congrArg (argX (F := Ideal)) A.h0)) _).trans (argX_apply _ _ _))
include A in
theorem blk1 (d : Fin 1024) : (iblk m c 1 t : S1x1024.Idx → EReal) (ix2 0 d) = x1 (ix1 d) :=
  (at_ix (V m c main_v4) (((cfg0.win 1).blk t).view.emb (ix2 0 d)) 0 d
    (by show win0_1.index t 0 * 1 + 1 * 0 = _; rw [(index_in t).2.1.1]; rfl)
    (by show win0_1.index t 1 * 1024 + 1 * d.val = _; rw [(index_in t).2.1.2]; omega)).trans
    ((congrFun ((V_all m c).2.1.trans (congrArg (argG (F := Ideal)) A.h1)) _).trans (argG_apply _ _))
include A in
theorem blk2 (d : Fin 1024) (j : Fin 512) : (iblk m c 2 t : S1024x512.Idx → EReal) (ix2 d j) = x2 (ix2 d (ja j)) :=
  (at_ix (V m c main_v5) (((cfg0.win 2).blk t).view.emb (ix2 d j)) d j
    (by show win0_2.index t 0 * 1024 + 1 * d.val = _; rw [(index_in t).2.2.1.1]; omega)
    (by show win0_2.index t 1 * 512 + 1 * j.val = _; rw [(index_in t).2.2.1.2]; omega)).trans
    ((congrFun ((V_all m c).2.2.1.trans (congrArg (argWa (F := Ideal)) A.h2)) _).trans (argWa_apply _ _ _))
include A in
theorem blk3 (d j : Fin 1024) : (iblk m c 3 t : S1024x1024.Idx → EReal) (ix2 d j) = x2 (ix2 d (jb j)) :=
  (at_ix (V m c main_v6) (((cfg0.win 3).blk t).view.emb (ix2 d j)) d j
    (by show win0_3.index t 0 * 1024 + 1 * d.val = _; rw [(index_in t).2.2.2.1.1]; omega)
    (by show win0_3.index t 1 * 1024 + 1 * j.val = _; rw [(index_in t).2.2.2.1.2]; omega)).trans
    ((congrFun ((V_all m c).2.2.2.1.trans (congrArg (argWb (F := Ideal)) A.h2)) _).trans (argWb_apply _ _ _))
include A in
theorem blk4 (d : Fin 1024) (j : Fin 512) : (iblk m c 4 t : S1024x512.Idx → EReal) (ix2 d j) = padc (fun k => x2 (ix2 d k)) j :=
  (at_ix (V m c main_v2) (((cfg0.win 4).blk t).view.emb (ix2 d j)) d j
    (by show win0_4.index t 0 * 1024 + 1 * d.val = _; rw [(index_in t).2.2.2.2.1]; omega)
    (by show win0_4.index t 1 * 512 + 1 * j.val = _; rw [(index_in t).2.2.2.2.2]; omega)).trans
    ((congrFun ((V_all m c).2.2.2.2.trans (congrArg (argWc (F := Ideal)) A.h2)) _).trans (argWc_apply _ _ _))

theorem h_pt (u : FVec Ideal S512x1024 .f32) (v : FVec Ideal S1x1024 .f32) (hu : ∀ n d, u (ix2 n d) = x0 (ix3 0 (tr t n) d))
    (hv : ∀ d, v (ix2 0 d) = x1 (ix1 d)) (n : Fin 512) (d : Fin 1024) :
    u (ix2 n d) * NormE.rs (fun k => u (ix2 n k)) * v (ix2 0 d) = HH (fun n d => x0 (ix3 0 n d)) (fun d => x1 (ix1 d)) (tr t n) d := by
  rw [hv, show (fun k => u (ix2 n k)) = fun k => x0 (ix3 0 (tr t n) k) from funext fun k => hu n k, hu]
  rfl

include A in
theorem arr5 : (dats m 0 c).arrAt 5 cfg0.N = G5 x0 x1 x2 := by
  refine (dats m 0 c).arrAt_eq_of_covers 5 (G5 x0 x1 x2) (by decide +kernel) (fun t hf y => ?_)
  show (dats m 0 c).after 5 t _ = _
  rw [after0_5, (outs ..).1]
  suffices H : ∀ y : S512x512.Idx, k0_pay2 (F := Ideal) (iblk m c 0 t) (iblk m c 1 t) (iblk m c 2 t) y = (G5 x0 x1 x2) (((cfg0.win 5).blk t).view.emb y) from H y
  intro y
  obtain ⟨n, j, rfl⟩ : ∃ n j, y = ix2 n j := ⟨y 0, y 1, (ix2_eta y).symm⟩
  refine Eq.trans ?_ (at_ix (G5 x0 x1 x2) _ (tr t n) j ?_ ?_).symm
  · exact (pay2_apply _ _ _ n j).trans (Finset.sum_congr rfl fun d _ => congrArg₂ (· * ·) (h_pt t _ _ (blk0 A t) (blk1 A t) n d) (blk2 A t d j))
  · rw [tr_val]; show win0_5.index t 0 * 512 + 1 * n.val = _; rw [(index_out t).1.1]; omega
  · show win0_5.index t 1 * 512 + 1 * j.val = _; rw [(index_out t).1.2]; omega

include A in
theorem arr6 : (dats m 0 c).arrAt 6 cfg0.N = G6 x0 x1 x2 := by
  refine (dats m 0 c).arrAt_eq_of_covers 6 (G6 x0 x1 x2) (by decide +kernel) (fun t hf y => ?_)
  show (dats m 0 c).after 6 t _ = _
  rw [after0_6, (outs ..).2.1]
  suffices H : ∀ y : S512x1024.Idx, k0_pay3 (F := Ideal) (iblk m c 0 t) (iblk m c 1 t) (iblk m c 3 t) y = (G6 x0 x1 x2) (((cfg0.win 6).blk t).view.emb y) from H y
  intro y
  obtain ⟨n, j, rfl⟩ : ∃ n j, y = ix2 n j := ⟨y 0, y 1, (ix2_eta y).symm⟩
  refine Eq.trans ?_ (at_ix (G6 x0 x1 x2) _ (tr t n) j ?_ ?_).symm
  · exact (pay3_apply _ _ _ n j).trans (Finset.sum_congr rfl fun d _ => congrArg₂ (· * ·) (h_pt t _ _ (blk0 A t) (blk1 A t) n d) (blk3 A t d j))
  · rw [tr_val]; show win0_6.index t 0 * 512 + 1 * n.val = _; rw [(index_out t).2.1.1]; omega
  · show win0_6.index t 1 * 1024 + 1 * j.val = _; rw [(index_out t).2.1.2]; omega

include A in
theorem arr7 : (dats m 0 c).arrAt 7 cfg0.N = G7 x0 x1 x2 := by
  refine (dats m 0 c).arrAt_eq_of_covers 7 (G7 x0 x1 x2) (by decide +kernel) (fun t hf y => ?_)
  show (dats m 0 c).after 7 t _ = _
  rw [after0_7, (outs ..).2.2]
  suffices H : ∀ y : S512x512.Idx, k0_pay4 (F := Ideal) (iblk m c 0 t) (iblk m c 1 t) (iblk m c 4 t) y = (G7 x0 x1 x2) (((cfg0.win 7).blk t).view.emb y) from H y
  intro y
  obtain ⟨n, j, rfl⟩ : ∃ n j, y = ix2 n j := ⟨y 0, y 1, (ix2_eta y).symm⟩
  refine Eq.trans ?_ (at_ix (G7 x0 x1 x2) _ (tr t n) j ?_ ?_).symm
  · exact ((pay4_apply _ _ _ n j).trans (Finset.sum_congr rfl fun d _ => congrArg₂ (· * ·) (h_pt t _ _ (blk0 A t) (blk1 A t) n d) (blk4 A t d j))).trans (z_pad x0 x1 x2 (tr t n) j)
  · rw [tr_val]; show win0_7.index t 0 * 512 + 1 * n.val = _; rw [(index_out t).2.2.1]; omega
  · show win0_7.index t 1 * 512 + 1 * j.val = _; rw [(index_out t).2.2.2]; omega
end Arrays

section Reference
open Cert.InprojFwdRefIdeal Cert.InprojFwdRefIdeal.Gen Cert.InprojFwdRefIdeal.Read
variable (x0 : FVec Ideal S1x2048x1024 .f32) (x1 : FVec Ideal S1024 .f32) (x2 : FVec Ideal S1024x1952 .f32)

theorem r6 (n : Fin 2048) : val_main_v6 (F := Ideal) x0 (ix3 0 n 0) = NormE.ms (fun k => x0 (ix3 0 n k)) := by
  pointwise [val_main_v6, val_main_v5, val_main_v4, val_main_v3, val_main_v2, val_main_v1, val_main_v0, val_main_cst, val_main_cst_0, val_main_cst_1]
  rfl
theorem r7 (n : Fin 2048) : val_main_v7 (F := Ideal) x0 (ix3 0 n 0) = NormE.rs (fun k => x0 (ix3 0 n k)) := by
  rw [val_main_v7_apply, r6]
  rfl
theorem r12 (n : Fin 2048) (d : Fin 1024) : val_main_v12 (F := Ideal) x0 x1 (ix3 0 n d) = HH (fun n d => x0 (ix3 0 n d)) (fun d => x1 (ix1 d)) n d := by
  rw [HH, ← r7]
  unfold val_main_v12 val_main_v11 val_main_v10 val_main_v9 val_main_v8
  generalize val_main_v7 (F := Ideal) x0 = a
  pointwise
theorem r14 (n : Fin 2048) (j : Fin 1952) : val_main_v14 (F := Ideal) x0 x1 x2 (ix2 n j) = Z x0 x1 x2 n j := by
  simp only [Z, ← r12]
  unfold val_main_v14 val_main_v13
  generalize val_main_v12 (F := Ideal) x0 x1 = a
  pointwise
theorem res5 : val_main_v15 (F := Ideal) x0 x1 x2 = G5 x0 x1 x2 := by
  funext y
  obtain ⟨n, j, rfl⟩ : ∃ n j, y = ix2 n j := ⟨y 0, y 1, (ix2_eta y).symm⟩
  refine Eq.trans ?_ (r14 x0 x1 x2 n (ja j))
  unfold val_main_v15
  generalize val_main_v14 (F := Ideal) x0 x1 x2 = a
  pointwise
  rfl
theorem res6 : val_main_v16 (F := Ideal) x0 x1 x2 = G6 x0 x1 x2 := by
  funext y
  obtain ⟨n, j, rfl⟩ : ∃ n j, y = ix2 n j := ⟨y 0, y 1, (ix2_eta y).symm⟩
  refine Eq.trans ?_ (r14 x0 x1 x2 n (jb j))
  unfold val_main_v16
  generalize val_main_v14 (F := Ideal) x0 x1 x2 = a
  pointwise
  rfl
theorem res7 : val_main_v18 (F := Ideal) x0 x1 x2 = G7 x0 x1 x2 := by
  funext y
  obtain ⟨n, j, rfl⟩ : ∃ n j, y = ix2 n j := ⟨y 0, y 1, (ix2_eta y).symm⟩
  have e : val_main_v18 (F := Ideal) x0 x1 x2 (ix2 n j) = if h : j.val < 416 then val_main_v14 (F := Ideal) x0 x1 x2 (ix2 n ⟨1536 + j.val, by omega⟩) else 0 := by
    unfold val_main_v18 val_main_v17
    generalize val_main_v14 (F := Ideal) x0 x1 x2 = a
    pointwise [val_main_call0_v0]
    exact congrArg (fun z => dite (j.val < 416) _ fun _ => z) (zero_word .f32)
  refine e.trans ?_
  show _ = padc (Z x0 x1 x2 n) j
  by_cases h : j.val < 416
  · rw [dif_pos h, r14, padc, dif_pos h]
  · rw [dif_neg h, padc, dif_neg h]
end Reference

theorem frame_ref : Cert.quiescent_InprojFwdRefIdeal := fun m ρ _ =>
  (θ_run Cert.InprojFwdRefIdeal.defs _ _).mono (fun r h => ⟨fun c => (h c).2.2.2, sem_eq_zero_of_no_sems (by decide) r.2⟩)
    (Cert.InprojFwdRefIdeal.Value.run (F := Ideal) m ρ)

theorem algebraic : Cert.algebraic_InprojFwdIdeal_InprojFwdRefIdeal := by
  intro m g m' g' _ hagree
  refine ⟨fun c => (dats m 0 c).arrAt 5 cfg0.N, fun c => (dats m 0 c).arrAt 6 cfg0.N, fun c => (dats m 0 c).arrAt 7 cfg0.N, ?_, ?_⟩
  · exact Cert.InprojFwdIdeal.Value.run_blocks (F := Ideal) m g
  · refine (θ_run Cert.InprojFwdRefIdeal.defs _ _).mono (fun _ h c => ?_) (Cert.InprojFwdRefIdeal.Value.run (F := Ideal) m' g')
    obtain ⟨a0, a1, a2⟩ := hagree c
    have A : Args m c _ _ _ := ⟨a0.symm, a1.symm, a2.symm⟩
    have hc := h c
    clear h
    rw [Cert.InprojFwdRefIdeal.Read.val_main_v15_eq, Cert.InprojFwdRefIdeal.Read.val_main_v16_eq, Cert.InprojFwdRefIdeal.Read.val_main_v18_eq] at hc
    obtain ⟨h1, h2, h3, h4⟩ := hc
    exact ⟨h1.trans ((res5 ..).trans (arr5 A).symm), h2.trans ((res6 ..).trans (arr6 A).symm), h3.trans ((res7 ..).trans (arr7 A).symm), h4⟩

end Cert.InprojFwdIdeal.Hand
end
-- ==== Proof.LbRef.lean ====
module

public import proofs.«01_k».proof.Proof.Gen.LbRefIdeal.Read
public import Idealize.ShloMosaic.Lib.Pointwise
public import Idealize.ShloMosaic.Lib.Pipeline.ValueKit
public import proofs.«01_k».proof.Proof.Rms

/-! The gradient of the forget gates' lower bounds, as the reference computes it, read on real arguments. -/

@[expose] public section

set_option maxRecDepth 16384

noncomputable section

open Idealize.ShloMosaic Idealize.ShloMosaic.TcCoe Idealize.SL.Sem

namespace Cert.Lower

theorem coe_max' (a b : ℝ) : ((max a b : ℝ) : EReal) = max (a : EReal) (b : EReal) := EReal.coe_strictMono.monotone.map_max

variable (x y : Fin 4 → Fin 256 → ℝ)

/-- An array of reals as an array of the extended reals. -/
def up : (⟨2, ![4, 256]⟩ : Shape).Idx → EReal := fun i => ((x (i 0) (i 1) : ℝ) : EReal)

/-- A column's greatest entry. -/
def mx (d : Fin 256) : ℝ := max (max (x 0 d) (x 1 d)) (max (x 2 d) (x 3 d))
/-- An entry's exponential, the greatest taken off. -/
def ex (k : Fin 4) (d : Fin 256) : ℝ := Real.exp (x k d - mx x d)
/-- The exponentials' sum. -/
def su (d : Fin 256) : ℝ := ex x 0 d + ex x 1 d + ex x 2 d + ex x 3 d
/-- The cotangent of one softmax entry: every later row's, the first row's taken off. -/
def ct (k : Fin 4) (d : Fin 256) : ℝ :=
  match k with
  | ⟨0, _⟩ => 0
  | ⟨1, _⟩ => y 1 d + y 2 d + y 3 d
  | ⟨2, _⟩ => y 2 d + y 3 d
  | ⟨3, _⟩ => y 3 d
/-- The gradient. -/
def out (k : Fin 4) (d : Fin 256) : ℝ :=
  (ct y k d / su x d - (∑ j, ct y j d * ex x j d) / (su x d * su x d)) * ex x k d

theorem ex_pos (k : Fin 4) (d : Fin 256) : 0 < ex x k d := Real.exp_pos _
theorem su_pos (d : Fin 256) : 0 < su x d := by
  unfold su; have := ex_pos x 0 d; have := ex_pos x 1 d; have := ex_pos x 2 d; have := ex_pos x 3 d; positivity

end Cert.Lower

namespace Cert.LbRefIdeal.Hand

open Cert.LbRefIdeal Cert.LbRefIdeal.Gen Cert.LbRefIdeal.Read Cert.Lower

variable (x y : Fin 4 → Fin 256 → ℝ)

theorem neg_inf : Ideal.ofBits .f32 0xFF800000#32 = ⊥ := by simp [Ideal.ofBits, Ideal.ieee]

theorem window_at (v : FVec Ideal S4x256 .f32) (p : Fin S4x256.rank → Nat) (n : Nat) (d : Fin 256) (h0 : p (0 : Fin 2) = n) (h1 : p (1 : Fin 2) = d.val)
    (inst : Decidable (∀ a : Fin S4x256.rank, (![0, 0] : Fin 2 → Nat) a ≤ p a ∧ p a - (![0, 0] : Fin 2 → Nat) a < S4x256.size a)) :
    @dite _ (∀ a : Fin S4x256.rank, (![0, 0] : Fin 2 → Nat) a ≤ p a ∧ p a - (![0, 0] : Fin 2 → Nat) a < S4x256.size a) inst
        (fun hin => v (fun a => ⟨p a - (![0, 0] : Fin 2 → Nat) a, (hin a).2⟩)) (fun _ => 0)
      = if hj : n < 4 then v (ix2 ⟨n, hj⟩ d) else 0 := by
  subst h0
  by_cases hj : p (0 : Fin 2) < 4
  · have hin : ∀ a : Fin S4x256.rank, (![0, 0] : Fin 2 → Nat) a ≤ p a ∧ p a - (![0, 0] : Fin 2 → Nat) a < S4x256.size a := by
      intro a
      match a with
      | ⟨0, _⟩ => exact ⟨Nat.zero_le _, hj⟩
      | ⟨1, _⟩ => exact ⟨Nat.zero_le _, (show p (1 : Fin 2) - 0 < 256 by rw [h1]; exact d.isLt)⟩
    rw [dif_pos hin, dif_pos hj]
    congr 1
    funext a
    match a with
    | ⟨0, _⟩ => rfl
    | ⟨1, _⟩ => exact Fin.ext (show p (1 : Fin 2) - 0 = d.val from h1)
  · rw [dif_neg hj, dif_neg]
    intro hin
    exact hj (hin (0 : Fin 2)).2

/-- Where a window's position lies in the padded array. -/
def wpos (k : Fin 4) (d : Fin 256) (n : Fin (⟨2, ![4, 1]⟩ : Shape).numel) : Fin S4x256.rank → Nat :=
  fun a => ((ix2 k d : S4x256.Idx) a).val * (![1, 1] : Fin 2 → Nat) a + ((⟨2, ![4, 1]⟩ : Shape).rowMajor.symm n a).val

/-- The sum over a window of four rows that reaches past the last row, from zero: the row and every later one. -/
theorem window_pt (v : FVec Ideal S4x256 .f32) (c : FVec Ideal S_ .f32) (h : S4x256.ReduceWindows ![4, 1] ![1, 1] ![0, 0] ![3, 0] S4x256)
    (hu : 0 < S_.numel) (hc : c (Shape.Idx.first hu) = 0) (k : Fin 4) (d : Fin 256) :
    Host.reduceWindowAdd ![4, 1] ![1, 1] ![0, 0] ![3, 0] v c h hu (ix2 k d)
      = ∑ j : Fin 4, if hj : k.val + j.val < 4 then v (ix2 ⟨k.val + j.val, hj⟩ d) else 0 := by
  show Host.reduceWindow (· + ·) ![4, 1] ![1, 1] ![0, 0] ![3, 0] v (fun _ : (⟨0, ![]⟩ : Shape).Idx => c (Shape.Idx.first hu)) h hu (ix2 k d) = _
  unfold Host.reduceWindow
  rw [hc]
  have e : List.finRange (⟨S4x256.rank, ![4, 1]⟩ : Shape).numel = [⟨0, by decide⟩, ⟨1, by decide⟩, ⟨2, by decide⟩, ⟨3, by decide⟩] := by rfl
  dsimp only
  rw [e]
  simp only [List.foldl_cons, List.foldl_nil, Fin.sum_univ_four, zero_add]
  refine congrArg₂ (· + ·) (congrArg₂ (· + ·) (congrArg₂ (· + ·) ?_ ?_) ?_) ?_
  · exact window_at v (wpos k d ⟨0, by decide⟩) (k.val + 0) d (by show k.val * 1 + 0 = _; omega) (by show d.val * 1 + 0 = _; omega) _
  · exact window_at v (wpos k d ⟨1, by decide⟩) (k.val + 1) d (by show k.val * 1 + 1 = _; omega) (by show d.val * 1 + 0 = _; omega) _
  · exact window_at v (wpos k d ⟨2, by decide⟩) (k.val + 2) d (by show k.val * 1 + 2 = _; omega) (by show d.val * 1 + 0 = _; omega) _
  · exact window_at v (wpos k d ⟨3, by decide⟩) (k.val + 3) d (by show k.val * 1 + 3 = _; omega) (by show d.val * 1 + 0 = _; omega) _

theorem max_pt (v : FVec Ideal S4x256 .f32) (d : Fin 256) : val_main_v7 (F := Ideal) v (ix1 d)
    = max (max (v (ix2 0 d)) (v (ix2 1 d))) (max (v (ix2 2 d)) (v (ix2 3 d))) := by
  unfold val_main_v7 val_main_v0 val_main_v6 val_main_cst_1 val_main_cst
  pointwise
  rw [neg_inf, show (Finset.univ : Finset (Fin 4)) = {0, 1, 2, 3} from rfl]
  simp [max_assoc]

theorem ex_pt (k : Fin 4) (d : Fin 256) : val_main_v20 (F := Ideal) (up x) (ix2 k d) = ((ex x k d : ℝ) : EReal) := by
  have h := max_pt (up x) d
  unfold val_main_v20 val_main_v19 val_main_v18 val_main_v17
  generalize val_main_v7 (F := Ideal) (up x) = a at h
  pointwise
  rw [h]
  show Ideal.exp (((x k d : ℝ) : EReal) - max (max ((x 0 d : ℝ) : EReal) ((x 1 d : ℝ) : EReal)) (max ((x 2 d : ℝ) : EReal) ((x 3 d : ℝ) : EReal))) = _
  simp only [← coe_max']
  rw [← EReal.coe_sub, Ideal.exp_coe]
  rfl

theorem su_pt (d : Fin 256) : val_main_v22 (F := Ideal) (up x) (ix2 0 d) = ((su x d : ℝ) : EReal) := by
  have h := fun k => ex_pt x k d
  unfold val_main_v22 val_main_v21 val_main_cst_7
  generalize val_main_v20 (F := Ideal) (up x) = a at h
  pointwise
  simp only [h, Ideal.ofBits_zero_f32, Fin.sum_univ_four, zero_add, ← EReal.coe_add]
  rfl

theorem ct_pt (k : Fin 4) (d : Fin 256) : val_main_v42 (F := Ideal) (up y) (ix2 k d) = ((ct y k d : ℝ) : EReal) := by
  have hw : val_main_v41 (F := Ideal) (up y) (ix2 k d)
      = ∑ j : Fin 4, if hj : k.val + j.val < 4 then val_main_v34 (F := Ideal) (up y) (ix2 ⟨k.val + j.val, hj⟩ d) else 0 := by
    unfold val_main_v41
    exact window_pt (val_main_v34 (F := Ideal) (up y)) _ _ h_S_ (by
      unfold val_main_call1_call0_v0 val_main_call1_call0_cst; pointwise) k d
  unfold val_main_v42 val_main_v40 val_main_v39 val_main_v38 val_main_v37 val_main_v36 val_main_v35 val_main_cst_9 val_main_cst_10 val_main_cst_11
  generalize val_main_v41 (F := Ideal) (up y) = a at hw
  unfold val_main_v34 at hw
  generalize hu : (up y : FVec Ideal S4x256 .f32) = u at hw ⊢
  have hu' : ∀ (k : Fin 4) (d : Fin 256), u (ix2 k d) = ((y k d : ℝ) : EReal) := fun k d => by rw [← hu]; rfl
  pointwise
  pointwise at hw
  rw [hw]
  simp only [hu', Finset.univ_unique, Finset.sum_singleton, Fin.sum_univ_four]
  fin_cases k <;>
    simp [ct, ← EReal.coe_neg, ← EReal.coe_add]
  all_goals ring_nf

theorem dot_pt (d : Fin 256) : val_main_v48 (F := Ideal) (up x) (up y) (ix2 0 d)
    = ((-(∑ j, ct y j d * ex x j d) / (su x d * su x d) : ℝ) : EReal) := by
  have h1 := fun k => ex_pt x k d
  have h2 := su_pt x d
  have h3 := fun k => ct_pt y k d
  have hs := su_pos x d
  unfold val_main_v48 val_main_v47 val_main_v46 val_main_v45 val_main_v44 val_main_v43 val_main_v27 val_main_v26 val_main_v25 val_main_cst_8 val_main_cst_12
  generalize val_main_v20 (F := Ideal) (up x) = a at h1
  generalize val_main_v22 (F := Ideal) (up x) = b at h2
  generalize val_main_v42 (F := Ideal) (up y) = g at h3
  pointwise
  simp only [h1, h2, h3, Ideal.ofBits_zero_f32, Ideal.ofBits_one_f32, zero_add, ← EReal.coe_mul]
  rw [Ideal.div_coe (mul_pos hs hs).ne']
  simp only [one_mul, ← EReal.coe_mul, Cert.Rms.coe_sum, ← EReal.coe_neg]
  congr 1
  rw [neg_div, Finset.sum_div]
  congr 1
  refine Finset.sum_congr rfl fun j _ => ?_
  ring

theorem out_pt (k : Fin 4) (d : Fin 256) : val_main_v54 (F := Ideal) (up x) (up y) (ix2 k d) = ((out x y k d : ℝ) : EReal) := by
  have h1 := fun k => ex_pt x k d
  have h2 := su_pt x d
  have h3 := fun k => ct_pt y k d
  have h4 := dot_pt x y d
  have hs := su_pos x d
  unfold val_main_v54 val_main_v53 val_main_v52 val_main_v51 val_main_v50 val_main_v49 val_main_cst_13
  generalize val_main_v48 (F := Ideal) (up x) (up y) = e at h4
  generalize val_main_v20 (F := Ideal) (up x) = a at h1
  generalize val_main_v22 (F := Ideal) (up x) = b at h2
  generalize val_main_v42 (F := Ideal) (up y) = g at h3
  pointwise
  simp only [Finset.univ_unique, Finset.sum_singleton]
  rw [show (default : Fin 1) = 0 from rfl]
  simp only [h1, h2, h3, h4, Ideal.ofBits_zero_f32, zero_add]
  rw [Ideal.div_coe hs.ne']
  simp only [← EReal.coe_mul, ← EReal.coe_add]
  unfold out
  congr 1
  ring

end Cert.LbRefIdeal.Hand

end
-- ==== Proof.LbPay.lean ====
module

public import proofs.«01_k».proof.Proof.Gen.LbIdeal.Value
public import proofs.«01_k».proof.Proof.LbRef
public import Idealize.ShloMosaic.Lib.Pointwise
public import Idealize.ShloMosaic.Lib.Pipeline.ValueKit

/-! The kernel of the lower bounds' gradient, read on real arguments. -/

@[expose] public section

set_option maxRecDepth 16384

noncomputable section

open Idealize.ShloMosaic Idealize.ShloMosaic.TcCoe Idealize.SL.Sem

namespace Cert.LbIdeal.Hand

open Cert.LbIdeal Cert.LbIdeal.Gen Cert.Lower

variable (x y : Fin 4 → Fin 256 → ℝ) (d : Fin 256)

theorem row0 (u : Vec Ideal S4x256 .f32) : View.ld u r0_0 (ix2 0 d) = u (ix2 0 d) :=
  congrArg u (by funext a; match a with | ⟨0, _⟩ => rfl | ⟨1, _⟩ => exact Fin.ext (by show 0 + 1 * d.val = d.val; omega))
theorem row1 (u : Vec Ideal S4x256 .f32) : View.ld u r0_1 (ix2 0 d) = u (ix2 1 d) :=
  congrArg u (by funext a; match a with | ⟨0, _⟩ => rfl | ⟨1, _⟩ => exact Fin.ext (by show 0 + 1 * d.val = d.val; omega))
theorem row2 (u : Vec Ideal S4x256 .f32) : View.ld u r0_2 (ix2 0 d) = u (ix2 2 d) :=
  congrArg u (by funext a; match a with | ⟨0, _⟩ => rfl | ⟨1, _⟩ => exact Fin.ext (by show 0 + 1 * d.val = d.val; omega))
theorem row3 (u : Vec Ideal S4x256 .f32) : View.ld u r0_3 (ix2 0 d) = u (ix2 3 d) :=
  congrArg u (by funext a; match a with | ⟨0, _⟩ => rfl | ⟨1, _⟩ => exact Fin.ext (by show 0 + 1 * d.val = d.val; omega))

theorem mx_pt (u v : Vec Ideal S4x256 .f32) (hu : ∀ k, u (ix2 k d) = ((x k d : ℝ) : EReal)) : k0_pay40 (F := Ideal) u v (ix2 0 d) = ((mx x d : ℝ) : EReal) := by
  have h0 := (row0 d u).trans (hu 0); have h1 := (row1 d u).trans (hu 1); have h2 := (row2 d u).trans (hu 2); have h3 := (row3 d u).trans (hu 3)
  unfold k0_pay40
  generalize View.ld u r0_0 = a0 at h0 ⊢
  generalize View.ld u r0_1 = a1 at h1 ⊢
  generalize View.ld u r0_2 = a2 at h2 ⊢
  generalize View.ld u r0_3 = a3 at h3 ⊢
  unfold k0_pay19 k0_pay13 k0_pay16
  pointwise
  rw [h0, h1, h2, h3]
  unfold mx
  simp only [coe_max']

/-- The four exponentials and the values made of them. -/
theorem vals (u v : Vec Ideal S4x256 .f32) (hu : ∀ k, u (ix2 k d) = ((x k d : ℝ) : EReal))
    (hv : ∀ k, v (ix2 k d) = ((y k d : ℝ) : EReal)) :
    k0_pay43 (F := Ideal) u v (ix2 0 d) = ((ex x 0 d : ℝ) : EReal)
    ∧ k0_pay44 (F := Ideal) u v (ix2 0 d) = ((ex x 1 d : ℝ) : EReal)
    ∧ k0_pay45 (F := Ideal) u v (ix2 0 d) = ((ex x 2 d : ℝ) : EReal)
    ∧ k0_pay46 (F := Ideal) u v (ix2 0 d) = ((ex x 3 d : ℝ) : EReal)
    ∧ k0_pay47 (F := Ideal) u v (ix2 0 d) = ((ct y 3 d / su x d : ℝ) : EReal)
    ∧ k0_pay48 (F := Ideal) u v (ix2 0 d) = ((ct y 2 d / su x d : ℝ) : EReal)
    ∧ k0_pay49 (F := Ideal) u v (ix2 0 d) = ((ct y 1 d / su x d : ℝ) : EReal)
    ∧ k0_pay50 (F := Ideal) u v (ix2 0 d) = (((∑ j, ct y j d * ex x j d) / (su x d * su x d) : ℝ) : EReal)
    ∧ k0_pay51 (F := Ideal) u v (ix2 0 d) = ((1 : ℝ) : EReal) := by
  have hm := mx_pt x d u v hu
  have hs := su_pos x d
  have h0 := (row0 d u).trans (hu 0); have h1 := (row1 d u).trans (hu 1); have h2 := (row2 d u).trans (hu 2); have h3 := (row3 d u).trans (hu 3)
  have y1 := (row1 d v).trans (hv 1); have y2 := (row2 d v).trans (hv 2); have y3 := (row3 d v).trans (hv 3)
  have exq : ∀ k, Ideal.exp (((x k d : ℝ) : EReal) - ((mx x d : ℝ) : EReal)) = ((ex x k d : ℝ) : EReal) := fun k => by
    rw [← EReal.coe_sub, Ideal.exp_coe]; rfl
  have sq : ex x 0 d + ex x 1 d + ex x 2 d + ex x 3 d = su x d := rfl
  unfold k0_pay43 k0_pay44 k0_pay45 k0_pay46 k0_pay47 k0_pay48 k0_pay49 k0_pay50 k0_pay51
  generalize k0_pay40 (F := Ideal) u v = M at hm ⊢
  generalize View.ld u r0_0 = a0 at h0 ⊢
  generalize View.ld u r0_1 = a1 at h1 ⊢
  generalize View.ld u r0_2 = a2 at h2 ⊢
  generalize View.ld u r0_3 = a3 at h3 ⊢
  generalize View.ld v r0_1 = b1 at y1 ⊢
  generalize View.ld v r0_2 = b2 at y2 ⊢
  generalize View.ld v r0_3 = b3 at y3 ⊢
  unfold k0_pay35 k0_pay36 k0_pay37 k0_pay38 k0_pay39 k0_pay30 k0_pay33 k0_pay34 k0_pay32 k0_pay31 k0_pay29 k0_pay25 k0_pay26 k0_pay27 k0_pay28
  refine ⟨?_, ?_, ?_, ?_, ?_, ?_, ?_, ?_, ?_⟩
  all_goals pointwise
  all_goals try simp only [hm, h0, h1, h2, h3, y1, y2, y3, exq, Ideal.ofBits_one_f32, Ideal.ofBits_zero_f32, ← EReal.coe_add, ← EReal.coe_mul, sq]
  all_goals try rw [Ideal.div_coe hs.ne']
  all_goals try rw [Ideal.div_coe (mul_pos hs hs).ne']
  all_goals try simp only [one_mul, zero_add, ← EReal.coe_add, ← EReal.coe_mul, Fin.sum_univ_four]
  all_goals try rfl
  all_goals exact congrArg _ (by simp only [ct]; ring)

/-- The term by which the greatest entry would count is zero. -/
theorem zero_fac (t1 t2 : EReal) (q : ℝ) : ((q : ℝ) : EReal) + 0 * t1 * t2 = ((q : ℝ) : EReal) := by
  rw [zero_mul, zero_mul, add_zero]

/-- Four rows stored one after the other: a row holds what was stored there. -/
theorem rows_pt (w0 w1 w2 w3 : Vec Ideal S1x256 .f32) (k : Fin 4) :
    View.canon (Val := Elt Ideal) [⟨r0_3, w3⟩, ⟨r0_2, w2⟩, ⟨r0_1, w1⟩, ⟨r0_0, w0⟩] (ix2 k d)
      = (match k with | ⟨0, _⟩ => w0 | ⟨1, _⟩ => w1 | ⟨2, _⟩ => w2 | ⟨3, _⟩ => w3) (ix2 0 d) := by
  have e0 : (r0_0.emb (ix2 (0 : Fin 1) d : S1x256.Idx) : S4x256.Idx) = ix2 0 d := by
    funext a; match a with | ⟨0, _⟩ => rfl | ⟨1, _⟩ => exact Fin.ext (by show 0 + 1 * d.val = d.val; omega)
  have e1 : (r0_1.emb (ix2 (0 : Fin 1) d : S1x256.Idx) : S4x256.Idx) = ix2 1 d := by
    funext a; match a with | ⟨0, _⟩ => rfl | ⟨1, _⟩ => exact Fin.ext (by show 0 + 1 * d.val = d.val; omega)
  have e2 : (r0_2.emb (ix2 (0 : Fin 1) d : S1x256.Idx) : S4x256.Idx) = ix2 2 d := by
    funext a; match a with | ⟨0, _⟩ => rfl | ⟨1, _⟩ => exact Fin.ext (by show 0 + 1 * d.val = d.val; omega)
  have e3 : (r0_3.emb (ix2 (0 : Fin 1) d : S1x256.Idx) : S4x256.Idx) = ix2 3 d := by
    funext a; match a with | ⟨0, _⟩ => rfl | ⟨1, _⟩ => exact Fin.ext (by show 0 + 1 * d.val = d.val; omega)
  have n3 : ∀ k : Fin 4, k.val < 3 → (ix2 k d : S4x256.Idx) ∉ r0_3.set := fun k hk hm => by
    obtain ⟨i, _, he⟩ := (LoadRect.mem_set _).mp hm (0 : Fin 2)
    have he' : k.val = 3 + 1 * i := he
    omega
  have n2 : ∀ k : Fin 4, k.val < 2 → (ix2 k d : S4x256.Idx) ∉ r0_2.set := fun k hk hm => by
    obtain ⟨i, _, he⟩ := (LoadRect.mem_set _).mp hm (0 : Fin 2)
    have he' : k.val = 2 + 1 * i := he
    omega
  have n1 : ∀ k : Fin 4, k.val < 1 → (ix2 k d : S4x256.Idx) ∉ r0_1.set := fun k hk hm => by
    obtain ⟨i, _, he⟩ := (LoadRect.mem_set _).mp hm (0 : Fin 2)
    have he' : k.val = 1 + 1 * i := he
    omega
  match k with
  | ⟨0, _⟩ =>
    show View.canon (Val := Elt Ideal) [⟨r0_3, w3⟩, ⟨r0_2, w2⟩, ⟨r0_1, w1⟩, ⟨r0_0, w0⟩] (ix2 (0 : Fin 4) d) = w0 (ix2 (0 : Fin 1) d)
    rw [View.canon_cons_of_not_mem ⟨r0_3, w3⟩ _ (n3 0 (by decide))]
    rw [View.canon_cons_of_not_mem ⟨r0_2, w2⟩ _ (n2 0 (by decide))]
    rw [View.canon_cons_of_not_mem ⟨r0_1, w1⟩ _ (n1 0 (by decide))]
    rw [← e0]
    exact View.canon_cons_emb r0_0 w0 [] (ix2 (0 : Fin 1) d)
  | ⟨1, _⟩ =>
    show View.canon (Val := Elt Ideal) [⟨r0_3, w3⟩, ⟨r0_2, w2⟩, ⟨r0_1, w1⟩, ⟨r0_0, w0⟩] (ix2 (1 : Fin 4) d) = w1 (ix2 (0 : Fin 1) d)
    rw [View.canon_cons_of_not_mem ⟨r0_3, w3⟩ _ (n3 1 (by decide))]
    rw [View.canon_cons_of_not_mem ⟨r0_2, w2⟩ _ (n2 1 (by decide))]
    rw [← e1]
    exact View.canon_cons_emb r0_1 w1 [⟨r0_0, w0⟩] (ix2 (0 : Fin 1) d)
  | ⟨2, _⟩ =>
    show View.canon (Val := Elt Ideal) [⟨r0_3, w3⟩, ⟨r0_2, w2⟩, ⟨r0_1, w1⟩, ⟨r0_0, w0⟩] (ix2 (2 : Fin 4) d) = w2 (ix2 (0 : Fin 1) d)
    rw [View.canon_cons_of_not_mem ⟨r0_3, w3⟩ _ (n3 2 (by decide))]
    rw [← e2]
    exact View.canon_cons_emb r0_2 w2 [⟨r0_1, w1⟩, ⟨r0_0, w0⟩] (ix2 (0 : Fin 1) d)
  | ⟨3, _⟩ =>
    show View.canon (Val := Elt Ideal) [⟨r0_3, w3⟩, ⟨r0_2, w2⟩, ⟨r0_1, w1⟩, ⟨r0_0, w0⟩] (ix2 (3 : Fin 4) d) = w3 (ix2 (0 : Fin 1) d)
    rw [← e3]
    exact View.canon_cons_emb r0_3 w3 [⟨r0_2, w2⟩, ⟨r0_1, w1⟩, ⟨r0_0, w0⟩] (ix2 (0 : Fin 1) d)

/-- What the kernel leaves in the four rows. -/
theorem out_pt (u v : Vec Ideal S4x256 .f32) (hu : ∀ k, u (ix2 k d) = ((x k d : ℝ) : EReal))
    (hv : ∀ k, v (ix2 k d) = ((y k d : ℝ) : EReal)) (k : Fin 4) :
    Cert.LbIdeal.Value.G2 (F := Ideal) u v (ix2 k d) = ((out x y k d : ℝ) : EReal) := by
  obtain ⟨v0, v1, v2, v3, v4, v5, v6, v7, v8⟩ := vals x y d u v hu hv
  have hs := su_pos x d
  have hD : (∑ j, ct y j d * ex x j d) = ct y 1 d * ex x 1 d + ct y 2 d * ex x 2 d + ct y 3 d * ex x 3 d := by
    rw [Fin.sum_univ_four]; simp only [ct]; ring
  have hS : su x d = ex x 0 d + ex x 1 d + ex x 2 d + ex x 3 d := rfl
  unfold Cert.LbIdeal.Value.G2
  generalize k0_pay41 (F := Ideal) u v = w41
  generalize k0_pay42 (F := Ideal) u v = w42
  generalize k0_pay43 (F := Ideal) u v = w43 at *
  generalize k0_pay44 (F := Ideal) u v = w44 at *
  generalize k0_pay45 (F := Ideal) u v = w45 at *
  generalize k0_pay46 (F := Ideal) u v = w46 at *
  generalize k0_pay47 (F := Ideal) u v = w47 at *
  generalize k0_pay48 (F := Ideal) u v = w48 at *
  generalize k0_pay49 (F := Ideal) u v = w49 at *
  generalize k0_pay50 (F := Ideal) u v = w50 at *
  generalize k0_pay51 (F := Ideal) u v = w51 at *
  generalize k0_pay18 (F := Ideal) _ _ = p18
  generalize k0_pay17 (F := Ideal) _ _ = p17
  generalize k0_pay15 (F := Ideal) _ _ = p15
  generalize k0_pay14 (F := Ideal) _ _ = p14
  have hz : k0_pay6 (F := Ideal) w43 w44 w45 w46 w47 w48 w49 w50 w51 (ix2 0 d) = 0 := by
    unfold k0_pay6 k0_pay2 k0_pay3 k0_pay4 k0_pay5 k0_pay1
    pointwise
    simp only [v0, v1, v2, v3, v4, v5, v6, v7, v8, Ideal.ofBits_zero_f32, ← EReal.coe_add, ← EReal.coe_mul, ← EReal.coe_sub, zero_sub, ← EReal.coe_neg]
    rw [← EReal.coe_zero]
    refine congrArg _ ?_
    rw [hD]
    have hn := hs.ne'
    rw [hS] at hn ⊢
    field_simp
    ring
  match k with
  | ⟨0, _⟩ =>
    refine (rows_pt d _ _ _ _ _).trans ?_
    show k0_pay12 (F := Ideal) p14 w41 w43 w44 w45 w46 w47 w48 w49 w50 w51 (ix2 0 d) = _
    unfold k0_pay12 k0_pay8
    generalize k0_pay6 (F := Ideal) w43 w44 w45 w46 w47 w48 w49 w50 w51 = z at hz
    unfold k0_pay5 k0_pay1
    pointwise
    simp only [hz, zero_fac, v0, v7, v8, Ideal.ofBits_zero_f32, zero_sub, ← EReal.coe_mul, ← EReal.coe_neg]
    exact congrArg _ (by simp only [out, ct]; ring)
  | ⟨1, _⟩ =>
    refine (rows_pt d _ _ _ _ _).trans ?_
    show k0_pay11 (F := Ideal) p15 w41 w43 w44 w45 w46 w47 w48 w49 w50 w51 (ix2 0 d) = _
    unfold k0_pay11 k0_pay8
    generalize k0_pay6 (F := Ideal) w43 w44 w45 w46 w47 w48 w49 w50 w51 = z at hz
    unfold k0_pay4 k0_pay1
    pointwise
    simp only [hz, v1, v6, v7, v8, Ideal.ofBits_zero_f32, zero_sub, ← EReal.coe_mul, ← EReal.coe_neg, ← EReal.coe_add, zero_fac]
    exact congrArg _ (by simp only [out]; ring)
  | ⟨2, _⟩ =>
    refine (rows_pt d _ _ _ _ _).trans ?_
    show k0_pay10 (F := Ideal) p17 w42 w43 w44 w45 w46 w47 w48 w49 w50 w51 (ix2 0 d) = _
    unfold k0_pay10 k0_pay7
    generalize k0_pay6 (F := Ideal) w43 w44 w45 w46 w47 w48 w49 w50 w51 = z at hz
    unfold k0_pay3 k0_pay1
    pointwise
    simp only [hz, v2, v5, v7, v8, Ideal.ofBits_zero_f32, zero_sub, ← EReal.coe_mul, ← EReal.coe_neg, ← EReal.coe_add, zero_fac]
    exact congrArg _ (by simp only [out]; ring)
  | ⟨3, _⟩ =>
    refine (rows_pt d _ _ _ _ _).trans ?_
    show k0_pay9 (F := Ideal) p18 w42 w43 w44 w45 w46 w47 w48 w49 w50 w51 (ix2 0 d) = _
    unfold k0_pay9 k0_pay7
    generalize k0_pay6 (F := Ideal) w43 w44 w45 w46 w47 w48 w49 w50 w51 = z at hz
    unfold k0_pay2 k0_pay1
    pointwise
    simp only [hz, v3, v4, v7, v8, Ideal.ofBits_zero_f32, zero_sub, ← EReal.coe_mul, ← EReal.coe_neg, ← EReal.coe_add, zero_fac]
    exact congrArg _ (by simp only [out]; ring)

end Cert.LbIdeal.Hand

end
-- ==== Proof.LbClaim.lean ====
module

public import proofs.«01_k».proof.Defs
public import proofs.«01_k».proof.Proof.LbPay
public import proofs.«01_k».proof.Proof.Finite
public import proofs.«01_k».proof.Proof.Gen.LbRefIdeal.Run
public import proofs.«01_k».proof.Proof.Gen.Pre_lb_finite
public import proofs.«01_k».proof.Proof.Gen.Lb.Frame
public import Idealize.ShloMosaic.Lib.Quiescent

/-! The claims of the lower bounds' backward kernel. -/

@[expose] public section

set_option maxRecDepth 16384

noncomputable section

open Idealize.ShloMosaic Idealize.ShloMosaic.TcCoe Idealize.SL.Sem

namespace Cert.LbIdeal.Hand

open Cert.LbIdeal Cert.LbIdeal.Gen Cert.Lower

/-- The precondition gives real arrays. -/
theorem reals_of_pre (m : (ℓ : Loc nD τ sig) → Buf (Elt Ideal) ℓ) (hp : Cert.Pre_LbIdeal_lb_finite m) (c : Dev nD) :
    ∃ x y, m ((c : Thread nD τ).loc main_arg0) = up x ∧ m ((c : Thread nD τ).loc main_arg1) = up y := by
  have e := congrFun (hp c) (fun a => a.elim0)
  dsimp only [Cert.Pre_lb_finite.fn] at e
  obtain ⟨ex, ey⟩ := Cert.Aux.and_one e
  obtain ⟨x, hx⟩ := Cert.Aux.real_of_all _ _ _ _ _ ex
  obtain ⟨y, hy⟩ := Cert.Aux.real_of_all _ _ _ _ _ ey
  refine ⟨fun n d => x (ix2 n d), fun n d => y (ix2 n d), hx.trans ?_, hy.trans ?_⟩
  all_goals funext i
  · exact congrArg (fun j => ((x j : ℝ) : EReal)) (by funext a; match a with | ⟨0, _⟩ => rfl | ⟨1, _⟩ => rfl)
  · exact congrArg (fun j => ((y j : ℝ) : EReal)) (by funext a; match a with | ⟨0, _⟩ => rfl | ⟨1, _⟩ => rfl)

theorem frame_ref : Cert.quiescent_LbRefIdeal := fun m ρ _ =>
  (θ_run Cert.LbRefIdeal.defs _ _).mono (fun r h => ⟨fun c => (h c).2, sem_eq_zero_of_no_sems (by decide) r.2⟩)
    (Cert.LbRefIdeal.Value.run (F := Ideal) m ρ)

theorem res (x y : Fin 4 → Fin 256 → ℝ) :
    Cert.LbRefIdeal.Read.val_main_v54 (F := Ideal) (up x) (up y) = Cert.LbIdeal.Value.G2 (F := Ideal) (up x) (up y) := by
  funext i
  obtain ⟨k, d, rfl⟩ : ∃ (k : Fin 4) (d : Fin 256), i = ix2 k d := ⟨i 0, i 1, (ix2_eta i).symm⟩
  exact (Cert.LbRefIdeal.Hand.out_pt x y k d).trans (out_pt x y d (up x) (up y) (fun _ => rfl) (fun _ => rfl) k).symm

theorem algebraic : Cert.algebraic_LbIdeal_LbRefIdeal_pre_lb_finite := by
  intro m g m' g' hpre hagree
  refine ⟨fun c => Cert.LbIdeal.Value.G2 (m ((c : Thread nD τ).loc main_arg0)) (m ((c : Thread nD τ).loc main_arg1)), Cert.LbIdeal.Value.run m g, ?_⟩
  refine (θ_run Cert.LbRefIdeal.defs _ _).mono (fun _ h c => ?_) (Cert.LbRefIdeal.Value.run (F := Ideal) m' g')
  obtain ⟨x, y, hx, hy⟩ := reals_of_pre m hpre c
  obtain ⟨a0, a1⟩ := hagree c
  have b0 := a0.trans hx
  have b1 := a1.trans hy
  clear a0 a1
  have hc := h c
  clear h
  rw [Cert.LbRefIdeal.Read.val_main_v54_eq] at hc
  obtain ⟨h1, h2⟩ := hc
  rw [b0, b1] at h1
  refine ⟨h1.trans ((res x y).trans ?_), h2⟩
  dsimp only
  rw [hx, hy]

end Cert.LbIdeal.Hand

end
-- ==== Proof.OutprojArr.lean ====
module

public import proofs.«01_k».proof.Proof.OutprojPay

/-! The output projection's backward kernel: its result arrays, entry by entry, as sums over whole rows and columns. -/

@[expose] public section

set_option maxRecDepth 16384

noncomputable section

open Idealize.ShloMosaic Idealize.ShloMosaic.TcCoe Idealize.SL.Sem

namespace Cert.OutprojIdeal.Hand

open Cert.OutprojIdeal Cert.OutprojIdeal.Gen
open Cert

/-- A column's head and its place there; the weight's rows that the two other branches and a head's columns meet. -/
def hd (j : Fin 1024) : Fin 8 := ⟨j.val / 128, by omega⟩
def cl (j : Fin 1024) : Fin 128 := ⟨j.val % 128, Nat.mod_lt _ (by omega)⟩
def ra (j : Fin 256) : Fin 1024 := ⟨j.val, by omega⟩
def rb (j : Fin 256) : Fin 1024 := ⟨256 + j.val, by omega⟩
def rc (k : Fin 8) (d : Fin 64) : Fin 1024 := ⟨512 + 64 * k.val + d.val, by omega⟩

theorem hd_cc (k : Fin 8) (d : Fin 128) : hd (cc k d) = k := Fin.ext (by show (128 * k.val + d.val) / 128 = k.val; omega)
theorem cl_cc (k : Fin 8) (d : Fin 128) : cl (cc k d) = d := Fin.ext (by show (128 * k.val + d.val) % 128 = d.val; omega)

/-- A row by its number. -/
def row (N : ℕ) : Fin 2048 := ⟨N % 2048, Nat.mod_lt _ (by omega)⟩

/-- The arguments: the rows of the three branches, the gain, the weight, and the gradients that come in. -/
structure Arg where
  ya : Fin 2048 → Fin 256 → EReal
  yb : Fin 2048 → Fin 256 → EReal
  x : Fin 2048 → Fin 8 → Fin 64 → EReal
  g : Fin 8 → Fin 64 → EReal
  w : Fin 1024 → Fin 1024 → EReal
  r : Fin 2048 → Fin 1024 → EReal
  p : Fin 4 → Fin 2048 → Fin 1024 → EReal

section Whole
variable (A : Arg)

/-- The gradient that comes in, the gradient of the normed heads, the normed heads, what a row adds to the gain's gradient, and the heads' gradient. -/
def CT (n : Fin 2048) (e : Fin 1024) : EReal := A.r n e + A.p 0 n e + A.p 1 n e + A.p 2 n e + A.p 3 n e
def DY (n : Fin 2048) (k : Fin 8) (d : Fin 64) : EReal := ∑ e, CT A n e * A.w (rc k d) e
def YY (n : Fin 2048) (k : Fin 8) (d : Fin 64) : EReal := A.x n k d * HeadE.rs (A.x n k) * A.g k d
def DG (n : Fin 2048) (k : Fin 8) (d : Fin 64) : EReal := A.x n k d * HeadE.rs (A.x n k) * DY A n k d
def DX (n : Fin 2048) (k : Fin 8) : Fin 64 → EReal := HeadE.dx (A.x n k) (A.g k) (DY A n k)

/-- The eight results by their entries. -/
def G9 (y : S2048x1024.Idx) : EReal := CT A (y 0) (y 1)
def G10 (y : S2048x256.Idx) : EReal := ∑ e, CT A (y 0) e * A.w (ra (y 1)) e
def G11 (y : S2048x256.Idx) : EReal := ∑ e, CT A (y 0) e * A.w (rb (y 1)) e
def G12 (y : S2048x1024.Idx) : EReal := HeadE.pad (DX A (y 0) (hd (y 1))) (cl (y 1))
def G13 (y : S1x1024.Idx) : EReal := ∑ n, HeadE.pad (DG A n (hd (y 1))) (cl (y 1))
def G14 (y : S256x1024.Idx) : EReal := ∑ n, A.ya n (y 0) * CT A n (y 1)
def G15 (y : S256x1024.Idx) : EReal := ∑ n, A.yb n (y 0) * CT A n (y 1)
def G16 (y : S1024x1024.Idx) : EReal := ∑ n, HeadE.pad (YY A n (hd (y 0))) (cl (y 0)) * CT A n (y 1)
end Whole

/-- A sum over a tile's rows, added to one over the rows before it; a sum over all rows. -/
theorem tile_sum (u : ℕ → EReal) (k : ℕ) : ∑ N ∈ Finset.range (512 * (k + 1)), u N = ∑ N ∈ Finset.range (512 * k), u N + ∑ n : Fin 512, u (512 * k + n.val) := by
  rw [show 512 * (k + 1) = 512 * k + 512 by omega, Finset.sum_range_add, Fin.sum_univ_eq_sum_range (fun j => u (512 * k + j)) 512]
theorem rows_sum (u : Fin 2048 → EReal) : ∑ N ∈ Finset.range 2048, u (row N) = ∑ n, u n := by
  rw [← Fin.sum_univ_eq_sum_range (fun N => u (row N)) 2048]
  exact Finset.sum_congr rfl fun n _ => congrArg u (Fin.ext (Nat.mod_eq_of_lt n.isLt))

section Arrays
variable (m : (ℓ : Loc nD τ sig) → Buf (Elt Ideal) ℓ) (c : Dev nD)

/-- The kernel's nine arguments by their entries. -/
structure Args (A : Arg) : Prop where
  hya : ∀ n j, V m c main_v21 (ix2 n j) = A.ya n j
  hyb : ∀ n j, V m c main_v22 (ix2 n j) = A.yb n j
  hx : ∀ n k d, V m c main_v26 (ix2 n (cc k d)) = HeadE.pad (A.x n k) d
  hg : ∀ k d, V m c main_v20 (ix2 0 (cc k d)) = HeadE.pad (A.g k) d
  hwa : ∀ j e, V m c main_v15 (ix2 j e) = A.w (ra j) e
  hwb : ∀ j e, V m c main_v16 (ix2 j e) = A.w (rb j) e
  hwc : ∀ k d e, V m c main_v14 (ix2 (cc k d) e) = HeadE.pad (fun d => A.w (rc k d) e) d
  hr : ∀ n e, V m c main_v27 (ix2 n e) = A.r n e
  hp : ∀ q n e, V m c main_arg7 (ix3 q n e) = A.p q n e

theorem index_in : ∀ t : Fin cfg0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = t.val ∧ win0_7.index t 1 = 0)
    ∧ (win0_8.index t 0 = 0 ∧ win0_8.index t 1 = t.val ∧ win0_8.index t 2 = 0) := by decide +kernel

theorem index_out : ∀ t : Fin cfg0.N, (win0_9.index t 0 = t.val ∧ win0_9.index t 1 = 0)
    ∧ (win0_10.index t 0 = t.val ∧ win0_10.index t 1 = 0)
    ∧ (win0_11.index t 0 = t.val ∧ win0_11.index t 1 = 0)
    ∧ (win0_12.index t 0 = t.val ∧ win0_12.index t 1 = 0)
    ∧ (win0_13.index t 0 = 0 ∧ win0_13.index t 1 = 0)
    ∧ (win0_14.index t 0 = 0 ∧ win0_14.index t 1 = 0)
    ∧ (win0_15.index t 0 = 0 ∧ win0_15.index t 1 = 0)
    ∧ (win0_16.index t 0 = 0 ∧ win0_16.index t 1 = 0) := by decide +kernel

theorem pt_lt (t : Fin cfg0.N) : t.val < 4 := by have := t.isLt; have : cfg0.N = 4 := N_0; omega

/-- An array of two axes at an index whose coordinates are known. -/
theorem at_ix {a b : ℕ} {α : Type} (f : (⟨2, ![a, b]⟩ : Shape).Idx → α) (z : (⟨2, ![a, b]⟩ : Shape).Idx) (p : Fin a) (q : Fin b)
    (h0 : (z 0).val = p.val) (h1 : (z 1).val = q.val) : f z = f (ix2 p q) := by
  rw [← ix2_eta z, show z 0 = p from Fin.ext h0, show z 1 = q from Fin.ext h1]

variable {m c} {A : Arg} (H : Args m c A) (t : Fin cfg0.N)

/-- The row of a point's tile. -/
abbrev tr (t : Fin cfg0.N) (n : Fin 512) : Fin 2048 := row (512 * t.val + n.val)

theorem tr_val (n : Fin 512) : (tr t n).val = 512 * t.val + n.val := Nat.mod_eq_of_lt (by have := pt_lt t; omega)

include H in
theorem blk0 (n : Fin 512) (j : Fin 256) : (iblk m c 0 t : S512x256.Idx → EReal) (ix2 n j) = A.ya (tr t n) j :=
  (at_ix (V m c main_v21) (((cfg0.win 0).blk t).view.emb (ix2 n j)) (tr t n) j
    (by rw [tr_val]; show win0_0.index t 0 * 512 + 1 * (n).val = _; rw [(index_in t).1.1]; omega)
    (by show win0_0.index t 1 * 256 + 1 * (j).val = _; rw [(index_in t).1.2]; omega)).trans (H.hya _ _)
include H in
theorem blk1 (n : Fin 512) (j : Fin 256) : (iblk m c 1 t : S512x256.Idx → EReal) (ix2 n j) = A.yb (tr t n) j :=
  (at_ix (V m c main_v22) (((cfg0.win 1).blk t).view.emb (ix2 n j)) (tr t n) j
    (by rw [tr_val]; show win0_1.index t 0 * 512 + 1 * (n).val = _; rw [(index_in t).2.1.1]; omega)
    (by show win0_1.index t 1 * 256 + 1 * (j).val = _; rw [(index_in t).2.1.2]; omega)).trans (H.hyb _ _)
include H in
theorem blk2 (n : Fin 512) (k : Fin 8) (d : Fin 128) : (iblk m c 2 t : S512x1024.Idx → EReal) (ix2 n (cc k d)) = HeadE.pad (A.x (tr t n) k) d :=
  (at_ix (V m c main_v26) (((cfg0.win 2).blk t).view.emb (ix2 n (cc k d))) (tr t n) (cc k d)
    (by rw [tr_val]; show win0_2.index t 0 * 512 + 1 * (n).val = _; rw [(index_in t).2.2.1.1]; omega)
    (by show win0_2.index t 1 * 1024 + 1 * ((cc k d)).val = _; rw [(index_in t).2.2.1.2]; omega)).trans (H.hx _ _ _)
include H in
theorem blk3 (k : Fin 8) (d : Fin 128) : (iblk m c 3 t : S1x1024.Idx → EReal) (ix2 0 (cc k d)) = HeadE.pad (A.g k) d :=
  (at_ix (V m c main_v20) (((cfg0.win 3).blk t).view.emb (ix2 0 (cc k d))) 0 (cc k d)
    (by show win0_3.index t 0 * 1 + 1 * 0 = _; rw [(index_in t).2.2.2.1.1]; rfl)
    (by show win0_3.index t 1 * 1024 + 1 * ((cc k d)).val = _; rw [(index_in t).2.2.2.1.2]; omega)).trans (H.hg _ _)
include H in
theorem blk4 (j : Fin 256) (e : Fin 1024) : (iblk m c 4 t : S256x1024.Idx → EReal) (ix2 j e) = A.w (ra j) e :=
  (at_ix (V m c main_v15) (((cfg0.win 4).blk t).view.emb (ix2 j e)) j e
    (by show win0_4.index t 0 * 256 + 1 * (j).val = _; rw [(index_in t).2.2.2.2.1.1]; omega)
    (by show win0_4.index t 1 * 1024 + 1 * (e).val = _; rw [(index_in t).2.2.2.2.1.2]; omega)).trans (H.hwa _ _)
include H in
theorem blk5 (j : Fin 256) (e : Fin 1024) : (iblk m c 5 t : S256x1024.Idx → EReal) (ix2 j e) = A.w (rb j) e :=
  (at_ix (V m c main_v16) (((cfg0.win 5).blk t).view.emb (ix2 j e)) j e
    (by show win0_5.index t 0 * 256 + 1 * (j).val = _; rw [(index_in t).2.2.2.2.2.1.1]; omega)
    (by show win0_5.index t 1 * 1024 + 1 * (e).val = _; rw [(index_in t).2.2.2.2.2.1.2]; omega)).trans (H.hwb _ _)
include H in
theorem blk6 (k : Fin 8) (d : Fin 128) (e : Fin 1024) : (iblk m c 6 t : S1024x1024.Idx → EReal) (ix2 (cc k d) e) = HeadE.pad (fun d => A.w (rc k d) e) d :=
  (at_ix (V m c main_v14) (((cfg0.win 6).blk t).view.emb (ix2 (cc k d) e)) (cc k d) e
    (by show win0_6.index t 0 * 1024 + 1 * ((cc k d)).val = _; rw [(index_in t).2.2.2.2.2.2.1.1]; omega)
    (by show win0_6.index t 1 * 1024 + 1 * (e).val = _; rw [(index_in t).2.2.2.2.2.2.1.2]; omega)).trans (H.hwc _ _ _)
include H in
theorem blk7 (n : Fin 512) (e : Fin 1024) : (iblk m c 7 t : S512x1024.Idx → EReal) (ix2 n e) = A.r (tr t n) e :=
  (at_ix (V m c main_v27) (((cfg0.win 7).blk t).view.emb (ix2 n e)) (tr t n) e
    (by rw [tr_val]; show win0_7.index t 0 * 512 + 1 * (n).val = _; rw [(index_in t).2.2.2.2.2.2.2.1.1]; omega)
    (by show win0_7.index t 1 * 1024 + 1 * (e).val = _; rw [(index_in t).2.2.2.2.2.2.2.1.2]; omega)).trans (H.hr _ _)
include H in
theorem blk8 (q : Fin 4) (n : Fin 512) (e : Fin 1024) : (iblk m c 8 t : S4x512x1024.Idx → EReal) (ix3 q n e) = A.p q (tr t n) e := by
  refine Eq.trans (congrArg (V m c main_arg7) (?_ : ((cfg0.win 8).blk t).view.emb (ix3 q n e) = ix3 q (tr t n) e)) (H.hp _ _ _)
  funext a; match a with
  | ⟨0, _⟩ => exact Fin.ext (by show win0_8.index t 0 * 4 + 1 * q.val = _; rw [(index_in t).2.2.2.2.2.2.2.2.1]; show _ = q.val; omega)
  | ⟨1, _⟩ => exact Fin.ext (by show win0_8.index t 1 * 512 + 1 * n.val = (tr t n).val; rw [tr_val, (index_in t).2.2.2.2.2.2.2.2.2.1]; omega)
  | ⟨2, _⟩ => exact Fin.ext (by show win0_8.index t 2 * 1024 + 1 * e.val = _; rw [(index_in t).2.2.2.2.2.2.2.2.2.2]; show _ = e.val; omega)

/-! What a point computes. -/

include H in
theorem ct_pt (n : Fin 512) (e : Fin 1024) : ctT m c t (ix2 n e) = CT A (tr t n) e :=
  (ctV_apply _ _ n e).trans (congrArg₂ (· + ·) (congrArg₂ (· + ·) (congrArg₂ (· + ·) (congrArg₂ (· + ·) (blk7 H t n e) (blk8 H t 0 n e)) (blk8 H t 1 n e)) (blk8 H t 2 n e)) (blk8 H t 3 n e))
include H in
theorem dya_pt (n : Fin 512) (j : Fin 256) : dyaT m c t (ix2 n j) = ∑ e, CT A (tr t n) e * A.w (ra j) e :=
  (dya_apply _ _ n j).trans (Finset.sum_congr rfl fun e _ => congrArg₂ (· * ·) (ct_pt H t n e) (blk4 H t j e))
include H in
theorem dyb_pt (n : Fin 512) (j : Fin 256) : dybT m c t (ix2 n j) = ∑ e, CT A (tr t n) e * A.w (rb j) e :=
  (dyb_apply _ _ n j).trans (Finset.sum_congr rfl fun e _ => congrArg₂ (· * ·) (ct_pt H t n e) (blk5 H t j e))
include H in
theorem x_row (n : Fin 512) (k : Fin 8) : (fun d => part (a := 512) (iblk m c 2 t) k (ix2 n d)) = HeadE.pad (A.x (tr t n) k) :=
  funext fun d => (part_apply (a := 512) (iblk m c 2 t) k n d).trans (blk2 H t n k d)
include H in
theorem g_row (k : Fin 8) : (fun d => part (a := 1) (iblk m c 3 t) k (ix2 0 d)) = HeadE.pad (A.g k) :=
  funext fun d => (part_apply (a := 1) (iblk m c 3 t) k 0 d).trans (blk3 H t k d)
include H in
theorem dy_pt (k : Fin 8) (n : Fin 512) (d : Fin 128) : dyP (F := Ideal) (ctT m c t) (iblk m c 6 t) k (ix2 n d) = HeadE.pad (DY A (tr t n) k) d := by
  refine (dyP_apply _ _ k n d).trans (Eq.trans (Finset.sum_congr rfl fun e _ => ?_) (HeadE.pad_sum Finset.univ (fun e d => CT A (tr t n) e * A.w (rc k d) e) d))
  refine (congrArg₂ (· * ·) (ct_pt H t n e) (blk6 H t k d e)).trans ?_
  show CT A (tr t n) e * HeadE.pad (fun d => A.w (rc k d) e) d = _
  rw [mul_comm, HeadE.pad_smul]
  simp only [mul_comm]
include H in
theorem do_pt (k : Fin 8) (n : Fin 512) (d : Fin 128) : doT m c t k (ix2 n d) = HeadE.pad (DX A (tr t n) k) d := by
  refine (doH_apply _ _ _ n d).trans ?_
  rw [x_row H t n k, g_row H t k, show (fun d => dyP (F := Ideal) (ctT m c t) (iblk m c 6 t) k (ix2 n d)) = HeadE.pad (DY A (tr t n) k) from funext fun d => dy_pt H t k n d]
  exact HeadE.dx_pad _ _ _ d
include H in
theorem dg_pt (k : Fin 8) (d : Fin 128) : dgT m c t k (ix2 0 d) = ∑ n : Fin 512, HeadE.pad (DG A (tr t n) k) d := by
  refine (dgH_apply _ _ d).trans (Finset.sum_congr rfl fun n _ => ?_)
  rw [dy_pt H t k n d, x_row H t n k, congrFun (x_row H t n k) d, HeadE.rs_pad, HeadE.pad_smul, HeadE.pad_mul]
  rfl
include H in
theorem y_pt (k : Fin 8) (n : Fin 512) (d : Fin 128) : yH (F := Ideal) (part (a := 512) (iblk m c 2 t) k) (part (a := 1) (iblk m c 3 t) k) (ix2 n d) = HeadE.pad (YY A (tr t n) k) d := by
  refine (yH_apply _ _ n d).trans ?_
  rw [x_row H t n k, congrFun (x_row H t n k) d, congrFun (g_row H t k) d, HeadE.rs_pad, HeadE.pad_smul, HeadE.pad_mul]
  rfl
include H in
theorem dwa_pt (j : Fin 256) (e : Fin 1024) : dwaT m c t (ix2 j e) = ∑ n : Fin 512, A.ya (tr t n) j * CT A (tr t n) e :=
  (dwa_apply _ _ j e).trans (Finset.sum_congr rfl fun n _ => congrArg₂ (· * ·) (blk0 H t n j) (ct_pt H t n e))
include H in
theorem dwb_pt (j : Fin 256) (e : Fin 1024) : dwbT m c t (ix2 j e) = ∑ n : Fin 512, A.yb (tr t n) j * CT A (tr t n) e :=
  (dwb_apply _ _ j e).trans (Finset.sum_congr rfl fun n _ => congrArg₂ (· * ·) (blk1 H t n j) (ct_pt H t n e))
include H in
theorem dwc_pt (k : Fin 8) (d : Fin 128) (e : Fin 1024) : dwcT m c t (ix2 (cc k d) e) = ∑ n : Fin 512, HeadE.pad (YY A (tr t n) k) d * CT A (tr t n) e :=
  (dwc_apply _ _ _ k d e).trans (Finset.sum_congr rfl fun n _ => congrArg₂ (· * ·) (y_pt H t k n d) (ct_pt H t n e))

/-- An accumulator: set at the first point, added to at the others. -/
theorem acc_sum {ι : Type} (o p : (n : ℕ) → n < cfg0.N → ι → EReal) (u : ℕ → ι → EReal)
    (hp : ∀ n hn i, p n hn i = ∑ k : Fin 512, u (512 * n + k.val) i)
    (h0 : ∀ hn i, o 0 hn i = p 0 hn i) (hs : ∀ n (hn : n + 1 < cfg0.N) i, o (n + 1) hn i = o n (by omega) i + p (n + 1) hn i) :
    ∀ n hn i, o n hn i = ∑ N ∈ Finset.range (512 * (n + 1)), u N i
  | 0, hn, i => by rw [h0, hp, tile_sum (fun N => u N i), Nat.mul_zero, Finset.range_zero, Finset.sum_empty, zero_add]
  | n + 1, hn, i => by rw [hs, acc_sum o p u hp h0 hs n _ i, hp, tile_sum (fun N => u N i) (n + 1)]

include H in
theorem acc_dg (n : ℕ) (hn : n < cfg0.N) (k : Fin 8) (d : Fin 128) : (outsAt0 m c n hn).2.2.2.2.1 (ix2 0 (cc k d)) = ∑ N ∈ Finset.range (512 * (n + 1)), HeadE.pad (DG A (row N) k) d :=
  acc_sum (fun n hn (i : Fin 8 × Fin 128) => (outsAt0 m c n hn).2.2.2.2.1 (ix2 0 (cc i.1 i.2))) (fun n hn i => dgT m c ⟨n, hn⟩ i.1 (ix2 0 i.2)) (fun N i => HeadE.pad (DG A (row N) i.1) i.2)
    (fun n hn i => dg_pt H ⟨n, hn⟩ i.1 i.2) (fun hn i => (congrFun (outs_A m c ⟨0, hn⟩ rfl).2.2.2.2.1 _).trans (can8_apply (a := 1) _ i.1 0 i.2))
    (fun n hn i => (congrFun (outs_B m c ⟨n + 1, hn⟩ (Nat.succ_ne_zero n)).2.2.2.2.1 _).trans ((can8_apply (a := 1) _ i.1 0 i.2).trans
      ((pay1_apply _ _ _).trans (congrArg (· + _) (part_apply (a := 1) _ i.1 0 i.2))))) n hn (k, d)
include H in
theorem acc_dwa (n : ℕ) (hn : n < cfg0.N) (i : Fin 256 × Fin 1024) : (outsAt0 m c n hn).2.2.2.2.2.1 (ix2 i.1 i.2) = ∑ N ∈ Finset.range (512 * (n + 1)), A.ya (row N) i.1 * CT A (row N) i.2 :=
  acc_sum (fun n hn (i : Fin 256 × Fin 1024) => (outsAt0 m c n hn).2.2.2.2.2.1 (ix2 i.1 i.2)) (fun n hn i => dwaT m c ⟨n, hn⟩ (ix2 i.1 i.2)) (fun N i => A.ya (row N) i.1 * CT A (row N) i.2)
    (fun n hn i => dwa_pt H ⟨n, hn⟩ i.1 i.2) (fun hn i => congrFun (outs_A m c ⟨0, hn⟩ rfl).2.2.2.2.2.1 _)
    (fun n hn i => (congrFun (outs_B m c ⟨n + 1, hn⟩ (Nat.succ_ne_zero n)).2.2.2.2.2.1 _).trans (pay102_apply _ _ _)) n hn i
include H in
theorem acc_dwb (n : ℕ) (hn : n < cfg0.N) (i : Fin 256 × Fin 1024) : (outsAt0 m c n hn).2.2.2.2.2.2.1 (ix2 i.1 i.2) = ∑ N ∈ Finset.range (512 * (n + 1)), A.yb (row N) i.1 * CT A (row N) i.2 :=
  acc_sum (fun n hn (i : Fin 256 × Fin 1024) => (outsAt0 m c n hn).2.2.2.2.2.2.1 (ix2 i.1 i.2)) (fun n hn i => dwbT m c ⟨n, hn⟩ (ix2 i.1 i.2)) (fun N i => A.yb (row N) i.1 * CT A (row N) i.2)
    (fun n hn i => dwb_pt H ⟨n, hn⟩ i.1 i.2) (fun hn i => congrFun (outs_A m c ⟨0, hn⟩ rfl).2.2.2.2.2.2.1 _)
    (fun n hn i => (congrFun (outs_B m c ⟨n + 1, hn⟩ (Nat.succ_ne_zero n)).2.2.2.2.2.2.1 _).trans (pay103_apply _ _ _)) n hn i
include H in
theorem acc_dwc (n : ℕ) (hn : n < cfg0.N) (i : (Fin 8 × Fin 128) × Fin 1024) : (outsAt0 m c n hn).2.2.2.2.2.2.2 (ix2 (cc i.1.1 i.1.2) i.2) = ∑ N ∈ Finset.range (512 * (n + 1)), HeadE.pad (YY A (row N) i.1.1) i.1.2 * CT A (row N) i.2 :=
  acc_sum (fun n hn (i : (Fin 8 × Fin 128) × Fin 1024) => (outsAt0 m c n hn).2.2.2.2.2.2.2 (ix2 (cc i.1.1 i.1.2) i.2)) (fun n hn i => dwcT m c ⟨n, hn⟩ (ix2 (cc i.1.1 i.1.2) i.2)) (fun N i => HeadE.pad (YY A (row N) i.1.1) i.1.2 * CT A (row N) i.2)
    (fun n hn i => dwc_pt H ⟨n, hn⟩ i.1.1 i.1.2 i.2) (fun hn i => congrFun (outs_A m c ⟨0, hn⟩ rfl).2.2.2.2.2.2.2 _)
    (fun n hn i => (congrFun (outs_B m c ⟨n + 1, hn⟩ (Nat.succ_ne_zero n)).2.2.2.2.2.2.2 _).trans (pay104_apply _ _ _)) n hn i

theorem out_rows : (outsAt0 m c t.val t.isLt).1 = ctT m c t ∧ (outsAt0 m c t.val t.isLt).2.1 = dyaT m c t
    ∧ (outsAt0 m c t.val t.isLt).2.2.1 = dybT m c t ∧ (outsAt0 m c t.val t.isLt).2.2.2.1 = can8 (doT m c t) := by
  by_cases h : t.val = 0
  · have o := outs_A m c t h; exact ⟨o.1, o.2.1, o.2.2.1, o.2.2.2.1⟩
  · have o := outs_B m c t h; exact ⟨o.1, o.2.1, o.2.2.1, o.2.2.2.1⟩

/-! The result arrays. -/

include H in
theorem arr9 : (dats m 0 c).arrAt 9 cfg0.N = G9 A := by
  refine (dats m 0 c).arrAt_eq_of_covers 9 (G9 A) (by decide +kernel) (fun t hf y => ?_)
  show (dats m 0 c).after 9 t _ = _
  rw [after0_9]
  suffices K : ∀ y : S512x1024.Idx, (outsAt0 m c t.val t.isLt).1 y = (G9 A) (((cfg0.win 9).blk t).view.emb y) from K y
  intro y
  obtain ⟨n, d, rfl⟩ : ∃ n d, y = ix2 n d := ⟨y 0, y 1, (ix2_eta y).symm⟩
  refine Eq.trans ?_ (at_ix (G9 A) _ (tr t n) d ?_ ?_).symm
  · rw [(out_rows t).1]; exact ct_pt H t n d
  · rw [tr_val]; show win0_9.index t 0 * 512 + 1 * n.val = _; rw [(index_out t).1.1]; omega
  · show win0_9.index t 1 * 1024 + 1 * d.val = _; rw [(index_out t).1.2]; omega

include H in
theorem arr10 : (dats m 0 c).arrAt 10 cfg0.N = G10 A := by
  refine (dats m 0 c).arrAt_eq_of_covers 10 (G10 A) (by decide +kernel) (fun t hf y => ?_)
  show (dats m 0 c).after 10 t _ = _
  rw [after0_10]
  suffices K : ∀ y : S512x256.Idx, (outsAt0 m c t.val t.isLt).2.1 y = (G10 A) (((cfg0.win 10).blk t).view.emb y) from K y
  intro y
  obtain ⟨n, d, rfl⟩ : ∃ n d, y = ix2 n d := ⟨y 0, y 1, (ix2_eta y).symm⟩
  refine Eq.trans ?_ (at_ix (G10 A) _ (tr t n) d ?_ ?_).symm
  · rw [(out_rows t).2.1]; exact dya_pt H t n d
  · rw [tr_val]; show win0_10.index t 0 * 512 + 1 * n.val = _; rw [(index_out t).2.1.1]; omega
  · show win0_10.index t 1 * 256 + 1 * d.val = _; rw [(index_out t).2.1.2]; omega

include H in
theorem arr11 : (dats m 0 c).arrAt 11 cfg0.N = G11 A := by
  refine (dats m 0 c).arrAt_eq_of_covers 11 (G11 A) (by decide +kernel) (fun t hf y => ?_)
  show (dats m 0 c).after 11 t _ = _
  rw [after0_11]
  suffices K : ∀ y : S512x256.Idx, (outsAt0 m c t.val t.isLt).2.2.1 y = (G11 A) (((cfg0.win 11).blk t).view.emb y) from K y
  intro y
  obtain ⟨n, d, rfl⟩ : ∃ n d, y = ix2 n d := ⟨y 0, y 1, (ix2_eta y).symm⟩
  refine Eq.trans ?_ (at_ix (G11 A) _ (tr t n) d ?_ ?_).symm
  · rw [(out_rows t).2.2.1]; exact dyb_pt H t n d
  · rw [tr_val]; show win0_11.index t 0 * 512 + 1 * n.val = _; rw [(index_out t).2.2.1.1]; omega
  · show win0_11.index t 1 * 256 + 1 * d.val = _; rw [(index_out t).2.2.1.2]; omega

include H in
theorem arr12 : (dats m 0 c).arrAt 12 cfg0.N = G12 A := by
  refine (dats m 0 c).arrAt_eq_of_covers 12 (G12 A) (by decide +kernel) (fun t hf y => ?_)
  show (dats m 0 c).after 12 t _ = _
  rw [after0_12]
  suffices K : ∀ y : S512x1024.Idx, (outsAt0 m c t.val t.isLt).2.2.2.1 y = (G12 A) (((cfg0.win 12).blk t).view.emb y) from K y
  intro y
  obtain ⟨n, d, rfl⟩ : ∃ n d, y = ix2 n d := ⟨y 0, y 1, (ix2_eta y).symm⟩
  refine Eq.trans ?_ (at_ix (G12 A) _ (tr t n) d ?_ ?_).symm
  · rw [(out_rows t).2.2.2]
    obtain ⟨k, d, rfl⟩ := cc_eq d
    refine (can8_apply (a := 512) _ k n d).trans ((do_pt H t k n d).trans ?_)
    show _ = HeadE.pad (DX A (tr t n) (hd (cc k d))) (cl (cc k d))
    rw [hd_cc, cl_cc]
  · rw [tr_val]; show win0_12.index t 0 * 512 + 1 * n.val = _; rw [(index_out t).2.2.2.1.1]; omega
  · show win0_12.index t 1 * 1024 + 1 * d.val = _; rw [(index_out t).2.2.2.1.2]; omega

include H in
theorem arr13 : (dats m 0 c).arrAt 13 cfg0.N = G13 A := by
  refine (dats m 0 c).arrAt_eq_of_covers 13 (G13 A) (by decide +kernel) (fun t hf y => ?_)
  have ht : t.val = 3 := by have := (flush0_13 t).1 hf; have := pt_lt t; omega
  show (dats m 0 c).after 13 t _ = _
  rw [after0_13]
  suffices K : ∀ y : S1x1024.Idx, (outsAt0 m c t.val t.isLt).2.2.2.2.1 y = (G13 A) (((cfg0.win 13).blk t).view.emb y) from K y
  intro y
  obtain ⟨n, d, rfl⟩ : ∃ n d, y = ix2 n d := ⟨y 0, y 1, (ix2_eta y).symm⟩
  obtain rfl : n = 0 := Subsingleton.elim _ _
  refine Eq.trans ?_ (at_ix (G13 A) _ 0 d ?_ ?_).symm
  · obtain ⟨k, d, rfl⟩ := cc_eq d
    refine (acc_dg H t.val t.isLt k d).trans ?_
    show _ = ∑ n, HeadE.pad (DG A n (hd (cc k d))) (cl (cc k d))
    rw [hd_cc, cl_cc, ht]
    exact rows_sum fun n => HeadE.pad (DG A n k) d
  · show win0_13.index t 0 * 1 + 1 * 0 = _; rw [(index_out t).2.2.2.2.1.1]; rfl
  · show win0_13.index t 1 * 1024 + 1 * d.val = _; rw [(index_out t).2.2.2.2.1.2]; omega

include H in
theorem arr14 : (dats m 0 c).arrAt 14 cfg0.N = G14 A := by
  refine (dats m 0 c).arrAt_eq_of_covers 14 (G14 A) (by decide +kernel) (fun t hf y => ?_)
  have ht : t.val = 3 := by have := (flush0_14 t).1 hf; have := pt_lt t; omega
  show (dats m 0 c).after 14 t _ = _
  rw [after0_14]
  suffices K : ∀ y : S256x1024.Idx, (outsAt0 m c t.val t.isLt).2.2.2.2.2.1 y = (G14 A) (((cfg0.win 14).blk t).view.emb y) from K y
  intro y
  obtain ⟨n, d, rfl⟩ : ∃ n d, y = ix2 n d := ⟨y 0, y 1, (ix2_eta y).symm⟩
  refine Eq.trans ?_ (at_ix (G14 A) _ n d ?_ ?_).symm
  · exact (acc_dwa H t.val t.isLt (n, d)).trans (by rw [ht]; exact rows_sum fun N => A.ya N n * CT A N d)
  · show win0_14.index t 0 * 256 + 1 * n.val = _; rw [(index_out t).2.2.2.2.2.1.1]; omega
  · show win0_14.index t 1 * 1024 + 1 * d.val = _; rw [(index_out t).2.2.2.2.2.1.2]; omega

include H in
theorem arr15 : (dats m 0 c).arrAt 15 cfg0.N = G15 A := by
  refine (dats m 0 c).arrAt_eq_of_covers 15 (G15 A) (by decide +kernel) (fun t hf y => ?_)
  have ht : t.val = 3 := by have := (flush0_15 t).1 hf; have := pt_lt t; omega
  show (dats m 0 c).after 15 t _ = _
  rw [after0_15]
  suffices K : ∀ y : S256x1024.Idx, (outsAt0 m c t.val t.isLt).2.2.2.2.2.2.1 y = (G15 A) (((cfg0.win 15).blk t).view.emb y) from K y
  intro y
  obtain ⟨n, d, rfl⟩ : ∃ n d, y = ix2 n d := ⟨y 0, y 1, (ix2_eta y).symm⟩
  refine Eq.trans ?_ (at_ix (G15 A) _ n d ?_ ?_).symm
  · exact (acc_dwb H t.val t.isLt (n, d)).trans (by rw [ht]; exact rows_sum fun N => A.yb N n * CT A N d)
  · show win0_15.index t 0 * 256 + 1 * n.val = _; rw [(index_out t).2.2.2.2.2.2.1.1]; omega
  · show win0_15.index t 1 * 1024 + 1 * d.val = _; rw [(index_out t).2.2.2.2.2.2.1.2]; omega

include H in
theorem arr16 : (dats m 0 c).arrAt 16 cfg0.N = G16 A := by
  refine (dats m 0 c).arrAt_eq_of_covers 16 (G16 A) (by decide +kernel) (fun t hf y => ?_)
  have ht : t.val = 3 := by have := (flush0_16 t).1 hf; have := pt_lt t; omega
  show (dats m 0 c).after 16 t _ = _
  rw [after0_16]
  suffices K : ∀ y : S1024x1024.Idx, (outsAt0 m c t.val t.isLt).2.2.2.2.2.2.2 y = (G16 A) (((cfg0.win 16).blk t).view.emb y) from K y
  intro y
  obtain ⟨n, d, rfl⟩ : ∃ n d, y = ix2 n d := ⟨y 0, y 1, (ix2_eta y).symm⟩
  refine Eq.trans ?_ (at_ix (G16 A) _ n d ?_ ?_).symm
  · obtain ⟨k, j, rfl⟩ := cc_eq n
    refine (acc_dwc H t.val t.isLt ((k, j), d)).trans ?_
    show _ = ∑ n, HeadE.pad (YY A n (hd (cc k j))) (cl (cc k j)) * CT A n d
    rw [hd_cc, cl_cc, ht]
    exact rows_sum fun n => HeadE.pad (YY A n k) j * CT A n d
  · show win0_16.index t 0 * 1024 + 1 * n.val = _; rw [(index_out t).2.2.2.2.2.2.2.1]; omega
  · show win0_16.index t 1 * 1024 + 1 * d.val = _; rw [(index_out t).2.2.2.2.2.2.2.2]; omega

end Arrays

end Cert.OutprojIdeal.Hand
end
-- ==== Proof.OutprojHost.lean ====
module

public import proofs.«01_k».proof.Proof.OutprojArr

/-! The output projection's backward kernel: its arguments as the host lays them out. -/

@[expose] public section

set_option maxRecDepth 16384

noncomputable section

open Idealize.ShloMosaic Idealize.ShloMosaic.TcCoe Idealize.SL.Sem

namespace Cert.OutprojIdeal.Hand

open Cert.OutprojIdeal Cert.OutprojIdeal.Gen
open Cert

section AnyFloat
variable {F : FTy → Type} [FloatOps F]

/-- The arguments as functions of the arrays. -/
def argY (y : FVec F S1x2048x256 .f32) : FVec F S2048x256 .f32 := shapeCast S2048x256 y shapeCasts_S1x2048x256_S2048x256
def argR (r : FVec F S1x2048x1024 .f32) : FVec F S2048x1024 .f32 := shapeCast S2048x1024 r shapeCasts_S1x2048x1024_S2048x1024
def argX (x : FVec F S1x2048x512 .f32) : FVec F S2048x1024 .f32 :=
  shapeCast S2048x1024 (pad S2048x8x128 ![0, 0, 0] ![0, 0, 64] ![0, 0, 0] (shapeCast S2048x8x64 (shapeCast S2048x512 x shapeCasts_S1x2048x512_S2048x512) shapeCasts_S2048x512_S2048x8x64)
    (sitofp .f32 (constantI S_ 32 0#32)) pads_S2048x8x64_S2048x8x128_000_000_0640 h_S_) shapeCasts_S2048x8x128_S2048x1024
def argG (g : FVec F S512 .f32) : FVec F S1x1024 .f32 :=
  shapeCast S1x1024 (shapeCast S1024 (pad S8x128 ![0, 0] ![0, 64] ![0, 0] (shapeCast S8x64 g shapeCasts_S512_S8x64)
    (sitofp .f32 (constantI S_ 32 0#32)) pads_S8x64_S8x128_000_0640 h_S_) shapeCasts_S8x128_S1024) shapeCasts_S1024_S1x1024
def argW4 (w : FVec F S1024x1024 .f32) : FVec F S4x256x1024 .bf16 := truncf .bf16 (shapeCast S4x256x1024 w shapeCasts_S1024x1024_S4x256x1024) bitsLt_bf16_f32
def argW (w : FVec F S1024x1024 .f32) : FVec F S1024x1024 .bf16 :=
  concatenate S1024x1024 0
    [⟨S256x1024, shapeCast S256x1024 (extractStridedSlice S1x256x1024 ![0, 0, 0] (argW4 w) slices_S4x256x1024_S1x256x1024_0_0_0) shapeCasts_S1x256x1024_S256x1024⟩,
     ⟨S256x1024, shapeCast S256x1024 (extractStridedSlice S1x256x1024 ![1, 0, 0] (argW4 w) slices_S4x256x1024_S1x256x1024_1_0_0) shapeCasts_S1x256x1024_S256x1024⟩,
     ⟨S256x1024, shapeCast S256x1024 (extractStridedSlice S1x256x1024 ![2, 0, 0] (argW4 w) slices_S4x256x1024_S1x256x1024_2_0_0) shapeCasts_S1x256x1024_S256x1024⟩,
     ⟨S256x1024, shapeCast S256x1024 (extractStridedSlice S1x256x1024 ![3, 0, 0] (argW4 w) slices_S4x256x1024_S1x256x1024_3_0_0) shapeCasts_S1x256x1024_S256x1024⟩]
    concatenates_S256x1024_S256x1024_S256x1024_S256x1024_S1024x1024_d0
def argWa (w : FVec F S1024x1024 .f32) : FVec F S256x1024 .bf16 := extractStridedSlice S256x1024 ![0, 0] (argW w) slices_S1024x1024_S256x1024_0_0
def argWb (w : FVec F S1024x1024 .f32) : FVec F S256x1024 .bf16 := extractStridedSlice S256x1024 ![256, 0] (argW w) slices_S1024x1024_S256x1024_256_0
def argWc (w : FVec F S1024x1024 .f32) : FVec F S1024x1024 .bf16 :=
  shapeCast S1024x1024 (pad S8x128x1024 ![0, 0, 0] ![0, 64, 0] ![0, 0, 0] (shapeCast S8x64x1024 (extractStridedSlice S512x1024 ![512, 0] (argW w) slices_S1024x1024_S512x1024_512_0) shapeCasts_S512x1024_S8x64x1024)
    (sitofp .bf16 (constantI S_ 32 0#32)) pads_S8x64x1024_S8x128x1024_000_0640_000 h_S_) shapeCasts_S8x128x1024_S1024x1024

variable (m : (ℓ : Loc nD τ sig) → Buf (Elt F) ℓ) (c : Dev nD)

theorem V_all : V m c main_v21 = argY (m ((c : Thread nD τ).loc main_arg1)) ∧ V m c main_v22 = argY (m ((c : Thread nD τ).loc main_arg2))
    ∧ V m c main_v26 = argX (m ((c : Thread nD τ).loc main_arg3)) ∧ V m c main_v20 = argG (m ((c : Thread nD τ).loc main_arg4))
    ∧ V m c main_v15 = argWa (m ((c : Thread nD τ).loc main_arg5)) ∧ V m c main_v16 = argWb (m ((c : Thread nD τ).loc main_arg5)) ∧ V m c main_v14 = argWc (m ((c : Thread nD τ).loc main_arg5))
    ∧ V m c main_v27 = argR (m ((c : Thread nD τ).loc main_arg6)) ∧ V m c main_arg7 = m ((c : Thread nD τ).loc main_arg7) := by
  refine ⟨?_, ?_, ?_, ?_, ?_, ?_, ?_, ?_, ?_⟩
  all_goals
    unfold V
    simp only [hostOps0, hostOps0_1, hostOps0_2, hostOps0_3, hostOps0_4, hostOps0_5, hostOps0_6, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
    after_results_simp <;> rfl

end AnyFloat

section Ideal
theorem zero_word (f : FTy) : FloatOps.sitofp (F := Ideal) f (0x00000000#32 : BitVec 32) = 0 := by
  show (((BitVec.toInt 0x00000000#32 : ℤ) : ℝ) : EReal) = 0
  norm_num

/-- A head's column among the 512. -/
def oc (k : Fin 8) (d : Fin 64) : Fin 512 := ⟨64 * k.val + d.val, by omega⟩

theorem argY_apply (y : FVec Ideal S1x2048x256 .f32) (n : Fin 2048) (j : Fin 256) : argY y (ix2 n j) = y (ix3 0 n j) := by pointwise [argY]
theorem argR_apply (r : FVec Ideal S1x2048x1024 .f32) (n : Fin 2048) (e : Fin 1024) : argR r (ix2 n e) = r (ix3 0 n e) := by pointwise [argR]
theorem argX_apply (x : FVec Ideal S1x2048x512 .f32) (n : Fin 2048) (k : Fin 8) (d : Fin 128) : argX x (ix2 n (cc k d)) = HeadE.pad (fun d => x (ix3 0 n (oc k d))) d := by
  rw [HeadE.pad]
  pointwise [argX]
  rw [zero_word]
  have hv : (cc k d).val = 128 * k.val + d.val := rfl
  by_cases h : d.val < 64
  · rw [dif_pos (show (cc k d).val / 128 < 8 ∧ (cc k d).val % 128 < 64 by omega), dif_pos h]
    exact congrArg (fun z => x (ix3 0 n z)) (Fin.ext (by show (cc k d).val / 128 * 64 + (cc k d).val % 128 = 64 * k.val + d.val; omega))
  · rw [dif_neg (show ¬((cc k d).val / 128 < 8 ∧ (cc k d).val % 128 < 64) by omega), dif_neg h]
theorem argG_apply (g : FVec Ideal S512 .f32) (k : Fin 8) (d : Fin 128) : argG g (ix2 0 (cc k d)) = HeadE.pad (fun d => g (ix1 (oc k d))) d := by
  rw [HeadE.pad]
  pointwise [argG]
  rw [zero_word]
  have hv : (cc k d).val = 128 * k.val + d.val := rfl
  by_cases h : d.val < 64
  · rw [dif_pos (show (cc k d).val / 128 < 8 ∧ (cc k d).val % 128 < 64 by omega), dif_pos h]
    exact congrArg (fun z => g (ix1 z)) (Fin.ext (by show (cc k d).val / 128 * 64 + (cc k d).val % 128 = 64 * k.val + d.val; omega))
  · rw [dif_neg (show ¬((cc k d).val / 128 < 8 ∧ (cc k d).val % 128 < 64) by omega), dif_neg h]
theorem argW_apply (w : FVec Ideal S1024x1024 .f32) (j e : Fin 1024) : argW w (ix2 j e) = w (ix2 j e) := by
  pointwise [argW, argW4]
  split_ifs
  · rfl
  all_goals exact congrArg (fun z => w (ix2 z e)) (Fin.ext (by dsimp only; omega))
theorem argWa_apply (w : FVec Ideal S1024x1024 .f32) (j : Fin 256) (e : Fin 1024) : argWa w (ix2 j e) = w (ix2 (ra j) e) := by
  rw [← argW_apply w]
  unfold argWa
  generalize argW w = a
  pointwise
  rfl
theorem argWb_apply (w : FVec Ideal S1024x1024 .f32) (j : Fin 256) (e : Fin 1024) : argWb w (ix2 j e) = w (ix2 (rb j) e) := by
  rw [← argW_apply w]
  unfold argWb
  generalize argW w = a
  pointwise
  rfl
theorem argWc_apply (w : FVec Ideal S1024x1024 .f32) (k : Fin 8) (d : Fin 128) (e : Fin 1024) : argWc w (ix2 (cc k d) e) = HeadE.pad (fun d => w (ix2 (rc k d) e)) d := by
  simp only [← argW_apply w]
  unfold argWc
  generalize argW w = a
  rw [HeadE.pad]
  pointwise
  rw [zero_word]
  have hv : (cc k d).val = 128 * k.val + d.val := rfl
  split_ifs with h1 h2 h2
  · exact congrArg (fun z => a (ix2 z e)) (Fin.ext (by show 512 + ((cc k d).val / 128 * 64 + (cc k d).val % 128) = 512 + 64 * k.val + d.val; omega))
  · exact absurd h1 (by omega)
  · exact absurd h1 (by omega)
  · rfl

/-- The arguments by their entries. -/
def argOf (x1 x2 : FVec Ideal S1x2048x256 .f32) (x3 : FVec Ideal S1x2048x512 .f32) (x4 : FVec Ideal S512 .f32) (x5 : FVec Ideal S1024x1024 .f32)
    (x6 : FVec Ideal S1x2048x1024 .f32) (x7 : FVec Ideal S4x2048x1024 .f32) : Arg where
  ya n j := x1 (ix3 0 n j)
  yb n j := x2 (ix3 0 n j)
  x n k d := x3 (ix3 0 n (oc k d))
  g k d := x4 (ix1 (oc k d))
  w j e := x5 (ix2 j e)
  r n e := x6 (ix3 0 n e)
  p q n e := x7 (ix3 q n e)

variable (x1 x2 : FVec Ideal S1x2048x256 .f32) (x3 : FVec Ideal S1x2048x512 .f32) (x4 : FVec Ideal S512 .f32) (x5 : FVec Ideal S1024x1024 .f32)
  (x6 : FVec Ideal S1x2048x1024 .f32) (x7 : FVec Ideal S4x2048x1024 .f32) (m : (ℓ : Loc nD τ sig) → Buf (Elt Ideal) ℓ) (c : Dev nD)

theorem args (h1 : m ((c : Thread nD τ).loc main_arg1) = x1) (h2 : m ((c : Thread nD τ).loc main_arg2) = x2) (h3 : m ((c : Thread nD τ).loc main_arg3) = x3)
    (h4 : m ((c : Thread nD τ).loc main_arg4) = x4) (h5 : m ((c : Thread nD τ).loc main_arg5) = x5) (h6 : m ((c : Thread nD τ).loc main_arg6) = x6)
    (h7 : m ((c : Thread nD τ).loc main_arg7) = x7) : Args m c (argOf x1 x2 x3 x4 x5 x6 x7) := by
  obtain ⟨e1, e2, e3, e4, e5, e6, e7, e8, e9⟩ := V_all m c
  rw [h1] at e1; rw [h2] at e2; rw [h3] at e3; rw [h4] at e4; rw [h5] at e5 e6 e7; rw [h6] at e8; rw [h7] at e9
  exact ⟨fun n j => (congrFun e1 _).trans (argY_apply _ n j), fun n j => (congrFun e2 _).trans (argY_apply _ n j), fun n k d => (congrFun e3 _).trans (argX_apply _ n k d),
    fun k d => (congrFun e4 _).trans (argG_apply _ k d), fun j e => (congrFun e5 _).trans (argWa_apply _ j e), fun j e => (congrFun e6 _).trans (argWb_apply _ j e),
    fun k d e => (congrFun e7 _).trans (argWc_apply _ k d e), fun n e => (congrFun e8 _).trans (argR_apply _ n e), fun q n e => congrFun e9 _⟩

end Ideal
end Cert.OutprojIdeal.Hand
end
-- ==== Proof.OutprojRef.lean ====
module

public import proofs.«01_k».proof.Proof.OutprojHost
public import proofs.«01_k».proof.Proof.Gen.OutprojRefIdeal.Read
public import proofs.«01_k».proof.Proof.Gen.OutprojRefIdeal.Run

/-! The output projection's reference: its eight results entry by entry over the extended reals. -/

@[expose] public section

set_option maxRecDepth 16384

noncomputable section

open Idealize.ShloMosaic Idealize.ShloMosaic.TcCoe Idealize.SL.Sem

namespace Cert.OutprojIdeal.Hand

open Cert.OutprojRefIdeal Cert.OutprojRefIdeal.Gen Cert.OutprojRefIdeal.Read
open Cert

section Reductions
theorem red01 (x : FVec Ideal S1x1x8x64 .f32) (k : Fin 8) (d : Fin 64) :
    Ideal.hostReduceAdd reducesTo_S1x1x8x64_S8x64_d0_1 x 0 (ix2 k d) = x (ix4 0 0 k d) := by
  rw [Ideal.hostReduceAdd, zero_add]
  refine Finset.sum_eq_single_of_mem (ix4 0 0 k d) (Finset.mem_filter.2 ⟨Finset.mem_univ _, ?_⟩) fun i hi hne => absurd ?_ hne
  · funext a; match a with
    | ⟨0, _⟩ => rfl
    | ⟨1, _⟩ => rfl
  · have e := (Finset.mem_filter.1 hi).2
    funext a; apply Fin.ext; match a with
    | ⟨0, _⟩ => show (i 0).val = 0; exact Nat.lt_one_iff.1 (i 0).isLt
    | ⟨1, _⟩ => show (i 1).val = 0; exact Nat.lt_one_iff.1 (i 1).isLt
    | ⟨2, _⟩ => exact congrArg (fun z : S8x64.Idx => (z 0).val) e
    | ⟨3, _⟩ => exact congrArg (fun z : S8x64.Idx => (z 1).val) e

theorem red03 (x : FVec Ideal S1x2048x8x1 .f32) (n : Fin 2048) (k : Fin 8) :
    Ideal.hostReduceAdd reducesTo_S1x2048x8x1_S2048x8_d0_3 x 0 (ix2 n k) = x (ix4 0 n k 0) := by
  rw [Ideal.hostReduceAdd, zero_add]
  refine Finset.sum_eq_single_of_mem (ix4 0 n k 0) (Finset.mem_filter.2 ⟨Finset.mem_univ _, ?_⟩) fun i hi hne => absurd ?_ hne
  · funext a; match a with
    | ⟨0, _⟩ => rfl
    | ⟨1, _⟩ => rfl
  · have e := (Finset.mem_filter.1 hi).2
    funext a; apply Fin.ext; match a with
    | ⟨0, _⟩ => show (i 0).val = 0; exact Nat.lt_one_iff.1 (i 0).isLt
    | ⟨1, _⟩ => exact congrArg (fun z : S2048x8.Idx => (z 0).val) e
    | ⟨2, _⟩ => exact congrArg (fun z : S2048x8.Idx => (z 1).val) e
    | ⟨3, _⟩ => show (i 3).val = 0; exact Nat.lt_one_iff.1 (i 3).isLt
end Reductions

variable (x1 x2 : FVec Ideal S1x2048x256 .f32) (x3 : FVec Ideal S1x2048x512 .f32) (x4 : FVec Ideal S512 .f32) (x5 : FVec Ideal S1024x1024 .f32)
  (x6 : FVec Ideal S1x2048x1024 .f32) (x7 : FVec Ideal S4x2048x1024 .f32)

/-- The heads and the gain by head and column. -/
def oX (n : Fin 2048) (k : Fin 8) (d : Fin 64) : EReal := x3 (ix3 0 n (oc k d))
def oG (k : Fin 8) (d : Fin 64) : EReal := x4 (ix1 (oc k d))

theorem r0 (n : Fin 2048) (k : Fin 8) (d : Fin 64) : val_main_v0 (F := Ideal) x3 (ix4 0 n k d) = oX x3 n k d := by
  unfold val_main_v0
  pointwise
  first | rfl | exact congrArg (fun z => x3 (ix3 0 n z)) (Fin.ext (by show _ = 64 * k.val + d.val; dsimp only; omega))

theorem r15 (k : Fin 8) (d : Fin 64) : val_main_v15 (F := Ideal) x4 (ix4 0 0 k d) = oG x4 k d := by
  unfold val_main_v15 val_main_v1
  pointwise
  first | rfl | exact congrArg (fun z => x4 (ix1 z)) (Fin.ext (by show _ = 64 * k.val + d.val; dsimp only; omega))

theorem r8 (n : Fin 2048) (k : Fin 8) : val_main_v8 (F := Ideal) x3 (ix4 0 n k 0) = HeadE.ms (oX x3 n k) := by
  simp only [HeadE.ms, ← r0]
  unfold val_main_v8 val_main_v7 val_main_v6 val_main_v5 val_main_v4 val_main_v3 val_main_v2 val_main_cst val_main_cst_0 val_main_cst_1
  generalize val_main_v0 (F := Ideal) x3 = a
  pointwise

theorem r9 (n : Fin 2048) (k : Fin 8) : val_main_v9 (F := Ideal) x3 (ix4 0 n k 0) = HeadE.rs (oX x3 n k) := by
  rw [HeadE.rs, ← r8]
  unfold val_main_v9
  generalize val_main_v8 (F := Ideal) x3 = a
  pointwise

theorem r12 (n : Fin 2048) (k : Fin 8) : val_main_v12 (F := Ideal) x3 (ix4 0 n k 0) = HeadE.co (oX x3 n k) := by
  rw [HeadE.co, ← r9, ← r8]
  unfold val_main_v12 val_main_v11 val_main_v10 val_main_cst_2
  generalize val_main_v9 (F := Ideal) x3 = a
  generalize val_main_v8 (F := Ideal) x3 = b
  pointwise

theorem r14 (n : Fin 2048) (k : Fin 8) (d : Fin 64) : val_main_v14 (F := Ideal) x3 (ix4 0 n k d) = oX x3 n k d * HeadE.rs (oX x3 n k) := by
  rw [← r9, ← r0]
  unfold val_main_v14 val_main_v13
  generalize val_main_v9 (F := Ideal) x3 = a
  generalize val_main_v0 (F := Ideal) x3 = b
  pointwise

theorem r17 (n : Fin 2048) (k : Fin 8) (d : Fin 64) : val_main_v17 (F := Ideal) x3 x4 (ix4 0 n k d) = oX x3 n k d * HeadE.rs (oX x3 n k) * oG x4 k d := by
  rw [← r14, ← r15]
  unfold val_main_v17 val_main_v16
  generalize val_main_v14 (F := Ideal) x3 = a
  generalize val_main_v15 (F := Ideal) x4 = b
  pointwise

theorem r19a (n : Fin 2048) (j : Fin 256) : val_main_v19 (F := Ideal) x1 x2 x3 x4 (ix3 0 n (ra j)) = x1 (ix3 0 n j) := by
  unfold val_main_v19
  generalize val_main_v18 (F := Ideal) x3 x4 = a
  pointwise
  rw [dif_pos (show (ra j).val < 256 from j.isLt)]
  rfl

theorem r19b (n : Fin 2048) (j : Fin 256) : val_main_v19 (F := Ideal) x1 x2 x3 x4 (ix3 0 n (rb j)) = x2 (ix3 0 n j) := by
  have hv : (rb j).val = 256 + j.val := rfl
  unfold val_main_v19
  generalize val_main_v18 (F := Ideal) x3 x4 = a
  pointwise
  rw [dif_neg (show ¬(rb j).val < 256 by omega), dif_pos (show (rb j).val - 256 < 256 by omega)]
  exact congrArg (fun z => x2 (ix3 0 n z)) (Fin.ext (by show (rb j).val - 256 = j.val; omega))

theorem r19c (n : Fin 2048) (k : Fin 8) (d : Fin 64) : val_main_v19 (F := Ideal) x1 x2 x3 x4 (ix3 0 n (rc k d)) = oX x3 n k d * HeadE.rs (oX x3 n k) * oG x4 k d := by
  have hv : (rc k d).val = 512 + 64 * k.val + d.val := rfl
  rw [← r17]
  unfold val_main_v19 val_main_v18
  generalize val_main_v17 (F := Ideal) x3 x4 = a
  pointwise
  rw [dif_neg (show ¬(rc k d).val < 256 by omega), dif_neg (show ¬(rc k d).val - 256 < 256 by omega)]
  exact congrArg₂ (fun y z => a (ix4 0 n y z)) (Fin.ext (by dsimp only; omega)) (Fin.ext (by dsimp only; omega))

theorem r24 (n : Fin 2048) (e : Fin 1024) : val_main_v24 (F := Ideal) x6 x7 (ix3 0 n e) = CT (argOf x1 x2 x3 x4 x5 x6 x7) n e := by
  rw [CT]
  unfold val_main_v24 val_main_v23 val_main_v22 val_main_cst_3
  pointwise
  rw [Fin.sum_univ_four, ← add_assoc, ← add_assoc, ← add_assoc]
  rfl

theorem r26 (j e : Fin 1024) : val_main_v26 (F := Ideal) x1 x2 x3 x4 x6 x7 (ix2 j e)
    = ∑ n, val_main_v19 (F := Ideal) x1 x2 x3 x4 (ix3 0 n j) * CT (argOf x1 x2 x3 x4 x5 x6 x7) n e := by
  simp only [← r24, mul_comm (val_main_v19 (F := Ideal) x1 x2 x3 x4 _)]
  unfold val_main_v26 val_main_v25
  generalize val_main_v24 (F := Ideal) x6 x7 = a
  generalize val_main_v19 (F := Ideal) x1 x2 x3 x4 = b
  pointwise
  simp only [Finset.univ_unique, Finset.sum_singleton]
  rfl

theorem r27 (n : Fin 2048) (j : Fin 1024) : val_main_v27 (F := Ideal) x5 x6 x7 (ix3 0 n j) = ∑ e, CT (argOf x1 x2 x3 x4 x5 x6 x7) n e * x5 (ix2 j e) := by
  simp only [← r24]
  unfold val_main_v27
  generalize val_main_v24 (F := Ideal) x6 x7 = a
  pointwise

theorem r31 (n : Fin 2048) (k : Fin 8) (d : Fin 64) : val_main_v31 (F := Ideal) x5 x6 x7 (ix4 0 n k d) = DY (argOf x1 x2 x3 x4 x5 x6 x7) n k d := by
  refine Eq.trans ?_ (r27 x1 x2 x3 x4 x5 x6 x7 n (rc k d))
  unfold val_main_v31 val_main_v30
  generalize val_main_v27 (F := Ideal) x5 x6 x7 = a
  pointwise
  exact congrArg (fun z => a (ix3 0 n z)) (Fin.ext (by show _ = 512 + 64 * k.val + d.val; dsimp only; omega))

theorem r37 (k : Fin 8) (d : Fin 64) : val_main_v37 (F := Ideal) x3 x5 x6 x7 (ix2 k d) = ∑ n, DG (argOf x1 x2 x3 x4 x5 x6 x7) n k d := by
  have h : ∀ n, DG (argOf x1 x2 x3 x4 x5 x6 x7) n k d = val_main_v14 (F := Ideal) x3 (ix4 0 n k d) * val_main_v31 (F := Ideal) x5 x6 x7 (ix4 0 n k d) := fun n => by
    rw [r14, r31 x1 x2 x3 x4]; rfl
  simp only [h]
  unfold val_main_v37 val_main_v34 val_main_v33 val_main_v32 val_main_cst_4 val_main_cst_5
  generalize val_main_v14 (F := Ideal) x3 = a
  generalize val_main_v31 (F := Ideal) x5 x6 x7 = b
  pointwise
  rw [red01]
  pointwise

theorem r36 (n : Fin 2048) (k : Fin 8) (d : Fin 64) : val_main_v36 (F := Ideal) x4 x5 x6 x7 (ix4 0 n k d) = DY (argOf x1 x2 x3 x4 x5 x6 x7) n k d * oG x4 k d := by
  rw [← r31, ← r15]
  unfold val_main_v36 val_main_v35
  generalize val_main_v31 (F := Ideal) x5 x6 x7 = a
  generalize val_main_v15 (F := Ideal) x4 = b
  pointwise

theorem r46 (n : Fin 2048) (k : Fin 8) : val_main_v46 (F := Ideal) x3 x4 x5 x6 x7 (ix2 n k)
    = HeadE.qq (oX x3 n k) (oG x4 k) (DY (argOf x1 x2 x3 x4 x5 x6 x7) n k) := by
  simp only [HeadE.qq, ← r12, ← r36, ← r0]
  unfold val_main_v46 val_main_v45 val_main_v44 val_main_v43 val_main_v40 val_main_v39 val_main_v38 val_main_cst_6 val_main_cst_7 val_main_cst_8
  generalize val_main_v12 (F := Ideal) x3 = a
  generalize val_main_v36 (F := Ideal) x4 x5 x6 x7 = b
  generalize val_main_v0 (F := Ideal) x3 = e
  pointwise
  rw [red03]
  pointwise

theorem r52 (n : Fin 2048) (k : Fin 8) (d : Fin 64) : val_main_v52 (F := Ideal) x3 x4 x5 x6 x7 (ix4 0 n k d) = DX (argOf x1 x2 x3 x4 x5 x6 x7) n k d := by
  show _ = HeadE.dx (oX x3 n k) (oG x4 k) (DY (argOf x1 x2 x3 x4 x5 x6 x7) n k) d
  rw [HeadE.dx, ← r36, ← r46, ← r9, ← r0]
  unfold val_main_v52 val_main_v51 val_main_v50 val_main_v49 val_main_v48 val_main_v47 val_main_v42 val_main_v41
  generalize val_main_v46 (F := Ideal) x3 x4 x5 x6 x7 = a
  generalize val_main_v36 (F := Ideal) x4 x5 x6 x7 = b
  generalize val_main_v9 (F := Ideal) x3 = e
  generalize val_main_v0 (F := Ideal) x3 = f
  pointwise

/-! The results. -/

theorem res_dx2 : val_main_v65 (F := Ideal) x6 x7 = G9 (argOf x1 x2 x3 x4 x5 x6 x7) := by
  funext y
  obtain ⟨n, e, rfl⟩ : ∃ n e, y = ix2 n e := ⟨y 0, y 1, (ix2_eta y).symm⟩
  refine Eq.trans ?_ (r24 x1 x2 x3 x4 x5 x6 x7 n e)
  unfold val_main_v65
  generalize val_main_v24 (F := Ideal) x6 x7 = a
  pointwise

theorem res_dya : val_main_v66 (F := Ideal) x5 x6 x7 = G10 (argOf x1 x2 x3 x4 x5 x6 x7) := by
  funext y
  obtain ⟨n, j, rfl⟩ : ∃ n j, y = ix2 n j := ⟨y 0, y 1, (ix2_eta y).symm⟩
  refine Eq.trans ?_ (r27 x1 x2 x3 x4 x5 x6 x7 n (ra j))
  unfold val_main_v66 val_main_v28
  generalize val_main_v27 (F := Ideal) x5 x6 x7 = a
  pointwise
  rfl

theorem res_dyb : val_main_v67 (F := Ideal) x5 x6 x7 = G11 (argOf x1 x2 x3 x4 x5 x6 x7) := by
  funext y
  obtain ⟨n, j, rfl⟩ : ∃ n j, y = ix2 n j := ⟨y 0, y 1, (ix2_eta y).symm⟩
  refine Eq.trans ?_ (r27 x1 x2 x3 x4 x5 x6 x7 n (rb j))
  unfold val_main_v67 val_main_v29
  generalize val_main_v27 (F := Ideal) x5 x6 x7 = a
  pointwise
  rfl

theorem res_do : val_main_v57 (F := Ideal) x3 x4 x5 x6 x7 = G12 (argOf x1 x2 x3 x4 x5 x6 x7) := by
  funext y
  obtain ⟨n, j, rfl⟩ : ∃ n j, y = ix2 n j := ⟨y 0, y 1, (ix2_eta y).symm⟩
  show _ = HeadE.pad (DX (argOf x1 x2 x3 x4 x5 x6 x7) n (hd j)) (cl j)
  obtain ⟨k, d, rfl⟩ : ∃ k d, j = cc k d := cc_eq j
  rw [hd_cc, cl_cc, HeadE.pad]
  simp only [← r52]
  unfold val_main_v57 val_main_v56 val_main_v55 val_main_v54
  generalize val_main_v52 (F := Ideal) x3 x4 x5 x6 x7 = a
  pointwise [val_main_call0_v0, val_main_c]
  rw [zero_word]
  have hv : (cc k d).val = 128 * k.val + d.val := rfl
  split_ifs with h1 h2 h2
  · exact congrArg₂ (fun y z => a (ix4 0 n y z)) (Fin.ext (by show (cc k d).val / 128 = k.val; omega)) (Fin.ext (by show (cc k d).val % 128 = d.val; omega))
  · exact absurd h1 (by omega)
  · exact absurd h1 (by omega)
  · rfl

theorem res_dgain : val_main_v60 (F := Ideal) x3 x5 x6 x7 = G13 (argOf x1 x2 x3 x4 x5 x6 x7) := by
  funext y
  obtain ⟨z, j, rfl⟩ : ∃ z j, y = ix2 z j := ⟨y 0, y 1, (ix2_eta y).symm⟩
  show _ = ∑ n, HeadE.pad (DG (argOf x1 x2 x3 x4 x5 x6 x7) n (hd j)) (cl j)
  obtain ⟨k, d, rfl⟩ : ∃ k d, j = cc k d := cc_eq j
  rw [hd_cc, cl_cc, HeadE.pad_sum, HeadE.pad]
  simp only [← r37]
  unfold val_main_v60 val_main_v59 val_main_v58 val_main_v53
  generalize val_main_v37 (F := Ideal) x3 x5 x6 x7 = a
  pointwise [val_main_call1_v0, val_main_c_9]
  rw [zero_word]
  have hv : (cc k d).val = 128 * k.val + d.val := rfl
  split_ifs with h1 h2 h2
  · exact congrArg₂ (fun y z => a (ix2 y z)) (Fin.ext (by show (cc k d).val / 128 = k.val; omega)) (Fin.ext (by show (cc k d).val % 128 = d.val; omega))
  · exact absurd h1 (by omega)
  · exact absurd h1 (by omega)
  · rfl

theorem res_dwa : val_main_v68 (F := Ideal) x1 x2 x3 x4 x6 x7 = G14 (argOf x1 x2 x3 x4 x5 x6 x7) := by
  funext y
  obtain ⟨j, e, rfl⟩ : ∃ j e, y = ix2 j e := ⟨y 0, y 1, (ix2_eta y).symm⟩
  refine Eq.trans ?_ ((r26 x1 x2 x3 x4 x5 x6 x7 (ra j) e).trans (by simp only [r19a]; rfl))
  unfold val_main_v68
  generalize val_main_v26 (F := Ideal) x1 x2 x3 x4 x6 x7 = a
  pointwise
  rfl

theorem res_dwb : val_main_v69 (F := Ideal) x1 x2 x3 x4 x6 x7 = G15 (argOf x1 x2 x3 x4 x5 x6 x7) := by
  funext y
  obtain ⟨j, e, rfl⟩ : ∃ j e, y = ix2 j e := ⟨y 0, y 1, (ix2_eta y).symm⟩
  refine Eq.trans ?_ ((r26 x1 x2 x3 x4 x5 x6 x7 (rb j) e).trans (by simp only [r19b]; rfl))
  unfold val_main_v69
  generalize val_main_v26 (F := Ideal) x1 x2 x3 x4 x6 x7 = a
  pointwise
  rfl

theorem res_dwc : val_main_v64 (F := Ideal) x1 x2 x3 x4 x6 x7 = G16 (argOf x1 x2 x3 x4 x5 x6 x7) := by
  funext y
  obtain ⟨j, e, rfl⟩ : ∃ j e, y = ix2 j e := ⟨y 0, y 1, (ix2_eta y).symm⟩
  show _ = ∑ n, HeadE.pad (YY (argOf x1 x2 x3 x4 x5 x6 x7) n (hd j)) (cl j) * CT (argOf x1 x2 x3 x4 x5 x6 x7) n e
  obtain ⟨k, d, rfl⟩ : ∃ k d, j = cc k d := cc_eq j
  simp only [hd_cc, cl_cc, HeadE.pad_smul]
  rw [HeadE.pad_sum, HeadE.pad]
  have h : ∀ d, ∑ n, YY (argOf x1 x2 x3 x4 x5 x6 x7) n k d * CT (argOf x1 x2 x3 x4 x5 x6 x7) n e = val_main_v26 (F := Ideal) x1 x2 x3 x4 x6 x7 (ix2 (rc k d) e) := fun d => by
    rw [r26 x1 x2 x3 x4 x5]; simp only [r19c]; rfl
  simp only [h]
  unfold val_main_v64 val_main_v63 val_main_v62 val_main_v61
  generalize val_main_v26 (F := Ideal) x1 x2 x3 x4 x6 x7 = a
  pointwise [val_main_call2_v0, val_main_c_10]
  rw [zero_word]
  have hv : (cc k d).val = 128 * k.val + d.val := rfl
  split_ifs with h1 h2 h2
  · exact congrArg (fun z => a (ix2 z e)) (Fin.ext (by show 512 + ((cc k d).val / 128 * 64 + (cc k d).val % 128) = 512 + 64 * k.val + d.val; omega))
  · exact absurd h1 (by omega)
  · exact absurd h1 (by omega)
  · rfl

end Cert.OutprojIdeal.Hand
end
-- ==== Proof.OutprojClaim.lean ====
module

public import proofs.«01_k».proof.Defs
public import proofs.«01_k».proof.Proof.OutprojRef
public import proofs.«01_k».proof.Proof.Gen.OutprojIdeal.Value
public import proofs.«01_k».proof.Proof.Gen.Outproj.Frame
public import Idealize.ShloMosaic.Lib.Quiescent
public import Idealize.ShloMosaic.Lib.Claim

/-! The output projection's claims: the kernel's eight results are the reference's, over the extended reals. -/

@[expose] public section

set_option maxRecDepth 16384

noncomputable section

open Idealize.ShloMosaic Idealize.ShloMosaic.TcCoe Idealize.SL.Sem

namespace Cert.OutprojIdeal.Hand

open Cert.OutprojIdeal Cert.OutprojIdeal.Gen

theorem frame_ref : Cert.quiescent_OutprojRefIdeal := fun m ρ _ =>
  (θ_run Cert.OutprojRefIdeal.defs _ _).mono (fun r h => ⟨fun c => (h c).2.2.2.2.2.2.2.2, sem_eq_zero_of_no_sems (by decide) r.2⟩)
    (Cert.OutprojRefIdeal.Value.run (F := Ideal) m ρ)

set_option maxHeartbeats 2000000 in
theorem algebraic : Cert.algebraic_OutprojIdeal_OutprojRefIdeal := by
  intro m g m' g' _ hagree
  refine ⟨fun c => (dats m 0 c).arrAt 9 cfg0.N, fun c => (dats m 0 c).arrAt 10 cfg0.N, fun c => (dats m 0 c).arrAt 11 cfg0.N,
    fun c => (dats m 0 c).arrAt 12 cfg0.N, fun c => (dats m 0 c).arrAt 13 cfg0.N, fun c => (dats m 0 c).arrAt 14 cfg0.N,
    fun c => (dats m 0 c).arrAt 15 cfg0.N, fun c => (dats m 0 c).arrAt 16 cfg0.N, ?_, ?_⟩
  · exact Cert.OutprojIdeal.Value.run_blocks (F := Ideal) m g
  · refine (θ_run Cert.OutprojRefIdeal.defs _ _).mono (fun _ h c => ?_) (Cert.OutprojRefIdeal.Value.run (F := Ideal) m' g')
    obtain ⟨a0, a1, a2, a3, a4, a5, a6, a7⟩ := hagree c
    have A := args _ _ _ _ _ _ _ m c a1.symm a2.symm a3.symm a4.symm a5.symm a6.symm a7.symm
    have hc := h c
    clear h
    rw [Cert.OutprojRefIdeal.Read.val_main_v65_eq, Cert.OutprojRefIdeal.Read.val_main_v66_eq, Cert.OutprojRefIdeal.Read.val_main_v67_eq,
      Cert.OutprojRefIdeal.Read.val_main_v57_eq, Cert.OutprojRefIdeal.Read.val_main_v60_eq, Cert.OutprojRefIdeal.Read.val_main_v68_eq,
      Cert.OutprojRefIdeal.Read.val_main_v69_eq, Cert.OutprojRefIdeal.Read.val_main_v64_eq] at hc
    obtain ⟨h1, h2, h3, h4, h5, h6, h7, h8, h9⟩ := hc
    exact ⟨h1.trans ((res_dx2 ..).trans (arr9 A).symm), h2.trans ((res_dya ..).trans (arr10 A).symm), h3.trans ((res_dyb ..).trans (arr11 A).symm),
      h4.trans ((res_do ..).trans (arr12 A).symm), h5.trans ((res_dgain ..).trans (arr13 A).symm), h6.trans ((res_dwa ..).trans (arr14 A).symm),
      h7.trans ((res_dwb ..).trans (arr15 A).symm), h8.trans ((res_dwc ..).trans (arr16 A).symm), h9⟩

end Cert.OutprojIdeal.Hand
end
-- ==== Proof.OutprojFwdClaim.lean ====
module

public import proofs.«01_k».proof.Defs
public import proofs.«01_k».proof.Proof.Gen.OutprojFwd.Frame
public import proofs.«01_k».proof.Proof.Gen.OutprojFwdIdeal.Value
public import proofs.«01_k».proof.Proof.Gen.OutprojFwdRefIdeal.Read
public import proofs.«01_k».proof.Proof.Gen.OutprojFwdRefIdeal.Run
public import Idealize.ShloMosaic.Lib.Pointwise
public import Idealize.ShloMosaic.Lib.Pipeline.ValueKit
public import Idealize.ShloMosaic.Lib.Quiescent
public import proofs.«01_k».proof.Proof.OutprojRef

/-! The output projection's forward kernel: the layer's rows plus the three branches, the last one normed head by head, times the weight. -/

@[expose] public section

set_option maxRecDepth 16384

noncomputable section

open Idealize.ShloMosaic Idealize.ShloMosaic.TcCoe Idealize.SL.Sem

namespace Cert.OutprojFwdIdeal.Hand

open Cert.OutprojFwdIdeal Cert.OutprojFwdIdeal.Gen
open Cert
open Cert.OutprojIdeal.Hand (cc cc_eq oc ra rb rc row at_ix hz2 part part_apply yH yH_apply cat8 argY argR argX argG argWa argWb argWc argY_apply argR_apply argX_apply
  argG_apply argWa_apply argWb_apply argWc_apply)
open Cert.OutprojIdeal.Hand (oX oG r19a r19b r19c)

section Sums
theorem sum_heads {n : ℕ} (f : Fin (8 * n) → EReal) : ∑ j, f j = ∑ k : Fin 8, ∑ d : Fin n, f (finProdFinEquiv (k, d)) := by
  rw [← finProdFinEquiv.sum_comp, Fintype.sum_prod_type]
theorem sum_cc (f : Fin 1024 → EReal) : ∑ j, f j = ∑ k, ∑ d, f (cc k d) :=
  (sum_heads (n := 128) f).trans (Finset.sum_congr rfl fun k _ => Finset.sum_congr rfl fun d _ =>
    congrArg f (Fin.ext (by show d.val + 128 * k.val = 128 * k.val + d.val; omega)))
theorem sum_split (f : Fin 1024 → EReal) : ∑ j, f j = ∑ j, f (ra j) + ∑ j, f (rb j) + ∑ k, ∑ d, f (rc k d) := by
  rw [show ∑ j, f j = ∑ j : Fin (256 + 256 + 8 * 64), f j from rfl, Fin.sum_univ_add, Fin.sum_univ_add, sum_heads (n := 64)]
  refine congrArg₂ (· + ·) rfl (Finset.sum_congr rfl fun k _ => Finset.sum_congr rfl fun d _ => ?_)
  exact congrArg f (Fin.ext (by show 256 + 256 + (d.val + 64 * k.val) = 512 + 64 * k.val + d.val; omega))
end Sums

section Outs
variable {F : FTy → Type} [FloatOps F]

/-- The eight normed heads side by side. -/
def cat (x : Vec F S512x1024 .f32) (g : Vec F S1x1024 .f32) : FVec F S512x1024 .f32 :=
  let y (k : Fin 8) : FVec F S512x128 .f32 := yH (part (a := 512) x k) (part (a := 1) g k)
  concatenate S512x1024 1 [⟨S512x128, y 0⟩, ⟨S512x128, y 1⟩, ⟨S512x128, y 2⟩, ⟨S512x128, y 3⟩, ⟨S512x128, y 4⟩, ⟨S512x128, y 5⟩, ⟨S512x128, y 6⟩, ⟨S512x128, y 7⟩]
    concatenates_S512x128_S512x128_S512x128_S512x128_S512x128_S512x128_S512x128_S512x128_S512x1024_d1

theorem out (x0 : Vec F S512x1024 .f32) (x1 x2 : Vec F S512x256 .f32) (x3 : Vec F S512x1024 .f32) (x4 : Vec F S1x1024 .f32) (x5 x6 : Vec F S256x1024 .bf16)
    (x7 : Vec F S1024x1024 .bf16) : out0_8 x0 x1 x2 x3 x4 x5 x6 x7 = k0_pay2 (k0_pay3 x0) (k0_pay4 x1) (k0_pay5 x2) (k0_pay22 x5) (k0_pay23 x6) (k0_pay24 x7) (cat x3 x4) := by
  unfold out0_8
  rw [View.canon_unit_zero hz2]
  simp only [View.ld_unit_zero (S := S512x1024) hz2, View.ld_unit_zero (S := S512x256) hz2, View.ld_unit_zero (S := S256x1024) hz2, View.ld_unit_zero (S := S1024x1024) hz2]
  rfl
end Outs

section Payloads
theorem cat_apply (x : Vec Ideal S512x1024 .f32) (g : Vec Ideal S1x1024 .f32) (n : Fin 512) (k : Fin 8) (d : Fin 128) :
    cat (F := Ideal) x g (ix2 n (cc k d)) = yH (F := Ideal) (part (a := 512) x k) (part (a := 1) g k) (ix2 n d) := by
  unfold cat
  obtain ⟨y, hY⟩ : ∃ y : Fin 8 → FVec Ideal S512x128 .f32, ∀ k, yH (F := Ideal) (part (a := 512) x k) (part (a := 1) g k) = y k := ⟨_, fun k => rfl⟩
  simp only [hY]
  pointwise
  exact cat8 (fun k d => y k (ix2 n d)) k d _ (by show 128 * k.val + d.val - 128 - 128 - 128 - 128 - 128 - 128 - 128 < 128; omega) rfl

theorem pay2_apply (x : FVec Ideal S512x1024 .f32) (a b : FVec Ideal S512x256 .f32) (wa wb : FVec Ideal S256x1024 .bf16) (wc : FVec Ideal S1024x1024 .bf16)
    (y : FVec Ideal S512x1024 .f32) (n : Fin 512) (e : Fin 1024) :
    k0_pay2 (F := Ideal) (k0_pay3 x) (k0_pay4 a) (k0_pay5 b) (k0_pay22 wa) (k0_pay23 wb) (k0_pay24 wc) y (ix2 n e)
      = x (ix2 n e) + ∑ j : Fin 256, a (ix2 n j) * wa (ix2 j e) + ∑ j : Fin 256, b (ix2 n j) * wb (ix2 j e) + ∑ j : Fin 1024, y (ix2 n j) * wc (ix2 j e) := by
  pointwise [k0_pay2, k0_pay3, k0_pay4, k0_pay5, k0_pay22, k0_pay23, k0_pay24]
end Payloads

section Whole
variable (x0 : FVec Ideal S1x2048x1024 .f32) (x1 x2 : FVec Ideal S1x2048x256 .f32) (x3 : FVec Ideal S1x2048x512 .f32) (x4 : FVec Ideal S512 .f32)
  (x5 : FVec Ideal S1024x1024 .f32)

/-- A normed head, and the result by its entries. -/
def YY (n : Fin 2048) (k : Fin 8) (d : Fin 64) : EReal := oX x3 n k d * HeadE.rs (oX x3 n k) * oG x4 k d
def G8 (y : S2048x1024.Idx) : EReal :=
  x0 (ix3 0 (y 0) (y 1)) + ∑ j, x1 (ix3 0 (y 0) j) * x5 (ix2 (ra j) (y 1)) + ∑ j, x2 (ix3 0 (y 0) j) * x5 (ix2 (rb j) (y 1))
    + ∑ k, ∑ d, YY x3 x4 (y 0) k d * x5 (ix2 (rc k d) (y 1))
end Whole

section Arrays
variable (m : (ℓ : Loc nD τ sig) → Buf (Elt Ideal) ℓ) (c : Dev nD)

theorem V_all : V m c main_v21 = argR (F := Ideal) (m ((c : Thread nD τ).loc main_arg0)) ∧ V m c main_v22 = argY (F := Ideal) (m ((c : Thread nD τ).loc main_arg1))
    ∧ V m c main_v23 = argY (F := Ideal) (m ((c : Thread nD τ).loc main_arg2)) ∧ V m c main_v27 = argX (F := Ideal) (m ((c : Thread nD τ).loc main_arg3))
    ∧ V m c main_v20 = argG (F := Ideal) (m ((c : Thread nD τ).loc main_arg4)) ∧ V m c main_v15 = argWa (F := Ideal) (m ((c : Thread nD τ).loc main_arg5))
    ∧ V m c main_v16 = argWb (F := Ideal) (m ((c : Thread nD τ).loc main_arg5)) ∧ V m c main_v14 = argWc (F := Ideal) (m ((c : Thread nD τ).loc main_arg5)) := by
  refine ⟨?_, ?_, ?_, ?_, ?_, ?_, ?_, ?_⟩
  all_goals
    unfold V
    simp only [hostOps0, hostOps0_1, hostOps0_2, hostOps0_3, hostOps0_4, hostOps0_5, hostOps0_6, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
    after_results_simp <;> rfl

theorem index : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0) ∧ (win0_7.index t 0 = 0 ∧ win0_7.index t 1 = 0)
    ∧ (win0_8.index t 0 = t.val ∧ win0_8.index t 1 = 0) := by decide +kernel
theorem pt_lt (t : Fin cfg0.N) : t.val < 4 := by have := t.isLt; have : cfg0.N = 4 := N_0; omega

/-- The row of a point's tile. -/
abbrev tr (t : Fin cfg0.N) (n : Fin 512) : Fin 2048 := row (512 * t.val + n.val)
theorem tr_val (t : Fin cfg0.N) (n : Fin 512) : (tr t n).val = 512 * t.val + n.val := Nat.mod_eq_of_lt (by have := pt_lt t; omega)

/-- The kernel's six arrays in the launch memory. -/
structure Args (x0 : FVec Ideal S1x2048x1024 .f32) (x1 x2 : FVec Ideal S1x2048x256 .f32) (x3 : FVec Ideal S1x2048x512 .f32) (x4 : FVec Ideal S512 .f32)
    (x5 : FVec Ideal S1024x1024 .f32) : Prop where
  h0 : m ((c : Thread nD τ).loc main_arg0) = x0
  h1 : m ((c : Thread nD τ).loc main_arg1) = x1
  h2 : m ((c : Thread nD τ).loc main_arg2) = x2
  h3 : m ((c : Thread nD τ).loc main_arg3) = x3
  h4 : m ((c : Thread nD τ).loc main_arg4) = x4
  h5 : m ((c : Thread nD τ).loc main_arg5) = x5

variable {m c} {x0 : FVec Ideal S1x2048x1024 .f32} {x1 x2 : FVec Ideal S1x2048x256 .f32} {x3 : FVec Ideal S1x2048x512 .f32} {x4 : FVec Ideal S512 .f32}
  {x5 : FVec Ideal S1024x1024 .f32} (A : Args m c x0 x1 x2 x3 x4 x5) (t : Fin cfg0.N)

include A in
theorem blk0 (n : Fin 512) (e : Fin 1024) : (iblk m c 0 t : S512x1024.Idx → EReal) (ix2 n e) = x0 (ix3 0 (tr t n) e) :=
  (at_ix (V m c main_v21) (((cfg0.win 0).blk t).view.emb (ix2 n e)) (tr t n) e
    (by rw [tr_val]; show win0_0.index t 0 * 512 + 1 * n.val = _; rw [(index t).1.1]; omega)
    (by show win0_0.index t 1 * 1024 + 1 * e.val = _; rw [(index t).1.2]; omega)).trans
    ((congrFun ((V_all m c).1.trans (congrArg argR A.h0)) _).trans (argR_apply _ _ _))
include A in
theorem blk1 (n : Fin 512) (j : Fin 256) : (iblk m c 1 t : S512x256.Idx → EReal) (ix2 n j) = x1 (ix3 0 (tr t n) j) :=
  (at_ix (V m c main_v22) (((cfg0.win 1).blk t).view.emb (ix2 n j)) (tr t n) j
    (by rw [tr_val]; show win0_1.index t 0 * 512 + 1 * n.val = _; rw [(index t).2.1.1]; omega)
    (by show win0_1.index t 1 * 256 + 1 * j.val = _; rw [(index t).2.1.2]; omega)).trans
    ((congrFun ((V_all m c).2.1.trans (congrArg argY A.h1)) _).trans (argY_apply _ _ _))
include A in
theorem blk2 (n : Fin 512) (j : Fin 256) : (iblk m c 2 t : S512x256.Idx → EReal) (ix2 n j) = x2 (ix3 0 (tr t n) j) :=
  (at_ix (V m c main_v23) (((cfg0.win 2).blk t).view.emb (ix2 n j)) (tr t n) j
    (by rw [tr_val]; show win0_2.index t 0 * 512 + 1 * n.val = _; rw [(index t).2.2.1.1]; omega)
    (by show win0_2.index t 1 * 256 + 1 * j.val = _; rw [(index t).2.2.1.2]; omega)).trans
    ((congrFun ((V_all m c).2.2.1.trans (congrArg argY A.h2)) _).trans (argY_apply _ _ _))
include A in
theorem blk3 (n : Fin 512) (k : Fin 8) (d : Fin 128) : (iblk m c 3 t : S512x1024.Idx → EReal) (ix2 n (cc k d)) = HeadE.pad (oX x3 (tr t n) k) d :=
  (at_ix (V m c main_v27) (((cfg0.win 3).blk t).view.emb (ix2 n (cc k d))) (tr t n) (cc k d)
    (by rw [tr_val]; show win0_3.index t 0 * 512 + 1 * n.val = _; rw [(index t).2.2.2.1.1]; omega)
    (by show win0_3.index t 1 * 1024 + 1 * (cc k d).val = _; rw [(index t).2.2.2.1.2]; omega)).trans
    ((congrFun ((V_all m c).2.2.2.1.trans (congrArg argX A.h3)) _).trans (argX_apply _ _ _ _))
include A in
theorem blk4 (k : Fin 8) (d : Fin 128) : (iblk m c 4 t : S1x1024.Idx → EReal) (ix2 0 (cc k d)) = HeadE.pad (oG x4 k) d :=
  (at_ix (V m c main_v20) (((cfg0.win 4).blk t).view.emb (ix2 0 (cc k d))) 0 (cc k d)
    (by show win0_4.index t 0 * 1 + 1 * 0 = _; rw [(index t).2.2.2.2.1.1]; rfl)
    (by show win0_4.index t 1 * 1024 + 1 * (cc k d).val = _; rw [(index t).2.2.2.2.1.2]; omega)).trans
    ((congrFun ((V_all m c).2.2.2.2.1.trans (congrArg argG A.h4)) _).trans (argG_apply _ _ _))
include A in
theorem blk5 (j : Fin 256) (e : Fin 1024) : (iblk m c 5 t : S256x1024.Idx → EReal) (ix2 j e) = x5 (ix2 (ra j) e) :=
  (at_ix (V m c main_v15) (((cfg0.win 5).blk t).view.emb (ix2 j e)) j e
    (by show win0_5.index t 0 * 256 + 1 * j.val = _; rw [(index t).2.2.2.2.2.1.1]; omega)
    (by show win0_5.index t 1 * 1024 + 1 * e.val = _; rw [(index t).2.2.2.2.2.1.2]; omega)).trans
    ((congrFun ((V_all m c).2.2.2.2.2.1.trans (congrArg argWa A.h5)) _).trans (argWa_apply _ _ _))
include A in
theorem blk6 (j : Fin 256) (e : Fin 1024) : (iblk m c 6 t : S256x1024.Idx → EReal) (ix2 j e) = x5 (ix2 (rb j) e) :=
  (at_ix (V m c main_v16) (((cfg0.win 6).blk t).view.emb (ix2 j e)) j e
    (by show win0_6.index t 0 * 256 + 1 * j.val = _; rw [(index t).2.2.2.2.2.2.1.1]; omega)
    (by show win0_6.index t 1 * 1024 + 1 * e.val = _; rw [(index t).2.2.2.2.2.2.1.2]; omega)).trans
    ((congrFun ((V_all m c).2.2.2.2.2.2.1.trans (congrArg argWb A.h5)) _).trans (argWb_apply _ _ _))
include A in
theorem blk7 (k : Fin 8) (d : Fin 128) (e : Fin 1024) : (iblk m c 7 t : S1024x1024.Idx → EReal) (ix2 (cc k d) e) = HeadE.pad (fun d => x5 (ix2 (rc k d) e)) d :=
  (at_ix (V m c main_v14) (((cfg0.win 7).blk t).view.emb (ix2 (cc k d) e)) (cc k d) e
    (by show win0_7.index t 0 * 1024 + 1 * (cc k d).val = _; rw [(index t).2.2.2.2.2.2.2.1.1]; omega)
    (by show win0_7.index t 1 * 1024 + 1 * e.val = _; rw [(index t).2.2.2.2.2.2.2.1.2]; omega)).trans
    ((congrFun ((V_all m c).2.2.2.2.2.2.2.trans (congrArg argWc A.h5)) _).trans (argWc_apply _ _ _ _))

theorem y_pt (u : Vec Ideal S512x1024 .f32) (v : Vec Ideal S1x1024 .f32) (hu : ∀ n k d, u (ix2 n (cc k d)) = HeadE.pad (oX x3 (tr t n) k) d)
    (hv : ∀ k d, v (ix2 0 (cc k d)) = HeadE.pad (oG x4 k) d) (n : Fin 512) (k : Fin 8) (d : Fin 128) :
    cat (F := Ideal) u v (ix2 n (cc k d)) = HeadE.pad (YY x3 x4 (tr t n) k) d := by
  rw [cat_apply, yH_apply]
  simp only [part_apply]
  rw [hv, show (fun d => u (ix2 n (cc k d))) = HeadE.pad (oX x3 (tr t n) k) from funext fun d => hu n k d, hu, HeadE.rs_pad, HeadE.pad_smul, HeadE.pad_mul]
  rfl

include A in
theorem arr8 : (dats m 0 c).arrAt 8 cfg0.N = G8 x0 x1 x2 x3 x4 x5 := by
  refine (dats m 0 c).arrAt_eq_of_covers 8 (G8 x0 x1 x2 x3 x4 x5) (by decide +kernel) (fun t hf y => ?_)
  show (dats m 0 c).after 8 t _ = _
  rw [after0_8, out]
  suffices H : ∀ y : S512x1024.Idx, k0_pay2 (F := Ideal) (k0_pay3 (iblk m c 0 t)) (k0_pay4 (iblk m c 1 t)) (k0_pay5 (iblk m c 2 t)) (k0_pay22 (iblk m c 5 t))
      (k0_pay23 (iblk m c 6 t)) (k0_pay24 (iblk m c 7 t)) (cat (iblk m c 3 t) (iblk m c 4 t)) y = (G8 x0 x1 x2 x3 x4 x5) (((cfg0.win 8).blk t).view.emb y) from H y
  intro y
  obtain ⟨n, e, rfl⟩ : ∃ n e, y = ix2 n e := ⟨y 0, y 1, (ix2_eta y).symm⟩
  refine Eq.trans ?_ (at_ix (G8 x0 x1 x2 x3 x4 x5) _ (tr t n) e ?_ ?_).symm
  · refine (pay2_apply _ _ _ _ _ _ _ n e).trans (congrArg₂ (· + ·) (congrArg₂ (· + ·) (congrArg₂ (· + ·) (blk0 A t n e)
      (Finset.sum_congr rfl fun j _ => congrArg₂ (· * ·) (blk1 A t n j) (blk5 A t j e)))
      (Finset.sum_congr rfl fun j _ => congrArg₂ (· * ·) (blk2 A t n j) (blk6 A t j e))) ((sum_cc _).trans (Finset.sum_congr rfl fun k _ => ?_)))
    exact (Finset.sum_congr rfl fun d _ => congrArg₂ (· * ·) (y_pt t _ _ (blk3 A t) (blk4 A t) n k d) (blk7 A t k d e)).trans (HeadE.sum_pad _ _)
  · rw [tr_val]; show win0_8.index t 0 * 512 + 1 * n.val = _; rw [(index t).2.2.2.2.2.2.2.2.1]; omega
  · show win0_8.index t 1 * 1024 + 1 * e.val = _; rw [(index t).2.2.2.2.2.2.2.2.2]; omega
end Arrays

section Reference
open Cert.OutprojFwdRefIdeal Cert.OutprojFwdRefIdeal.Gen Cert.OutprojFwdRefIdeal.Read
variable (x0 : FVec Ideal S1x2048x1024 .f32) (x1 x2 : FVec Ideal S1x2048x256 .f32) (x3 : FVec Ideal S1x2048x512 .f32) (x4 : FVec Ideal S512 .f32)
  (x5 : FVec Ideal S1024x1024 .f32)

theorem mix_eq : val_main_v16 (F := Ideal) x1 x2 x3 x4 = Cert.OutprojRefIdeal.Read.val_main_v19 (F := Ideal) x1 x2 x3 x4 := rfl
theorem res8 : val_main_v19 (F := Ideal) x0 x1 x2 x3 x4 x5 = G8 x0 x1 x2 x3 x4 x5 := by
  funext y
  obtain ⟨n, e, rfl⟩ : ∃ n e, y = ix2 n e := ⟨y 0, y 1, (ix2_eta y).symm⟩
  have h : val_main_v19 (F := Ideal) x0 x1 x2 x3 x4 x5 (ix2 n e) = x0 (ix3 0 n e) + ∑ j : Fin 1024, val_main_v16 (F := Ideal) x1 x2 x3 x4 (ix3 0 n j) * x5 (ix2 j e) := by
    unfold val_main_v19 val_main_v18 val_main_v17
    generalize val_main_v16 (F := Ideal) x1 x2 x3 x4 = a
    pointwise
  rw [h, mix_eq, sum_split, ← add_assoc, ← add_assoc]
  simp only [r19a, r19b, r19c]
  rfl
end Reference

theorem frame_ref : Cert.quiescent_OutprojFwdRefIdeal := fun m ρ _ =>
  (θ_run Cert.OutprojFwdRefIdeal.defs _ _).mono (fun r h => ⟨fun c => (h c).2, sem_eq_zero_of_no_sems (by decide) r.2⟩)
    (Cert.OutprojFwdRefIdeal.Value.run (F := Ideal) m ρ)

theorem algebraic : Cert.algebraic_OutprojFwdIdeal_OutprojFwdRefIdeal := by
  intro m g m' g' _ hagree
  refine ⟨fun c => (dats m 0 c).arrAt 8 cfg0.N, ?_, ?_⟩
  · exact Cert.OutprojFwdIdeal.Value.run_blocks (F := Ideal) m g
  · refine (θ_run Cert.OutprojFwdRefIdeal.defs _ _).mono (fun _ h c => ?_) (Cert.OutprojFwdRefIdeal.Value.run (F := Ideal) m' g')
    obtain ⟨a0, a1, a2, a3, a4, a5⟩ := hagree c
    have A : Args m c _ _ _ _ _ _ := ⟨a0.symm, a1.symm, a2.symm, a3.symm, a4.symm, a5.symm⟩
    have hc := h c
    clear h
    rw [Cert.OutprojFwdRefIdeal.Read.val_main_v19_eq] at hc
    exact ⟨hc.1.trans ((res8 ..).trans (arr8 A).symm), hc.2⟩

end Cert.OutprojFwdIdeal.Hand
end
-- ==== Proof.lean ====
module

public import proofs.«01_k».proof.Defs
public import proofs.«01_k».proof.Proof.Gen.Loss
public import proofs.«01_k».proof.Proof.Gen.Loss.Frame
public import proofs.«01_k».proof.Proof.Loss
public import proofs.«01_k».proof.Proof.AttnClaim
public import proofs.«01_k».proof.Proof.FfnClaim
public import proofs.«01_k».proof.Proof.GmClaim
public import proofs.«01_k».proof.Proof.InprojClaim
public import proofs.«01_k».proof.Proof.InprojFwdClaim
public import proofs.«01_k».proof.Proof.LbClaim
public import proofs.«01_k».proof.Proof.OutprojClaim
public import proofs.«01_k».proof.Proof.OutprojFwdClaim
public import Idealize.ShloMosaic.Lib.Quiescent
public import Idealize.ShloMosaic.Adequacy
public import Idealize.ShloMosaic.Init

@[expose] public section

noncomputable section

namespace Cert.Proof

open Idealize.ShloMosaic Idealize.SL.Sem

theorem frame_lossRef : Cert.quiescent_LossRefIdeal := fun m ρ _ =>
  (θ_run Cert.LossRefIdeal.defs _ _).mono (fun r h => ⟨fun c => (h c).2.2, sem_eq_zero_of_no_sems (by decide) r.2⟩)
    (Cert.LossRefIdeal.Value.run (F := Ideal) m ρ)

theorem claim : Cert.Claim :=
  ⟨Cert.Loss.Gen.facts, Cert.LossIdeal.Gen.facts, Cert.LossRefIdeal.Gen.facts,
    Cert.Lb.Gen.facts, Cert.LbIdeal.Gen.facts, Cert.LbRefIdeal.Gen.facts,
    Cert.Attn.Gen.facts, Cert.AttnIdeal.Gen.facts, Cert.AttnRefIdeal.Gen.facts,
    Cert.Ffn.Gen.facts, Cert.FfnIdeal.Gen.facts, Cert.FfnRefIdeal.Gen.facts,
    Cert.Inproj.Gen.facts, Cert.InprojIdeal.Gen.facts, Cert.InprojRefIdeal.Gen.facts,
    Cert.Outproj.Gen.facts, Cert.OutprojIdeal.Gen.facts, Cert.OutprojRefIdeal.Gen.facts,
    Cert.Gm.Gen.facts, Cert.GmIdeal.Gen.facts, Cert.GmRefIdeal.Gen.facts,
    Cert.InprojFwd.Gen.facts, Cert.InprojFwdIdeal.Gen.facts, Cert.InprojFwdRefIdeal.Gen.facts,
    Cert.OutprojFwd.Gen.facts, Cert.OutprojFwdIdeal.Gen.facts, Cert.OutprojFwdRefIdeal.Gen.facts,
    Cert.Pre_lb_finite.Gen.facts, Cert.Pre_attn_finite.Gen.facts, Cert.Pre_ffn_finite.Gen.facts, Cert.Pre_gm_finite.Gen.facts,
    fun m ρ _ => Cert.Loss.Gen.frame m ρ, fun m ρ _ => Cert.LossIdeal.Gen.frame m ρ, frame_lossRef,
    fun m ρ _ => Cert.Lb.Gen.frame m ρ, fun m ρ _ => Cert.LbIdeal.Gen.frame m ρ, fun m ρ _ => Cert.LbIdeal.Gen.frame m ρ,
    Cert.LbIdeal.Hand.frame_ref, fun m ρ _ => Cert.LbIdeal.Hand.frame_ref m ρ trivial,
    Cert.AttnIdeal.Hand.frame_attn, fun m ρ _ => Cert.AttnIdeal.Hand.frame m ρ, fun m ρ _ => Cert.AttnIdeal.Hand.frame m ρ,
    Cert.AttnIdeal.Hand.frame_ref, fun m ρ _ => Cert.AttnIdeal.Hand.frame_ref m ρ trivial,
    fun m ρ _ => Cert.Ffn.Gen.frame m ρ, fun m ρ _ => Cert.FfnIdeal.Gen.frame m ρ, fun m ρ _ => Cert.FfnIdeal.Gen.frame m ρ,
    Cert.FfnIdeal.Hand.frame_ref, fun m ρ _ => Cert.FfnIdeal.Hand.frame_ref m ρ trivial,
    fun m ρ _ => Cert.Inproj.Gen.frame m ρ, fun m ρ _ => Cert.InprojIdeal.Gen.frame m ρ, Cert.InprojIdeal.Hand.frame_ref,
    fun m ρ _ => Cert.Outproj.Gen.frame m ρ, fun m ρ _ => Cert.OutprojIdeal.Gen.frame m ρ, Cert.OutprojIdeal.Hand.frame_ref,
    fun m ρ _ => Cert.Gm.Gen.frame m ρ, fun m ρ _ => Cert.GmIdeal.Gen.frame m ρ, fun m ρ _ => Cert.GmIdeal.Gen.frame m ρ,
    Cert.GmIdeal.Hand.frame_ref, fun m ρ _ => Cert.GmIdeal.Hand.frame_ref m ρ trivial,
    fun m ρ _ => Cert.InprojFwd.Gen.frame m ρ, fun m ρ _ => Cert.InprojFwdIdeal.Gen.frame m ρ, Cert.InprojFwdIdeal.Hand.frame_ref,
    fun m ρ _ => Cert.OutprojFwd.Gen.frame m ρ, fun m ρ _ => Cert.OutprojFwdIdeal.Gen.frame m ρ, Cert.OutprojFwdIdeal.Hand.frame_ref,
    trivial, Cert.LossProof.algebraic,
    trivial, Cert.LbIdeal.Hand.algebraic,
    Cert.AttnIdeal.Hand.preserves, Cert.AttnIdeal.Hand.algebraic,
    trivial, Cert.FfnIdeal.Hand.algebraic,
    trivial, Cert.InprojIdeal.Hand.algebraic,
    trivial, Cert.OutprojIdeal.Hand.algebraic,
    trivial, Cert.GmIdeal.Hand.algebraic,
    trivial, Cert.InprojFwdIdeal.Hand.algebraic,
    trivial, Cert.OutprojFwdIdeal.Hand.algebraic⟩

end Cert.Proof

end
